-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Dequant (m : (ℓ : Loc Cert.Dequant.nD Cert.Dequant.τ Cert.Dequant.sig) → Buf (Elt Bits) ℓ) : Prop :=
  True

def Pre_DequantIdeal (m : (ℓ : Loc Cert.DequantIdeal.nD Cert.DequantIdeal.τ Cert.DequantIdeal.sig) → Buf (Elt Ideal) ℓ) : Prop :=
  True

def Pre_DequantiseIdeal (m : (ℓ : Loc Cert.DequantiseIdeal.nD Cert.DequantiseIdeal.τ Cert.DequantiseIdeal.sig) → Buf (Elt Ideal) ℓ) : Prop :=
  True

def Pre_DequantDown (m : (ℓ : Loc Cert.DequantDown.nD Cert.DequantDown.τ Cert.DequantDown.sig) → Buf (Elt Bits) ℓ) : Prop :=
  True

def Pre_DequantDownIdeal (m : (ℓ : Loc Cert.DequantDownIdeal.nD Cert.DequantDownIdeal.τ Cert.DequantDownIdeal.sig) → Buf (Elt Ideal) ℓ) : Prop :=
  True

def Pre_DequantiseDownIdeal (m : (ℓ : Loc Cert.DequantiseDownIdeal.nD Cert.DequantiseDownIdeal.τ Cert.DequantiseDownIdeal.sig) → Buf (Elt Ideal) ℓ) : Prop :=
  True

def Pre_Absmax (m : (ℓ : Loc Cert.Absmax.nD Cert.Absmax.τ Cert.Absmax.sig) → Buf (Elt Bits) ℓ) : Prop :=
  True

def Pre_AbsmaxIdeal (m : (ℓ : Loc Cert.AbsmaxIdeal.nD Cert.AbsmaxIdeal.τ Cert.AbsmaxIdeal.sig) → Buf (Elt Ideal) ℓ) : Prop :=
  True

def Pre_BlockScalesIdeal (m : (ℓ : Loc Cert.BlockScalesIdeal.nD Cert.BlockScalesIdeal.τ Cert.BlockScalesIdeal.sig) → Buf (Elt Ideal) ℓ) : Prop :=
  True

def Pre_AbsmaxDown (m : (ℓ : Loc Cert.AbsmaxDown.nD Cert.AbsmaxDown.τ Cert.AbsmaxDown.sig) → Buf (Elt Bits) ℓ) : Prop :=
  True

def Pre_AbsmaxDownIdeal (m : (ℓ : Loc Cert.AbsmaxDownIdeal.nD Cert.AbsmaxDownIdeal.τ Cert.AbsmaxDownIdeal.sig) → Buf (Elt Ideal) ℓ) : Prop :=
  True

def Pre_BlockScalesDownIdeal (m : (ℓ : Loc Cert.BlockScalesDownIdeal.nD Cert.BlockScalesDownIdeal.τ Cert.BlockScalesDownIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Dequant [hDequant : Cert.Dequant.Facts] : Prop :=
  ∀ (m : (ℓ : Loc Cert.Dequant.nD Cert.Dequant.τ Cert.Dequant.sig) → Buf (Elt Bits) ℓ) (g : Dev Cert.Dequant.nD → PrngReg), Pre_Dequant m →
    θ_run (Cert.Dequant.defs (F := Bits)) (onTc (τ := Cert.Dequant.τ) (Cert.Dequant.main (F := Bits))) ⟨m, fun _ => 0, g⟩ (fun r => (∀ c : Dev Cert.Dequant.nD,
      r.2.mem ((c.tc : Thread Cert.Dequant.nD Cert.Dequant.τ).loc Cert.Dequant.main_arg0) = m ((c.tc : Thread Cert.Dequant.nD Cert.Dequant.τ).loc Cert.Dequant.main_arg0)
      ∧ r.2.mem ((c.tc : Thread Cert.Dequant.nD Cert.Dequant.τ).loc Cert.Dequant.main_arg1) = m ((c.tc : Thread Cert.Dequant.nD Cert.Dequant.τ).loc Cert.Dequant.main_arg1))
      ∧ r.2.sem = fun _ => 0)

def quiescent_DequantIdeal [hDequantIdeal : Cert.DequantIdeal.Facts] : Prop :=
  ∀ (m : (ℓ : Loc Cert.DequantIdeal.nD Cert.DequantIdeal.τ Cert.DequantIdeal.sig) → Buf (Elt Ideal) ℓ) (g : Dev Cert.DequantIdeal.nD → PrngReg), Pre_DequantIdeal m →
    θ_run (Cert.DequantIdeal.defs (F := Ideal)) (onTc (τ := Cert.DequantIdeal.τ) (Cert.DequantIdeal.main (F := Ideal))) ⟨m, fun _ => 0, g⟩ (fun r => (∀ c : Dev Cert.DequantIdeal.nD,
      r.2.mem ((c.tc : Thread Cert.DequantIdeal.nD Cert.DequantIdeal.τ).loc Cert.DequantIdeal.main_arg0) = m ((c.tc : Thread Cert.DequantIdeal.nD Cert.DequantIdeal.τ).loc Cert.DequantIdeal.main_arg0)
      ∧ r.2.mem ((c.tc : Thread Cert.DequantIdeal.nD Cert.DequantIdeal.τ).loc Cert.DequantIdeal.main_arg1) = m ((c.tc : Thread Cert.DequantIdeal.nD Cert.DequantIdeal.τ).loc Cert.DequantIdeal.main_arg1))
      ∧ r.2.sem = fun _ => 0)

def quiescent_DequantiseIdeal [hDequantiseIdeal : Cert.DequantiseIdeal.Facts] : Prop :=
  ∀ (m : (ℓ : Loc Cert.DequantiseIdeal.nD Cert.DequantiseIdeal.τ Cert.DequantiseIdeal.sig) → Buf (Elt Ideal) ℓ) (g : Dev Cert.DequantiseIdeal.nD → PrngReg), Pre_DequantiseIdeal m →
    θ_run (Cert.DequantiseIdeal.defs (F := Ideal)) (onTc (τ := Cert.DequantiseIdeal.τ) (Cert.DequantiseIdeal.main (F := Ideal))) ⟨m, fun _ => 0, g⟩ (fun r => (∀ c : Dev Cert.DequantiseIdeal.nD,
      r.2.mem ((c.tc : Thread Cert.DequantiseIdeal.nD Cert.DequantiseIdeal.τ).loc Cert.DequantiseIdeal.main_arg0) = m ((c.tc : Thread Cert.DequantiseIdeal.nD Cert.DequantiseIdeal.τ).loc Cert.DequantiseIdeal.main_arg0)
      ∧ r.2.mem ((c.tc : Thread Cert.DequantiseIdeal.nD Cert.DequantiseIdeal.τ).loc Cert.DequantiseIdeal.main_arg1) = m ((c.tc : Thread Cert.DequantiseIdeal.nD Cert.DequantiseIdeal.τ).loc Cert.DequantiseIdeal.main_arg1))
      ∧ r.2.sem = fun _ => 0)

def quiescent_DequantDown [hDequantDown : Cert.DequantDown.Facts] : Prop :=
  ∀ (m : (ℓ : Loc Cert.DequantDown.nD Cert.DequantDown.τ Cert.DequantDown.sig) → Buf (Elt Bits) ℓ) (g : Dev Cert.DequantDown.nD → PrngReg), Pre_DequantDown m →
    θ_run (Cert.DequantDown.defs (F := Bits)) (onTc (τ := Cert.DequantDown.τ) (Cert.DequantDown.main (F := Bits))) ⟨m, fun _ => 0, g⟩ (fun r => (∀ c : Dev Cert.DequantDown.nD,
      r.2.mem ((c.tc : Thread Cert.DequantDown.nD Cert.DequantDown.τ).loc Cert.DequantDown.main_arg0) = m ((c.tc : Thread Cert.DequantDown.nD Cert.DequantDown.τ).loc Cert.DequantDown.main_arg0)
      ∧ r.2.mem ((c.tc : Thread Cert.DequantDown.nD Cert.DequantDown.τ).loc Cert.DequantDown.main_arg1) = m ((c.tc : Thread Cert.DequantDown.nD Cert.DequantDown.τ).loc Cert.DequantDown.main_arg1))
      ∧ r.2.sem = fun _ => 0)

def quiescent_DequantDownIdeal [hDequantDownIdeal : Cert.DequantDownIdeal.Facts] : Prop :=
  ∀ (m : (ℓ : Loc Cert.DequantDownIdeal.nD Cert.DequantDownIdeal.τ Cert.DequantDownIdeal.sig) → Buf (Elt Ideal) ℓ) (g : Dev Cert.DequantDownIdeal.nD → PrngReg), Pre_DequantDownIdeal m →
    θ_run (Cert.DequantDownIdeal.defs (F := Ideal)) (onTc (τ := Cert.DequantDownIdeal.τ) (Cert.DequantDownIdeal.main (F := Ideal))) ⟨m, fun _ => 0, g⟩ (fun r => (∀ c : Dev Cert.DequantDownIdeal.nD,
      r.2.mem ((c.tc : Thread Cert.DequantDownIdeal.nD Cert.DequantDownIdeal.τ).loc Cert.DequantDownIdeal.main_arg0) = m ((c.tc : Thread Cert.DequantDownIdeal.nD Cert.DequantDownIdeal.τ).loc Cert.DequantDownIdeal.main_arg0)
      ∧ r.2.mem ((c.tc : Thread Cert.DequantDownIdeal.nD Cert.DequantDownIdeal.τ).loc Cert.DequantDownIdeal.main_arg1) = m ((c.tc : Thread Cert.DequantDownIdeal.nD Cert.DequantDownIdeal.τ).loc Cert.DequantDownIdeal.main_arg1))
      ∧ r.2.sem = fun _ => 0)

def quiescent_DequantiseDownIdeal [hDequantiseDownIdeal : Cert.DequantiseDownIdeal.Facts] : Prop :=
  ∀ (m : (ℓ : Loc Cert.DequantiseDownIdeal.nD Cert.DequantiseDownIdeal.τ Cert.DequantiseDownIdeal.sig) → Buf (Elt Ideal) ℓ) (g : Dev Cert.DequantiseDownIdeal.nD → PrngReg), Pre_DequantiseDownIdeal m →
    θ_run (Cert.DequantiseDownIdeal.defs (F := Ideal)) (onTc (τ := Cert.DequantiseDownIdeal.τ) (Cert.DequantiseDownIdeal.main (F := Ideal))) ⟨m, fun _ => 0, g⟩ (fun r => (∀ c : Dev Cert.DequantiseDownIdeal.nD,
      r.2.mem ((c.tc : Thread Cert.DequantiseDownIdeal.nD Cert.DequantiseDownIdeal.τ).loc Cert.DequantiseDownIdeal.main_arg0) = m ((c.tc : Thread Cert.DequantiseDownIdeal.nD Cert.DequantiseDownIdeal.τ).loc Cert.DequantiseDownIdeal.main_arg0)
      ∧ r.2.mem ((c.tc : Thread Cert.DequantiseDownIdeal.nD Cert.DequantiseDownIdeal.τ).loc Cert.DequantiseDownIdeal.main_arg1) = m ((c.tc : Thread Cert.DequantiseDownIdeal.nD Cert.DequantiseDownIdeal.τ).loc Cert.DequantiseDownIdeal.main_arg1))
      ∧ r.2.sem = fun _ => 0)

def quiescent_Absmax [hAbsmax : Cert.Absmax.Facts] : Prop :=
  ∀ (m : (ℓ : Loc Cert.Absmax.nD Cert.Absmax.τ Cert.Absmax.sig) → Buf (Elt Bits) ℓ) (g : Dev Cert.Absmax.nD → PrngReg), Pre_Absmax m →
    θ_run (Cert.Absmax.defs (F := Bits)) (onTc (τ := Cert.Absmax.τ) (Cert.Absmax.main (F := Bits))) ⟨m, fun _ => 0, g⟩ (fun r => (∀ c : Dev Cert.Absmax.nD,
      r.2.mem ((c.tc : Thread Cert.Absmax.nD Cert.Absmax.τ).loc Cert.Absmax.main_arg0) = m ((c.tc : Thread Cert.Absmax.nD Cert.Absmax.τ).loc Cert.Absmax.main_arg0)
      ∧ r.2.mem ((c.tc : Thread Cert.Absmax.nD Cert.Absmax.τ).loc Cert.Absmax.main_arg1) = m ((c.tc : Thread Cert.Absmax.nD Cert.Absmax.τ).loc Cert.Absmax.main_arg1)
      ∧ r.2.mem ((c.tc : Thread Cert.Absmax.nD Cert.Absmax.τ).loc Cert.Absmax.main_arg2) = m ((c.tc : Thread Cert.Absmax.nD Cert.Absmax.τ).loc Cert.Absmax.main_arg2))
      ∧ r.2.sem = fun _ => 0)

def quiescent_AbsmaxIdeal [hAbsmaxIdeal : Cert.AbsmaxIdeal.Facts] : Prop :=
  ∀ (m : (ℓ : Loc Cert.AbsmaxIdeal.nD Cert.AbsmaxIdeal.τ Cert.AbsmaxIdeal.sig) → Buf (Elt Ideal) ℓ) (g : Dev Cert.AbsmaxIdeal.nD → PrngReg), Pre_AbsmaxIdeal m →
    θ_run (Cert.AbsmaxIdeal.defs (F := Ideal)) (onTc (τ := Cert.AbsmaxIdeal.τ) (Cert.AbsmaxIdeal.main (F := Ideal))) ⟨m, fun _ => 0, g⟩ (fun r => (∀ c : Dev Cert.AbsmaxIdeal.nD,
      r.2.mem ((c.tc : Thread Cert.AbsmaxIdeal.nD Cert.AbsmaxIdeal.τ).loc Cert.AbsmaxIdeal.main_arg0) = m ((c.tc : Thread Cert.AbsmaxIdeal.nD Cert.AbsmaxIdeal.τ).loc Cert.AbsmaxIdeal.main_arg0)
      ∧ r.2.mem ((c.tc : Thread Cert.AbsmaxIdeal.nD Cert.AbsmaxIdeal.τ).loc Cert.AbsmaxIdeal.main_arg1) = m ((c.tc : Thread Cert.AbsmaxIdeal.nD Cert.AbsmaxIdeal.τ).loc Cert.AbsmaxIdeal.main_arg1)
      ∧ r.2.mem ((c.tc : Thread Cert.AbsmaxIdeal.nD Cert.AbsmaxIdeal.τ).loc Cert.AbsmaxIdeal.main_arg2) = m ((c.tc : Thread Cert.AbsmaxIdeal.nD Cert.AbsmaxIdeal.τ).loc Cert.AbsmaxIdeal.main_arg2))
      ∧ r.2.sem = fun _ => 0)

def quiescent_BlockScalesIdeal [hBlockScalesIdeal : Cert.BlockScalesIdeal.Facts] : Prop :=
  ∀ (m : (ℓ : Loc Cert.BlockScalesIdeal.nD Cert.BlockScalesIdeal.τ Cert.BlockScalesIdeal.sig) → Buf (Elt Ideal) ℓ) (g : Dev Cert.BlockScalesIdeal.nD → PrngReg), Pre_BlockScalesIdeal m →
    θ_run (Cert.BlockScalesIdeal.defs (F := Ideal)) (onTc (τ := Cert.BlockScalesIdeal.τ) (Cert.BlockScalesIdeal.main (F := Ideal))) ⟨m, fun _ => 0, g⟩ (fun r => (∀ c : Dev Cert.BlockScalesIdeal.nD,
      r.2.mem ((c.tc : Thread Cert.BlockScalesIdeal.nD Cert.BlockScalesIdeal.τ).loc Cert.BlockScalesIdeal.main_arg0) = m ((c.tc : Thread Cert.BlockScalesIdeal.nD Cert.BlockScalesIdeal.τ).loc Cert.BlockScalesIdeal.main_arg0)
      ∧ r.2.mem ((c.tc : Thread Cert.BlockScalesIdeal.nD Cert.BlockScalesIdeal.τ).loc Cert.BlockScalesIdeal.main_arg1) = m ((c.tc : Thread Cert.BlockScalesIdeal.nD Cert.BlockScalesIdeal.τ).loc Cert.BlockScalesIdeal.main_arg1)
      ∧ r.2.mem ((c.tc : Thread Cert.BlockScalesIdeal.nD Cert.BlockScalesIdeal.τ).loc Cert.BlockScalesIdeal.main_arg2) = m ((c.tc : Thread Cert.BlockScalesIdeal.nD Cert.BlockScalesIdeal.τ).loc Cert.BlockScalesIdeal.main_arg2))
      ∧ r.2.sem = fun _ => 0)

def quiescent_AbsmaxDown [hAbsmaxDown : Cert.AbsmaxDown.Facts] : Prop :=
  ∀ (m : (ℓ : Loc Cert.AbsmaxDown.nD Cert.AbsmaxDown.τ Cert.AbsmaxDown.sig) → Buf (Elt Bits) ℓ) (g : Dev Cert.AbsmaxDown.nD → PrngReg), Pre_AbsmaxDown m →
    θ_run (Cert.AbsmaxDown.defs (F := Bits)) (onTc (τ := Cert.AbsmaxDown.τ) (Cert.AbsmaxDown.main (F := Bits))) ⟨m, fun _ => 0, g⟩ (fun r => (∀ c : Dev Cert.AbsmaxDown.nD,
      r.2.mem ((c.tc : Thread Cert.AbsmaxDown.nD Cert.AbsmaxDown.τ).loc Cert.AbsmaxDown.main_arg0) = m ((c.tc : Thread Cert.AbsmaxDown.nD Cert.AbsmaxDown.τ).loc Cert.AbsmaxDown.main_arg0)
      ∧ r.2.mem ((c.tc : Thread Cert.AbsmaxDown.nD Cert.AbsmaxDown.τ).loc Cert.AbsmaxDown.main_arg1) = m ((c.tc : Thread Cert.AbsmaxDown.nD Cert.AbsmaxDown.τ).loc Cert.AbsmaxDown.main_arg1)
      ∧ r.2.mem ((c.tc : Thread Cert.AbsmaxDown.nD Cert.AbsmaxDown.τ).loc Cert.AbsmaxDown.main_arg2) = m ((c.tc : Thread Cert.AbsmaxDown.nD Cert.AbsmaxDown.τ).loc Cert.AbsmaxDown.main_arg2))
      ∧ r.2.sem = fun _ => 0)

def quiescent_AbsmaxDownIdeal [hAbsmaxDownIdeal : Cert.AbsmaxDownIdeal.Facts] : Prop :=
  ∀ (m : (ℓ : Loc Cert.AbsmaxDownIdeal.nD Cert.AbsmaxDownIdeal.τ Cert.AbsmaxDownIdeal.sig) → Buf (Elt Ideal) ℓ) (g : Dev Cert.AbsmaxDownIdeal.nD → PrngReg), Pre_AbsmaxDownIdeal m →
    θ_run (Cert.AbsmaxDownIdeal.defs (F := Ideal)) (onTc (τ := Cert.AbsmaxDownIdeal.τ) (Cert.AbsmaxDownIdeal.main (F := Ideal))) ⟨m, fun _ => 0, g⟩ (fun r => (∀ c : Dev Cert.AbsmaxDownIdeal.nD,
      r.2.mem ((c.tc : Thread Cert.AbsmaxDownIdeal.nD Cert.AbsmaxDownIdeal.τ).loc Cert.AbsmaxDownIdeal.main_arg0) = m ((c.tc : Thread Cert.AbsmaxDownIdeal.nD Cert.AbsmaxDownIdeal.τ).loc Cert.AbsmaxDownIdeal.main_arg0)
      ∧ r.2.mem ((c.tc : Thread Cert.AbsmaxDownIdeal.nD Cert.AbsmaxDownIdeal.τ).loc Cert.AbsmaxDownIdeal.main_arg1) = m ((c.tc : Thread Cert.AbsmaxDownIdeal.nD Cert.AbsmaxDownIdeal.τ).loc Cert.AbsmaxDownIdeal.main_arg1)
      ∧ r.2.mem ((c.tc : Thread Cert.AbsmaxDownIdeal.nD Cert.AbsmaxDownIdeal.τ).loc Cert.AbsmaxDownIdeal.main_arg2) = m ((c.tc : Thread Cert.AbsmaxDownIdeal.nD Cert.AbsmaxDownIdeal.τ).loc Cert.AbsmaxDownIdeal.main_arg2))
      ∧ r.2.sem = fun _ => 0)

def quiescent_BlockScalesDownIdeal [hBlockScalesDownIdeal : Cert.BlockScalesDownIdeal.Facts] : Prop :=
  ∀ (m : (ℓ : Loc Cert.BlockScalesDownIdeal.nD Cert.BlockScalesDownIdeal.τ Cert.BlockScalesDownIdeal.sig) → Buf (Elt Ideal) ℓ) (g : Dev Cert.BlockScalesDownIdeal.nD → PrngReg), Pre_BlockScalesDownIdeal m →
    θ_run (Cert.BlockScalesDownIdeal.defs (F := Ideal)) (onTc (τ := Cert.BlockScalesDownIdeal.τ) (Cert.BlockScalesDownIdeal.main (F := Ideal))) ⟨m, fun _ => 0, g⟩ (fun r => (∀ c : Dev Cert.BlockScalesDownIdeal.nD,
      r.2.mem ((c.tc : Thread Cert.BlockScalesDownIdeal.nD Cert.BlockScalesDownIdeal.τ).loc Cert.BlockScalesDownIdeal.main_arg0) = m ((c.tc : Thread Cert.BlockScalesDownIdeal.nD Cert.BlockScalesDownIdeal.τ).loc Cert.BlockScalesDownIdeal.main_arg0)
      ∧ r.2.mem ((c.tc : Thread Cert.BlockScalesDownIdeal.nD Cert.BlockScalesDownIdeal.τ).loc Cert.BlockScalesDownIdeal.main_arg1) = m ((c.tc : Thread Cert.BlockScalesDownIdeal.nD Cert.BlockScalesDownIdeal.τ).loc Cert.BlockScalesDownIdeal.main_arg1)
      ∧ r.2.mem ((c.tc : Thread Cert.BlockScalesDownIdeal.nD Cert.BlockScalesDownIdeal.τ).loc Cert.BlockScalesDownIdeal.main_arg2) = m ((c.tc : Thread Cert.BlockScalesDownIdeal.nD Cert.BlockScalesDownIdeal.τ).loc Cert.BlockScalesDownIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v30)) (v2 : (c : Dev Cert.KernelIdeal.nD) → Buf (Elt Ideal) ((c.tc : Thread Cert.KernelIdeal.nD Cert.KernelIdeal.τ).loc Cert.KernelIdeal.main_v31)) (v3 : (c : Dev Cert.KernelIdeal.nD) → Buf (Elt Ideal) ((c.tc : Thread Cert.KernelIdeal.nD Cert.KernelIdeal.τ).loc Cert.KernelIdeal.main_v32)) (v4 : (c : Dev Cert.KernelIdeal.nD) → Buf (Elt Ideal) ((c.tc : Thread Cert.KernelIdeal.nD Cert.KernelIdeal.τ).loc Cert.KernelIdeal.main_v33)) (v5 : (c : Dev Cert.KernelIdeal.nD) → Buf (Elt Ideal) ((c.tc : Thread Cert.KernelIdeal.nD Cert.KernelIdeal.τ).loc Cert.KernelIdeal.main_v34)) (v6 : (c : Dev Cert.KernelIdeal.nD) → Buf (Elt Ideal) ((c.tc : Thread Cert.KernelIdeal.nD Cert.KernelIdeal.τ).loc Cert.KernelIdeal.main_v35)) (v7 : (c : Dev Cert.KernelIdeal.nD) → Buf (Elt Ideal) ((c.tc : Thread Cert.KernelIdeal.nD Cert.KernelIdeal.τ).loc Cert.KernelIdeal.main_v36)) (v8 : (c : Dev Cert.KernelIdeal.nD) → Buf (Elt Ideal) ((c.tc : Thread Cert.KernelIdeal.nD Cert.KernelIdeal.τ).loc Cert.KernelIdeal.main_v18_5)) (v9 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_v31) = v2 c
          ∧ r.2.mem ((c.tc : Thread Cert.KernelIdeal.nD Cert.KernelIdeal.τ).loc Cert.KernelIdeal.main_v32) = v3 c
          ∧ r.2.mem ((c.tc : Thread Cert.KernelIdeal.nD Cert.KernelIdeal.τ).loc Cert.KernelIdeal.main_v33) = v4 c
          ∧ r.2.mem ((c.tc : Thread Cert.KernelIdeal.nD Cert.KernelIdeal.τ).loc Cert.KernelIdeal.main_v34) = v5 c
          ∧ r.2.mem ((c.tc : Thread Cert.KernelIdeal.nD Cert.KernelIdeal.τ).loc Cert.KernelIdeal.main_v35) = v6 c
          ∧ r.2.mem ((c.tc : Thread Cert.KernelIdeal.nD Cert.KernelIdeal.τ).loc Cert.KernelIdeal.main_v36) = v7 c
          ∧ r.2.mem ((c.tc : Thread Cert.KernelIdeal.nD Cert.KernelIdeal.τ).loc Cert.KernelIdeal.main_v18_5) = v8 c
          ∧ r.2.mem ((c.tc : Thread Cert.KernelIdeal.nD Cert.KernelIdeal.τ).loc Cert.KernelIdeal.main_v37) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v115) = v1 c
          ∧ r.2.mem ((c.tc : Thread Cert.ReferenceIdeal.nD Cert.ReferenceIdeal.τ).loc Cert.ReferenceIdeal.main_v106) = v2 c
          ∧ r.2.mem ((c.tc : Thread Cert.ReferenceIdeal.nD Cert.ReferenceIdeal.τ).loc Cert.ReferenceIdeal.main_v42) = v3 c
          ∧ r.2.mem ((c.tc : Thread Cert.ReferenceIdeal.nD Cert.ReferenceIdeal.τ).loc Cert.ReferenceIdeal.main_v82) = v4 c
          ∧ r.2.mem ((c.tc : Thread Cert.ReferenceIdeal.nD Cert.ReferenceIdeal.τ).loc Cert.ReferenceIdeal.main_v77) = v5 c
          ∧ r.2.mem ((c.tc : Thread Cert.ReferenceIdeal.nD Cert.ReferenceIdeal.τ).loc Cert.ReferenceIdeal.main_v90) = v6 c
          ∧ r.2.mem ((c.tc : Thread Cert.ReferenceIdeal.nD Cert.ReferenceIdeal.τ).loc Cert.ReferenceIdeal.main_v85) = v7 c
          ∧ r.2.mem ((c.tc : Thread Cert.ReferenceIdeal.nD Cert.ReferenceIdeal.τ).loc Cert.ReferenceIdeal.main_v59) = v8 c
          ∧ r.2.mem ((c.tc : Thread Cert.ReferenceIdeal.nD Cert.ReferenceIdeal.τ).loc Cert.ReferenceIdeal.main_v54) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Dequant_DequantIdeal : Prop :=
  IdealRules.bf16_pair.PackStatement Cert.DequantIdeal.S256x512
  ∧ IdealRules.bf16_pair.Statement Cert.DequantIdeal.S512x512 Cert.DequantIdeal.S256x512

def algebraic_DequantIdeal_DequantiseIdeal [hDequantIdeal : Cert.DequantIdeal.Facts] [hDequantiseIdeal : Cert.DequantiseIdeal.Facts] : Prop :=
  ∀ (m : (ℓ : Loc Cert.DequantIdeal.nD Cert.DequantIdeal.τ Cert.DequantIdeal.sig) → Buf (Elt Ideal) ℓ) (g : Dev Cert.DequantIdeal.nD → PrngReg)
    (m' : (ℓ : Loc Cert.DequantiseIdeal.nD Cert.DequantiseIdeal.τ Cert.DequantiseIdeal.sig) → Buf (Elt Ideal) ℓ) (g' : Dev Cert.DequantiseIdeal.nD → PrngReg), Pre_DequantIdeal m →
    (∀ c : Dev Cert.DequantIdeal.nD,
      m' ((c.tc : Thread Cert.DequantiseIdeal.nD Cert.DequantiseIdeal.τ).loc Cert.DequantiseIdeal.main_arg0) = m ((c.tc : Thread Cert.DequantIdeal.nD Cert.DequantIdeal.τ).loc Cert.DequantIdeal.main_arg0)
      ∧ m' ((c.tc : Thread Cert.DequantiseIdeal.nD Cert.DequantiseIdeal.τ).loc Cert.DequantiseIdeal.main_arg1) = m ((c.tc : Thread Cert.DequantIdeal.nD Cert.DequantIdeal.τ).loc Cert.DequantIdeal.main_arg1)) →
    ∃ (v0 : (c : Dev Cert.DequantIdeal.nD) → Buf (Elt Ideal) ((c.tc : Thread Cert.DequantIdeal.nD Cert.DequantIdeal.τ).loc Cert.DequantIdeal.main_v1)),
      θ_run (Cert.DequantIdeal.defs (F := Ideal)) (onTc (τ := Cert.DequantIdeal.τ) (Cert.DequantIdeal.main (F := Ideal))) ⟨m, fun _ => 0, g⟩ (fun r => ∀ c : Dev Cert.DequantIdeal.nD,
          r.2.mem ((c.tc : Thread Cert.DequantIdeal.nD Cert.DequantIdeal.τ).loc Cert.DequantIdeal.main_v1) = v0 c
          ∧ r.2.mem ((c.tc : Thread Cert.DequantIdeal.nD Cert.DequantIdeal.τ).loc Cert.DequantIdeal.main_arg0) = m ((c.tc : Thread Cert.DequantIdeal.nD Cert.DequantIdeal.τ).loc Cert.DequantIdeal.main_arg0)
          ∧ r.2.mem ((c.tc : Thread Cert.DequantIdeal.nD Cert.DequantIdeal.τ).loc Cert.DequantIdeal.main_arg1) = m ((c.tc : Thread Cert.DequantIdeal.nD Cert.DequantIdeal.τ).loc Cert.DequantIdeal.main_arg1))
      ∧ θ_run (Cert.DequantiseIdeal.defs (F := Ideal)) (onTc (τ := Cert.DequantiseIdeal.τ) (Cert.DequantiseIdeal.main (F := Ideal))) ⟨m', fun _ => 0, g'⟩ (fun r => ∀ c : Dev Cert.DequantiseIdeal.nD,
          r.2.mem ((c.tc : Thread Cert.DequantiseIdeal.nD Cert.DequantiseIdeal.τ).loc Cert.DequantiseIdeal.main_v98) = v0 c
          ∧ r.2.mem ((c.tc : Thread Cert.DequantiseIdeal.nD Cert.DequantiseIdeal.τ).loc Cert.DequantiseIdeal.main_arg0) = m' ((c.tc : Thread Cert.DequantiseIdeal.nD Cert.DequantiseIdeal.τ).loc Cert.DequantiseIdeal.main_arg0)
          ∧ r.2.mem ((c.tc : Thread Cert.DequantiseIdeal.nD Cert.DequantiseIdeal.τ).loc Cert.DequantiseIdeal.main_arg1) = m' ((c.tc : Thread Cert.DequantiseIdeal.nD Cert.DequantiseIdeal.τ).loc Cert.DequantiseIdeal.main_arg1))

def preserves_DequantDown_DequantDownIdeal : Prop :=
  IdealRules.bf16_pair.PackStatement Cert.DequantDownIdeal.S256x512
  ∧ IdealRules.bf16_pair.Statement Cert.DequantDownIdeal.S512x512 Cert.DequantDownIdeal.S256x512

def algebraic_DequantDownIdeal_DequantiseDownIdeal [hDequantDownIdeal : Cert.DequantDownIdeal.Facts] [hDequantiseDownIdeal : Cert.DequantiseDownIdeal.Facts] : Prop :=
  ∀ (m : (ℓ : Loc Cert.DequantDownIdeal.nD Cert.DequantDownIdeal.τ Cert.DequantDownIdeal.sig) → Buf (Elt Ideal) ℓ) (g : Dev Cert.DequantDownIdeal.nD → PrngReg)
    (m' : (ℓ : Loc Cert.DequantiseDownIdeal.nD Cert.DequantiseDownIdeal.τ Cert.DequantiseDownIdeal.sig) → Buf (Elt Ideal) ℓ) (g' : Dev Cert.DequantiseDownIdeal.nD → PrngReg), Pre_DequantDownIdeal m →
    (∀ c : Dev Cert.DequantDownIdeal.nD,
      m' ((c.tc : Thread Cert.DequantiseDownIdeal.nD Cert.DequantiseDownIdeal.τ).loc Cert.DequantiseDownIdeal.main_arg0) = m ((c.tc : Thread Cert.DequantDownIdeal.nD Cert.DequantDownIdeal.τ).loc Cert.DequantDownIdeal.main_arg0)
      ∧ m' ((c.tc : Thread Cert.DequantiseDownIdeal.nD Cert.DequantiseDownIdeal.τ).loc Cert.DequantiseDownIdeal.main_arg1) = m ((c.tc : Thread Cert.DequantDownIdeal.nD Cert.DequantDownIdeal.τ).loc Cert.DequantDownIdeal.main_arg1)) →
    ∃ (v0 : (c : Dev Cert.DequantDownIdeal.nD) → Buf (Elt Ideal) ((c.tc : Thread Cert.DequantDownIdeal.nD Cert.DequantDownIdeal.τ).loc Cert.DequantDownIdeal.main_v1)),
      θ_run (Cert.DequantDownIdeal.defs (F := Ideal)) (onTc (τ := Cert.DequantDownIdeal.τ) (Cert.DequantDownIdeal.main (F := Ideal))) ⟨m, fun _ => 0, g⟩ (fun r => ∀ c : Dev Cert.DequantDownIdeal.nD,
          r.2.mem ((c.tc : Thread Cert.DequantDownIdeal.nD Cert.DequantDownIdeal.τ).loc Cert.DequantDownIdeal.main_v1) = v0 c
          ∧ r.2.mem ((c.tc : Thread Cert.DequantDownIdeal.nD Cert.DequantDownIdeal.τ).loc Cert.DequantDownIdeal.main_arg0) = m ((c.tc : Thread Cert.DequantDownIdeal.nD Cert.DequantDownIdeal.τ).loc Cert.DequantDownIdeal.main_arg0)
          ∧ r.2.mem ((c.tc : Thread Cert.DequantDownIdeal.nD Cert.DequantDownIdeal.τ).loc Cert.DequantDownIdeal.main_arg1) = m ((c.tc : Thread Cert.DequantDownIdeal.nD Cert.DequantDownIdeal.τ).loc Cert.DequantDownIdeal.main_arg1))
      ∧ θ_run (Cert.DequantiseDownIdeal.defs (F := Ideal)) (onTc (τ := Cert.DequantiseDownIdeal.τ) (Cert.DequantiseDownIdeal.main (F := Ideal))) ⟨m', fun _ => 0, g'⟩ (fun r => ∀ c : Dev Cert.DequantiseDownIdeal.nD,
          r.2.mem ((c.tc : Thread Cert.DequantiseDownIdeal.nD Cert.DequantiseDownIdeal.τ).loc Cert.DequantiseDownIdeal.main_v98) = v0 c
          ∧ r.2.mem ((c.tc : Thread Cert.DequantiseDownIdeal.nD Cert.DequantiseDownIdeal.τ).loc Cert.DequantiseDownIdeal.main_arg0) = m' ((c.tc : Thread Cert.DequantiseDownIdeal.nD Cert.DequantiseDownIdeal.τ).loc Cert.DequantiseDownIdeal.main_arg0)
          ∧ r.2.mem ((c.tc : Thread Cert.DequantiseDownIdeal.nD Cert.DequantiseDownIdeal.τ).loc Cert.DequantiseDownIdeal.main_arg1) = m' ((c.tc : Thread Cert.DequantiseDownIdeal.nD Cert.DequantiseDownIdeal.τ).loc Cert.DequantiseDownIdeal.main_arg1))

def preserves_Absmax_AbsmaxIdeal : Prop :=
  True

def algebraic_AbsmaxIdeal_BlockScalesIdeal [hAbsmaxIdeal : Cert.AbsmaxIdeal.Facts] [hBlockScalesIdeal : Cert.BlockScalesIdeal.Facts] : Prop :=
  ∀ (m : (ℓ : Loc Cert.AbsmaxIdeal.nD Cert.AbsmaxIdeal.τ Cert.AbsmaxIdeal.sig) → Buf (Elt Ideal) ℓ) (g : Dev Cert.AbsmaxIdeal.nD → PrngReg)
    (m' : (ℓ : Loc Cert.BlockScalesIdeal.nD Cert.BlockScalesIdeal.τ Cert.BlockScalesIdeal.sig) → Buf (Elt Ideal) ℓ) (g' : Dev Cert.BlockScalesIdeal.nD → PrngReg), Pre_AbsmaxIdeal m →
    (∀ c : Dev Cert.AbsmaxIdeal.nD,
      m' ((c.tc : Thread Cert.BlockScalesIdeal.nD Cert.BlockScalesIdeal.τ).loc Cert.BlockScalesIdeal.main_arg0) = m ((c.tc : Thread Cert.AbsmaxIdeal.nD Cert.AbsmaxIdeal.τ).loc Cert.AbsmaxIdeal.main_arg0)
      ∧ m' ((c.tc : Thread Cert.BlockScalesIdeal.nD Cert.BlockScalesIdeal.τ).loc Cert.BlockScalesIdeal.main_arg1) = m ((c.tc : Thread Cert.AbsmaxIdeal.nD Cert.AbsmaxIdeal.τ).loc Cert.AbsmaxIdeal.main_arg1)
      ∧ m' ((c.tc : Thread Cert.BlockScalesIdeal.nD Cert.BlockScalesIdeal.τ).loc Cert.BlockScalesIdeal.main_arg2) = m ((c.tc : Thread Cert.AbsmaxIdeal.nD Cert.AbsmaxIdeal.τ).loc Cert.AbsmaxIdeal.main_arg2)) →
    ∃ (v0 : (c : Dev Cert.AbsmaxIdeal.nD) → Buf (Elt Ideal) ((c.tc : Thread Cert.AbsmaxIdeal.nD Cert.AbsmaxIdeal.τ).loc Cert.AbsmaxIdeal.main_v5)),
      θ_run (Cert.AbsmaxIdeal.defs (F := Ideal)) (onTc (τ := Cert.AbsmaxIdeal.τ) (Cert.AbsmaxIdeal.main (F := Ideal))) ⟨m, fun _ => 0, g⟩ (fun r => ∀ c : Dev Cert.AbsmaxIdeal.nD,
          r.2.mem ((c.tc : Thread Cert.AbsmaxIdeal.nD Cert.AbsmaxIdeal.τ).loc Cert.AbsmaxIdeal.main_v5) = v0 c
          ∧ r.2.mem ((c.tc : Thread Cert.AbsmaxIdeal.nD Cert.AbsmaxIdeal.τ).loc Cert.AbsmaxIdeal.main_arg0) = m ((c.tc : Thread Cert.AbsmaxIdeal.nD Cert.AbsmaxIdeal.τ).loc Cert.AbsmaxIdeal.main_arg0)
          ∧ r.2.mem ((c.tc : Thread Cert.AbsmaxIdeal.nD Cert.AbsmaxIdeal.τ).loc Cert.AbsmaxIdeal.main_arg1) = m ((c.tc : Thread Cert.AbsmaxIdeal.nD Cert.AbsmaxIdeal.τ).loc Cert.AbsmaxIdeal.main_arg1)
          ∧ r.2.mem ((c.tc : Thread Cert.AbsmaxIdeal.nD Cert.AbsmaxIdeal.τ).loc Cert.AbsmaxIdeal.main_arg2) = m ((c.tc : Thread Cert.AbsmaxIdeal.nD Cert.AbsmaxIdeal.τ).loc Cert.AbsmaxIdeal.main_arg2))
      ∧ θ_run (Cert.BlockScalesIdeal.defs (F := Ideal)) (onTc (τ := Cert.BlockScalesIdeal.τ) (Cert.BlockScalesIdeal.main (F := Ideal))) ⟨m', fun _ => 0, g'⟩ (fun r => ∀ c : Dev Cert.BlockScalesIdeal.nD,
          r.2.mem ((c.tc : Thread Cert.BlockScalesIdeal.nD Cert.BlockScalesIdeal.τ).loc Cert.BlockScalesIdeal.main_v9) = v0 c
          ∧ r.2.mem ((c.tc : Thread Cert.BlockScalesIdeal.nD Cert.BlockScalesIdeal.τ).loc Cert.BlockScalesIdeal.main_arg0) = m' ((c.tc : Thread Cert.BlockScalesIdeal.nD Cert.BlockScalesIdeal.τ).loc Cert.BlockScalesIdeal.main_arg0)
          ∧ r.2.mem ((c.tc : Thread Cert.BlockScalesIdeal.nD Cert.BlockScalesIdeal.τ).loc Cert.BlockScalesIdeal.main_arg1) = m' ((c.tc : Thread Cert.BlockScalesIdeal.nD Cert.BlockScalesIdeal.τ).loc Cert.BlockScalesIdeal.main_arg1)
          ∧ r.2.mem ((c.tc : Thread Cert.BlockScalesIdeal.nD Cert.BlockScalesIdeal.τ).loc Cert.BlockScalesIdeal.main_arg2) = m' ((c.tc : Thread Cert.BlockScalesIdeal.nD Cert.BlockScalesIdeal.τ).loc Cert.BlockScalesIdeal.main_arg2))

def preserves_AbsmaxDown_AbsmaxDownIdeal : Prop :=
  True

def algebraic_AbsmaxDownIdeal_BlockScalesDownIdeal [hAbsmaxDownIdeal : Cert.AbsmaxDownIdeal.Facts] [hBlockScalesDownIdeal : Cert.BlockScalesDownIdeal.Facts] : Prop :=
  ∀ (m : (ℓ : Loc Cert.AbsmaxDownIdeal.nD Cert.AbsmaxDownIdeal.τ Cert.AbsmaxDownIdeal.sig) → Buf (Elt Ideal) ℓ) (g : Dev Cert.AbsmaxDownIdeal.nD → PrngReg)
    (m' : (ℓ : Loc Cert.BlockScalesDownIdeal.nD Cert.BlockScalesDownIdeal.τ Cert.BlockScalesDownIdeal.sig) → Buf (Elt Ideal) ℓ) (g' : Dev Cert.BlockScalesDownIdeal.nD → PrngReg), Pre_AbsmaxDownIdeal m →
    (∀ c : Dev Cert.AbsmaxDownIdeal.nD,
      m' ((c.tc : Thread Cert.BlockScalesDownIdeal.nD Cert.BlockScalesDownIdeal.τ).loc Cert.BlockScalesDownIdeal.main_arg0) = m ((c.tc : Thread Cert.AbsmaxDownIdeal.nD Cert.AbsmaxDownIdeal.τ).loc Cert.AbsmaxDownIdeal.main_arg0)
      ∧ m' ((c.tc : Thread Cert.BlockScalesDownIdeal.nD Cert.BlockScalesDownIdeal.τ).loc Cert.BlockScalesDownIdeal.main_arg1) = m ((c.tc : Thread Cert.AbsmaxDownIdeal.nD Cert.AbsmaxDownIdeal.τ).loc Cert.AbsmaxDownIdeal.main_arg1)
      ∧ m' ((c.tc : Thread Cert.BlockScalesDownIdeal.nD Cert.BlockScalesDownIdeal.τ).loc Cert.BlockScalesDownIdeal.main_arg2) = m ((c.tc : Thread Cert.AbsmaxDownIdeal.nD Cert.AbsmaxDownIdeal.τ).loc Cert.AbsmaxDownIdeal.main_arg2)) →
    ∃ (v0 : (c : Dev Cert.AbsmaxDownIdeal.nD) → Buf (Elt Ideal) ((c.tc : Thread Cert.AbsmaxDownIdeal.nD Cert.AbsmaxDownIdeal.τ).loc Cert.AbsmaxDownIdeal.main_v5)),
      θ_run (Cert.AbsmaxDownIdeal.defs (F := Ideal)) (onTc (τ := Cert.AbsmaxDownIdeal.τ) (Cert.AbsmaxDownIdeal.main (F := Ideal))) ⟨m, fun _ => 0, g⟩ (fun r => ∀ c : Dev Cert.AbsmaxDownIdeal.nD,
          r.2.mem ((c.tc : Thread Cert.AbsmaxDownIdeal.nD Cert.AbsmaxDownIdeal.τ).loc Cert.AbsmaxDownIdeal.main_v5) = v0 c
          ∧ r.2.mem ((c.tc : Thread Cert.AbsmaxDownIdeal.nD Cert.AbsmaxDownIdeal.τ).loc Cert.AbsmaxDownIdeal.main_arg0) = m ((c.tc : Thread Cert.AbsmaxDownIdeal.nD Cert.AbsmaxDownIdeal.τ).loc Cert.AbsmaxDownIdeal.main_arg0)
          ∧ r.2.mem ((c.tc : Thread Cert.AbsmaxDownIdeal.nD Cert.AbsmaxDownIdeal.τ).loc Cert.AbsmaxDownIdeal.main_arg1) = m ((c.tc : Thread Cert.AbsmaxDownIdeal.nD Cert.AbsmaxDownIdeal.τ).loc Cert.AbsmaxDownIdeal.main_arg1)
          ∧ r.2.mem ((c.tc : Thread Cert.AbsmaxDownIdeal.nD Cert.AbsmaxDownIdeal.τ).loc Cert.AbsmaxDownIdeal.main_arg2) = m ((c.tc : Thread Cert.AbsmaxDownIdeal.nD Cert.AbsmaxDownIdeal.τ).loc Cert.AbsmaxDownIdeal.main_arg2))
      ∧ θ_run (Cert.BlockScalesDownIdeal.defs (F := Ideal)) (onTc (τ := Cert.BlockScalesDownIdeal.τ) (Cert.BlockScalesDownIdeal.main (F := Ideal))) ⟨m', fun _ => 0, g'⟩ (fun r => ∀ c : Dev Cert.BlockScalesDownIdeal.nD,
          r.2.mem ((c.tc : Thread Cert.BlockScalesDownIdeal.nD Cert.BlockScalesDownIdeal.τ).loc Cert.BlockScalesDownIdeal.main_v9) = v0 c
          ∧ r.2.mem ((c.tc : Thread Cert.BlockScalesDownIdeal.nD Cert.BlockScalesDownIdeal.τ).loc Cert.BlockScalesDownIdeal.main_arg0) = m' ((c.tc : Thread Cert.BlockScalesDownIdeal.nD Cert.BlockScalesDownIdeal.τ).loc Cert.BlockScalesDownIdeal.main_arg0)
          ∧ r.2.mem ((c.tc : Thread Cert.BlockScalesDownIdeal.nD Cert.BlockScalesDownIdeal.τ).loc Cert.BlockScalesDownIdeal.main_arg1) = m' ((c.tc : Thread Cert.BlockScalesDownIdeal.nD Cert.BlockScalesDownIdeal.τ).loc Cert.BlockScalesDownIdeal.main_arg1)
          ∧ r.2.mem ((c.tc : Thread Cert.BlockScalesDownIdeal.nD Cert.BlockScalesDownIdeal.τ).loc Cert.BlockScalesDownIdeal.main_arg2) = m' ((c.tc : Thread Cert.BlockScalesDownIdeal.nD Cert.BlockScalesDownIdeal.τ).loc Cert.BlockScalesDownIdeal.main_arg2))

def Claim : Prop :=
  ∃ (hKernel : Cert.Kernel.Facts) (hKernelIdeal : Cert.KernelIdeal.Facts) (hReferenceIdeal : Cert.ReferenceIdeal.Facts) (hDequant : Cert.Dequant.Facts) (hDequantIdeal : Cert.DequantIdeal.Facts) (hDequantiseIdeal : Cert.DequantiseIdeal.Facts) (hDequantDown : Cert.DequantDown.Facts) (hDequantDownIdeal : Cert.DequantDownIdeal.Facts) (hDequantiseDownIdeal : Cert.DequantiseDownIdeal.Facts) (hAbsmax : Cert.Absmax.Facts) (hAbsmaxIdeal : Cert.AbsmaxIdeal.Facts) (hBlockScalesIdeal : Cert.BlockScalesIdeal.Facts) (hAbsmaxDown : Cert.AbsmaxDown.Facts) (hAbsmaxDownIdeal : Cert.AbsmaxDownIdeal.Facts) (hBlockScalesDownIdeal : Cert.BlockScalesDownIdeal.Facts),
    quiescent_Kernel (hKernel := hKernel)
    ∧ quiescent_KernelIdeal (hKernelIdeal := hKernelIdeal)
    ∧ quiescent_ReferenceIdeal (hReferenceIdeal := hReferenceIdeal)
    ∧ quiescent_Dequant (hDequant := hDequant)
    ∧ quiescent_DequantIdeal (hDequantIdeal := hDequantIdeal)
    ∧ quiescent_DequantiseIdeal (hDequantiseIdeal := hDequantiseIdeal)
    ∧ quiescent_DequantDown (hDequantDown := hDequantDown)
    ∧ quiescent_DequantDownIdeal (hDequantDownIdeal := hDequantDownIdeal)
    ∧ quiescent_DequantiseDownIdeal (hDequantiseDownIdeal := hDequantiseDownIdeal)
    ∧ quiescent_Absmax (hAbsmax := hAbsmax)
    ∧ quiescent_AbsmaxIdeal (hAbsmaxIdeal := hAbsmaxIdeal)
    ∧ quiescent_BlockScalesIdeal (hBlockScalesIdeal := hBlockScalesIdeal)
    ∧ quiescent_AbsmaxDown (hAbsmaxDown := hAbsmaxDown)
    ∧ quiescent_AbsmaxDownIdeal (hAbsmaxDownIdeal := hAbsmaxDownIdeal)
    ∧ quiescent_BlockScalesDownIdeal (hBlockScalesDownIdeal := hBlockScalesDownIdeal)
    ∧ preserves_Kernel_KernelIdeal
    ∧ algebraic_KernelIdeal_ReferenceIdeal (hKernelIdeal := hKernelIdeal) (hReferenceIdeal := hReferenceIdeal)
    ∧ preserves_Dequant_DequantIdeal
    ∧ algebraic_DequantIdeal_DequantiseIdeal (hDequantIdeal := hDequantIdeal) (hDequantiseIdeal := hDequantiseIdeal)
    ∧ preserves_DequantDown_DequantDownIdeal
    ∧ algebraic_DequantDownIdeal_DequantiseDownIdeal (hDequantDownIdeal := hDequantDownIdeal) (hDequantiseDownIdeal := hDequantiseDownIdeal)
    ∧ preserves_Absmax_AbsmaxIdeal
    ∧ algebraic_AbsmaxIdeal_BlockScalesIdeal (hAbsmaxIdeal := hAbsmaxIdeal) (hBlockScalesIdeal := hBlockScalesIdeal)
    ∧ preserves_AbsmaxDown_AbsmaxDownIdeal
    ∧ algebraic_AbsmaxDownIdeal_BlockScalesDownIdeal (hAbsmaxDownIdeal := hAbsmaxDownIdeal) (hBlockScalesDownIdeal := hBlockScalesDownIdeal)
-- ==== Kernel.lean ====
abbrev S3x4096x3584 : Shape := ⟨3, ![3, 4096, 3584]⟩
abbrev S3584 : Shape := ⟨1, ![3584]⟩
abbrev S3584x18944 : Shape := ⟨2, ![3584, 18944]⟩
abbrev S18944x3584 : Shape := ⟨2, ![18944, 3584]⟩
abbrev S32x3584 : Shape := ⟨2, ![32, 3584]⟩
abbrev S18944x32 : Shape := ⟨2, ![18944, 32]⟩
abbrev S32x18944 : Shape := ⟨2, ![32, 18944]⟩
abbrev S3584x32 : Shape := ⟨2, ![3584, 32]⟩
abbrev S12288x3584 : Shape := ⟨2, ![12288, 3584]⟩
abbrev S1x3584 : Shape := ⟨2, ![1, 3584]⟩
abbrev S64x3584 : Shape := ⟨2, ![64, 3584]⟩
abbrev S_ : Shape := ⟨0, ![]⟩
abbrev S128x3584 : Shape := ⟨2, ![128, 3584]⟩
abbrev S3584x128 : Shape := ⟨2, ![3584, 128]⟩
abbrev S12288x128 : Shape := ⟨2, ![12288, 128]⟩
abbrev S128x12288 : Shape := ⟨2, ![128, 12288]⟩
abbrev S512x3584 : Shape := ⟨2, ![512, 3584]⟩
abbrev S512x128 : Shape := ⟨2, ![512, 128]⟩
abbrev S128x512 : Shape := ⟨2, ![128, 512]⟩
abbrev S512 : Shape := ⟨1, ![512]⟩
abbrev S512x1 : Shape := ⟨2, ![512, 1]⟩
abbrev S128x18944 : Shape := ⟨2, ![128, 18944]⟩
abbrev S1x128x18944 : Shape := ⟨3, ![1, 128, 18944]⟩
abbrev S3x128x18944 : Shape := ⟨3, ![3, 128, 18944]⟩
abbrev S12288x18944 : Shape := ⟨2, ![12288, 18944]⟩
abbrev S24x96x512 : Shape := ⟨3, ![24, 96, 512]⟩
abbrev S3584x512 : Shape := ⟨2, ![3584, 512]⟩
abbrev S3x128x512 : Shape := ⟨3, ![3, 128, 512]⟩
abbrev S512x512 : Shape := ⟨2, ![512, 512]⟩
abbrev S32x512 : Shape := ⟨2, ![32, 512]⟩
abbrev S1x128x512 : Shape := ⟨3, ![1, 128, 512]⟩
abbrev S1x32x512 : Shape := ⟨3, ![1, 32, 512]⟩
abbrev S96x24x512 : Shape := ⟨3, ![96, 24, 512]⟩
abbrev S96x12288 : Shape := ⟨2, ![96, 12288]⟩
abbrev S12288x96 : Shape := ⟨2, ![12288, 96]⟩
abbrev S1024x512 : Shape := ⟨2, ![1024, 512]⟩
abbrev S1024x3584 : Shape := ⟨2, ![1024, 3584]⟩
abbrev S1024x128 : Shape := ⟨2, ![1024, 128]⟩
abbrev S12288x1 : Shape := ⟨2, ![12288, 1]⟩
abbrev S512x1024 : Shape := ⟨2, ![512, 1024]⟩
abbrev S3584x1024 : Shape := ⟨2, ![3584, 1024]⟩
abbrev S16x3584 : Shape := ⟨2, ![16, 3584]⟩
abbrev S16 : Shape := ⟨1, ![16]⟩
abbrev S16x1 : Shape := ⟨2, ![16, 1]⟩
abbrev S96x512 : Shape := ⟨2, ![96, 512]⟩
abbrev S64x512 : Shape := ⟨2, ![64, 512]⟩
abbrev S3x4096 : Shape := ⟨2, ![3, 4096]⟩
abbrev S3x4096x18944 : Shape := ⟨3, ![3, 4096, 18944]⟩

abbrev nBuf : Space → Nat
  | .hbm => 73
  | .vmem => 83
  | .smem => 0
  | _ => 0

abbrev bufTy : (tb : Table) → Fin (tcTables nBuf tb) → BufTy
  | .hbm, ⟨0, _⟩ => ⟨S3x4096x3584, .bf16⟩
  | .hbm, ⟨1, _⟩ => ⟨S3x4096x3584, .bf16⟩
  | .hbm, ⟨2, _⟩ => ⟨S3584, .f32⟩
  | .hbm, ⟨3, _⟩ => ⟨S3584x18944, .bf16⟩
  | .hbm, ⟨4, _⟩ => ⟨S3584x18944, .bf16⟩
  | .hbm, ⟨5, _⟩ => ⟨S18944x3584, .bf16⟩
  | .hbm, ⟨6, _⟩ => ⟨S32x3584, .bf16⟩
  | .hbm, ⟨7, _⟩ => ⟨S32x3584, .bf16⟩
  | .hbm, ⟨8, _⟩ => ⟨S18944x32, .bf16⟩
  | .hbm, ⟨9, _⟩ => ⟨S18944x32, .bf16⟩
  | .hbm, ⟨10, _⟩ => ⟨S32x18944, .bf16⟩
  | .hbm, ⟨11, _⟩ => ⟨S3584x32, .bf16⟩
  | .hbm, ⟨12, _⟩ => ⟨S12288x3584, .bf16⟩
  | .hbm, ⟨13, _⟩ => ⟨S12288x3584, .bf16⟩
  | .hbm, ⟨14, _⟩ => ⟨S1x3584, .f32⟩
  | .hbm, ⟨15, _⟩ => ⟨S64x3584, .bf16⟩
  | .hbm, ⟨16, _⟩ => ⟨S_, .i32⟩
  | .hbm, ⟨17, _⟩ => ⟨S_, .bf16⟩
  | .hbm, ⟨18, _⟩ => ⟨S128x3584, .bf16⟩
  | .hbm, ⟨19, _⟩ => ⟨S32x3584, .bf16⟩
  | .hbm, ⟨20, _⟩ => ⟨S_, .i32⟩
  | .hbm, ⟨21, _⟩ => ⟨S_, .bf16⟩
  | .hbm, ⟨22, _⟩ => ⟨S128x3584, .bf16⟩
  | .hbm, ⟨23, _⟩ => ⟨S3584x128, .bf16⟩
  | .hbm, ⟨24, _⟩ => ⟨S12288x3584, .bf16⟩
  | .hbm, ⟨25, _⟩ => ⟨S12288x128, .bf16⟩
  | .hbm, ⟨26, _⟩ => ⟨S128x12288, .bf16⟩
  | .hbm, ⟨27, _⟩ => ⟨S32x18944, .bf16⟩
  | .hbm, ⟨28, _⟩ => ⟨S_, .i32⟩
  | .hbm, ⟨29, _⟩ => ⟨S_, .bf16⟩
  | .hbm, ⟨30, _⟩ => ⟨S128x18944, .bf16⟩
  | .hbm, ⟨31, _⟩ => ⟨S32x18944, .bf16⟩
  | .hbm, ⟨32, _⟩ => ⟨S_, .i32⟩
  | .hbm, ⟨33, _⟩ => ⟨S_, .bf16⟩
  | .hbm, ⟨34, _⟩ => ⟨S128x18944, .bf16⟩
  | .hbm, ⟨35, _⟩ => ⟨S_, .i32⟩
  | .hbm, ⟨36, _⟩ => ⟨S_, .bf16⟩
  | .hbm, ⟨37, _⟩ => ⟨S128x18944, .bf16⟩
  | .hbm, ⟨38, _⟩ => ⟨S1x128x18944, .bf16⟩
  | .hbm, ⟨39, _⟩ => ⟨S1x128x18944, .bf16⟩
  | .hbm, ⟨40, _⟩ => ⟨S1x128x18944, .bf16⟩
  | .hbm, ⟨41, _⟩ => ⟨S3x128x18944, .bf16⟩
  | .hbm, ⟨42, _⟩ => ⟨S12288x18944, .bf16⟩
  | .hbm, ⟨43, _⟩ => ⟨S12288x18944, .bf16⟩
  | .hbm, ⟨44, _⟩ => ⟨S12288x18944, .bf16⟩
  | .hbm, ⟨45, _⟩ => ⟨S32x18944, .f32⟩
  | .hbm, ⟨46, _⟩ => ⟨S32x18944, .f32⟩
  | .hbm, ⟨47, _⟩ => ⟨S32x18944, .f32⟩
  | .hbm, ⟨48, _⟩ => ⟨S24x96x512, .f32⟩
  | .hbm, ⟨49, _⟩ => ⟨S_, .f32⟩
  | .hbm, ⟨50, _⟩ => ⟨S24x96x512, .f32⟩
  | .hbm, ⟨51, _⟩ => ⟨S24x96x512, .f32⟩
  | .hbm, ⟨52, _⟩ => ⟨S24x96x512, .bf16⟩
  | .hbm, ⟨53, _⟩ => ⟨S96x24x512, .bf16⟩
  | .hbm, ⟨54, _⟩ => ⟨S96x12288, .bf16⟩
  | .hbm, ⟨55, _⟩ => ⟨S12288x96, .bf16⟩
  | .hbm, ⟨56, _⟩ => ⟨S_, .i32⟩
  | .hbm, ⟨57, _⟩ => ⟨S_, .bf16⟩
  | .hbm, ⟨58, _⟩ => ⟨S12288x128, .bf16⟩
  | .hbm, ⟨59, _⟩ => ⟨S12288x3584, .bf16⟩
  | .hbm, ⟨60, _⟩ => ⟨S12288x1, .f32⟩
  | .hbm, ⟨61, _⟩ => ⟨S12288x3584, .bf16⟩
  | .hbm, ⟨62, _⟩ => ⟨S64x3584, .f32⟩
  | .hbm, ⟨63, _⟩ => ⟨S32x3584, .f32⟩
  | .hbm, ⟨64, _⟩ => ⟨S3x4096x3584, .bf16⟩
  | .hbm, ⟨65, _⟩ => ⟨S3x4096x3584, .bf16⟩
  | .hbm, ⟨66, _⟩ => ⟨S3x4096, .f32⟩
  | .hbm, ⟨67, _⟩ => ⟨S3x4096x18944, .bf16⟩
  | .hbm, ⟨68, _⟩ => ⟨S32x3584, .f32⟩
  | .hbm, ⟨69, _⟩ => ⟨S18944x32, .f32⟩
  | .hbm, ⟨70, _⟩ => ⟨S32x3584, .f32⟩
  | .hbm, ⟨71, _⟩ => ⟨S18944x32, .f32⟩
  | .hbm, ⟨72, _⟩ => ⟨S3584x32, .f32⟩
  | .local _ .vmem, ⟨0, _⟩ => ⟨S512x3584, .bf16⟩
  | .local _ .vmem, ⟨1, _⟩ => ⟨S512x3584, .bf16⟩
  | .local _ .vmem, ⟨2, _⟩ => ⟨S512x3584, .bf16⟩
  | .local _ .vmem, ⟨3, _⟩ => ⟨S512x3584, .bf16⟩
  | .local _ .vmem, ⟨4, _⟩ => ⟨S1x3584, .f32⟩
  | .local _ .vmem, ⟨5, _⟩ => ⟨S128x3584, .bf16⟩
  | .local _ .vmem, ⟨6, _⟩ => ⟨S3584x128, .bf16⟩
  | .local _ .vmem, ⟨7, _⟩ => ⟨S512x3584, .bf16⟩
  | .local _ .vmem, ⟨8, _⟩ => ⟨S512x3584, .bf16⟩
  | .local _ .vmem, ⟨9, _⟩ => ⟨S512x128, .bf16⟩
  | .local _ .vmem, ⟨10, _⟩ => ⟨S512x128, .bf16⟩
  | .local _ .vmem, ⟨11, _⟩ => ⟨S128x512, .bf16⟩
  | .local _ .vmem, ⟨12, _⟩ => ⟨S128x512, .bf16⟩
  | .local _ .vmem, ⟨13, _⟩ => ⟨S512x3584, .bf16⟩
  | .local _ .vmem, ⟨14, _⟩ => ⟨S512x3584, .bf16⟩
  | .local _ .vmem, ⟨15, _⟩ => ⟨S512x3584, .bf16⟩
  | .local _ .vmem, ⟨16, _⟩ => ⟨S512x3584, .bf16⟩
  | .local _ .vmem, ⟨17, _⟩ => ⟨S512x128, .bf16⟩
  | .local _ .vmem, ⟨18, _⟩ => ⟨S512x128, .bf16⟩
  | .local _ .vmem, ⟨19, _⟩ => ⟨S128x512, .bf16⟩
  | .local _ .vmem, ⟨20, _⟩ => ⟨S128x512, .bf16⟩
  | .local _ .vmem, ⟨21, _⟩ => ⟨S3584x512, .bf16⟩
  | .local _ .vmem, ⟨22, _⟩ => ⟨S3584x512, .bf16⟩
  | .local _ .vmem, ⟨23, _⟩ => ⟨S3584x512, .bf16⟩
  | .local _ .vmem, ⟨24, _⟩ => ⟨S3584x512, .bf16⟩
  | .local _ .vmem, ⟨25, _⟩ => ⟨S512x3584, .bf16⟩
  | .local _ .vmem, ⟨26, _⟩ => ⟨S512x3584, .bf16⟩
  | .local _ .vmem, ⟨27, _⟩ => ⟨S3x128x512, .bf16⟩
  | .local _ .vmem, ⟨28, _⟩ => ⟨S3x128x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S512x512, .bf16⟩
  | .local _ .vmem, ⟨33, _⟩ => ⟨S512x512, .bf16⟩
  | .local _ .vmem, ⟨34, _⟩ => ⟨S512x512, .bf16⟩
  | .local _ .vmem, ⟨35, _⟩ => ⟨S32x512, .f32⟩
  | .local _ .vmem, ⟨36, _⟩ => ⟨S32x512, .f32⟩
  | .local _ .vmem, ⟨37, _⟩ => ⟨S32x512, .f32⟩
  | .local _ .vmem, ⟨38, _⟩ => ⟨S32x512, .f32⟩
  | .local _ .vmem, ⟨39, _⟩ => ⟨S32x512, .f32⟩
  | .local _ .vmem, ⟨40, _⟩ => ⟨S32x512, .f32⟩
  | .local _ .vmem, ⟨41, _⟩ => ⟨S24x96x512, .f32⟩
  | .local _ .vmem, ⟨42, _⟩ => ⟨S1024x512, .bf16⟩
  | .local _ .vmem, ⟨43, _⟩ => ⟨S1024x512, .bf16⟩
  | .local _ .vmem, ⟨44, _⟩ => ⟨S512x3584, .bf16⟩
  | .local _ .vmem, ⟨45, _⟩ => ⟨S512x3584, .bf16⟩
  | .local _ .vmem, ⟨46, _⟩ => ⟨S1024x3584, .bf16⟩
  | .local _ .vmem, ⟨47, _⟩ => ⟨S1024x3584, .bf16⟩
  | .local _ .vmem, ⟨48, _⟩ => ⟨S1024x128, .bf16⟩
  | .local _ .vmem, ⟨49, _⟩ => ⟨S1024x128, .bf16⟩
  | .local _ .vmem, ⟨50, _⟩ => ⟨S128x3584, .bf16⟩
  | .local _ .vmem, ⟨51, _⟩ => ⟨S1024x3584, .bf16⟩
  | .local _ .vmem, ⟨52, _⟩ => ⟨S1024x3584, .bf16⟩
  | .local _ .vmem, ⟨53, _⟩ => ⟨S1024x3584, .f32⟩
  | .local _ .vmem, ⟨54, _⟩ => ⟨S512x512, .bf16⟩
  | .local _ .vmem, ⟨55, _⟩ => ⟨S512x512, .bf16⟩
  | .local _ .vmem, ⟨56, _⟩ => ⟨S512x512, .bf16⟩
  | .local _ .vmem, ⟨57, _⟩ => ⟨S512x512, .bf16⟩
  | .local _ .vmem, ⟨58, _⟩ => ⟨S3584x512, .bf16⟩
  | .local _ .vmem, ⟨59, _⟩ => ⟨S3584x512, .bf16⟩
  | .local _ .vmem, ⟨60, _⟩ => ⟨S3584x512, .bf16⟩
  | .local _ .vmem, ⟨61, _⟩ => ⟨S3584x512, .bf16⟩
  | .local _ .vmem, ⟨62, _⟩ => ⟨S512x3584, .bf16⟩
  | .local _ .vmem, ⟨63, _⟩ => ⟨S512x3584, .bf16⟩
  | .local _ .vmem, ⟨64, _⟩ => ⟨S512x3584, .bf16⟩
  | .local _ .vmem, ⟨65, _⟩ => ⟨S512x3584, .bf16⟩
  | .local _ .vmem, ⟨66, _⟩ => ⟨S1x3584, .f32⟩
  | .local _ .vmem, ⟨67, _⟩ => ⟨S512x128, .bf16⟩
  | .local _ .vmem, ⟨68, _⟩ => ⟨S512x128, .bf16⟩
  | .local _ .vmem, ⟨69, _⟩ => ⟨S128x3584, .bf16⟩
  | .local _ .vmem, ⟨70, _⟩ => ⟨S512x1, .f32⟩
  | .local _ .vmem, ⟨71, _⟩ => ⟨S512x1, .f32⟩
  | .local _ .vmem, ⟨72, _⟩ => ⟨S512x3584, .bf16⟩
  | .local _ .vmem, ⟨73, _⟩ => ⟨S512x3584, .bf16⟩
  | .local _ .vmem, ⟨74, _⟩ => ⟨S512x3584, .f32⟩
  | .local _ .vmem, ⟨75, _⟩ => ⟨S96x512, .bf16⟩
  | .local _ .vmem, ⟨76, _⟩ => ⟨S96x512, .bf16⟩
  | .local _ .vmem, ⟨77, _⟩ => ⟨S512x3584, .bf16⟩
  | .local _ .vmem, ⟨78, _⟩ => ⟨S512x3584, .bf16⟩
  | .local _ .vmem, ⟨79, _⟩ => ⟨S512x3584, .bf16⟩
  | .local _ .vmem, ⟨80, _⟩ => ⟨S512x3584, .bf16⟩
  | .local _ .vmem, ⟨81, _⟩ => ⟨S64x3584, .f32⟩
  | .local _ .vmem, ⟨82, _⟩ => ⟨S32x3584, .f32⟩
  | _, _ => ⟨S3x4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | _, _ => false

abbrev semScoped : Fin 0 → Bool
  | ⟨_, h⟩ => absurd h (Nat.not_lt_zero _)

abbrev dmaSemScoped : Fin 81 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | _ => false

abbrev sig : RefSig :=
  ofTc nBuf bufTy 0 81 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_call1_v0 : Ref sig .tc := ⟨.hbm, 21, rfl⟩
abbrev main_v6 : Ref sig .tc := ⟨.hbm, 22, rfl⟩
abbrev main_v7 : Ref sig .tc := ⟨.hbm, 23, rfl⟩
abbrev main_v8_0 : Ref sig .tc := ⟨.hbm, 24, rfl⟩
abbrev main_v8_1 : Ref sig .tc := ⟨.hbm, 25, rfl⟩
abbrev main_v8_2 : Ref sig .tc := ⟨.hbm, 26, rfl⟩
abbrev main_v9 : Ref sig .tc := ⟨.hbm, 27, rfl⟩
abbrev main_c_1 : Ref sig .tc := ⟨.hbm, 28, rfl⟩
abbrev main_call2_v0 : Ref sig .tc := ⟨.hbm, 29, rfl⟩
abbrev main_v10 : Ref sig .tc := ⟨.hbm, 30, rfl⟩
abbrev main_v11 : Ref sig .tc := ⟨.hbm, 31, rfl⟩
abbrev main_c_2 : Ref sig .tc := ⟨.hbm, 32, rfl⟩
abbrev main_call3_v0 : Ref sig .tc := ⟨.hbm, 33, rfl⟩
abbrev main_v12 : Ref sig .tc := ⟨.hbm, 34, rfl⟩
abbrev main_c_3 : Ref sig .tc := ⟨.hbm, 35, rfl⟩
abbrev main_call4_v0 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18_0 : Ref sig .tc := ⟨.hbm, 42, rfl⟩
abbrev main_v18_1 : Ref sig .tc := ⟨.hbm, 43, rfl⟩
abbrev main_v18_2 : Ref sig .tc := ⟨.hbm, 44, rfl⟩
abbrev main_v18_3 : Ref sig .tc := ⟨.hbm, 45, rfl⟩
abbrev main_v18_4 : Ref sig .tc := ⟨.hbm, 46, rfl⟩
abbrev main_v18_5 : Ref sig .tc := ⟨.hbm, 47, rfl⟩
abbrev main_v18_6 : Ref sig .tc := ⟨.hbm, 48, rfl⟩
abbrev main_cst : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_c_4 : Ref sig .tc := ⟨.hbm, 56, rfl⟩
abbrev main_call5_v0 : Ref sig .tc := ⟨.hbm, 57, rfl⟩
abbrev main_v25 : Ref sig .tc := ⟨.hbm, 58, rfl⟩
abbrev main_v26 : Ref sig .tc := ⟨.hbm, 59, rfl⟩
abbrev main_v27_0 : Ref sig .tc := ⟨.hbm, 60, rfl⟩
abbrev main_v27_1 : Ref sig .tc := ⟨.hbm, 61, rfl⟩
abbrev main_v28_0 : Ref sig .tc := ⟨.hbm, 62, rfl⟩
abbrev main_v28_1 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg8_1 : Ref sig .tc := ⟨.vmem, 30, rfl⟩
abbrev cc1_stg9_0 : Ref sig .tc := ⟨.vmem, 31, rfl⟩
abbrev cc1_stg9_1 : Ref sig .tc := ⟨.vmem, 32, rfl⟩
abbrev cc1_stg10_0 : Ref sig .tc := ⟨.vmem, 33, rfl⟩
abbrev cc1_stg10_1 : Ref sig .tc := ⟨.vmem, 34, rfl⟩
abbrev cc1_stg11_0 : Ref sig .tc := ⟨.vmem, 35, rfl⟩
abbrev cc1_stg11_1 : Ref sig .tc := ⟨.vmem, 36, rfl⟩
abbrev cc1_stg12_0 : Ref sig .tc := ⟨.vmem, 37, rfl⟩
abbrev cc1_stg12_1 : Ref sig .tc := ⟨.vmem, 38, rfl⟩
abbrev cc1_stg13_0 : Ref sig .tc := ⟨.vmem, 39, rfl⟩
abbrev cc1_stg13_1 : Ref sig .tc := ⟨.vmem, 40, rfl⟩
abbrev cc1_stg14_0 : Ref sig .tc := ⟨.vmem, 41, rfl⟩
abbrev cc2_stg0_0 : Ref sig .tc := ⟨.vmem, 42, rfl⟩
abbrev cc2_stg0_1 : Ref sig .tc := ⟨.vmem, 43, rfl⟩
abbrev cc2_stg1_0 : Ref sig .tc := ⟨.vmem, 44, rfl⟩
abbrev cc2_stg1_1 : Ref sig .tc := ⟨.vmem, 45, rfl⟩
abbrev cc2_stg2_0 : Ref sig .tc := ⟨.vmem, 46, rfl⟩
abbrev cc2_stg2_1 : Ref sig .tc := ⟨.vmem, 47, rfl⟩
abbrev cc2_stg3_0 : Ref sig .tc := ⟨.vmem, 48, rfl⟩
abbrev cc2_stg3_1 : Ref sig .tc := ⟨.vmem, 49, rfl⟩
abbrev cc2_stg4_0 : Ref sig .tc := ⟨.vmem, 50, rfl⟩
abbrev cc2_stg5_0 : Ref sig .tc := ⟨.vmem, 51, rfl⟩
abbrev cc2_stg5_1 : Ref sig .tc := ⟨.vmem, 52, rfl⟩
abbrev cc2_scratch0 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg1_1 : Ref sig .tc := ⟨.vmem, 57, rfl⟩
abbrev cc3_stg2_0 : Ref sig .tc := ⟨.vmem, 58, rfl⟩
abbrev cc3_stg2_1 : Ref sig .tc := ⟨.vmem, 59, rfl⟩
abbrev cc3_stg3_0 : Ref sig .tc := ⟨.vmem, 60, rfl⟩
abbrev cc3_stg3_1 : Ref sig .tc := ⟨.vmem, 61, rfl⟩
abbrev cc3_stg4_0 : Ref sig .tc := ⟨.vmem, 62, rfl⟩
abbrev cc3_stg4_1 : Ref sig .tc := ⟨.vmem, 63, rfl⟩
abbrev cc3_stg5_0 : Ref sig .tc := ⟨.vmem, 64, rfl⟩
abbrev cc3_stg5_1 : Ref sig .tc := ⟨.vmem, 65, rfl⟩
abbrev cc3_stg6_0 : Ref sig .tc := ⟨.vmem, 66, rfl⟩
abbrev cc3_stg7_0 : Ref sig .tc := ⟨.vmem, 67, rfl⟩
abbrev cc3_stg7_1 : Ref sig .tc := ⟨.vmem, 68, rfl⟩
abbrev cc3_stg8_0 : Ref sig .tc := ⟨.vmem, 69, rfl⟩
abbrev cc3_stg9_0 : Ref sig .tc := ⟨.vmem, 70, rfl⟩
abbrev cc3_stg9_1 : Ref sig .tc := ⟨.vmem, 71, rfl⟩
abbrev cc3_stg10_0 : Ref sig .tc := ⟨.vmem, 72, rfl⟩
abbrev cc3_stg10_1 : Ref sig .tc := ⟨.vmem, 73, rfl⟩
abbrev cc3_scratch0 : Ref sig .tc := ⟨.vmem, 74, rfl⟩
abbrev cc4_stg0_0 : Ref sig .tc := ⟨.vmem, 75, rfl⟩
abbrev cc4_stg0_1 : Ref sig .tc := ⟨.vmem, 76, rfl⟩
abbrev cc4_stg1_0 : Ref sig .tc := ⟨.vmem, 77, rfl⟩
abbrev cc4_stg1_1 : Ref sig .tc := ⟨.vmem, 78, rfl⟩
abbrev cc4_stg2_0 : Ref sig .tc := ⟨.vmem, 79, rfl⟩
abbrev cc4_stg2_1 : Ref sig .tc := ⟨.vmem, 80, rfl⟩
abbrev cc4_stg3_0 : Ref sig .tc := ⟨.vmem, 81, rfl⟩
abbrev cc4_stg4_0 : Ref sig .tc := ⟨.vmem, 82, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc1_sem6_0 : DmaSem sig := 25
abbrev cc1_sem6_1 : DmaSem sig := 26
abbrev cc1_sem7_0 : DmaSem sig := 27
abbrev cc1_sem7_1 : DmaSem sig := 28
abbrev cc1_sem8_0 : DmaSem sig := 29
abbrev cc1_sem8_1 : DmaSem sig := 30
abbrev cc1_sem9_0 : DmaSem sig := 31
abbrev cc1_sem9_1 : DmaSem sig := 32
abbrev cc1_sem10_0 : DmaSem sig := 33
abbrev cc1_sem10_1 : DmaSem sig := 34
abbrev cc1_sem11_0 : DmaSem sig := 35
abbrev cc1_sem11_1 : DmaSem sig := 36
abbrev cc1_sem12_0 : DmaSem sig := 37
abbrev cc1_sem12_1 : DmaSem sig := 38
abbrev cc1_sem13_0 : DmaSem sig := 39
abbrev cc1_sem13_1 : DmaSem sig := 40
abbrev cc1_sem14_0 : DmaSem sig := 41
abbrev cc2_sem0_0 : DmaSem sig := 42
abbrev cc2_sem0_1 : DmaSem sig := 43
abbrev cc2_sem1_0 : DmaSem sig := 44
abbrev cc2_sem1_1 : DmaSem sig := 45
abbrev cc2_sem2_0 : DmaSem sig := 46
abbrev cc2_sem2_1 : DmaSem sig := 47
abbrev cc2_sem3_0 : DmaSem sig := 48
abbrev cc2_sem3_1 : DmaSem sig := 49
abbrev cc2_sem4_0 : DmaSem sig := 50
abbrev cc2_sem5_0 : DmaSem sig := 51
abbrev cc2_sem5_1 : DmaSem sig := 52
abbrev cc3_sem0_0 : DmaSem sig := 53
abbrev cc3_sem0_1 : DmaSem sig := 54
abbrev cc3_sem1_0 : DmaSem sig := 55
abbrev cc3_sem1_1 : DmaSem sig := 56
abbrev cc3_sem2_0 : DmaSem sig := 57
abbrev cc3_sem2_1 : DmaSem sig := 58
abbrev cc3_sem3_0 : DmaSem sig := 59
abbrev cc3_sem3_1 : DmaSem sig := 60
abbrev cc3_sem4_0 : DmaSem sig := 61
abbrev cc3_sem4_1 : DmaSem sig := 62
abbrev cc3_sem5_0 : DmaSem sig := 63
abbrev cc3_sem5_1 : DmaSem sig := 64
abbrev cc3_sem6_0 : DmaSem sig := 65
abbrev cc3_sem7_0 : DmaSem sig := 66
abbrev cc3_sem7_1 : DmaSem sig := 67
abbrev cc3_sem8_0 : DmaSem sig := 68
abbrev cc3_sem9_0 : DmaSem sig := 69
abbrev cc3_sem9_1 : DmaSem sig := 70
abbrev cc3_sem10_0 : DmaSem sig := 71
abbrev cc3_sem10_1 : DmaSem sig := 72
abbrev cc4_sem0_0 : DmaSem sig := 73
abbrev cc4_sem0_1 : DmaSem sig := 74
abbrev cc4_sem1_0 : DmaSem sig := 75
abbrev cc4_sem1_1 : DmaSem sig := 76
abbrev cc4_sem2_0 : DmaSem sig := 77
abbrev cc4_sem2_1 : DmaSem sig := 78
abbrev cc4_sem3_0 : DmaSem sig := 79
abbrev cc4_sem4_0 : DmaSem sig := 80

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3584x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3584 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![37, 24], ![false, false]⟩

def k1_off1 (i : grid1.Coords) : Fin 3 → Nat :=
  let arg1 : BitVec 32 := BitVec.ofNat 32 (i 1).val
  let v75 : Index := Scalar.indexCast arg1
  let c0_57 : Index := 0#32
  let c0_58 : Index := 0#32
  ![v75.toNat, 0, 0]
def k1_off2 (i : grid1.Coords) : Fin 3 → Nat :=
  let arg1 : BitVec 32 := BitVec.ofNat 32 (i 1).val
  let v87 : Index := Scalar.indexCast arg1
  let c32_65 : Index := 32#32
  let c0_66 : Index := 0#32
  ![v87.toNat, 32, 0]
def k1_off3 (i : grid1.Coords) : Fin 3 → Nat :=
  let arg1 : BitVec 32 := BitVec.ofNat 32 (i 1).val
  let v99 : Index := Scalar.indexCast arg1
  let c64_73 : Index := 64#32
  let c0_74 : Index := 0#32
  ![v99.toNat, 64, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_14 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S512x3584 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x3584 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S128x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S3584x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S3584x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S512x3584 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S3x128x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S512x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S512x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S512x512 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S32x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 2 → Memref sig .tc .vmem S32x512 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, false]

abbrev stage1_13 : Fin 2 → Memref sig .tc .vmem S32x512 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, false]

abbrev stage1_14 : Fin 1 → Memref sig .tc .vmem S24x96x512 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false, false]

abbrev grid2 : Pipeline.Grid := ⟨2, ![12, 37], ![false, false]⟩

def k2_cond2 (i : grid2.Coords) : BitVec 1 :=
  let arg1 : BitVec 32 := BitVec.ofNat 32 (i 1).val
  let c36_i32 : BitVec 32 := 36#32
  let v12 : BitVec 1 := Scalar.cmpi .eq arg1 c36_i32
  let v13 : BitVec 32 := Scalar.extui v12
  let c0_i32_8 : BitVec 32 := 0#32
  let v14 : BitVec 1 := Scalar.cmpi .ne v13 c0_i32_8
  v14

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x3584 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x3584 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S128x3584 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1024x3584 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev grid3 : Pipeline.Grid := ⟨2, ![24, 37], ![false, false]⟩

def k3_cond2 (i : grid3.Coords) : BitVec 1 :=
  let arg1 : BitVec 32 := BitVec.ofNat 32 (i 1).val
  let c36_i32 : BitVec 32 := 36#32
  let v17 : BitVec 1 := Scalar.cmpi .eq arg1 c36_i32
  let v18 : BitVec 32 := Scalar.extui v17
  let c0_i32_12 : BitVec 32 := 0#32
  let v19 : BitVec 1 := Scalar.cmpi .ne v18 c0_i32_12
  v19

@[reducible] def k3_t1_loop : Scf.Loop 32 :=
  let c0_i32_13 : BitVec 32 := 0#32
  let c32_i32 : BitVec 32 := 32#32
  let v20 : BitVec 32 := Scalar.addi c0_i32_13 c32_i32
  let c1_i32 : BitVec 32 := 1#32
  ⟨c0_i32_13, v20, c1_i32⟩
def k3_mult1 (k3_t1 : Fin k3_t1_loop.trips) : BitVec 32 :=
  let c0_i32_13 : BitVec 32 := 0#32
  let c1_i32 : BitVec 32 := 1#32
  let arg14 : BitVec 32 := Scf.iv c0_i32_13 c1_i32 k3_t1
  let c16_i32 : BitVec 32 := 16#32
  let v21 : BitVec 32 := Scalar.muli arg14 c16_i32
  v21
def k3_off1 (k3_t1 : Fin k3_t1_loop.trips) : Fin 2 → Nat :=
  let c0_i32_13 : BitVec 32 := 0#32
  let c1_i32 : BitVec 32 := 1#32
  let arg14 : BitVec 32 := Scf.iv c0_i32_13 c1_i32 k3_t1
  let c16_i32 : BitVec 32 := 16#32
  let v21 : BitVec 32 := Scalar.muli arg14 c16_i32
  let v22 : BitVec 32 := v21
  let v23 : Index := Scalar.indexCast v22
  let c0_15 : Index := 0#32
  ![v23.toNat, 0]
def k3_off2 (k3_t1 : Fin k3_t1_loop.trips) : Fin 2 → Nat :=
  let c0_i32_13 : BitVec 32 := 0#32
  let c1_i32 : BitVec 32 := 1#32
  let arg14 : BitVec 32 := Scf.iv c0_i32_13 c1_i32 k3_t1
  let c16_i32 : BitVec 32 := 16#32
  let v21 : BitVec 32 := Scalar.muli arg14 c16_i32
  let v22 : BitVec 32 := v21
  let v50 : Index := Scalar.indexCast v22
  let c0_25 : Index := 0#32
  ![v50.toNat, 0]
def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S512x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S512x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S3584x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S3584x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S512x3584 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S512x3584 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 1 → Memref sig .tc .vmem S1x3584 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 2 → Memref sig .tc .vmem S512x128 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, false]

abbrev stage3_8 : Fin 1 → Memref sig .tc .vmem S128x3584 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]

abbrev stage3_9 : Fin 2 → Memref sig .tc .vmem S512x1 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, false]

abbrev stage3_10 : Fin 2 → Memref sig .tc .vmem S512x3584 .bf16 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, false]

abbrev grid4 : Pipeline.Grid := ⟨1, ![24], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S96x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S512x3584 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S512x3584 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x3584 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S32x3584 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]
-- ==== ReferenceIdeal.lean ====
abbrev S3x4096x3584 : Shape := ⟨3, ![3, 4096, 3584]⟩
abbrev S3584 : Shape := ⟨1, ![3584]⟩
abbrev S3584x18944 : Shape := ⟨2, ![3584, 18944]⟩
abbrev S18944x3584 : Shape := ⟨2, ![18944, 3584]⟩
abbrev S32x3584 : Shape := ⟨2, ![32, 3584]⟩
abbrev S18944x32 : Shape := ⟨2, ![18944, 32]⟩
abbrev S32x18944 : Shape := ⟨2, ![32, 18944]⟩
abbrev S3584x32 : Shape := ⟨2, ![3584, 32]⟩
abbrev S_ : Shape := ⟨0, ![]⟩
abbrev S3x4096 : Shape := ⟨2, ![3, 4096]⟩
abbrev S3x4096x1 : Shape := ⟨3, ![3, 4096, 1]⟩
abbrev S1x1x3584 : Shape := ⟨3, ![1, 1, 3584]⟩
abbrev S3x4096x32 : Shape := ⟨3, ![3, 4096, 32]⟩
abbrev S3x4096x18944 : Shape := ⟨3, ![3, 4096, 18944]⟩

abbrev nBuf : Space → Nat
  | .hbm => 147
  | .vmem => 0
  | .smem => 0
  | _ => 0

abbrev hbmTy0_0 (i : Nat) : BufTy := match i % 128 with
  | 0 => ⟨S3x4096x3584, .bf16⟩
  | 1 => ⟨S3x4096x3584, .bf16⟩
  | 2 => ⟨S3584, .f32⟩
  | 3 => ⟨S3584x18944, .bf16⟩
  | 4 => ⟨S3584x18944, .bf16⟩
  | 5 => ⟨S18944x3584, .bf16⟩
  | 6 => ⟨S32x3584, .bf16⟩
  | 7 => ⟨S32x3584, .bf16⟩
  | 8 => ⟨S18944x32, .bf16⟩
  | 9 => ⟨S18944x32, .bf16⟩
  | 10 => ⟨S32x18944, .bf16⟩
  | 11 => ⟨S3584x32, .bf16⟩
  | 12 => ⟨S18944x3584, .bf16⟩
  | 13 => ⟨S18944x3584, .bf16⟩
  | 14 => ⟨S3584x18944, .bf16⟩
  | 15 => ⟨S3x4096x3584, .f32⟩
  | 16 => ⟨S3x4096x3584, .f32⟩
  | 17 => ⟨S_, .f32⟩
  | 18 => ⟨S3x4096, .f32⟩
  | 19 => ⟨S3x4096x1, .f32⟩
  | 20 => ⟨S_, .f32⟩
  | 21 => ⟨S3x4096x1, .f32⟩
  | 22 => ⟨S3x4096x1, .f32⟩
  | 23 => ⟨S_, .f32⟩
  | 24 => ⟨S3x4096x1, .f32⟩
  | 25 => ⟨S3x4096x1, .f32⟩
  | 26 => ⟨S3x4096x1, .f32⟩
  | 27 => ⟨S_, .f32⟩
  | 28 => ⟨S3x4096x1, .f32⟩
  | 29 => ⟨S3x4096x1, .f32⟩
  | 30 => ⟨S3x4096x3584, .f32⟩
  | 31 => ⟨S3x4096x3584, .f32⟩
  | 32 => ⟨S1x1x3584, .f32⟩
  | 33 => ⟨S3x4096x3584, .f32⟩
  | 34 => ⟨S3x4096x3584, .f32⟩
  | 35 => ⟨S3x4096x3584, .bf16⟩
  | 36 => ⟨S3x4096x32, .f32⟩
  | 37 => ⟨S3x4096x32, .bf16⟩
  | 38 => ⟨S3x4096x32, .f32⟩
  | 39 => ⟨S3x4096x32, .bf16⟩
  | 40 => ⟨S3x4096x18944, .f32⟩
  | 41 => ⟨S3x4096x18944, .f32⟩
  | 42 => ⟨S_, .f32⟩
  | 43 => ⟨S3x4096x18944, .f32⟩
  | 44 => ⟨S3x4096x18944, .f32⟩
  | 45 => ⟨S3x4096x18944, .f32⟩
  | 46 => ⟨S3x4096x18944, .f32⟩
  | 47 => ⟨S3x4096x18944, .f32⟩
  | 48 => ⟨S_, .f32⟩
  | 49 => ⟨S3x4096x18944, .f32⟩
  | 50 => ⟨S3x4096x18944, .f32⟩
  | 51 => ⟨S3x4096x18944, .f32⟩
  | 52 => ⟨S3x4096x18944, .f32⟩
  | 53 => ⟨S3x4096x18944, .f32⟩
  | 54 => ⟨S_, .f32⟩
  | 55 => ⟨S3x4096x18944, .f32⟩
  | 56 => ⟨S3x4096x18944, .f32⟩
  | 57 => ⟨S_, .f32⟩
  | 58 => ⟨S3x4096x18944, .f32⟩
  | 59 => ⟨S3x4096x18944, .f32⟩
  | 60 => ⟨S3x4096x18944, .f32⟩
  | 61 => ⟨S3x4096x18944, .f32⟩
  | 62 => ⟨S3x4096x18944, .bf16⟩
  | 63 => ⟨S3x4096x32, .f32⟩
  | 64 => ⟨S3x4096x32, .bf16⟩
  | 65 => ⟨S3x4096x3584, .f32⟩
  | 66 => ⟨S3x4096x3584, .f32⟩
  | 67 => ⟨S_, .f32⟩
  | 68 => ⟨S3x4096x3584, .f32⟩
  | 69 => ⟨S3x4096x3584, .f32⟩
  | 70 => ⟨S3x4096x3584, .f32⟩
  | 71 => ⟨S3x4096x3584, .f32⟩
  | 72 => ⟨S3x4096x3584, .bf16⟩
  | 73 => ⟨S3584x32, .f32⟩
  | 74 => ⟨S_, .f32⟩
  | 75 => ⟨S3584x32, .f32⟩
  | 76 => ⟨S3584x32, .f32⟩
  | 77 => ⟨S3x4096x32, .f32⟩
  | 78 => ⟨S_, .f32⟩
  | 79 => ⟨S3x4096x32, .f32⟩
  | 80 => ⟨S3x4096x32, .f32⟩
  | 81 => ⟨S3x4096x32, .bf16⟩
  | 82 => ⟨S32x18944, .f32⟩
  | 83 => ⟨S3x4096x18944, .f32⟩
  | 84 => ⟨S3x4096x18944, .f32⟩
  | 85 => ⟨S3x4096x18944, .f32⟩
  | 86 => ⟨S3x4096x18944, .f32⟩
  | 87 => ⟨S3x4096x18944, .f32⟩
  | 88 => ⟨S_, .f32⟩
  | 89 => ⟨S3x4096x18944, .f32⟩
  | 90 => ⟨S3x4096x18944, .f32⟩
  | 91 => ⟨S3x4096x18944, .f32⟩
  | 92 => ⟨S_, .f32⟩
  | 93 => ⟨S3x4096x18944, .f32⟩
  | 94 => ⟨S3x4096x18944, .f32⟩
  | 95 => ⟨S3x4096x18944, .f32⟩
  | 96 => ⟨S3x4096x18944, .bf16⟩
  | 97 => ⟨S3x4096x18944, .f32⟩
  | 98 => ⟨S3x4096x18944, .f32⟩
  | 99 => ⟨S3x4096x18944, .bf16⟩
  | 100 => ⟨S18944x32, .f32⟩
  | 101 => ⟨S_, .f32⟩
  | 102 => ⟨S18944x32, .f32⟩
  | 103 => ⟨S18944x32, .f32⟩
  | 104 => ⟨S3x4096x32, .f32⟩
  | 105 => ⟨S_, .f32⟩
  | 106 => ⟨S3x4096x32, .f32⟩
  | 107 => ⟨S3x4096x32, .f32⟩
  | 108 => ⟨S3x4096x32, .bf16⟩
  | 109 => ⟨S32x3584, .f32⟩
  | 110 => ⟨S18944x32, .f32⟩
  | 111 => ⟨S_, .f32⟩
  | 112 => ⟨S18944x32, .f32⟩
  | 113 => ⟨S18944x32, .f32⟩
  | 114 => ⟨S3x4096x32, .f32⟩
  | 115 => ⟨S_, .f32⟩
  | 116 => ⟨S3x4096x32, .f32⟩
  | 117 => ⟨S3x4096x32, .f32⟩
  | 118 => ⟨S3x4096x32, .bf16⟩
  | 119 => ⟨S32x3584, .f32⟩
  | 120 => ⟨S3x4096x3584, .f32⟩
  | 121 => ⟨S3x4096x3584, .f32⟩
  | 122 => ⟨S3x4096x3584, .f32⟩
  | 123 => ⟨S3x4096x3584, .f32⟩
  | 124 => ⟨S3x4096x3584, .f32⟩
  | 125 => ⟨S3x4096x3584, .f32⟩
  | 126 => ⟨S3x4096x3584, .f32⟩
  | 127 => ⟨S3x4096x3584, .f32⟩
  | _ => ⟨S3x4096x3584, .bf16⟩

abbrev hbmTy0_1 (i : Nat) : BufTy := match i % 128 with
  | 0 => ⟨S3x4096x3584, .f32⟩
  | 1 => ⟨S1x1x3584, .f32⟩
  | 2 => ⟨S3x4096x3584, .f32⟩
  | 3 => ⟨S3x4096x3584, .f32⟩
  | 4 => ⟨S3x4096x3584, .f32⟩
  | 5 => ⟨S_, .f32⟩
  | 6 => ⟨S3x4096, .f32⟩
  | 7 => ⟨S_, .f32⟩
  | 8 => ⟨S3x4096, .f32⟩
  | 9 => ⟨S3x4096, .f32⟩
  | 10 => ⟨S3x4096x3584, .f32⟩
  | 11 => ⟨S3x4096x1, .f32⟩
  | 12 => ⟨S3x4096x3584, .f32⟩
  | 13 => ⟨S3x4096x3584, .f32⟩
  | 14 => ⟨S3x4096x3584, .f32⟩
  | 15 => ⟨S3x4096x3584, .f32⟩
  | 16 => ⟨S3x4096x3584, .f32⟩
  | 17 => ⟨S3x4096x3584, .f32⟩
  | 18 => ⟨S3x4096x3584, .bf16⟩
  | _ => ⟨S3x4096x3584, .bf16⟩

abbrev hbmTy (i : Nat) : BufTy := match i / 128 with
  | 0 => hbmTy0_0 i
  | 1 => hbmTy0_1 i
  | _ => ⟨S3x4096x3584, .bf16⟩

abbrev bufTy : (tb : Table) → Fin (tcTables nBuf tb) → BufTy
  | .hbm, ⟨i, _⟩ => hbmTy i
  | _, _ => ⟨S3x4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_7 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_8 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_9 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_10 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_11 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_12 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_13 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_14 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_15 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_16 : Ref sig .tc := ⟨.hbm, 133, rfl⟩
abbrev main_v104 : Ref sig .tc := ⟨.hbm, 134, rfl⟩
abbrev main_cst_17 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩

abbrev nD : Nat := 1
abbrev τ : Topo := Topo.v7x

variable {F : FTy → Type} [FloatOps F]
-- ==== Dequant.lean ====
abbrev S18944x1792 : Shape := ⟨2, ![18944, 1792]⟩
abbrev S18944x56 : Shape := ⟨2, ![18944, 56]⟩
abbrev S56x18944 : Shape := ⟨2, ![56, 18944]⟩
abbrev S3584x18944 : Shape := ⟨2, ![3584, 18944]⟩
abbrev S512x256 : Shape := ⟨2, ![512, 256]⟩
abbrev S8x512 : Shape := ⟨2, ![8, 512]⟩
abbrev S512x512 : Shape := ⟨2, ![512, 512]⟩
abbrev S256x512 : Shape := ⟨2, ![256, 512]⟩
abbrev S8x1x512 : Shape := ⟨3, ![8, 1, 512]⟩
abbrev S8x32x512 : Shape := ⟨3, ![8, 32, 512]⟩

abbrev nBuf : Space → Nat
  | .hbm => 4
  | .vmem => 6
  | .smem => 0
  | _ => 0

abbrev bufTy : (tb : Table) → Fin (tcTables nBuf tb) → BufTy
  | .hbm, ⟨0, _⟩ => ⟨S18944x1792, .i8⟩
  | .hbm, ⟨1, _⟩ => ⟨S18944x56, .f32⟩
  | .hbm, ⟨2, _⟩ => ⟨S56x18944, .f32⟩
  | .hbm, ⟨3, _⟩ => ⟨S3584x18944, .bf16⟩
  | .local _ .vmem, ⟨0, _⟩ => ⟨S512x256, .i8⟩
  | .local _ .vmem, ⟨1, _⟩ => ⟨S512x256, .i8⟩
  | .local _ .vmem, ⟨2, _⟩ => ⟨S8x512, .f32⟩
  | .local _ .vmem, ⟨3, _⟩ => ⟨S8x512, .f32⟩
  | .local _ .vmem, ⟨4, _⟩ => ⟨S512x512, .bf16⟩
  | .local _ .vmem, ⟨5, _⟩ => ⟨S512x512, .bf16⟩
  | _, _ => ⟨S18944x1792, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨2, ![37, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DequantIdeal.lean ====
abbrev S18944x1792 : Shape := ⟨2, ![18944, 1792]⟩
abbrev S18944x56 : Shape := ⟨2, ![18944, 56]⟩
abbrev S56x18944 : Shape := ⟨2, ![56, 18944]⟩
abbrev S3584x18944 : Shape := ⟨2, ![3584, 18944]⟩
abbrev S512x256 : Shape := ⟨2, ![512, 256]⟩
abbrev S8x512 : Shape := ⟨2, ![8, 512]⟩
abbrev S512x512 : Shape := ⟨2, ![512, 512]⟩
abbrev S256x512 : Shape := ⟨2, ![256, 512]⟩
abbrev S8x1x512 : Shape := ⟨3, ![8, 1, 512]⟩
abbrev S8x32x512 : Shape := ⟨3, ![8, 32, 512]⟩

abbrev nBuf : Space → Nat
  | .hbm => 4
  | .vmem => 6
  | .smem => 0
  | _ => 0

abbrev bufTy : (tb : Table) → Fin (tcTables nBuf tb) → BufTy
  | .hbm, ⟨0, _⟩ => ⟨S18944x1792, .i8⟩
  | .hbm, ⟨1, _⟩ => ⟨S18944x56, .f32⟩
  | .hbm, ⟨2, _⟩ => ⟨S56x18944, .f32⟩
  | .hbm, ⟨3, _⟩ => ⟨S3584x18944, .bf16⟩
  | .local _ .vmem, ⟨0, _⟩ => ⟨S512x256, .i8⟩
  | .local _ .vmem, ⟨1, _⟩ => ⟨S512x256, .i8⟩
  | .local _ .vmem, ⟨2, _⟩ => ⟨S8x512, .f32⟩
  | .local _ .vmem, ⟨3, _⟩ => ⟨S8x512, .f32⟩
  | .local _ .vmem, ⟨4, _⟩ => ⟨S512x512, .bf16⟩
  | .local _ .vmem, ⟨5, _⟩ => ⟨S512x512, .bf16⟩
  | _, _ => ⟨S18944x1792, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![37, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DequantiseIdeal.lean ====
abbrev S18944x1792 : Shape := ⟨2, ![18944, 1792]⟩
abbrev S18944x56 : Shape := ⟨2, ![18944, 56]⟩
abbrev S18944x56x1 : Shape := ⟨3, ![18944, 56, 1]⟩
abbrev S_ : Shape := ⟨0, ![]⟩
abbrev S18944x56x32 : Shape := ⟨3, ![18944, 56, 32]⟩
abbrev S18944x1792x1 : Shape := ⟨3, ![18944, 1792, 1]⟩
abbrev S18944x1792x2 : Shape := ⟨3, ![18944, 1792, 2]⟩
abbrev S18944x3584 : Shape := ⟨2, ![18944, 3584]⟩
abbrev S3584x18944 : Shape := ⟨2, ![3584, 18944]⟩

abbrev nBuf : Space → Nat
  | .hbm => 191
  | .vmem => 0
  | .smem => 0
  | _ => 0

abbrev hbmTy0_0 (i : Nat) : BufTy := match i % 128 with
  | 0 => ⟨S18944x1792, .i8⟩
  | 1 => ⟨S18944x56, .f32⟩
  | 2 => ⟨S18944x56x1, .f32⟩
  | 3 => ⟨S18944x1792, .i32⟩
  | 4 => ⟨S_, .i32⟩
  | 5 => ⟨S18944x1792, .i32⟩
  | 6 => ⟨S18944x1792, .i32⟩
  | 7 => ⟨S_, .i32⟩
  | 8 => ⟨S18944x1792, .i32⟩
  | 9 => ⟨S18944x1792, .i32⟩
  | 10 => ⟨S_, .i32⟩
  | 11 => ⟨S18944x1792, .i32⟩
  | 12 => ⟨S18944x1792, .i32⟩
  | 13 => ⟨S_, .i32⟩
  | 14 => ⟨S18944x1792, .i32⟩
  | 15 => ⟨S18944x1792, .i1⟩
  | 16 => ⟨S_, .f32⟩
  | 17 => ⟨S_, .f32⟩
  | 18 => ⟨S18944x1792, .f32⟩
  | 19 => ⟨S18944x1792, .f32⟩
  | 20 => ⟨S18944x1792, .f32⟩
  | 21 => ⟨S_, .f32⟩
  | 22 => ⟨S_, .f32⟩
  | 23 => ⟨S18944x1792, .f32⟩
  | 24 => ⟨S18944x1792, .f32⟩
  | 25 => ⟨S18944x1792, .f32⟩
  | 26 => ⟨S_, .f32⟩
  | 27 => ⟨S_, .f32⟩
  | 28 => ⟨S18944x1792, .f32⟩
  | 29 => ⟨S18944x1792, .f32⟩
  | 30 => ⟨S18944x1792, .f32⟩
  | 31 => ⟨S_, .f32⟩
  | 32 => ⟨S_, .f32⟩
  | 33 => ⟨S18944x1792, .f32⟩
  | 34 => ⟨S18944x1792, .f32⟩
  | 35 => ⟨S18944x1792, .f32⟩
  | 36 => ⟨S_, .f32⟩
  | 37 => ⟨S_, .f32⟩
  | 38 => ⟨S18944x1792, .f32⟩
  | 39 => ⟨S18944x1792, .f32⟩
  | 40 => ⟨S18944x1792, .f32⟩
  | 41 => ⟨S_, .f32⟩
  | 42 => ⟨S_, .f32⟩
  | 43 => ⟨S18944x1792, .f32⟩
  | 44 => ⟨S18944x1792, .f32⟩
  | 45 => ⟨S18944x1792, .f32⟩
  | 46 => ⟨S_, .f32⟩
  | 47 => ⟨S_, .f32⟩
  | 48 => ⟨S18944x1792, .f32⟩
  | 49 => ⟨S18944x1792, .f32⟩
  | 50 => ⟨S18944x1792, .f32⟩
  | 51 => ⟨S_, .f32⟩
  | 52 => ⟨S_, .f32⟩
  | 53 => ⟨S18944x1792, .f32⟩
  | 54 => ⟨S18944x1792, .f32⟩
  | 55 => ⟨S18944x1792, .f32⟩
  | 56 => ⟨S_, .i32⟩
  | 57 => ⟨S18944x1792, .i32⟩
  | 58 => ⟨S18944x1792, .i32⟩
  | 59 => ⟨S_, .i32⟩
  | 60 => ⟨S18944x1792, .i32⟩
  | 61 => ⟨S18944x1792, .i32⟩
  | 62 => ⟨S_, .i32⟩
  | 63 => ⟨S18944x1792, .i32⟩
  | 64 => ⟨S18944x1792, .i1⟩
  | 65 => ⟨S18944x1792, .f32⟩
  | 66 => ⟨S18944x1792, .f32⟩
  | 67 => ⟨S18944x1792, .f32⟩
  | 68 => ⟨S18944x1792, .f32⟩
  | 69 => ⟨S_, .i32⟩
  | 70 => ⟨S18944x1792, .i32⟩
  | 71 => ⟨S18944x1792, .i32⟩
  | 72 => ⟨S_, .i32⟩
  | 73 => ⟨S18944x1792, .i32⟩
  | 74 => ⟨S18944x1792, .i32⟩
  | 75 => ⟨S_, .i32⟩
  | 76 => ⟨S18944x1792, .i32⟩
  | 77 => ⟨S18944x1792, .i1⟩
  | 78 => ⟨S18944x1792, .f32⟩
  | 79 => ⟨S18944x1792, .f32⟩
  | 80 => ⟨S_, .i32⟩
  | 81 => ⟨S18944x1792, .i32⟩
  | 82 => ⟨S18944x1792, .i32⟩
  | 83 => ⟨S_, .i32⟩
  | 84 => ⟨S18944x1792, .i32⟩
  | 85 => ⟨S18944x1792, .i32⟩
  | 86 => ⟨S_, .i32⟩
  | 87 => ⟨S18944x1792, .i32⟩
  | 88 => ⟨S18944x1792, .i1⟩
  | 89 => ⟨S18944x1792, .f32⟩
  | 90 => ⟨S18944x56x32, .f32⟩
  | 91 => ⟨S18944x56x32, .f32⟩
  | 92 => ⟨S18944x56x32, .f32⟩
  | 93 => ⟨S18944x56x32, .bf16⟩
  | 94 => ⟨S18944x1792, .bf16⟩
  | 95 => ⟨S_, .i32⟩
  | 96 => ⟨S18944x1792, .i32⟩
  | 97 => ⟨S18944x1792, .i32⟩
  | 98 => ⟨S_, .i32⟩
  | 99 => ⟨S18944x1792, .i32⟩
  | 100 => ⟨S18944x1792, .i32⟩
  | 101 => ⟨S_, .i32⟩
  | 102 => ⟨S18944x1792, .i32⟩
  | 103 => ⟨S18944x1792, .i32⟩
  | 104 => ⟨S_, .i32⟩
  | 105 => ⟨S18944x1792, .i32⟩
  | 106 => ⟨S18944x1792, .i1⟩
  | 107 => ⟨S_, .f32⟩
  | 108 => ⟨S_, .f32⟩
  | 109 => ⟨S18944x1792, .f32⟩
  | 110 => ⟨S18944x1792, .f32⟩
  | 111 => ⟨S18944x1792, .f32⟩
  | 112 => ⟨S_, .f32⟩
  | 113 => ⟨S_, .f32⟩
  | 114 => ⟨S18944x1792, .f32⟩
  | 115 => ⟨S18944x1792, .f32⟩
  | 116 => ⟨S18944x1792, .f32⟩
  | 117 => ⟨S_, .f32⟩
  | 118 => ⟨S_, .f32⟩
  | 119 => ⟨S18944x1792, .f32⟩
  | 120 => ⟨S18944x1792, .f32⟩
  | 121 => ⟨S18944x1792, .f32⟩
  | 122 => ⟨S_, .f32⟩
  | 123 => ⟨S_, .f32⟩
  | 124 => ⟨S18944x1792, .f32⟩
  | 125 => ⟨S18944x1792, .f32⟩
  | 126 => ⟨S18944x1792, .f32⟩
  | 127 => ⟨S_, .f32⟩
  | _ => ⟨S18944x1792, .i8⟩

abbrev hbmTy0_1 (i : Nat) : BufTy := match i % 128 with
  | 0 => ⟨S_, .f32⟩
  | 1 => ⟨S18944x1792, .f32⟩
  | 2 => ⟨S18944x1792, .f32⟩
  | 3 => ⟨S18944x1792, .f32⟩
  | 4 => ⟨S_, .f32⟩
  | 5 => ⟨S_, .f32⟩
  | 6 => ⟨S18944x1792, .f32⟩
  | 7 => ⟨S18944x1792, .f32⟩
  | 8 => ⟨S18944x1792, .f32⟩
  | 9 => ⟨S_, .f32⟩
  | 10 => ⟨S_, .f32⟩
  | 11 => ⟨S18944x1792, .f32⟩
  | 12 => ⟨S18944x1792, .f32⟩
  | 13 => ⟨S18944x1792, .f32⟩
  | 14 => ⟨S_, .f32⟩
  | 15 => ⟨S_, .f32⟩
  | 16 => ⟨S18944x1792, .f32⟩
  | 17 => ⟨S18944x1792, .f32⟩
  | 18 => ⟨S18944x1792, .f32⟩
  | 19 => ⟨S_, .i32⟩
  | 20 => ⟨S18944x1792, .i32⟩
  | 21 => ⟨S18944x1792, .i32⟩
  | 22 => ⟨S_, .i32⟩
  | 23 => ⟨S18944x1792, .i32⟩
  | 24 => ⟨S18944x1792, .i32⟩
  | 25 => ⟨S_, .i32⟩
  | 26 => ⟨S18944x1792, .i32⟩
  | 27 => ⟨S18944x1792, .i1⟩
  | 28 => ⟨S18944x1792, .f32⟩
  | 29 => ⟨S18944x1792, .f32⟩
  | 30 => ⟨S18944x1792, .f32⟩
  | 31 => ⟨S18944x1792, .f32⟩
  | 32 => ⟨S_, .i32⟩
  | 33 => ⟨S18944x1792, .i32⟩
  | 34 => ⟨S18944x1792, .i32⟩
  | 35 => ⟨S_, .i32⟩
  | 36 => ⟨S18944x1792, .i32⟩
  | 37 => ⟨S18944x1792, .i32⟩
  | 38 => ⟨S_, .i32⟩
  | 39 => ⟨S18944x1792, .i32⟩
  | 40 => ⟨S18944x1792, .i1⟩
  | 41 => ⟨S18944x1792, .f32⟩
  | 42 => ⟨S18944x1792, .f32⟩
  | 43 => ⟨S_, .i32⟩
  | 44 => ⟨S18944x1792, .i32⟩
  | 45 => ⟨S18944x1792, .i32⟩
  | 46 => ⟨S_, .i32⟩
  | 47 => ⟨S18944x1792, .i32⟩
  | 48 => ⟨S18944x1792, .i32⟩
  | 49 => ⟨S_, .i32⟩
  | 50 => ⟨S18944x1792, .i32⟩
  | 51 => ⟨S18944x1792, .i1⟩
  | 52 => ⟨S18944x1792, .f32⟩
  | 53 => ⟨S18944x56x32, .f32⟩
  | 54 => ⟨S18944x56x32, .f32⟩
  | 55 => ⟨S18944x56x32, .f32⟩
  | 56 => ⟨S18944x56x32, .bf16⟩
  | 57 => ⟨S18944x1792, .bf16⟩
  | 58 => ⟨S18944x1792x1, .bf16⟩
  | 59 => ⟨S18944x1792x1, .bf16⟩
  | 60 => ⟨S18944x1792x2, .bf16⟩
  | 61 => ⟨S18944x3584, .bf16⟩
  | 62 => ⟨S3584x18944, .bf16⟩
  | _ => ⟨S18944x1792, .i8⟩

abbrev hbmTy (i : Nat) : BufTy := match i / 128 with
  | 0 => hbmTy0_0 i
  | 1 => hbmTy0_1 i
  | _ => ⟨S18944x1792, .i8⟩

abbrev bufTy : (tb : Table) → Fin (tcTables nBuf tb) → BufTy
  | .hbm, ⟨i, _⟩ => hbmTy i
  | _, _ => ⟨S18944x1792, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_cst_3 : Ref sig .tc := ⟨.hbm, 17, rfl⟩
abbrev main_call0_v0 : Ref sig .tc := ⟨.hbm, 18, rfl⟩
abbrev main_call0_v1 : Ref sig .tc := ⟨.hbm, 19, rfl⟩
abbrev main_v10 : Ref sig .tc := ⟨.hbm, 20, rfl⟩
abbrev main_cst_4 : Ref sig .tc := ⟨.hbm, 21, rfl⟩
abbrev main_cst_5 : Ref sig .tc := ⟨.hbm, 22, rfl⟩
abbrev main_call1_v0 : Ref sig .tc := ⟨.hbm, 23, rfl⟩
abbrev main_call1_v1 : Ref sig .tc := ⟨.hbm, 24, rfl⟩
abbrev main_v11 : Ref sig .tc := ⟨.hbm, 25, rfl⟩
abbrev main_cst_6 : Ref sig .tc := ⟨.hbm, 26, rfl⟩
abbrev main_cst_7 : Ref sig .tc := ⟨.hbm, 27, rfl⟩
abbrev main_call2_v0 : Ref sig .tc := ⟨.hbm, 28, rfl⟩
abbrev main_call2_v1 : Ref sig .tc := ⟨.hbm, 29, rfl⟩
abbrev main_v12 : Ref sig .tc := ⟨.hbm, 30, rfl⟩
abbrev main_cst_8 : Ref sig .tc := ⟨.hbm, 31, rfl⟩
abbrev main_cst_9 : Ref sig .tc := ⟨.hbm, 32, rfl⟩
abbrev main_call3_v0 : Ref sig .tc := ⟨.hbm, 33, rfl⟩
abbrev main_call3_v1 : Ref sig .tc := ⟨.hbm, 34, rfl⟩
abbrev main_v13 : Ref sig .tc := ⟨.hbm, 35, rfl⟩
abbrev main_cst_10 : Ref sig .tc := ⟨.hbm, 36, rfl⟩
abbrev main_cst_11 : Ref sig .tc := ⟨.hbm, 37, rfl⟩
abbrev main_call4_v0 : Ref sig .tc := ⟨.hbm, 38, rfl⟩
abbrev main_call4_v1 : Ref sig .tc := ⟨.hbm, 39, rfl⟩
abbrev main_v14 : Ref sig .tc := ⟨.hbm, 40, rfl⟩
abbrev main_cst_12 : Ref sig .tc := ⟨.hbm, 41, rfl⟩
abbrev main_cst_13 : Ref sig .tc := ⟨.hbm, 42, rfl⟩
abbrev main_call5_v0 : Ref sig .tc := ⟨.hbm, 43, rfl⟩
abbrev main_call5_v1 : Ref sig .tc := ⟨.hbm, 44, rfl⟩
abbrev main_v15 : Ref sig .tc := ⟨.hbm, 45, rfl⟩
abbrev main_cst_14 : Ref sig .tc := ⟨.hbm, 46, rfl⟩
abbrev main_cst_15 : Ref sig .tc := ⟨.hbm, 47, rfl⟩
abbrev main_call6_v0 : Ref sig .tc := ⟨.hbm, 48, rfl⟩
abbrev main_call6_v1 : Ref sig .tc := ⟨.hbm, 49, rfl⟩
abbrev main_v16 : Ref sig .tc := ⟨.hbm, 50, rfl⟩
abbrev main_cst_16 : Ref sig .tc := ⟨.hbm, 51, rfl⟩
abbrev main_cst_17 : Ref sig .tc := ⟨.hbm, 52, rfl⟩
abbrev main_call7_v0 : Ref sig .tc := ⟨.hbm, 53, rfl⟩
abbrev main_call7_v1 : Ref sig .tc := ⟨.hbm, 54, rfl⟩
abbrev main_v17 : Ref sig .tc := ⟨.hbm, 55, rfl⟩
abbrev main_c_18 : Ref sig .tc := ⟨.hbm, 56, rfl⟩
abbrev main_v18 : Ref sig .tc := ⟨.hbm, 57, rfl⟩
abbrev main_v19 : Ref sig .tc := ⟨.hbm, 58, rfl⟩
abbrev main_c_19 : Ref sig .tc := ⟨.hbm, 59, rfl⟩
abbrev main_v20 : Ref sig .tc := ⟨.hbm, 60, rfl⟩
abbrev main_v21 : Ref sig .tc := ⟨.hbm, 61, rfl⟩
abbrev main_c_20 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_c_21 : Ref sig .tc := ⟨.hbm, 69, rfl⟩
abbrev main_v28 : Ref sig .tc := ⟨.hbm, 70, rfl⟩
abbrev main_v29 : Ref sig .tc := ⟨.hbm, 71, rfl⟩
abbrev main_c_22 : Ref sig .tc := ⟨.hbm, 72, rfl⟩
abbrev main_v30 : Ref sig .tc := ⟨.hbm, 73, rfl⟩
abbrev main_v31 : Ref sig .tc := ⟨.hbm, 74, rfl⟩
abbrev main_c_23 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_c_24 : Ref sig .tc := ⟨.hbm, 80, rfl⟩
abbrev main_v36 : Ref sig .tc := ⟨.hbm, 81, rfl⟩
abbrev main_v37 : Ref sig .tc := ⟨.hbm, 82, rfl⟩
abbrev main_c_25 : Ref sig .tc := ⟨.hbm, 83, rfl⟩
abbrev main_v38 : Ref sig .tc := ⟨.hbm, 84, rfl⟩
abbrev main_v39 : Ref sig .tc := ⟨.hbm, 85, rfl⟩
abbrev main_c_26 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_c_27 : Ref sig .tc := ⟨.hbm, 95, rfl⟩
abbrev main_v48 : Ref sig .tc := ⟨.hbm, 96, rfl⟩
abbrev main_v49 : Ref sig .tc := ⟨.hbm, 97, rfl⟩
abbrev main_c_28 : Ref sig .tc := ⟨.hbm, 98, rfl⟩
abbrev main_v50 : Ref sig .tc := ⟨.hbm, 99, rfl⟩
abbrev main_v51 : Ref sig .tc := ⟨.hbm, 100, rfl⟩
abbrev main_c_29 : Ref sig .tc := ⟨.hbm, 101, rfl⟩
abbrev main_v52 : Ref sig .tc := ⟨.hbm, 102, rfl⟩
abbrev main_v53 : Ref sig .tc := ⟨.hbm, 103, rfl⟩
abbrev main_c_30 : Ref sig .tc := ⟨.hbm, 104, rfl⟩
abbrev main_v54 : Ref sig .tc := ⟨.hbm, 105, rfl⟩
abbrev main_v55 : Ref sig .tc := ⟨.hbm, 106, rfl⟩
abbrev main_cst_31 : Ref sig .tc := ⟨.hbm, 107, rfl⟩
abbrev main_cst_32 : Ref sig .tc := ⟨.hbm, 108, rfl⟩
abbrev main_call15_v0 : Ref sig .tc := ⟨.hbm, 109, rfl⟩
abbrev main_call15_v1 : Ref sig .tc := ⟨.hbm, 110, rfl⟩
abbrev main_v56 : Ref sig .tc := ⟨.hbm, 111, rfl⟩
abbrev main_cst_33 : Ref sig .tc := ⟨.hbm, 112, rfl⟩
abbrev main_cst_34 : Ref sig .tc := ⟨.hbm, 113, rfl⟩
abbrev main_call16_v0 : Ref sig .tc := ⟨.hbm, 114, rfl⟩
abbrev main_call16_v1 : Ref sig .tc := ⟨.hbm, 115, rfl⟩
abbrev main_v57 : Ref sig .tc := ⟨.hbm, 116, rfl⟩
abbrev main_cst_35 : Ref sig .tc := ⟨.hbm, 117, rfl⟩
abbrev main_cst_36 : Ref sig .tc := ⟨.hbm, 118, rfl⟩
abbrev main_call17_v0 : Ref sig .tc := ⟨.hbm, 119, rfl⟩
abbrev main_call17_v1 : Ref sig .tc := ⟨.hbm, 120, rfl⟩
abbrev main_v58 : Ref sig .tc := ⟨.hbm, 121, rfl⟩
abbrev main_cst_37 : Ref sig .tc := ⟨.hbm, 122, rfl⟩
abbrev main_cst_38 : Ref sig .tc := ⟨.hbm, 123, rfl⟩
abbrev main_call18_v0 : Ref sig .tc := ⟨.hbm, 124, rfl⟩
abbrev main_call18_v1 : Ref sig .tc := ⟨.hbm, 125, rfl⟩
abbrev main_v59 : Ref sig .tc := ⟨.hbm, 126, rfl⟩
abbrev main_cst_39 : Ref sig .tc := ⟨.hbm, 127, rfl⟩
abbrev main_cst_40 : Ref sig .tc := ⟨.hbm, 128, rfl⟩
abbrev main_call19_v0 : Ref sig .tc := ⟨.hbm, 129, rfl⟩
abbrev main_call19_v1 : Ref sig .tc := ⟨.hbm, 130, rfl⟩
abbrev main_v60 : Ref sig .tc := ⟨.hbm, 131, rfl⟩
abbrev main_cst_41 : Ref sig .tc := ⟨.hbm, 132, rfl⟩
abbrev main_cst_42 : Ref sig .tc := ⟨.hbm, 133, rfl⟩
abbrev main_call20_v0 : Ref sig .tc := ⟨.hbm, 134, rfl⟩
abbrev main_call20_v1 : Ref sig .tc := ⟨.hbm, 135, rfl⟩
abbrev main_v61 : Ref sig .tc := ⟨.hbm, 136, rfl⟩
abbrev main_cst_43 : Ref sig .tc := ⟨.hbm, 137, rfl⟩
abbrev main_cst_44 : Ref sig .tc := ⟨.hbm, 138, rfl⟩
abbrev main_call21_v0 : Ref sig .tc := ⟨.hbm, 139, rfl⟩
abbrev main_call21_v1 : Ref sig .tc := ⟨.hbm, 140, rfl⟩
abbrev main_v62 : Ref sig .tc := ⟨.hbm, 141, rfl⟩
abbrev main_cst_45 : Ref sig .tc := ⟨.hbm, 142, rfl⟩
abbrev main_cst_46 : Ref sig .tc := ⟨.hbm, 143, rfl⟩
abbrev main_call22_v0 : Ref sig .tc := ⟨.hbm, 144, rfl⟩
abbrev main_call22_v1 : Ref sig .tc := ⟨.hbm, 145, rfl⟩
abbrev main_v63 : Ref sig .tc := ⟨.hbm, 146, rfl⟩
abbrev main_c_47 : Ref sig .tc := ⟨.hbm, 147, rfl⟩
abbrev main_v64 : Ref sig .tc := ⟨.hbm, 148, rfl⟩
abbrev main_v65 : Ref sig .tc := ⟨.hbm, 149, rfl⟩
abbrev main_c_48 : Ref sig .tc := ⟨.hbm, 150, rfl⟩
abbrev main_v66 : Ref sig .tc := ⟨.hbm, 151, rfl⟩
abbrev main_v67 : Ref sig .tc := ⟨.hbm, 152, rfl⟩
abbrev main_c_49 : Ref sig .tc := ⟨.hbm, 153, rfl⟩
abbrev main_v68 : Ref sig .tc := ⟨.hbm, 154, rfl⟩
abbrev main_v69 : Ref sig .tc := ⟨.hbm, 155, rfl⟩
abbrev main_v70 : Ref sig .tc := ⟨.hbm, 156, rfl⟩
abbrev main_v71 : Ref sig .tc := ⟨.hbm, 157, rfl⟩
abbrev main_v72 : Ref sig .tc := ⟨.hbm, 158, rfl⟩
abbrev main_v73 : Ref sig .tc := ⟨.hbm, 159, rfl⟩
abbrev main_c_50 : Ref sig .tc := ⟨.hbm, 160, rfl⟩
abbrev main_v74 : Ref sig .tc := ⟨.hbm, 161, rfl⟩
abbrev main_v75 : Ref sig .tc := ⟨.hbm, 162, rfl⟩
abbrev main_c_51 : Ref sig .tc := ⟨.hbm, 163, rfl⟩
abbrev main_v76 : Ref sig .tc := ⟨.hbm, 164, rfl⟩
abbrev main_v77 : Ref sig .tc := ⟨.hbm, 165, rfl⟩
abbrev main_c_52 : Ref sig .tc := ⟨.hbm, 166, rfl⟩
abbrev main_v78 : Ref sig .tc := ⟨.hbm, 167, rfl⟩
abbrev main_v79 : Ref sig .tc := ⟨.hbm, 168, rfl⟩
abbrev main_v80 : Ref sig .tc := ⟨.hbm, 169, rfl⟩
abbrev main_v81 : Ref sig .tc := ⟨.hbm, 170, rfl⟩
abbrev main_c_53 : Ref sig .tc := ⟨.hbm, 171, rfl⟩
abbrev main_v82 : Ref sig .tc := ⟨.hbm, 172, rfl⟩
abbrev main_v83 : Ref sig .tc := ⟨.hbm, 173, rfl⟩
abbrev main_c_54 : Ref sig .tc := ⟨.hbm, 174, rfl⟩
abbrev main_v84 : Ref sig .tc := ⟨.hbm, 175, rfl⟩
abbrev main_v85 : Ref sig .tc := ⟨.hbm, 176, rfl⟩
abbrev main_c_55 : Ref sig .tc := ⟨.hbm, 177, rfl⟩
abbrev main_v86 : Ref sig .tc := ⟨.hbm, 178, rfl⟩
abbrev main_v87 : Ref sig .tc := ⟨.hbm, 179, rfl⟩
abbrev main_v88 : Ref sig .tc := ⟨.hbm, 180, rfl⟩
abbrev main_v89 : Ref sig .tc := ⟨.hbm, 181, rfl⟩
abbrev main_v90 : Ref sig .tc := ⟨.hbm, 182, rfl⟩
abbrev main_v91 : Ref sig .tc := ⟨.hbm, 183, rfl⟩
abbrev main_v92 : Ref sig .tc := ⟨.hbm, 184, rfl⟩
abbrev main_v93 : Ref sig .tc := ⟨.hbm, 185, rfl⟩
abbrev main_v94 : Ref sig .tc := ⟨.hbm, 186, rfl⟩
abbrev main_v95 : Ref sig .tc := ⟨.hbm, 187, rfl⟩
abbrev main_v96 : Ref sig .tc := ⟨.hbm, 188, rfl⟩
abbrev main_v97 : Ref sig .tc := ⟨.hbm, 189, rfl⟩
abbrev main_v98 : Ref sig .tc := ⟨.hbm, 190, rfl⟩

abbrev nD : Nat := 1
abbrev τ : Topo := Topo.v7x

variable {F : FTy → Type} [FloatOps F]
-- ==== DequantDown.lean ====
abbrev S3584x9472 : Shape := ⟨2, ![3584, 9472]⟩
abbrev S3584x296 : Shape := ⟨2, ![3584, 296]⟩
abbrev S296x3584 : Shape := ⟨2, ![296, 3584]⟩
abbrev S18944x3584 : Shape := ⟨2, ![18944, 3584]⟩
abbrev S512x256 : Shape := ⟨2, ![512, 256]⟩
abbrev S8x512 : Shape := ⟨2, ![8, 512]⟩
abbrev S512x512 : Shape := ⟨2, ![512, 512]⟩
abbrev S256x512 : Shape := ⟨2, ![256, 512]⟩
abbrev S8x1x512 : Shape := ⟨3, ![8, 1, 512]⟩
abbrev S8x32x512 : Shape := ⟨3, ![8, 32, 512]⟩

abbrev nBuf : Space → Nat
  | .hbm => 4
  | .vmem => 6
  | .smem => 0
  | _ => 0

abbrev bufTy : (tb : Table) → Fin (tcTables nBuf tb) → BufTy
  | .hbm, ⟨0, _⟩ => ⟨S3584x9472, .i8⟩
  | .hbm, ⟨1, _⟩ => ⟨S3584x296, .f32⟩
  | .hbm, ⟨2, _⟩ => ⟨S296x3584, .f32⟩
  | .hbm, ⟨3, _⟩ => ⟨S18944x3584, .bf16⟩
  | .local _ .vmem, ⟨0, _⟩ => ⟨S512x256, .i8⟩
  | .local _ .vmem, ⟨1, _⟩ => ⟨S512x256, .i8⟩
  | .local _ .vmem, ⟨2, _⟩ => ⟨S8x512, .f32⟩
  | .local _ .vmem, ⟨3, _⟩ => ⟨S8x512, .f32⟩
  | .local _ .vmem, ⟨4, _⟩ => ⟨S512x512, .bf16⟩
  | .local _ .vmem, ⟨5, _⟩ => ⟨S512x512, .bf16⟩
  | _, _ => ⟨S3584x9472, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨2, ![7, 37], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DequantDownIdeal.lean ====
variable {F : FTy → Type} [FloatOps F]
-- ==== DequantiseDownIdeal.lean ====
abbrev S3584x9472 : Shape := ⟨2, ![3584, 9472]⟩
abbrev S3584x296 : Shape := ⟨2, ![3584, 296]⟩
abbrev S3584x296x1 : Shape := ⟨3, ![3584, 296, 1]⟩
abbrev S_ : Shape := ⟨0, ![]⟩
abbrev S3584x296x32 : Shape := ⟨3, ![3584, 296, 32]⟩
abbrev S3584x9472x1 : Shape := ⟨3, ![3584, 9472, 1]⟩
abbrev S3584x9472x2 : Shape := ⟨3, ![3584, 9472, 2]⟩
abbrev S3584x18944 : Shape := ⟨2, ![3584, 18944]⟩
abbrev S18944x3584 : Shape := ⟨2, ![18944, 3584]⟩

abbrev nBuf : Space → Nat
  | .hbm => 191
  | .vmem => 0
  | .smem => 0
  | _ => 0

abbrev hbmTy0_0 (i : Nat) : BufTy := match i % 128 with
  | 0 => ⟨S3584x9472, .i8⟩
  | 1 => ⟨S3584x296, .f32⟩
  | 2 => ⟨S3584x296x1, .f32⟩
  | 3 => ⟨S3584x9472, .i32⟩
  | 4 => ⟨S_, .i32⟩
  | 5 => ⟨S3584x9472, .i32⟩
  | 6 => ⟨S3584x9472, .i32⟩
  | 7 => ⟨S_, .i32⟩
  | 8 => ⟨S3584x9472, .i32⟩
  | 9 => ⟨S3584x9472, .i32⟩
  | 10 => ⟨S_, .i32⟩
  | 11 => ⟨S3584x9472, .i32⟩
  | 12 => ⟨S3584x9472, .i32⟩
  | 13 => ⟨S_, .i32⟩
  | 14 => ⟨S3584x9472, .i32⟩
  | 15 => ⟨S3584x9472, .i1⟩
  | 16 => ⟨S_, .f32⟩
  | 17 => ⟨S_, .f32⟩
  | 18 => ⟨S3584x9472, .f32⟩
  | 19 => ⟨S3584x9472, .f32⟩
  | 20 => ⟨S3584x9472, .f32⟩
  | 21 => ⟨S_, .f32⟩
  | 22 => ⟨S_, .f32⟩
  | 23 => ⟨S3584x9472, .f32⟩
  | 24 => ⟨S3584x9472, .f32⟩
  | 25 => ⟨S3584x9472, .f32⟩
  | 26 => ⟨S_, .f32⟩
  | 27 => ⟨S_, .f32⟩
  | 28 => ⟨S3584x9472, .f32⟩
  | 29 => ⟨S3584x9472, .f32⟩
  | 30 => ⟨S3584x9472, .f32⟩
  | 31 => ⟨S_, .f32⟩
  | 32 => ⟨S_, .f32⟩
  | 33 => ⟨S3584x9472, .f32⟩
  | 34 => ⟨S3584x9472, .f32⟩
  | 35 => ⟨S3584x9472, .f32⟩
  | 36 => ⟨S_, .f32⟩
  | 37 => ⟨S_, .f32⟩
  | 38 => ⟨S3584x9472, .f32⟩
  | 39 => ⟨S3584x9472, .f32⟩
  | 40 => ⟨S3584x9472, .f32⟩
  | 41 => ⟨S_, .f32⟩
  | 42 => ⟨S_, .f32⟩
  | 43 => ⟨S3584x9472, .f32⟩
  | 44 => ⟨S3584x9472, .f32⟩
  | 45 => ⟨S3584x9472, .f32⟩
  | 46 => ⟨S_, .f32⟩
  | 47 => ⟨S_, .f32⟩
  | 48 => ⟨S3584x9472, .f32⟩
  | 49 => ⟨S3584x9472, .f32⟩
  | 50 => ⟨S3584x9472, .f32⟩
  | 51 => ⟨S_, .f32⟩
  | 52 => ⟨S_, .f32⟩
  | 53 => ⟨S3584x9472, .f32⟩
  | 54 => ⟨S3584x9472, .f32⟩
  | 55 => ⟨S3584x9472, .f32⟩
  | 56 => ⟨S_, .i32⟩
  | 57 => ⟨S3584x9472, .i32⟩
  | 58 => ⟨S3584x9472, .i32⟩
  | 59 => ⟨S_, .i32⟩
  | 60 => ⟨S3584x9472, .i32⟩
  | 61 => ⟨S3584x9472, .i32⟩
  | 62 => ⟨S_, .i32⟩
  | 63 => ⟨S3584x9472, .i32⟩
  | 64 => ⟨S3584x9472, .i1⟩
  | 65 => ⟨S3584x9472, .f32⟩
  | 66 => ⟨S3584x9472, .f32⟩
  | 67 => ⟨S3584x9472, .f32⟩
  | 68 => ⟨S3584x9472, .f32⟩
  | 69 => ⟨S_, .i32⟩
  | 70 => ⟨S3584x9472, .i32⟩
  | 71 => ⟨S3584x9472, .i32⟩
  | 72 => ⟨S_, .i32⟩
  | 73 => ⟨S3584x9472, .i32⟩
  | 74 => ⟨S3584x9472, .i32⟩
  | 75 => ⟨S_, .i32⟩
  | 76 => ⟨S3584x9472, .i32⟩
  | 77 => ⟨S3584x9472, .i1⟩
  | 78 => ⟨S3584x9472, .f32⟩
  | 79 => ⟨S3584x9472, .f32⟩
  | 80 => ⟨S_, .i32⟩
  | 81 => ⟨S3584x9472, .i32⟩
  | 82 => ⟨S3584x9472, .i32⟩
  | 83 => ⟨S_, .i32⟩
  | 84 => ⟨S3584x9472, .i32⟩
  | 85 => ⟨S3584x9472, .i32⟩
  | 86 => ⟨S_, .i32⟩
  | 87 => ⟨S3584x9472, .i32⟩
  | 88 => ⟨S3584x9472, .i1⟩
  | 89 => ⟨S3584x9472, .f32⟩
  | 90 => ⟨S3584x296x32, .f32⟩
  | 91 => ⟨S3584x296x32, .f32⟩
  | 92 => ⟨S3584x296x32, .f32⟩
  | 93 => ⟨S3584x296x32, .bf16⟩
  | 94 => ⟨S3584x9472, .bf16⟩
  | 95 => ⟨S_, .i32⟩
  | 96 => ⟨S3584x9472, .i32⟩
  | 97 => ⟨S3584x9472, .i32⟩
  | 98 => ⟨S_, .i32⟩
  | 99 => ⟨S3584x9472, .i32⟩
  | 100 => ⟨S3584x9472, .i32⟩
  | 101 => ⟨S_, .i32⟩
  | 102 => ⟨S3584x9472, .i32⟩
  | 103 => ⟨S3584x9472, .i32⟩
  | 104 => ⟨S_, .i32⟩
  | 105 => ⟨S3584x9472, .i32⟩
  | 106 => ⟨S3584x9472, .i1⟩
  | 107 => ⟨S_, .f32⟩
  | 108 => ⟨S_, .f32⟩
  | 109 => ⟨S3584x9472, .f32⟩
  | 110 => ⟨S3584x9472, .f32⟩
  | 111 => ⟨S3584x9472, .f32⟩
  | 112 => ⟨S_, .f32⟩
  | 113 => ⟨S_, .f32⟩
  | 114 => ⟨S3584x9472, .f32⟩
  | 115 => ⟨S3584x9472, .f32⟩
  | 116 => ⟨S3584x9472, .f32⟩
  | 117 => ⟨S_, .f32⟩
  | 118 => ⟨S_, .f32⟩
  | 119 => ⟨S3584x9472, .f32⟩
  | 120 => ⟨S3584x9472, .f32⟩
  | 121 => ⟨S3584x9472, .f32⟩
  | 122 => ⟨S_, .f32⟩
  | 123 => ⟨S_, .f32⟩
  | 124 => ⟨S3584x9472, .f32⟩
  | 125 => ⟨S3584x9472, .f32⟩
  | 126 => ⟨S3584x9472, .f32⟩
  | 127 => ⟨S_, .f32⟩
  | _ => ⟨S3584x9472, .i8⟩

abbrev hbmTy0_1 (i : Nat) : BufTy := match i % 128 with
  | 0 => ⟨S_, .f32⟩
  | 1 => ⟨S3584x9472, .f32⟩
  | 2 => ⟨S3584x9472, .f32⟩
  | 3 => ⟨S3584x9472, .f32⟩
  | 4 => ⟨S_, .f32⟩
  | 5 => ⟨S_, .f32⟩
  | 6 => ⟨S3584x9472, .f32⟩
  | 7 => ⟨S3584x9472, .f32⟩
  | 8 => ⟨S3584x9472, .f32⟩
  | 9 => ⟨S_, .f32⟩
  | 10 => ⟨S_, .f32⟩
  | 11 => ⟨S3584x9472, .f32⟩
  | 12 => ⟨S3584x9472, .f32⟩
  | 13 => ⟨S3584x9472, .f32⟩
  | 14 => ⟨S_, .f32⟩
  | 15 => ⟨S_, .f32⟩
  | 16 => ⟨S3584x9472, .f32⟩
  | 17 => ⟨S3584x9472, .f32⟩
  | 18 => ⟨S3584x9472, .f32⟩
  | 19 => ⟨S_, .i32⟩
  | 20 => ⟨S3584x9472, .i32⟩
  | 21 => ⟨S3584x9472, .i32⟩
  | 22 => ⟨S_, .i32⟩
  | 23 => ⟨S3584x9472, .i32⟩
  | 24 => ⟨S3584x9472, .i32⟩
  | 25 => ⟨S_, .i32⟩
  | 26 => ⟨S3584x9472, .i32⟩
  | 27 => ⟨S3584x9472, .i1⟩
  | 28 => ⟨S3584x9472, .f32⟩
  | 29 => ⟨S3584x9472, .f32⟩
  | 30 => ⟨S3584x9472, .f32⟩
  | 31 => ⟨S3584x9472, .f32⟩
  | 32 => ⟨S_, .i32⟩
  | 33 => ⟨S3584x9472, .i32⟩
  | 34 => ⟨S3584x9472, .i32⟩
  | 35 => ⟨S_, .i32⟩
  | 36 => ⟨S3584x9472, .i32⟩
  | 37 => ⟨S3584x9472, .i32⟩
  | 38 => ⟨S_, .i32⟩
  | 39 => ⟨S3584x9472, .i32⟩
  | 40 => ⟨S3584x9472, .i1⟩
  | 41 => ⟨S3584x9472, .f32⟩
  | 42 => ⟨S3584x9472, .f32⟩
  | 43 => ⟨S_, .i32⟩
  | 44 => ⟨S3584x9472, .i32⟩
  | 45 => ⟨S3584x9472, .i32⟩
  | 46 => ⟨S_, .i32⟩
  | 47 => ⟨S3584x9472, .i32⟩
  | 48 => ⟨S3584x9472, .i32⟩
  | 49 => ⟨S_, .i32⟩
  | 50 => ⟨S3584x9472, .i32⟩
  | 51 => ⟨S3584x9472, .i1⟩
  | 52 => ⟨S3584x9472, .f32⟩
  | 53 => ⟨S3584x296x32, .f32⟩
  | 54 => ⟨S3584x296x32, .f32⟩
  | 55 => ⟨S3584x296x32, .f32⟩
  | 56 => ⟨S3584x296x32, .bf16⟩
  | 57 => ⟨S3584x9472, .bf16⟩
  | 58 => ⟨S3584x9472x1, .bf16⟩
  | 59 => ⟨S3584x9472x1, .bf16⟩
  | 60 => ⟨S3584x9472x2, .bf16⟩
  | 61 => ⟨S3584x18944, .bf16⟩
  | 62 => ⟨S18944x3584, .bf16⟩
  | _ => ⟨S3584x9472, .i8⟩

abbrev hbmTy (i : Nat) : BufTy := match i / 128 with
  | 0 => hbmTy0_0 i
  | 1 => hbmTy0_1 i
  | _ => ⟨S3584x9472, .i8⟩

abbrev bufTy : (tb : Table) → Fin (tcTables nBuf tb) → BufTy
  | .hbm, ⟨i, _⟩ => hbmTy i
  | _, _ => ⟨S3584x9472, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_cst_3 : Ref sig .tc := ⟨.hbm, 17, rfl⟩
abbrev main_call0_v0 : Ref sig .tc := ⟨.hbm, 18, rfl⟩
abbrev main_call0_v1 : Ref sig .tc := ⟨.hbm, 19, rfl⟩
abbrev main_v10 : Ref sig .tc := ⟨.hbm, 20, rfl⟩
abbrev main_cst_4 : Ref sig .tc := ⟨.hbm, 21, rfl⟩
abbrev main_cst_5 : Ref sig .tc := ⟨.hbm, 22, rfl⟩
abbrev main_call1_v0 : Ref sig .tc := ⟨.hbm, 23, rfl⟩
abbrev main_call1_v1 : Ref sig .tc := ⟨.hbm, 24, rfl⟩
abbrev main_v11 : Ref sig .tc := ⟨.hbm, 25, rfl⟩
abbrev main_cst_6 : Ref sig .tc := ⟨.hbm, 26, rfl⟩
abbrev main_cst_7 : Ref sig .tc := ⟨.hbm, 27, rfl⟩
abbrev main_call2_v0 : Ref sig .tc := ⟨.hbm, 28, rfl⟩
abbrev main_call2_v1 : Ref sig .tc := ⟨.hbm, 29, rfl⟩
abbrev main_v12 : Ref sig .tc := ⟨.hbm, 30, rfl⟩
abbrev main_cst_8 : Ref sig .tc := ⟨.hbm, 31, rfl⟩
abbrev main_cst_9 : Ref sig .tc := ⟨.hbm, 32, rfl⟩
abbrev main_call3_v0 : Ref sig .tc := ⟨.hbm, 33, rfl⟩
abbrev main_call3_v1 : Ref sig .tc := ⟨.hbm, 34, rfl⟩
abbrev main_v13 : Ref sig .tc := ⟨.hbm, 35, rfl⟩
abbrev main_cst_10 : Ref sig .tc := ⟨.hbm, 36, rfl⟩
abbrev main_cst_11 : Ref sig .tc := ⟨.hbm, 37, rfl⟩
abbrev main_call4_v0 : Ref sig .tc := ⟨.hbm, 38, rfl⟩
abbrev main_call4_v1 : Ref sig .tc := ⟨.hbm, 39, rfl⟩
abbrev main_v14 : Ref sig .tc := ⟨.hbm, 40, rfl⟩
abbrev main_cst_12 : Ref sig .tc := ⟨.hbm, 41, rfl⟩
abbrev main_cst_13 : Ref sig .tc := ⟨.hbm, 42, rfl⟩
abbrev main_call5_v0 : Ref sig .tc := ⟨.hbm, 43, rfl⟩
abbrev main_call5_v1 : Ref sig .tc := ⟨.hbm, 44, rfl⟩
abbrev main_v15 : Ref sig .tc := ⟨.hbm, 45, rfl⟩
abbrev main_cst_14 : Ref sig .tc := ⟨.hbm, 46, rfl⟩
abbrev main_cst_15 : Ref sig .tc := ⟨.hbm, 47, rfl⟩
abbrev main_call6_v0 : Ref sig .tc := ⟨.hbm, 48, rfl⟩
abbrev main_call6_v1 : Ref sig .tc := ⟨.hbm, 49, rfl⟩
abbrev main_v16 : Ref sig .tc := ⟨.hbm, 50, rfl⟩
abbrev main_cst_16 : Ref sig .tc := ⟨.hbm, 51, rfl⟩
abbrev main_cst_17 : Ref sig .tc := ⟨.hbm, 52, rfl⟩
abbrev main_call7_v0 : Ref sig .tc := ⟨.hbm, 53, rfl⟩
abbrev main_call7_v1 : Ref sig .tc := ⟨.hbm, 54, rfl⟩
abbrev main_v17 : Ref sig .tc := ⟨.hbm, 55, rfl⟩
abbrev main_c_18 : Ref sig .tc := ⟨.hbm, 56, rfl⟩
abbrev main_v18 : Ref sig .tc := ⟨.hbm, 57, rfl⟩
abbrev main_v19 : Ref sig .tc := ⟨.hbm, 58, rfl⟩
abbrev main_c_19 : Ref sig .tc := ⟨.hbm, 59, rfl⟩
abbrev main_v20 : Ref sig .tc := ⟨.hbm, 60, rfl⟩
abbrev main_v21 : Ref sig .tc := ⟨.hbm, 61, rfl⟩
abbrev main_c_20 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_c_21 : Ref sig .tc := ⟨.hbm, 69, rfl⟩
abbrev main_v28 : Ref sig .tc := ⟨.hbm, 70, rfl⟩
abbrev main_v29 : Ref sig .tc := ⟨.hbm, 71, rfl⟩
abbrev main_c_22 : Ref sig .tc := ⟨.hbm, 72, rfl⟩
abbrev main_v30 : Ref sig .tc := ⟨.hbm, 73, rfl⟩
abbrev main_v31 : Ref sig .tc := ⟨.hbm, 74, rfl⟩
abbrev main_c_23 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_c_24 : Ref sig .tc := ⟨.hbm, 80, rfl⟩
abbrev main_v36 : Ref sig .tc := ⟨.hbm, 81, rfl⟩
abbrev main_v37 : Ref sig .tc := ⟨.hbm, 82, rfl⟩
abbrev main_c_25 : Ref sig .tc := ⟨.hbm, 83, rfl⟩
abbrev main_v38 : Ref sig .tc := ⟨.hbm, 84, rfl⟩
abbrev main_v39 : Ref sig .tc := ⟨.hbm, 85, rfl⟩
abbrev main_c_26 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_c_27 : Ref sig .tc := ⟨.hbm, 95, rfl⟩
abbrev main_v48 : Ref sig .tc := ⟨.hbm, 96, rfl⟩
abbrev main_v49 : Ref sig .tc := ⟨.hbm, 97, rfl⟩
abbrev main_c_28 : Ref sig .tc := ⟨.hbm, 98, rfl⟩
abbrev main_v50 : Ref sig .tc := ⟨.hbm, 99, rfl⟩
abbrev main_v51 : Ref sig .tc := ⟨.hbm, 100, rfl⟩
abbrev main_c_29 : Ref sig .tc := ⟨.hbm, 101, rfl⟩
abbrev main_v52 : Ref sig .tc := ⟨.hbm, 102, rfl⟩
abbrev main_v53 : Ref sig .tc := ⟨.hbm, 103, rfl⟩
abbrev main_c_30 : Ref sig .tc := ⟨.hbm, 104, rfl⟩
abbrev main_v54 : Ref sig .tc := ⟨.hbm, 105, rfl⟩
abbrev main_v55 : Ref sig .tc := ⟨.hbm, 106, rfl⟩
abbrev main_cst_31 : Ref sig .tc := ⟨.hbm, 107, rfl⟩
abbrev main_cst_32 : Ref sig .tc := ⟨.hbm, 108, rfl⟩
abbrev main_call15_v0 : Ref sig .tc := ⟨.hbm, 109, rfl⟩
abbrev main_call15_v1 : Ref sig .tc := ⟨.hbm, 110, rfl⟩
abbrev main_v56 : Ref sig .tc := ⟨.hbm, 111, rfl⟩
abbrev main_cst_33 : Ref sig .tc := ⟨.hbm, 112, rfl⟩
abbrev main_cst_34 : Ref sig .tc := ⟨.hbm, 113, rfl⟩
abbrev main_call16_v0 : Ref sig .tc := ⟨.hbm, 114, rfl⟩
abbrev main_call16_v1 : Ref sig .tc := ⟨.hbm, 115, rfl⟩
abbrev main_v57 : Ref sig .tc := ⟨.hbm, 116, rfl⟩
abbrev main_cst_35 : Ref sig .tc := ⟨.hbm, 117, rfl⟩
abbrev main_cst_36 : Ref sig .tc := ⟨.hbm, 118, rfl⟩
abbrev main_call17_v0 : Ref sig .tc := ⟨.hbm, 119, rfl⟩
abbrev main_call17_v1 : Ref sig .tc := ⟨.hbm, 120, rfl⟩
abbrev main_v58 : Ref sig .tc := ⟨.hbm, 121, rfl⟩
abbrev main_cst_37 : Ref sig .tc := ⟨.hbm, 122, rfl⟩
abbrev main_cst_38 : Ref sig .tc := ⟨.hbm, 123, rfl⟩
abbrev main_call18_v0 : Ref sig .tc := ⟨.hbm, 124, rfl⟩
abbrev main_call18_v1 : Ref sig .tc := ⟨.hbm, 125, rfl⟩
abbrev main_v59 : Ref sig .tc := ⟨.hbm, 126, rfl⟩
abbrev main_cst_39 : Ref sig .tc := ⟨.hbm, 127, rfl⟩
abbrev main_cst_40 : Ref sig .tc := ⟨.hbm, 128, rfl⟩
abbrev main_call19_v0 : Ref sig .tc := ⟨.hbm, 129, rfl⟩
abbrev main_call19_v1 : Ref sig .tc := ⟨.hbm, 130, rfl⟩
abbrev main_v60 : Ref sig .tc := ⟨.hbm, 131, rfl⟩
abbrev main_cst_41 : Ref sig .tc := ⟨.hbm, 132, rfl⟩
abbrev main_cst_42 : Ref sig .tc := ⟨.hbm, 133, rfl⟩
abbrev main_call20_v0 : Ref sig .tc := ⟨.hbm, 134, rfl⟩
abbrev main_call20_v1 : Ref sig .tc := ⟨.hbm, 135, rfl⟩
abbrev main_v61 : Ref sig .tc := ⟨.hbm, 136, rfl⟩
abbrev main_cst_43 : Ref sig .tc := ⟨.hbm, 137, rfl⟩
abbrev main_cst_44 : Ref sig .tc := ⟨.hbm, 138, rfl⟩
abbrev main_call21_v0 : Ref sig .tc := ⟨.hbm, 139, rfl⟩
abbrev main_call21_v1 : Ref sig .tc := ⟨.hbm, 140, rfl⟩
abbrev main_v62 : Ref sig .tc := ⟨.hbm, 141, rfl⟩
abbrev main_cst_45 : Ref sig .tc := ⟨.hbm, 142, rfl⟩
abbrev main_cst_46 : Ref sig .tc := ⟨.hbm, 143, rfl⟩
abbrev main_call22_v0 : Ref sig .tc := ⟨.hbm, 144, rfl⟩
abbrev main_call22_v1 : Ref sig .tc := ⟨.hbm, 145, rfl⟩
abbrev main_v63 : Ref sig .tc := ⟨.hbm, 146, rfl⟩
abbrev main_c_47 : Ref sig .tc := ⟨.hbm, 147, rfl⟩
abbrev main_v64 : Ref sig .tc := ⟨.hbm, 148, rfl⟩
abbrev main_v65 : Ref sig .tc := ⟨.hbm, 149, rfl⟩
abbrev main_c_48 : Ref sig .tc := ⟨.hbm, 150, rfl⟩
abbrev main_v66 : Ref sig .tc := ⟨.hbm, 151, rfl⟩
abbrev main_v67 : Ref sig .tc := ⟨.hbm, 152, rfl⟩
abbrev main_c_49 : Ref sig .tc := ⟨.hbm, 153, rfl⟩
abbrev main_v68 : Ref sig .tc := ⟨.hbm, 154, rfl⟩
abbrev main_v69 : Ref sig .tc := ⟨.hbm, 155, rfl⟩
abbrev main_v70 : Ref sig .tc := ⟨.hbm, 156, rfl⟩
abbrev main_v71 : Ref sig .tc := ⟨.hbm, 157, rfl⟩
abbrev main_v72 : Ref sig .tc := ⟨.hbm, 158, rfl⟩
abbrev main_v73 : Ref sig .tc := ⟨.hbm, 159, rfl⟩
abbrev main_c_50 : Ref sig .tc := ⟨.hbm, 160, rfl⟩
abbrev main_v74 : Ref sig .tc := ⟨.hbm, 161, rfl⟩
abbrev main_v75 : Ref sig .tc := ⟨.hbm, 162, rfl⟩
abbrev main_c_51 : Ref sig .tc := ⟨.hbm, 163, rfl⟩
abbrev main_v76 : Ref sig .tc := ⟨.hbm, 164, rfl⟩
abbrev main_v77 : Ref sig .tc := ⟨.hbm, 165, rfl⟩
abbrev main_c_52 : Ref sig .tc := ⟨.hbm, 166, rfl⟩
abbrev main_v78 : Ref sig .tc := ⟨.hbm, 167, rfl⟩
abbrev main_v79 : Ref sig .tc := ⟨.hbm, 168, rfl⟩
abbrev main_v80 : Ref sig .tc := ⟨.hbm, 169, rfl⟩
abbrev main_v81 : Ref sig .tc := ⟨.hbm, 170, rfl⟩
abbrev main_c_53 : Ref sig .tc := ⟨.hbm, 171, rfl⟩
abbrev main_v82 : Ref sig .tc := ⟨.hbm, 172, rfl⟩
abbrev main_v83 : Ref sig .tc := ⟨.hbm, 173, rfl⟩
abbrev main_c_54 : Ref sig .tc := ⟨.hbm, 174, rfl⟩
abbrev main_v84 : Ref sig .tc := ⟨.hbm, 175, rfl⟩
abbrev main_v85 : Ref sig .tc := ⟨.hbm, 176, rfl⟩
abbrev main_c_55 : Ref sig .tc := ⟨.hbm, 177, rfl⟩
abbrev main_v86 : Ref sig .tc := ⟨.hbm, 178, rfl⟩
abbrev main_v87 : Ref sig .tc := ⟨.hbm, 179, rfl⟩
abbrev main_v88 : Ref sig .tc := ⟨.hbm, 180, rfl⟩
abbrev main_v89 : Ref sig .tc := ⟨.hbm, 181, rfl⟩
abbrev main_v90 : Ref sig .tc := ⟨.hbm, 182, rfl⟩
abbrev main_v91 : Ref sig .tc := ⟨.hbm, 183, rfl⟩
abbrev main_v92 : Ref sig .tc := ⟨.hbm, 184, rfl⟩
abbrev main_v93 : Ref sig .tc := ⟨.hbm, 185, rfl⟩
abbrev main_v94 : Ref sig .tc := ⟨.hbm, 186, rfl⟩
abbrev main_v95 : Ref sig .tc := ⟨.hbm, 187, rfl⟩
abbrev main_v96 : Ref sig .tc := ⟨.hbm, 188, rfl⟩
abbrev main_v97 : Ref sig .tc := ⟨.hbm, 189, rfl⟩
abbrev main_v98 : Ref sig .tc := ⟨.hbm, 190, rfl⟩

abbrev nD : Nat := 1
abbrev τ : Topo := Topo.v7x

variable {F : FTy → Type} [FloatOps F]
-- ==== Absmax.lean ====
abbrev S18944x56 : Shape := ⟨2, ![18944, 56]⟩
abbrev S4144 : Shape := ⟨1, ![4144]⟩
abbrev S1 : Shape := ⟨1, ![1]⟩
abbrev S4144x256 : Shape := ⟨2, ![4144, 256]⟩
abbrev S4144x1 : Shape := ⟨2, ![4144, 1]⟩
abbrev S1x1 : Shape := ⟨2, ![1, 1]⟩
abbrev S56x18944 : Shape := ⟨2, ![56, 18944]⟩

abbrev nBuf : Space → Nat
  | .hbm => 9
  | .vmem => 3
  | .smem => 1
  | _ => 0

abbrev bufTy : (tb : Table) → Fin (tcTables nBuf tb) → BufTy
  | .hbm, ⟨0, _⟩ => ⟨S18944x56, .fp8e4m3⟩
  | .hbm, ⟨1, _⟩ => ⟨S4144, .f32⟩
  | .hbm, ⟨2, _⟩ => ⟨S1, .f32⟩
  | .hbm, ⟨3, _⟩ => ⟨S4144x256, .fp8e4m3⟩
  | .hbm, ⟨4, _⟩ => ⟨S4144x1, .f32⟩
  | .hbm, ⟨5, _⟩ => ⟨S1x1, .f32⟩
  | .hbm, ⟨6, _⟩ => ⟨S4144x256, .f32⟩
  | .hbm, ⟨7, _⟩ => ⟨S18944x56, .f32⟩
  | .hbm, ⟨8, _⟩ => ⟨S56x18944, .f32⟩
  | .local _ .vmem, ⟨0, _⟩ => ⟨S4144x256, .fp8e4m3⟩
  | .local _ .vmem, ⟨1, _⟩ => ⟨S4144x1, .f32⟩
  | .local _ .vmem, ⟨2, _⟩ => ⟨S4144x256, .f32⟩
  | .local _ .smem, ⟨0, _⟩ => ⟨S1x1, .f32⟩
  | _, _ => ⟨S18944x56, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4144x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4144x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4144x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== AbsmaxIdeal.lean ====
abbrev S18944x56 : Shape := ⟨2, ![18944, 56]⟩
abbrev S4144 : Shape := ⟨1, ![4144]⟩
abbrev S1 : Shape := ⟨1, ![1]⟩
abbrev S4144x256 : Shape := ⟨2, ![4144, 256]⟩
abbrev S4144x1 : Shape := ⟨2, ![4144, 1]⟩
abbrev S1x1 : Shape := ⟨2, ![1, 1]⟩
abbrev S56x18944 : Shape := ⟨2, ![56, 18944]⟩

abbrev nBuf : Space → Nat
  | .hbm => 9
  | .vmem => 3
  | .smem => 1
  | _ => 0

abbrev bufTy : (tb : Table) → Fin (tcTables nBuf tb) → BufTy
  | .hbm, ⟨0, _⟩ => ⟨S18944x56, .fp8e4m3⟩
  | .hbm, ⟨1, _⟩ => ⟨S4144, .f32⟩
  | .hbm, ⟨2, _⟩ => ⟨S1, .f32⟩
  | .hbm, ⟨3, _⟩ => ⟨S4144x256, .fp8e4m3⟩
  | .hbm, ⟨4, _⟩ => ⟨S4144x1, .f32⟩
  | .hbm, ⟨5, _⟩ => ⟨S1x1, .f32⟩
  | .hbm, ⟨6, _⟩ => ⟨S4144x256, .f32⟩
  | .hbm, ⟨7, _⟩ => ⟨S18944x56, .f32⟩
  | .hbm, ⟨8, _⟩ => ⟨S56x18944, .f32⟩
  | .local _ .vmem, ⟨0, _⟩ => ⟨S4144x256, .fp8e4m3⟩
  | .local _ .vmem, ⟨1, _⟩ => ⟨S4144x1, .f32⟩
  | .local _ .vmem, ⟨2, _⟩ => ⟨S4144x256, .f32⟩
  | .local _ .smem, ⟨0, _⟩ => ⟨S1x1, .f32⟩
  | _, _ => ⟨S18944x56, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4144x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4144x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4144x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== BlockScalesIdeal.lean ====
abbrev S18944x56 : Shape := ⟨2, ![18944, 56]⟩
abbrev S4144 : Shape := ⟨1, ![4144]⟩
abbrev S1 : Shape := ⟨1, ![1]⟩
abbrev S4144x256 : Shape := ⟨2, ![4144, 256]⟩
abbrev S4144x1 : Shape := ⟨2, ![4144, 1]⟩
abbrev S1x1 : Shape := ⟨2, ![1, 1]⟩
abbrev S56x18944 : Shape := ⟨2, ![56, 18944]⟩

abbrev nBuf : Space → Nat
  | .hbm => 13
  | .vmem => 2
  | .smem => 0
  | _ => 0

abbrev bufTy : (tb : Table) → Fin (tcTables nBuf tb) → BufTy
  | .hbm, ⟨0, _⟩ => ⟨S18944x56, .fp8e4m3⟩
  | .hbm, ⟨1, _⟩ => ⟨S4144, .f32⟩
  | .hbm, ⟨2, _⟩ => ⟨S1, .f32⟩
  | .hbm, ⟨3, _⟩ => ⟨S18944x56, .f32⟩
  | .hbm, ⟨4, _⟩ => ⟨S4144x256, .f32⟩
  | .hbm, ⟨5, _⟩ => ⟨S4144x1, .f32⟩
  | .hbm, ⟨6, _⟩ => ⟨S4144x256, .f32⟩
  | .hbm, ⟨7, _⟩ => ⟨S4144x256, .f32⟩
  | .hbm, ⟨8, _⟩ => ⟨S1x1, .f32⟩
  | .hbm, ⟨9, _⟩ => ⟨S4144x256, .f32⟩
  | .hbm, ⟨10, _⟩ => ⟨S4144x256, .f32⟩
  | .hbm, ⟨11, _⟩ => ⟨S18944x56, .f32⟩
  | .hbm, ⟨12, _⟩ => ⟨S56x18944, .f32⟩
  | .local _ .vmem, ⟨0, _⟩ => ⟨S18944x56, .fp8e4m3⟩
  | .local _ .vmem, ⟨1, _⟩ => ⟨S18944x56, .f32⟩
  | _, _ => ⟨S18944x56, .fp8e4m3⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S18944x56 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18944x56 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== AbsmaxDown.lean ====
abbrev S3584x296 : Shape := ⟨2, ![3584, 296]⟩
abbrev S4144 : Shape := ⟨1, ![4144]⟩
abbrev S1 : Shape := ⟨1, ![1]⟩
abbrev S4144x256 : Shape := ⟨2, ![4144, 256]⟩
abbrev S4144x1 : Shape := ⟨2, ![4144, 1]⟩
abbrev S1x1 : Shape := ⟨2, ![1, 1]⟩
abbrev S296x3584 : Shape := ⟨2, ![296, 3584]⟩

abbrev nBuf : Space → Nat
  | .hbm => 9
  | .vmem => 3
  | .smem => 1
  | _ => 0

abbrev bufTy : (tb : Table) → Fin (tcTables nBuf tb) → BufTy
  | .hbm, ⟨0, _⟩ => ⟨S3584x296, .fp8e4m3⟩
  | .hbm, ⟨1, _⟩ => ⟨S4144, .f32⟩
  | .hbm, ⟨2, _⟩ => ⟨S1, .f32⟩
  | .hbm, ⟨3, _⟩ => ⟨S4144x256, .fp8e4m3⟩
  | .hbm, ⟨4, _⟩ => ⟨S4144x1, .f32⟩
  | .hbm, ⟨5, _⟩ => ⟨S1x1, .f32⟩
  | .hbm, ⟨6, _⟩ => ⟨S4144x256, .f32⟩
  | .hbm, ⟨7, _⟩ => ⟨S3584x296, .f32⟩
  | .hbm, ⟨8, _⟩ => ⟨S296x3584, .f32⟩
  | .local _ .vmem, ⟨0, _⟩ => ⟨S4144x256, .fp8e4m3⟩
  | .local _ .vmem, ⟨1, _⟩ => ⟨S4144x1, .f32⟩
  | .local _ .vmem, ⟨2, _⟩ => ⟨S4144x256, .f32⟩
  | .local _ .smem, ⟨0, _⟩ => ⟨S1x1, .f32⟩
  | _, _ => ⟨S3584x296, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4144x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4144x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4144x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== BlockScalesDownIdeal.lean ====
abbrev S3584x296 : Shape := ⟨2, ![3584, 296]⟩
abbrev S4144 : Shape := ⟨1, ![4144]⟩
abbrev S1 : Shape := ⟨1, ![1]⟩
abbrev S4144x256 : Shape := ⟨2, ![4144, 256]⟩
abbrev S4144x1 : Shape := ⟨2, ![4144, 1]⟩
abbrev S1x1 : Shape := ⟨2, ![1, 1]⟩
abbrev S296x3584 : Shape := ⟨2, ![296, 3584]⟩

abbrev nBuf : Space → Nat
  | .hbm => 13
  | .vmem => 2
  | .smem => 0
  | _ => 0

abbrev bufTy : (tb : Table) → Fin (tcTables nBuf tb) → BufTy
  | .hbm, ⟨0, _⟩ => ⟨S3584x296, .fp8e4m3⟩
  | .hbm, ⟨1, _⟩ => ⟨S4144, .f32⟩
  | .hbm, ⟨2, _⟩ => ⟨S1, .f32⟩
  | .hbm, ⟨3, _⟩ => ⟨S3584x296, .f32⟩
  | .hbm, ⟨4, _⟩ => ⟨S4144x256, .f32⟩
  | .hbm, ⟨5, _⟩ => ⟨S4144x1, .f32⟩
  | .hbm, ⟨6, _⟩ => ⟨S4144x256, .f32⟩
  | .hbm, ⟨7, _⟩ => ⟨S4144x256, .f32⟩
  | .hbm, ⟨8, _⟩ => ⟨S1x1, .f32⟩
  | .hbm, ⟨9, _⟩ => ⟨S4144x256, .f32⟩
  | .hbm, ⟨10, _⟩ => ⟨S4144x256, .f32⟩
  | .hbm, ⟨11, _⟩ => ⟨S3584x296, .f32⟩
  | .hbm, ⟨12, _⟩ => ⟨S296x3584, .f32⟩
  | .local _ .vmem, ⟨0, _⟩ => ⟨S3584x296, .fp8e4m3⟩
  | .local _ .vmem, ⟨1, _⟩ => ⟨S3584x296, .f32⟩
  | _, _ => ⟨S3584x296, .fp8e4m3⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S3584x296 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x296 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KI.Hosts.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.DatRel
public import Idealize.ShloMosaic.Lib.Pipeline.ArrRel

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9, main_arg10, main_arg11]

theorem hostOps0_fresh : (hostOps0 : List (HloOp τ sig (Elt F))).Forall fun op => op.fresh = ∅ := by
  simp only [List.Forall]; repeat' constructor
abbrev hostOps0_W : List (Ref sig .tc) := [main_v0, main_v1, main_v2, main_v3, main_c]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps0_1_fresh : (hostOps0_1 : List (HloOp τ sig (Elt F))).Forall fun op => op.fresh = ∅ := by
  simp only [List.Forall]; repeat' constructor
abbrev hostOps0_1_W : List (Ref sig .tc) := [main_call0_v0, main_v4]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_1_args : ∀ a ∈ argRefs, a ∉ hostOps0_1_W := ListAll.forall_mem_of_all_decide (by decide +kernel)

theorem hostOps0_2_fresh : (hostOps0_2 : List (HloOp τ sig (Elt F))).Forall fun op => op.fresh = ∅ := by
  simp only [List.Forall]; repeat' constructor
abbrev hostOps0_2_W : List (Ref sig .tc) := [main_v5, main_c_0]
theorem hostOps0_2_writes : (hostOps0_2 : List (HloOp τ sig (Elt F))).Forall fun op => op.writes ⊆ (hostOps0_2_W.map (Proc.devRef (τ := τ) .tc)).toFinset :=
  StableHlo.forall_writes_sub_of_map rfl
theorem hostOps0_2_args : ∀ a ∈ argRefs, a ∉ hostOps0_2_W := ListAll.forall_mem_of_all_decide (by decide +kernel)

theorem hostOps0_3_fresh : (hostOps0_3 : List (HloOp τ sig (Elt F))).Forall fun op => op.fresh = ∅ := by
  simp only [List.Forall]; repeat' constructor
abbrev hostOps0_3_W : List (Ref sig .tc) := [main_call1_v0, main_v6]
theorem hostOps0_3_writes : (hostOps0_3 : List (HloOp τ sig (Elt F))).Forall fun op => op.writes ⊆ (hostOps0_3_W.map (Proc.devRef (τ := τ) .tc)).toFinset :=
  StableHlo.forall_writes_sub_of_map rfl
theorem hostOps0_3_args : ∀ a ∈ argRefs, a ∉ hostOps0_3_W := ListAll.forall_mem_of_all_decide (by decide +kernel)

theorem hostOps0_4_fresh : (hostOps0_4 : List (HloOp τ sig (Elt F))).Forall fun op => op.fresh = ∅ := by
  simp only [List.Forall]; repeat' constructor
abbrev hostOps0_4_W : List (Ref sig .tc) := [main_v7]
theorem hostOps0_4_writes : (hostOps0_4 : List (HloOp τ sig (Elt F))).Forall fun op => op.writes ⊆ (hostOps0_4_W.map (Proc.devRef (τ := τ) .tc)).toFinset :=
  StableHlo.forall_writes_sub_of_map rfl
theorem hostOps0_4_args : ∀ a ∈ argRefs, a ∉ hostOps0_4_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v9, main_c_1]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps1_1_fresh : (hostOps1_1 : List (HloOp τ sig (Elt F))).Forall fun op => op.fresh = ∅ := by
  simp only [List.Forall]; repeat' constructor
abbrev hostOps1_1_W : List (Ref sig .tc) := [main_call2_v0, main_v10]
theorem hostOps1_1_writes : (hostOps1_1 : List (HloOp τ sig (Elt F))).Forall fun op => op.writes ⊆ (hostOps1_1_W.map (Proc.devRef (τ := τ) .tc)).toFinset :=
  StableHlo.forall_writes_sub_of_map rfl
theorem hostOps1_1_args : ∀ a ∈ argRefs, a ∉ hostOps1_1_W := ListAll.forall_mem_of_all_decide (by decide +kernel)

theorem hostOps1_2_fresh : (hostOps1_2 : List (HloOp τ sig (Elt F))).Forall fun op => op.fresh = ∅ := by
  simp only [List.Forall]; repeat' constructor
abbrev hostOps1_2_W : List (Ref sig .tc) := [main_v11, main_c_2]
theorem hostOps1_2_writes : (hostOps1_2 : List (HloOp τ sig (Elt F))).Forall fun op => op.writes ⊆ (hostOps1_2_W.map (Proc.devRef (τ := τ) .tc)).toFinset :=
  StableHlo.forall_writes_sub_of_map rfl
theorem hostOps1_2_args : ∀ a ∈ argRefs, a ∉ hostOps1_2_W := ListAll.forall_mem_of_all_decide (by decide +kernel)

theorem hostOps1_3_fresh : (hostOps1_3 : List (HloOp τ sig (Elt F))).Forall fun op => op.fresh = ∅ := by
  simp only [List.Forall]; repeat' constructor
abbrev hostOps1_3_W : List (Ref sig .tc) := [main_call3_v0, main_v12]
theorem hostOps1_3_writes : (hostOps1_3 : List (HloOp τ sig (Elt F))).Forall fun op => op.writes ⊆ (hostOps1_3_W.map (Proc.devRef (τ := τ) .tc)).toFinset :=
  StableHlo.forall_writes_sub_of_map rfl
theorem hostOps1_3_args : ∀ a ∈ argRefs, a ∉ hostOps1_3_W := ListAll.forall_mem_of_all_decide (by decide +kernel)

theorem hostOps1_4_fresh : (hostOps1_4 : List (HloOp τ sig (Elt F))).Forall fun op => op.fresh = ∅ := by
  simp only [List.Forall]; repeat' constructor
abbrev hostOps1_4_W : List (Ref sig .tc) := [main_c_3]
theorem hostOps1_4_writes : (hostOps1_4 : List (HloOp τ sig (Elt F))).Forall fun op => op.writes ⊆ (hostOps1_4_W.map (Proc.devRef (τ := τ) .tc)).toFinset :=
  StableHlo.forall_writes_sub_of_map rfl
theorem hostOps1_4_args : ∀ a ∈ argRefs, a ∉ hostOps1_4_W := ListAll.forall_mem_of_all_decide (by decide +kernel)

theorem hostOps1_5_fresh : (hostOps1_5 : List (HloOp τ sig (Elt F))).Forall fun op => op.fresh = ∅ := by
  simp only [List.Forall]; repeat' constructor
abbrev hostOps1_5_W : List (Ref sig .tc) := [main_call4_v0, main_v13]
theorem hostOps1_5_writes : (hostOps1_5 : List (HloOp τ sig (Elt F))).Forall fun op => op.writes ⊆ (hostOps1_5_W.map (Proc.devRef (τ := τ) .tc)).toFinset :=
  StableHlo.forall_writes_sub_of_map rfl
theorem hostOps1_5_args : ∀ a ∈ argRefs, a ∉ hostOps1_5_W := ListAll.forall_mem_of_all_decide (by decide +kernel)

theorem hostOps1_6_fresh : (hostOps1_6 : List (HloOp τ sig (Elt F))).Forall fun op => op.fresh = ∅ := by
  simp only [List.Forall]; repeat' constructor
abbrev hostOps1_6_W : List (Ref sig .tc) := [main_v14, main_v15, main_v16, main_v17]
theorem hostOps1_6_writes : (hostOps1_6 : List (HloOp τ sig (Elt F))).Forall fun op => op.writes ⊆ (hostOps1_6_W.map (Proc.devRef (τ := τ) .tc)).toFinset :=
  StableHlo.forall_writes_sub_of_map rfl
theorem hostOps1_6_args : ∀ a ∈ argRefs, a ∉ hostOps1_6_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_cst, main_v19, main_v20, main_v21, main_v22, main_v23, main_v24, main_c_4]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

theorem hostOps2_1_fresh : (hostOps2_1 : List (HloOp τ sig (Elt F))).Forall fun op => op.fresh = ∅ := by
  simp only [List.Forall]; repeat' constructor
abbrev hostOps2_1_W : List (Ref sig .tc) := [main_call5_v0, main_v25]
theorem hostOps2_1_writes : (hostOps2_1 : List (HloOp τ sig (Elt F))).Forall fun op => op.writes ⊆ (hostOps2_1_W.map (Proc.devRef (τ := τ) .tc)).toFinset :=
  StableHlo.forall_writes_sub_of_map rfl
theorem hostOps2_1_args : ∀ a ∈ argRefs, a ∉ hostOps2_1_W := ListAll.forall_mem_of_all_decide (by decide +kernel)

theorem hostOps5_fresh : (hostOps5 : List (HloOp τ sig (Elt F))).Forall fun op => op.fresh = ∅ := by
  simp only [List.Forall]; repeat' constructor
abbrev hostOps5_W : List (Ref sig .tc) := [main_v29, main_v30, main_v31, main_v32, main_v33, main_v34, main_v35, main_v36, main_v37]
theorem hostOps5_writes : (hostOps5 : List (HloOp τ sig (Elt F))).Forall fun op => op.writes ⊆ (hostOps5_W.map (Proc.devRef (τ := τ) .tc)).toFinset :=
  StableHlo.forall_writes_sub_of_map rfl
theorem hostOps5_args : ∀ a ∈ argRefs, a ∉ hostOps5_W := ListAll.forall_mem_of_all_decide (by decide +kernel)

end Cert.KernelIdeal.Run

end
-- ==== Proof.KI.Region0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.DatRel
public import Idealize.ShloMosaic.Lib.Pipeline.ArrRel

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S512x3584 := Rect.unit (s := S512x3584) ![0, 0] S512x3584.size inb_S512x3584_S512x3584_0_0
abbrev r0_1 : Rect S1x3584 := Rect.unit (s := S1x3584) ![0, 0] S1x3584.size inb_S1x3584_S1x3584_0_0
abbrev r0_2 : Rect S128x3584 := Rect.unit (s := S128x3584) ![0, 0] S128x3584.size inb_S128x3584_S128x3584_0_0
abbrev r0_3 : Rect S3584x128 := Rect.unit (s := S3584x128) ![0, 0] S3584x128.size inb_S3584x128_S3584x128_0_0
abbrev r0_4 : Rect S512x128 := Rect.unit (s := S512x128) ![0, 0] S512x128.size inb_S512x128_S512x128_0_0
abbrev r0_5 : Rect S128x512 := Rect.unit (s := S128x512) ![0, 0] S128x512.size inb_S128x512_S128x512_0_0

def out0_5 (x0 : Vec F S512x3584 .bf16) (x1 : Vec F S512x3584 .bf16) (x2 : Vec F S1x3584 .f32) (x3 : Vec F S128x3584 .bf16) (x4 : Vec F S3584x128 .bf16) : Vec F S512x3584 .bf16 :=
  View.canon [⟨r0_0, k0_pay1 (View.ld x0 r0_0) (View.ld x2 r0_1)⟩]

theorem cover0_5 (p0 : Vec F S512x3584 .bf16) (y : S512x3584.Idx) :
    ∃ pc ∈ ([⟨r0_0, p0⟩] : List (View.Piece (Elt F) S512x3584 .bf16)), y ∈ pc.1.set :=
  View.cover_of_tiled [⟨r0_0, p0⟩] S512x3584.size (by rfl) y

def out0_6 (x0 : Vec F S512x3584 .bf16) (x1 : Vec F S512x3584 .bf16) (x2 : Vec F S1x3584 .f32) (x3 : Vec F S128x3584 .bf16) (x4 : Vec F S3584x128 .bf16) : Vec F S512x128 .bf16 :=
  View.canon [⟨r0_4, k0_pay3 (View.ld x0 r0_0) (View.ld x2 r0_1) (View.ld x3 r0_2) (View.ld x1 r0_0) (View.ld x4 r0_3)⟩]

theorem cover0_6 (p0 : Vec F S512x128 .bf16) (y : S512x128.Idx) :
    ∃ pc ∈ ([⟨r0_4, p0⟩] : List (View.Piece (Elt F) S512x128 .bf16)), y ∈ pc.1.set :=
  View.cover_of_tiled [⟨r0_4, p0⟩] S512x128.size (by rfl) y

def out0_7 (x0 : Vec F S512x3584 .bf16) (x1 : Vec F S512x3584 .bf16) (x2 : Vec F S1x3584 .f32) (x3 : Vec F S128x3584 .bf16) (x4 : Vec F S3584x128 .bf16) : Vec F S128x512 .bf16 :=
  View.canon [⟨r0_5, k0_pay4 (View.ld x0 r0_0) (View.ld x2 r0_1) (View.ld x3 r0_2) (View.ld x1 r0_0) (View.ld x4 r0_3)⟩]

theorem cover0_7 (p0 : Vec F S128x512 .bf16) (y : S128x512.Idx) :
    ∃ pc ∈ ([⟨r0_5, p0⟩] : List (View.Piece (Elt F) S128x512 .bf16)), y ∈ pc.1.set :=
  View.cover_of_tiled [⟨r0_5, p0⟩] S128x512.size (by rfl) y

set_option maxHeartbeats 1000000 in
theorem sound_kernel0 (c : Dev nD) (E : Set ℕ) (i : grid0.Coords) (arg1 : Memref sig .tc .vmem S512x3584 .bf16) (harg1 : arg1.IsWhole) (arg2 : Memref sig .tc .vmem S512x3584 .bf16) (harg2 : arg2.IsWhole) (arg3 : Memref sig .tc .vmem S1x3584 .f32) (harg3 : arg3.IsWhole) (arg4 : Memref sig .tc .vmem S128x3584 .bf16) (harg4 : arg4.IsWhole) (arg5 : Memref sig .tc .vmem S3584x128 .bf16) (harg5 : arg5.IsWhole) (arg6 : Memref sig .tc .vmem S512x3584 .bf16) (harg6 : arg6.IsWhole) (arg7 : Memref sig .tc .vmem S512x128 .bf16) (harg7 : arg7.IsWhole) (arg8 : Memref sig .tc .vmem S128x512 .bf16) (harg8 : arg8.IsWhole)
    (x0 : Vec F S512x3584 .bf16) (x1 : Vec F S512x3584 .bf16) (x2 : Vec F S1x3584 .f32) (x3 : Vec F S128x3584 .bf16) (x4 : Vec F S3584x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4) ∗ owns (c : Thread nD τ) arg8 fullShare (out0_7 x0 x1 x2 x3 x4)) -∗ K ⟨⟩))
      ⊢ wp frame (wpE (defs₀ (F := F)) Variants.none c none) E (cc0_prologue i arg1 harg1 arg2 harg2 arg3 harg3 arg4 harg4 arg5 harg5 arg6 harg6 arg7 harg7 arg8 harg8) K := by
  simp only [cc0_prologue_eq_skeleton]; unfold cc0_prologue_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
    | ⟨7, _⟩ => out0_7 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Run

end
-- ==== Proof.KI.Region1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.DatRel
public import Idealize.ShloMosaic.Lib.Pipeline.ArrRel

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S512x3584 := Rect.unit (s := S512x3584) ![0, 0] S512x3584.size inb_S512x3584_S512x3584_0_0
abbrev r1_1 : Rect S512x128 := Rect.unit (s := S512x128) ![0, 0] S512x128.size inb_S512x128_S512x128_0_0
abbrev r1_2 : Rect S3584x512 := Rect.unit (s := S3584x512) ![0, 0] S3584x512.size inb_S3584x512_S3584x512_0_0
abbrev r1_3 : Rect S3x128x512 := Rect.unit (s := S3x128x512) ![0, 0, 0] S1x128x512.size inb_S3x128x512_S1x128x512_0_0_0
abbrev r1_4 : Rect S3x128x512 := Rect.unit (s := S3x128x512) ![1, 0, 0] S1x128x512.size inb_S3x128x512_S1x128x512_1_0_0
abbrev r1_5 : Rect S3x128x512 := Rect.unit (s := S3x128x512) ![2, 0, 0] S1x128x512.size inb_S3x128x512_S1x128x512_2_0_0
abbrev r1_6 : Rect S512x512 := Rect.unit (s := S512x512) ![0, 0] S512x512.size inb_S512x512_S512x512_0_0
abbrev r1_7 : Rect S128x512 := Rect.unit (s := S128x512) ![0, 0] S32x512.size inb_S128x512_S32x512_0_0
abbrev r1_8 : Rect S128x512 := Rect.unit (s := S128x512) ![32, 0] S32x512.size inb_S128x512_S32x512_32_0
abbrev r1_9 : Rect S128x512 := Rect.unit (s := S128x512) ![64, 0] S32x512.size inb_S128x512_S32x512_64_0
abbrev r1_10 : Rect S32x512 := Rect.unit (s := S32x512) ![0, 0] S32x512.size inb_S32x512_S32x512_0_0
abbrev r1_11 : Rect S3x128x512 := Rect.unit (s := S3x128x512) ![0, 0, 0] S1x32x512.size inb_S3x128x512_S1x32x512_0_0_0
abbrev r1_12 (i : grid1.Coords) : Rect S24x96x512 := Rect.unit (s := S24x96x512) (k1_off1 i) S1x32x512.size (k1_off1_inb i)
abbrev r1_13 : Rect S3x128x512 := Rect.unit (s := S3x128x512) ![1, 32, 0] S1x32x512.size inb_S3x128x512_S1x32x512_1_32_0
abbrev r1_14 (i : grid1.Coords) : Rect S24x96x512 := Rect.unit (s := S24x96x512) (k1_off2 i) S1x32x512.size (k1_off2_inb i)
abbrev r1_15 : Rect S3x128x512 := Rect.unit (s := S3x128x512) ![2, 64, 0] S1x32x512.size inb_S3x128x512_S1x32x512_2_64_0
abbrev r1_16 (i : grid1.Coords) : Rect S24x96x512 := Rect.unit (s := S24x96x512) (k1_off3 i) S1x32x512.size (k1_off3_inb i)

def k1_pay22 (i : grid1.Coords) (x0 : Vec F S512x3584 .bf16) (x1 : Vec F S512x3584 .bf16) (x2 : Vec F S512x128 .bf16) (x3 : Vec F S128x512 .bf16) (x4 : Vec F S3584x512 .bf16) (x5 : Vec F S3584x512 .bf16) (x6 : Vec F S512x3584 .bf16) (x7 : Vec F S3x128x512 .bf16) : FVec F S512x512 .f32 :=
  k1_pay5 (View.ld x0 r1_0) (View.ld x2 r1_1) (View.ld x4 r1_2) (View.ld x7 r1_3) -- `v9`
def k1_pay23 (i : grid1.Coords) (x0 : Vec F S512x3584 .bf16) (x1 : Vec F S512x3584 .bf16) (x2 : Vec F S512x128 .bf16) (x3 : Vec F S128x512 .bf16) (x4 : Vec F S3584x512 .bf16) (x5 : Vec F S3584x512 .bf16) (x6 : Vec F S512x3584 .bf16) (x7 : Vec F S3x128x512 .bf16) : FVec F S512x512 .f32 :=
  k1_pay6 (View.ld x0 r1_0) (View.ld x2 r1_1) (View.ld x5 r1_2) (View.ld x7 r1_4) -- `v15`
def k1_pay24 (i : grid1.Coords) (x0 : Vec F S512x3584 .bf16) (x1 : Vec F S512x3584 .bf16) (x2 : Vec F S512x128 .bf16) (x3 : Vec F S128x512 .bf16) (x4 : Vec F S3584x512 .bf16) (x5 : Vec F S3584x512 .bf16) (x6 : Vec F S512x3584 .bf16) (x7 : Vec F S3x128x512 .bf16) : FVec F S512x512 .f32 :=
  k1_pay7 (View.ld x2 r1_1) (View.ld x1 r1_0) (View.ld x6 r1_0) (View.ld x7 r1_5) -- `v23`
def k1_pay25 (i : grid1.Coords) (x0 : Vec F S512x3584 .bf16) (x1 : Vec F S512x3584 .bf16) (x2 : Vec F S512x128 .bf16) (x3 : Vec F S128x512 .bf16) (x4 : Vec F S3584x512 .bf16) (x5 : Vec F S3584x512 .bf16) (x6 : Vec F S512x3584 .bf16) (x7 : Vec F S3x128x512 .bf16) : FVec F S512x512 .f32 :=
  k1_pay8 (View.ld x0 r1_0) (View.ld x2 r1_1) (View.ld x4 r1_2) (View.ld x7 r1_3) -- `v28`
def k1_pay26 (i : grid1.Coords) (x0 : Vec F S512x3584 .bf16) (x1 : Vec F S512x3584 .bf16) (x2 : Vec F S512x128 .bf16) (x3 : Vec F S128x512 .bf16) (x4 : Vec F S3584x512 .bf16) (x5 : Vec F S3584x512 .bf16) (x6 : Vec F S512x3584 .bf16) (x7 : Vec F S3x128x512 .bf16) : FVec F S512x512 .bf16 :=
  k1_pay11 (k1_pay22 i x0 x1 x2 x3 x4 x5 x6 x7) (k1_pay23 i x0 x1 x2 x3 x4 x5 x6 x7) (k1_pay25 i x0 x1 x2 x3 x4 x5 x6 x7) -- `v33`

def out1_8 (i : grid1.Coords) (x0 : Vec F S512x3584 .bf16) (x1 : Vec F S512x3584 .bf16) (x2 : Vec F S512x128 .bf16) (x3 : Vec F S128x512 .bf16) (x4 : Vec F S3584x512 .bf16) (x5 : Vec F S3584x512 .bf16) (x6 : Vec F S512x3584 .bf16) (x7 : Vec F S3x128x512 .bf16) : Vec F S512x512 .bf16 :=
  View.canon [⟨r1_6, k1_pay11 (k1_pay22 i x0 x1 x2 x3 x4 x5 x6 x7) (k1_pay23 i x0 x1 x2 x3 x4 x5 x6 x7) (k1_pay25 i x0 x1 x2 x3 x4 x5 x6 x7)⟩]

theorem cover1_8 (p0 : Vec F S512x512 .bf16) (y : S512x512.Idx) :
    ∃ pc ∈ ([⟨r1_6, p0⟩] : List (View.Piece (Elt F) S512x512 .bf16)), y ∈ pc.1.set :=
  View.cover_of_tiled [⟨r1_6, p0⟩] S512x512.size (by rfl) y

def out1_9 (i : grid1.Coords) (x0 : Vec F S512x3584 .bf16) (x1 : Vec F S512x3584 .bf16) (x2 : Vec F S512x128 .bf16) (x3 : Vec F S128x512 .bf16) (x4 : Vec F S3584x512 .bf16) (x5 : Vec F S3584x512 .bf16) (x6 : Vec F S512x3584 .bf16) (x7 : Vec F S3x128x512 .bf16) : Vec F S512x512 .bf16 :=
  View.canon [⟨r1_6, k1_pay13 (k1_pay22 i x0 x1 x2 x3 x4 x5 x6 x7) (k1_pay23 i x0 x1 x2 x3 x4 x5 x6 x7) (k1_pay24 i x0 x1 x2 x3 x4 x5 x6 x7) (k1_pay25 i x0 x1 x2 x3 x4 x5 x6 x7)⟩]

theorem cover1_9 (p0 : Vec F S512x512 .bf16) (y : S512x512.Idx) :
    ∃ pc ∈ ([⟨r1_6, p0⟩] : List (View.Piece (Elt F) S512x512 .bf16)), y ∈ pc.1.set :=
  View.cover_of_tiled [⟨r1_6, p0⟩] S512x512.size (by rfl) y

def out1_10 (i : grid1.Coords) (x0 : Vec F S512x3584 .bf16) (x1 : Vec F S512x3584 .bf16) (x2 : Vec F S512x128 .bf16) (x3 : Vec F S128x512 .bf16) (x4 : Vec F S3584x512 .bf16) (x5 : Vec F S3584x512 .bf16) (x6 : Vec F S512x3584 .bf16) (x7 : Vec F S3x128x512 .bf16) : Vec F S512x512 .bf16 :=
  View.canon [⟨r1_6, k1_pay12 (k1_pay22 i x0 x1 x2 x3 x4 x5 x6 x7) (k1_pay24 i x0 x1 x2 x3 x4 x5 x6 x7) (k1_pay25 i x0 x1 x2 x3 x4 x5 x6 x7)⟩]

theorem cover1_10 (p0 : Vec F S512x512 .bf16) (y : S512x512.Idx) :
    ∃ pc ∈ ([⟨r1_6, p0⟩] : List (View.Piece (Elt F) S512x512 .bf16)), y ∈ pc.1.set :=
  View.cover_of_tiled [⟨r1_6, p0⟩] S512x512.size (by rfl) y

def out1_11 (i : grid1.Coords) (x0 : Vec F S512x3584 .bf16) (x1 : Vec F S512x3584 .bf16) (x2 : Vec F S512x128 .bf16) (x3 : Vec F S128x512 .bf16) (x4 : Vec F S3584x512 .bf16) (x5 : Vec F S3584x512 .bf16) (x6 : Vec F S512x3584 .bf16) (x7 : Vec F S3x128x512 .bf16) (y11 : Vec F S32x512 .f32) : Vec F S32x512 .f32 :=
  View.canon [⟨r1_10, k1_pay15 (BitVec.ofNat 32 (i 1).val) (k1_pay22 i x0 x1 x2 x3 x4 x5 x6 x7) (k1_pay23 i x0 x1 x2 x3 x4 x5 x6 x7) (k1_pay24 i x0 x1 x2 x3 x4 x5 x6 x7) (k1_pay25 i x0 x1 x2 x3 x4 x5 x6 x7) (View.ld x3 r1_7) (View.ld y11 r1_10)⟩]

theorem cover1_11 (p0 : Vec F S32x512 .f32) (y : S32x512.Idx) :
    ∃ pc ∈ ([⟨r1_10, p0⟩] : List (View.Piece (Elt F) S32x512 .f32)), y ∈ pc.1.set :=
  View.cover_of_tiled [⟨r1_10, p0⟩] S32x512.size (by rfl) y

def out1_12 (i : grid1.Coords) (x0 : Vec F S512x3584 .bf16) (x1 : Vec F S512x3584 .bf16) (x2 : Vec F S512x128 .bf16) (x3 : Vec F S128x512 .bf16) (x4 : Vec F S3584x512 .bf16) (x5 : Vec F S3584x512 .bf16) (x6 : Vec F S512x3584 .bf16) (x7 : Vec F S3x128x512 .bf16) (y12 : Vec F S32x512 .f32) : Vec F S32x512 .f32 :=
  View.canon [⟨r1_10, k1_pay18 (Scalar.cmpi .eq (BitVec.ofNat 32 (i 1).val) 0#32) (k1_pay16 (k1_pay22 i x0 x1 x2 x3 x4 x5 x6 x7) (k1_pay24 i x0 x1 x2 x3 x4 x5 x6 x7) (k1_pay25 i x0 x1 x2 x3 x4 x5 x6 x7) (View.ld x3 r1_8)) (k1_pay17 (View.ld y12 r1_10))⟩]

theorem cover1_12 (p0 : Vec F S32x512 .f32) (y : S32x512.Idx) :
    ∃ pc ∈ ([⟨r1_10, p0⟩] : List (View.Piece (Elt F) S32x512 .f32)), y ∈ pc.1.set :=
  View.cover_of_tiled [⟨r1_10, p0⟩] S32x512.size (by rfl) y

def out1_13 (i : grid1.Coords) (x0 : Vec F S512x3584 .bf16) (x1 : Vec F S512x3584 .bf16) (x2 : Vec F S512x128 .bf16) (x3 : Vec F S128x512 .bf16) (x4 : Vec F S3584x512 .bf16) (x5 : Vec F S3584x512 .bf16) (x6 : Vec F S512x3584 .bf16) (x7 : Vec F S3x128x512 .bf16) (y13 : Vec F S32x512 .f32) : Vec F S32x512 .f32 :=
  View.canon [⟨r1_10, k1_pay19 (k1_pay26 i x0 x1 x2 x3 x4 x5 x6 x7) (Scalar.cmpi .eq (BitVec.ofNat 32 (i 1).val) 0#32) (k1_pay14 (View.ld x3 r1_9)) (View.ld y13 r1_10)⟩]

theorem cover1_13 (p0 : Vec F S32x512 .f32) (y : S32x512.Idx) :
    ∃ pc ∈ ([⟨r1_10, p0⟩] : List (View.Piece (Elt F) S32x512 .f32)), y ∈ pc.1.set :=
  View.cover_of_tiled [⟨r1_10, p0⟩] S32x512.size (by rfl) y

def out1_14 (i : grid1.Coords) (x0 : Vec F S512x3584 .bf16) (x1 : Vec F S512x3584 .bf16) (x2 : Vec F S512x128 .bf16) (x3 : Vec F S128x512 .bf16) (x4 : Vec F S3584x512 .bf16) (x5 : Vec F S3584x512 .bf16) (x6 : Vec F S512x3584 .bf16) (x7 : Vec F S3x128x512 .bf16) (y14 : Vec F S24x96x512 .f32) : Vec F S24x96x512 .f32 :=
  (r1_16 i).overlay ((r1_14 i).overlay ((r1_12 i).overlay y14 (k1_pay20 (BitVec.ofNat 32 (i 0).val) (k1_pay13 (k1_pay22 i x0 x1 x2 x3 x4 x5 x6 x7) (k1_pay23 i x0 x1 x2 x3 x4 x5 x6 x7) (k1_pay24 i x0 x1 x2 x3 x4 x5 x6 x7) (k1_pay25 i x0 x1 x2 x3 x4 x5 x6 x7)) (View.ld x7 r1_11) (View.ld y14 (r1_12 i)))) (k1_pay1 (k1_pay21 (BitVec.ofNat 32 (i 0).val) (k1_pay12 (k1_pay22 i x0 x1 x2 x3 x4 x5 x6 x7) (k1_pay24 i x0 x1 x2 x3 x4 x5 x6 x7) (k1_pay25 i x0 x1 x2 x3 x4 x5 x6 x7)) (View.ld x7 r1_13) (View.ld y14 (r1_14 i))))) (k1_pay2 (k1_pay26 i x0 x1 x2 x3 x4 x5 x6 x7) (Scalar.cmpi .eq (BitVec.ofNat 32 (i 0).val) 0#32) (View.ld x7 r1_15) (View.ld y14 (r1_16 i)))

/-- Reading a buffer after one more store is the earlier reading with the stored rectangle laid over it. -/
theorem read_writes_overlay {sig' : RefSig} {κ : Kind} {sp : Space} {s : Shape} {e : EltTy} (v : View sig' κ sp s e)
    (f : v.ty.Contents (Elt F)) (r : Rect s) (w : r.shape.Idx → Elt F e) (L : List (View.Piece (Elt F) s e)) :
    v.read (Elt F) (v.writes (Elt F) f (⟨r, w⟩ :: L)) = r.overlay (v.read (Elt F) (v.writes (Elt F) f L)) w := by
  funext y
  by_cases h : y ∈ r.set
  · obtain ⟨x, rfl⟩ := r.exists_idx_of_mem h
    exact (View.read_writes_cons_emb v f r w L x).trans (r.overlay_emb _ w x).symm
  · rw [r.overlay_of_not_mem _ _ h, View.writes_cons]
    exact View.read_slice_write_of_not_mem _ _ _ _ (by rw [Rect.map_emb_univ]; exact h)

theorem off1_1 (i : grid1.Coords) : k1_off1 i = ![(i 1).val, 0, 0] := by
  have h : (i 1).val < 24 := (i 1).isLt
  simp only [k1_off1, Scalar.indexCast]
  congr 1
  simp; omega
theorem off1_2 (i : grid1.Coords) : k1_off2 i = ![(i 1).val, 32, 0] := by
  have h : (i 1).val < 24 := (i 1).isLt
  simp only [k1_off2, Scalar.indexCast]
  congr 1
  simp; omega
theorem off1_3 (i : grid1.Coords) : k1_off3 i = ![(i 1).val, 64, 0] := by
  have h : (i 1).val < 24 := (i 1).isLt
  simp only [k1_off3, Scalar.indexCast]
  congr 1
  simp; omega

theorem mem1_12 (i : grid1.Coords) (j : S24x96x512.Idx) : j ∈ (r1_12 i).set ↔ (j 0).val = (i 1).val ∧ (j 1).val < 32 := by
  have h2 : (j 2).val < 512 := (j 2).isLt
  rw [Rect.mem_set_unit, off1_1]
  simp [Fin.forall_fin_succ]
  omega
theorem mem1_14 (i : grid1.Coords) (j : S24x96x512.Idx) : j ∈ (r1_14 i).set ↔ (j 0).val = (i 1).val ∧ 32 ≤ (j 1).val ∧ (j 1).val < 64 := by
  have h2 : (j 2).val < 512 := (j 2).isLt
  rw [Rect.mem_set_unit, off1_2]
  simp [Fin.forall_fin_succ]
  omega
theorem mem1_16 (i : grid1.Coords) (j : S24x96x512.Idx) : j ∈ (r1_16 i).set ↔ (j 0).val = (i 1).val ∧ 64 ≤ (j 1).val := by
  have h1 : (j 1).val < 96 := (j 1).isLt
  have h2 : (j 2).val < 512 := (j 2).isLt
  rw [Rect.mem_set_unit, off1_3]
  simp [Fin.forall_fin_succ]
  omega

/-- Three stores that cover slab `i 1` leave every other slab as it was. -/
theorem ov1_off (i : grid1.Coords) (y : Vec F S24x96x512 .f32) (p1 p2 p3) (j : S24x96x512.Idx) (hj : (j 0).val ≠ (i 1).val) :
    (r1_16 i).overlay ((r1_14 i).overlay ((r1_12 i).overlay y p1) p2) p3 j = y j := by
  rw [Rect.overlay_of_not_mem _ _ _ (fun h => hj ((mem1_16 i j).1 h).1), Rect.overlay_of_not_mem _ _ _ (fun h => hj ((mem1_14 i j).1 h).1),
    Rect.overlay_of_not_mem _ _ _ (fun h => hj ((mem1_12 i j).1 h).1)]

/-- On slab `i 1` the three stores decide everything. -/
theorem ov1_on (i : grid1.Coords) (y y' : Vec F S24x96x512 .f32) (p1 p2 p3) (j : S24x96x512.Idx) (hj : (j 0).val = (i 1).val) :
    (r1_16 i).overlay ((r1_14 i).overlay ((r1_12 i).overlay y p1) p2) p3 j
      = (r1_16 i).overlay ((r1_14 i).overlay ((r1_12 i).overlay y' p1) p2) p3 j := by
  by_cases h3 : j ∈ (r1_16 i).set
  · obtain ⟨x, rfl⟩ := (r1_16 i).exists_idx_of_mem h3
    exact (Rect.overlay_emb _ _ _ x).trans (Rect.overlay_emb _ _ _ x).symm
  rw [Rect.overlay_of_not_mem _ _ _ h3, Rect.overlay_of_not_mem _ _ _ h3]
  by_cases h2 : j ∈ (r1_14 i).set
  · obtain ⟨x, rfl⟩ := (r1_14 i).exists_idx_of_mem h2
    exact (Rect.overlay_emb _ _ _ x).trans (Rect.overlay_emb _ _ _ x).symm
  rw [Rect.overlay_of_not_mem _ _ _ h2, Rect.overlay_of_not_mem _ _ _ h2]
  have h1 : j ∈ (r1_12 i).set := by
    rw [mem1_16] at h3; rw [mem1_14] at h2; rw [mem1_12]; omega
  obtain ⟨x, rfl⟩ := (r1_12 i).exists_idx_of_mem h1
  exact (Rect.overlay_emb _ _ _ x).trans (Rect.overlay_emb _ _ _ x).symm

theorem ld1_on (i : grid1.Coords) (r : Rect S24x96x512) (hr : ∀ j ∈ r.set, (j 0).val = (i 1).val) (y y' : Vec F S24x96x512 .f32)
    (h : ∀ j : S24x96x512.Idx, (j 0).val = (i 1).val → y j = y' j) : View.ld y r = View.ld y' r :=
  funext fun x => h _ (hr _ (r.idx_mem x))

theorem out1_14_off (i : grid1.Coords) (x0 x1 x2 x3 x4 x5 x6 x7) (y : Vec F S24x96x512 .f32) (j : S24x96x512.Idx) (hj : (j 0).val ≠ (i 1).val) :
    out1_14 i x0 x1 x2 x3 x4 x5 x6 x7 y j = y j := by
  unfold out1_14; exact ov1_off i y _ _ _ j hj
theorem out1_14_on (i : grid1.Coords) (x0 x1 x2 x3 x4 x5 x6 x7) (y y' : Vec F S24x96x512 .f32)
    (h : ∀ j : S24x96x512.Idx, (j 0).val = (i 1).val → y j = y' j) (j : S24x96x512.Idx) (hj : (j 0).val = (i 1).val) :
    out1_14 i x0 x1 x2 x3 x4 x5 x6 x7 y j = out1_14 i x0 x1 x2 x3 x4 x5 x6 x7 y' j := by
  unfold out1_14
  rw [ld1_on i (r1_12 i) (fun j hj => ((mem1_12 i j).1 hj).1) y y' h, ld1_on i (r1_14 i) (fun j hj => ((mem1_14 i j).1 hj).1) y y' h,
    ld1_on i (r1_16 i) (fun j hj => ((mem1_16 i j).1 hj).1) y y' h]
  exact ov1_on i y y' _ _ _ j hj
theorem pay20_first (a : BitVec 32) (ha : a = 0#32) (v w : _) (u u' : Vec F S1x32x512 .f32) : k1_pay20 a v w u = k1_pay20 (F := F) a v w u' := by
  subst ha; rfl
theorem pay21_first (a : BitVec 32) (ha : a = 0#32) (v w : _) (u u' : Vec F S1x32x512 .f32) : k1_pay21 a v w u = k1_pay21 (F := F) a v w u' := by
  subst ha; rfl
theorem pay2_first (a : BitVec 32) (ha : a = 0#32) (v w : _) (u u' : Vec F S1x32x512 .f32) :
    k1_pay2 v (Scalar.cmpi .eq a 0#32) w u = k1_pay2 (F := F) v (Scalar.cmpi .eq a 0#32) w u' := by
  subst ha; rfl
theorem out1_14_first (i : grid1.Coords) (hi : (i 0).val = 0) (x0 x1 x2 x3 x4 x5 x6 x7) (y y' : Vec F S24x96x512 .f32) (j : S24x96x512.Idx)
    (hj : (j 0).val = (i 1).val) :
    out1_14 i x0 x1 x2 x3 x4 x5 x6 x7 y j = out1_14 i x0 x1 x2 x3 x4 x5 x6 x7 y' j := by
  have ha : BitVec.ofNat 32 (i 0).val = 0#32 := by rw [hi]
  unfold out1_14
  rw [pay20_first _ ha _ _ (View.ld y (r1_12 i)) (View.ld y' (r1_12 i)), pay21_first _ ha _ _ (View.ld y (r1_14 i)) (View.ld y' (r1_14 i)),
    pay2_first _ ha _ _ (View.ld y (r1_16 i)) (View.ld y' (r1_16 i))]
  exact ov1_on i y y' _ _ _ j hj

set_option maxHeartbeats 1000000 in
theorem sound_kernel1 (c : Dev nD) (E : Set ℕ) (i : grid1.Coords) (arg2 : Memref sig .tc .vmem S512x3584 .bf16) (harg2 : arg2.IsWhole) (arg3 : Memref sig .tc .vmem S512x3584 .bf16) (harg3 : arg3.IsWhole) (arg4 : Memref sig .tc .vmem S512x128 .bf16) (harg4 : arg4.IsWhole) (arg5 : Memref sig .tc .vmem S128x512 .bf16) (harg5 : arg5.IsWhole) (arg6 : Memref sig .tc .vmem S3584x512 .bf16) (harg6 : arg6.IsWhole) (arg7 : Memref sig .tc .vmem S3584x512 .bf16) (harg7 : arg7.IsWhole) (arg8 : Memref sig .tc .vmem S512x3584 .bf16) (harg8 : arg8.IsWhole) (arg9 : Memref sig .tc .vmem S3x128x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S32x512 .f32) (harg13 : arg13.IsWhole) (arg14 : Memref sig .tc .vmem S32x512 .f32) (harg14 : arg14.IsWhole) (arg15 : Memref sig .tc .vmem S32x512 .f32) (harg15 : arg15.IsWhole) (arg16 : Memref sig .tc .vmem S24x96x512 .f32) (harg16 : arg16.IsWhole)
    (x0 : Vec F S512x3584 .bf16) (x1 : Vec F S512x3584 .bf16) (x2 : Vec F S512x128 .bf16) (x3 : Vec F S128x512 .bf16) (x4 : Vec F S3584x512 .bf16) (x5 : Vec F S3584x512 .bf16) (x6 : Vec F S512x3584 .bf16) (x7 : Vec F S3x128x512 .bf16) (y11 y12 y13 : Vec F S32x512 .f32) (y14 : Vec F S24x96x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare y11 ∗ owns (c : Thread nD τ) arg14 fullShare y12 ∗ owns (c : Thread nD τ) arg15 fullShare y13 ∗ owns (c : Thread nD τ) arg16 fullShare y14
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (out1_8 i x0 x1 x2 x3 x4 x5 x6 x7) ∗ owns (c : Thread nD τ) arg11 fullShare (out1_9 i x0 x1 x2 x3 x4 x5 x6 x7) ∗ owns (c : Thread nD τ) arg12 fullShare (out1_10 i x0 x1 x2 x3 x4 x5 x6 x7) ∗ owns (c : Thread nD τ) arg13 fullShare (out1_11 i x0 x1 x2 x3 x4 x5 x6 x7 y11) ∗ owns (c : Thread nD τ) arg14 fullShare (out1_12 i x0 x1 x2 x3 x4 x5 x6 x7 y12) ∗ owns (c : Thread nD τ) arg15 fullShare (out1_13 i x0 x1 x2 x3 x4 x5 x6 x7 y13) ∗ owns (c : Thread nD τ) arg16 fullShare (out1_14 i x0 x1 x2 x3 x4 x5 x6 x7 y14)) -∗ K ⟨⟩))
      ⊢ wp frame (wpE (defs₀ (F := F)) Variants.none c none) E (cc1_act i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc1_act_eq_skeleton]; unfold cc1_act_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, ⟨%f13, %hf13, H13⟩, ⟨%f14, %hf14, H14⟩, Hk⟩
  subst hf0 hf1 hf2 hf3 hf4 hf5 hf6 hf7 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (cover1_8 _)).trans ?_
    rfl
  isplitl [H9]
  · iexists _; isplitr
    swap; · iexact H9
    ipureintro
    refine (View.read_writes_eq_canon _ _ _ (cover1_9 _)).trans ?_
    rfl
  isplitl [H10]
  · iexists _; isplitr
    swap; · iexact H10
    ipureintro
    refine (View.read_writes_eq_canon _ _ _ (cover1_10 _)).trans ?_
    rfl
  isplitl [H11]
  · iexists _; isplitr
    swap; · iexact H11
    ipureintro
    refine (View.read_writes_eq_canon _ _ _ (cover1_11 _)).trans ?_
    rfl
  isplitl [H12]
  · iexists _; isplitr
    swap; · iexact H12
    ipureintro
    refine (View.read_writes_eq_canon _ _ _ (cover1_12 _)).trans ?_
    rfl
  isplitl [H13]
  · iexists _; isplitr
    swap; · iexact H13
    ipureintro
    refine (View.read_writes_eq_canon _ _ _ (cover1_13 _)).trans ?_
    rfl
  iexists _; isplitr
  swap; · iexact H14
  ipureintro
  unfold sound_kernel1.sl.v100 sound_kernel1.sl.r_10
  rw [read_writes_overlay, read_writes_overlay, read_writes_overlay, View.writes_nil]
  unfold out1_14
  rfl

/-- What the body leaves in window 11 at point `t` from what it finds there. -/
def p1_11 (c : Dev nD) (t : Fin cfg1.N) (y : Vec F S32x512 .f32) : Vec F S32x512 .f32 :=
  out1_11 (grid1.coords t) (iblk1 V c 0 t) (iblk1 V c 1 t) (iblk1 V c 2 t) (iblk1 V c 3 t) (iblk1 V c 4 t) (iblk1 V c 5 t) (iblk1 V c 6 t) (iblk1 V c 7 t) y
/-- What window 11 holds after point `n`. -/
def acc1_11 (c : Dev nD) : (n : ℕ) → n < cfg1.N → Vec F S32x512 .f32
  | 0, h => p1_11 V c ⟨0, h⟩ (View.canon [])
  | n + 1, h => p1_11 V c ⟨n + 1, h⟩ (acc1_11 c n (Nat.lt_of_succ_lt h))
theorem acc1_11_zero (c : Dev nD) (h : 0 < cfg1.N) : acc1_11 V c 0 h = p1_11 V c ⟨0, h⟩ (View.canon []) := by rw [acc1_11]
theorem acc1_11_succ (c : Dev nD) (n : ℕ) (h : n + 1 < cfg1.N) :
    acc1_11 V c (n + 1) h = p1_11 V c ⟨n + 1, h⟩ (acc1_11 V c n (Nat.lt_of_succ_lt h)) := by rw [acc1_11]
theorem out1_11_first (i : grid1.Coords) (hi : (i 1).val = 0) (x0 x1 x2 x3 x4 x5 x6 x7) (y y' : Vec F S32x512 .f32) :
    out1_11 i x0 x1 x2 x3 x4 x5 x6 x7 y = out1_11 i x0 x1 x2 x3 x4 x5 x6 x7 y' := by
  unfold out1_11 k1_pay15; simp only [hi]; rfl
theorem noFlush1_11 : ∀ t : Fin cfg1.N, t.val % 24 ≠ 23 → (cfg1.win 11).flush t = false := by decide +kernel
/-- What the body leaves in window 12 at point `t` from what it finds there. -/
def p1_12 (c : Dev nD) (t : Fin cfg1.N) (y : Vec F S32x512 .f32) : Vec F S32x512 .f32 :=
  out1_12 (grid1.coords t) (iblk1 V c 0 t) (iblk1 V c 1 t) (iblk1 V c 2 t) (iblk1 V c 3 t) (iblk1 V c 4 t) (iblk1 V c 5 t) (iblk1 V c 6 t) (iblk1 V c 7 t) y
/-- What window 12 holds after point `n`. -/
def acc1_12 (c : Dev nD) : (n : ℕ) → n < cfg1.N → Vec F S32x512 .f32
  | 0, h => p1_12 V c ⟨0, h⟩ (View.canon [])
  | n + 1, h => p1_12 V c ⟨n + 1, h⟩ (acc1_12 c n (Nat.lt_of_succ_lt h))
theorem acc1_12_zero (c : Dev nD) (h : 0 < cfg1.N) : acc1_12 V c 0 h = p1_12 V c ⟨0, h⟩ (View.canon []) := by rw [acc1_12]
theorem acc1_12_succ (c : Dev nD) (n : ℕ) (h : n + 1 < cfg1.N) :
    acc1_12 V c (n + 1) h = p1_12 V c ⟨n + 1, h⟩ (acc1_12 V c n (Nat.lt_of_succ_lt h)) := by rw [acc1_12]
theorem out1_12_first (i : grid1.Coords) (hi : (i 1).val = 0) (x0 x1 x2 x3 x4 x5 x6 x7) (y y' : Vec F S32x512 .f32) :
    out1_12 i x0 x1 x2 x3 x4 x5 x6 x7 y = out1_12 i x0 x1 x2 x3 x4 x5 x6 x7 y' := by
  unfold out1_12 k1_pay18; simp only [hi]; rfl
theorem noFlush1_12 : ∀ t : Fin cfg1.N, t.val % 24 ≠ 23 → (cfg1.win 12).flush t = false := by decide +kernel
/-- What the body leaves in window 13 at point `t` from what it finds there. -/
def p1_13 (c : Dev nD) (t : Fin cfg1.N) (y : Vec F S32x512 .f32) : Vec F S32x512 .f32 :=
  out1_13 (grid1.coords t) (iblk1 V c 0 t) (iblk1 V c 1 t) (iblk1 V c 2 t) (iblk1 V c 3 t) (iblk1 V c 4 t) (iblk1 V c 5 t) (iblk1 V c 6 t) (iblk1 V c 7 t) y
/-- What window 13 holds after point `n`. -/
def acc1_13 (c : Dev nD) : (n : ℕ) → n < cfg1.N → Vec F S32x512 .f32
  | 0, h => p1_13 V c ⟨0, h⟩ (View.canon [])
  | n + 1, h => p1_13 V c ⟨n + 1, h⟩ (acc1_13 c n (Nat.lt_of_succ_lt h))
theorem acc1_13_zero (c : Dev nD) (h : 0 < cfg1.N) : acc1_13 V c 0 h = p1_13 V c ⟨0, h⟩ (View.canon []) := by rw [acc1_13]
theorem acc1_13_succ (c : Dev nD) (n : ℕ) (h : n + 1 < cfg1.N) :
    acc1_13 V c (n + 1) h = p1_13 V c ⟨n + 1, h⟩ (acc1_13 V c n (Nat.lt_of_succ_lt h)) := by rw [acc1_13]
theorem out1_13_first (i : grid1.Coords) (hi : (i 1).val = 0) (x0 x1 x2 x3 x4 x5 x6 x7) (y y' : Vec F S32x512 .f32) :
    out1_13 i x0 x1 x2 x3 x4 x5 x6 x7 y = out1_13 i x0 x1 x2 x3 x4 x5 x6 x7 y' := by
  unfold out1_13 k1_pay19; simp only [hi]; rfl
theorem noFlush1_13 : ∀ t : Fin cfg1.N, t.val % 24 ≠ 23 → (cfg1.win 13).flush t = false := by decide +kernel
theorem coords1_0 : ∀ t : Fin cfg1.N, (grid1.coords t 0).val = t.val / 24 := by decide +kernel
theorem coords1_1 : ∀ t : Fin cfg1.N, (grid1.coords t 1).val = t.val % 24 := by decide +kernel
theorem noFlush1_14 : ∀ t : Fin cfg1.N, t.val ≠ 887 → (cfg1.win 14).flush t = false := by decide +kernel

/-- What the body leaves in window 14 at point `t` from what it finds there. -/
def p1_14 (c : Dev nD) (t : Fin cfg1.N) (y : Vec F S24x96x512 .f32) : Vec F S24x96x512 .f32 :=
  out1_14 (grid1.coords t) (iblk1 V c 0 t) (iblk1 V c 1 t) (iblk1 V c 2 t) (iblk1 V c 3 t) (iblk1 V c 4 t) (iblk1 V c 5 t) (iblk1 V c 6 t) (iblk1 V c 7 t) y
/-- What window 14 holds before point `n`, of the slabs written so far. -/
def z3at (c : Dev nD) : ℕ → Vec F S24x96x512 .f32
  | 0 => View.canon []
  | n + 1 => if h : n < cfg1.N then p1_14 V c ⟨n, h⟩ (z3at c n) else z3at c n
theorem z3at_succ (c : Dev nD) (t : Fin cfg1.N) : z3at V c (t.val + 1) = p1_14 V c t (z3at V c t.val) := by
  rw [z3at, dif_pos t.isLt]
/-- The slabs written up to point `t` are the recursion's. -/
def Ok14 (c : Dev nD) (t : ℕ) (X : Vec F S24x96x512 .f32) : Prop :=
  ∀ j : S24x96x512.Idx, (j 0).val ≤ t → X j = z3at V c (t + 1) j

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (grid1.coords t) (iblk1 V c 0 t) (iblk1 V c 1 t) (iblk1 V c 2 t) (iblk1 V c 3 t) (iblk1 V c 4 t) (iblk1 V c 5 t) (iblk1 V c 6 t) (iblk1 V c 7 t)
    | ⟨9, _⟩ => out1_9 (grid1.coords t) (iblk1 V c 0 t) (iblk1 V c 1 t) (iblk1 V c 2 t) (iblk1 V c 3 t) (iblk1 V c 4 t) (iblk1 V c 5 t) (iblk1 V c 6 t) (iblk1 V c 7 t)
    | ⟨10, _⟩ => out1_10 (grid1.coords t) (iblk1 V c 0 t) (iblk1 V c 1 t) (iblk1 V c 2 t) (iblk1 V c 3 t) (iblk1 V c 4 t) (iblk1 V c 5 t) (iblk1 V c 6 t) (iblk1 V c 7 t)
    | ⟨11, _⟩ => acc1_11 V c t.val t.isLt
    | ⟨12, _⟩ => acc1_12 V c t.val t.isLt
    | ⟨13, _⟩ => acc1_13 V c t.val t.isLt
    | ⟨14, _⟩ => z3at V c (t.val + 1)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (grid1.coords t) (iblk1 V c 0 t) (iblk1 V c 1 t) (iblk1 V c 2 t) (iblk1 V c 3 t) (iblk1 V c 4 t) (iblk1 V c 5 t) (iblk1 V c 6 t) (iblk1 V c 7 t) := by dsimp only [dat1]
theorem after1_9 (c : Dev nD) (t : Fin cfg1.N) : (dat1 V c).after 9 t = out1_9 (grid1.coords t) (iblk1 V c 0 t) (iblk1 V c 1 t) (iblk1 V c 2 t) (iblk1 V c 3 t) (iblk1 V c 4 t) (iblk1 V c 5 t) (iblk1 V c 6 t) (iblk1 V c 7 t) := by dsimp only [dat1]
theorem after1_10 (c : Dev nD) (t : Fin cfg1.N) : (dat1 V c).after 10 t = out1_10 (grid1.coords t) (iblk1 V c 0 t) (iblk1 V c 1 t) (iblk1 V c 2 t) (iblk1 V c 3 t) (iblk1 V c 4 t) (iblk1 V c 5 t) (iblk1 V c 6 t) (iblk1 V c 7 t) := by dsimp only [dat1]
theorem after1_11 (c : Dev nD) (t : Fin cfg1.N) : (dat1 V c).after 11 t = acc1_11 V c t.val t.isLt := by dsimp only [dat1]
theorem after1_12 (c : Dev nD) (t : Fin cfg1.N) : (dat1 V c).after 12 t = acc1_12 V c t.val t.isLt := by dsimp only [dat1]
theorem after1_13 (c : Dev nD) (t : Fin cfg1.N) : (dat1 V c).after 13 t = acc1_13 V c t.val t.isLt := by dsimp only [dat1]
theorem after1_14 (c : Dev nD) (t : Fin cfg1.N) : (dat1 V c).after 14 t = z3at V c (t.val + 1) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

theorem step1_11 (c : Dev nD) (t : Fin cfg1.N) (d) :
    out1_11 (grid1.coords t) (iblk1 V c 0 t) (iblk1 V c 1 t) (iblk1 V c 2 t) (iblk1 V c 3 t) (iblk1 V c 4 t) (iblk1 V c 5 t) (iblk1 V c 6 t) (iblk1 V c 7 t) ((dat1 V c).before 11 t d) = acc1_11 V c t.val t.isLt := by
  show p1_11 V c t ((dat1 V c).before 11 t d) = _
  rcases t with ⟨n, hn⟩
  cases n with
  | zero =>
    simp only [acc1_11_zero]
    exact out1_11_first _ (by rw [coords1_1]; rfl) _ _ _ _ _ _ _ _ _ _
  | succ k =>
    by_cases hk : (k + 1) % 24 = 0
    · simp only [acc1_11_succ]
      exact out1_11_first _ (by rw [coords1_1]; exact hk) _ _ _ _ _ _ _ _ _ _
    · rw [(dat1 V c).before_out_kept 11 rfl ⟨k + 1, hn⟩ (Nat.succ_ne_zero k)
        (noFlush1_11 _ (by simp only [Nat.add_sub_cancel]; omega)) (fun _ => rfl) (fun _ _ => rfl) d, after1_11]
      simp only [acc1_11_succ]; rfl
theorem step1_12 (c : Dev nD) (t : Fin cfg1.N) (d) :
    out1_12 (grid1.coords t) (iblk1 V c 0 t) (iblk1 V c 1 t) (iblk1 V c 2 t) (iblk1 V c 3 t) (iblk1 V c 4 t) (iblk1 V c 5 t) (iblk1 V c 6 t) (iblk1 V c 7 t) ((dat1 V c).before 12 t d) = acc1_12 V c t.val t.isLt := by
  show p1_12 V c t ((dat1 V c).before 12 t d) = _
  rcases t with ⟨n, hn⟩
  cases n with
  | zero =>
    simp only [acc1_12_zero]
    exact out1_12_first _ (by rw [coords1_1]; rfl) _ _ _ _ _ _ _ _ _ _
  | succ k =>
    by_cases hk : (k + 1) % 24 = 0
    · simp only [acc1_12_succ]
      exact out1_12_first _ (by rw [coords1_1]; exact hk) _ _ _ _ _ _ _ _ _ _
    · rw [(dat1 V c).before_out_kept 12 rfl ⟨k + 1, hn⟩ (Nat.succ_ne_zero k)
        (noFlush1_12 _ (by simp only [Nat.add_sub_cancel]; omega)) (fun _ => rfl) (fun _ _ => rfl) d, after1_12]
      simp only [acc1_12_succ]; rfl
theorem step1_13 (c : Dev nD) (t : Fin cfg1.N) (d) :
    out1_13 (grid1.coords t) (iblk1 V c 0 t) (iblk1 V c 1 t) (iblk1 V c 2 t) (iblk1 V c 3 t) (iblk1 V c 4 t) (iblk1 V c 5 t) (iblk1 V c 6 t) (iblk1 V c 7 t) ((dat1 V c).before 13 t d) = acc1_13 V c t.val t.isLt := by
  show p1_13 V c t ((dat1 V c).before 13 t d) = _
  rcases t with ⟨n, hn⟩
  cases n with
  | zero =>
    simp only [acc1_13_zero]
    exact out1_13_first _ (by rw [coords1_1]; rfl) _ _ _ _ _ _ _ _ _ _
  | succ k =>
    by_cases hk : (k + 1) % 24 = 0
    · simp only [acc1_13_succ]
      exact out1_13_first _ (by rw [coords1_1]; exact hk) _ _ _ _ _ _ _ _ _ _
    · rw [(dat1 V c).before_out_kept 13 rfl ⟨k + 1, hn⟩ (Nat.succ_ne_zero k)
        (noFlush1_13 _ (by simp only [Nat.add_sub_cancel]; omega)) (fun _ => rfl) (fun _ _ => rfl) d, after1_13]
      simp only [acc1_13_succ]; rfl

/-- Window 14 is the one held to a predicate: it is entered at contents of which only the written slabs are known. -/
def fgt1 : Fin cfg1.W → Bool := fun w => match w with | ⟨14, _⟩ => true | _ => false
def Rl1 (c : Dev nD) : (w : Fin cfg1.W) → Fin cfg1.N → ((cfg1.win w).block.Idx → Elt F (cfg1.win w).elt) → Prop := fun w => match w with
  | ⟨14, _⟩ => fun t X => Ok14 V c t.val X
  | _ => fun _ _ => True

theorem step1_14 (c : Dev nD) (t : Fin cfg1.N) (Y : Vec F S24x96x512 .f32) (hY : ((dat1 V c).toRRel fgt1 (Rl1 V c)).Finds 14 t Y) :
    Ok14 V c t.val (out1_14 (grid1.coords t) (iblk1 V c 0 t) (iblk1 V c 1 t) (iblk1 V c 2 t) (iblk1 V c 3 t) (iblk1 V c 4 t) (iblk1 V c 5 t) (iblk1 V c 6 t) (iblk1 V c 7 t) Y) := by
  intro j hj
  have hj0 : (j 0).val < 24 := (j 0).isLt
  have hN : cfg1.N = 888 := N_1
  rw [z3at_succ]
  show p1_14 V c t Y j = _
  have hc0 := coords1_0 t
  have hc1 := coords1_1 t
  by_cases hs : (j 0).val = t.val % 24
  · by_cases hf : t.val < 24
    · exact out1_14_first _ (by rw [hc0]; omega) _ _ _ _ _ _ _ _ _ _ j (by rw [hc1]; exact hs)
    · refine out1_14_on _ _ _ _ _ _ _ _ _ _ _ (fun j' hj' => ?_) j (by rw [hc1]; exact hs)
      rcases (((dat1 V c).toRRel fgt1 (Rl1 V c)).finds_of_pos (w := 14) (Pipeline.Window.fetch_out _ rfl t) (by omega) Y).1 hY with h | h
      · rw [noFlush1_14 _ (by simp only; have := t.isLt; omega)] at h; exact absurd h Bool.false_ne_true
      · have hok : Ok14 V c (t.val - 1) Y := (dat1 V c).toRRel_leaves (w := 14) rfl h
        have := hok j' (by rw [hj', hc1]; omega)
        rwa [Nat.sub_add_cancel (by omega)] at this
  · have e1 : p1_14 V c t Y j = Y j := out1_14_off _ _ _ _ _ _ _ _ _ _ j (by rw [hc1]; exact hs)
    have e2 : p1_14 V c t (z3at V c t.val) j = z3at V c t.val j := out1_14_off _ _ _ _ _ _ _ _ _ _ j (by rw [hc1]; exact hs)
    rw [e1, e2]
    have ht : t.val ≠ 0 := fun h => hs (by omega)
    rcases (((dat1 V c).toRRel fgt1 (Rl1 V c)).finds_of_pos (w := 14) (Pipeline.Window.fetch_out _ rfl t) ht Y).1 hY with h | h
    · rw [noFlush1_14 _ (by simp only; have := t.isLt; omega)] at h; exact absurd h Bool.false_ne_true
    · have hok : Ok14 V c (t.val - 1) Y := (dat1 V c).toRRel_leaves (w := 14) rfl h
      have := hok j (by omega)
      rwa [Nat.sub_add_cancel (by omega)] at this

/-- At the region's exit the array of window 14 is the recursion's last value. -/
theorem arr1_14 (c : Dev nD) (G) (hG : ((dat1 V c).toRRel fgt1 (Rl1 V c)).ArrAt 14 cfg1.N G) : G = (dat1 V c).arrAt 14 cfg1.N := by
  obtain ⟨X, hX, hA⟩ := hG.exists_exact
  refine (hA (dat1 V c).after fun u hu hfl => ?_).trans rfl
  have hN : cfg1.N = 888 := N_1
  have hu7 : u.val = 887 := by
    by_contra h
    rw [noFlush1_14 u h] at hfl; exact Bool.false_ne_true hfl
  have hok : Ok14 V c u.val (X u) := (dat1 V c).toRRel_leaves (w := 14) rfl (hX u hu hfl)
  rw [after1_14]
  exact (funext fun j => hok j (by have : (j 0).val < 24 := (j 0).isLt; omega)).symm

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ Y, ⌜((dat1 V c).toRRel fgt1 (Rl1 V c)).Finds 14 t Y⌝ ∗ owns (c : Thread nD τ) (st1_14 t) fullShare Y))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ (∃ X, ⌜Rl1 V c 14 t X⌝ ∗ owns (c : Thread nD τ) (st1_14 t) fullShare X))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%Y14, %hY14, H14⟩⟩
  iapply (sound_kernel1 c Set.univ (grid1.coords t) _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) ((dat1 V c).before 11 t d11) ((dat1 V c).before 12 t d12) ((dat1 V c).before 13 t d13) Y14 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexact H11
  isplitl [H12]; · iexact H12
  isplitl [H13]; · iexact H13
  isplitl [H14]; · iexact H14
  rw [step1_11, step1_12, step1_13]
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexists _
  isplitr
  · ipureintro; exact step1_14 V c t Y14 hY14
  iexact H14

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) :
    Pipeline.BodyObligationRel (dat1 (F := F) V c) (defs₀ (F := F)) Variants.none () Set.univ fgt1 (Rl1 V c) := fun t => by
  rw [bigSep_W1, bigSep_W1, defs₀_row1]
  exact triple_restated (sound_body1 V c t) rfl .rfl fun _ => .rfl

end Regions

end Cert.KernelIdeal.Run

end
-- ==== Proof.KI.Region2.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.DatRel
public import Idealize.ShloMosaic.Lib.Pipeline.ArrRel

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 37 = 0 :=
  (fun t => by
    have ht : t.val < 444 := Nat.lt_of_lt_of_eq t.isLt N_2
    have e0 : (grid2.coords t 0).val = t.val / 37 % 12 := Pipeline.Grid.coords_val t 0 (by decide) rfl
    have e1 : (grid2.coords t 1).val = t.val / 1 % 37 := Pipeline.Grid.coords_val t 1 (by decide) rfl
    simp only [cond2_0, e0, e1]
    word_cmp
   : ∀ t : Fin grid2.N, cond2_0 (grid2.coords t) ↔ t.val % 37 = 0)

abbrev cond2_1 (i : grid2.Coords) : Prop := k2_cond2 i = 1#1
theorem hcond2_1 : ∀ t : Fin cfg2.N, cond2_1 (grid2.coords t) ↔ t.val % 37 = 36 :=
  (fun t => by
    have ht : t.val < 444 := Nat.lt_of_lt_of_eq t.isLt N_2
    have e0 : (grid2.coords t 0).val = t.val / 37 % 12 := Pipeline.Grid.coords_val t 0 (by decide) rfl
    have e1 : (grid2.coords t 1).val = t.val / 1 % 37 := Pipeline.Grid.coords_val t 1 (by decide) rfl
    simp only [cond2_1, k2_cond2, e0, e1]
    word_cmp
   : ∀ t : Fin grid2.N, cond2_1 (grid2.coords t) ↔ t.val % 37 = 36)

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem idleAt2_5_A : ∀ t : Fin cfg2.N, cond2_0 (grid2.coords t) → ¬cond2_1 (grid2.coords t) → cfg2.idle 5 (grid2.coords t) = true := by decide +kernel
theorem noFlush2_5_A : ∀ t : Fin cfg2.N, cond2_0 (grid2.coords t) → ¬cond2_1 (grid2.coords t) → (cfg2.win 5).flush t = false := by decide +kernel
theorem idleAt2_5_B : ∀ t : Fin cfg2.N, ¬cond2_0 (grid2.coords t) → ¬cond2_1 (grid2.coords t) → cfg2.idle 5 (grid2.coords t) = true := by decide +kernel
theorem noFlush2_5_B : ∀ t : Fin cfg2.N, ¬cond2_0 (grid2.coords t) → ¬cond2_1 (grid2.coords t) → (cfg2.win 5).flush t = false := by decide +kernel
theorem liveAt2_5_C : ∀ t : Fin cfg2.N, ¬cond2_0 (grid2.coords t) → cond2_1 (grid2.coords t) → cfg2.idle 5 (grid2.coords t) = false := by decide +kernel

abbrev VO2_5 : View sig .tc .vmem S1024x3584 .bf16 := (Memref.whole cc2_stg5_0 : Memref sig .tc .vmem S1024x3584 .bf16).view
abbrev ms2_0 (t : Fin cfg2.N) : Memref sig .tc .vmem S1024x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x3584 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x3584 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x128 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x3584 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x3584 .bf16 := win2_5.stage (cfg2.slots t 5)
abbrev hs2_5 (t : Fin cfg2.N) : (ms2_5 t).IsWhole := hstage2_5 ((cfg2.slots t 5).cast nbuf2_5)
abbrev scM2_0 : Memref sig .tc .vmem S1024x3584 .f32 := Memref.whole cc2_scratch0
abbrev VS2_0 : View sig .tc .vmem S1024x3584 .f32 := scM2_0.view

theorem scopedRest2_flat (c : Dev nD) :
    (Pipeline.scopedRest spec2 c : sProp 𝕄)
      = iprop((∃ f : Buf (Elt F) ((c : Thread nD τ).loc cc2_scratch0), ((c : Thread nD τ).loc cc2_scratch0) ↦{fullShare} f) ∗ Pipeline.scopedRestBut spec2 c [cc2_scratch0]) := by
  rw [scopedRest2_split]

theorem PhiA2_eq (c : Dev nD) :
    (Pipeline.ΦA spec2 c : sProp 𝕄)
      = iprop(iprop((∃ d, owns (c : Thread nD τ) scM2_0 fullShare d) ∗ Pipeline.scopedRestBut spec2 c [cc2_scratch0]) ∗ (∃ r, prngReg c r)) := by
  unfold Pipeline.ΦA; rw [scopedRest2_flat]; simp only [scM2_0, owns_whole]; try rfl

set_option maxHeartbeats 1000000 in
noncomputable def kernelRun2_A (c : Dev nD) (i : grid2.Coords) (arg2 : Memref sig .tc .vmem S1024x512 .bf16) (harg2 : arg2.IsWhole) (arg3 : Memref sig .tc .vmem S512x3584 .bf16) (harg3 : arg3.IsWhole) (arg4 : Memref sig .tc .vmem S1024x3584 .bf16) (harg4 : arg4.IsWhole) (arg5 : Memref sig .tc .vmem S1024x128 .bf16) (harg5 : arg5.IsWhole) (arg6 : Memref sig .tc .vmem S128x3584 .bf16) (harg6 : arg6.IsWhole) (arg7 : Memref sig .tc .vmem S1024x3584 .bf16) (harg7 : arg7.IsWhole) (arg8 : Memref sig .tc .vmem S1024x3584 .f32) (harg8 : arg8.IsWhole) (hc0 : cond2_0 i) (hc1 : ¬cond2_1 i)
    (x0 : Vec F S1024x512 .bf16) (x1 : Vec F S512x3584 .bf16) (x2 : Vec F S1024x3584 .bf16) (x3 : Vec F S1024x128 .bf16) (x4 : Vec F S128x3584 .bf16) :
    Σ' (L5 : List (View.Piece (Elt F) S1024x3584 .bf16)), { LS0 : List (View.Piece (Elt F) S1024x3584 .f32) //
      ∀ (xi5 : Vec F S1024x3584 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc2_down i arg2 harg2 arg3 harg3 arg4 harg4 arg5 harg5 arg6 harg6 arg7 harg7 arg8 harg8) K } := by
  refine ⟨[], ?_, fun xi5 E K => ?run⟩
  case run =>
    simp only [cc2_down_eq_skeleton]; unfold cc2_down_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

def out2_A_5 (c : Dev nD) (i : grid2.Coords) (arg2 : Memref sig .tc .vmem S1024x512 .bf16) (harg2 : arg2.IsWhole) (arg3 : Memref sig .tc .vmem S512x3584 .bf16) (harg3 : arg3.IsWhole) (arg4 : Memref sig .tc .vmem S1024x3584 .bf16) (harg4 : arg4.IsWhole) (arg5 : Memref sig .tc .vmem S1024x128 .bf16) (harg5 : arg5.IsWhole) (arg6 : Memref sig .tc .vmem S128x3584 .bf16) (harg6 : arg6.IsWhole) (arg7 : Memref sig .tc .vmem S1024x3584 .bf16) (harg7 : arg7.IsWhole) (arg8 : Memref sig .tc .vmem S1024x3584 .f32) (harg8 : arg8.IsWhole) (hc0 : cond2_0 i) (hc1 : ¬cond2_1 i)
    (x0 : Vec F S1024x512 .bf16) (x1 : Vec F S512x3584 .bf16) (x2 : Vec F S1024x3584 .bf16) (x3 : Vec F S1024x128 .bf16) (x4 : Vec F S128x3584 .bf16) : Vec F S1024x3584 .bf16 :=
  VO2_5.read (Elt F) (VO2_5.writes (Elt F) VO2_5.junk (kernelRun2_A c i arg2 harg2 arg3 harg3 arg4 harg4 arg5 harg5 arg6 harg6 arg7 harg7 arg8 harg8 hc0 hc1 x0 x1 x2 x3 x4).1)

theorem scover2_A_0 (c : Dev nD) (i : grid2.Coords) (arg2 : Memref sig .tc .vmem S1024x512 .bf16) (harg2 : arg2.IsWhole) (arg3 : Memref sig .tc .vmem S512x3584 .bf16) (harg3 : arg3.IsWhole) (arg4 : Memref sig .tc .vmem S1024x3584 .bf16) (harg4 : arg4.IsWhole) (arg5 : Memref sig .tc .vmem S1024x128 .bf16) (harg5 : arg5.IsWhole) (arg6 : Memref sig .tc .vmem S128x3584 .bf16) (harg6 : arg6.IsWhole) (arg7 : Memref sig .tc .vmem S1024x3584 .bf16) (harg7 : arg7.IsWhole) (arg8 : Memref sig .tc .vmem S1024x3584 .f32) (harg8 : arg8.IsWhole) (hc0 : cond2_0 i) (hc1 : ¬cond2_1 i)
    (x0 : Vec F S1024x512 .bf16) (x1 : Vec F S512x3584 .bf16) (x2 : Vec F S1024x3584 .bf16) (x3 : Vec F S1024x128 .bf16) (x4 : Vec F S128x3584 .bf16) (y : S1024x3584.Idx) :
    ∃ pc ∈ (kernelRun2_A c i arg2 harg2 arg3 harg3 arg4 harg4 arg5 harg5 arg6 harg6 arg7 harg7 arg8 harg8 hc0 hc1 x0 x1 x2 x3 x4).2.1, y ∈ pc.1.set :=
  View.cover_of_tiledL (kernelRun2_A c i arg2 harg2 arg3 harg3 arg4 harg4 arg5 harg5 arg6 harg6 arg7 harg7 arg8 harg8 hc0 hc1 x0 x1 x2 x3 x4).2.1 S1024x3584.size (by sl_kernel_rfl) y

def sout2_A_0 (c : Dev nD) (i : grid2.Coords) (arg2 : Memref sig .tc .vmem S1024x512 .bf16) (harg2 : arg2.IsWhole) (arg3 : Memref sig .tc .vmem S512x3584 .bf16) (harg3 : arg3.IsWhole) (arg4 : Memref sig .tc .vmem S1024x3584 .bf16) (harg4 : arg4.IsWhole) (arg5 : Memref sig .tc .vmem S1024x128 .bf16) (harg5 : arg5.IsWhole) (arg6 : Memref sig .tc .vmem S128x3584 .bf16) (harg6 : arg6.IsWhole) (arg7 : Memref sig .tc .vmem S1024x3584 .bf16) (harg7 : arg7.IsWhole) (arg8 : Memref sig .tc .vmem S1024x3584 .f32) (harg8 : arg8.IsWhole) (hc0 : cond2_0 i) (hc1 : ¬cond2_1 i)
    (x0 : Vec F S1024x512 .bf16) (x1 : Vec F S512x3584 .bf16) (x2 : Vec F S1024x3584 .bf16) (x3 : Vec F S1024x128 .bf16) (x4 : Vec F S128x3584 .bf16) : Vec F S1024x3584 .f32 :=
  VS2_0.read (Elt F) (VS2_0.writes (Elt F) VS2_0.junk (kernelRun2_A c i arg2 harg2 arg3 harg3 arg4 harg4 arg5 harg5 arg6 harg6 arg7 harg7 arg8 harg8 hc0 hc1 x0 x1 x2 x3 x4).2.1)

set_option maxHeartbeats 1000000 in
noncomputable def kernelRun2_B (c : Dev nD) (i : grid2.Coords) (arg2 : Memref sig .tc .vmem S1024x512 .bf16) (harg2 : arg2.IsWhole) (arg3 : Memref sig .tc .vmem S512x3584 .bf16) (harg3 : arg3.IsWhole) (arg4 : Memref sig .tc .vmem S1024x3584 .bf16) (harg4 : arg4.IsWhole) (arg5 : Memref sig .tc .vmem S1024x128 .bf16) (harg5 : arg5.IsWhole) (arg6 : Memref sig .tc .vmem S128x3584 .bf16) (harg6 : arg6.IsWhole) (arg7 : Memref sig .tc .vmem S1024x3584 .bf16) (harg7 : arg7.IsWhole) (arg8 : Memref sig .tc .vmem S1024x3584 .f32) (harg8 : arg8.IsWhole) (hc0 : ¬cond2_0 i) (hc1 : ¬cond2_1 i)
    (x0 : Vec F S1024x512 .bf16) (x1 : Vec F S512x3584 .bf16) (x2 : Vec F S1024x3584 .bf16) (x3 : Vec F S1024x128 .bf16) (x4 : Vec F S128x3584 .bf16) (xs0 : Vec F S1024x3584 .f32) :
    Σ' (L5 : List (View.Piece (Elt F) S1024x3584 .bf16)), { LS0 : List (View.Piece (Elt F) S1024x3584 .f32) //
      ∀ (xi5 : Vec F S1024x3584 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc2_down i arg2 harg2 arg3 harg3 arg4 harg4 arg5 harg5 arg6 harg6 arg7 harg7 arg8 harg8) K } := by
  refine ⟨[], ?_, fun xi5 E K => ?run⟩
  case run =>
    simp only [cc2_down_eq_skeleton]; unfold cc2_down_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

def out2_B_5 (c : Dev nD) (i : grid2.Coords) (arg2 : Memref sig .tc .vmem S1024x512 .bf16) (harg2 : arg2.IsWhole) (arg3 : Memref sig .tc .vmem S512x3584 .bf16) (harg3 : arg3.IsWhole) (arg4 : Memref sig .tc .vmem S1024x3584 .bf16) (harg4 : arg4.IsWhole) (arg5 : Memref sig .tc .vmem S1024x128 .bf16) (harg5 : arg5.IsWhole) (arg6 : Memref sig .tc .vmem S128x3584 .bf16) (harg6 : arg6.IsWhole) (arg7 : Memref sig .tc .vmem S1024x3584 .bf16) (harg7 : arg7.IsWhole) (arg8 : Memref sig .tc .vmem S1024x3584 .f32) (harg8 : arg8.IsWhole) (hc0 : ¬cond2_0 i) (hc1 : ¬cond2_1 i)
    (x0 : Vec F S1024x512 .bf16) (x1 : Vec F S512x3584 .bf16) (x2 : Vec F S1024x3584 .bf16) (x3 : Vec F S1024x128 .bf16) (x4 : Vec F S128x3584 .bf16) (xs0 : Vec F S1024x3584 .f32) : Vec F S1024x3584 .bf16 :=
  VO2_5.read (Elt F) (VO2_5.writes (Elt F) VO2_5.junk (kernelRun2_B c i arg2 harg2 arg3 harg3 arg4 harg4 arg5 harg5 arg6 harg6 arg7 harg7 arg8 harg8 hc0 hc1 x0 x1 x2 x3 x4 xs0).1)

theorem scover2_B_0 (c : Dev nD) (i : grid2.Coords) (arg2 : Memref sig .tc .vmem S1024x512 .bf16) (harg2 : arg2.IsWhole) (arg3 : Memref sig .tc .vmem S512x3584 .bf16) (harg3 : arg3.IsWhole) (arg4 : Memref sig .tc .vmem S1024x3584 .bf16) (harg4 : arg4.IsWhole) (arg5 : Memref sig .tc .vmem S1024x128 .bf16) (harg5 : arg5.IsWhole) (arg6 : Memref sig .tc .vmem S128x3584 .bf16) (harg6 : arg6.IsWhole) (arg7 : Memref sig .tc .vmem S1024x3584 .bf16) (harg7 : arg7.IsWhole) (arg8 : Memref sig .tc .vmem S1024x3584 .f32) (harg8 : arg8.IsWhole) (hc0 : ¬cond2_0 i) (hc1 : ¬cond2_1 i)
    (x0 : Vec F S1024x512 .bf16) (x1 : Vec F S512x3584 .bf16) (x2 : Vec F S1024x3584 .bf16) (x3 : Vec F S1024x128 .bf16) (x4 : Vec F S128x3584 .bf16) (xs0 : Vec F S1024x3584 .f32) (y : S1024x3584.Idx) :
    ∃ pc ∈ (kernelRun2_B c i arg2 harg2 arg3 harg3 arg4 harg4 arg5 harg5 arg6 harg6 arg7 harg7 arg8 harg8 hc0 hc1 x0 x1 x2 x3 x4 xs0).2.1, y ∈ pc.1.set :=
  View.cover_of_tiledL (kernelRun2_B c i arg2 harg2 arg3 harg3 arg4 harg4 arg5 harg5 arg6 harg6 arg7 harg7 arg8 harg8 hc0 hc1 x0 x1 x2 x3 x4 xs0).2.1 S1024x3584.size (by sl_kernel_rfl) y

def sout2_B_0 (c : Dev nD) (i : grid2.Coords) (arg2 : Memref sig .tc .vmem S1024x512 .bf16) (harg2 : arg2.IsWhole) (arg3 : Memref sig .tc .vmem S512x3584 .bf16) (harg3 : arg3.IsWhole) (arg4 : Memref sig .tc .vmem S1024x3584 .bf16) (harg4 : arg4.IsWhole) (arg5 : Memref sig .tc .vmem S1024x128 .bf16) (harg5 : arg5.IsWhole) (arg6 : Memref sig .tc .vmem S128x3584 .bf16) (harg6 : arg6.IsWhole) (arg7 : Memref sig .tc .vmem S1024x3584 .bf16) (harg7 : arg7.IsWhole) (arg8 : Memref sig .tc .vmem S1024x3584 .f32) (harg8 : arg8.IsWhole) (hc0 : ¬cond2_0 i) (hc1 : ¬cond2_1 i)
    (x0 : Vec F S1024x512 .bf16) (x1 : Vec F S512x3584 .bf16) (x2 : Vec F S1024x3584 .bf16) (x3 : Vec F S1024x128 .bf16) (x4 : Vec F S128x3584 .bf16) (xs0 : Vec F S1024x3584 .f32) : Vec F S1024x3584 .f32 :=
  VS2_0.read (Elt F) (VS2_0.writes (Elt F) VS2_0.junk (kernelRun2_B c i arg2 harg2 arg3 harg3 arg4 harg4 arg5 harg5 arg6 harg6 arg7 harg7 arg8 harg8 hc0 hc1 x0 x1 x2 x3 x4 xs0).2.1)

set_option maxHeartbeats 1000000 in
noncomputable def kernelRun2_C (c : Dev nD) (i : grid2.Coords) (arg2 : Memref sig .tc .vmem S1024x512 .bf16) (harg2 : arg2.IsWhole) (arg3 : Memref sig .tc .vmem S512x3584 .bf16) (harg3 : arg3.IsWhole) (arg4 : Memref sig .tc .vmem S1024x3584 .bf16) (harg4 : arg4.IsWhole) (arg5 : Memref sig .tc .vmem S1024x128 .bf16) (harg5 : arg5.IsWhole) (arg6 : Memref sig .tc .vmem S128x3584 .bf16) (harg6 : arg6.IsWhole) (arg7 : Memref sig .tc .vmem S1024x3584 .bf16) (harg7 : arg7.IsWhole) (arg8 : Memref sig .tc .vmem S1024x3584 .f32) (harg8 : arg8.IsWhole) (hc0 : ¬cond2_0 i) (hc1 : cond2_1 i)
    (x0 : Vec F S1024x512 .bf16) (x1 : Vec F S512x3584 .bf16) (x2 : Vec F S1024x3584 .bf16) (x3 : Vec F S1024x128 .bf16) (x4 : Vec F S128x3584 .bf16) (xs0 : Vec F S1024x3584 .f32) :
    Σ' (L5 : List (View.Piece (Elt F) S1024x3584 .bf16)), { LS0 : List (View.Piece (Elt F) S1024x3584 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc2_down i arg2 harg2 arg3 harg3 arg4 harg4 arg5 harg5 arg6 harg6 arg7 harg7 arg8 harg8) K } := by
  refine ⟨?_, ?_, fun E K => ?run⟩
  case run =>
    simp only [cc2_down_eq_skeleton]; unfold cc2_down_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

theorem cover2_C_5 (c : Dev nD) (i : grid2.Coords) (arg2 : Memref sig .tc .vmem S1024x512 .bf16) (harg2 : arg2.IsWhole) (arg3 : Memref sig .tc .vmem S512x3584 .bf16) (harg3 : arg3.IsWhole) (arg4 : Memref sig .tc .vmem S1024x3584 .bf16) (harg4 : arg4.IsWhole) (arg5 : Memref sig .tc .vmem S1024x128 .bf16) (harg5 : arg5.IsWhole) (arg6 : Memref sig .tc .vmem S128x3584 .bf16) (harg6 : arg6.IsWhole) (arg7 : Memref sig .tc .vmem S1024x3584 .bf16) (harg7 : arg7.IsWhole) (arg8 : Memref sig .tc .vmem S1024x3584 .f32) (harg8 : arg8.IsWhole) (hc0 : ¬cond2_0 i) (hc1 : cond2_1 i)
    (x0 : Vec F S1024x512 .bf16) (x1 : Vec F S512x3584 .bf16) (x2 : Vec F S1024x3584 .bf16) (x3 : Vec F S1024x128 .bf16) (x4 : Vec F S128x3584 .bf16) (xs0 : Vec F S1024x3584 .f32) (y : S1024x3584.Idx) :
    ∃ pc ∈ (kernelRun2_C c i arg2 harg2 arg3 harg3 arg4 harg4 arg5 harg5 arg6 harg6 arg7 harg7 arg8 harg8 hc0 hc1 x0 x1 x2 x3 x4 xs0).1, y ∈ pc.1.set :=
  View.cover_of_tiledL (kernelRun2_C c i arg2 harg2 arg3 harg3 arg4 harg4 arg5 harg5 arg6 harg6 arg7 harg7 arg8 harg8 hc0 hc1 x0 x1 x2 x3 x4 xs0).1 S1024x3584.size (by sl_kernel_rfl) y

def out2_C_5 (c : Dev nD) (i : grid2.Coords) (arg2 : Memref sig .tc .vmem S1024x512 .bf16) (harg2 : arg2.IsWhole) (arg3 : Memref sig .tc .vmem S512x3584 .bf16) (harg3 : arg3.IsWhole) (arg4 : Memref sig .tc .vmem S1024x3584 .bf16) (harg4 : arg4.IsWhole) (arg5 : Memref sig .tc .vmem S1024x128 .bf16) (harg5 : arg5.IsWhole) (arg6 : Memref sig .tc .vmem S128x3584 .bf16) (harg6 : arg6.IsWhole) (arg7 : Memref sig .tc .vmem S1024x3584 .bf16) (harg7 : arg7.IsWhole) (arg8 : Memref sig .tc .vmem S1024x3584 .f32) (harg8 : arg8.IsWhole) (hc0 : ¬cond2_0 i) (hc1 : cond2_1 i)
    (x0 : Vec F S1024x512 .bf16) (x1 : Vec F S512x3584 .bf16) (x2 : Vec F S1024x3584 .bf16) (x3 : Vec F S1024x128 .bf16) (x4 : Vec F S128x3584 .bf16) (xs0 : Vec F S1024x3584 .f32) : Vec F S1024x3584 .bf16 :=
  VO2_5.read (Elt F) (VO2_5.writes (Elt F) VO2_5.junk (kernelRun2_C c i arg2 harg2 arg3 harg3 arg4 harg4 arg5 harg5 arg6 harg6 arg7 harg7 arg8 harg8 hc0 hc1 x0 x1 x2 x3 x4 xs0).1)

theorem scover2_C_0 (c : Dev nD) (i : grid2.Coords) (arg2 : Memref sig .tc .vmem S1024x512 .bf16) (harg2 : arg2.IsWhole) (arg3 : Memref sig .tc .vmem S512x3584 .bf16) (harg3 : arg3.IsWhole) (arg4 : Memref sig .tc .vmem S1024x3584 .bf16) (harg4 : arg4.IsWhole) (arg5 : Memref sig .tc .vmem S1024x128 .bf16) (harg5 : arg5.IsWhole) (arg6 : Memref sig .tc .vmem S128x3584 .bf16) (harg6 : arg6.IsWhole) (arg7 : Memref sig .tc .vmem S1024x3584 .bf16) (harg7 : arg7.IsWhole) (arg8 : Memref sig .tc .vmem S1024x3584 .f32) (harg8 : arg8.IsWhole) (hc0 : ¬cond2_0 i) (hc1 : cond2_1 i)
    (x0 : Vec F S1024x512 .bf16) (x1 : Vec F S512x3584 .bf16) (x2 : Vec F S1024x3584 .bf16) (x3 : Vec F S1024x128 .bf16) (x4 : Vec F S128x3584 .bf16) (xs0 : Vec F S1024x3584 .f32) (y : S1024x3584.Idx) :
    ∃ pc ∈ (kernelRun2_C c i arg2 harg2 arg3 harg3 arg4 harg4 arg5 harg5 arg6 harg6 arg7 harg7 arg8 harg8 hc0 hc1 x0 x1 x2 x3 x4 xs0).2.1, y ∈ pc.1.set :=
  View.cover_of_tiledL (kernelRun2_C c i arg2 harg2 arg3 harg3 arg4 harg4 arg5 harg5 arg6 harg6 arg7 harg7 arg8 harg8 hc0 hc1 x0 x1 x2 x3 x4 xs0).2.1 S1024x3584.size (by sl_kernel_rfl) y

def sout2_C_0 (c : Dev nD) (i : grid2.Coords) (arg2 : Memref sig .tc .vmem S1024x512 .bf16) (harg2 : arg2.IsWhole) (arg3 : Memref sig .tc .vmem S512x3584 .bf16) (harg3 : arg3.IsWhole) (arg4 : Memref sig .tc .vmem S1024x3584 .bf16) (harg4 : arg4.IsWhole) (arg5 : Memref sig .tc .vmem S1024x128 .bf16) (harg5 : arg5.IsWhole) (arg6 : Memref sig .tc .vmem S128x3584 .bf16) (harg6 : arg6.IsWhole) (arg7 : Memref sig .tc .vmem S1024x3584 .bf16) (harg7 : arg7.IsWhole) (arg8 : Memref sig .tc .vmem S1024x3584 .f32) (harg8 : arg8.IsWhole) (hc0 : ¬cond2_0 i) (hc1 : cond2_1 i)
    (x0 : Vec F S1024x512 .bf16) (x1 : Vec F S512x3584 .bf16) (x2 : Vec F S1024x3584 .bf16) (x3 : Vec F S1024x128 .bf16) (x4 : Vec F S128x3584 .bf16) (xs0 : Vec F S1024x3584 .f32) : Vec F S1024x3584 .f32 :=
  VS2_0.read (Elt F) (VS2_0.writes (Elt F) VS2_0.junk (kernelRun2_C c i arg2 harg2 arg3 harg3 arg4 harg4 arg5 harg5 arg6 harg6 arg7 harg7 arg8 harg8 hc0 hc1 x0 x1 x2 x3 x4 xs0).2.1)

def outsAt2 (c : Dev nD) : (n : ℕ) → n < cfg2.N → Vec F S1024x3584 .bf16 × Vec F S1024x3584 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 37 = 0 then
      if h1 : (n + 1) % 37 = 36 then
        False.elim (by have hN : n + 1 < 444 := lt_of_lt_of_eq hn (show cfg2.N = 444 from N_2); omega)
      else
        (out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      if h1 : (n + 1) % 37 = 36 then
        (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)
      else
        (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)

theorem outsAt2_A (c : Dev nD) (t : Fin cfg2.N) (h0 : t.val % 37 = 0) (h1 : ¬t.val % 37 = 36) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans ((dif_neg h1).trans rfl)

theorem outsAt2_B (c : Dev nD) (t : Fin cfg2.N) (h0 : ¬t.val % 37 = 0) (h1 : ¬t.val % 37 = 36) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 37 = 0) (h1 : t.val % 37 = 36) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Pipeline.scopedRestBut spec2 c [cc2_scratch0]) ∗ (∃ r, prngReg c r))

theorem PhiS_zero2 (c : Dev nD) (n : ℕ) (h : n ≤ cfg2.N) (hz : n = 0) : PhiS2 V c n h = Pipeline.ΦA spec2 c := by
  subst hz; rfl

theorem PhiS_succ2 (c : Dev nD) (n : ℕ) (hn : n < cfg2.N) :
    PhiS2 V c (n + 1) hn = iprop(iprop(owns (c : Thread nD τ) scM2_0 fullShare ((outsAt2 V c n hn).2) ∗ Pipeline.scopedRestBut spec2 c [cc2_scratch0]) ∗ (∃ r, prngReg c r)) := rfl

theorem PhiS_pos2 (c : Dev nD) (n : ℕ) (h : n ≤ cfg2.N) (hz : n ≠ 0) :
    PhiS2 V c n h = iprop(iprop(owns (c : Thread nD τ) scM2_0 fullShare ((outsAt2 V c (n - 1) (by omega)).2) ∗ Pipeline.scopedRestBut spec2 c [cc2_scratch0]) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc2 (c : Dev nD) (t : Fin cfg2.N) :
    (dat2 V c).Φ t.castSucc = PhiS2 V c t.val (Nat.le_of_lt t.isLt) := by
  dsimp only [dat2]; exact Pipeline.Dat.Φ_castSucc (PhiS2 V c) t

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS_succ2]
  have hN : t.val < 444 := lt_of_lt_of_eq t.isLt (show cfg2.N = 444 from N_2)
  by_cases h0 : t.val % 37 = 0
  · by_cases h1 : t.val % 37 = 36
    · exfalso; omega
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [show (dat2 V c).leavesExact 3 t = owns (c : Thread nD τ) (ms2_3 t) fullShare ((dat2 V c).after 3 t) from by
      unfold Dat.leavesExact; rw [liveAt2_3 t], after2_3]
      rw [show (dat2 V c).leavesExact 4 t = owns (c : Thread nD τ) (ms2_4 t) fullShare ((dat2 V c).after 4 t) from by
      unfold Dat.leavesExact; rw [liveAt2_4 t], after2_4]
      rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
      by_cases hz : t.val = 0
      · rw [PhiS_castSucc2 V c t, PhiS_zero2 V c _ _ hz, PhiA2_eq]
        rw [outsAt2_A V c t h0 h1]
        unfold sout2_A_0; (try dsimp only)
        iintro ⟨⟨⟨HS0, HR1⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _)
            iexact HR1
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc2 V c t, PhiS_pos2 V c _ _ hz]
        rw [outsAt2_A V c t h0 h1]
        unfold sout2_A_0; (try dsimp only)
        iintro ⟨⟨⟨HS0, HR1⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _)
            iexact HR1
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 37 = 36
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [show (dat2 V c).leavesExact 3 t = owns (c : Thread nD τ) (ms2_3 t) fullShare ((dat2 V c).after 3 t) from by
      unfold Dat.leavesExact; rw [liveAt2_3 t], after2_3]
      rw [show (dat2 V c).leavesExact 4 t = owns (c : Thread nD τ) (ms2_4 t) fullShare ((dat2 V c).after 4 t) from by
      unfold Dat.leavesExact; rw [liveAt2_4 t], after2_4]
      rw [show (dat2 V c).leavesExact 5 t = owns (c : Thread nD τ) (ms2_5 t) fullShare ((dat2 V c).after 5 t) from by
      unfold Dat.leavesExact; rw [liveAt2_5_C t (fun h => h0 ((hcond2_0 t).mp h)) ((hcond2_1 t).mpr h1)], after2_5]
      by_cases hz : t.val = 0
      · exfalso; have hN : t.val < 444 := lt_of_lt_of_eq t.isLt (show cfg2.N = 444 from N_2); omega
      · rw [PhiS_castSucc2 V c t, PhiS_pos2 V c _ _ hz]
        rw [outsAt2_C V c t h0 h1]
        unfold out2_C_5 sout2_C_0; (try dsimp only)
        iintro ⟨⟨⟨HS0, HR1⟩, Hg⟩, Ho, ⟨%d0, H0⟩, ⟨%d1, H1⟩, ⟨%d2, H2⟩, ⟨%d3, H3⟩, ⟨%d4, H4⟩, ⟨%d5, H5⟩⟩
        iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _)
            iexact HR1
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover2_C_5 c _ _ _ _ _ _ _ _ _ _ _ _ _ _ _ _ _ _ _ _ _ _ _)
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [show (dat2 V c).leavesExact 3 t = owns (c : Thread nD τ) (ms2_3 t) fullShare ((dat2 V c).after 3 t) from by
      unfold Dat.leavesExact; rw [liveAt2_3 t], after2_3]
      rw [show (dat2 V c).leavesExact 4 t = owns (c : Thread nD τ) (ms2_4 t) fullShare ((dat2 V c).after 4 t) from by
      unfold Dat.leavesExact; rw [liveAt2_4 t], after2_4]
      rw [Dat.leavesExact_idle (dat2 V c) 5 t (idleAt2_5_B t (fun h => h0 ((hcond2_0 t).mp h)) (fun h => h1 ((hcond2_1 t).mp h))) (noFlush2_5_B t (fun h => h0 ((hcond2_0 t).mp h)) (fun h => h1 ((hcond2_1 t).mp h)))]
      by_cases hz : t.val = 0
      · exfalso; have hN : t.val < 444 := lt_of_lt_of_eq t.isLt (show cfg2.N = 444 from N_2); omega
      · rw [PhiS_castSucc2 V c t, PhiS_pos2 V c _ _ hz]
        rw [outsAt2_B V c t h0 h1]
        unfold sout2_B_0; (try dsimp only)
        iintro ⟨⟨⟨HS0, HR1⟩, Hg⟩, Ho, ⟨%d0, H0⟩, ⟨%d1, H1⟩, ⟨%d2, H2⟩, ⟨%d3, H3⟩, ⟨%d4, H4⟩, ⟨%d5, H5⟩⟩
        iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _)
            iexact HR1
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

theorem hin2 (c : Dev nD) : Pipeline.ΦA spec2 c ⊢ (dat2 V c).Φ 0 := by
  rw [show (dat2 V c).Φ 0 = PhiS2 V c 0 (Nat.zero_le _) from rfl, PhiS_zero2 V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS_pos2 V c _ _ ht, PhiA2_eq]
  iintro ⟨⟨HS0, HR1⟩, Hg⟩
  isplitl [HS0 HR1]
  · isplitl [HS0]
    · iexists _; iexact HS0
    iexact HR1
  iexact Hg

theorem hout2 (c : Dev nD) : (dat2 V c).Φ (Fin.last cfg2.N) ⊢ Pipeline.ΦA spec2 c :=
  Phi_out2 V c _ (by rw [Fin.val_last]; have : cfg2.N = 444 := N_2; omega)

end Regions

end Cert.KernelIdeal.Run

end
-- ==== Proof.KI.Region3.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.DatRel
public import Idealize.ShloMosaic.Lib.Pipeline.ArrRel

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 37 = 0 :=
  (fun t => by
    have ht : t.val < 888 := Nat.lt_of_lt_of_eq t.isLt N_3
    have e0 : (grid3.coords t 0).val = t.val / 37 % 24 := Pipeline.Grid.coords_val t 0 (by decide) rfl
    have e1 : (grid3.coords t 1).val = t.val / 1 % 37 := Pipeline.Grid.coords_val t 1 (by decide) rfl
    simp only [cond3_0, e0, e1]
    word_cmp
   : ∀ t : Fin grid3.N, cond3_0 (grid3.coords t) ↔ t.val % 37 = 0)

abbrev cond3_1 (i : grid3.Coords) : Prop := k3_cond2 i = 1#1
theorem hcond3_1 : ∀ t : Fin cfg3.N, cond3_1 (grid3.coords t) ↔ t.val % 37 = 36 :=
  (fun t => by
    have ht : t.val < 888 := Nat.lt_of_lt_of_eq t.isLt N_3
    have e0 : (grid3.coords t 0).val = t.val / 37 % 24 := Pipeline.Grid.coords_val t 0 (by decide) rfl
    have e1 : (grid3.coords t 1).val = t.val / 1 % 37 := Pipeline.Grid.coords_val t 1 (by decide) rfl
    simp only [cond3_1, k3_cond2, e0, e1]
    word_cmp
   : ∀ t : Fin grid3.N, cond3_1 (grid3.coords t) ↔ t.val % 37 = 36)

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
theorem liveAt3_4 : ∀ t : Fin cfg3.N, cfg3.idle 4 (grid3.coords t) = false := fun _ => rfl
theorem liveAt3_5 : ∀ t : Fin cfg3.N, cfg3.idle 5 (grid3.coords t) = false := fun _ => rfl
theorem liveAt3_6 : ∀ t : Fin cfg3.N, cfg3.idle 6 (grid3.coords t) = false := fun _ => rfl
theorem liveAt3_7 : ∀ t : Fin cfg3.N, cfg3.idle 7 (grid3.coords t) = false := fun _ => rfl
theorem liveAt3_8 : ∀ t : Fin cfg3.N, cfg3.idle 8 (grid3.coords t) = false := fun _ => rfl
theorem idleAt3_9_A : ∀ t : Fin cfg3.N, cond3_0 (grid3.coords t) → ¬cond3_1 (grid3.coords t) → cfg3.idle 9 (grid3.coords t) = true := by decide +kernel
theorem noFlush3_9_A : ∀ t : Fin cfg3.N, cond3_0 (grid3.coords t) → ¬cond3_1 (grid3.coords t) → (cfg3.win 9).flush t = false := by decide +kernel
theorem idleAt3_9_B : ∀ t : Fin cfg3.N, ¬cond3_0 (grid3.coords t) → ¬cond3_1 (grid3.coords t) → cfg3.idle 9 (grid3.coords t) = true := by decide +kernel
theorem noFlush3_9_B : ∀ t : Fin cfg3.N, ¬cond3_0 (grid3.coords t) → ¬cond3_1 (grid3.coords t) → (cfg3.win 9).flush t = false := by decide +kernel
theorem liveAt3_9_C : ∀ t : Fin cfg3.N, ¬cond3_0 (grid3.coords t) → cond3_1 (grid3.coords t) → cfg3.idle 9 (grid3.coords t) = false := by decide +kernel
theorem idleAt3_10_A : ∀ t : Fin cfg3.N, cond3_0 (grid3.coords t) → ¬cond3_1 (grid3.coords t) → cfg3.idle 10 (grid3.coords t) = true := by decide +kernel
theorem noFlush3_10_A : ∀ t : Fin cfg3.N, cond3_0 (grid3.coords t) → ¬cond3_1 (grid3.coords t) → (cfg3.win 10).flush t = false := by decide +kernel
theorem idleAt3_10_B : ∀ t : Fin cfg3.N, ¬cond3_0 (grid3.coords t) → ¬cond3_1 (grid3.coords t) → cfg3.idle 10 (grid3.coords t) = true := by decide +kernel
theorem noFlush3_10_B : ∀ t : Fin cfg3.N, ¬cond3_0 (grid3.coords t) → ¬cond3_1 (grid3.coords t) → (cfg3.win 10).flush t = false := by decide +kernel
theorem liveAt3_10_C : ∀ t : Fin cfg3.N, ¬cond3_0 (grid3.coords t) → cond3_1 (grid3.coords t) → cfg3.idle 10 (grid3.coords t) = false := by decide +kernel

abbrev VO3_9 : View sig .tc .vmem S512x1 .f32 := (Memref.whole cc3_stg9_0 : Memref sig .tc .vmem S512x1 .f32).view
abbrev VO3_10 : View sig .tc .vmem S512x3584 .bf16 := (Memref.whole cc3_stg10_0 : Memref sig .tc .vmem S512x3584 .bf16).view
abbrev ms3_0 (t : Fin cfg3.N) : Memref sig .tc .vmem S512x512 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x512 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S3584x512 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S3584x512 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S512x3584 .bf16 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S512x3584 .bf16 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x3584 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S512x128 .bf16 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S128x3584 .bf16 := win3_8.stage (cfg3.slots t 8)
abbrev hs3_8 (t : Fin cfg3.N) : (ms3_8 t).IsWhole := hstage3_8 ((cfg3.slots t 8).cast nbuf3_8)
abbrev ms3_9 (t : Fin cfg3.N) : Memref sig .tc .vmem S512x1 .f32 := win3_9.stage (cfg3.slots t 9)
abbrev hs3_9 (t : Fin cfg3.N) : (ms3_9 t).IsWhole := hstage3_9 ((cfg3.slots t 9).cast nbuf3_9)
abbrev ms3_10 (t : Fin cfg3.N) : Memref sig .tc .vmem S512x3584 .bf16 := win3_10.stage (cfg3.slots t 10)
abbrev hs3_10 (t : Fin cfg3.N) : (ms3_10 t).IsWhole := hstage3_10 ((cfg3.slots t 10).cast nbuf3_10)
abbrev scM3_0 : Memref sig .tc .vmem S512x3584 .f32 := Memref.whole cc3_scratch0
abbrev VS3_0 : View sig .tc .vmem S512x3584 .f32 := scM3_0.view

theorem scopedRest3_flat (c : Dev nD) :
    (Pipeline.scopedRest spec3 c : sProp 𝕄)
      = iprop((∃ f : Buf (Elt F) ((c : Thread nD τ).loc cc3_scratch0), ((c : Thread nD τ).loc cc3_scratch0) ↦{fullShare} f) ∗ Pipeline.scopedRestBut spec3 c [cc3_scratch0]) := by
  rw [scopedRest3_split]

theorem PhiA3_eq (c : Dev nD) :
    (Pipeline.ΦA spec3 c : sProp 𝕄)
      = iprop(iprop((∃ d, owns (c : Thread nD τ) scM3_0 fullShare d) ∗ Pipeline.scopedRestBut spec3 c [cc3_scratch0]) ∗ (∃ r, prngReg c r)) := by
  unfold Pipeline.ΦA; rw [scopedRest3_flat]; simp only [scM3_0, owns_whole]; try rfl

set_option maxHeartbeats 1000000 in
noncomputable def kernelRun3_A (c : Dev nD) (i : grid3.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x3584 .bf16) (harg6 : arg6.IsWhole) (arg7 : Memref sig .tc .vmem S512x3584 .bf16) (harg7 : arg7.IsWhole) (arg8 : Memref sig .tc .vmem S1x3584 .f32) (harg8 : arg8.IsWhole) (arg9 : Memref sig .tc .vmem S512x128 .bf16) (harg9 : arg9.IsWhole) (arg10 : Memref sig .tc .vmem S128x3584 .bf16) (harg10 : arg10.IsWhole) (arg11 : Memref sig .tc .vmem S512x1 .f32) (harg11 : arg11.IsWhole) (arg12 : Memref sig .tc .vmem S512x3584 .bf16) (harg12 : arg12.IsWhole) (arg13 : Memref sig .tc .vmem S512x3584 .f32) (harg13 : arg13.IsWhole) (hc0 : cond3_0 i) (hc1 : ¬cond3_1 i)
    (x0 : Vec F S512x512 .bf16) (x1 : Vec F S512x512 .bf16) (x2 : Vec F S3584x512 .bf16) (x3 : Vec F S3584x512 .bf16) (x4 : Vec F S512x3584 .bf16) (x5 : Vec F S512x3584 .bf16) (x6 : Vec F S1x3584 .f32) (x7 : Vec F S512x128 .bf16) (x8 : Vec F S128x3584 .bf16) :
    Σ' (L9 : List (View.Piece (Elt F) S512x1 .f32)), Σ' (L10 : List (View.Piece (Elt F) S512x3584 .bf16)), { LS0 : List (View.Piece (Elt F) S512x3584 .f32) //
      ∀ (xi9 : Vec F S512x1 .f32) (xi10 : Vec F S512x3584 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xi10 ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xi10 ∗ (∃ f, arg13.view.loc (c : Thread nD τ) ↦[arg13.view.set]{fullShare} arg13.view.writes (Elt F) f LS0)) -∗ K ⟨⟩))
          ⊢ wp frame (wpE (defs₀ (F := F)) Variants.none c none) E (cc3_dx i arg2 harg2 arg3 harg3 arg4 harg4 arg5 harg5 arg6 harg6 arg7 harg7 arg8 harg8 arg9 harg9 arg10 harg10 arg11 harg11 arg12 harg12 arg13 harg13) K } := by
  refine ⟨[], [], ?_, fun xi9 xi10 E K => ?run⟩
  case run =>
    simp only [cc3_dx_eq_skeleton]; unfold cc3_dx_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact HS0

def out3_A_9 (c : Dev nD) (i : grid3.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x3584 .bf16) (harg6 : arg6.IsWhole) (arg7 : Memref sig .tc .vmem S512x3584 .bf16) (harg7 : arg7.IsWhole) (arg8 : Memref sig .tc .vmem S1x3584 .f32) (harg8 : arg8.IsWhole) (arg9 : Memref sig .tc .vmem S512x128 .bf16) (harg9 : arg9.IsWhole) (arg10 : Memref sig .tc .vmem S128x3584 .bf16) (harg10 : arg10.IsWhole) (arg11 : Memref sig .tc .vmem S512x1 .f32) (harg11 : arg11.IsWhole) (arg12 : Memref sig .tc .vmem S512x3584 .bf16) (harg12 : arg12.IsWhole) (arg13 : Memref sig .tc .vmem S512x3584 .f32) (harg13 : arg13.IsWhole) (hc0 : cond3_0 i) (hc1 : ¬cond3_1 i)
    (x0 : Vec F S512x512 .bf16) (x1 : Vec F S512x512 .bf16) (x2 : Vec F S3584x512 .bf16) (x3 : Vec F S3584x512 .bf16) (x4 : Vec F S512x3584 .bf16) (x5 : Vec F S512x3584 .bf16) (x6 : Vec F S1x3584 .f32) (x7 : Vec F S512x128 .bf16) (x8 : Vec F S128x3584 .bf16) : Vec F S512x1 .f32 :=
  VO3_9.read (Elt F) (VO3_9.writes (Elt F) VO3_9.junk (kernelRun3_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1)

def out3_A_10 (c : Dev nD) (i : grid3.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x3584 .bf16) (harg6 : arg6.IsWhole) (arg7 : Memref sig .tc .vmem S512x3584 .bf16) (harg7 : arg7.IsWhole) (arg8 : Memref sig .tc .vmem S1x3584 .f32) (harg8 : arg8.IsWhole) (arg9 : Memref sig .tc .vmem S512x128 .bf16) (harg9 : arg9.IsWhole) (arg10 : Memref sig .tc .vmem S128x3584 .bf16) (harg10 : arg10.IsWhole) (arg11 : Memref sig .tc .vmem S512x1 .f32) (harg11 : arg11.IsWhole) (arg12 : Memref sig .tc .vmem S512x3584 .bf16) (harg12 : arg12.IsWhole) (arg13 : Memref sig .tc .vmem S512x3584 .f32) (harg13 : arg13.IsWhole) (hc0 : cond3_0 i) (hc1 : ¬cond3_1 i)
    (x0 : Vec F S512x512 .bf16) (x1 : Vec F S512x512 .bf16) (x2 : Vec F S3584x512 .bf16) (x3 : Vec F S3584x512 .bf16) (x4 : Vec F S512x3584 .bf16) (x5 : Vec F S512x3584 .bf16) (x6 : Vec F S1x3584 .f32) (x7 : Vec F S512x128 .bf16) (x8 : Vec F S128x3584 .bf16) : Vec F S512x3584 .bf16 :=
  VO3_10.read (Elt F) (VO3_10.writes (Elt F) VO3_10.junk (kernelRun3_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1)

theorem scover3_A_0 (c : Dev nD) (i : grid3.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x3584 .bf16) (harg6 : arg6.IsWhole) (arg7 : Memref sig .tc .vmem S512x3584 .bf16) (harg7 : arg7.IsWhole) (arg8 : Memref sig .tc .vmem S1x3584 .f32) (harg8 : arg8.IsWhole) (arg9 : Memref sig .tc .vmem S512x128 .bf16) (harg9 : arg9.IsWhole) (arg10 : Memref sig .tc .vmem S128x3584 .bf16) (harg10 : arg10.IsWhole) (arg11 : Memref sig .tc .vmem S512x1 .f32) (harg11 : arg11.IsWhole) (arg12 : Memref sig .tc .vmem S512x3584 .bf16) (harg12 : arg12.IsWhole) (arg13 : Memref sig .tc .vmem S512x3584 .f32) (harg13 : arg13.IsWhole) (hc0 : cond3_0 i) (hc1 : ¬cond3_1 i)
    (x0 : Vec F S512x512 .bf16) (x1 : Vec F S512x512 .bf16) (x2 : Vec F S3584x512 .bf16) (x3 : Vec F S3584x512 .bf16) (x4 : Vec F S512x3584 .bf16) (x5 : Vec F S512x3584 .bf16) (x6 : Vec F S1x3584 .f32) (x7 : Vec F S512x128 .bf16) (x8 : Vec F S128x3584 .bf16) (y : S512x3584.Idx) :
    ∃ pc ∈ (kernelRun3_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.1, y ∈ pc.1.set :=
  View.cover_of_tiledL (kernelRun3_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.1 S512x3584.size (by sl_kernel_rfl) y

def sout3_A_0 (c : Dev nD) (i : grid3.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x3584 .bf16) (harg6 : arg6.IsWhole) (arg7 : Memref sig .tc .vmem S512x3584 .bf16) (harg7 : arg7.IsWhole) (arg8 : Memref sig .tc .vmem S1x3584 .f32) (harg8 : arg8.IsWhole) (arg9 : Memref sig .tc .vmem S512x128 .bf16) (harg9 : arg9.IsWhole) (arg10 : Memref sig .tc .vmem S128x3584 .bf16) (harg10 : arg10.IsWhole) (arg11 : Memref sig .tc .vmem S512x1 .f32) (harg11 : arg11.IsWhole) (arg12 : Memref sig .tc .vmem S512x3584 .bf16) (harg12 : arg12.IsWhole) (arg13 : Memref sig .tc .vmem S512x3584 .f32) (harg13 : arg13.IsWhole) (hc0 : cond3_0 i) (hc1 : ¬cond3_1 i)
    (x0 : Vec F S512x512 .bf16) (x1 : Vec F S512x512 .bf16) (x2 : Vec F S3584x512 .bf16) (x3 : Vec F S3584x512 .bf16) (x4 : Vec F S512x3584 .bf16) (x5 : Vec F S512x3584 .bf16) (x6 : Vec F S1x3584 .f32) (x7 : Vec F S512x128 .bf16) (x8 : Vec F S128x3584 .bf16) : Vec F S512x3584 .f32 :=
  VS3_0.read (Elt F) (VS3_0.writes (Elt F) VS3_0.junk (kernelRun3_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.1)

set_option maxHeartbeats 1000000 in
noncomputable def kernelRun3_B (c : Dev nD) (i : grid3.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x3584 .bf16) (harg6 : arg6.IsWhole) (arg7 : Memref sig .tc .vmem S512x3584 .bf16) (harg7 : arg7.IsWhole) (arg8 : Memref sig .tc .vmem S1x3584 .f32) (harg8 : arg8.IsWhole) (arg9 : Memref sig .tc .vmem S512x128 .bf16) (harg9 : arg9.IsWhole) (arg10 : Memref sig .tc .vmem S128x3584 .bf16) (harg10 : arg10.IsWhole) (arg11 : Memref sig .tc .vmem S512x1 .f32) (harg11 : arg11.IsWhole) (arg12 : Memref sig .tc .vmem S512x3584 .bf16) (harg12 : arg12.IsWhole) (arg13 : Memref sig .tc .vmem S512x3584 .f32) (harg13 : arg13.IsWhole) (hc0 : ¬cond3_0 i) (hc1 : ¬cond3_1 i)
    (x0 : Vec F S512x512 .bf16) (x1 : Vec F S512x512 .bf16) (x2 : Vec F S3584x512 .bf16) (x3 : Vec F S3584x512 .bf16) (x4 : Vec F S512x3584 .bf16) (x5 : Vec F S512x3584 .bf16) (x6 : Vec F S1x3584 .f32) (x7 : Vec F S512x128 .bf16) (x8 : Vec F S128x3584 .bf16) (xs0 : Vec F S512x3584 .f32) :
    Σ' (L9 : List (View.Piece (Elt F) S512x1 .f32)), Σ' (L10 : List (View.Piece (Elt F) S512x3584 .bf16)), { LS0 : List (View.Piece (Elt F) S512x3584 .f32) //
      ∀ (xi9 : Vec F S512x1 .f32) (xi10 : Vec F S512x3584 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xi10 ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xi10 ∗ (∃ f, arg13.view.loc (c : Thread nD τ) ↦[arg13.view.set]{fullShare} arg13.view.writes (Elt F) f LS0)) -∗ K ⟨⟩))
          ⊢ wp frame (wpE (defs₀ (F := F)) Variants.none c none) E (cc3_dx i arg2 harg2 arg3 harg3 arg4 harg4 arg5 harg5 arg6 harg6 arg7 harg7 arg8 harg8 arg9 harg9 arg10 harg10 arg11 harg11 arg12 harg12 arg13 harg13) K } := by
  refine ⟨[], [], ?_, fun xi9 xi10 E K => ?run⟩
  case run =>
    simp only [cc3_dx_eq_skeleton]; unfold cc3_dx_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact HS0

def out3_B_9 (c : Dev nD) (i : grid3.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x3584 .bf16) (harg6 : arg6.IsWhole) (arg7 : Memref sig .tc .vmem S512x3584 .bf16) (harg7 : arg7.IsWhole) (arg8 : Memref sig .tc .vmem S1x3584 .f32) (harg8 : arg8.IsWhole) (arg9 : Memref sig .tc .vmem S512x128 .bf16) (harg9 : arg9.IsWhole) (arg10 : Memref sig .tc .vmem S128x3584 .bf16) (harg10 : arg10.IsWhole) (arg11 : Memref sig .tc .vmem S512x1 .f32) (harg11 : arg11.IsWhole) (arg12 : Memref sig .tc .vmem S512x3584 .bf16) (harg12 : arg12.IsWhole) (arg13 : Memref sig .tc .vmem S512x3584 .f32) (harg13 : arg13.IsWhole) (hc0 : ¬cond3_0 i) (hc1 : ¬cond3_1 i)
    (x0 : Vec F S512x512 .bf16) (x1 : Vec F S512x512 .bf16) (x2 : Vec F S3584x512 .bf16) (x3 : Vec F S3584x512 .bf16) (x4 : Vec F S512x3584 .bf16) (x5 : Vec F S512x3584 .bf16) (x6 : Vec F S1x3584 .f32) (x7 : Vec F S512x128 .bf16) (x8 : Vec F S128x3584 .bf16) (xs0 : Vec F S512x3584 .f32) : Vec F S512x1 .f32 :=
  VO3_9.read (Elt F) (VO3_9.writes (Elt F) VO3_9.junk (kernelRun3_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).1)

def out3_B_10 (c : Dev nD) (i : grid3.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x3584 .bf16) (harg6 : arg6.IsWhole) (arg7 : Memref sig .tc .vmem S512x3584 .bf16) (harg7 : arg7.IsWhole) (arg8 : Memref sig .tc .vmem S1x3584 .f32) (harg8 : arg8.IsWhole) (arg9 : Memref sig .tc .vmem S512x128 .bf16) (harg9 : arg9.IsWhole) (arg10 : Memref sig .tc .vmem S128x3584 .bf16) (harg10 : arg10.IsWhole) (arg11 : Memref sig .tc .vmem S512x1 .f32) (harg11 : arg11.IsWhole) (arg12 : Memref sig .tc .vmem S512x3584 .bf16) (harg12 : arg12.IsWhole) (arg13 : Memref sig .tc .vmem S512x3584 .f32) (harg13 : arg13.IsWhole) (hc0 : ¬cond3_0 i) (hc1 : ¬cond3_1 i)
    (x0 : Vec F S512x512 .bf16) (x1 : Vec F S512x512 .bf16) (x2 : Vec F S3584x512 .bf16) (x3 : Vec F S3584x512 .bf16) (x4 : Vec F S512x3584 .bf16) (x5 : Vec F S512x3584 .bf16) (x6 : Vec F S1x3584 .f32) (x7 : Vec F S512x128 .bf16) (x8 : Vec F S128x3584 .bf16) (xs0 : Vec F S512x3584 .f32) : Vec F S512x3584 .bf16 :=
  VO3_10.read (Elt F) (VO3_10.writes (Elt F) VO3_10.junk (kernelRun3_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.1)

theorem scover3_B_0 (c : Dev nD) (i : grid3.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x3584 .bf16) (harg6 : arg6.IsWhole) (arg7 : Memref sig .tc .vmem S512x3584 .bf16) (harg7 : arg7.IsWhole) (arg8 : Memref sig .tc .vmem S1x3584 .f32) (harg8 : arg8.IsWhole) (arg9 : Memref sig .tc .vmem S512x128 .bf16) (harg9 : arg9.IsWhole) (arg10 : Memref sig .tc .vmem S128x3584 .bf16) (harg10 : arg10.IsWhole) (arg11 : Memref sig .tc .vmem S512x1 .f32) (harg11 : arg11.IsWhole) (arg12 : Memref sig .tc .vmem S512x3584 .bf16) (harg12 : arg12.IsWhole) (arg13 : Memref sig .tc .vmem S512x3584 .f32) (harg13 : arg13.IsWhole) (hc0 : ¬cond3_0 i) (hc1 : ¬cond3_1 i)
    (x0 : Vec F S512x512 .bf16) (x1 : Vec F S512x512 .bf16) (x2 : Vec F S3584x512 .bf16) (x3 : Vec F S3584x512 .bf16) (x4 : Vec F S512x3584 .bf16) (x5 : Vec F S512x3584 .bf16) (x6 : Vec F S1x3584 .f32) (x7 : Vec F S512x128 .bf16) (x8 : Vec F S128x3584 .bf16) (xs0 : Vec F S512x3584 .f32) (y : S512x3584.Idx) :
    ∃ pc ∈ (kernelRun3_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.2.1, y ∈ pc.1.set :=
  View.cover_of_tiledL (kernelRun3_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.2.1 S512x3584.size (by sl_kernel_rfl) y

def sout3_B_0 (c : Dev nD) (i : grid3.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x3584 .bf16) (harg6 : arg6.IsWhole) (arg7 : Memref sig .tc .vmem S512x3584 .bf16) (harg7 : arg7.IsWhole) (arg8 : Memref sig .tc .vmem S1x3584 .f32) (harg8 : arg8.IsWhole) (arg9 : Memref sig .tc .vmem S512x128 .bf16) (harg9 : arg9.IsWhole) (arg10 : Memref sig .tc .vmem S128x3584 .bf16) (harg10 : arg10.IsWhole) (arg11 : Memref sig .tc .vmem S512x1 .f32) (harg11 : arg11.IsWhole) (arg12 : Memref sig .tc .vmem S512x3584 .bf16) (harg12 : arg12.IsWhole) (arg13 : Memref sig .tc .vmem S512x3584 .f32) (harg13 : arg13.IsWhole) (hc0 : ¬cond3_0 i) (hc1 : ¬cond3_1 i)
    (x0 : Vec F S512x512 .bf16) (x1 : Vec F S512x512 .bf16) (x2 : Vec F S3584x512 .bf16) (x3 : Vec F S3584x512 .bf16) (x4 : Vec F S512x3584 .bf16) (x5 : Vec F S512x3584 .bf16) (x6 : Vec F S1x3584 .f32) (x7 : Vec F S512x128 .bf16) (x8 : Vec F S128x3584 .bf16) (xs0 : Vec F S512x3584 .f32) : Vec F S512x3584 .f32 :=
  VS3_0.read (Elt F) (VS3_0.writes (Elt F) VS3_0.junk (kernelRun3_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.2.1)

set_option maxHeartbeats 1000000 in
noncomputable def kernelRun3_C (c : Dev nD) (i : grid3.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x3584 .bf16) (harg6 : arg6.IsWhole) (arg7 : Memref sig .tc .vmem S512x3584 .bf16) (harg7 : arg7.IsWhole) (arg8 : Memref sig .tc .vmem S1x3584 .f32) (harg8 : arg8.IsWhole) (arg9 : Memref sig .tc .vmem S512x128 .bf16) (harg9 : arg9.IsWhole) (arg10 : Memref sig .tc .vmem S128x3584 .bf16) (harg10 : arg10.IsWhole) (arg11 : Memref sig .tc .vmem S512x1 .f32) (harg11 : arg11.IsWhole) (arg12 : Memref sig .tc .vmem S512x3584 .bf16) (harg12 : arg12.IsWhole) (arg13 : Memref sig .tc .vmem S512x3584 .f32) (harg13 : arg13.IsWhole) (hc0 : ¬cond3_0 i) (hc1 : cond3_1 i)
    (x0 : Vec F S512x512 .bf16) (x1 : Vec F S512x512 .bf16) (x2 : Vec F S3584x512 .bf16) (x3 : Vec F S3584x512 .bf16) (x4 : Vec F S512x3584 .bf16) (x5 : Vec F S512x3584 .bf16) (x6 : Vec F S1x3584 .f32) (x7 : Vec F S512x128 .bf16) (x8 : Vec F S128x3584 .bf16) (xs0 : Vec F S512x3584 .f32) :
    Σ' (L9 : List (View.Piece (Elt F) S512x1 .f32)), Σ' (L10 : List (View.Piece (Elt F) S512x3584 .bf16)), { LS0 : List (View.Piece (Elt F) S512x3584 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0)) -∗ K ⟨⟩))
          ⊢ wp frame (wpE (defs₀ (F := F)) Variants.none c none) E (cc3_dx i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc3_dx_eq_skeleton]; unfold cc3_dx_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg13.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    iexists _; iexact HS0

theorem cover3_C_9 (c : Dev nD) (i : grid3.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x3584 .bf16) (harg6 : arg6.IsWhole) (arg7 : Memref sig .tc .vmem S512x3584 .bf16) (harg7 : arg7.IsWhole) (arg8 : Memref sig .tc .vmem S1x3584 .f32) (harg8 : arg8.IsWhole) (arg9 : Memref sig .tc .vmem S512x128 .bf16) (harg9 : arg9.IsWhole) (arg10 : Memref sig .tc .vmem S128x3584 .bf16) (harg10 : arg10.IsWhole) (arg11 : Memref sig .tc .vmem S512x1 .f32) (harg11 : arg11.IsWhole) (arg12 : Memref sig .tc .vmem S512x3584 .bf16) (harg12 : arg12.IsWhole) (arg13 : Memref sig .tc .vmem S512x3584 .f32) (harg13 : arg13.IsWhole) (hc0 : ¬cond3_0 i) (hc1 : cond3_1 i)
    (x0 : Vec F S512x512 .bf16) (x1 : Vec F S512x512 .bf16) (x2 : Vec F S3584x512 .bf16) (x3 : Vec F S3584x512 .bf16) (x4 : Vec F S512x3584 .bf16) (x5 : Vec F S512x3584 .bf16) (x6 : Vec F S1x3584 .f32) (x7 : Vec F S512x128 .bf16) (x8 : Vec F S128x3584 .bf16) (xs0 : Vec F S512x3584 .f32) (y : S512x1.Idx) :
    ∃ pc ∈ (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).1, y ∈ pc.1.set :=
  View.cover_of_tiledL (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).1 S16x1.size (by sl_kernel_rfl) y

def out3_C_9 (c : Dev nD) (i : grid3.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x3584 .bf16) (harg6 : arg6.IsWhole) (arg7 : Memref sig .tc .vmem S512x3584 .bf16) (harg7 : arg7.IsWhole) (arg8 : Memref sig .tc .vmem S1x3584 .f32) (harg8 : arg8.IsWhole) (arg9 : Memref sig .tc .vmem S512x128 .bf16) (harg9 : arg9.IsWhole) (arg10 : Memref sig .tc .vmem S128x3584 .bf16) (harg10 : arg10.IsWhole) (arg11 : Memref sig .tc .vmem S512x1 .f32) (harg11 : arg11.IsWhole) (arg12 : Memref sig .tc .vmem S512x3584 .bf16) (harg12 : arg12.IsWhole) (arg13 : Memref sig .tc .vmem S512x3584 .f32) (harg13 : arg13.IsWhole) (hc0 : ¬cond3_0 i) (hc1 : cond3_1 i)
    (x0 : Vec F S512x512 .bf16) (x1 : Vec F S512x512 .bf16) (x2 : Vec F S3584x512 .bf16) (x3 : Vec F S3584x512 .bf16) (x4 : Vec F S512x3584 .bf16) (x5 : Vec F S512x3584 .bf16) (x6 : Vec F S1x3584 .f32) (x7 : Vec F S512x128 .bf16) (x8 : Vec F S128x3584 .bf16) (xs0 : Vec F S512x3584 .f32) : Vec F S512x1 .f32 :=
  VO3_9.read (Elt F) (VO3_9.writes (Elt F) VO3_9.junk (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).1)

theorem cover3_C_10 (c : Dev nD) (i : grid3.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x3584 .bf16) (harg6 : arg6.IsWhole) (arg7 : Memref sig .tc .vmem S512x3584 .bf16) (harg7 : arg7.IsWhole) (arg8 : Memref sig .tc .vmem S1x3584 .f32) (harg8 : arg8.IsWhole) (arg9 : Memref sig .tc .vmem S512x128 .bf16) (harg9 : arg9.IsWhole) (arg10 : Memref sig .tc .vmem S128x3584 .bf16) (harg10 : arg10.IsWhole) (arg11 : Memref sig .tc .vmem S512x1 .f32) (harg11 : arg11.IsWhole) (arg12 : Memref sig .tc .vmem S512x3584 .bf16) (harg12 : arg12.IsWhole) (arg13 : Memref sig .tc .vmem S512x3584 .f32) (harg13 : arg13.IsWhole) (hc0 : ¬cond3_0 i) (hc1 : cond3_1 i)
    (x0 : Vec F S512x512 .bf16) (x1 : Vec F S512x512 .bf16) (x2 : Vec F S3584x512 .bf16) (x3 : Vec F S3584x512 .bf16) (x4 : Vec F S512x3584 .bf16) (x5 : Vec F S512x3584 .bf16) (x6 : Vec F S1x3584 .f32) (x7 : Vec F S512x128 .bf16) (x8 : Vec F S128x3584 .bf16) (xs0 : Vec F S512x3584 .f32) (y : S512x3584.Idx) :
    ∃ pc ∈ (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.1, y ∈ pc.1.set :=
  View.cover_of_tiledL (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.1 S16x3584.size (by sl_kernel_rfl) y

def out3_C_10 (c : Dev nD) (i : grid3.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x3584 .bf16) (harg6 : arg6.IsWhole) (arg7 : Memref sig .tc .vmem S512x3584 .bf16) (harg7 : arg7.IsWhole) (arg8 : Memref sig .tc .vmem S1x3584 .f32) (harg8 : arg8.IsWhole) (arg9 : Memref sig .tc .vmem S512x128 .bf16) (harg9 : arg9.IsWhole) (arg10 : Memref sig .tc .vmem S128x3584 .bf16) (harg10 : arg10.IsWhole) (arg11 : Memref sig .tc .vmem S512x1 .f32) (harg11 : arg11.IsWhole) (arg12 : Memref sig .tc .vmem S512x3584 .bf16) (harg12 : arg12.IsWhole) (arg13 : Memref sig .tc .vmem S512x3584 .f32) (harg13 : arg13.IsWhole) (hc0 : ¬cond3_0 i) (hc1 : cond3_1 i)
    (x0 : Vec F S512x512 .bf16) (x1 : Vec F S512x512 .bf16) (x2 : Vec F S3584x512 .bf16) (x3 : Vec F S3584x512 .bf16) (x4 : Vec F S512x3584 .bf16) (x5 : Vec F S512x3584 .bf16) (x6 : Vec F S1x3584 .f32) (x7 : Vec F S512x128 .bf16) (x8 : Vec F S128x3584 .bf16) (xs0 : Vec F S512x3584 .f32) : Vec F S512x3584 .bf16 :=
  VO3_10.read (Elt F) (VO3_10.writes (Elt F) VO3_10.junk (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.1)

theorem scover3_C_0 (c : Dev nD) (i : grid3.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x3584 .bf16) (harg6 : arg6.IsWhole) (arg7 : Memref sig .tc .vmem S512x3584 .bf16) (harg7 : arg7.IsWhole) (arg8 : Memref sig .tc .vmem S1x3584 .f32) (harg8 : arg8.IsWhole) (arg9 : Memref sig .tc .vmem S512x128 .bf16) (harg9 : arg9.IsWhole) (arg10 : Memref sig .tc .vmem S128x3584 .bf16) (harg10 : arg10.IsWhole) (arg11 : Memref sig .tc .vmem S512x1 .f32) (harg11 : arg11.IsWhole) (arg12 : Memref sig .tc .vmem S512x3584 .bf16) (harg12 : arg12.IsWhole) (arg13 : Memref sig .tc .vmem S512x3584 .f32) (harg13 : arg13.IsWhole) (hc0 : ¬cond3_0 i) (hc1 : cond3_1 i)
    (x0 : Vec F S512x512 .bf16) (x1 : Vec F S512x512 .bf16) (x2 : Vec F S3584x512 .bf16) (x3 : Vec F S3584x512 .bf16) (x4 : Vec F S512x3584 .bf16) (x5 : Vec F S512x3584 .bf16) (x6 : Vec F S1x3584 .f32) (x7 : Vec F S512x128 .bf16) (x8 : Vec F S128x3584 .bf16) (xs0 : Vec F S512x3584 .f32) (y : S512x3584.Idx) :
    ∃ pc ∈ (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.2.1, y ∈ pc.1.set :=
  View.cover_of_tiledL (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.2.1 S512x3584.size (by sl_kernel_rfl) y

def sout3_C_0 (c : Dev nD) (i : grid3.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x3584 .bf16) (harg6 : arg6.IsWhole) (arg7 : Memref sig .tc .vmem S512x3584 .bf16) (harg7 : arg7.IsWhole) (arg8 : Memref sig .tc .vmem S1x3584 .f32) (harg8 : arg8.IsWhole) (arg9 : Memref sig .tc .vmem S512x128 .bf16) (harg9 : arg9.IsWhole) (arg10 : Memref sig .tc .vmem S128x3584 .bf16) (harg10 : arg10.IsWhole) (arg11 : Memref sig .tc .vmem S512x1 .f32) (harg11 : arg11.IsWhole) (arg12 : Memref sig .tc .vmem S512x3584 .bf16) (harg12 : arg12.IsWhole) (arg13 : Memref sig .tc .vmem S512x3584 .f32) (harg13 : arg13.IsWhole) (hc0 : ¬cond3_0 i) (hc1 : cond3_1 i)
    (x0 : Vec F S512x512 .bf16) (x1 : Vec F S512x512 .bf16) (x2 : Vec F S3584x512 .bf16) (x3 : Vec F S3584x512 .bf16) (x4 : Vec F S512x3584 .bf16) (x5 : Vec F S512x3584 .bf16) (x6 : Vec F S1x3584 .f32) (x7 : Vec F S512x128 .bf16) (x8 : Vec F S128x3584 .bf16) (xs0 : Vec F S512x3584 .f32) : Vec F S512x3584 .f32 :=
  VS3_0.read (Elt F) (VS3_0.writes (Elt F) VS3_0.junk (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.2.1)

def outsAt3 (c : Dev nD) : (n : ℕ) → n < cfg3.N → Vec F S512x1 .f32 × Vec F S512x3584 .bf16 × Vec F S512x3584 .f32
  | 0, hn => (out3_A_9 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) (ms3_10 ⟨0, hn⟩) (hs3_10 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩) (iblk3 V c 7 ⟨0, hn⟩) (iblk3 V c 8 ⟨0, hn⟩), out3_A_10 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) (ms3_10 ⟨0, hn⟩) (hs3_10 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩) (iblk3 V c 7 ⟨0, hn⟩) (iblk3 V c 8 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) (ms3_10 ⟨0, hn⟩) (hs3_10 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩) (iblk3 V c 7 ⟨0, hn⟩) (iblk3 V c 8 ⟨0, hn⟩))
  | n + 1, hn =>
    if h0 : (n + 1) % 37 = 0 then
      if h1 : (n + 1) % 37 = 36 then
        False.elim (by have hN : n + 1 < 888 := lt_of_lt_of_eq hn (show cfg3.N = 888 from N_3); omega)
      else
        (out3_A_9 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩), out3_A_10 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩))
    else
      if h1 : (n + 1) % 37 = 36 then
        (out3_C_9 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (outsAt3 c n (Nat.lt_of_succ_lt hn)).2.2, out3_C_10 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (outsAt3 c n (Nat.lt_of_succ_lt hn)).2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (outsAt3 c n (Nat.lt_of_succ_lt hn)).2.2)
      else
        (out3_B_9 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (outsAt3 c n (Nat.lt_of_succ_lt hn)).2.2, out3_B_10 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (outsAt3 c n (Nat.lt_of_succ_lt hn)).2.2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (outsAt3 c n (Nat.lt_of_succ_lt hn)).2.2)

theorem outsAt3_A (c : Dev nD) (t : Fin cfg3.N) (h0 : t.val % 37 = 0) (h1 : ¬t.val % 37 = 36) :
    outsAt3 V c t.val t.isLt = (out3_A_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t), out3_A_10 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t), sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t)) := by
  obtain ⟨n, hn⟩ := t
  cases n with
  | zero => exact rfl
  | succ n => exact (dif_pos h0).trans ((dif_neg h1).trans rfl)

theorem outsAt3_B (c : Dev nD) (t : Fin cfg3.N) (h0 : ¬t.val % 37 = 0) (h1 : ¬t.val % 37 = 36) :
    outsAt3 V c t.val t.isLt = (out3_B_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.2, out3_B_10 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.2, sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 37 = 0) (h1 : t.val % 37 = 36) :
    outsAt3 V c t.val t.isLt = (out3_C_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.2, out3_C_10 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2.2) ∗ Pipeline.scopedRestBut spec3 c [cc3_scratch0]) ∗ (∃ r, prngReg c r))

theorem PhiS_zero3 (c : Dev nD) (n : ℕ) (h : n ≤ cfg3.N) (hz : n = 0) : PhiS3 V c n h = Pipeline.ΦA spec3 c := by
  subst hz; rfl

theorem PhiS_succ3 (c : Dev nD) (n : ℕ) (hn : n < cfg3.N) :
    PhiS3 V c (n + 1) hn = iprop(iprop(owns (c : Thread nD τ) scM3_0 fullShare ((outsAt3 V c n hn).2.2) ∗ Pipeline.scopedRestBut spec3 c [cc3_scratch0]) ∗ (∃ r, prngReg c r)) := rfl

theorem PhiS_pos3 (c : Dev nD) (n : ℕ) (h : n ≤ cfg3.N) (hz : n ≠ 0) :
    PhiS3 V c n h = iprop(iprop(owns (c : Thread nD τ) scM3_0 fullShare ((outsAt3 V c (n - 1) (by omega)).2.2) ∗ Pipeline.scopedRestBut spec3 c [cc3_scratch0]) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => (outsAt3 V c t.val t.isLt).1
    | ⟨10, _⟩ => (outsAt3 V c t.val t.isLt).2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS_castSucc3 (c : Dev nD) (t : Fin cfg3.N) :
    (dat3 V c).Φ t.castSucc = PhiS3 V c t.val (Nat.le_of_lt t.isLt) := by
  dsimp only [dat3]; exact Pipeline.Dat.Φ_castSucc (PhiS3 V c) t

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = (outsAt3 V c t.val t.isLt).1 := by dsimp only [dat3]
theorem after3_10 (c : Dev nD) (t : Fin cfg3.N) : (dat3 V c).after 10 t = (outsAt3 V c t.val t.isLt).2.1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d))
    ∗ (∃ d, owns (c : Thread nD τ) (ms3_9 t) fullShare ((dat3 V c).before 9 t d))
    ∗ (∃ d, owns (c : Thread nD τ) (ms3_10 t) fullShare ((dat3 V c).before 10 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t
    ∗ (dat3 V c).leavesExact 9 t
    ∗ (dat3 V c).leavesExact 10 t)

set_option maxHeartbeats 14400000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).owesAt () t.succ = (dat3 V c).owesAt () t.castSucc from rfl]
  rw [show (dat3 V c).Φ t.succ = PhiS3 V c (t.val + 1) t.isLt from rfl, PhiS_succ3]
  have hN : t.val < 888 := lt_of_lt_of_eq t.isLt (show cfg3.N = 888 from N_3)
  by_cases h0 : t.val % 37 = 0
  · by_cases h1 : t.val % 37 = 36
    · exfalso; omega
    · rw [show (dat3 V c).leavesExact 0 t = owns (c : Thread nD τ) (ms3_0 t) fullShare ((dat3 V c).after 0 t) from by
      unfold Dat.leavesExact; rw [liveAt3_0 t], after3_0]
      rw [show (dat3 V c).leavesExact 1 t = owns (c : Thread nD τ) (ms3_1 t) fullShare ((dat3 V c).after 1 t) from by
      unfold Dat.leavesExact; rw [liveAt3_1 t], after3_1]
      rw [show (dat3 V c).leavesExact 2 t = owns (c : Thread nD τ) (ms3_2 t) fullShare ((dat3 V c).after 2 t) from by
      unfold Dat.leavesExact; rw [liveAt3_2 t], after3_2]
      rw [show (dat3 V c).leavesExact 3 t = owns (c : Thread nD τ) (ms3_3 t) fullShare ((dat3 V c).after 3 t) from by
      unfold Dat.leavesExact; rw [liveAt3_3 t], after3_3]
      rw [show (dat3 V c).leavesExact 4 t = owns (c : Thread nD τ) (ms3_4 t) fullShare ((dat3 V c).after 4 t) from by
      unfold Dat.leavesExact; rw [liveAt3_4 t], after3_4]
      rw [show (dat3 V c).leavesExact 5 t = owns (c : Thread nD τ) (ms3_5 t) fullShare ((dat3 V c).after 5 t) from by
      unfold Dat.leavesExact; rw [liveAt3_5 t], after3_5]
      rw [show (dat3 V c).leavesExact 6 t = owns (c : Thread nD τ) (ms3_6 t) fullShare ((dat3 V c).after 6 t) from by
      unfold Dat.leavesExact; rw [liveAt3_6 t], after3_6]
      rw [show (dat3 V c).leavesExact 7 t = owns (c : Thread nD τ) (ms3_7 t) fullShare ((dat3 V c).after 7 t) from by
      unfold Dat.leavesExact; rw [liveAt3_7 t], after3_7]
      rw [show (dat3 V c).leavesExact 8 t = owns (c : Thread nD τ) (ms3_8 t) fullShare ((dat3 V c).after 8 t) from by
      unfold Dat.leavesExact; rw [liveAt3_8 t], after3_8]
      rw [Dat.leavesExact_idle (dat3 V c) 9 t (idleAt3_9_A t ((hcond3_0 t).mpr h0) (fun h => h1 ((hcond3_1 t).mp h))) (noFlush3_9_A t ((hcond3_0 t).mpr h0) (fun h => h1 ((hcond3_1 t).mp h)))]
      rw [Dat.leavesExact_idle (dat3 V c) 10 t (idleAt3_10_A t ((hcond3_0 t).mpr h0) (fun h => h1 ((hcond3_1 t).mp h))) (noFlush3_10_A t ((hcond3_0 t).mpr h0) (fun h => h1 ((hcond3_1 t).mp h)))]
      by_cases hz : t.val = 0
      · rw [PhiS_castSucc3 V c t, PhiS_zero3 V c _ _ hz, PhiA3_eq]
        rw [outsAt3_A V c t h0 h1]
        unfold sout3_A_0; (try dsimp only)
        iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun3_A c (grid3.coords t) _ _ _ _ _ _ _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        iintro ⟨H0, H1, H2, H3, H4, H5, H6, H7, H8, H9, H10, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover3_A_0 c _ _ _ _ _ _ _ _ _ _ _ _ _ _ _ _ _ _ _ _ _ _ _ _ _ _ _ _ _ _ _ _ _ _ _ _)
            iexact HR1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        iexists _; iexact H10
      · rw [PhiS_castSucc3 V c t, PhiS_pos3 V c _ _ hz]
        rw [outsAt3_A V c t h0 h1]
        unfold sout3_A_0; (try dsimp only)
        iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun3_A c (grid3.coords t) _ _ _ _ _ _ _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexists _; iexact HS0
        iintro ⟨H0, H1, H2, H3, H4, H5, H6, H7, H8, H9, H10, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover3_A_0 c _ _ _ _ _ _ _ _ _ _ _ _ _ _ _ _ _ _ _ _ _ _ _ _ _ _ _ _ _ _ _ _ _ _ _ _)
            iexact HR1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        iexists _; iexact H10
  · by_cases h1 : t.val % 37 = 36
    · rw [show (dat3 V c).leavesExact 0 t = owns (c : Thread nD τ) (ms3_0 t) fullShare ((dat3 V c).after 0 t) from by
      unfold Dat.leavesExact; rw [liveAt3_0 t], after3_0]
      rw [show (dat3 V c).leavesExact 1 t = owns (c : Thread nD τ) (ms3_1 t) fullShare ((dat3 V c).after 1 t) from by
      unfold Dat.leavesExact; rw [liveAt3_1 t], after3_1]
      rw [show (dat3 V c).leavesExact 2 t = owns (c : Thread nD τ) (ms3_2 t) fullShare ((dat3 V c).after 2 t) from by
      unfold Dat.leavesExact; rw [liveAt3_2 t], after3_2]
      rw [show (dat3 V c).leavesExact 3 t = owns (c : Thread nD τ) (ms3_3 t) fullShare ((dat3 V c).after 3 t) from by
      unfold Dat.leavesExact; rw [liveAt3_3 t], after3_3]
      rw [show (dat3 V c).leavesExact 4 t = owns (c : Thread nD τ) (ms3_4 t) fullShare ((dat3 V c).after 4 t) from by
      unfold Dat.leavesExact; rw [liveAt3_4 t], after3_4]
      rw [show (dat3 V c).leavesExact 5 t = owns (c : Thread nD τ) (ms3_5 t) fullShare ((dat3 V c).after 5 t) from by
      unfold Dat.leavesExact; rw [liveAt3_5 t], after3_5]
      rw [show (dat3 V c).leavesExact 6 t = owns (c : Thread nD τ) (ms3_6 t) fullShare ((dat3 V c).after 6 t) from by
      unfold Dat.leavesExact; rw [liveAt3_6 t], after3_6]
      rw [show (dat3 V c).leavesExact 7 t = owns (c : Thread nD τ) (ms3_7 t) fullShare ((dat3 V c).after 7 t) from by
      unfold Dat.leavesExact; rw [liveAt3_7 t], after3_7]
      rw [show (dat3 V c).leavesExact 8 t = owns (c : Thread nD τ) (ms3_8 t) fullShare ((dat3 V c).after 8 t) from by
      unfold Dat.leavesExact; rw [liveAt3_8 t], after3_8]
      rw [show (dat3 V c).leavesExact 9 t = owns (c : Thread nD τ) (ms3_9 t) fullShare ((dat3 V c).after 9 t) from by
      unfold Dat.leavesExact; rw [liveAt3_9_C t (fun h => h0 ((hcond3_0 t).mp h)) ((hcond3_1 t).mpr h1)], after3_9]
      rw [show (dat3 V c).leavesExact 10 t = owns (c : Thread nD τ) (ms3_10 t) fullShare ((dat3 V c).after 10 t) from by
      unfold Dat.leavesExact; rw [liveAt3_10_C t (fun h => h0 ((hcond3_0 t).mp h)) ((hcond3_1 t).mpr h1)], after3_10]
      by_cases hz : t.val = 0
      · exfalso; have hN : t.val < 888 := lt_of_lt_of_eq t.isLt (show cfg3.N = 888 from N_3); omega
      · rw [PhiS_castSucc3 V c t, PhiS_pos3 V c _ _ hz]
        rw [outsAt3_C V c t h0 h1]
        unfold out3_C_9 out3_C_10 sout3_C_0; (try dsimp only)
        iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun3_C c (grid3.coords t) _ _ _ _ _ _ _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (iblk3 V c 7 t) (iblk3 V c 8 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        isplitl [HS0]; · iexact HS0
        iintro ⟨H0, H1, H2, H3, H4, H5, H6, H7, H8, ⟨%e9, H9⟩, ⟨%e10, H10⟩, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover3_C_0 c _ _ _ _ _ _ _ _ _ _ _ _ _ _ _ _ _ _ _ _ _ _ _ _ _ _ _ _ _ _ _ _ _ _ _ _ _)
            iexact HR1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]
        · unfold owns; iexists _; isplitr
          swap; · iexact H9
          ipureintro; exact View.read_writes_of_cover _ _ _ _ _ (cover3_C_9 c _ _ _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover3_C_10 c _ _ _ _ _ _ _ _ _ _ _ _ _ _ _ _ _ _ _ _ _ _ _ _ _ _ _ _ _ _ _ _ _ _ _ _ _)
    · rw [show (dat3 V c).leavesExact 0 t = owns (c : Thread nD τ) (ms3_0 t) fullShare ((dat3 V c).after 0 t) from by
      unfold Dat.leavesExact; rw [liveAt3_0 t], after3_0]
      rw [show (dat3 V c).leavesExact 1 t = owns (c : Thread nD τ) (ms3_1 t) fullShare ((dat3 V c).after 1 t) from by
      unfold Dat.leavesExact; rw [liveAt3_1 t], after3_1]
      rw [show (dat3 V c).leavesExact 2 t = owns (c : Thread nD τ) (ms3_2 t) fullShare ((dat3 V c).after 2 t) from by
      unfold Dat.leavesExact; rw [liveAt3_2 t], after3_2]
      rw [show (dat3 V c).leavesExact 3 t = owns (c : Thread nD τ) (ms3_3 t) fullShare ((dat3 V c).after 3 t) from by
      unfold Dat.leavesExact; rw [liveAt3_3 t], after3_3]
      rw [show (dat3 V c).leavesExact 4 t = owns (c : Thread nD τ) (ms3_4 t) fullShare ((dat3 V c).after 4 t) from by
      unfold Dat.leavesExact; rw [liveAt3_4 t], after3_4]
      rw [show (dat3 V c).leavesExact 5 t = owns (c : Thread nD τ) (ms3_5 t) fullShare ((dat3 V c).after 5 t) from by
      unfold Dat.leavesExact; rw [liveAt3_5 t], after3_5]
      rw [show (dat3 V c).leavesExact 6 t = owns (c : Thread nD τ) (ms3_6 t) fullShare ((dat3 V c).after 6 t) from by
      unfold Dat.leavesExact; rw [liveAt3_6 t], after3_6]
      rw [show (dat3 V c).leavesExact 7 t = owns (c : Thread nD τ) (ms3_7 t) fullShare ((dat3 V c).after 7 t) from by
      unfold Dat.leavesExact; rw [liveAt3_7 t], after3_7]
      rw [show (dat3 V c).leavesExact 8 t = owns (c : Thread nD τ) (ms3_8 t) fullShare ((dat3 V c).after 8 t) from by
      unfold Dat.leavesExact; rw [liveAt3_8 t], after3_8]
      rw [Dat.leavesExact_idle (dat3 V c) 9 t (idleAt3_9_B t (fun h => h0 ((hcond3_0 t).mp h)) (fun h => h1 ((hcond3_1 t).mp h))) (noFlush3_9_B t (fun h => h0 ((hcond3_0 t).mp h)) (fun h => h1 ((hcond3_1 t).mp h)))]
      rw [Dat.leavesExact_idle (dat3 V c) 10 t (idleAt3_10_B t (fun h => h0 ((hcond3_0 t).mp h)) (fun h => h1 ((hcond3_1 t).mp h))) (noFlush3_10_B t (fun h => h0 ((hcond3_0 t).mp h)) (fun h => h1 ((hcond3_1 t).mp h)))]
      by_cases hz : t.val = 0
      · exfalso; have hN : t.val < 888 := lt_of_lt_of_eq t.isLt (show cfg3.N = 888 from N_3); omega
      · rw [PhiS_castSucc3 V c t, PhiS_pos3 V c _ _ hz]
        rw [outsAt3_B V c t h0 h1]
        unfold sout3_B_0; (try dsimp only)
        iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun3_B c (grid3.coords t) _ _ _ _ _ _ _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) _).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        iintro ⟨H0, H1, H2, H3, H4, H5, H6, H7, H8, H9, H10, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover3_B_0 c _ _ _ _ _ _ _ _ _ _ _ _ _ _ _ _ _ _ _ _ _ _ _ _ _ _ _ _ _ _ _ _ _ _ _ _ _)
            iexact HR1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        iexists _; iexact H10

theorem defs₀_row3 (t : Fin cfg3.N) :
    defs₀ (F := F) .tc cfg3.body (cfg3.bodyArgs t (cfg3.slots t)) = bodyAt3 t := by
  unfold defs₀; rw [Defs.onTc_tc]

theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

theorem hin3 (c : Dev nD) : Pipeline.ΦA spec3 c ⊢ (dat3 V c).Φ 0 := by
  rw [show (dat3 V c).Φ 0 = PhiS3 V c 0 (Nat.zero_le _) from rfl, PhiS_zero3 V c 0 _ rfl]
  try exact Idealize.SL.BI.Entails.refl _

theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS_pos3 V c _ _ ht, PhiA3_eq]
  iintro ⟨⟨HS0, HR1⟩, Hg⟩
  isplitl [HS0 HR1]
  · isplitl [HS0]
    · iexists _; iexact HS0
    iexact HR1
  iexact Hg

theorem hout3 (c : Dev nD) : (dat3 V c).Φ (Fin.last cfg3.N) ⊢ Pipeline.ΦA spec3 c :=
  Phi_out3 V c _ (by rw [Fin.val_last]; have : cfg3.N = 888 := N_3; omega)

end Regions

end Cert.KernelIdeal.Run

end
-- ==== Proof.KI.Region4.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.DatRel
public import Idealize.ShloMosaic.Lib.Pipeline.ArrRel

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S96x512 := Rect.unit (s := S96x512) ![0, 0] S64x512.size inb_S96x512_S64x512_0_0
abbrev r4_1 : Rect S512x3584 := Rect.unit (s := S512x3584) ![0, 0] S512x3584.size inb_S512x3584_S512x3584_0_0
abbrev r4_2 : Rect S64x3584 := Rect.unit (s := S64x3584) ![0, 0] S64x3584.size inb_S64x3584_S64x3584_0_0
abbrev r4_3 : Rect S96x512 := Rect.unit (s := S96x512) ![64, 0] S32x512.size inb_S96x512_S32x512_64_0
abbrev r4_4 : Rect S32x3584 := Rect.unit (s := S32x3584) ![0, 0] S32x3584.size inb_S32x3584_S32x3584_0_0

def out4_3 (i : grid4.Coords) (x0 : Vec F S96x512 .bf16) (x1 : Vec F S512x3584 .bf16) (x2 : Vec F S512x3584 .bf16) (y3 : Vec F S64x3584 .f32) : Vec F S64x3584 .f32 :=
  View.canon [⟨r4_2, k4_pay1 i (View.ld x0 r4_0) (View.ld x1 r4_1) (View.ld y3 r4_2)⟩]

theorem cover4_3 (p0 : Vec F S64x3584 .f32) (y : S64x3584.Idx) :
    ∃ pc ∈ ([⟨r4_2, p0⟩] : List (View.Piece (Elt F) S64x3584 .f32)), y ∈ pc.1.set :=
  View.cover_of_tiled [⟨r4_2, p0⟩] S64x3584.size (by rfl) y

def out4_4 (i : grid4.Coords) (x0 : Vec F S96x512 .bf16) (x1 : Vec F S512x3584 .bf16) (x2 : Vec F S512x3584 .bf16) (y4 : Vec F S32x3584 .f32) : Vec F S32x3584 .f32 :=
  View.canon [⟨r4_4, k4_pay2 i (View.ld x0 r4_3) (View.ld x2 r4_1) (View.ld y4 r4_4)⟩]

theorem cover4_4 (p0 : Vec F S32x3584 .f32) (y : S32x3584.Idx) :
    ∃ pc ∈ ([⟨r4_4, p0⟩] : List (View.Piece (Elt F) S32x3584 .f32)), y ∈ pc.1.set :=
  View.cover_of_tiled [⟨r4_4, p0⟩] S32x3584.size (by rfl) y

set_option maxHeartbeats 1000000 in
theorem sound_kernel4 (c : Dev nD) (E : Set ℕ) (i : grid4.Coords) (arg1 : Memref sig .tc .vmem S96x512 .bf16) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S64x3584 .f32) (harg4 : arg4.IsWhole) (arg5 : Memref sig .tc .vmem S32x3584 .f32) (harg5 : arg5.IsWhole)
    (x0 : Vec F S96x512 .bf16) (x1 : Vec F S512x3584 .bf16) (x2 : Vec F S512x3584 .bf16) (y3 : Vec F S64x3584 .f32) (y4 : Vec F S32x3584 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare y3 ∗ owns (c : Thread nD τ) arg5 fullShare y4
        ∗ (iprop(owns (c : Thread nD τ) arg1 fullShare x0 ∗ owns (c : Thread nD τ) arg2 fullShare x1 ∗ owns (c : Thread nD τ) arg3 fullShare x2 ∗ owns (c : Thread nD τ) arg4 fullShare (out4_3 i x0 x1 x2 y3) ∗ owns (c : Thread nD τ) arg5 fullShare (out4_4 i x0 x1 x2 y4)) -∗ K ⟨⟩))
      ⊢ wp frame (wpE (defs₀ (F := F)) Variants.none c none) E (cc4_adapter i arg1 harg1 arg2 harg2 arg3 harg3 arg4 harg4 arg5 harg5) K := by
  simp only [cc4_adapter_eq_skeleton]; unfold cc4_adapter_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover4_3 _)
  iexists _; isplitr
  swap; · iexact H4
  ipureintro
  exact View.read_writes_eq_canon _ _ _ (cover4_4 _)

/-- What the body has left in the two accumulating windows after point `n`: the recursion over the points, each
    point's contents from its blocks and what the point before left. -/
def acc4 (c : Dev nD) : (n : ℕ) → n < cfg4.N → Vec F S64x3584 .f32 × Vec F S32x3584 .f32
  | 0, h => (out4_3 (grid4.coords ⟨0, h⟩) (iblk4 V c 0 ⟨0, h⟩) (iblk4 V c 1 ⟨0, h⟩) (iblk4 V c 2 ⟨0, h⟩) (View.canon []),
      out4_4 (grid4.coords ⟨0, h⟩) (iblk4 V c 0 ⟨0, h⟩) (iblk4 V c 1 ⟨0, h⟩) (iblk4 V c 2 ⟨0, h⟩) (View.canon []))
  | n + 1, h => (out4_3 (grid4.coords ⟨n + 1, h⟩) (iblk4 V c 0 ⟨n + 1, h⟩) (iblk4 V c 1 ⟨n + 1, h⟩) (iblk4 V c 2 ⟨n + 1, h⟩) (acc4 c n (Nat.lt_of_succ_lt h)).1,
      out4_4 (grid4.coords ⟨n + 1, h⟩) (iblk4 V c 0 ⟨n + 1, h⟩) (iblk4 V c 1 ⟨n + 1, h⟩) (iblk4 V c 2 ⟨n + 1, h⟩) (acc4 c n (Nat.lt_of_succ_lt h)).2)

theorem acc4_zero (c : Dev nD) (h : 0 < cfg4.N) : acc4 V c 0 h =
    (out4_3 (grid4.coords ⟨0, h⟩) (iblk4 V c 0 ⟨0, h⟩) (iblk4 V c 1 ⟨0, h⟩) (iblk4 V c 2 ⟨0, h⟩) (View.canon []),
      out4_4 (grid4.coords ⟨0, h⟩) (iblk4 V c 0 ⟨0, h⟩) (iblk4 V c 1 ⟨0, h⟩) (iblk4 V c 2 ⟨0, h⟩) (View.canon [])) := by rw [acc4]
theorem acc4_succ (c : Dev nD) (n : ℕ) (h : n + 1 < cfg4.N) : acc4 V c (n + 1) h =
    (out4_3 (grid4.coords ⟨n + 1, h⟩) (iblk4 V c 0 ⟨n + 1, h⟩) (iblk4 V c 1 ⟨n + 1, h⟩) (iblk4 V c 2 ⟨n + 1, h⟩) (acc4 V c n (Nat.lt_of_succ_lt h)).1,
      out4_4 (grid4.coords ⟨n + 1, h⟩) (iblk4 V c 0 ⟨n + 1, h⟩) (iblk4 V c 1 ⟨n + 1, h⟩) (iblk4 V c 2 ⟨n + 1, h⟩) (acc4 V c n (Nat.lt_of_succ_lt h)).2) := by rw [acc4]

/-- At a point of the first position the accumulators do not read what they held. -/
theorem out4_3_first (i : grid4.Coords) (hi : (i 0).val = 0) (x0 : Vec F S96x512 .bf16) (x1 : Vec F S512x3584 .bf16) (x2 : Vec F S512x3584 .bf16)
    (y y' : Vec F S64x3584 .f32) : out4_3 i x0 x1 x2 y = out4_3 i x0 x1 x2 y' := by
  unfold out4_3 k4_pay1; simp only [hi]; rfl
theorem out4_4_first (i : grid4.Coords) (hi : (i 0).val = 0) (x0 : Vec F S96x512 .bf16) (x1 : Vec F S512x3584 .bf16) (x2 : Vec F S512x3584 .bf16)
    (y y' : Vec F S32x3584 .f32) : out4_4 i x0 x1 x2 y = out4_4 i x0 x1 x2 y' := by
  unfold out4_4 k4_pay2; simp only [hi]; rfl

theorem first4 : (grid4.coords (⟨0, by decide⟩ : Fin cfg4.N) 0).val = 0 := by decide
theorem noFlush4_3 : ∀ t : Fin cfg4.N, t.val ≠ 23 → (cfg4.win 3).flush t = false := by decide +kernel
theorem noFlush4_4 : ∀ t : Fin cfg4.N, t.val ≠ 23 → (cfg4.win 4).flush t = false := by decide +kernel

/-- The proof data of the pipeline. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (acc4 V c t.val t.isLt).1
    | ⟨4, _⟩ => (acc4 V c t.val t.isLt).2
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (acc4 V c t.val t.isLt).1 := by dsimp only [dat4]
theorem after4_4 (c : Dev nD) (t : Fin cfg4.N) : (dat4 V c).after 4 t = (acc4 V c t.val t.isLt).2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body leaves at a point from what it finds there, in both accumulating windows. -/
theorem step4_3 (c : Dev nD) (t : Fin cfg4.N) (d) :
    out4_3 (grid4.coords t) (iblk4 V c 0 t) (iblk4 V c 1 t) (iblk4 V c 2 t) ((dat4 V c).before 3 t d) = (acc4 V c t.val t.isLt).1 := by
  rcases t with ⟨n, hn⟩
  cases n with
  | zero =>
    simp only [acc4_zero]
    exact out4_3_first (grid4.coords ⟨0, hn⟩) first4 _ _ _ _ _
  | succ k =>
    rw [(dat4 V c).before_out_kept 3 rfl ⟨k + 1, hn⟩ (Nat.succ_ne_zero k)
      (noFlush4_3 _ (by have : cfg4.N = 24 := N_4; simp only [Nat.add_sub_cancel]; omega)) (fun _ => rfl) (fun _ _ => rfl) d, after4_3]
    simp only [acc4_succ, Nat.add_sub_cancel]
theorem step4_4 (c : Dev nD) (t : Fin cfg4.N) (d) :
    out4_4 (grid4.coords t) (iblk4 V c 0 t) (iblk4 V c 1 t) (iblk4 V c 2 t) ((dat4 V c).before 4 t d) = (acc4 V c t.val t.isLt).2 := by
  rcases t with ⟨n, hn⟩
  cases n with
  | zero =>
    simp only [acc4_zero]
    exact out4_4_first (grid4.coords ⟨0, hn⟩) first4 _ _ _ _ _
  | succ k =>
    rw [(dat4 V c).before_out_kept 4 rfl ⟨k + 1, hn⟩ (Nat.succ_ne_zero k)
      (noFlush4_4 _ (by have : cfg4.N = 24 := N_4; simp only [Nat.add_sub_cancel]; omega)) (fun _ => rfl) (fun _ _ => rfl) d, after4_4]
    simp only [acc4_succ, Nat.add_sub_cancel]

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _ (iblk4 V c 0 t) (iblk4 V c 1 t) (iblk4 V c 2 t) ((dat4 V c).before 3 t d3) ((dat4 V c).before 4 t d4) _)
  isplitl [H0]; · iexact H0
  isplitl [H1]; · iexact H1
  isplitl [H2]; · iexact H2
  isplitl [H3]; · iexact H3
  isplitl [H4]; · iexact H4
  rw [step4_3, step4_4]
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row4 (t : Fin cfg4.N) :
    defs₀ (F := F) .tc cfg4.body (cfg4.bodyArgs t (cfg4.slots t)) = bodyAt4 t := by
  unfold defs₀; rw [Defs.onTc_tc]

theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Regions

end Cert.KernelIdeal.Run

end
-- ==== Proof.KI.Fold.lean ====
module

public import proofs.«01_k».proof.Proof.KI.Hosts
public import proofs.«01_k».proof.Proof.KI.Region0
public import proofs.«01_k».proof.Proof.KI.Region1
public import proofs.«01_k».proof.Proof.KI.Region2
public import proofs.«01_k».proof.Proof.KI.Region3
public import proofs.«01_k».proof.Proof.KI.Region4

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)

abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)

abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)

abbrev W4 : Dev nD → Valuation τ sig (Elt F) := fun c => StableHlo.after hostOps0_3 (W3 m ρ c)
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)

abbrev W5 : Dev nD → Valuation τ sig (Elt F) := fun c => StableHlo.after hostOps0_4 (W4 m ρ c)
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a (hostOps0_4_args a ha)).trans (W4_args m ρ c a ha)
abbrev V5 : (c : Dev nD) → (b : Ref sig .tc) → Buf (Elt F) ((c : Thread nD τ).loc b) := fun c b => W5 m ρ c b

def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
theorem W6_of (c : Dev nD) (r : Ref sig .tc) (h : ∀ w : Fin cfg0.W, Pipeline.arrRef spec0 w = r → (cfg0.win w).isOut = false) :
    W6 m ρ c (Proc.devRef .tc r) = W5 m ρ c (Proc.devRef .tc r) := by
  by_cases hw : ∃ w : Fin cfg0.W, Pipeline.arrRef spec0 w = r
  · obtain ⟨w, rfl⟩ := hw
    exact (W6_arr m ρ c w).trans (((dat0 (V5 m ρ) c).arrAt_in w (h w rfl) _).trans (A_eq0 (V5 m ρ) c w))
  · exact W6_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)

theorem W6_args (c : Dev nD) : ∀ a ∈ argRefs, W6 m ρ c (Proc.devRef .tc a) = m ((c : Thread nD τ).loc a) :=
  fun a ha => (W6_of m ρ c a (argsIn0 a ha)).trans (W5_args m ρ c a ha)
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps1 (W6 m ρ c)
theorem W7_of (c : Dev nD) (r : Ref sig .tc) (h : r ∉ hostOps1_W) : W7 m ρ c (Proc.devRef .tc r) = W6 m ρ c (Proc.devRef .tc r) :=
  StableHlo.after_of_writes_sub hostOps1 _ hostOps1_writes h
theorem W7_args (c : Dev nD) : ∀ a ∈ argRefs, W7 m ρ c (Proc.devRef .tc a) = m ((c : Thread nD τ).loc a) :=
  fun a ha => (W7_of m ρ c a (hostOps1_args a ha)).trans (W6_args m ρ c a ha)
abbrev W8 : Dev nD → Valuation τ sig (Elt F) := fun c => StableHlo.after hostOps1_1 (W7 m ρ c)
theorem W8_of (c : Dev nD) (r : Ref sig .tc) (h : r ∉ hostOps1_1_W) : W8 m ρ c (Proc.devRef .tc r) = W7 m ρ c (Proc.devRef .tc r) :=
  StableHlo.after_of_writes_sub hostOps1_1 _ hostOps1_1_writes h

theorem W8_args (c : Dev nD) : ∀ a ∈ argRefs, W8 m ρ c (Proc.devRef .tc a) = m ((c : Thread nD τ).loc a) :=
  fun a ha => (W8_of m ρ c a (hostOps1_1_args a ha)).trans (W7_args m ρ c a ha)
abbrev W9 : Dev nD → Valuation τ sig (Elt F) := fun c => StableHlo.after hostOps1_2 (W8 m ρ c)
theorem W9_of (c : Dev nD) (r : Ref sig .tc) (h : r ∉ hostOps1_2_W) : W9 m ρ c (Proc.devRef .tc r) = W8 m ρ c (Proc.devRef .tc r) :=
  StableHlo.after_of_writes_sub hostOps1_2 _ hostOps1_2_writes h
theorem W9_args (c : Dev nD) : ∀ a ∈ argRefs, W9 m ρ c (Proc.devRef .tc a) = m ((c : Thread nD τ).loc a) :=
  fun a ha => (W9_of m ρ c a (hostOps1_2_args a ha)).trans (W8_args m ρ c a ha)

abbrev W10 : Dev nD → Valuation τ sig (Elt F) := fun c => StableHlo.after hostOps1_3 (W9 m ρ c)
theorem W10_of (c : Dev nD) (r : Ref sig .tc) (h : r ∉ hostOps1_3_W) : W10 m ρ c (Proc.devRef .tc r) = W9 m ρ c (Proc.devRef .tc r) :=
  StableHlo.after_of_writes_sub hostOps1_3 _ hostOps1_3_writes h
theorem W10_args (c : Dev nD) : ∀ a ∈ argRefs, W10 m ρ c (Proc.devRef .tc a) = m ((c : Thread nD τ).loc a) :=
  fun a ha => (W10_of m ρ c a (hostOps1_3_args a ha)).trans (W9_args m ρ c a ha)

abbrev W11 : Dev nD → Valuation τ sig (Elt F) := fun c => StableHlo.after hostOps1_4 (W10 m ρ c)
theorem W11_of (c : Dev nD) (r : Ref sig .tc) (h : r ∉ hostOps1_4_W) : W11 m ρ c (Proc.devRef .tc r) = W10 m ρ c (Proc.devRef .tc r) :=
  StableHlo.after_of_writes_sub hostOps1_4 _ hostOps1_4_writes h
theorem W11_args (c : Dev nD) : ∀ a ∈ argRefs, W11 m ρ c (Proc.devRef .tc a) = m ((c : Thread nD τ).loc a) :=
  fun a ha => (W11_of m ρ c a (hostOps1_4_args a ha)).trans (W10_args m ρ c a ha)

abbrev W12 : Dev nD → Valuation τ sig (Elt F) := fun c => StableHlo.after hostOps1_5 (W11 m ρ c)
theorem W12_of (c : Dev nD) (r : Ref sig .tc) (h : r ∉ hostOps1_5_W) : W12 m ρ c (Proc.devRef .tc r) = W11 m ρ c (Proc.devRef .tc r) :=
  StableHlo.after_of_writes_sub hostOps1_5 _ hostOps1_5_writes h
theorem W12_args (c : Dev nD) : ∀ a ∈ argRefs, W12 m ρ c (Proc.devRef .tc a) = m ((c : Thread nD τ).loc a) :=
  fun a ha => (W12_of m ρ c a (hostOps1_5_args a ha)).trans (W11_args m ρ c a ha)

abbrev W13 : Dev nD → Valuation τ sig (Elt F) := fun c => StableHlo.after hostOps1_6 (W12 m ρ c)
theorem W13_of (c : Dev nD) (r : Ref sig .tc) (h : r ∉ hostOps1_6_W) : W13 m ρ c (Proc.devRef .tc r) = W12 m ρ c (Proc.devRef .tc r) :=
  StableHlo.after_of_writes_sub hostOps1_6 _ hostOps1_6_writes h
theorem W13_args (c : Dev nD) : ∀ a ∈ argRefs, W13 m ρ c (Proc.devRef .tc a) = m ((c : Thread nD τ).loc a) :=
  fun a ha => (W13_of m ρ c a (hostOps1_6_args a ha)).trans (W12_args m ρ c a ha)
abbrev V13 : (c : Dev nD) → (b : Ref sig .tc) → Buf (Elt F) ((c : Thread nD τ).loc b) := fun c b => W13 m ρ c b

def W14 (c : Dev nD) : Valuation τ sig (Elt F) :=
  Pipeline.withArrays spec1 c (W13 m ρ c) fun w => (dat1 (V13 m ρ) c).arrAt w cfg1.N
theorem W14_arr (c : Dev nD) (w : Fin cfg1.W) :
    W14 m ρ c (Proc.devRef .tc (Pipeline.arrRef spec1 w)) = (dat1 (V13 m ρ) c).arrAt w cfg1.N := by
  unfold W14; exact Pipeline.withArrays_arr spec1 launch1.win.arr_inj c _ _ w
theorem W14_of_ne (c : Dev nD) (b : Ref sig .tc) (hb : ∀ w, Pipeline.arrRef spec1 w ≠ b) :
    W14 m ρ c (Proc.devRef .tc b) = W13 m ρ c (Proc.devRef .tc b) := by
  unfold W14; exact Pipeline.withArrays_of_ne spec1 c _ _ b hb
theorem W14_of (c : Dev nD) (r : Ref sig .tc) (h : ∀ w : Fin cfg1.W, Pipeline.arrRef spec1 w = r → (cfg1.win w).isOut = false) :
    W14 m ρ c (Proc.devRef .tc r) = W13 m ρ c (Proc.devRef .tc r) := by
  by_cases hw : ∃ w : Fin cfg1.W, Pipeline.arrRef spec1 w = r
  · obtain ⟨w, rfl⟩ := hw
    exact (W14_arr m ρ c w).trans (((dat1 (V13 m ρ) c).arrAt_in w (h w rfl) _).trans (A_eq1 (V13 m ρ) c w))
  · exact W14_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)

theorem W14_args (c : Dev nD) : ∀ a ∈ argRefs, W14 m ρ c (Proc.devRef .tc a) = m ((c : Thread nD τ).loc a) :=
  fun a ha => (W14_of m ρ c a (argsIn1 a ha)).trans (W13_args m ρ c a ha)
abbrev V14 : (c : Dev nD) → (b : Ref sig .tc) → Buf (Elt F) ((c : Thread nD τ).loc b) := fun c b => W14 m ρ c b
theorem hF1 (c : Dev nD) (w : Fin cfg1.W) : (dat1 (V13 m ρ) c).arrAt w cfg1.N = V14 m ρ c (Pipeline.arrRef spec1 w) :=
  (W14_arr m ρ c w).symm
theorem hrest1 (c : Dev nD) : ∀ b, b ∉ Finset.univ.image (Pipeline.arrRef spec1) → V14 m ρ c b = V13 m ρ c b :=
  fun b hb => W14_of_ne m ρ c b fun w e => hb (Finset.mem_image.mpr ⟨w, Finset.mem_univ _, e⟩)

abbrev W15 : Dev nD → Valuation τ sig (Elt F) := fun c => StableHlo.after hostOps2 (W14 m ρ c)
theorem W15_of (c : Dev nD) (r : Ref sig .tc) (h : r ∉ hostOps2_W) : W15 m ρ c (Proc.devRef .tc r) = W14 m ρ c (Proc.devRef .tc r) :=
  StableHlo.after_of_writes_sub hostOps2 _ hostOps2_writes h
theorem W15_args (c : Dev nD) : ∀ a ∈ argRefs, W15 m ρ c (Proc.devRef .tc a) = m ((c : Thread nD τ).loc a) :=
  fun a ha => (W15_of m ρ c a (hostOps2_args a ha)).trans (W14_args m ρ c a ha)

abbrev W16 : Dev nD → Valuation τ sig (Elt F) := fun c => StableHlo.after hostOps2_1 (W15 m ρ c)
theorem W16_of (c : Dev nD) (r : Ref sig .tc) (h : r ∉ hostOps2_1_W) : W16 m ρ c (Proc.devRef .tc r) = W15 m ρ c (Proc.devRef .tc r) :=
  StableHlo.after_of_writes_sub hostOps2_1 _ hostOps2_1_writes h
theorem W16_args (c : Dev nD) : ∀ a ∈ argRefs, W16 m ρ c (Proc.devRef .tc a) = m ((c : Thread nD τ).loc a) :=
  fun a ha => (W16_of m ρ c a (hostOps2_1_args a ha)).trans (W15_args m ρ c a ha)
abbrev V16 : (c : Dev nD) → (b : Ref sig .tc) → Buf (Elt F) ((c : Thread nD τ).loc b) := fun c b => W16 m ρ c b

def W17 (c : Dev nD) : Valuation τ sig (Elt F) :=
  Pipeline.withArrays spec2 c (W16 m ρ c) fun w => (dat2 (V16 m ρ) c).arrAt w cfg2.N
theorem W17_arr (c : Dev nD) (w : Fin cfg2.W) :
    W17 m ρ c (Proc.devRef .tc (Pipeline.arrRef spec2 w)) = (dat2 (V16 m ρ) c).arrAt w cfg2.N := by
  unfold W17; exact Pipeline.withArrays_arr spec2 launch2.win.arr_inj c _ _ w
theorem W17_of_ne (c : Dev nD) (b : Ref sig .tc) (hb : ∀ w, Pipeline.arrRef spec2 w ≠ b) :
    W17 m ρ c (Proc.devRef .tc b) = W16 m ρ c (Proc.devRef .tc b) := by
  unfold W17; exact Pipeline.withArrays_of_ne spec2 c _ _ b hb
theorem W17_of (c : Dev nD) (r : Ref sig .tc) (h : ∀ w : Fin cfg2.W, Pipeline.arrRef spec2 w = r → (cfg2.win w).isOut = false) :
    W17 m ρ c (Proc.devRef .tc r) = W16 m ρ c (Proc.devRef .tc r) := by
  by_cases hw : ∃ w : Fin cfg2.W, Pipeline.arrRef spec2 w = r
  · obtain ⟨w, rfl⟩ := hw
    exact (W17_arr m ρ c w).trans (((dat2 (V16 m ρ) c).arrAt_in w (h w rfl) _).trans (A_eq2 (V16 m ρ) c w))
  · exact W17_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)

theorem W17_args (c : Dev nD) : ∀ a ∈ argRefs, W17 m ρ c (Proc.devRef .tc a) = m ((c : Thread nD τ).loc a) :=
  fun a ha => (W17_of m ρ c a (argsIn2 a ha)).trans (W16_args m ρ c a ha)
abbrev V17 : (c : Dev nD) → (b : Ref sig .tc) → Buf (Elt F) ((c : Thread nD τ).loc b) := fun c b => W17 m ρ c b
theorem hF2 (c : Dev nD) (w : Fin cfg2.W) : (dat2 (V16 m ρ) c).arrAt w cfg2.N = V17 m ρ c (Pipeline.arrRef spec2 w) :=
  (W17_arr m ρ c w).symm
theorem hrest2 (c : Dev nD) : ∀ b, b ∉ Finset.univ.image (Pipeline.arrRef spec2) → V17 m ρ c b = V16 m ρ c b :=
  fun b hb => W17_of_ne m ρ c b fun w e => hb (Finset.mem_image.mpr ⟨w, Finset.mem_univ _, e⟩)

def W18 (c : Dev nD) : Valuation τ sig (Elt F) :=
  Pipeline.withArrays spec3 c (W17 m ρ c) fun w => (dat3 (V17 m ρ) c).arrAt w cfg3.N
theorem W18_arr (c : Dev nD) (w : Fin cfg3.W) :
    W18 m ρ c (Proc.devRef .tc (Pipeline.arrRef spec3 w)) = (dat3 (V17 m ρ) c).arrAt w cfg3.N := by
  unfold W18; exact Pipeline.withArrays_arr spec3 launch3.win.arr_inj c _ _ w
theorem W18_of_ne (c : Dev nD) (b : Ref sig .tc) (hb : ∀ w, Pipeline.arrRef spec3 w ≠ b) :
    W18 m ρ c (Proc.devRef .tc b) = W17 m ρ c (Proc.devRef .tc b) := by
  unfold W18; exact Pipeline.withArrays_of_ne spec3 c _ _ b hb
theorem W18_of (c : Dev nD) (r : Ref sig .tc) (h : ∀ w : Fin cfg3.W, Pipeline.arrRef spec3 w = r → (cfg3.win w).isOut = false) :
    W18 m ρ c (Proc.devRef .tc r) = W17 m ρ c (Proc.devRef .tc r) := by
  by_cases hw : ∃ w : Fin cfg3.W, Pipeline.arrRef spec3 w = r
  · obtain ⟨w, rfl⟩ := hw
    exact (W18_arr m ρ c w).trans (((dat3 (V17 m ρ) c).arrAt_in w (h w rfl) _).trans (A_eq3 (V17 m ρ) c w))
  · exact W18_of_ne m ρ c r fun w e => hw ⟨w, e⟩
theorem argsIn3 : ∀ a ∈ argRefs, ∀ w : Fin cfg3.W, Pipeline.arrRef spec3 w = a → (cfg3.win w).isOut = false :=
  ListAll.forall_mem_of_all_decide (by decide +kernel)

theorem W18_args (c : Dev nD) : ∀ a ∈ argRefs, W18 m ρ c (Proc.devRef .tc a) = m ((c : Thread nD τ).loc a) :=
  fun a ha => (W18_of m ρ c a (argsIn3 a ha)).trans (W17_args m ρ c a ha)
abbrev V18 : (c : Dev nD) → (b : Ref sig .tc) → Buf (Elt F) ((c : Thread nD τ).loc b) := fun c b => W18 m ρ c b
theorem hF3 (c : Dev nD) (w : Fin cfg3.W) : (dat3 (V17 m ρ) c).arrAt w cfg3.N = V18 m ρ c (Pipeline.arrRef spec3 w) :=
  (W18_arr m ρ c w).symm
theorem hrest3 (c : Dev nD) : ∀ b, b ∉ Finset.univ.image (Pipeline.arrRef spec3) → V18 m ρ c b = V17 m ρ c b :=
  fun b hb => W18_of_ne m ρ c b fun w e => hb (Finset.mem_image.mpr ⟨w, Finset.mem_univ _, e⟩)

def W19 (c : Dev nD) : Valuation τ sig (Elt F) :=
  Pipeline.withArrays spec4 c (W18 m ρ c) fun w => (dat4 (V18 m ρ) c).arrAt w cfg4.N
theorem W19_arr (c : Dev nD) (w : Fin cfg4.W) :
    W19 m ρ c (Proc.devRef .tc (Pipeline.arrRef spec4 w)) = (dat4 (V18 m ρ) c).arrAt w cfg4.N := by
  unfold W19; exact Pipeline.withArrays_arr spec4 launch4.win.arr_inj c _ _ w
theorem W19_of_ne (c : Dev nD) (b : Ref sig .tc) (hb : ∀ w, Pipeline.arrRef spec4 w ≠ b) :
    W19 m ρ c (Proc.devRef .tc b) = W18 m ρ c (Proc.devRef .tc b) := by
  unfold W19; exact Pipeline.withArrays_of_ne spec4 c _ _ b hb
theorem W19_of (c : Dev nD) (r : Ref sig .tc) (h : ∀ w : Fin cfg4.W, Pipeline.arrRef spec4 w = r → (cfg4.win w).isOut = false) :
    W19 m ρ c (Proc.devRef .tc r) = W18 m ρ c (Proc.devRef .tc r) := by
  by_cases hw : ∃ w : Fin cfg4.W, Pipeline.arrRef spec4 w = r
  · obtain ⟨w, rfl⟩ := hw
    exact (W19_arr m ρ c w).trans (((dat4 (V18 m ρ) c).arrAt_in w (h w rfl) _).trans (A_eq4 (V18 m ρ) c w))
  · exact W19_of_ne m ρ c r fun w e => hw ⟨w, e⟩
theorem argsIn4 : ∀ a ∈ argRefs, ∀ w : Fin cfg4.W, Pipeline.arrRef spec4 w = a → (cfg4.win w).isOut = false :=
  ListAll.forall_mem_of_all_decide (by decide +kernel)

theorem W19_args (c : Dev nD) : ∀ a ∈ argRefs, W19 m ρ c (Proc.devRef .tc a) = m ((c : Thread nD τ).loc a) :=
  fun a ha => (W19_of m ρ c a (argsIn4 a ha)).trans (W18_args m ρ c a ha)
abbrev V19 : (c : Dev nD) → (b : Ref sig .tc) → Buf (Elt F) ((c : Thread nD τ).loc b) := fun c b => W19 m ρ c b
theorem hF4 (c : Dev nD) (w : Fin cfg4.W) : (dat4 (V18 m ρ) c).arrAt w cfg4.N = V19 m ρ c (Pipeline.arrRef spec4 w) :=
  (W19_arr m ρ c w).symm
theorem hrest4 (c : Dev nD) : ∀ b, b ∉ Finset.univ.image (Pipeline.arrRef spec4) → V19 m ρ c b = V18 m ρ c b :=
  fun b hb => W19_of_ne m ρ c b fun w e => hb (Finset.mem_image.mpr ⟨w, Finset.mem_univ _, e⟩)

abbrev W20 : Dev nD → Valuation τ sig (Elt F) := fun c => StableHlo.after hostOps5 (W19 m ρ c)
theorem W20_of (c : Dev nD) (r : Ref sig .tc) (h : r ∉ hostOps5_W) : W20 m ρ c (Proc.devRef .tc r) = W19 m ρ c (Proc.devRef .tc r) :=
  StableHlo.after_of_writes_sub hostOps5 _ hostOps5_writes h
theorem W20_args (c : Dev nD) : ∀ a ∈ argRefs, W20 m ρ c (Proc.devRef .tc a) = m ((c : Thread nD τ).loc a) :=
  fun a ha => (W20_of m ρ c a (hostOps5_args a ha)).trans (W19_args m ρ c a ha)

theorem W20_main_arg0 (c : Dev nD) : W20 m ρ c (Proc.devRef .tc main_arg0) = m ((c : Thread nD τ).loc main_arg0) :=
  W20_args m ρ c main_arg0 (by decide)

theorem W20_main_arg1 (c : Dev nD) : W20 m ρ c (Proc.devRef .tc main_arg1) = m ((c : Thread nD τ).loc main_arg1) :=
  W20_args m ρ c main_arg1 (by decide)
theorem W20_main_arg2 (c : Dev nD) : W20 m ρ c (Proc.devRef .tc main_arg2) = m ((c : Thread nD τ).loc main_arg2) :=
  W20_args m ρ c main_arg2 (by decide)
theorem W20_main_arg3 (c : Dev nD) : W20 m ρ c (Proc.devRef .tc main_arg3) = m ((c : Thread nD τ).loc main_arg3) :=
  W20_args m ρ c main_arg3 (by decide)
theorem W20_main_arg4 (c : Dev nD) : W20 m ρ c (Proc.devRef .tc main_arg4) = m ((c : Thread nD τ).loc main_arg4) :=
  W20_args m ρ c main_arg4 (by decide)
theorem W20_main_arg5 (c : Dev nD) : W20 m ρ c (Proc.devRef .tc main_arg5) = m ((c : Thread nD τ).loc main_arg5) :=
  W20_args m ρ c main_arg5 (by decide)
theorem W20_main_arg6 (c : Dev nD) : W20 m ρ c (Proc.devRef .tc main_arg6) = m ((c : Thread nD τ).loc main_arg6) :=
  W20_args m ρ c main_arg6 (by decide)

theorem W20_main_arg7 (c : Dev nD) : W20 m ρ c (Proc.devRef .tc main_arg7) = m ((c : Thread nD τ).loc main_arg7) :=
  W20_args m ρ c main_arg7 (by decide)
theorem W20_main_arg8 (c : Dev nD) : W20 m ρ c (Proc.devRef .tc main_arg8) = m ((c : Thread nD τ).loc main_arg8) :=
  W20_args m ρ c main_arg8 (by decide)
theorem W20_main_arg9 (c : Dev nD) : W20 m ρ c (Proc.devRef .tc main_arg9) = m ((c : Thread nD τ).loc main_arg9) :=
  W20_args m ρ c main_arg9 (by decide)
theorem W20_main_arg10 (c : Dev nD) : W20 m ρ c (Proc.devRef .tc main_arg10) = m ((c : Thread nD τ).loc main_arg10) :=
  W20_args m ρ c main_arg10 (by decide)
theorem W20_main_arg11 (c : Dev nD) : W20 m ρ c (Proc.devRef .tc main_arg11) = m ((c : Thread nD τ).loc main_arg11) :=
  W20_args m ρ c main_arg11 (by decide)

end Cert.KernelIdeal.Run

end
-- ==== Proof.KI.State.lean ====
module

public import proofs.«01_k».proof.Proof.KI.Fold

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 5) → (pcfgs (F := F) p).Adm := fun p => (cfgs p).toPCfg_adm
def pdats : (p : Fin 5) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V13 m ρ) c
  | ⟨2, _⟩ => fun c => dat2 (V16 m ρ) c
  | ⟨3, _⟩ => fun c => dat3 (V17 m ρ) c
  | ⟨4, _⟩ => fun c => dat4 (V18 m ρ) c
/-- The proof data the launch is run with: every region's exact data read relationally, region 1's window 14 held to
    what is known of its slabs. -/
def rdats : (p : Fin 5) → (c : Dev nD) → Pipeline.RDat τ (Elt F) Unit ℕ (UR sig nD τ) ℕ (Pipeline.pin (pcfgs (F := F)) adm p) c
  | ⟨0, _⟩ => fun c => (dat0 (V5 m ρ) c).toR
  | ⟨1, _⟩ => fun c => (dat1 (V13 m ρ) c).toRRel fgt1 (Rl1 (V13 m ρ) c)
  | ⟨2, _⟩ => fun c => (dat2 (V16 m ρ) c).toR
  | ⟨3, _⟩ => fun c => (dat3 (V17 m ρ) c).toR
  | ⟨4, _⟩ => fun c => (dat4 (V18 m ρ) c).toR

theorem fgt1_only : ∀ w : Fin cfg1.W, fgt1 w = true → w = 14 := by decide

/-- At the exit of region 1 every array, window 14's too, is what the exact data name. -/
theorem arrays1 (c : Dev nD) (V : (c : Dev nD) → (b : Ref sig .tc) → Buf (Elt F) ((c : Thread nD τ).loc b)) :
    ((dat1 V c).toRRel fgt1 (Rl1 V c)).arraysAt cfg1.N ⊢ ((dat1 V c).arrays fun w => (dat1 V c).arrAt w cfg1.N : sProp 𝕄) := by
  unfold Pipeline.RDat.arraysAt Pipeline.Dat.arrays
  refine bigSep_mono fun w _ => ?_
  have key : ∀ G, ((dat1 V c).toRRel fgt1 (Rl1 V c)).ArrAt w cfg1.N G → G = (dat1 V c).arrAt w cfg1.N := by
    intro G hG
    cases h : fgt1 w
    · exact (dat1 V c).toR_arrAt w cfg1.N G (((dat1 V c).toR.override_arrAt (by simp only [h]) cfg1.N G).1 hG)
    · have hw : w = 14 := fgt1_only w h
      subst hw
      exact arr1_14 V c G hG
  show (iprop(∃ G, ⌜((dat1 V c).toRRel fgt1 (Rl1 V c)).ArrAt w cfg1.N G⌝ ∗ (cfg1.win w).arr.view.loc (c.tc : Thread nD τ) ↦[(cfg1.win w).arr.view.set]{(dat1 V c).share w} G) : sProp 𝕄)
    ⊢ iprop((cfg1.win w).arr.view.loc (c.tc : Thread nD τ) ↦[(cfg1.win w).arr.view.set]{(dat1 V c).share w} (dat1 V c).arrAt w cfg1.N)
  iintro ⟨%G, %hG, H⟩
  rw [← key G hG]
  iexact H

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W20 m ρ c) ∗ ∃ r, prngReg c r)

end Cert.KernelIdeal.Run

end
-- ==== Proof.KI.Record0.lean ====
module

public import proofs.«01_k».proof.Proof.KI.State

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RDat.RegionSeg (pcfgs (F := F)) adm (rdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose.toR
  hwaits := Pipeline.RDat.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.RDat.arrays_of_unscopedBufs (p := 0) (pcfgs (F := F)) adm (rdats m ρ) launch0.win launch0.arr_whole c
      ((pdats m ρ 0 c).share_full fun _ => rfl) (V5 m ρ c) (A_eq0 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin
      isplitl [Ha]
      · iapply (Entails.of_eq ((dat0 (V5 m ρ) c).toR_arraysAt_eq cfg0.N)); iexact Ha
      iexact Hrest
    isplitl [HY]; · iexact HY
    unfold Pipeline.RDat.owesAt Pipeline.owesWithin
    icases HO with ⟨%W, -, HO⟩; iexists W; iexact HO

end Cert.KernelIdeal.Run

end
-- ==== Proof.KI.Record1.lean ====
module

public import proofs.«01_k».proof.Proof.KI.State

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RDat.RegionSeg (pcfgs (F := F)) adm (rdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V13 m ρ) c).toRRel
  hwaits := Pipeline.RDat.hwaits_of_owed_zero _ _ _ _ L lv 1 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec1 c (V13 m ρ c)
  hentry c := by
    rw [Pipeline.ownSems0_none]
    have hsplit := Pipeline.RDat.arrays_of_unscopedBufs (p := 1) (pcfgs (F := F)) adm (rdats m ρ) launch1.win launch1.arr_whole c
      ((pdats m ρ 1 c).share_full fun _ => rfl) (V13 m ρ c) (A_eq1 (V13 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V13 m ρ c) (V14 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin
      isplitl [Ha]
      · iapply (arrays1 c (V13 m ρ)); iexact Ha
      iexact Hrest
    isplitl [HY]; · iexact HY
    unfold Pipeline.RDat.owesAt Pipeline.owesWithin
    icases HO with ⟨%W, -, HO⟩; iexists W; iexact HO

end Cert.KernelIdeal.Run

end
-- ==== Proof.KI.Record2.lean ====
module

public import proofs.«01_k».proof.Proof.KI.State

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RDat.RegionSeg (pcfgs (F := F)) adm (rdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V16 m ρ) c).loose.toR
  hwaits := Pipeline.RDat.hwaits_of_owed_zero _ _ _ _ L lv 2 fun _ _ => rfl
  pre c := iprop(StableHlo.held (c : Thread nD τ) (Pipeline.ucRefs τ sig) (W16 m ρ c) ∗ R c)
  post c := iprop(StableHlo.held (c : Thread nD τ) (Pipeline.ucRefs τ sig) (W17 m ρ c) ∗ R c)
  X c := iprop(∃ r, prngReg c r)
  Y c := iprop(∃ r, prngReg c r)
  Z c := Pipeline.unscopedRest (Ix := Unit) (Name := ℕ) (U := UR sig nD τ) (Lvl := ℕ) spec2 c (V16 m ρ c)
  hentry c := by
    rw [Pipeline.ownSems0_none]
    have hsplit := Pipeline.RDat.arrays_of_unscopedBufs (p := 2) (pcfgs (F := F)) adm (rdats m ρ) launch2.win launch2.arr_whole c
      ((pdats m ρ 2 c).share_full fun _ => rfl) (V16 m ρ c) (A_eq2 (V16 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    have h := hin2 (V16 m ρ) c
    unfold Pipeline.ΦA at h
    rw [show (rdats m ρ 2 c).Φ 0 = (dat2 (V16 m ρ) c).Φ 0 from rfl]
    iintro ⟨Hp, -, Hr⟩
    iapply h
    isplitl [Hr]; · iexact Hr
    iexact Hp
  hout c := by
    rw [Pipeline.ownSems0_none]
    have h : ∀ t : Fin ((Pipeline.pin (pcfgs (F := F)) adm 2).N + 1), t.val ≠ 0 → (rdats m ρ 2 c).Φ t
        ⊢ iprop((∃ r, prngReg c r) ∗ BI.emp ∗ Pipeline.scopedRest (Pipeline.pin (pcfgs (F := F)) adm 2).spec c) := by
      intro t ht
      have h := Phi_out2 (V16 m ρ) c t ht
      unfold Pipeline.ΦA at h
      rw [show (rdats m ρ 2 c).Φ t = (dat2 (V16 m ρ) c).Φ t from rfl]
      iintro H
      ihave H := h $$ H
      icases H with ⟨Hr, Hp⟩
      isplitl [Hp]; · iexact Hp
      isplitr; · iempintro
      iexact Hr
    exact h (Fin.last _) (by rw [Fin.val_last, show (Pipeline.pin (pcfgs (F := F)) adm 2).N = grid2.N from rfl, N_2]; omega)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V16 m ρ c) (V17 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin
      isplitl [Ha]
      · iapply (Entails.of_eq ((dat2 (V16 m ρ) c).toR_arraysAt_eq cfg2.N)); iexact Ha
      iexact Hrest
    isplitl [HY]; · iexact HY
    unfold Pipeline.RDat.owesAt Pipeline.owesWithin
    icases HO with ⟨%W, -, HO⟩; iexists W; iexact HO

end Cert.KernelIdeal.Run

end
-- ==== Proof.KI.Record3.lean ====
module

public import proofs.«01_k».proof.Proof.KI.State

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RDat.RegionSeg (pcfgs (F := F)) adm (rdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V17 m ρ) c).loose.toR
  hwaits := Pipeline.RDat.hwaits_of_owed_zero _ _ _ _ L lv 3 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec3 c (V17 m ρ c)
  hentry c := by
    rw [Pipeline.ownSems0_none]
    have hsplit := Pipeline.RDat.arrays_of_unscopedBufs (p := 3) (pcfgs (F := F)) adm (rdats m ρ) launch3.win launch3.arr_whole c
      ((pdats m ρ 3 c).share_full fun _ => rfl) (V17 m ρ c) (A_eq3 (V17 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    have h := hin3 (V17 m ρ) c
    unfold Pipeline.ΦA at h
    rw [show (rdats m ρ 3 c).Φ 0 = (dat3 (V17 m ρ) c).Φ 0 from rfl]
    iintro ⟨Hp, -, Hr⟩
    iapply h
    isplitl [Hr]; · iexact Hr
    iexact Hp
  hout c := by
    rw [Pipeline.ownSems0_none]
    have h : ∀ t : Fin ((Pipeline.pin (pcfgs (F := F)) adm 3).N + 1), t.val ≠ 0 → (rdats m ρ 3 c).Φ t
        ⊢ iprop((∃ r, prngReg c r) ∗ BI.emp ∗ Pipeline.scopedRest (Pipeline.pin (pcfgs (F := F)) adm 3).spec c) := by
      intro t ht
      have h := Phi_out3 (V17 m ρ) c t ht
      unfold Pipeline.ΦA at h
      rw [show (rdats m ρ 3 c).Φ t = (dat3 (V17 m ρ) c).Φ t from rfl]
      iintro H
      ihave H := h $$ H
      icases H with ⟨Hr, Hp⟩
      isplitl [Hp]; · iexact Hp
      isplitr; · iempintro
      iexact Hr
    exact h (Fin.last _) (by rw [Fin.val_last, show (Pipeline.pin (pcfgs (F := F)) adm 3).N = grid3.N from rfl, N_3]; omega)
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V17 m ρ c) (V18 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin
      isplitl [Ha]
      · iapply (Entails.of_eq ((dat3 (V17 m ρ) c).toR_arraysAt_eq cfg3.N)); iexact Ha
      iexact Hrest
    isplitl [HY]; · iexact HY
    unfold Pipeline.RDat.owesAt Pipeline.owesWithin
    icases HO with ⟨%W, -, HO⟩; iexists W; iexact HO

end Cert.KernelIdeal.Run

end
-- ==== Proof.KI.Record4.lean ====
module

public import proofs.«01_k».proof.Proof.KI.State

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg4 : Pipeline.RDat.RegionSeg (pcfgs (F := F)) adm (rdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V18 m ρ) c).loose.toR
  hwaits := Pipeline.RDat.hwaits_of_owed_zero _ _ _ _ L lv 4 fun _ _ => rfl
  pre c := iprop(StableHlo.held (c : Thread nD τ) (Pipeline.ucRefs τ sig) (W18 m ρ c) ∗ R c)
  post c := iprop(StableHlo.held (c : Thread nD τ) (Pipeline.ucRefs τ sig) (W19 m ρ c) ∗ R c)
  X c := iprop(∃ r, prngReg c r)
  Y c := iprop(∃ r, prngReg c r)
  Z c := Pipeline.unscopedRest (Ix := Unit) (Name := ℕ) (U := UR sig nD τ) (Lvl := ℕ) spec4 c (V18 m ρ c)
  hentry c := by
    rw [Pipeline.ownSems0_none]
    have hsplit := Pipeline.RDat.arrays_of_unscopedBufs (p := 4) (pcfgs (F := F)) adm (rdats m ρ) launch4.win launch4.arr_whole c
      ((pdats m ρ 4 c).share_full fun _ => rfl) (V18 m ρ c) (A_eq4 (V18 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (rdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V18 m ρ c) (V19 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin
      isplitl [Ha]
      · iapply (Entails.of_eq ((dat4 (V18 m ρ) c).toR_arraysAt_eq cfg4.N)); iexact Ha
      iexact Hrest
    isplitl [HY]; · iexact HY
    unfold Pipeline.RDat.owesAt Pipeline.owesWithin
    icases HO with ⟨%W, -, HO⟩; iexists W; iexact HO

end Cert.KernelIdeal.Run

end
-- ==== Proof.KI.Frame.lean ====
module

public import proofs.«01_k».proof.Proof.KI.Record0
public import proofs.«01_k».proof.Proof.KI.Record1
public import proofs.«01_k».proof.Proof.KI.Record2
public import proofs.«01_k».proof.Proof.KI.Record3
public import proofs.«01_k».proof.Proof.KI.Record4

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.RDat.Seg (pcfgs (F := F)) adm (rdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .host (hseg hostOps1_1 hostOps1_1_sub hostOps1_1_fresh (W7 m ρ)),
    .host (hseg hostOps1_2 hostOps1_2_sub hostOps1_2_fresh (W8 m ρ)),
    .host (hseg hostOps1_3 hostOps1_3_sub hostOps1_3_fresh (W9 m ρ)),
    .host (hseg hostOps1_4 hostOps1_4_sub hostOps1_4_fresh (W10 m ρ)),
    .host (hseg hostOps1_5 hostOps1_5_sub hostOps1_5_fresh (W11 m ρ)),
    .host (hseg hostOps1_6 hostOps1_6_sub hostOps1_6_fresh (W12 m ρ)),
    .region (reg1 m ρ),
    .host (hseg hostOps2 hostOps2_sub hostOps2_fresh (W14 m ρ)),
    .host (hseg hostOps2_1 hostOps2_1_sub hostOps2_1_fresh (W15 m ρ)),
    .region (reg2 m ρ),
    .region (reg3 m ρ),
    .region (reg4 m ρ),
    .host (hseg hostOps5 hostOps5_sub hostOps5_fresh (W19 m ρ)) ]
theorem main_run (c : Dev nD) : main (F := F) c = Pipeline.RDat.Seg.run (segs m ρ) := (main_chain c).trans (by chain_rfl)

theorem no_unscoped : ∀ sm : SemLoc sig, sm.isScoped .tc = true := by decide

set_option backward.isDefEq.respectTransparency.types false in
/-- Every weakly fair run of the program terminates without a fault, and its final state has every buffer at the last
    boundary's contents and every semaphore counter at zero. -/
theorem run_all : θ_run defs (onTc (τ := τ) (main (F := F))) ⟨m, fun _ => 0, ρ⟩ (fun r => (∀ c : Dev nD, ∀ b ∈ Pipeline.ucRefs τ sig, r.2.mem (((c : Thread nD τ)).1, b) = W20 m ρ c b) ∧ r.2.sem = fun _ => 0) :=
  Pipeline.RDat.θ_run_regions_kit_sems (pcfgs (F := F)) adm (rdats m ρ) () cellOf_inj emb₁ defs₀ 𝒱₀ L lv m ρ main (segs m ρ)
    (fun c Q => by rw [main_run m ρ c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.RDat.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h hz => ⟨h, funext fun g => hz g (.inr (no_unscoped g.2))⟩)

/-- The frame claim: the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h0 => ⟨fun c =>
      (have h := h0.1; ⟨(h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c)⟩), h0.2⟩) (run_all m ρ)

end Cert.KernelIdeal.Run

end
-- ==== Proof.KT.Same.lean ====
/- The kernel and its idealization are one program: no operation was rewritten, and both are stated over any carrier of
   the floats. So their body tables and their main functions are equal. -/
module

public import proofs.«01_k».proof.Defs
public import proofs.«01_k».proof.Proof.Gen.KernelIdeal.Launch
public import proofs.«01_k».proof.Proof.Gen.Kernel.Launch

@[expose] public section

set_option maxHeartbeats 4000000

noncomputable section

namespace Cert.KT

open Idealize.ShloMosaic Idealize.SL.Sem

variable {F : FTy → Type} [FloatOps F]

/-- The kernels' bodies are the same, label by label. -/
theorem defs₀_eq : @Cert.Kernel.defs₀ F _ Cert.Kernel.Gen.facts = @Cert.KernelIdeal.defs₀ F _ Cert.KernelIdeal.Gen.facts :=
  congrArg (Defs.onTc (nD := Cert.Kernel.nD) (τ := Cert.Kernel.τ) (sig := Cert.Kernel.sig) (Val := Elt F) (Λ := Cert.Kernel.Λ₀))
    (funext fun l => funext fun a => by
      match l, a with
      | 0, (t, s) => rfl
      | 1, (t, s) => rfl
      | 2, (t, s) => rfl
      | 3, (t, s) => rfl
      | 4, (t, s) => rfl
      | ⟨_ + 5, h⟩, _ => exact absurd h (Nat.not_lt.2 (Nat.le_add_left _ _)))

/-- The main functions are the same. -/
theorem main_eq : @Cert.Kernel.main F _ Cert.Kernel.Gen.facts = @Cert.KernelIdeal.main F _ Cert.KernelIdeal.Gen.facts := rfl

end Cert.KT

end
-- ==== Proof.KT.Frame.lean ====
/- The frame of the kernel as printed, from the frame of its idealization, which is proved over any carrier of the
   floats. -/
module

public import proofs.«01_k».proof.Proof.KT.Same
public import proofs.«01_k».proof.Proof.KI.Frame

@[expose] public section

set_option maxHeartbeats 4000000

noncomputable section

namespace Cert.KT

open Idealize.ShloMosaic Idealize.SL.Sem

variable {F : FTy → Type} [FloatOps F]

/-- The tables with the pipelines' regions are the same. -/
theorem defs_eq : @Cert.Kernel.defs F _ Cert.Kernel.Gen.facts = @Cert.KernelIdeal.defs F _ Cert.KernelIdeal.Gen.facts :=
  congrArg (Pipeline.defs (Cert.KernelIdeal.pcfgs (F := F))) defs₀_eq

/-- A run of equal programs is one run. -/
theorem run_congr {nD : Nat} {τ : Topo} {sig : RefSig} {Λ : Labels} {D D' : Defs nD τ sig (Elt F) Λ}
    {M M' : Dev nD → Prog (TpuEff nD τ sig (Elt F) Λ .tc) PUnit} (hD : D' = D) (hM : M' = M) {s : MemSt nD τ sig (Elt F)}
    {Q : PUnit × MemSt nD τ sig (Elt F) → Prop} (h : θ_run D (onTc (τ := τ) M) s Q) : θ_run D' (onTc (τ := τ) M') s Q := by
  subst hD hM; exact h

/-- The kernel as printed runs, leaves its arguments as launched, and ends with every counter at zero. -/
theorem frame_kernel : Cert.quiescent_Kernel (hKernel := Cert.Kernel.Gen.facts) := fun m ρ _ =>
  run_congr defs_eq main_eq (Cert.KernelIdeal.Run.frame (F := Bits) m ρ)

end Cert.KT

end
-- ==== Proof.KV.Spec.lean ====
module

public import Idealize.ShloMosaic.Lib.ValueIdxCore
public import Idealize.ShloMosaic.Lib.MatmulPlain
public import Idealize.ShloMosaic.PureOps.Ideal.Laws

@[expose] public section

noncomputable section

namespace Cert.KV

open Idealize.ShloMosaic Idealize.ShloMosaic.ValueIdx
open scoped BigOperators

/-! # The mathematics of the layer over the extended reals, and the sums over tiles -/

/-- The constants the programs spell as bit patterns. -/
def one : EReal := Ideal.ofBits .f32 0x3F800000#32
def two : EReal := Ideal.ofBits .f32 0x40000000#32
def eps : EReal := Ideal.ofBits .f32 0x3727C5AC#32
def width : EReal := Ideal.ofBits .f32 0x45600000#32

/-- The reciprocal root mean square of one token's features. -/
def rsv (x : Fin 3584 → EReal) : EReal := Ideal.div one (Ideal.sqrt (Ideal.div (∑ k, x k * x k) width + eps))

/-- A two-axis array as a function of its coordinates. -/
def cur {a b : ℕ} (X : (⟨2, ![a, b]⟩ : Shape).Idx → EReal) (i : Fin a) (j : Fin b) : EReal := X (ix2 i j)

/-- The normalised, weighted features. -/
def hS (X : Fin 12288 → Fin 3584 → EReal) (NW : Fin 3584 → EReal) (r : Fin 12288) (k : Fin 3584) : EReal :=
  X r k * rsv (X r) * NW k

/-- The stacked low-rank activations, doubled: `A` times the features and `B` times the upstream gradient, in one 128-lane row. -/
def zS (H DY : Fin 12288 → Fin 3584 → EReal) (AP : Fin 128 → Fin 3584 → EReal) (BP : Fin 3584 → Fin 128 → EReal) (r : Fin 12288) (j : Fin 128) : EReal :=
  (∑ k, H r k * AP j k + ∑ k, DY r k * BP k j) * two

theorem one_eq : one = 1 := by
  simp [one, Ideal.ofBits, Ideal.ieee]
  rw [← EReal.coe_mul]; norm_num
theorem two_eq : two = 2 := by
  simp [two, Ideal.ofBits, Ideal.ieee]
  rw [← EReal.coe_mul]; norm_num
  rfl

theorem two_real : two = ((2 : ℝ) : EReal) := two_eq

/-- Doubling distributes over a sum of extended reals. -/
theorem add_mul_two (a b : EReal) : (a + b) * two = a * two + b * two := by
  rw [two_real]
  exact EReal.right_distrib_of_nonneg_of_ne_top (by exact_mod_cast (by norm_num : (0:ℝ) ≤ 2)) (EReal.coe_ne_top _) a b
theorem sum_mul_two {ι : Type} (s : Finset ι) (f : ι → EReal) : (∑ i ∈ s, f i) * two = ∑ i ∈ s, f i * two := by
  classical
  induction s using Finset.induction_on with
  | empty => simp
  | insert a s ha ih => rw [Finset.sum_insert ha, Finset.sum_insert ha, add_mul_two, ih]

/-- A sum over tiles of equal width is the sum over the whole axis. -/
theorem sum_tiles {M : Type} [AddCommMonoid M] (a b n : ℕ) (h : a * b = n) (f : Fin n → M)
    (hb : ∀ (p : Fin a) (q : Fin b), b * p.val + q.val < n) :
    ∑ p : Fin a, ∑ q : Fin b, f ⟨b * p.val + q.val, hb p q⟩ = ∑ i, f i := by
  subst h
  rw [← Equiv.sum_comp finProdFinEquiv, Fintype.sum_prod_type]
  refine Finset.sum_congr rfl fun p _ => Finset.sum_congr rfl fun q _ => congrArg f (Fin.ext ?_)
  simp [finProdFinEquiv, Nat.add_comm]

/-- Position `q` of tile `p` of width `b` on an axis of extent `n`. -/
def tl (n b : ℕ) (h : 0 < n) (p q : ℕ) : Fin n := ⟨(b * p + q) % n, Nat.mod_lt _ h⟩
theorem tl_val (n b : ℕ) (h : 0 < n) (p q : ℕ) (hlt : b * p + q < n) : (tl n b h p q).val = b * p + q := Nat.mod_eq_of_lt hlt
/-- A running sum over the tiles of an axis ends at the sum over the axis. -/
theorem sum_range_tiles {M : Type} [AddCommMonoid M] (a b n : ℕ) (h : a * b = n) (hn : 0 < n) (f : Fin n → M) :
    ∑ p ∈ Finset.range a, ∑ q : Fin b, f (tl n b hn p q.val) = ∑ i, f i := by
  have hb : ∀ (p : Fin a) (q : Fin b), b * p.val + q.val < n := fun p q => by
    have h1 : p.val + 1 ≤ a := p.isLt
    have h2 : b * (p.val + 1) ≤ b * a := Nat.mul_le_mul_left b h1
    have h3 := q.isLt
    rw [Nat.mul_comm b a, h, Nat.mul_add] at h2
    omega
  rw [Finset.sum_range, ← sum_tiles a b n h f hb]
  exact Finset.sum_congr rfl fun p _ => Finset.sum_congr rfl fun q _ => congrArg f (Fin.ext (tl_val n b hn _ _ (hb p q)))
/-- Row `r` of the `p`-th tile of 512 tokens. -/
abbrev tk (p r : ℕ) : Fin 12288 := tl 12288 512 (by decide) p r
/-- Column `q` of the `p`-th tile of 512 inner features. -/
abbrev fc (p q : ℕ) : Fin 18944 := tl 18944 512 (by decide) p q

end Cert.KV
-- ==== Proof.KV.H1.lean ====
module

public import proofs.«01_k».proof.Proof.KI.Fold
public import proofs.«01_k».proof.Proof.KV.Spec
public import Idealize.ShloMosaic.Lib.ValueIdx
public import Idealize.ShloMosaic.Lib.KernelVsHost
public import Idealize.ShloMosaic.Lib.ValueLayout
public import Idealize.ShloMosaic.Lib.Pipeline.Value

@[expose] public section

set_option maxRecDepth 16384

noncomputable section

namespace Cert.KV

open Cert.KernelIdeal Cert.KernelIdeal.Gen Cert.KernelIdeal.Run
open Idealize.ShloMosaic Idealize.ShloMosaic.TcCoe Idealize.ShloMosaic.ValueIdx
open Idealize.ShloMosaic.Tactic
open scoped BigOperators

/-! # The host operations between the regions -/

section Lists
variable (V : Valuation τ sig (Elt Ideal))

theorem ops0_v0 : StableHlo.after hostOps0 V (Proc.devRef .tc main_v0) = shapeCast S12288x3584 (V (Proc.devRef .tc main_arg0) : (⟨S3x4096x3584, .bf16⟩ : BufTy).Contents (Elt Ideal)) shapeCasts_S3x4096x3584_S12288x3584 := by
  after_results
  try rfl
theorem ops0_v1 : StableHlo.after hostOps0 V (Proc.devRef .tc main_v1) = shapeCast S12288x3584 (V (Proc.devRef .tc main_arg1) : (⟨S3x4096x3584, .bf16⟩ : BufTy).Contents (Elt Ideal)) shapeCasts_S3x4096x3584_S12288x3584 := by
  after_results
  try rfl
theorem ops0_v2 : StableHlo.after hostOps0 V (Proc.devRef .tc main_v2) = shapeCast S1x3584 (V (Proc.devRef .tc main_arg2) : (⟨S3584, .f32⟩ : BufTy).Contents (Elt Ideal)) shapeCasts_S3584_S1x3584 := by
  after_results
  try rfl
theorem ops0_v3 : StableHlo.after hostOps0 V (Proc.devRef .tc main_v3) = concatenate S64x3584 0 [⟨S32x3584, (V (Proc.devRef .tc main_arg6) : (⟨S32x3584, .bf16⟩ : BufTy).Contents (Elt Ideal))⟩, ⟨S32x3584, (V (Proc.devRef .tc main_arg7) : (⟨S32x3584, .bf16⟩ : BufTy).Contents (Elt Ideal))⟩] concatenates_S32x3584_S32x3584_S64x3584_d0 := by
  after_results
  try rfl
theorem ops0_c : StableHlo.after hostOps0 V (Proc.devRef .tc main_c) = constantI S_ 32 0#32 := by
  after_results
  try rfl
theorem ops0_1_v4 : StableHlo.after hostOps0_1 V (Proc.devRef .tc main_v4) = pad S128x3584 ![0, 0] ![64, 0] ![0, 0] (V (Proc.devRef .tc main_v3) : (⟨S64x3584, .bf16⟩ : BufTy).Contents (Elt Ideal)) (sitofp (F := Ideal) .bf16 (V (Proc.devRef .tc main_c) : (⟨S_, .i32⟩ : BufTy).Contents (Elt Ideal))) pads_S64x3584_S128x3584_0640_000 h_S_ := by
  after_results
  try rfl
theorem ops0_3_v6 : StableHlo.after hostOps0_3 V (Proc.devRef .tc main_v6) = pad S128x3584 ![64, 0] ![32, 0] ![0, 0] (V (Proc.devRef .tc main_v5) : (⟨S32x3584, .bf16⟩ : BufTy).Contents (Elt Ideal)) (sitofp (F := Ideal) .bf16 (V (Proc.devRef .tc main_c_0) : (⟨S_, .i32⟩ : BufTy).Contents (Elt Ideal))) pads_S32x3584_S128x3584_64320_000 h_S_ := by
  after_results
  try rfl
theorem ops1_1_v10 : StableHlo.after hostOps1_1 V (Proc.devRef .tc main_v10) = pad S128x18944 ![0, 0] ![96, 0] ![0, 0] (V (Proc.devRef .tc main_v9) : (⟨S32x18944, .bf16⟩ : BufTy).Contents (Elt Ideal)) (sitofp (F := Ideal) .bf16 (V (Proc.devRef .tc main_c_1) : (⟨S_, .i32⟩ : BufTy).Contents (Elt Ideal))) pads_S32x18944_S128x18944_0960_000 h_S_ := by
  after_results
  try rfl
theorem ops1_3_v12 : StableHlo.after hostOps1_3 V (Proc.devRef .tc main_v12) = pad S128x18944 ![32, 0] ![64, 0] ![0, 0] (V (Proc.devRef .tc main_v11) : (⟨S32x18944, .bf16⟩ : BufTy).Contents (Elt Ideal)) (sitofp (F := Ideal) .bf16 (V (Proc.devRef .tc main_c_2) : (⟨S_, .i32⟩ : BufTy).Contents (Elt Ideal))) pads_S32x18944_S128x18944_32640_000 h_S_ := by
  after_results
  try rfl
theorem ops1_5_v13 : StableHlo.after hostOps1_5 V (Proc.devRef .tc main_v13) = pad S128x18944 ![64, 0] ![32, 0] ![0, 0] (V (Proc.devRef .tc main_arg10) : (⟨S32x18944, .bf16⟩ : BufTy).Contents (Elt Ideal)) (sitofp (F := Ideal) .bf16 (V (Proc.devRef .tc main_c_3) : (⟨S_, .i32⟩ : BufTy).Contents (Elt Ideal))) pads_S32x18944_S128x18944_64320_000 h_S_ := by
  after_results
  try rfl
theorem ops2_1_v25 : StableHlo.after hostOps2_1 V (Proc.devRef .tc main_v25) = pad S12288x128 ![0, 0] ![0, 32] ![0, 0] (V (Proc.devRef .tc main_v24) : (⟨S12288x96, .bf16⟩ : BufTy).Contents (Elt Ideal)) (sitofp (F := Ideal) .bf16 (V (Proc.devRef .tc main_c_4) : (⟨S_, .i32⟩ : BufTy).Contents (Elt Ideal))) pads_S12288x96_S12288x128_000_0320 h_S_ := by
  after_results
  try rfl
theorem ops0_2_v5 : StableHlo.after hostOps0_2 V (Proc.devRef .tc main_v5) = transpose S32x3584 [1, 0] (V (Proc.devRef .tc main_arg11) : (⟨S3584x32, .bf16⟩ : BufTy).Contents (Elt Ideal)) transposes_S3584x32_S32x3584_1_0 := by
  after_results
  try rfl
theorem ops0_4_v7 : StableHlo.after hostOps0_4 V (Proc.devRef .tc main_v7) = transpose S3584x128 [1, 0] (V (Proc.devRef .tc main_v6) : (⟨S128x3584, .bf16⟩ : BufTy).Contents (Elt Ideal)) transposes_S128x3584_S3584x128_1_0 := by
  after_results
  try rfl
theorem ops1_v9 : StableHlo.after hostOps1 V (Proc.devRef .tc main_v9) = transpose S32x18944 [1, 0] (V (Proc.devRef .tc main_arg8) : (⟨S18944x32, .bf16⟩ : BufTy).Contents (Elt Ideal)) transposes_S18944x32_S32x18944_1_0 := by
  after_results
  try rfl
theorem ops1_2_v11 : StableHlo.after hostOps1_2 V (Proc.devRef .tc main_v11) = transpose S32x18944 [1, 0] (V (Proc.devRef .tc main_arg9) : (⟨S18944x32, .bf16⟩ : BufTy).Contents (Elt Ideal)) transposes_S18944x32_S32x18944_1_0 := by
  after_results
  try rfl
theorem ops5_v34 : StableHlo.after hostOps5 V (Proc.devRef .tc main_v34) = transpose S18944x32 [1, 0] (V (Proc.devRef .tc main_v18_3) : (⟨S32x18944, .f32⟩ : BufTy).Contents (Elt Ideal)) transposes_S32x18944_S18944x32_1_0 := by
  after_results
  try rfl
theorem ops5_v36 : StableHlo.after hostOps5 V (Proc.devRef .tc main_v36) = transpose S18944x32 [1, 0] (V (Proc.devRef .tc main_v18_4) : (⟨S32x18944, .f32⟩ : BufTy).Contents (Elt Ideal)) transposes_S32x18944_S18944x32_1_0 := by
  after_results
  try rfl
theorem ops5_v37 : StableHlo.after hostOps5 V (Proc.devRef .tc main_v37) = transpose S3584x32 [1, 0] (V (Proc.devRef .tc main_v28_1) : (⟨S32x3584, .f32⟩ : BufTy).Contents (Elt Ideal)) transposes_S32x3584_S3584x32_1_0 := by
  after_results
  try rfl
theorem ops0_2_c_0 : StableHlo.after hostOps0_2 V (Proc.devRef .tc main_c_0) = constantI S_ 32 0#32 := by
  after_results
  try rfl
theorem ops1_c_1 : StableHlo.after hostOps1 V (Proc.devRef .tc main_c_1) = constantI S_ 32 0#32 := by
  after_results
  try rfl
theorem ops1_2_c_2 : StableHlo.after hostOps1_2 V (Proc.devRef .tc main_c_2) = constantI S_ 32 0#32 := by
  after_results
  try rfl
theorem ops1_4_c_3 : StableHlo.after hostOps1_4 V (Proc.devRef .tc main_c_3) = constantI S_ 32 0#32 := by
  after_results
  try rfl
theorem ops2_c_4 : StableHlo.after hostOps2 V (Proc.devRef .tc main_c_4) = constantI S_ 32 0#32 := by
  after_results
  try rfl
theorem ops1_6_v17 : StableHlo.after hostOps1_6 V (Proc.devRef .tc main_v17) = concatenate S3x128x18944 0 [⟨S1x128x18944, broadcastInDim S1x128x18944 ![1, 2] bcast_S128x18944_S1x128x18944_1_2 (V (Proc.devRef .tc main_v10) : (⟨S128x18944, .bf16⟩ : BufTy).Contents (Elt Ideal))⟩, ⟨S1x128x18944, broadcastInDim S1x128x18944 ![1, 2] bcast_S128x18944_S1x128x18944_1_2 (V (Proc.devRef .tc main_v12) : (⟨S128x18944, .bf16⟩ : BufTy).Contents (Elt Ideal))⟩, ⟨S1x128x18944, broadcastInDim S1x128x18944 ![1, 2] bcast_S128x18944_S1x128x18944_1_2 (V (Proc.devRef .tc main_v13) : (⟨S128x18944, .bf16⟩ : BufTy).Contents (Elt Ideal))⟩] concatenates_S1x128x18944_S1x128x18944_S1x128x18944_S3x128x18944_d0 := by
  after_results
  try rfl
theorem ops2_v23 : StableHlo.after hostOps2 V (Proc.devRef .tc main_v23) = (shapeCast S96x12288 (transpose S96x24x512 [1, 0, 2] (truncf (F := Ideal) .bf16 (mulf (F := Ideal) (V (Proc.devRef .tc main_v18_6) : (⟨S24x96x512, .f32⟩ : BufTy).Contents (Elt Ideal)) (broadcastInDim S24x96x512 ![] bcast_S_S24x96x512 (constant (F := Ideal) S_ .f32 0x40000000#32))) bitsLt_bf16_f32) transposes_S24x96x512_S96x24x512_1_0_2) shapeCasts_S96x24x512_S96x12288) := by
  after_results
  try rfl
theorem ops2_v24 : StableHlo.after hostOps2 V (Proc.devRef .tc main_v24) = transpose S12288x96 [1, 0] (shapeCast S96x12288 (transpose S96x24x512 [1, 0, 2] (truncf (F := Ideal) .bf16 (mulf (F := Ideal) (V (Proc.devRef .tc main_v18_6) : (⟨S24x96x512, .f32⟩ : BufTy).Contents (Elt Ideal)) (broadcastInDim S24x96x512 ![] bcast_S_S24x96x512 (constant (F := Ideal) S_ .f32 0x40000000#32))) bitsLt_bf16_f32) transposes_S24x96x512_S96x24x512_1_0_2) shapeCasts_S96x24x512_S96x12288) transposes_S96x12288_S12288x96_1_0 := by
  after_results
  try rfl
theorem ops5_v29 : StableHlo.after hostOps5 V (Proc.devRef .tc main_v29) = shapeCast S3x4096x3584 (V (Proc.devRef .tc main_v26) : (⟨S12288x3584, .bf16⟩ : BufTy).Contents (Elt Ideal)) shapeCasts_S12288x3584_S3x4096x3584 := by
  after_results
  try rfl
theorem ops5_v30 : StableHlo.after hostOps5 V (Proc.devRef .tc main_v30) = shapeCast S3x4096x3584 (V (Proc.devRef .tc main_v27_1) : (⟨S12288x3584, .bf16⟩ : BufTy).Contents (Elt Ideal)) shapeCasts_S12288x3584_S3x4096x3584 := by
  after_results
  try rfl
theorem ops5_v31 : StableHlo.after hostOps5 V (Proc.devRef .tc main_v31) = shapeCast S3x4096 (V (Proc.devRef .tc main_v27_0) : (⟨S12288x1, .f32⟩ : BufTy).Contents (Elt Ideal)) shapeCasts_S12288x1_S3x4096 := by
  after_results
  try rfl
theorem ops5_v32 : StableHlo.after hostOps5 V (Proc.devRef .tc main_v32) = shapeCast S3x4096x18944 (V (Proc.devRef .tc main_v18_0) : (⟨S12288x18944, .bf16⟩ : BufTy).Contents (Elt Ideal)) shapeCasts_S12288x18944_S3x4096x18944 := by
  after_results
  try rfl
theorem ops5_v33 : StableHlo.after hostOps5 V (Proc.devRef .tc main_v33) = extractStridedSlice S32x3584 ![0, 0] (V (Proc.devRef .tc main_v28_0) : (⟨S64x3584, .f32⟩ : BufTy).Contents (Elt Ideal)) slices_S64x3584_S32x3584_0_0 := by
  after_results
  try rfl
theorem ops5_v35 : StableHlo.after hostOps5 V (Proc.devRef .tc main_v35) = extractStridedSlice S32x3584 ![32, 0] (V (Proc.devRef .tc main_v28_0) : (⟨S64x3584, .f32⟩ : BufTy).Contents (Elt Ideal)) slices_S64x3584_S32x3584_32_0 := by
  after_results
  try rfl
end Lists

end Cert.KV
-- ==== Proof.KV.V0.lean ====
module

public import proofs.«01_k».proof.Proof.KI.Region0
public import proofs.«01_k».proof.Proof.KV.Spec
public import Idealize.ShloMosaic.Lib.ValueIdx
public import Idealize.ShloMosaic.Lib.Pipeline.Value

@[expose] public section

set_option maxRecDepth 16384

noncomputable section

namespace Cert.KV

open Cert.KernelIdeal Cert.KernelIdeal.Gen Cert.KernelIdeal.Run
open Idealize.ShloMosaic Idealize.ShloMosaic.TcCoe Idealize.ShloMosaic.ValueIdx
open scoped BigOperators

/-! # The prologue's three output arrays -/

theorem hz2 : (![0, 0] : Fin 2 → Nat) = fun _ => 0 := funext fun a => by fin_cases a <;> rfl

theorem k0_pay1_apply (x : Vec Ideal S512x3584 .bf16) (w : Vec Ideal S1x3584 .f32) (r : Fin 512) (k : Fin 3584) :
    k0_pay1 x w (ix2 r k) = x (ix2 r k) * rsv (fun k => x (ix2 r k)) * w (ix2 0 k) := by
  unfold k0_pay1
  simp only [shapeCast_self]
  show x (ix2 r k) * broadcastTo S512x3584 _ broadcasts_S512x1_S512x3584 (ix2 r k) * broadcastTo S512x3584 w broadcasts_S1x3584_S512x3584 (ix2 r k) = _
  rewrite [broadcastTo_apply _ broadcasts_S512x1_S512x3584 (ix2 r k) (ix2 r 0) (fun a => by fin_cases a <;> rfl),
    broadcastTo_apply _ broadcasts_S1x3584_S512x3584 (ix2 r k) (ix2 0 k) (fun a => by fin_cases a <;> rfl)]
  refine congrArg (fun e => x (ix2 r k) * e * w (ix2 0 k)) ?_
  show Ideal.div one (Ideal.sqrt (Ideal.div (shapeCast S512x1 _ shapeCasts_S512_S512x1 (ix2 r 0)) width + eps)) = _
  rewrite [shapeCast_apply _ shapeCasts_S512_S512x1 (ix2 r 0) (ix1 r) (by rw [Shape.rowMajor_val_one, Shape.rowMajor_val_two]; show r.val = r.val * 1 + 0; omega)]
  unfold rsv
  refine congrArg (fun e => Ideal.div one (Ideal.sqrt (Ideal.div e width + eps))) ?_
  refine (Ideal.multiReduction_add_single _ _ reduces_S512x3584_S512 _ _ _).trans ?_
  refine Finset.sum_congr rfl fun q _ => ?_
  have e : reduces_S512x3584_S512.lift (ix1 r) q = ix2 r q := Shape.idx_ext₂ rfl rfl
  rewrite [e]
  exact rfl

theorem k0_pay2_apply (x : Vec Ideal S512x3584 .bf16) (w : Vec Ideal S1x3584 .f32) (ap : Vec Ideal S128x3584 .bf16)
    (dy : Vec Ideal S512x3584 .bf16) (bp : Vec Ideal S3584x128 .bf16) (r : Fin 512) (j : Fin 128) :
    k0_pay2 x w ap dy bp (ix2 r j) = (∑ k, k0_pay1 x w (ix2 r k) * ap (ix2 j k) + ∑ k, dy (ix2 r k) * bp (ix2 k j)) * two := by
  unfold k0_pay2
  simp only [shapeCast_self]
  generalize k0_pay1 x w = h
  show (FloatOps.matmul (DotDims.transposedRhs 512 3584 128) none h ap (constant S512x128 .f32 0x00000000#32) (ix2 r j)
    + FloatOps.matmul (DotDims.plain 512 3584 128) none dy bp (constant S512x128 .f32 0x00000000#32) (ix2 r j)) * two = _
  rewrite [Ideal.matmul_transposedRhs_apply, Ideal.matmul_plain_apply]
  show ((Ideal.ofBits .f32 0x00000000#32 + _) + (Ideal.ofBits .f32 0x00000000#32 + _)) * two = _
  rewrite [Ideal.ofBits_zero_f32, zero_add, zero_add]
  exact rfl

theorem k0_pay4_apply (x : Vec Ideal S512x3584 .bf16) (w : Vec Ideal S1x3584 .f32) (ap : Vec Ideal S128x3584 .bf16)
    (dy : Vec Ideal S512x3584 .bf16) (bp : Vec Ideal S3584x128 .bf16) (r : Fin 512) (j : Fin 128) :
    k0_pay4 x w ap dy bp (ix2 j r) = k0_pay2 x w ap dy bp (ix2 r j) := by
  unfold k0_pay4
  generalize k0_pay2 x w ap dy bp = z
  exact transpose_apply [1, 0] z transposes_S512x128_p1_0_S128x512 (ix2 j r) (ix2 r j) (fun b => by fin_cases b <;> rfl)

variable (V : (c : Dev nD) → (b : Ref sig .tc) → Buf (Elt Ideal) ((c : Thread nD τ).loc b))

/-- Which block of each array a grid point reads or writes. -/
theorem idx0 : ∀ t : Fin cfg0.N,
    (win0_0.index t (0 : Fin 2) = t.val ∧ win0_0.index t (1 : Fin 2) = 0) ∧ (win0_1.index t (0 : Fin 2) = t.val ∧ win0_1.index t (1 : Fin 2) = 0)
    ∧ (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) ∧ (win0_5.index t (0 : Fin 2) = t.val ∧ win0_5.index t (1 : Fin 2) = 0)
    ∧ (win0_6.index t (0 : Fin 2) = t.val ∧ win0_6.index t (1 : Fin 2) = 0) ∧ (win0_7.index t (0 : Fin 2) = 0 ∧ win0_7.index t (1 : Fin 2) = t.val)
    ∧ win0_5.flush t = true ∧ win0_6.flush t = true ∧ win0_7.flush t = true :=
  (by decide +kernel : ∀ t : Fin grid0.N, _)

theorem lt0 (t : Fin cfg0.N) : t.val < 24 := lt_of_lt_of_eq t.isLt (show cfg0.N = 24 from N_0)

/-- Row `r` of token tile `t`. -/
def tok0 (t : Fin cfg0.N) (r : Fin 512) : Fin 12288 := ⟨512 * t.val + r.val, by have := lt0 t; have := r.isLt; omega⟩

theorem blk0_0 (c : Dev nD) (t : Fin cfg0.N) (r : Fin 512) (k : Fin 3584) :
    iblk0 V c 0 t (ix2 r k) = V c main_v0 (ix2 (tok0 t r) k) := by
  refine congrArg (V c main_v0) (Shape.idx_ext₂ ?_ ?_)
  · show win0_0.index t (0 : Fin 2) * 512 + 1 * r.val = 512 * t.val + r.val
    have := (idx0 t).1.1; omega
  · show win0_0.index t (1 : Fin 2) * 3584 + 1 * k.val = k.val
    have := (idx0 t).1.2; omega

theorem blk0_1 (c : Dev nD) (t : Fin cfg0.N) (r : Fin 512) (k : Fin 3584) :
    iblk0 V c 1 t (ix2 r k) = V c main_v1 (ix2 (tok0 t r) k) := by
  refine congrArg (V c main_v1) (Shape.idx_ext₂ ?_ ?_)
  · show win0_1.index t (0 : Fin 2) * 512 + 1 * r.val = 512 * t.val + r.val
    have := (idx0 t).2.1.1; omega
  · show win0_1.index t (1 : Fin 2) * 3584 + 1 * k.val = k.val
    have := (idx0 t).2.1.2; omega

theorem blk0_2 (c : Dev nD) (t : Fin cfg0.N) (r : Fin 1) (k : Fin 3584) :
    iblk0 V c 2 t (ix2 r k) = V c main_v2 (ix2 r k) := by
  refine congrArg (V c main_v2) (Shape.idx_ext₂ ?_ ?_)
  · show win0_2.index t (0 : Fin 2) * 1 + 1 * r.val = r.val
    have := (idx0 t).2.2.1.1; omega
  · show win0_2.index t (1 : Fin 2) * 3584 + 1 * k.val = k.val
    have := (idx0 t).2.2.1.2; omega

theorem blk0_3 (c : Dev nD) (t : Fin cfg0.N) (r : Fin 128) (k : Fin 3584) :
    iblk0 V c 3 t (ix2 r k) = V c main_v4 (ix2 r k) := by
  refine congrArg (V c main_v4) (Shape.idx_ext₂ ?_ ?_)
  · show win0_3.index t (0 : Fin 2) * 128 + 1 * r.val = r.val
    have := (idx0 t).2.2.2.1.1; omega
  · show win0_3.index t (1 : Fin 2) * 3584 + 1 * k.val = k.val
    have := (idx0 t).2.2.2.1.2; omega

theorem blk0_4 (c : Dev nD) (t : Fin cfg0.N) (r : Fin 3584) (k : Fin 128) :
    iblk0 V c 4 t (ix2 r k) = V c main_v7 (ix2 r k) := by
  refine congrArg (V c main_v7) (Shape.idx_ext₂ ?_ ?_)
  · show win0_4.index t (0 : Fin 2) * 3584 + 1 * r.val = r.val
    have := (idx0 t).2.2.2.2.1.1; omega
  · show win0_4.index t (1 : Fin 2) * 128 + 1 * k.val = k.val
    have := (idx0 t).2.2.2.2.1.2; omega

/-- The features as the prologue's arguments give them. -/
abbrev H0 (c : Dev nD) : Fin 12288 → Fin 3584 → EReal := hS (cur (V c main_v0)) (cur (V c main_v2) 0)
/-- The low-rank rows as the prologue's arguments give them. -/
abbrev Z0 (c : Dev nD) : Fin 12288 → Fin 128 → EReal := zS (H0 V c) (cur (V c main_v1)) (cur (V c main_v4)) (cur (V c main_v7))

theorem pay1_blk (c : Dev nD) (t : Fin cfg0.N) (r : Fin 512) (k : Fin 3584) :
    k0_pay1 (iblk0 V c 0 t) (iblk0 V c 2 t) (ix2 r k) = H0 V c (tok0 t r) k := by
  rewrite [k0_pay1_apply]
  simp only [blk0_0, blk0_2]
  exact rfl

theorem pay2_blk (c : Dev nD) (t : Fin cfg0.N) (r : Fin 512) (j : Fin 128) :
    k0_pay2 (iblk0 V c 0 t) (iblk0 V c 2 t) (iblk0 V c 3 t) (iblk0 V c 1 t) (iblk0 V c 4 t) (ix2 r j) = Z0 V c (tok0 t r) j := by
  rewrite [k0_pay2_apply]
  simp only [pay1_blk, blk0_1, blk0_3, blk0_4]
  exact rfl

/-- Tile and row of a token. -/
theorem tok0_split (i : Fin 12288) : ∃ (t : Fin cfg0.N) (r : Fin 512), tok0 t r = i :=
  ⟨⟨i.val / 512, lt_of_lt_of_eq (by have := i.isLt; omega) N_0.symm⟩, ⟨i.val % 512, Nat.mod_lt _ (by decide)⟩,
    Fin.ext (by show 512 * (i.val / 512) + i.val % 512 = i.val; omega)⟩

/-- The array of normalised features. -/
theorem arr0_5 (c : Dev nD) : (dat0 V c).arrAt 5 cfg0.N = fun i : S12288x3584.Idx => H0 V c (i 0) (i 1) := by
  refine (dat0 V c).arrAt_eq_of_cover 5 _ (fun t hf => ?_) (fun i => ?_)
  · show (cfg0.win 5).cut (grid0.coords t) ((dat0 V c).after 5 t) = _
    rewrite [after0_5]
    unfold out0_5
    rewrite [View.canon_unit_zero hz2]
    simp only [View.ld_unit_zero (S := S512x3584) hz2, View.ld_unit_zero (S := S1x3584) hz2]
    funext y
    have hy : (cfg0.win 5).xinj (grid0.coords t) y = (ix2 (y 0 : Fin 512) (y 1 : Fin 3584) : S512x3584.Idx) := Shape.idx_ext₂ rfl rfl
    show k0_pay1 (iblk0 V c 0 t) (iblk0 V c 2 t) ((cfg0.win 5).xinj (grid0.coords t) y) = H0 V c (((cfg0.win 5).blk t).view.emb y 0) (((cfg0.win 5).blk t).view.emb y 1)
    refine (congrArg (k0_pay1 (iblk0 V c 0 t) (iblk0 V c 2 t)) hy).trans ((pay1_blk V c t (y 0) (y 1)).trans ?_)
    refine congrArg₂ (H0 V c) (Fin.ext ?_) (Fin.ext ?_)
    · show 512 * t.val + (y 0).val = win0_5.index t (0 : Fin 2) * 512 + 1 * (y 0).val
      have := (idx0 t).2.2.2.2.2.1.1; omega
    · show (y 1).val = win0_5.index t (1 : Fin 2) * 3584 + 1 * (y 1).val
      have := (idx0 t).2.2.2.2.2.1.2; omega
  · obtain ⟨t, r, h⟩ := tok0_split (i 0)
    refine ⟨t, (idx0 t).2.2.2.2.2.2.2.2.1, ?_⟩
    show i ∈ ((View.whole main_v8_0).slice (win0_5.rect t)).set
    rewrite [View.set_slice_whole, Rect.mem_set_unit]
    have h0 : 512 * t.val + r.val = (i 0).val := congrArg Fin.val h
    have hr := r.isLt
    have h1 : (i 1).val < 3584 := (i 1).isLt
    have e := (idx0 t).2.2.2.2.2.1
    intro a
    match a with
    | ⟨0, _⟩ => show win0_5.index t (0 : Fin 2) * 512 ≤ (i 0).val ∧ (i 0).val < win0_5.index t (0 : Fin 2) * 512 + 512; omega
    | ⟨1, _⟩ => show win0_5.index t (1 : Fin 2) * 3584 ≤ (i 1).val ∧ (i 1).val < win0_5.index t (1 : Fin 2) * 3584 + 3584; omega

/-- The array of low-rank rows. -/
theorem arr0_6 (c : Dev nD) : (dat0 V c).arrAt 6 cfg0.N = fun i : S12288x128.Idx => Z0 V c (i 0) (i 1) := by
  refine (dat0 V c).arrAt_eq_of_cover 6 _ (fun t hf => ?_) (fun i => ?_)
  · show (cfg0.win 6).cut (grid0.coords t) ((dat0 V c).after 6 t) = _
    rewrite [after0_6]
    unfold out0_6
    rewrite [View.canon_unit_zero hz2]
    simp only [View.ld_unit_zero (S := S512x3584) hz2, View.ld_unit_zero (S := S1x3584) hz2, View.ld_unit_zero (S := S128x3584) hz2, View.ld_unit_zero (S := S3584x128) hz2]
    funext y
    have hy : (cfg0.win 6).xinj (grid0.coords t) y = (ix2 (y 0 : Fin 512) (y 1 : Fin 128) : S512x128.Idx) := Shape.idx_ext₂ rfl rfl
    show k0_pay2 (iblk0 V c 0 t) (iblk0 V c 2 t) (iblk0 V c 3 t) (iblk0 V c 1 t) (iblk0 V c 4 t) ((cfg0.win 6).xinj (grid0.coords t) y) = Z0 V c (((cfg0.win 6).blk t).view.emb y 0) (((cfg0.win 6).blk t).view.emb y 1)
    refine (congrArg (k0_pay2 (iblk0 V c 0 t) (iblk0 V c 2 t) (iblk0 V c 3 t) (iblk0 V c 1 t) (iblk0 V c 4 t)) hy).trans ((pay2_blk V c t (y 0) (y 1)).trans ?_)
    refine congrArg₂ (Z0 V c) (Fin.ext ?_) (Fin.ext ?_)
    · show 512 * t.val + (y 0).val = win0_6.index t (0 : Fin 2) * 512 + 1 * (y 0).val
      have := (idx0 t).2.2.2.2.2.2.1.1; omega
    · show (y 1).val = win0_6.index t (1 : Fin 2) * 128 + 1 * (y 1).val
      have := (idx0 t).2.2.2.2.2.2.1.2; omega
  · obtain ⟨t, r, h⟩ := tok0_split (i 0)
    refine ⟨t, (idx0 t).2.2.2.2.2.2.2.2.2.1, ?_⟩
    show i ∈ ((View.whole main_v8_1).slice (win0_6.rect t)).set
    rewrite [View.set_slice_whole, Rect.mem_set_unit]
    have h0 : 512 * t.val + r.val = (i 0).val := congrArg Fin.val h
    have hr := r.isLt
    have h1 : (i 1).val < 128 := (i 1).isLt
    have e := (idx0 t).2.2.2.2.2.2.1
    intro a
    match a with
    | ⟨0, _⟩ => show win0_6.index t (0 : Fin 2) * 512 ≤ (i 0).val ∧ (i 0).val < win0_6.index t (0 : Fin 2) * 512 + 512; omega
    | ⟨1, _⟩ => show win0_6.index t (1 : Fin 2) * 128 ≤ (i 1).val ∧ (i 1).val < win0_6.index t (1 : Fin 2) * 128 + 128; omega

/-- The low-rank rows, transposed. -/
theorem arr0_7 (c : Dev nD) : (dat0 V c).arrAt 7 cfg0.N = fun i : S128x12288.Idx => Z0 V c (i 1) (i 0) := by
  refine (dat0 V c).arrAt_eq_of_cover 7 _ (fun t hf => ?_) (fun i => ?_)
  · show (cfg0.win 7).cut (grid0.coords t) ((dat0 V c).after 7 t) = _
    rewrite [after0_7]
    unfold out0_7
    rewrite [View.canon_unit_zero hz2]
    simp only [View.ld_unit_zero (S := S512x3584) hz2, View.ld_unit_zero (S := S1x3584) hz2, View.ld_unit_zero (S := S128x3584) hz2, View.ld_unit_zero (S := S3584x128) hz2]
    funext y
    have hy : (cfg0.win 7).xinj (grid0.coords t) y = (ix2 (y 0 : Fin 128) (y 1 : Fin 512) : S128x512.Idx) := Shape.idx_ext₂ rfl rfl
    show k0_pay4 (iblk0 V c 0 t) (iblk0 V c 2 t) (iblk0 V c 3 t) (iblk0 V c 1 t) (iblk0 V c 4 t) ((cfg0.win 7).xinj (grid0.coords t) y) = Z0 V c (((cfg0.win 7).blk t).view.emb y 1) (((cfg0.win 7).blk t).view.emb y 0)
    refine (congrArg (k0_pay4 (iblk0 V c 0 t) (iblk0 V c 2 t) (iblk0 V c 3 t) (iblk0 V c 1 t) (iblk0 V c 4 t)) hy).trans
      ((k0_pay4_apply _ _ _ _ _ (y 1) (y 0)).trans ((pay2_blk V c t (y 1) (y 0)).trans ?_))
    refine congrArg₂ (Z0 V c) (Fin.ext ?_) (Fin.ext ?_)
    · show 512 * t.val + (y 1).val = win0_7.index t (1 : Fin 2) * 512 + 1 * (y 1).val
      have := (idx0 t).2.2.2.2.2.2.2.1.2; omega
    · show (y 0).val = win0_7.index t (0 : Fin 2) * 128 + 1 * (y 0).val
      have := (idx0 t).2.2.2.2.2.2.2.1.1; omega
  · obtain ⟨t, r, h⟩ := tok0_split (i 1)
    refine ⟨t, (idx0 t).2.2.2.2.2.2.2.2.2.2, ?_⟩
    show i ∈ ((View.whole main_v8_2).slice (win0_7.rect t)).set
    rewrite [View.set_slice_whole, Rect.mem_set_unit]
    have h0 : 512 * t.val + r.val = (i 1).val := congrArg Fin.val h
    have hr := r.isLt
    have h1 : (i 0).val < 128 := (i 0).isLt
    have e := (idx0 t).2.2.2.2.2.2.2.1
    intro a
    match a with
    | ⟨0, _⟩ => show win0_7.index t (0 : Fin 2) * 128 ≤ (i 0).val ∧ (i 0).val < win0_7.index t (0 : Fin 2) * 128 + 128; omega
    | ⟨1, _⟩ => show win0_7.index t (1 : Fin 2) * 512 ≤ (i 1).val ∧ (i 1).val < win0_7.index t (1 : Fin 2) * 512 + 512; omega

end Cert.KV
-- ==== Proof.KV.P1.lean ====
module

public import proofs.«01_k».proof.Proof.KI.Region1
public import Idealize.ShloMosaic.Lib.ValueLayout
public import proofs.«01_k».proof.Proof.KV.Spec
public import Idealize.ShloMosaic.Lib.ValueIdx
public import Idealize.ShloMosaic.Lib.Pipeline.Value

@[expose] public section

set_option maxRecDepth 16384

noncomputable section

namespace Cert.KV

open Cert.KernelIdeal Cert.KernelIdeal.Gen Cert.KernelIdeal.Run
open Idealize.ShloMosaic Idealize.ShloMosaic.TcCoe Idealize.ShloMosaic.ValueIdx
open Idealize.ShloMosaic.Tactic
open scoped BigOperators

/-! # The activations, their gradients, and the low-rank sums taken with them -/

/-- The logistic function as the kernel computes it. -/
def sgF (x : EReal) : EReal := Ideal.div one (one + Ideal.exp (Ideal.ofBits .f32 0x00000000#32 - x))
/-- The activation, and the gradients of the up and the gate products, at one position. -/
def aF (g u : EReal) : EReal := (g * sgF g) * u
def duF (g d : EReal) : EReal := d * (g * sgF g)
def dgF (g u d : EReal) : EReal := (d * u) * (sgF g + (g * sgF g) * (one - sgF g))

/-- A full product plus a low-rank product. -/
def gS {m n k : ℕ} (H : Fin m → Fin k → EReal) (Z : Fin m → Fin 128 → EReal) (W : Fin k → Fin n → EReal) (L : Fin 128 → Fin n → EReal) (r : Fin m) (f : Fin n) : EReal :=
  ∑ k, H r k * W k f + ∑ l, Z r l * L l f
/-- The same with the weight transposed. -/
def dS {m n k : ℕ} (H : Fin m → Fin k → EReal) (Z : Fin m → Fin 128 → EReal) (W : Fin n → Fin k → EReal) (L : Fin 128 → Fin n → EReal) (r : Fin m) (f : Fin n) : EReal :=
  ∑ k, H r k * W f k + ∑ l, Z r l * L l f

theorem hz1 : (![0, 0] : Fin 2 → Nat) = fun _ => 0 := funext fun a => by fin_cases a <;> rfl

/-- One layer of a three-axis array as a function of its coordinates. -/
def cur3 {a b n : ℕ} (X : (⟨3, ![a, b, n]⟩ : Shape).Idx → EReal) (s : Fin a) (i : Fin b) (j : Fin n) : EReal := X (ix3 s i j)

theorem k1_dotW (x : Vec Ideal S512x3584 .bf16) (w : Vec Ideal S3584x512 .bf16) (r q : Fin 512) :
    matmul (F := Ideal) (φ₁ := .bf16) (φ₂ := .bf16) dot_S512x3584_S3584x512_S512x512_1_0_0_1_n_n none x w (constant S512x512 .f32 0x00000000#32) (ix2 r q)
      = ∑ k : Fin 3584, x (ix2 r k) * w (ix2 k q) := by
  show FloatOps.matmul (F := Ideal) (φ₁ := .bf16) (φ₂ := .bf16) (DotDims.plain 512 3584 512) none x w (constant S512x512 .f32 0x00000000#32) (ix2 r q) = _
  rewrite [Ideal.matmul_plain_apply]
  show Ideal.ofBits .f32 0x00000000#32 + _ = _
  rewrite [Ideal.ofBits_zero_f32, zero_add]
  exact rfl
theorem k1_dotL (x : Vec Ideal S512x128 .bf16) (w : Vec Ideal S128x512 .bf16) (r q : Fin 512) :
    matmul (F := Ideal) (φ₁ := .bf16) (φ₂ := .bf16) dot_S512x128_S128x512_S512x512_1_0_0_1_n_n none x w (constant S512x512 .f32 0x00000000#32) (ix2 r q)
      = ∑ k : Fin 128, x (ix2 r k) * w (ix2 k q) := by
  show FloatOps.matmul (F := Ideal) (φ₁ := .bf16) (φ₂ := .bf16) (DotDims.plain 512 128 512) none x w (constant S512x512 .f32 0x00000000#32) (ix2 r q) = _
  rewrite [Ideal.matmul_plain_apply]
  show Ideal.ofBits .f32 0x00000000#32 + _ = _
  rewrite [Ideal.ofBits_zero_f32, zero_add]
  exact rfl
theorem k1_dotT (x : Vec Ideal S512x3584 .bf16) (w : Vec Ideal S512x3584 .bf16) (r q : Fin 512) :
    matmul (F := Ideal) (φ₁ := .bf16) (φ₂ := .bf16) dot_S512x3584_S512x3584_S512x512_1_1_0_0_n_n none x w (constant S512x512 .f32 0x00000000#32) (ix2 r q)
      = ∑ k : Fin 3584, x (ix2 r k) * w (ix2 q k) := by
  show FloatOps.matmul (F := Ideal) (φ₁ := .bf16) (φ₂ := .bf16) (DotDims.transposedRhs 512 3584 512) none x w (constant S512x512 .f32 0x00000000#32) (ix2 r q) = _
  rewrite [Ideal.matmul_transposedRhs_apply]
  show Ideal.ofBits .f32 0x00000000#32 + _ = _
  rewrite [Ideal.ofBits_zero_f32, zero_add]
  exact rfl
theorem k1_dotZ (x : Vec Ideal S32x512 .bf16) (w : Vec Ideal S512x512 .bf16) (r : Fin 32) (q : Fin 512) :
    matmul (F := Ideal) (φ₁ := .bf16) (φ₂ := .bf16) dot_S32x512_S512x512_S32x512_1_0_0_1_n_n none x w (constant S32x512 .f32 0x00000000#32) (ix2 r q)
      = ∑ k : Fin 512, x (ix2 r k) * w (ix2 k q) := by
  show FloatOps.matmul (F := Ideal) (φ₁ := .bf16) (φ₂ := .bf16) (DotDims.plain 32 512 512) none x w (constant S32x512 .f32 0x00000000#32) (ix2 r q) = _
  rewrite [Ideal.matmul_plain_apply]
  show Ideal.ofBits .f32 0x00000000#32 + _ = _
  rewrite [Ideal.ofBits_zero_f32, zero_add]
  exact rfl
theorem k1_dotZT (x : Vec Ideal S32x512 .bf16) (w : Vec Ideal S512x512 .bf16) (r : Fin 32) (q : Fin 512) :
    matmul (F := Ideal) (φ₁ := .bf16) (φ₂ := .bf16) dot_S32x512_S512x512_S32x512_1_1_0_0_n_n none x w (constant S32x512 .f32 0x00000000#32) (ix2 r q)
      = ∑ k : Fin 512, x (ix2 r k) * w (ix2 q k) := by
  show FloatOps.matmul (F := Ideal) (φ₁ := .bf16) (φ₂ := .bf16) (DotDims.transposedRhs 32 512 512) none x w (constant S32x512 .f32 0x00000000#32) (ix2 r q) = _
  rewrite [Ideal.matmul_transposedRhs_apply]
  show Ideal.ofBits .f32 0x00000000#32 + _ = _
  rewrite [Ideal.ofBits_zero_f32, zero_add]
  exact rfl

theorem ld1_0 (x : Vec Ideal S3x128x512 .bf16) (l : Fin 128) (q : Fin 512) :
    shapeCast S128x512 (View.ld x r1_3 : Vec Ideal S1x128x512 .bf16) shapeCasts_S1x128x512_S128x512 (ix2 l q) = x (ix3 0 l q) :=
  (shapeCast_1ab_ab_apply (View.ld x r1_3 : Vec Ideal S1x128x512 .bf16) _ l q).trans (congrArg x (funext fun a => Fin.ext (by
    match a with
    | ⟨0, _⟩ => rfl
    | ⟨1, _⟩ => show 0 + 1 * l.val = l.val; omega
    | ⟨2, _⟩ => show 0 + 1 * q.val = q.val; omega)))
theorem ld1_1 (x : Vec Ideal S3x128x512 .bf16) (l : Fin 128) (q : Fin 512) :
    shapeCast S128x512 (View.ld x r1_4 : Vec Ideal S1x128x512 .bf16) shapeCasts_S1x128x512_S128x512 (ix2 l q) = x (ix3 1 l q) :=
  (shapeCast_1ab_ab_apply (View.ld x r1_4 : Vec Ideal S1x128x512 .bf16) _ l q).trans (congrArg x (funext fun a => Fin.ext (by
    match a with
    | ⟨0, _⟩ => rfl
    | ⟨1, _⟩ => show 0 + 1 * l.val = l.val; omega
    | ⟨2, _⟩ => show 0 + 1 * q.val = q.val; omega)))
theorem ld1_2 (x : Vec Ideal S3x128x512 .bf16) (l : Fin 128) (q : Fin 512) :
    shapeCast S128x512 (View.ld x r1_5 : Vec Ideal S1x128x512 .bf16) shapeCasts_S1x128x512_S128x512 (ix2 l q) = x (ix3 2 l q) :=
  (shapeCast_1ab_ab_apply (View.ld x r1_5 : Vec Ideal S1x128x512 .bf16) _ l q).trans (congrArg x (funext fun a => Fin.ext (by
    match a with
    | ⟨0, _⟩ => rfl
    | ⟨1, _⟩ => show 0 + 1 * l.val = l.val; omega
    | ⟨2, _⟩ => show 0 + 1 * q.val = q.val; omega)))

/-- The gate product, the up product and the upstream gradient of the activation, at one position of a block. -/
theorem k1_g (i : grid1.Coords) (x0 x1 : Vec Ideal S512x3584 .bf16) (x2 : Vec Ideal S512x128 .bf16) (x3 : Vec Ideal S128x512 .bf16) (x4 x5 : Vec Ideal S3584x512 .bf16) (x6 : Vec Ideal S512x3584 .bf16) (x7 : Vec Ideal S3x128x512 .bf16) (r q : Fin 512) :
    k1_pay22 i x0 x1 x2 x3 x4 x5 x6 x7 (ix2 r q) = gS (cur x0) (cur x2) (cur x4) (cur3 x7 0) r q := by
  unfold k1_pay22 k1_pay5 k1_pay3 k1_pay4
  simp only [shapeCast_self, View.ld_unit_zero (S := S512x3584) hz1, View.ld_unit_zero (S := S512x128) hz1, View.ld_unit_zero (S := S3584x512) hz1]
  refine congrArg₂ (fun a b : EReal => a + b) (k1_dotW x0 x4 r q) ((k1_dotL _ _ r q).trans ?_)
  exact Finset.sum_congr rfl fun l _ => congrArg (fun e : EReal => cur x2 r l * e) (ld1_0 x7 l q)
theorem k1_u (i : grid1.Coords) (x0 x1 : Vec Ideal S512x3584 .bf16) (x2 : Vec Ideal S512x128 .bf16) (x3 : Vec Ideal S128x512 .bf16) (x4 x5 : Vec Ideal S3584x512 .bf16) (x6 : Vec Ideal S512x3584 .bf16) (x7 : Vec Ideal S3x128x512 .bf16) (r q : Fin 512) :
    k1_pay23 i x0 x1 x2 x3 x4 x5 x6 x7 (ix2 r q) = gS (cur x0) (cur x2) (cur x5) (cur3 x7 1) r q := by
  unfold k1_pay23 k1_pay6 k1_pay3 k1_pay4
  simp only [shapeCast_self, View.ld_unit_zero (S := S512x3584) hz1, View.ld_unit_zero (S := S512x128) hz1, View.ld_unit_zero (S := S3584x512) hz1]
  refine congrArg₂ (fun a b : EReal => a + b) (k1_dotW x0 x5 r q) ((k1_dotL _ _ r q).trans ?_)
  exact Finset.sum_congr rfl fun l _ => congrArg (fun e : EReal => cur x2 r l * e) (ld1_1 x7 l q)
theorem k1_d (i : grid1.Coords) (x0 x1 : Vec Ideal S512x3584 .bf16) (x2 : Vec Ideal S512x128 .bf16) (x3 : Vec Ideal S128x512 .bf16) (x4 x5 : Vec Ideal S3584x512 .bf16) (x6 : Vec Ideal S512x3584 .bf16) (x7 : Vec Ideal S3x128x512 .bf16) (r q : Fin 512) :
    k1_pay24 i x0 x1 x2 x3 x4 x5 x6 x7 (ix2 r q) = dS (cur x1) (cur x2) (cur x6) (cur3 x7 2) r q := by
  unfold k1_pay24 k1_pay7 k1_pay4
  simp only [shapeCast_self, View.ld_unit_zero (S := S512x3584) hz1, View.ld_unit_zero (S := S512x128) hz1]
  refine congrArg₂ (fun a b : EReal => a + b) (k1_dotT x1 x6 r q) ((k1_dotL _ _ r q).trans ?_)
  exact Finset.sum_congr rfl fun l _ => congrArg (fun e : EReal => cur x2 r l * e) (ld1_2 x7 l q)

/-- The three activation arrays a body stores. -/
abbrev bA (i : grid1.Coords) (x0 x1 : Vec Ideal S512x3584 .bf16) (x2 : Vec Ideal S512x128 .bf16) (x3 : Vec Ideal S128x512 .bf16) (x4 x5 : Vec Ideal S3584x512 .bf16) (x6 : Vec Ideal S512x3584 .bf16) (x7 : Vec Ideal S3x128x512 .bf16) : Vec Ideal S512x512 .bf16 := k1_pay11 (k1_pay22 i x0 x1 x2 x3 x4 x5 x6 x7) (k1_pay23 i x0 x1 x2 x3 x4 x5 x6 x7) (k1_pay25 i x0 x1 x2 x3 x4 x5 x6 x7)
abbrev bU (i : grid1.Coords) (x0 x1 : Vec Ideal S512x3584 .bf16) (x2 : Vec Ideal S512x128 .bf16) (x3 : Vec Ideal S128x512 .bf16) (x4 x5 : Vec Ideal S3584x512 .bf16) (x6 : Vec Ideal S512x3584 .bf16) (x7 : Vec Ideal S3x128x512 .bf16) : Vec Ideal S512x512 .bf16 := k1_pay12 (k1_pay22 i x0 x1 x2 x3 x4 x5 x6 x7) (k1_pay24 i x0 x1 x2 x3 x4 x5 x6 x7) (k1_pay25 i x0 x1 x2 x3 x4 x5 x6 x7)
abbrev bG (i : grid1.Coords) (x0 x1 : Vec Ideal S512x3584 .bf16) (x2 : Vec Ideal S512x128 .bf16) (x3 : Vec Ideal S128x512 .bf16) (x4 x5 : Vec Ideal S3584x512 .bf16) (x6 : Vec Ideal S512x3584 .bf16) (x7 : Vec Ideal S3x128x512 .bf16) : Vec Ideal S512x512 .bf16 := k1_pay13 (k1_pay22 i x0 x1 x2 x3 x4 x5 x6 x7) (k1_pay23 i x0 x1 x2 x3 x4 x5 x6 x7) (k1_pay24 i x0 x1 x2 x3 x4 x5 x6 x7) (k1_pay25 i x0 x1 x2 x3 x4 x5 x6 x7)

theorem bA_apply (i : grid1.Coords) (x0 x1 : Vec Ideal S512x3584 .bf16) (x2 : Vec Ideal S512x128 .bf16) (x3 : Vec Ideal S128x512 .bf16) (x4 x5 : Vec Ideal S3584x512 .bf16) (x6 : Vec Ideal S512x3584 .bf16) (x7 : Vec Ideal S3x128x512 .bf16) (r q : Fin 512) :
    bA i x0 x1 x2 x3 x4 x5 x6 x7 (ix2 r q) = aF (gS (cur x0) (cur x2) (cur x4) (cur3 x7 0) r q) (gS (cur x0) (cur x2) (cur x5) (cur3 x7 1) r q) := by
  rewrite [← k1_g i x0 x1 x2 x3 x4 x5 x6 x7 r q, ← k1_u i x0 x1 x2 x3 x4 x5 x6 x7 r q]
  exact rfl
theorem bU_apply (i : grid1.Coords) (x0 x1 : Vec Ideal S512x3584 .bf16) (x2 : Vec Ideal S512x128 .bf16) (x3 : Vec Ideal S128x512 .bf16) (x4 x5 : Vec Ideal S3584x512 .bf16) (x6 : Vec Ideal S512x3584 .bf16) (x7 : Vec Ideal S3x128x512 .bf16) (r q : Fin 512) :
    bU i x0 x1 x2 x3 x4 x5 x6 x7 (ix2 r q) = duF (gS (cur x0) (cur x2) (cur x4) (cur3 x7 0) r q) (dS (cur x1) (cur x2) (cur x6) (cur3 x7 2) r q) := by
  rewrite [← k1_g i x0 x1 x2 x3 x4 x5 x6 x7 r q, ← k1_d i x0 x1 x2 x3 x4 x5 x6 x7 r q]
  exact rfl
theorem bG_apply (i : grid1.Coords) (x0 x1 : Vec Ideal S512x3584 .bf16) (x2 : Vec Ideal S512x128 .bf16) (x3 : Vec Ideal S128x512 .bf16) (x4 x5 : Vec Ideal S3584x512 .bf16) (x6 : Vec Ideal S512x3584 .bf16) (x7 : Vec Ideal S3x128x512 .bf16) (r q : Fin 512) :
    bG i x0 x1 x2 x3 x4 x5 x6 x7 (ix2 r q) = dgF (gS (cur x0) (cur x2) (cur x4) (cur3 x7 0) r q) (gS (cur x0) (cur x2) (cur x5) (cur3 x7 1) r q) (dS (cur x1) (cur x2) (cur x6) (cur3 x7 2) r q) := by
  rewrite [← k1_g i x0 x1 x2 x3 x4 x5 x6 x7 r q, ← k1_u i x0 x1 x2 x3 x4 x5 x6 x7 r q, ← k1_d i x0 x1 x2 x3 x4 x5 x6 x7 r q]
  exact rfl

/-- A running sum over tokens of low-rank rows times one of the activation arrays: stored at the first tile, added to later. -/
def k1_run (b : BitVec 1) (z : Vec Ideal S32x512 .bf16) (v : Vec Ideal S512x512 .bf16) (y : Vec Ideal S32x512 .f32) : FVec Ideal S32x512 .f32 :=
  Scalar.select b (matmul (F := Ideal) (φ₁ := .bf16) (φ₂ := .bf16) dot_S32x512_S512x512_S32x512_1_0_0_1_n_n none z v (constant S32x512 .f32 0x00000000#32))
    (addf (F := Ideal) (φ := .f32) y (matmul (F := Ideal) (φ₁ := .bf16) (φ₂ := .bf16) dot_S32x512_S512x512_S32x512_1_0_0_1_n_n none z v (constant S32x512 .f32 0x00000000#32)))

theorem cmp1_first (n : ℕ) (hn : n = 0) : Scalar.cmpi .eq (BitVec.ofNat 32 n) 0#32 = 1#1 := by rewrite [hn]; exact rfl
theorem cmp1_later (n : ℕ) (hn : n ≠ 0) (hlt : n < 37) : Scalar.cmpi .eq (BitVec.ofNat 32 n) 0#32 = 0#1 := by
  interval_cases n <;> first | exact absurd rfl hn | rfl

theorem k1_run_first (z : Vec Ideal S32x512 .bf16) (v : Vec Ideal S512x512 .bf16) (y : Vec Ideal S32x512 .f32) (l : Fin 32) (q : Fin 512) :
    k1_run 1#1 z v y (ix2 l q) = ∑ k : Fin 512, z (ix2 l k) * v (ix2 k q) := k1_dotZ z v l q
theorem k1_run_later (z : Vec Ideal S32x512 .bf16) (v : Vec Ideal S512x512 .bf16) (y : Vec Ideal S32x512 .f32) (l : Fin 32) (q : Fin 512) :
    k1_run 0#1 z v y (ix2 l q) = y (ix2 l q) + ∑ k : Fin 512, z (ix2 l k) * v (ix2 k q) :=
  congrArg (fun e : EReal => y (ix2 l q) + e) (k1_dotZ z v l q)

theorem out1_11_eq (i : grid1.Coords) (x0 x1 : Vec Ideal S512x3584 .bf16) (x2 : Vec Ideal S512x128 .bf16) (x3 : Vec Ideal S128x512 .bf16) (x4 x5 : Vec Ideal S3584x512 .bf16) (x6 : Vec Ideal S512x3584 .bf16) (x7 : Vec Ideal S3x128x512 .bf16) (y : Vec Ideal S32x512 .f32) :
    out1_11 i x0 x1 x2 x3 x4 x5 x6 x7 y = k1_run (Scalar.cmpi .eq (BitVec.ofNat 32 (i 1).val) 0#32) (View.ld x3 r1_7) (bG i x0 x1 x2 x3 x4 x5 x6 x7) y := by
  unfold out1_11 k1_pay15
  rewrite [View.canon_unit_zero hz1, View.ld_unit_zero (S := S32x512) hz1]
  simp only [shapeCast_self]
  exact rfl
theorem out1_12_eq (i : grid1.Coords) (x0 x1 : Vec Ideal S512x3584 .bf16) (x2 : Vec Ideal S512x128 .bf16) (x3 : Vec Ideal S128x512 .bf16) (x4 x5 : Vec Ideal S3584x512 .bf16) (x6 : Vec Ideal S512x3584 .bf16) (x7 : Vec Ideal S3x128x512 .bf16) (y : Vec Ideal S32x512 .f32) :
    out1_12 i x0 x1 x2 x3 x4 x5 x6 x7 y = k1_run (Scalar.cmpi .eq (BitVec.ofNat 32 (i 1).val) 0#32) (View.ld x3 r1_8) (bU i x0 x1 x2 x3 x4 x5 x6 x7) y := by
  unfold out1_12 k1_pay18 k1_pay16 k1_pay17
  rewrite [View.canon_unit_zero hz1, View.ld_unit_zero (S := S32x512) hz1]
  simp only [shapeCast_self]
  exact rfl
theorem out1_13_eq (i : grid1.Coords) (x0 x1 : Vec Ideal S512x3584 .bf16) (x2 : Vec Ideal S512x128 .bf16) (x3 : Vec Ideal S128x512 .bf16) (x4 x5 : Vec Ideal S3584x512 .bf16) (x6 : Vec Ideal S512x3584 .bf16) (x7 : Vec Ideal S3x128x512 .bf16) (y : Vec Ideal S32x512 .f32) :
    out1_13 i x0 x1 x2 x3 x4 x5 x6 x7 y = k1_run (Scalar.cmpi .eq (BitVec.ofNat 32 (i 1).val) 0#32) (View.ld x3 r1_9) (bA i x0 x1 x2 x3 x4 x5 x6 x7) y := by
  unfold out1_13 k1_pay19 k1_pay14 k1_pay26
  rewrite [View.canon_unit_zero hz1, View.ld_unit_zero (S := S32x512) hz1]
  simp only [shapeCast_self]
  exact rfl

/-- One slab's running sum over the inner features. -/
theorem k1_slab_first (v : Vec Ideal S512x512 .bf16) (w : Vec Ideal S1x32x512 .bf16) (u : Vec Ideal S1x32x512 .f32) (l : Fin 32) (q : Fin 512) (n : ℕ) (hn : n = 0) :
    k1_pay20 (BitVec.ofNat 32 n) v w u (ix3 0 l q) = ∑ k : Fin 512, w (ix3 0 l k) * v (ix2 q k) := by
  unfold k1_pay20
  rewrite [cmp1_first n hn]
  refine (shapeCast_ab_1ab_apply _ _ (0 : Fin 1) l q).trans ((k1_dotZT _ v l q).trans ?_)
  exact Finset.sum_congr rfl fun k _ => congrArg (fun e : EReal => e * cur v q k) (shapeCast_1ab_ab_apply w _ l k)
theorem k1_slab_later (v : Vec Ideal S512x512 .bf16) (w : Vec Ideal S1x32x512 .bf16) (u : Vec Ideal S1x32x512 .f32) (l : Fin 32) (q : Fin 512) (n : ℕ) (hn : n ≠ 0) (hlt : n < 37) :
    k1_pay20 (BitVec.ofNat 32 n) v w u (ix3 0 l q) = u (ix3 0 l q) + ∑ k : Fin 512, w (ix3 0 l k) * v (ix2 q k) := by
  unfold k1_pay20
  rewrite [cmp1_later n hn hlt]
  refine (shapeCast_ab_1ab_apply _ _ (0 : Fin 1) l q).trans (congrArg₂ (fun a b : EReal => a + b) (shapeCast_1ab_ab_apply u _ l q) ((k1_dotZT _ v l q).trans ?_))
  exact Finset.sum_congr rfl fun k _ => congrArg (fun e : EReal => e * cur v q k) (shapeCast_1ab_ab_apply w _ l k)

theorem out1_14_eq (i : grid1.Coords) (x0 x1 : Vec Ideal S512x3584 .bf16) (x2 : Vec Ideal S512x128 .bf16) (x3 : Vec Ideal S128x512 .bf16) (x4 x5 : Vec Ideal S3584x512 .bf16) (x6 : Vec Ideal S512x3584 .bf16) (x7 : Vec Ideal S3x128x512 .bf16) (y : Vec Ideal S24x96x512 .f32) :
    out1_14 i x0 x1 x2 x3 x4 x5 x6 x7 y = (r1_16 i).overlay ((r1_14 i).overlay ((r1_12 i).overlay y (k1_pay20 (BitVec.ofNat 32 (i 0).val) (bG i x0 x1 x2 x3 x4 x5 x6 x7) (View.ld x7 r1_11) (View.ld y (r1_12 i))))
      (k1_pay20 (BitVec.ofNat 32 (i 0).val) (bU i x0 x1 x2 x3 x4 x5 x6 x7) (View.ld x7 r1_13) (View.ld y (r1_14 i)))) (k1_pay20 (BitVec.ofNat 32 (i 0).val) (bA i x0 x1 x2 x3 x4 x5 x6 x7) (View.ld x7 r1_15) (View.ld y (r1_16 i))) := by
  unfold out1_14
  exact rfl

theorem emb1_0 (i : grid1.Coords) (l : Fin 32) (q : Fin 512) (hl : 0 + l.val < 96) : (r1_12 i).idx (ix3 0 l q) = (ix3 (i 1 : Fin 24) ⟨0 + l.val, hl⟩ q : S24x96x512.Idx) :=
  funext fun a => Fin.ext (by
    have e := congrFun (off1_1 i) a
    match a with
    | ⟨0, _⟩ => show k1_off1 i 0 + 1 * 0 = (i 1).val; rewrite [show k1_off1 i 0 = (i 1).val from e]; omega
    | ⟨1, _⟩ => show k1_off1 i 1 + 1 * l.val = 0 + l.val; rewrite [show k1_off1 i 1 = 0 from e]; omega
    | ⟨2, _⟩ => show k1_off1 i 2 + 1 * q.val = q.val; rewrite [show k1_off1 i 2 = 0 from e]; omega)
theorem ldw1_0 (x : Vec Ideal S3x128x512 .bf16) (l : Fin 32) (k : Fin 512) (hl : 0 + l.val < 128) : (View.ld x r1_11 : Vec Ideal S1x32x512 .bf16) (ix3 0 l k) = x (ix3 0 ⟨0 + l.val, hl⟩ k) :=
  congrArg x (funext fun a => Fin.ext (by
    match a with
    | ⟨0, _⟩ => rfl
    | ⟨1, _⟩ => show 0 + 1 * l.val = 0 + l.val; omega
    | ⟨2, _⟩ => show 0 + 1 * k.val = k.val; omega))
/-- What the body leaves in its own slab, rows 0 to 31. -/
theorem slab1_0 (i : grid1.Coords) (x0 x1 : Vec Ideal S512x3584 .bf16) (x2 : Vec Ideal S512x128 .bf16) (x3 : Vec Ideal S128x512 .bf16) (x4 x5 : Vec Ideal S3584x512 .bf16) (x6 : Vec Ideal S512x3584 .bf16) (x7 : Vec Ideal S3x128x512 .bf16) (y : Vec Ideal S24x96x512 .f32) (l : Fin 32) (q : Fin 512) (hl : 0 + l.val < 96) :
    out1_14 i x0 x1 x2 x3 x4 x5 x6 x7 y (ix3 (i 1 : Fin 24) ⟨0 + l.val, hl⟩ q) = k1_pay20 (BitVec.ofNat 32 (i 0).val) (bG i x0 x1 x2 x3 x4 x5 x6 x7) (View.ld x7 r1_11) (View.ld y (r1_12 i)) (ix3 0 l q) := by
  have hl' := l.isLt
  have h3 : (ix3 (i 1 : Fin 24) ⟨0 + l.val, hl⟩ q : S24x96x512.Idx) ∉ (r1_16 i).set := fun h => by
    have h' : 64 ≤ 0 + l.val := ((mem1_16 i _).1 h).2
    omega
  have h2 : (ix3 (i 1 : Fin 24) ⟨0 + l.val, hl⟩ q : S24x96x512.Idx) ∉ (r1_14 i).set := fun h => by
    have h' : 32 ≤ 0 + l.val := ((mem1_14 i _).1 h).2.1
    omega
  rewrite [out1_14_eq]
  rewrite [(r1_16 i).overlay_of_not_mem _ _ h3, (r1_14 i).overlay_of_not_mem _ _ h2, ← emb1_0 i l q hl]
  exact (r1_12 i).overlay_emb _ _ _
theorem slabv1_0 (i : grid1.Coords) (x0 x1 : Vec Ideal S512x3584 .bf16) (x2 : Vec Ideal S512x128 .bf16) (x3 : Vec Ideal S128x512 .bf16) (x4 x5 : Vec Ideal S3584x512 .bf16) (x6 : Vec Ideal S512x3584 .bf16) (x7 : Vec Ideal S3x128x512 .bf16) (y : Vec Ideal S24x96x512 .f32) (l : Fin 32) (q : Fin 512) (hl : 0 + l.val < 96) (hl2 : 0 + l.val < 128) :
    out1_14 i x0 x1 x2 x3 x4 x5 x6 x7 y (ix3 (i 1 : Fin 24) ⟨0 + l.val, hl⟩ q)
      = (if (i 0).val = 0 then 0 else (y (ix3 (i 1 : Fin 24) ⟨0 + l.val, hl⟩ q) : EReal)) + ∑ k : Fin 512, cur3 x7 0 ⟨0 + l.val, hl2⟩ k * cur (bG i x0 x1 x2 x3 x4 x5 x6 x7) q k := by
  rewrite [slab1_0]
  have hs : (∑ k : Fin 512, cur3 (View.ld x7 r1_11 : Vec Ideal S1x32x512 .bf16) 0 l k * cur (bG i x0 x1 x2 x3 x4 x5 x6 x7) q k) = ∑ k : Fin 512, cur3 x7 0 ⟨0 + l.val, hl2⟩ k * cur (bG i x0 x1 x2 x3 x4 x5 x6 x7) q k :=
    Finset.sum_congr rfl fun k _ => congrArg (fun e : EReal => e * cur (bG i x0 x1 x2 x3 x4 x5 x6 x7) q k) (ldw1_0 x7 l k hl2)
  by_cases h0 : (i 0).val = 0
  · rewrite [if_pos h0, zero_add]
    exact (k1_slab_first _ _ _ l q _ h0).trans hs
  · rewrite [if_neg h0]
    refine (k1_slab_later _ _ _ l q _ h0 (i 0).isLt).trans (congrArg₂ (fun a b : EReal => a + b) (congrArg y ?_) hs)
    exact emb1_0 i l q hl

theorem emb1_1 (i : grid1.Coords) (l : Fin 32) (q : Fin 512) (hl : 32 + l.val < 96) : (r1_14 i).idx (ix3 0 l q) = (ix3 (i 1 : Fin 24) ⟨32 + l.val, hl⟩ q : S24x96x512.Idx) :=
  funext fun a => Fin.ext (by
    have e := congrFun (off1_2 i) a
    match a with
    | ⟨0, _⟩ => show k1_off2 i 0 + 1 * 0 = (i 1).val; rewrite [show k1_off2 i 0 = (i 1).val from e]; omega
    | ⟨1, _⟩ => show k1_off2 i 1 + 1 * l.val = 32 + l.val; rewrite [show k1_off2 i 1 = 32 from e]; omega
    | ⟨2, _⟩ => show k1_off2 i 2 + 1 * q.val = q.val; rewrite [show k1_off2 i 2 = 0 from e]; omega)
theorem ldw1_1 (x : Vec Ideal S3x128x512 .bf16) (l : Fin 32) (k : Fin 512) (hl : 32 + l.val < 128) : (View.ld x r1_13 : Vec Ideal S1x32x512 .bf16) (ix3 0 l k) = x (ix3 1 ⟨32 + l.val, hl⟩ k) :=
  congrArg x (funext fun a => Fin.ext (by
    match a with
    | ⟨0, _⟩ => rfl
    | ⟨1, _⟩ => show 32 + 1 * l.val = 32 + l.val; omega
    | ⟨2, _⟩ => show 0 + 1 * k.val = k.val; omega))
/-- What the body leaves in its own slab, rows 32 to 63. -/
theorem slab1_1 (i : grid1.Coords) (x0 x1 : Vec Ideal S512x3584 .bf16) (x2 : Vec Ideal S512x128 .bf16) (x3 : Vec Ideal S128x512 .bf16) (x4 x5 : Vec Ideal S3584x512 .bf16) (x6 : Vec Ideal S512x3584 .bf16) (x7 : Vec Ideal S3x128x512 .bf16) (y : Vec Ideal S24x96x512 .f32) (l : Fin 32) (q : Fin 512) (hl : 32 + l.val < 96) :
    out1_14 i x0 x1 x2 x3 x4 x5 x6 x7 y (ix3 (i 1 : Fin 24) ⟨32 + l.val, hl⟩ q) = k1_pay20 (BitVec.ofNat 32 (i 0).val) (bU i x0 x1 x2 x3 x4 x5 x6 x7) (View.ld x7 r1_13) (View.ld y (r1_14 i)) (ix3 0 l q) := by
  have hl' := l.isLt
  have h3 : (ix3 (i 1 : Fin 24) ⟨32 + l.val, hl⟩ q : S24x96x512.Idx) ∉ (r1_16 i).set := fun h => by
    have h' : 64 ≤ 32 + l.val := ((mem1_16 i _).1 h).2
    omega
  rewrite [out1_14_eq]
  rewrite [(r1_16 i).overlay_of_not_mem _ _ h3, ← emb1_1 i l q hl]
  exact (r1_14 i).overlay_emb _ _ _
theorem slabv1_1 (i : grid1.Coords) (x0 x1 : Vec Ideal S512x3584 .bf16) (x2 : Vec Ideal S512x128 .bf16) (x3 : Vec Ideal S128x512 .bf16) (x4 x5 : Vec Ideal S3584x512 .bf16) (x6 : Vec Ideal S512x3584 .bf16) (x7 : Vec Ideal S3x128x512 .bf16) (y : Vec Ideal S24x96x512 .f32) (l : Fin 32) (q : Fin 512) (hl : 32 + l.val < 96) (hl2 : 32 + l.val < 128) :
    out1_14 i x0 x1 x2 x3 x4 x5 x6 x7 y (ix3 (i 1 : Fin 24) ⟨32 + l.val, hl⟩ q)
      = (if (i 0).val = 0 then 0 else (y (ix3 (i 1 : Fin 24) ⟨32 + l.val, hl⟩ q) : EReal)) + ∑ k : Fin 512, cur3 x7 1 ⟨32 + l.val, hl2⟩ k * cur (bU i x0 x1 x2 x3 x4 x5 x6 x7) q k := by
  rewrite [slab1_1]
  have hs : (∑ k : Fin 512, cur3 (View.ld x7 r1_13 : Vec Ideal S1x32x512 .bf16) 0 l k * cur (bU i x0 x1 x2 x3 x4 x5 x6 x7) q k) = ∑ k : Fin 512, cur3 x7 1 ⟨32 + l.val, hl2⟩ k * cur (bU i x0 x1 x2 x3 x4 x5 x6 x7) q k :=
    Finset.sum_congr rfl fun k _ => congrArg (fun e : EReal => e * cur (bU i x0 x1 x2 x3 x4 x5 x6 x7) q k) (ldw1_1 x7 l k hl2)
  by_cases h0 : (i 0).val = 0
  · rewrite [if_pos h0, zero_add]
    exact (k1_slab_first _ _ _ l q _ h0).trans hs
  · rewrite [if_neg h0]
    refine (k1_slab_later _ _ _ l q _ h0 (i 0).isLt).trans (congrArg₂ (fun a b : EReal => a + b) (congrArg y ?_) hs)
    exact emb1_1 i l q hl

theorem emb1_2 (i : grid1.Coords) (l : Fin 32) (q : Fin 512) (hl : 64 + l.val < 96) : (r1_16 i).idx (ix3 0 l q) = (ix3 (i 1 : Fin 24) ⟨64 + l.val, hl⟩ q : S24x96x512.Idx) :=
  funext fun a => Fin.ext (by
    have e := congrFun (off1_3 i) a
    match a with
    | ⟨0, _⟩ => show k1_off3 i 0 + 1 * 0 = (i 1).val; rewrite [show k1_off3 i 0 = (i 1).val from e]; omega
    | ⟨1, _⟩ => show k1_off3 i 1 + 1 * l.val = 64 + l.val; rewrite [show k1_off3 i 1 = 64 from e]; omega
    | ⟨2, _⟩ => show k1_off3 i 2 + 1 * q.val = q.val; rewrite [show k1_off3 i 2 = 0 from e]; omega)
theorem ldw1_2 (x : Vec Ideal S3x128x512 .bf16) (l : Fin 32) (k : Fin 512) (hl : 64 + l.val < 128) : (View.ld x r1_15 : Vec Ideal S1x32x512 .bf16) (ix3 0 l k) = x (ix3 2 ⟨64 + l.val, hl⟩ k) :=
  congrArg x (funext fun a => Fin.ext (by
    match a with
    | ⟨0, _⟩ => rfl
    | ⟨1, _⟩ => show 64 + 1 * l.val = 64 + l.val; omega
    | ⟨2, _⟩ => show 0 + 1 * k.val = k.val; omega))
/-- What the body leaves in its own slab, rows 64 to 95. -/
theorem slab1_2 (i : grid1.Coords) (x0 x1 : Vec Ideal S512x3584 .bf16) (x2 : Vec Ideal S512x128 .bf16) (x3 : Vec Ideal S128x512 .bf16) (x4 x5 : Vec Ideal S3584x512 .bf16) (x6 : Vec Ideal S512x3584 .bf16) (x7 : Vec Ideal S3x128x512 .bf16) (y : Vec Ideal S24x96x512 .f32) (l : Fin 32) (q : Fin 512) (hl : 64 + l.val < 96) :
    out1_14 i x0 x1 x2 x3 x4 x5 x6 x7 y (ix3 (i 1 : Fin 24) ⟨64 + l.val, hl⟩ q) = k1_pay20 (BitVec.ofNat 32 (i 0).val) (bA i x0 x1 x2 x3 x4 x5 x6 x7) (View.ld x7 r1_15) (View.ld y (r1_16 i)) (ix3 0 l q) := by
  have hl' := l.isLt
  rewrite [out1_14_eq]
  rewrite [← emb1_2 i l q hl]
  exact (r1_16 i).overlay_emb _ _ _
theorem slabv1_2 (i : grid1.Coords) (x0 x1 : Vec Ideal S512x3584 .bf16) (x2 : Vec Ideal S512x128 .bf16) (x3 : Vec Ideal S128x512 .bf16) (x4 x5 : Vec Ideal S3584x512 .bf16) (x6 : Vec Ideal S512x3584 .bf16) (x7 : Vec Ideal S3x128x512 .bf16) (y : Vec Ideal S24x96x512 .f32) (l : Fin 32) (q : Fin 512) (hl : 64 + l.val < 96) (hl2 : 64 + l.val < 128) :
    out1_14 i x0 x1 x2 x3 x4 x5 x6 x7 y (ix3 (i 1 : Fin 24) ⟨64 + l.val, hl⟩ q)
      = (if (i 0).val = 0 then 0 else (y (ix3 (i 1 : Fin 24) ⟨64 + l.val, hl⟩ q) : EReal)) + ∑ k : Fin 512, cur3 x7 2 ⟨64 + l.val, hl2⟩ k * cur (bA i x0 x1 x2 x3 x4 x5 x6 x7) q k := by
  rewrite [slab1_2]
  have hs : (∑ k : Fin 512, cur3 (View.ld x7 r1_15 : Vec Ideal S1x32x512 .bf16) 0 l k * cur (bA i x0 x1 x2 x3 x4 x5 x6 x7) q k) = ∑ k : Fin 512, cur3 x7 2 ⟨64 + l.val, hl2⟩ k * cur (bA i x0 x1 x2 x3 x4 x5 x6 x7) q k :=
    Finset.sum_congr rfl fun k _ => congrArg (fun e : EReal => e * cur (bA i x0 x1 x2 x3 x4 x5 x6 x7) q k) (ldw1_2 x7 l k hl2)
  by_cases h0 : (i 0).val = 0
  · rewrite [if_pos h0, zero_add]
    exact (k1_slab_first _ _ _ l q _ h0).trans hs
  · rewrite [if_neg h0]
    refine (k1_slab_later _ _ _ l q _ h0 (i 0).isLt).trans (congrArg₂ (fun a b : EReal => a + b) (congrArg y ?_) hs)
    exact emb1_2 i l q hl

end Cert.KV
-- ==== Proof.KV.V1.lean ====
module

public import proofs.«01_k».proof.Proof.KV.P1
public import proofs.«01_k».proof.Proof.KV.Spec
public import Idealize.ShloMosaic.Lib.ValueIdx
public import Idealize.ShloMosaic.Lib.Pipeline.Value

@[expose] public section

set_option maxRecDepth 16384

noncomputable section

namespace Cert.KV

open Cert.KernelIdeal Cert.KernelIdeal.Gen Cert.KernelIdeal.Run
open Idealize.ShloMosaic Idealize.ShloMosaic.TcCoe Idealize.ShloMosaic.ValueIdx
open Idealize.ShloMosaic.Tactic
open scoped BigOperators

/-! # The output arrays of the activation call -/

variable (V : (c : Dev nD) → (b : Ref sig .tc) → Buf (Elt Ideal) ((c : Thread nD τ).loc b))

theorem idx1_0 : ∀ t : Fin cfg1.N, win1_0.index t (0 : Fin 2) = t.val % 24 ∧ win1_0.index t (1 : Fin 2) = 0 :=
  (by decide +kernel : ∀ t : Fin grid1.N, _)
theorem idx1_1 : ∀ t : Fin cfg1.N, win1_1.index t (0 : Fin 2) = t.val % 24 ∧ win1_1.index t (1 : Fin 2) = 0 :=
  (by decide +kernel : ∀ t : Fin grid1.N, _)
theorem idx1_2 : ∀ t : Fin cfg1.N, win1_2.index t (0 : Fin 2) = t.val % 24 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = t.val % 24 :=
  (by decide +kernel : ∀ t : Fin grid1.N, _)
theorem idx1_4 : ∀ t : Fin cfg1.N, win1_4.index t (0 : Fin 2) = 0 ∧ win1_4.index t (1 : Fin 2) = t.val / 24 :=
  (by decide +kernel : ∀ t : Fin grid1.N, _)
theorem idx1_5 : ∀ t : Fin cfg1.N, win1_5.index t (0 : Fin 2) = 0 ∧ win1_5.index t (1 : Fin 2) = t.val / 24 :=
  (by decide +kernel : ∀ t : Fin grid1.N, _)
theorem idx1_6 : ∀ t : Fin cfg1.N, win1_6.index t (0 : Fin 2) = t.val / 24 ∧ win1_6.index t (1 : Fin 2) = 0 :=
  (by decide +kernel : ∀ t : Fin grid1.N, _)
theorem idx1_7 : ∀ t : Fin cfg1.N, win1_7.index t (0 : Fin 3) = 0 ∧ win1_7.index t (1 : Fin 3) = 0 ∧ win1_7.index t (2 : Fin 3) = t.val / 24 :=
  (by decide +kernel : ∀ t : Fin grid1.N, _)
theorem idx1_8 : ∀ t : Fin cfg1.N, win1_8.index t (0 : Fin 2) = t.val % 24 ∧ win1_8.index t (1 : Fin 2) = t.val / 24 :=
  (by decide +kernel : ∀ t : Fin grid1.N, _)
theorem idx1_9 : ∀ t : Fin cfg1.N, win1_9.index t (0 : Fin 2) = t.val % 24 ∧ win1_9.index t (1 : Fin 2) = t.val / 24 :=
  (by decide +kernel : ∀ t : Fin grid1.N, _)
theorem idx1_10 : ∀ t : Fin cfg1.N, win1_10.index t (0 : Fin 2) = t.val % 24 ∧ win1_10.index t (1 : Fin 2) = t.val / 24 :=
  (by decide +kernel : ∀ t : Fin grid1.N, _)
theorem idx1_11 : ∀ t : Fin cfg1.N, win1_11.index t (0 : Fin 2) = 0 ∧ win1_11.index t (1 : Fin 2) = t.val / 24 :=
  (by decide +kernel : ∀ t : Fin grid1.N, _)
theorem idx1_12 : ∀ t : Fin cfg1.N, win1_12.index t (0 : Fin 2) = 0 ∧ win1_12.index t (1 : Fin 2) = t.val / 24 :=
  (by decide +kernel : ∀ t : Fin grid1.N, _)
theorem idx1_13 : ∀ t : Fin cfg1.N, win1_13.index t (0 : Fin 2) = 0 ∧ win1_13.index t (1 : Fin 2) = t.val / 24 :=
  (by decide +kernel : ∀ t : Fin grid1.N, _)
theorem idx1_14 : ∀ t : Fin cfg1.N, win1_14.index t (0 : Fin 3) = 0 ∧ win1_14.index t (1 : Fin 3) = 0 ∧ win1_14.index t (2 : Fin 3) = 0 :=
  (by decide +kernel : ∀ t : Fin grid1.N, _)
theorem fl1_8 : ∀ t : Fin cfg1.N, win1_8.flush t = true := (by decide +kernel : ∀ t : Fin grid1.N, _)
theorem fl1_9 : ∀ t : Fin cfg1.N, win1_9.flush t = true := (by decide +kernel : ∀ t : Fin grid1.N, _)
theorem fl1_10 : ∀ t : Fin cfg1.N, win1_10.flush t = true := (by decide +kernel : ∀ t : Fin grid1.N, _)
theorem fl1_11 : ∀ t : Fin cfg1.N, win1_11.flush t = true ↔ t.val % 24 = 23 := (by decide +kernel : ∀ t : Fin grid1.N, _)
theorem fl1_12 : ∀ t : Fin cfg1.N, win1_12.flush t = true ↔ t.val % 24 = 23 := (by decide +kernel : ∀ t : Fin grid1.N, _)
theorem fl1_13 : ∀ t : Fin cfg1.N, win1_13.flush t = true ↔ t.val % 24 = 23 := (by decide +kernel : ∀ t : Fin grid1.N, _)
theorem fl1_14 : ∀ t : Fin cfg1.N, win1_14.flush t = true ↔ t.val = 887 := (by decide +kernel : ∀ t : Fin grid1.N, _)
theorem lt1 (t : Fin cfg1.N) : t.val < 888 := lt_of_lt_of_eq t.isLt (show cfg1.N = 888 from N_1)

theorem blk1_0 (c : Dev nD) (t : Fin cfg1.N) (r : Fin 512) (k : Fin 3584) :
    iblk1 V c 0 t (ix2 r k) = V c main_v8_0 (ix2 (tk (t.val % 24) r.val) (k)) := by
  have hr := r.isLt; have hk := k.isLt; have ht := lt1 t; have e := idx1_0 t
  refine congrArg (V c main_v8_0) (Shape.idx_ext₂ ?_ ?_)
  · show win1_0.index t (0 : Fin 2) * 512 + 1 * r.val = (tk (t.val % 24) r.val).val
    rewrite [tl_val _ _ _ _ _ (by omega)]; omega
  · show win1_0.index t (1 : Fin 2) * 3584 + 1 * k.val = (k).val
    omega

theorem blk1_1 (c : Dev nD) (t : Fin cfg1.N) (r : Fin 512) (k : Fin 3584) :
    iblk1 V c 1 t (ix2 r k) = V c main_v1 (ix2 (tk (t.val % 24) r.val) (k)) := by
  have hr := r.isLt; have hk := k.isLt; have ht := lt1 t; have e := idx1_1 t
  refine congrArg (V c main_v1) (Shape.idx_ext₂ ?_ ?_)
  · show win1_1.index t (0 : Fin 2) * 512 + 1 * r.val = (tk (t.val % 24) r.val).val
    rewrite [tl_val _ _ _ _ _ (by omega)]; omega
  · show win1_1.index t (1 : Fin 2) * 3584 + 1 * k.val = (k).val
    omega

theorem blk1_2 (c : Dev nD) (t : Fin cfg1.N) (r : Fin 512) (k : Fin 128) :
    iblk1 V c 2 t (ix2 r k) = V c main_v8_1 (ix2 (tk (t.val % 24) r.val) (k)) := by
  have hr := r.isLt; have hk := k.isLt; have ht := lt1 t; have e := idx1_2 t
  refine congrArg (V c main_v8_1) (Shape.idx_ext₂ ?_ ?_)
  · show win1_2.index t (0 : Fin 2) * 512 + 1 * r.val = (tk (t.val % 24) r.val).val
    rewrite [tl_val _ _ _ _ _ (by omega)]; omega
  · show win1_2.index t (1 : Fin 2) * 128 + 1 * k.val = (k).val
    omega

theorem blk1_3 (c : Dev nD) (t : Fin cfg1.N) (r : Fin 128) (k : Fin 512) :
    iblk1 V c 3 t (ix2 r k) = V c main_v8_2 (ix2 (r) (tk (t.val % 24) k.val)) := by
  have hr := r.isLt; have hk := k.isLt; have ht := lt1 t; have e := idx1_3 t
  refine congrArg (V c main_v8_2) (Shape.idx_ext₂ ?_ ?_)
  · show win1_3.index t (0 : Fin 2) * 128 + 1 * r.val = (r).val
    omega
  · show win1_3.index t (1 : Fin 2) * 512 + 1 * k.val = (tk (t.val % 24) k.val).val
    rewrite [tl_val _ _ _ _ _ (by omega)]; omega

theorem blk1_4 (c : Dev nD) (t : Fin cfg1.N) (r : Fin 3584) (k : Fin 512) :
    iblk1 V c 4 t (ix2 r k) = V c main_arg3 (ix2 (r) (fc (t.val / 24) k.val)) := by
  have hr := r.isLt; have hk := k.isLt; have ht := lt1 t; have e := idx1_4 t
  refine congrArg (V c main_arg3) (Shape.idx_ext₂ ?_ ?_)
  · show win1_4.index t (0 : Fin 2) * 3584 + 1 * r.val = (r).val
    omega
  · show win1_4.index t (1 : Fin 2) * 512 + 1 * k.val = (fc (t.val / 24) k.val).val
    rewrite [tl_val _ _ _ _ _ (by omega)]; omega

theorem blk1_5 (c : Dev nD) (t : Fin cfg1.N) (r : Fin 3584) (k : Fin 512) :
    iblk1 V c 5 t (ix2 r k) = V c main_arg4 (ix2 (r) (fc (t.val / 24) k.val)) := by
  have hr := r.isLt; have hk := k.isLt; have ht := lt1 t; have e := idx1_5 t
  refine congrArg (V c main_arg4) (Shape.idx_ext₂ ?_ ?_)
  · show win1_5.index t (0 : Fin 2) * 3584 + 1 * r.val = (r).val
    omega
  · show win1_5.index t (1 : Fin 2) * 512 + 1 * k.val = (fc (t.val / 24) k.val).val
    rewrite [tl_val _ _ _ _ _ (by omega)]; omega

theorem blk1_6 (c : Dev nD) (t : Fin cfg1.N) (r : Fin 512) (k : Fin 3584) :
    iblk1 V c 6 t (ix2 r k) = V c main_arg5 (ix2 (fc (t.val / 24) r.val) (k)) := by
  have hr := r.isLt; have hk := k.isLt; have ht := lt1 t; have e := idx1_6 t
  refine congrArg (V c main_arg5) (Shape.idx_ext₂ ?_ ?_)
  · show win1_6.index t (0 : Fin 2) * 512 + 1 * r.val = (fc (t.val / 24) r.val).val
    rewrite [tl_val _ _ _ _ _ (by omega)]; omega
  · show win1_6.index t (1 : Fin 2) * 3584 + 1 * k.val = (k).val
    omega

theorem blk1_7 (c : Dev nD) (t : Fin cfg1.N) (s : Fin 3) (r : Fin 128) (k : Fin 512) :
    iblk1 V c 7 t (ix3 s r k) = V c main_v17 (ix3 s r (fc (t.val / 24) k.val)) := by
  have hr := r.isLt; have hk := k.isLt; have ht := lt1 t; have e := idx1_7 t
  refine congrArg (V c main_v17) (funext fun a => Fin.ext ?_)
  match a with
  | ⟨0, _⟩ => show win1_7.index t (0 : Fin 3) * 3 + 1 * s.val = s.val; omega
  | ⟨1, _⟩ => show win1_7.index t (1 : Fin 3) * 128 + 1 * r.val = r.val; omega
  | ⟨2, _⟩ =>
    show win1_7.index t (2 : Fin 3) * 512 + 1 * k.val = (fc (t.val / 24) k.val).val
    rewrite [tl_val _ _ _ _ _ (by omega)]; omega

/-- The gate product, the up product and the activation's upstream gradient, over the whole arrays. -/
abbrev Gg (c : Dev nD) : Fin 12288 → Fin 18944 → EReal := gS (cur (V c main_v8_0)) (cur (V c main_v8_1)) (cur (V c main_arg3)) (cur3 (V c main_v17) 0)
abbrev Gu (c : Dev nD) : Fin 12288 → Fin 18944 → EReal := gS (cur (V c main_v8_0)) (cur (V c main_v8_1)) (cur (V c main_arg4)) (cur3 (V c main_v17) 1)
abbrev Gd (c : Dev nD) : Fin 12288 → Fin 18944 → EReal := dS (cur (V c main_v1)) (cur (V c main_v8_1)) (cur (V c main_arg5)) (cur3 (V c main_v17) 2)
/-- The activation and the two gradients. -/
def A1 (c : Dev nD) (r : Fin 12288) (f : Fin 18944) : EReal := aF (Gg V c r f) (Gu V c r f)
def U1 (c : Dev nD) (r : Fin 12288) (f : Fin 18944) : EReal := duF (Gg V c r f) (Gd V c r f)
def G1 (c : Dev nD) (r : Fin 12288) (f : Fin 18944) : EReal := dgF (Gg V c r f) (Gu V c r f) (Gd V c r f)

theorem bg1 (c : Dev nD) (t : Fin cfg1.N) (r q : Fin 512) :
    gS (cur (iblk1 V c 0 t : Vec Ideal S512x3584 .bf16)) (cur (iblk1 V c 2 t : Vec Ideal S512x128 .bf16)) (cur (iblk1 V c 4 t : Vec Ideal S3584x512 .bf16)) (cur3 (iblk1 V c 7 t : Vec Ideal S3x128x512 .bf16) 0) r q
      = Gg V c (tk (t.val % 24) r.val) (fc (t.val / 24) q.val) :=
  congrArg₂ (fun a b : EReal => a + b) (Finset.sum_congr rfl fun k _ => congrArg₂ (fun a b : EReal => a * b) (blk1_0 V c t r k) (blk1_4 V c t k q))
    (Finset.sum_congr rfl fun l _ => congrArg₂ (fun a b : EReal => a * b) (blk1_2 V c t r l) (blk1_7 V c t 0 l q))
theorem bu1 (c : Dev nD) (t : Fin cfg1.N) (r q : Fin 512) :
    gS (cur (iblk1 V c 0 t : Vec Ideal S512x3584 .bf16)) (cur (iblk1 V c 2 t : Vec Ideal S512x128 .bf16)) (cur (iblk1 V c 5 t : Vec Ideal S3584x512 .bf16)) (cur3 (iblk1 V c 7 t : Vec Ideal S3x128x512 .bf16) 1) r q
      = Gu V c (tk (t.val % 24) r.val) (fc (t.val / 24) q.val) :=
  congrArg₂ (fun a b : EReal => a + b) (Finset.sum_congr rfl fun k _ => congrArg₂ (fun a b : EReal => a * b) (blk1_0 V c t r k) (blk1_5 V c t k q))
    (Finset.sum_congr rfl fun l _ => congrArg₂ (fun a b : EReal => a * b) (blk1_2 V c t r l) (blk1_7 V c t 1 l q))
theorem bd1 (c : Dev nD) (t : Fin cfg1.N) (r q : Fin 512) :
    dS (cur (iblk1 V c 1 t : Vec Ideal S512x3584 .bf16)) (cur (iblk1 V c 2 t : Vec Ideal S512x128 .bf16)) (cur (iblk1 V c 6 t : Vec Ideal S512x3584 .bf16)) (cur3 (iblk1 V c 7 t : Vec Ideal S3x128x512 .bf16) 2) r q
      = Gd V c (tk (t.val % 24) r.val) (fc (t.val / 24) q.val) :=
  congrArg₂ (fun a b : EReal => a + b) (Finset.sum_congr rfl fun k _ => congrArg₂ (fun a b : EReal => a * b) (blk1_1 V c t r k) (blk1_6 V c t q k))
    (Finset.sum_congr rfl fun l _ => congrArg₂ (fun a b : EReal => a * b) (blk1_2 V c t r l) (blk1_7 V c t 2 l q))

theorem bA_at (c : Dev nD) (t : Fin cfg1.N) (r q : Fin 512) :
    bA (grid1.coords t) (iblk1 V c 0 t) (iblk1 V c 1 t) (iblk1 V c 2 t) (iblk1 V c 3 t) (iblk1 V c 4 t) (iblk1 V c 5 t) (iblk1 V c 6 t) (iblk1 V c 7 t) (ix2 r q) = A1 V c (tk (t.val % 24) r.val) (fc (t.val / 24) q.val) :=
  (bA_apply _ _ _ _ _ _ _ _ _ r q).trans (congrArg₂ aF (bg1 V c t r q) (bu1 V c t r q))
theorem bU_at (c : Dev nD) (t : Fin cfg1.N) (r q : Fin 512) :
    bU (grid1.coords t) (iblk1 V c 0 t) (iblk1 V c 1 t) (iblk1 V c 2 t) (iblk1 V c 3 t) (iblk1 V c 4 t) (iblk1 V c 5 t) (iblk1 V c 6 t) (iblk1 V c 7 t) (ix2 r q) = U1 V c (tk (t.val % 24) r.val) (fc (t.val / 24) q.val) :=
  (bU_apply _ _ _ _ _ _ _ _ _ r q).trans (congrArg₂ duF (bg1 V c t r q) (bd1 V c t r q))
theorem bG_at (c : Dev nD) (t : Fin cfg1.N) (r q : Fin 512) :
    bG (grid1.coords t) (iblk1 V c 0 t) (iblk1 V c 1 t) (iblk1 V c 2 t) (iblk1 V c 3 t) (iblk1 V c 4 t) (iblk1 V c 5 t) (iblk1 V c 6 t) (iblk1 V c 7 t) (ix2 r q) = G1 V c (tk (t.val % 24) r.val) (fc (t.val / 24) q.val) :=
  (bG_apply _ _ _ _ _ _ _ _ _ r q).trans (congr (congrArg₂ dgF (bg1 V c t r q) (bu1 V c t r q)) (bd1 V c t r q))

theorem oe1_8 (i : grid1.Coords) (x0 x1 x2 x3 x4 x5 x6 x7) : out1_8 (F := Ideal) i x0 x1 x2 x3 x4 x5 x6 x7 = bA i x0 x1 x2 x3 x4 x5 x6 x7 := by
  unfold out1_8
  rewrite [View.canon_unit_zero hz1]
  exact rfl
theorem arr1_8 (c : Dev nD) : (dat1 V c).arrAt 8 cfg1.N = fun i : S12288x18944.Idx => A1 V c (i 0) (i 1) := by
  refine (dat1 V c).arrAt_eq_of_cover 8 _ (fun t hf => ?_) (fun i => ?_)
  · have ht := lt1 t
    show (cfg1.win 8).cut (grid1.coords t) ((dat1 V c).after 8 t) = _
    rewrite [after1_8, oe1_8]
    funext y
    have hy : (cfg1.win 8).xinj (grid1.coords t) y = (ix2 (y 0 : Fin 512) (y 1 : Fin 512) : S512x512.Idx) := Shape.idx_ext₂ rfl rfl
    have hy0 : (y 0).val < 512 := (y 0).isLt
    have hy1 : (y 1).val < 512 := (y 1).isLt
    show bA (grid1.coords t) (iblk1 V c 0 t) (iblk1 V c 1 t) (iblk1 V c 2 t) (iblk1 V c 3 t) (iblk1 V c 4 t) (iblk1 V c 5 t) (iblk1 V c 6 t) (iblk1 V c 7 t) ((cfg1.win 8).xinj (grid1.coords t) y) = A1 V c (((cfg1.win 8).blk t).view.emb y 0) (((cfg1.win 8).blk t).view.emb y 1)
    refine (congrArg (bA (grid1.coords t) (iblk1 V c 0 t) (iblk1 V c 1 t) (iblk1 V c 2 t) (iblk1 V c 3 t) (iblk1 V c 4 t) (iblk1 V c 5 t) (iblk1 V c 6 t) (iblk1 V c 7 t)) hy).trans ((bA_at V c t (y 0) (y 1)).trans ?_)
    refine congrArg₂ (A1 V c) (Fin.ext ?_) (Fin.ext ?_)
    · show (tk (t.val % 24) (y 0).val).val = win1_8.index t (0 : Fin 2) * 512 + 1 * (y 0).val
      have := (idx1_8 t).1
      rewrite [tl_val _ _ _ _ _ (by omega)]; omega
    · show (fc (t.val / 24) (y 1).val).val = win1_8.index t (1 : Fin 2) * 512 + 1 * (y 1).val
      have := (idx1_8 t).2
      rewrite [tl_val _ _ _ _ _ (by omega)]; omega
  · have h0 : (i 0).val < 12288 := (i 0).isLt
    have h1 : (i 1).val < 18944 := (i 1).isLt
    let t : Fin cfg1.N := ⟨24 * ((i 1).val / 512) + (i 0).val / 512, lt_of_lt_of_eq (by omega) N_1.symm⟩
    have htv : t.val = 24 * ((i 1).val / 512) + (i 0).val / 512 := rfl
    refine ⟨t, fl1_8 t, ?_⟩
    show i ∈ ((View.whole main_v18_0).slice (win1_8.rect t)).set
    rewrite [View.set_slice_whole, Rect.mem_set_unit]
    have e := idx1_8 t
    intro a
    match a with
    | ⟨0, _⟩ => show win1_8.index t (0 : Fin 2) * 512 ≤ (i 0).val ∧ (i 0).val < win1_8.index t (0 : Fin 2) * 512 + 512; omega
    | ⟨1, _⟩ => show win1_8.index t (1 : Fin 2) * 512 ≤ (i 1).val ∧ (i 1).val < win1_8.index t (1 : Fin 2) * 512 + 512; omega

theorem oe1_9 (i : grid1.Coords) (x0 x1 x2 x3 x4 x5 x6 x7) : out1_9 (F := Ideal) i x0 x1 x2 x3 x4 x5 x6 x7 = bG i x0 x1 x2 x3 x4 x5 x6 x7 := by
  unfold out1_9
  rewrite [View.canon_unit_zero hz1]
  exact rfl
theorem arr1_9 (c : Dev nD) : (dat1 V c).arrAt 9 cfg1.N = fun i : S12288x18944.Idx => G1 V c (i 0) (i 1) := by
  refine (dat1 V c).arrAt_eq_of_cover 9 _ (fun t hf => ?_) (fun i => ?_)
  · have ht := lt1 t
    show (cfg1.win 9).cut (grid1.coords t) ((dat1 V c).after 9 t) = _
    rewrite [after1_9, oe1_9]
    funext y
    have hy : (cfg1.win 9).xinj (grid1.coords t) y = (ix2 (y 0 : Fin 512) (y 1 : Fin 512) : S512x512.Idx) := Shape.idx_ext₂ rfl rfl
    have hy0 : (y 0).val < 512 := (y 0).isLt
    have hy1 : (y 1).val < 512 := (y 1).isLt
    show bG (grid1.coords t) (iblk1 V c 0 t) (iblk1 V c 1 t) (iblk1 V c 2 t) (iblk1 V c 3 t) (iblk1 V c 4 t) (iblk1 V c 5 t) (iblk1 V c 6 t) (iblk1 V c 7 t) ((cfg1.win 9).xinj (grid1.coords t) y) = G1 V c (((cfg1.win 9).blk t).view.emb y 0) (((cfg1.win 9).blk t).view.emb y 1)
    refine (congrArg (bG (grid1.coords t) (iblk1 V c 0 t) (iblk1 V c 1 t) (iblk1 V c 2 t) (iblk1 V c 3 t) (iblk1 V c 4 t) (iblk1 V c 5 t) (iblk1 V c 6 t) (iblk1 V c 7 t)) hy).trans ((bG_at V c t (y 0) (y 1)).trans ?_)
    refine congrArg₂ (G1 V c) (Fin.ext ?_) (Fin.ext ?_)
    · show (tk (t.val % 24) (y 0).val).val = win1_9.index t (0 : Fin 2) * 512 + 1 * (y 0).val
      have := (idx1_9 t).1
      rewrite [tl_val _ _ _ _ _ (by omega)]; omega
    · show (fc (t.val / 24) (y 1).val).val = win1_9.index t (1 : Fin 2) * 512 + 1 * (y 1).val
      have := (idx1_9 t).2
      rewrite [tl_val _ _ _ _ _ (by omega)]; omega
  · have h0 : (i 0).val < 12288 := (i 0).isLt
    have h1 : (i 1).val < 18944 := (i 1).isLt
    let t : Fin cfg1.N := ⟨24 * ((i 1).val / 512) + (i 0).val / 512, lt_of_lt_of_eq (by omega) N_1.symm⟩
    have htv : t.val = 24 * ((i 1).val / 512) + (i 0).val / 512 := rfl
    refine ⟨t, fl1_9 t, ?_⟩
    show i ∈ ((View.whole main_v18_1).slice (win1_9.rect t)).set
    rewrite [View.set_slice_whole, Rect.mem_set_unit]
    have e := idx1_9 t
    intro a
    match a with
    | ⟨0, _⟩ => show win1_9.index t (0 : Fin 2) * 512 ≤ (i 0).val ∧ (i 0).val < win1_9.index t (0 : Fin 2) * 512 + 512; omega
    | ⟨1, _⟩ => show win1_9.index t (1 : Fin 2) * 512 ≤ (i 1).val ∧ (i 1).val < win1_9.index t (1 : Fin 2) * 512 + 512; omega

theorem oe1_10 (i : grid1.Coords) (x0 x1 x2 x3 x4 x5 x6 x7) : out1_10 (F := Ideal) i x0 x1 x2 x3 x4 x5 x6 x7 = bU i x0 x1 x2 x3 x4 x5 x6 x7 := by
  unfold out1_10
  rewrite [View.canon_unit_zero hz1]
  exact rfl
theorem arr1_10 (c : Dev nD) : (dat1 V c).arrAt 10 cfg1.N = fun i : S12288x18944.Idx => U1 V c (i 0) (i 1) := by
  refine (dat1 V c).arrAt_eq_of_cover 10 _ (fun t hf => ?_) (fun i => ?_)
  · have ht := lt1 t
    show (cfg1.win 10).cut (grid1.coords t) ((dat1 V c).after 10 t) = _
    rewrite [after1_10, oe1_10]
    funext y
    have hy : (cfg1.win 10).xinj (grid1.coords t) y = (ix2 (y 0 : Fin 512) (y 1 : Fin 512) : S512x512.Idx) := Shape.idx_ext₂ rfl rfl
    have hy0 : (y 0).val < 512 := (y 0).isLt
    have hy1 : (y 1).val < 512 := (y 1).isLt
    show bU (grid1.coords t) (iblk1 V c 0 t) (iblk1 V c 1 t) (iblk1 V c 2 t) (iblk1 V c 3 t) (iblk1 V c 4 t) (iblk1 V c 5 t) (iblk1 V c 6 t) (iblk1 V c 7 t) ((cfg1.win 10).xinj (grid1.coords t) y) = U1 V c (((cfg1.win 10).blk t).view.emb y 0) (((cfg1.win 10).blk t).view.emb y 1)
    refine (congrArg (bU (grid1.coords t) (iblk1 V c 0 t) (iblk1 V c 1 t) (iblk1 V c 2 t) (iblk1 V c 3 t) (iblk1 V c 4 t) (iblk1 V c 5 t) (iblk1 V c 6 t) (iblk1 V c 7 t)) hy).trans ((bU_at V c t (y 0) (y 1)).trans ?_)
    refine congrArg₂ (U1 V c) (Fin.ext ?_) (Fin.ext ?_)
    · show (tk (t.val % 24) (y 0).val).val = win1_10.index t (0 : Fin 2) * 512 + 1 * (y 0).val
      have := (idx1_10 t).1
      rewrite [tl_val _ _ _ _ _ (by omega)]; omega
    · show (fc (t.val / 24) (y 1).val).val = win1_10.index t (1 : Fin 2) * 512 + 1 * (y 1).val
      have := (idx1_10 t).2
      rewrite [tl_val _ _ _ _ _ (by omega)]; omega
  · have h0 : (i 0).val < 12288 := (i 0).isLt
    have h1 : (i 1).val < 18944 := (i 1).isLt
    let t : Fin cfg1.N := ⟨24 * ((i 1).val / 512) + (i 0).val / 512, lt_of_lt_of_eq (by omega) N_1.symm⟩
    have htv : t.val = 24 * ((i 1).val / 512) + (i 0).val / 512 := rfl
    refine ⟨t, fl1_10 t, ?_⟩
    show i ∈ ((View.whole main_v18_2).slice (win1_10.rect t)).set
    rewrite [View.set_slice_whole, Rect.mem_set_unit]
    have e := idx1_10 t
    intro a
    match a with
    | ⟨0, _⟩ => show win1_10.index t (0 : Fin 2) * 512 ≤ (i 0).val ∧ (i 0).val < win1_10.index t (0 : Fin 2) * 512 + 512; omega
    | ⟨1, _⟩ => show win1_10.index t (1 : Fin 2) * 512 ≤ (i 1).val ∧ (i 1).val < win1_10.index t (1 : Fin 2) * 512 + 512; omega

/-- One tile's part of a low-rank sum over tokens. -/
def oterm (Z : Fin 128 → Fin 12288 → EReal) (M : Fin 12288 → Fin 18944 → EReal) (l : Fin 128) (f : Fin 18944) (p : ℕ) : EReal :=
  ∑ k : Fin 512, Z l (tk p k.val) * M (tk p k.val) f

/-- Row `l` of the 32 read from row 0 on. -/
abbrev row1_11 (l : Fin 32) : Fin 128 := (⟨0 + l.val, by have := l.isLt; omega⟩ : Fin 128)
theorem zr1_11 (c : Dev nD) (t : Fin cfg1.N) (l : Fin 32) (k : Fin 512) : (View.ld (iblk1 V c 3 t : Vec Ideal S128x512 .bf16) r1_7 : Vec Ideal S32x512 .bf16) (ix2 l k) = cur (V c main_v8_2) (row1_11 l) (tk (t.val % 24) k.val) :=
  (congrArg (iblk1 V c 3 t : Vec Ideal S128x512 .bf16) (Shape.idx_ext₂ (y := ix2 (row1_11 l) k) (by show 0 + 1 * l.val = 0 + l.val; omega) (by show 0 + 1 * k.val = k.val; omega))).trans (blk1_3 V c t _ k)
theorem zs1_11 (c : Dev nD) (t : Fin cfg1.N) (l : Fin 32) (q : Fin 512) :
    (∑ k : Fin 512, cur (View.ld (iblk1 V c 3 t : Vec Ideal S128x512 .bf16) r1_7 : Vec Ideal S32x512 .bf16) l k * cur (bG (grid1.coords t) (iblk1 V c 0 t) (iblk1 V c 1 t) (iblk1 V c 2 t) (iblk1 V c 3 t) (iblk1 V c 4 t) (iblk1 V c 5 t) (iblk1 V c 6 t) (iblk1 V c 7 t)) k q)
      = oterm (cur (V c main_v8_2)) (G1 V c) (row1_11 l) (fc (t.val / 24) q.val) (t.val % 24) :=
  Finset.sum_congr rfl fun k _ => congrArg₂ (fun a b : EReal => a * b) (zr1_11 V c t l k) (bG_at V c t k q)
theorem f1_11 (c : Dev nD) (t : Fin cfg1.N) (h0 : t.val % 24 = 0) (y : Vec Ideal S32x512 .f32) (l : Fin 32) (q : Fin 512) :
    p1_11 V c t y (ix2 l q) = oterm (cur (V c main_v8_2)) (G1 V c) (row1_11 l) (fc (t.val / 24) q.val) (t.val % 24) := by
  unfold p1_11
  rewrite [out1_11_eq, cmp1_first _ ((coords1_1 t).trans h0), k1_run_first]
  exact zs1_11 V c t l q
theorem l1_11 (c : Dev nD) (t : Fin cfg1.N) (h0 : t.val % 24 ≠ 0) (y : Vec Ideal S32x512 .f32) (l : Fin 32) (q : Fin 512) :
    p1_11 V c t y (ix2 l q) = y (ix2 l q) + oterm (cur (V c main_v8_2)) (G1 V c) (row1_11 l) (fc (t.val / 24) q.val) (t.val % 24) := by
  unfold p1_11
  have hlt : (grid1.coords t 1).val < 37 := by rewrite [coords1_1]; omega
  rewrite [out1_11_eq, cmp1_later _ (fun e => h0 ((coords1_1 t).symm.trans e)) hlt, k1_run_later]
  exact congrArg (fun e : EReal => y (ix2 l q) + e) (zs1_11 V c t l q)
/-- The low-rank sum after a grid point. -/
theorem acc1_11_apply (c : Dev nD) (l : Fin 32) (q : Fin 512) : ∀ (n : ℕ) (h : n < cfg1.N),
    acc1_11 V c n h (ix2 l q) = ∑ p ∈ Finset.range (n % 24 + 1), oterm (cur (V c main_v8_2)) (G1 V c) (row1_11 l) (fc (n / 24) q.val) p := by
  intro n
  induction n with
  | zero =>
    intro h
    rewrite [acc1_11_zero]
    exact (f1_11 V c ⟨0, h⟩ rfl _ l q).trans (Finset.sum_range_one (oterm (cur (V c main_v8_2)) (G1 V c) (row1_11 l) (fc (0 / 24) q.val))).symm
  | succ n ih =>
    intro h
    rewrite [acc1_11_succ]
    by_cases h0 : (n + 1) % 24 = 0
    · refine (f1_11 V c ⟨n + 1, h⟩ h0 _ l q).trans ?_
      rewrite [h0]
      exact (Finset.sum_range_one (oterm (cur (V c main_v8_2)) (G1 V c) (row1_11 l) (fc ((n + 1) / 24) q.val))).symm
    · have e1 : n / 24 = (n + 1) / 24 := by omega
      have e2 : n % 24 + 1 = (n + 1) % 24 := by omega
      refine (l1_11 V c ⟨n + 1, h⟩ h0 _ l q).trans ?_
      rewrite [ih, e1, e2, Finset.sum_range_succ]
      exact rfl

theorem arr1_11 (c : Dev nD) : (dat1 V c).arrAt 11 cfg1.N
    = fun i : S32x18944.Idx => ∑ t : Fin 12288, cur (V c main_v8_2) (row1_11 (i 0)) t * G1 V c t (i 1) := by
  refine (dat1 V c).arrAt_eq_of_cover 11 _ (fun t hf => ?_) (fun i => ?_)
  · have ht := lt1 t
    have hm := (fl1_11 t).mp hf
    show (cfg1.win 11).cut (grid1.coords t) ((dat1 V c).after 11 t) = _
    rewrite [after1_11]
    funext y
    have hy : (cfg1.win 11).xinj (grid1.coords t) y = (ix2 (y 0 : Fin 32) (y 1 : Fin 512) : S32x512.Idx) := Shape.idx_ext₂ rfl rfl
    have hy1 : (y 1).val < 512 := (y 1).isLt
    have e0 : (y 0 : Fin 32) = (((cfg1.win 11).blk t).view.emb y 0 : Fin 32) := Fin.ext (by
      show (y 0).val = win1_11.index t (0 : Fin 2) * 32 + 1 * (y 0).val
      have := (idx1_11 t).1; omega)
    have e1 : fc (t.val / 24) (y 1).val = (((cfg1.win 11).blk t).view.emb y 1 : Fin 18944) := Fin.ext (by
      show (fc (t.val / 24) (y 1).val).val = win1_11.index t (1 : Fin 2) * 512 + 1 * (y 1).val
      have := (idx1_11 t).2
      rewrite [tl_val _ _ _ _ _ (by omega)]; omega)
    show acc1_11 V c t.val t.isLt ((cfg1.win 11).xinj (grid1.coords t) y)
      = ∑ k : Fin 12288, cur (V c main_v8_2) (row1_11 (((cfg1.win 11).blk t).view.emb y 0)) k * G1 V c k (((cfg1.win 11).blk t).view.emb y 1)
    refine (congrArg (acc1_11 V c t.val t.isLt) hy).trans ((acc1_11_apply V c (y 0) (y 1) t.val t.isLt).trans ?_)
    refine ((congrArg (fun n => ∑ p ∈ Finset.range (n + 1), oterm (cur (V c main_v8_2)) (G1 V c) (row1_11 (y 0)) (fc (t.val / 24) (y 1).val) p) hm).trans
      (sum_range_tiles 24 512 12288 rfl _ (fun k => cur (V c main_v8_2) (row1_11 (y 0)) k * G1 V c k (fc (t.val / 24) (y 1).val)))).trans ?_
    exact congrArg₂ (fun (a : Fin 32) (b : Fin 18944) => ∑ k : Fin 12288, cur (V c main_v8_2) (row1_11 a) k * G1 V c k b) e0 e1
  · have h0 : (i 0).val < 32 := (i 0).isLt
    have h1 : (i 1).val < 18944 := (i 1).isLt
    let t : Fin cfg1.N := ⟨24 * ((i 1).val / 512) + 23, lt_of_lt_of_eq (by omega) N_1.symm⟩
    have htv : t.val = 24 * ((i 1).val / 512) + 23 := rfl
    refine ⟨t, (fl1_11 t).mpr (by omega), ?_⟩
    show i ∈ ((View.whole main_v18_3).slice (win1_11.rect t)).set
    rewrite [View.set_slice_whole, Rect.mem_set_unit]
    have e := idx1_11 t
    intro a
    match a with
    | ⟨0, _⟩ => show win1_11.index t (0 : Fin 2) * 32 ≤ (i 0).val ∧ (i 0).val < win1_11.index t (0 : Fin 2) * 32 + 32; omega
    | ⟨1, _⟩ => show win1_11.index t (1 : Fin 2) * 512 ≤ (i 1).val ∧ (i 1).val < win1_11.index t (1 : Fin 2) * 512 + 512; omega

/-- Row `l` of the 32 read from row 32 on. -/
abbrev row1_12 (l : Fin 32) : Fin 128 := (⟨32 + l.val, by have := l.isLt; omega⟩ : Fin 128)
theorem zr1_12 (c : Dev nD) (t : Fin cfg1.N) (l : Fin 32) (k : Fin 512) : (View.ld (iblk1 V c 3 t : Vec Ideal S128x512 .bf16) r1_8 : Vec Ideal S32x512 .bf16) (ix2 l k) = cur (V c main_v8_2) (row1_12 l) (tk (t.val % 24) k.val) :=
  (congrArg (iblk1 V c 3 t : Vec Ideal S128x512 .bf16) (Shape.idx_ext₂ (y := ix2 (row1_12 l) k) (by show 32 + 1 * l.val = 32 + l.val; omega) (by show 0 + 1 * k.val = k.val; omega))).trans (blk1_3 V c t _ k)
theorem zs1_12 (c : Dev nD) (t : Fin cfg1.N) (l : Fin 32) (q : Fin 512) :
    (∑ k : Fin 512, cur (View.ld (iblk1 V c 3 t : Vec Ideal S128x512 .bf16) r1_8 : Vec Ideal S32x512 .bf16) l k * cur (bU (grid1.coords t) (iblk1 V c 0 t) (iblk1 V c 1 t) (iblk1 V c 2 t) (iblk1 V c 3 t) (iblk1 V c 4 t) (iblk1 V c 5 t) (iblk1 V c 6 t) (iblk1 V c 7 t)) k q)
      = oterm (cur (V c main_v8_2)) (U1 V c) (row1_12 l) (fc (t.val / 24) q.val) (t.val % 24) :=
  Finset.sum_congr rfl fun k _ => congrArg₂ (fun a b : EReal => a * b) (zr1_12 V c t l k) (bU_at V c t k q)
theorem f1_12 (c : Dev nD) (t : Fin cfg1.N) (h0 : t.val % 24 = 0) (y : Vec Ideal S32x512 .f32) (l : Fin 32) (q : Fin 512) :
    p1_12 V c t y (ix2 l q) = oterm (cur (V c main_v8_2)) (U1 V c) (row1_12 l) (fc (t.val / 24) q.val) (t.val % 24) := by
  unfold p1_12
  rewrite [out1_12_eq, cmp1_first _ ((coords1_1 t).trans h0), k1_run_first]
  exact zs1_12 V c t l q
theorem l1_12 (c : Dev nD) (t : Fin cfg1.N) (h0 : t.val % 24 ≠ 0) (y : Vec Ideal S32x512 .f32) (l : Fin 32) (q : Fin 512) :
    p1_12 V c t y (ix2 l q) = y (ix2 l q) + oterm (cur (V c main_v8_2)) (U1 V c) (row1_12 l) (fc (t.val / 24) q.val) (t.val % 24) := by
  unfold p1_12
  have hlt : (grid1.coords t 1).val < 37 := by rewrite [coords1_1]; omega
  rewrite [out1_12_eq, cmp1_later _ (fun e => h0 ((coords1_1 t).symm.trans e)) hlt, k1_run_later]
  exact congrArg (fun e : EReal => y (ix2 l q) + e) (zs1_12 V c t l q)
/-- The low-rank sum after a grid point. -/
theorem acc1_12_apply (c : Dev nD) (l : Fin 32) (q : Fin 512) : ∀ (n : ℕ) (h : n < cfg1.N),
    acc1_12 V c n h (ix2 l q) = ∑ p ∈ Finset.range (n % 24 + 1), oterm (cur (V c main_v8_2)) (U1 V c) (row1_12 l) (fc (n / 24) q.val) p := by
  intro n
  induction n with
  | zero =>
    intro h
    rewrite [acc1_12_zero]
    exact (f1_12 V c ⟨0, h⟩ rfl _ l q).trans (Finset.sum_range_one (oterm (cur (V c main_v8_2)) (U1 V c) (row1_12 l) (fc (0 / 24) q.val))).symm
  | succ n ih =>
    intro h
    rewrite [acc1_12_succ]
    by_cases h0 : (n + 1) % 24 = 0
    · refine (f1_12 V c ⟨n + 1, h⟩ h0 _ l q).trans ?_
      rewrite [h0]
      exact (Finset.sum_range_one (oterm (cur (V c main_v8_2)) (U1 V c) (row1_12 l) (fc ((n + 1) / 24) q.val))).symm
    · have e1 : n / 24 = (n + 1) / 24 := by omega
      have e2 : n % 24 + 1 = (n + 1) % 24 := by omega
      refine (l1_12 V c ⟨n + 1, h⟩ h0 _ l q).trans ?_
      rewrite [ih, e1, e2, Finset.sum_range_succ]
      exact rfl

theorem arr1_12 (c : Dev nD) : (dat1 V c).arrAt 12 cfg1.N
    = fun i : S32x18944.Idx => ∑ t : Fin 12288, cur (V c main_v8_2) (row1_12 (i 0)) t * U1 V c t (i 1) := by
  refine (dat1 V c).arrAt_eq_of_cover 12 _ (fun t hf => ?_) (fun i => ?_)
  · have ht := lt1 t
    have hm := (fl1_12 t).mp hf
    show (cfg1.win 12).cut (grid1.coords t) ((dat1 V c).after 12 t) = _
    rewrite [after1_12]
    funext y
    have hy : (cfg1.win 12).xinj (grid1.coords t) y = (ix2 (y 0 : Fin 32) (y 1 : Fin 512) : S32x512.Idx) := Shape.idx_ext₂ rfl rfl
    have hy1 : (y 1).val < 512 := (y 1).isLt
    have e0 : (y 0 : Fin 32) = (((cfg1.win 12).blk t).view.emb y 0 : Fin 32) := Fin.ext (by
      show (y 0).val = win1_12.index t (0 : Fin 2) * 32 + 1 * (y 0).val
      have := (idx1_12 t).1; omega)
    have e1 : fc (t.val / 24) (y 1).val = (((cfg1.win 12).blk t).view.emb y 1 : Fin 18944) := Fin.ext (by
      show (fc (t.val / 24) (y 1).val).val = win1_12.index t (1 : Fin 2) * 512 + 1 * (y 1).val
      have := (idx1_12 t).2
      rewrite [tl_val _ _ _ _ _ (by omega)]; omega)
    show acc1_12 V c t.val t.isLt ((cfg1.win 12).xinj (grid1.coords t) y)
      = ∑ k : Fin 12288, cur (V c main_v8_2) (row1_12 (((cfg1.win 12).blk t).view.emb y 0)) k * U1 V c k (((cfg1.win 12).blk t).view.emb y 1)
    refine (congrArg (acc1_12 V c t.val t.isLt) hy).trans ((acc1_12_apply V c (y 0) (y 1) t.val t.isLt).trans ?_)
    refine ((congrArg (fun n => ∑ p ∈ Finset.range (n + 1), oterm (cur (V c main_v8_2)) (U1 V c) (row1_12 (y 0)) (fc (t.val / 24) (y 1).val) p) hm).trans
      (sum_range_tiles 24 512 12288 rfl _ (fun k => cur (V c main_v8_2) (row1_12 (y 0)) k * U1 V c k (fc (t.val / 24) (y 1).val)))).trans ?_
    exact congrArg₂ (fun (a : Fin 32) (b : Fin 18944) => ∑ k : Fin 12288, cur (V c main_v8_2) (row1_12 a) k * U1 V c k b) e0 e1
  · have h0 : (i 0).val < 32 := (i 0).isLt
    have h1 : (i 1).val < 18944 := (i 1).isLt
    let t : Fin cfg1.N := ⟨24 * ((i 1).val / 512) + 23, lt_of_lt_of_eq (by omega) N_1.symm⟩
    have htv : t.val = 24 * ((i 1).val / 512) + 23 := rfl
    refine ⟨t, (fl1_12 t).mpr (by omega), ?_⟩
    show i ∈ ((View.whole main_v18_4).slice (win1_12.rect t)).set
    rewrite [View.set_slice_whole, Rect.mem_set_unit]
    have e := idx1_12 t
    intro a
    match a with
    | ⟨0, _⟩ => show win1_12.index t (0 : Fin 2) * 32 ≤ (i 0).val ∧ (i 0).val < win1_12.index t (0 : Fin 2) * 32 + 32; omega
    | ⟨1, _⟩ => show win1_12.index t (1 : Fin 2) * 512 ≤ (i 1).val ∧ (i 1).val < win1_12.index t (1 : Fin 2) * 512 + 512; omega

/-- Row `l` of the 32 read from row 64 on. -/
abbrev row1_13 (l : Fin 32) : Fin 128 := (⟨64 + l.val, by have := l.isLt; omega⟩ : Fin 128)
theorem zr1_13 (c : Dev nD) (t : Fin cfg1.N) (l : Fin 32) (k : Fin 512) : (View.ld (iblk1 V c 3 t : Vec Ideal S128x512 .bf16) r1_9 : Vec Ideal S32x512 .bf16) (ix2 l k) = cur (V c main_v8_2) (row1_13 l) (tk (t.val % 24) k.val) :=
  (congrArg (iblk1 V c 3 t : Vec Ideal S128x512 .bf16) (Shape.idx_ext₂ (y := ix2 (row1_13 l) k) (by show 64 + 1 * l.val = 64 + l.val; omega) (by show 0 + 1 * k.val = k.val; omega))).trans (blk1_3 V c t _ k)
theorem zs1_13 (c : Dev nD) (t : Fin cfg1.N) (l : Fin 32) (q : Fin 512) :
    (∑ k : Fin 512, cur (View.ld (iblk1 V c 3 t : Vec Ideal S128x512 .bf16) r1_9 : Vec Ideal S32x512 .bf16) l k * cur (bA (grid1.coords t) (iblk1 V c 0 t) (iblk1 V c 1 t) (iblk1 V c 2 t) (iblk1 V c 3 t) (iblk1 V c 4 t) (iblk1 V c 5 t) (iblk1 V c 6 t) (iblk1 V c 7 t)) k q)
      = oterm (cur (V c main_v8_2)) (A1 V c) (row1_13 l) (fc (t.val / 24) q.val) (t.val % 24) :=
  Finset.sum_congr rfl fun k _ => congrArg₂ (fun a b : EReal => a * b) (zr1_13 V c t l k) (bA_at V c t k q)
theorem f1_13 (c : Dev nD) (t : Fin cfg1.N) (h0 : t.val % 24 = 0) (y : Vec Ideal S32x512 .f32) (l : Fin 32) (q : Fin 512) :
    p1_13 V c t y (ix2 l q) = oterm (cur (V c main_v8_2)) (A1 V c) (row1_13 l) (fc (t.val / 24) q.val) (t.val % 24) := by
  unfold p1_13
  rewrite [out1_13_eq, cmp1_first _ ((coords1_1 t).trans h0), k1_run_first]
  exact zs1_13 V c t l q
theorem l1_13 (c : Dev nD) (t : Fin cfg1.N) (h0 : t.val % 24 ≠ 0) (y : Vec Ideal S32x512 .f32) (l : Fin 32) (q : Fin 512) :
    p1_13 V c t y (ix2 l q) = y (ix2 l q) + oterm (cur (V c main_v8_2)) (A1 V c) (row1_13 l) (fc (t.val / 24) q.val) (t.val % 24) := by
  unfold p1_13
  have hlt : (grid1.coords t 1).val < 37 := by rewrite [coords1_1]; omega
  rewrite [out1_13_eq, cmp1_later _ (fun e => h0 ((coords1_1 t).symm.trans e)) hlt, k1_run_later]
  exact congrArg (fun e : EReal => y (ix2 l q) + e) (zs1_13 V c t l q)
/-- The low-rank sum after a grid point. -/
theorem acc1_13_apply (c : Dev nD) (l : Fin 32) (q : Fin 512) : ∀ (n : ℕ) (h : n < cfg1.N),
    acc1_13 V c n h (ix2 l q) = ∑ p ∈ Finset.range (n % 24 + 1), oterm (cur (V c main_v8_2)) (A1 V c) (row1_13 l) (fc (n / 24) q.val) p := by
  intro n
  induction n with
  | zero =>
    intro h
    rewrite [acc1_13_zero]
    exact (f1_13 V c ⟨0, h⟩ rfl _ l q).trans (Finset.sum_range_one (oterm (cur (V c main_v8_2)) (A1 V c) (row1_13 l) (fc (0 / 24) q.val))).symm
  | succ n ih =>
    intro h
    rewrite [acc1_13_succ]
    by_cases h0 : (n + 1) % 24 = 0
    · refine (f1_13 V c ⟨n + 1, h⟩ h0 _ l q).trans ?_
      rewrite [h0]
      exact (Finset.sum_range_one (oterm (cur (V c main_v8_2)) (A1 V c) (row1_13 l) (fc ((n + 1) / 24) q.val))).symm
    · have e1 : n / 24 = (n + 1) / 24 := by omega
      have e2 : n % 24 + 1 = (n + 1) % 24 := by omega
      refine (l1_13 V c ⟨n + 1, h⟩ h0 _ l q).trans ?_
      rewrite [ih, e1, e2, Finset.sum_range_succ]
      exact rfl

theorem arr1_13 (c : Dev nD) : (dat1 V c).arrAt 13 cfg1.N
    = fun i : S32x18944.Idx => ∑ t : Fin 12288, cur (V c main_v8_2) (row1_13 (i 0)) t * A1 V c t (i 1) := by
  refine (dat1 V c).arrAt_eq_of_cover 13 _ (fun t hf => ?_) (fun i => ?_)
  · have ht := lt1 t
    have hm := (fl1_13 t).mp hf
    show (cfg1.win 13).cut (grid1.coords t) ((dat1 V c).after 13 t) = _
    rewrite [after1_13]
    funext y
    have hy : (cfg1.win 13).xinj (grid1.coords t) y = (ix2 (y 0 : Fin 32) (y 1 : Fin 512) : S32x512.Idx) := Shape.idx_ext₂ rfl rfl
    have hy1 : (y 1).val < 512 := (y 1).isLt
    have e0 : (y 0 : Fin 32) = (((cfg1.win 13).blk t).view.emb y 0 : Fin 32) := Fin.ext (by
      show (y 0).val = win1_13.index t (0 : Fin 2) * 32 + 1 * (y 0).val
      have := (idx1_13 t).1; omega)
    have e1 : fc (t.val / 24) (y 1).val = (((cfg1.win 13).blk t).view.emb y 1 : Fin 18944) := Fin.ext (by
      show (fc (t.val / 24) (y 1).val).val = win1_13.index t (1 : Fin 2) * 512 + 1 * (y 1).val
      have := (idx1_13 t).2
      rewrite [tl_val _ _ _ _ _ (by omega)]; omega)
    show acc1_13 V c t.val t.isLt ((cfg1.win 13).xinj (grid1.coords t) y)
      = ∑ k : Fin 12288, cur (V c main_v8_2) (row1_13 (((cfg1.win 13).blk t).view.emb y 0)) k * A1 V c k (((cfg1.win 13).blk t).view.emb y 1)
    refine (congrArg (acc1_13 V c t.val t.isLt) hy).trans ((acc1_13_apply V c (y 0) (y 1) t.val t.isLt).trans ?_)
    refine ((congrArg (fun n => ∑ p ∈ Finset.range (n + 1), oterm (cur (V c main_v8_2)) (A1 V c) (row1_13 (y 0)) (fc (t.val / 24) (y 1).val) p) hm).trans
      (sum_range_tiles 24 512 12288 rfl _ (fun k => cur (V c main_v8_2) (row1_13 (y 0)) k * A1 V c k (fc (t.val / 24) (y 1).val)))).trans ?_
    exact congrArg₂ (fun (a : Fin 32) (b : Fin 18944) => ∑ k : Fin 12288, cur (V c main_v8_2) (row1_13 a) k * A1 V c k b) e0 e1
  · have h0 : (i 0).val < 32 := (i 0).isLt
    have h1 : (i 1).val < 18944 := (i 1).isLt
    let t : Fin cfg1.N := ⟨24 * ((i 1).val / 512) + 23, lt_of_lt_of_eq (by omega) N_1.symm⟩
    have htv : t.val = 24 * ((i 1).val / 512) + 23 := rfl
    refine ⟨t, (fl1_13 t).mpr (by omega), ?_⟩
    show i ∈ ((View.whole main_v18_5).slice (win1_13.rect t)).set
    rewrite [View.set_slice_whole, Rect.mem_set_unit]
    have e := idx1_13 t
    intro a
    match a with
    | ⟨0, _⟩ => show win1_13.index t (0 : Fin 2) * 32 ≤ (i 0).val ∧ (i 0).val < win1_13.index t (0 : Fin 2) * 32 + 32; omega
    | ⟨1, _⟩ => show win1_13.index t (1 : Fin 2) * 512 ≤ (i 1).val ∧ (i 1).val < win1_13.index t (1 : Fin 2) * 512 + 512; omega

/-- One tile's part of a sum over the inner features. -/
def sterm (L : Fin 128 → Fin 18944 → EReal) (M : Fin 12288 → Fin 18944 → EReal) (l : Fin 128) (r : Fin 12288) (p : ℕ) : EReal :=
  ∑ k : Fin 512, L l (fc p k.val) * M r (fc p k.val)

/-- Row `l` of the 32 rows from 0 on, of a slab. -/
abbrev srow0 (l : Fin 32) : Fin 96 := ⟨0 + l.val, by have := l.isLt; omega⟩
theorem ss0 (c : Dev nD) (t : Fin cfg1.N) (l : Fin 32) (q : Fin 512) :
    (∑ k : Fin 512, cur3 (iblk1 V c 7 t : Vec Ideal S3x128x512 .bf16) 0 (row1_11 l) k * cur (bG (grid1.coords t) (iblk1 V c 0 t) (iblk1 V c 1 t) (iblk1 V c 2 t) (iblk1 V c 3 t) (iblk1 V c 4 t) (iblk1 V c 5 t) (iblk1 V c 6 t) (iblk1 V c 7 t)) q k)
      = sterm (cur3 (V c main_v17) 0) (G1 V c) (row1_11 l) (tk (t.val % 24) q.val) (t.val / 24) :=
  Finset.sum_congr rfl fun k _ => congrArg₂ (fun a b : EReal => a * b) (blk1_7 V c t 0 _ k) (bG_at V c t q k)
theorem son0 (c : Dev nD) (t : Fin cfg1.N) (y : Vec Ideal S24x96x512 .f32) (s : Fin 24) (hs : t.val % 24 = s.val) (l : Fin 32) (q : Fin 512) :
    p1_14 V c t y (ix3 s (srow0 l) q) = (if t.val / 24 = 0 then 0 else (y (ix3 s (srow0 l) q) : EReal))
      + sterm (cur3 (V c main_v17) 0) (G1 V c) (row1_11 l) (tk s.val q.val) (t.val / 24) := by
  obtain rfl : (grid1.coords t 1 : Fin 24) = s := Fin.ext ((coords1_1 t).trans hs)
  unfold p1_14
  refine (slabv1_0 _ _ _ _ _ _ _ _ _ y l q (by have := l.isLt; omega) (by have := l.isLt; omega)).trans ?_
  rewrite [coords1_0, coords1_1]
  exact congrArg (fun e : EReal => (if t.val / 24 = 0 then 0 else (y (ix3 (grid1.coords t 1 : Fin 24) (srow0 l) q) : EReal)) + e) (ss0 V c t l q)
theorem soff0 (c : Dev nD) (t : Fin cfg1.N) (y : Vec Ideal S24x96x512 .f32) (s : Fin 24) (hs : t.val % 24 ≠ s.val) (l : Fin 32) (q : Fin 512) :
    p1_14 V c t y (ix3 s (srow0 l) q) = y (ix3 s (srow0 l) q) :=
  out1_14_off _ _ _ _ _ _ _ _ _ y _ (fun e => hs ((coords1_1 t).symm.trans e.symm))
/-- A slab's rows after the first `n` grid points. -/
theorem z3_0 (c : Dev nD) (s : Fin 24) (l : Fin 32) (q : Fin 512) : ∀ n : ℕ, n ≤ cfg1.N → s.val < n →
    z3at V c n (ix3 s (srow0 l) q) = ∑ p ∈ Finset.range ((n + 23 - s.val) / 24), sterm (cur3 (V c main_v17) 0) (G1 V c) (row1_11 l) (tk s.val q.val) p := by
  intro n
  induction n with
  | zero => intro _ h; exact absurd h (Nat.not_lt_zero _)
  | succ n ih =>
    intro hn hsn
    have hs24 := s.isLt
    rewrite [z3at_succ V c ⟨n, hn⟩]
    by_cases hs : n % 24 = s.val
    · refine (son0 V c ⟨n, hn⟩ _ s hs l q).trans ?_
      show (if n / 24 = 0 then 0 else (z3at V c n (ix3 s (srow0 l) q) : EReal)) + sterm (cur3 (V c main_v17) 0) (G1 V c) (row1_11 l) (tk s.val q.val) (n / 24) = _
      rewrite [show (n + 1 + 23 - s.val) / 24 = n / 24 + 1 by omega, Finset.sum_range_succ]
      by_cases hf : n / 24 = 0
      · rewrite [if_pos hf, hf, Finset.sum_range_zero]; exact rfl
      · rewrite [if_neg hf, ih (by omega) (by omega), show (n + 23 - s.val) / 24 = n / 24 by omega]; exact rfl
    · refine (soff0 V c ⟨n, hn⟩ _ s hs l q).trans ?_
      rewrite [show (n + 1 + 23 - s.val) / 24 = (n + 23 - s.val) / 24 by omega]
      exact ih (by omega) (by omega)
/-- A finished slab's rows. -/
theorem z3f_0 (c : Dev nD) (s : Fin 24) (l : Fin 32) (q : Fin 512) :
    z3at V c 888 (ix3 s (srow0 l) q) = ∑ f, cur3 (V c main_v17) 0 (row1_11 l) f * G1 V c (tk s.val q.val) f := by
  have hs24 := s.isLt
  rewrite [z3_0 V c s l q 888 (le_of_eq N_1.symm) (by omega), show (888 + 23 - s.val) / 24 = 37 by omega]
  exact sum_range_tiles 37 512 18944 rfl _ (fun f => cur3 (V c main_v17) 0 (row1_11 l) f * G1 V c (tk s.val q.val) f)

/-- Row `l` of the 32 rows from 32 on, of a slab. -/
abbrev srow1 (l : Fin 32) : Fin 96 := ⟨32 + l.val, by have := l.isLt; omega⟩
theorem ss1 (c : Dev nD) (t : Fin cfg1.N) (l : Fin 32) (q : Fin 512) :
    (∑ k : Fin 512, cur3 (iblk1 V c 7 t : Vec Ideal S3x128x512 .bf16) 1 (row1_12 l) k * cur (bU (grid1.coords t) (iblk1 V c 0 t) (iblk1 V c 1 t) (iblk1 V c 2 t) (iblk1 V c 3 t) (iblk1 V c 4 t) (iblk1 V c 5 t) (iblk1 V c 6 t) (iblk1 V c 7 t)) q k)
      = sterm (cur3 (V c main_v17) 1) (U1 V c) (row1_12 l) (tk (t.val % 24) q.val) (t.val / 24) :=
  Finset.sum_congr rfl fun k _ => congrArg₂ (fun a b : EReal => a * b) (blk1_7 V c t 1 _ k) (bU_at V c t q k)
theorem son1 (c : Dev nD) (t : Fin cfg1.N) (y : Vec Ideal S24x96x512 .f32) (s : Fin 24) (hs : t.val % 24 = s.val) (l : Fin 32) (q : Fin 512) :
    p1_14 V c t y (ix3 s (srow1 l) q) = (if t.val / 24 = 0 then 0 else (y (ix3 s (srow1 l) q) : EReal))
      + sterm (cur3 (V c main_v17) 1) (U1 V c) (row1_12 l) (tk s.val q.val) (t.val / 24) := by
  obtain rfl : (grid1.coords t 1 : Fin 24) = s := Fin.ext ((coords1_1 t).trans hs)
  unfold p1_14
  refine (slabv1_1 _ _ _ _ _ _ _ _ _ y l q (by have := l.isLt; omega) (by have := l.isLt; omega)).trans ?_
  rewrite [coords1_0, coords1_1]
  exact congrArg (fun e : EReal => (if t.val / 24 = 0 then 0 else (y (ix3 (grid1.coords t 1 : Fin 24) (srow1 l) q) : EReal)) + e) (ss1 V c t l q)
theorem soff1 (c : Dev nD) (t : Fin cfg1.N) (y : Vec Ideal S24x96x512 .f32) (s : Fin 24) (hs : t.val % 24 ≠ s.val) (l : Fin 32) (q : Fin 512) :
    p1_14 V c t y (ix3 s (srow1 l) q) = y (ix3 s (srow1 l) q) :=
  out1_14_off _ _ _ _ _ _ _ _ _ y _ (fun e => hs ((coords1_1 t).symm.trans e.symm))
/-- A slab's rows after the first `n` grid points. -/
theorem z3_1 (c : Dev nD) (s : Fin 24) (l : Fin 32) (q : Fin 512) : ∀ n : ℕ, n ≤ cfg1.N → s.val < n →
    z3at V c n (ix3 s (srow1 l) q) = ∑ p ∈ Finset.range ((n + 23 - s.val) / 24), sterm (cur3 (V c main_v17) 1) (U1 V c) (row1_12 l) (tk s.val q.val) p := by
  intro n
  induction n with
  | zero => intro _ h; exact absurd h (Nat.not_lt_zero _)
  | succ n ih =>
    intro hn hsn
    have hs24 := s.isLt
    rewrite [z3at_succ V c ⟨n, hn⟩]
    by_cases hs : n % 24 = s.val
    · refine (son1 V c ⟨n, hn⟩ _ s hs l q).trans ?_
      show (if n / 24 = 0 then 0 else (z3at V c n (ix3 s (srow1 l) q) : EReal)) + sterm (cur3 (V c main_v17) 1) (U1 V c) (row1_12 l) (tk s.val q.val) (n / 24) = _
      rewrite [show (n + 1 + 23 - s.val) / 24 = n / 24 + 1 by omega, Finset.sum_range_succ]
      by_cases hf : n / 24 = 0
      · rewrite [if_pos hf, hf, Finset.sum_range_zero]; exact rfl
      · rewrite [if_neg hf, ih (by omega) (by omega), show (n + 23 - s.val) / 24 = n / 24 by omega]; exact rfl
    · refine (soff1 V c ⟨n, hn⟩ _ s hs l q).trans ?_
      rewrite [show (n + 1 + 23 - s.val) / 24 = (n + 23 - s.val) / 24 by omega]
      exact ih (by omega) (by omega)
/-- A finished slab's rows. -/
theorem z3f_1 (c : Dev nD) (s : Fin 24) (l : Fin 32) (q : Fin 512) :
    z3at V c 888 (ix3 s (srow1 l) q) = ∑ f, cur3 (V c main_v17) 1 (row1_12 l) f * U1 V c (tk s.val q.val) f := by
  have hs24 := s.isLt
  rewrite [z3_1 V c s l q 888 (le_of_eq N_1.symm) (by omega), show (888 + 23 - s.val) / 24 = 37 by omega]
  exact sum_range_tiles 37 512 18944 rfl _ (fun f => cur3 (V c main_v17) 1 (row1_12 l) f * U1 V c (tk s.val q.val) f)

/-- Row `l` of the 32 rows from 64 on, of a slab. -/
abbrev srow2 (l : Fin 32) : Fin 96 := ⟨64 + l.val, by have := l.isLt; omega⟩
theorem ss2 (c : Dev nD) (t : Fin cfg1.N) (l : Fin 32) (q : Fin 512) :
    (∑ k : Fin 512, cur3 (iblk1 V c 7 t : Vec Ideal S3x128x512 .bf16) 2 (row1_13 l) k * cur (bA (grid1.coords t) (iblk1 V c 0 t) (iblk1 V c 1 t) (iblk1 V c 2 t) (iblk1 V c 3 t) (iblk1 V c 4 t) (iblk1 V c 5 t) (iblk1 V c 6 t) (iblk1 V c 7 t)) q k)
      = sterm (cur3 (V c main_v17) 2) (A1 V c) (row1_13 l) (tk (t.val % 24) q.val) (t.val / 24) :=
  Finset.sum_congr rfl fun k _ => congrArg₂ (fun a b : EReal => a * b) (blk1_7 V c t 2 _ k) (bA_at V c t q k)
theorem son2 (c : Dev nD) (t : Fin cfg1.N) (y : Vec Ideal S24x96x512 .f32) (s : Fin 24) (hs : t.val % 24 = s.val) (l : Fin 32) (q : Fin 512) :
    p1_14 V c t y (ix3 s (srow2 l) q) = (if t.val / 24 = 0 then 0 else (y (ix3 s (srow2 l) q) : EReal))
      + sterm (cur3 (V c main_v17) 2) (A1 V c) (row1_13 l) (tk s.val q.val) (t.val / 24) := by
  obtain rfl : (grid1.coords t 1 : Fin 24) = s := Fin.ext ((coords1_1 t).trans hs)
  unfold p1_14
  refine (slabv1_2 _ _ _ _ _ _ _ _ _ y l q (by have := l.isLt; omega) (by have := l.isLt; omega)).trans ?_
  rewrite [coords1_0, coords1_1]
  exact congrArg (fun e : EReal => (if t.val / 24 = 0 then 0 else (y (ix3 (grid1.coords t 1 : Fin 24) (srow2 l) q) : EReal)) + e) (ss2 V c t l q)
theorem soff2 (c : Dev nD) (t : Fin cfg1.N) (y : Vec Ideal S24x96x512 .f32) (s : Fin 24) (hs : t.val % 24 ≠ s.val) (l : Fin 32) (q : Fin 512) :
    p1_14 V c t y (ix3 s (srow2 l) q) = y (ix3 s (srow2 l) q) :=
  out1_14_off _ _ _ _ _ _ _ _ _ y _ (fun e => hs ((coords1_1 t).symm.trans e.symm))
/-- A slab's rows after the first `n` grid points. -/
theorem z3_2 (c : Dev nD) (s : Fin 24) (l : Fin 32) (q : Fin 512) : ∀ n : ℕ, n ≤ cfg1.N → s.val < n →
    z3at V c n (ix3 s (srow2 l) q) = ∑ p ∈ Finset.range ((n + 23 - s.val) / 24), sterm (cur3 (V c main_v17) 2) (A1 V c) (row1_13 l) (tk s.val q.val) p := by
  intro n
  induction n with
  | zero => intro _ h; exact absurd h (Nat.not_lt_zero _)
  | succ n ih =>
    intro hn hsn
    have hs24 := s.isLt
    rewrite [z3at_succ V c ⟨n, hn⟩]
    by_cases hs : n % 24 = s.val
    · refine (son2 V c ⟨n, hn⟩ _ s hs l q).trans ?_
      show (if n / 24 = 0 then 0 else (z3at V c n (ix3 s (srow2 l) q) : EReal)) + sterm (cur3 (V c main_v17) 2) (A1 V c) (row1_13 l) (tk s.val q.val) (n / 24) = _
      rewrite [show (n + 1 + 23 - s.val) / 24 = n / 24 + 1 by omega, Finset.sum_range_succ]
      by_cases hf : n / 24 = 0
      · rewrite [if_pos hf, hf, Finset.sum_range_zero]; exact rfl
      · rewrite [if_neg hf, ih (by omega) (by omega), show (n + 23 - s.val) / 24 = n / 24 by omega]; exact rfl
    · refine (soff2 V c ⟨n, hn⟩ _ s hs l q).trans ?_
      rewrite [show (n + 1 + 23 - s.val) / 24 = (n + 23 - s.val) / 24 by omega]
      exact ih (by omega) (by omega)
/-- A finished slab's rows. -/
theorem z3f_2 (c : Dev nD) (s : Fin 24) (l : Fin 32) (q : Fin 512) :
    z3at V c 888 (ix3 s (srow2 l) q) = ∑ f, cur3 (V c main_v17) 2 (row1_13 l) f * A1 V c (tk s.val q.val) f := by
  have hs24 := s.isLt
  rewrite [z3_2 V c s l q 888 (le_of_eq N_1.symm) (by omega), show (888 + 23 - s.val) / 24 = 37 by omega]
  exact sum_range_tiles 37 512 18944 rfl _ (fun f => cur3 (V c main_v17) 2 (row1_13 l) f * A1 V c (tk s.val q.val) f)

/-- The array of slabs is what the last grid point leaves. -/
theorem arr1_14 (c : Dev nD) : (dat1 V c).arrAt 14 cfg1.N = (z3at V c 888 : S24x96x512.Idx → EReal) := by
  refine (dat1 V c).arrAt_eq_of_cover 14 _ (fun t hf => ?_) (fun i => ?_)
  · have hm : t.val = 887 := (fl1_14 t).mp hf
    show (cfg1.win 14).cut (grid1.coords t) ((dat1 V c).after 14 t) = _
    rewrite [after1_14, hm]
    funext y
    refine congrArg (z3at V c 888) (funext fun a => Fin.ext ?_)
    have e := idx1_14 t
    match a with
    | ⟨0, _⟩ => show (y 0).val = win1_14.index t (0 : Fin 3) * 24 + 1 * (y 0).val; omega
    | ⟨1, _⟩ => show (y 1).val = win1_14.index t (1 : Fin 3) * 96 + 1 * (y 1).val; omega
    | ⟨2, _⟩ => show (y 2).val = win1_14.index t (2 : Fin 3) * 512 + 1 * (y 2).val; omega
  · have h0 : (i 0).val < 24 := (i 0).isLt
    have h1 : (i 1).val < 96 := (i 1).isLt
    have h2 : (i 2).val < 512 := (i 2).isLt
    let t : Fin cfg1.N := ⟨887, lt_of_lt_of_eq (by omega) N_1.symm⟩
    refine ⟨t, (fl1_14 t).mpr rfl, ?_⟩
    show i ∈ ((View.whole main_v18_6).slice (win1_14.rect t)).set
    rewrite [View.set_slice_whole, Rect.mem_set_unit]
    have e := idx1_14 t
    intro a
    match a with
    | ⟨0, _⟩ => show win1_14.index t (0 : Fin 3) * 24 ≤ (i 0).val ∧ (i 0).val < win1_14.index t (0 : Fin 3) * 24 + 24; omega
    | ⟨1, _⟩ => show win1_14.index t (1 : Fin 3) * 96 ≤ (i 1).val ∧ (i 1).val < win1_14.index t (1 : Fin 3) * 96 + 96; omega
    | ⟨2, _⟩ => show win1_14.index t (2 : Fin 3) * 512 ≤ (i 2).val ∧ (i 2).val < win1_14.index t (2 : Fin 3) * 512 + 512; omega

end Cert.KV
-- ==== Proof.KV.V2.lean ====
module

public import proofs.«01_k».proof.Proof.KI.Region2
public import proofs.«01_k».proof.Proof.KV.Spec
public import Idealize.ShloMosaic.Lib.ValueIdx
public import Idealize.ShloMosaic.Lib.Pipeline.Value

@[expose] public section

set_option maxRecDepth 16384

noncomputable section

namespace Cert.KV

open Cert.KernelIdeal Cert.KernelIdeal.Gen Cert.KernelIdeal.Run
open Idealize.ShloMosaic Idealize.ShloMosaic.TcCoe Idealize.ShloMosaic.ValueIdx
open Idealize.ShloMosaic.Tactic
open scoped BigOperators

/-! # The down projection's output array -/

theorem hz2' : (![0, 0] : Fin 2 → Nat) = fun _ => 0 := funext fun a => by fin_cases a <;> rfl

section Cases
variable (c : Dev nD) (i : grid2.Coords) (arg2 : Memref sig .tc .vmem S1024x512 .bf16) (harg2 : arg2.IsWhole) (arg3 : Memref sig .tc .vmem S512x3584 .bf16) (harg3 : arg3.IsWhole)
  (arg4 : Memref sig .tc .vmem S1024x3584 .bf16) (harg4 : arg4.IsWhole) (arg5 : Memref sig .tc .vmem S1024x128 .bf16) (harg5 : arg5.IsWhole)
  (arg6 : Memref sig .tc .vmem S128x3584 .bf16) (harg6 : arg6.IsWhole) (arg7 : Memref sig .tc .vmem S1024x3584 .bf16) (harg7 : arg7.IsWhole)
  (arg8 : Memref sig .tc .vmem S1024x3584 .f32) (harg8 : arg8.IsWhole)
  (x0 : Vec Ideal S1024x512 .bf16) (x1 : Vec Ideal S512x3584 .bf16) (x2 : Vec Ideal S1024x3584 .bf16) (x3 : Vec Ideal S1024x128 .bf16) (x4 : Vec Ideal S128x3584 .bf16)
  (xs0 : Vec Ideal S1024x3584 .f32)

/-- The first step of a run leaves the low-rank product plus the first tile's product. -/
theorem sout2_A_eq (hc0 : cond2_0 i) (hc1 : ¬cond2_1 i) :
    sout2_A_0 c i arg2 harg2 arg3 harg3 arg4 harg4 arg5 harg5 arg6 harg6 arg7 harg7 arg8 harg8 hc0 hc1 x0 x1 x2 x3 x4 = k2_pay2 (k2_pay1 x3 x4) x0 x1 := by
  unfold sout2_A_0
  rewrite [View.read_writes_eq_canon _ _ _ (scover2_A_0 c i arg2 harg2 arg3 harg3 arg4 harg4 arg5 harg5 arg6 harg6 arg7 harg7 arg8 harg8 hc0 hc1 x0 x1 x2 x3 x4)]
  unfold kernelRun2_A
  dsimp only
  sl_unfold_words
  rewrite [View.canon_cons_unit_zero (S := S1024x3584) hz2', View.readCov_unit_zero (S := S1024x3584) _ hz2']
  simp only [View.readAt_eq_ld, harg2.read_unread, harg3.read_unread, harg5.read_unread, harg6.read_unread,
    View.ld_unit_zero (S := S1024x512) hz2', View.ld_unit_zero (S := S512x3584) hz2', View.ld_unit_zero (S := S1024x128) hz2', View.ld_unit_zero (S := S128x3584) hz2']

/-- A middle step adds its tile's product. -/
theorem sout2_B_eq (hc0 : ¬cond2_0 i) (hc1 : ¬cond2_1 i) :
    sout2_B_0 c i arg2 harg2 arg3 harg3 arg4 harg4 arg5 harg5 arg6 harg6 arg7 harg7 arg8 harg8 hc0 hc1 x0 x1 x2 x3 x4 xs0 = k2_pay2 xs0 x0 x1 := by
  unfold sout2_B_0
  rewrite [View.read_writes_eq_canon _ _ _ (scover2_B_0 c i arg2 harg2 arg3 harg3 arg4 harg4 arg5 harg5 arg6 harg6 arg7 harg7 arg8 harg8 hc0 hc1 x0 x1 x2 x3 x4 xs0)]
  unfold kernelRun2_B
  dsimp only
  sl_unfold_words
  rewrite [View.canon_cons_unit_zero (S := S1024x3584) hz2']
  simp only [View.readAt_eq_ld, harg2.read_unread, harg3.read_unread, harg8.read_unread,
    View.ld_unit_zero (S := S1024x512) hz2', View.ld_unit_zero (S := S512x3584) hz2', View.ld_unit_zero (S := S1024x3584) hz2']

/-- The last step adds its tile's product. -/
theorem sout2_C_eq (hc0 : ¬cond2_0 i) (hc1 : cond2_1 i) :
    sout2_C_0 c i arg2 harg2 arg3 harg3 arg4 harg4 arg5 harg5 arg6 harg6 arg7 harg7 arg8 harg8 hc0 hc1 x0 x1 x2 x3 x4 xs0 = k2_pay2 xs0 x0 x1 := by
  unfold sout2_C_0
  rewrite [View.read_writes_eq_canon _ _ _ (scover2_C_0 c i arg2 harg2 arg3 harg3 arg4 harg4 arg5 harg5 arg6 harg6 arg7 harg7 arg8 harg8 hc0 hc1 x0 x1 x2 x3 x4 xs0)]
  unfold kernelRun2_C
  dsimp only
  sl_unfold_words
  rewrite [View.canon_cons_unit_zero (S := S1024x3584) hz2']
  simp only [View.readAt_eq_ld, harg2.read_unread, harg3.read_unread, harg8.read_unread,
    View.ld_unit_zero (S := S1024x512) hz2', View.ld_unit_zero (S := S512x3584) hz2', View.ld_unit_zero (S := S1024x3584) hz2']

/-- The last step writes the residual input plus the finished sum. -/
theorem out2_C_eq (hc0 : ¬cond2_0 i) (hc1 : cond2_1 i) :
    out2_C_5 c i arg2 harg2 arg3 harg3 arg4 harg4 arg5 harg5 arg6 harg6 arg7 harg7 arg8 harg8 hc0 hc1 x0 x1 x2 x3 x4 xs0 = k2_pay3 x2 (k2_pay2 xs0 x0 x1) := by
  unfold out2_C_5
  rewrite [View.read_writes_eq_canon _ _ _ (cover2_C_5 c i arg2 harg2 arg3 harg3 arg4 harg4 arg5 harg5 arg6 harg6 arg7 harg7 arg8 harg8 hc0 hc1 x0 x1 x2 x3 x4 xs0)]
  unfold kernelRun2_C
  dsimp only
  sl_unfold_words
  rewrite [View.canon_cons_unit_zero (S := S1024x3584) hz2', View.readCov_unit_zero (S := S1024x3584) _ hz2']
  simp only [View.readAt_eq_ld, harg2.read_unread, harg3.read_unread, harg4.read_unread, harg8.read_unread,
    View.ld_unit_zero (S := S1024x512) hz2', View.ld_unit_zero (S := S512x3584) hz2', View.ld_unit_zero (S := S1024x3584) hz2']
end Cases

theorem k2_pay1_apply (x : Vec Ideal S1024x128 .bf16) (w : Vec Ideal S128x3584 .bf16) (r : Fin 1024) (d : Fin 3584) :
    k2_pay1 x w (ix2 r d) = ∑ j : Fin 128, x (ix2 r j) * w (ix2 j d) := by
  unfold k2_pay1
  simp only [shapeCast_self]
  show FloatOps.matmul (F := Ideal) (φ₁ := .bf16) (φ₂ := .bf16) (DotDims.plain 1024 128 3584) none x w (constant S1024x3584 .f32 0x00000000#32) (ix2 r d) = _
  rewrite [Ideal.matmul_plain_apply]
  show Ideal.ofBits .f32 0x00000000#32 + _ = _
  rewrite [Ideal.ofBits_zero_f32, zero_add]
  exact rfl

theorem k2_pay2_apply (acc : Vec Ideal S1024x3584 .f32) (x : Vec Ideal S1024x512 .bf16) (w : Vec Ideal S512x3584 .bf16) (r : Fin 1024) (d : Fin 3584) :
    k2_pay2 acc x w (ix2 r d) = acc (ix2 r d) + ∑ q : Fin 512, x (ix2 r q) * w (ix2 q d) := by
  unfold k2_pay2
  simp only [shapeCast_self]
  show acc (ix2 r d) + FloatOps.matmul (F := Ideal) (φ₁ := .bf16) (φ₂ := .bf16) (DotDims.plain 1024 512 3584) none x w (constant S1024x3584 .f32 0x00000000#32) (ix2 r d) = _
  rewrite [Ideal.matmul_plain_apply]
  show acc (ix2 r d) + (Ideal.ofBits .f32 0x00000000#32 + _) = _
  rewrite [Ideal.ofBits_zero_f32, zero_add]
  exact rfl

theorem k2_pay3_apply (x : Vec Ideal S1024x3584 .bf16) (acc : Vec Ideal S1024x3584 .f32) (r : Fin 1024) (d : Fin 3584) :
    k2_pay3 x acc (ix2 r d) = x (ix2 r d) + acc (ix2 r d) := by
  unfold k2_pay3
  simp only [shapeCast_self]
  exact rfl

variable (V : (c : Dev nD) → (b : Ref sig .tc) → Buf (Elt Ideal) ((c : Thread nD τ).loc b))

/-- Which block of each array a grid point reads or writes. -/
theorem idx2 : ∀ t : Fin cfg2.N,
    (win2_0.index t (0 : Fin 2) = t.val / 37 ∧ win2_0.index t (1 : Fin 2) = t.val % 37) ∧ (win2_1.index t (0 : Fin 2) = t.val % 37 ∧ win2_1.index t (1 : Fin 2) = 0)
    ∧ (win2_2.index t (0 : Fin 2) = t.val / 37 ∧ win2_2.index t (1 : Fin 2) = 0) ∧ (win2_3.index t (0 : Fin 2) = t.val / 37 ∧ win2_3.index t (1 : Fin 2) = 0)
    ∧ (win2_4.index t (0 : Fin 2) = 0 ∧ win2_4.index t (1 : Fin 2) = 0) ∧ (win2_5.index t (0 : Fin 2) = t.val / 37 ∧ win2_5.index t (1 : Fin 2) = 0)
    ∧ (win2_5.flush t = true ↔ t.val % 37 = 36) :=
  (by decide +kernel : ∀ t : Fin grid2.N, _)

theorem lt2 (t : Fin cfg2.N) : t.val < 444 := lt_of_lt_of_eq t.isLt (show cfg2.N = 444 from N_2)

/-- Row `r` of the `p`-th run of 1024 tokens. -/
abbrev tk2 (p r : ℕ) : Fin 12288 := tl 12288 1024 (by decide) p r

theorem blk2_0 (c : Dev nD) (t : Fin cfg2.N) (r : Fin 1024) (k : Fin 512) :
    iblk2 V c 0 t (ix2 r k) = V c main_v18_0 (ix2 (tk2 (t.val / 37) r.val) (fc (t.val % 37) k.val)) := by
  have hr := r.isLt; have hk := k.isLt; have ht := lt2 t; have e := (idx2 t).1
  refine congrArg (V c main_v18_0) (Shape.idx_ext₂ ?_ ?_)
  · show win2_0.index t (0 : Fin 2) * 1024 + 1 * r.val = (tk2 (t.val / 37) r.val).val
    rewrite [tl_val _ _ _ _ _ (by omega)]; omega
  · show win2_0.index t (1 : Fin 2) * 512 + 1 * k.val = (fc (t.val % 37) k.val).val
    rewrite [tl_val _ _ _ _ _ (by omega)]; omega

theorem blk2_1 (c : Dev nD) (t : Fin cfg2.N) (r : Fin 512) (k : Fin 3584) :
    iblk2 V c 1 t (ix2 r k) = V c main_arg5 (ix2 (fc (t.val % 37) r.val) (k)) := by
  have hr := r.isLt; have hk := k.isLt; have ht := lt2 t; have e := (idx2 t).2.1
  refine congrArg (V c main_arg5) (Shape.idx_ext₂ ?_ ?_)
  · show win2_1.index t (0 : Fin 2) * 512 + 1 * r.val = (fc (t.val % 37) r.val).val
    rewrite [tl_val _ _ _ _ _ (by omega)]; omega
  · show win2_1.index t (1 : Fin 2) * 3584 + 1 * k.val = (k).val
    omega

theorem blk2_2 (c : Dev nD) (t : Fin cfg2.N) (r : Fin 1024) (k : Fin 3584) :
    iblk2 V c 2 t (ix2 r k) = V c main_v0 (ix2 (tk2 (t.val / 37) r.val) (k)) := by
  have hr := r.isLt; have hk := k.isLt; have ht := lt2 t; have e := (idx2 t).2.2.1
  refine congrArg (V c main_v0) (Shape.idx_ext₂ ?_ ?_)
  · show win2_2.index t (0 : Fin 2) * 1024 + 1 * r.val = (tk2 (t.val / 37) r.val).val
    rewrite [tl_val _ _ _ _ _ (by omega)]; omega
  · show win2_2.index t (1 : Fin 2) * 3584 + 1 * k.val = (k).val
    omega

theorem blk2_3 (c : Dev nD) (t : Fin cfg2.N) (r : Fin 1024) (k : Fin 128) :
    iblk2 V c 3 t (ix2 r k) = V c main_v25 (ix2 (tk2 (t.val / 37) r.val) (k)) := by
  have hr := r.isLt; have hk := k.isLt; have ht := lt2 t; have e := (idx2 t).2.2.2.1
  refine congrArg (V c main_v25) (Shape.idx_ext₂ ?_ ?_)
  · show win2_3.index t (0 : Fin 2) * 1024 + 1 * r.val = (tk2 (t.val / 37) r.val).val
    rewrite [tl_val _ _ _ _ _ (by omega)]; omega
  · show win2_3.index t (1 : Fin 2) * 128 + 1 * k.val = (k).val
    omega

theorem blk2_4 (c : Dev nD) (t : Fin cfg2.N) (r : Fin 128) (k : Fin 3584) :
    iblk2 V c 4 t (ix2 r k) = V c main_v6 (ix2 (r) (k)) := by
  have hr := r.isLt; have hk := k.isLt; have ht := lt2 t; have e := (idx2 t).2.2.2.2.1
  refine congrArg (V c main_v6) (Shape.idx_ext₂ ?_ ?_)
  · show win2_4.index t (0 : Fin 2) * 128 + 1 * r.val = (r).val
    omega
  · show win2_4.index t (1 : Fin 2) * 3584 + 1 * k.val = (k).val
    omega

/-- The product of one tile of inner features. -/
def dterm (A : Fin 12288 → Fin 18944 → EReal) (W : Fin 18944 → Fin 3584 → EReal) (i : Fin 12288) (d : Fin 3584) (p : ℕ) : EReal :=
  ∑ q : Fin 512, A i (fc p q.val) * W (fc p q.val) d
/-- The low-rank product, where the running sum starts. -/
def dbase (Z : Fin 12288 → Fin 128 → EReal) (L : Fin 128 → Fin 3584 → EReal) (i : Fin 12288) (d : Fin 3584) : EReal := ∑ j, Z i j * L j d

theorem step2_A (c : Dev nD) (t : Fin cfg2.N) (h0 : t.val % 37 = 0) :
    (outsAt2 V c t.val t.isLt).2 = k2_pay2 (k2_pay1 (iblk2 V c 3 t) (iblk2 V c 4 t)) (iblk2 V c 0 t) (iblk2 V c 1 t) := by
  rewrite [outsAt2_A V c t h0 (by omega)]
  dsimp only
  rewrite [sout2_A_eq]
  exact rfl

theorem step2_BC (c : Dev nD) (t : Fin cfg2.N) (h0 : ¬t.val % 37 = 0) :
    (outsAt2 V c t.val t.isLt).2 = k2_pay2 (outsAt2 V c (t.val - 1) (Nat.lt_of_le_of_lt (Nat.sub_le _ _) t.isLt)).2 (iblk2 V c 0 t) (iblk2 V c 1 t) := by
  by_cases h1 : t.val % 37 = 36
  · rewrite [outsAt2_C V c t h0 h1]
    dsimp only
    rewrite [sout2_C_eq]
    exact rfl
  · rewrite [outsAt2_B V c t h0 h1]
    dsimp only
    rewrite [sout2_B_eq]
    exact rfl

theorem step2_out (c : Dev nD) (t : Fin cfg2.N) (h1 : t.val % 37 = 36) :
    (outsAt2 V c t.val t.isLt).1 = k2_pay3 (iblk2 V c 2 t) (outsAt2 V c t.val t.isLt).2 := by
  rewrite [step2_BC V c t (by omega), outsAt2_C V c t (by omega) h1]
  dsimp only
  rewrite [out2_C_eq]
  exact rfl

/-- The running sum after a grid point. -/
theorem acc2_apply (c : Dev nD) : ∀ (n : ℕ) (h : n < cfg2.N) (r : Fin 1024) (d : Fin 3584),
    (outsAt2 V c n h).2 (ix2 r d) = dbase (cur (V c main_v25)) (cur (V c main_v6)) (tk2 (n / 37) r.val) d
      + ∑ p ∈ Finset.range (n % 37 + 1), dterm (cur (V c main_v18_0)) (cur (V c main_arg5)) (tk2 (n / 37) r.val) d p := by
  intro n
  induction n with
  | zero =>
    intro h r d
    rewrite [step2_A V c ⟨0, h⟩ rfl, k2_pay2_apply, k2_pay1_apply]
    simp only [blk2_0, blk2_1, blk2_3, blk2_4]
    exact congrArg₂ (· + ·) rfl (Finset.sum_range_one (dterm (cur (V c main_v18_0)) (cur (V c main_arg5)) (tk2 (0 / 37) r.val) d)).symm
  | succ n ih =>
    intro h r d
    by_cases h0 : (n + 1) % 37 = 0
    · rewrite [step2_A V c ⟨n + 1, h⟩ h0, k2_pay2_apply, k2_pay1_apply]
      simp only [blk2_0, blk2_1, blk2_3, blk2_4]
      rewrite [h0]
      exact congrArg₂ (· + ·) rfl (Finset.sum_range_one (dterm (cur (V c main_v18_0)) (cur (V c main_arg5)) (tk2 ((n + 1) / 37) r.val) d)).symm
    · have e1 : n / 37 = (n + 1) / 37 := by omega
      have e2 : n % 37 + 1 = (n + 1) % 37 := by omega
      rewrite [step2_BC V c ⟨n + 1, h⟩ h0, k2_pay2_apply]
      simp only [Nat.add_sub_cancel]
      rewrite [ih, e1, e2, Finset.sum_range_succ, ← add_assoc]
      simp only [blk2_0, blk2_1]
      exact rfl

/-- The layer's output: the residual input plus the low-rank and the full products. -/
def yS (X : Fin 12288 → Fin 3584 → EReal) (Z : Fin 12288 → Fin 128 → EReal) (L : Fin 128 → Fin 3584 → EReal)
    (A : Fin 12288 → Fin 18944 → EReal) (W : Fin 18944 → Fin 3584 → EReal) (i : Fin 12288) (d : Fin 3584) : EReal :=
  X i d + (∑ j, Z i j * L j d + ∑ f, A i f * W f d)

abbrev Y2 (c : Dev nD) : Fin 12288 → Fin 3584 → EReal :=
  yS (cur (V c main_v0)) (cur (V c main_v25)) (cur (V c main_v6)) (cur (V c main_v18_0)) (cur (V c main_arg5))

/-- What a run's last grid point writes back. -/
theorem out2_apply (c : Dev nD) (t : Fin cfg2.N) (h1 : t.val % 37 = 36) (r : Fin 1024) (d : Fin 3584) :
    (outsAt2 V c t.val t.isLt).1 (ix2 r d) = Y2 V c (tk2 (t.val / 37) r.val) d := by
  rewrite [step2_out V c t h1, k2_pay3_apply, blk2_2, acc2_apply, h1]
  refine congrArg (fun e : EReal => cur (V c main_v0) (tk2 (t.val / 37) r.val) d + (dbase (cur (V c main_v25)) (cur (V c main_v6)) (tk2 (t.val / 37) r.val) d + e)) ?_
  exact (sum_range_tiles 37 512 18944 rfl _ (fun f => cur (V c main_v18_0) (tk2 (t.val / 37) r.val) f * cur (V c main_arg5) f d))

/-- The output array of the down projection. -/
theorem arr2_5 (c : Dev nD) : (dat2 V c).arrAt 5 cfg2.N = fun i : S12288x3584.Idx => Y2 V c (i 0) (i 1) := by
  refine (dat2 V c).arrAt_eq_of_cover 5 _ (fun t hf => ?_) (fun i => ?_)
  · have hm : t.val % 37 = 36 := (idx2 t).2.2.2.2.2.2.mp hf
    have ht := lt2 t
    show (cfg2.win 5).cut (grid2.coords t) ((dat2 V c).after 5 t) = _
    rewrite [after2_5]
    funext y
    have hy : (cfg2.win 5).xinj (grid2.coords t) y = (ix2 (y 0 : Fin 1024) (y 1 : Fin 3584) : S1024x3584.Idx) := Shape.idx_ext₂ rfl rfl
    have hy0 : (y 0).val < 1024 := (y 0).isLt
    show (outsAt2 V c t.val t.isLt).1 ((cfg2.win 5).xinj (grid2.coords t) y) = Y2 V c (((cfg2.win 5).blk t).view.emb y 0) (((cfg2.win 5).blk t).view.emb y 1)
    refine (congrArg (outsAt2 V c t.val t.isLt).1 hy).trans ((out2_apply V c t hm (y 0) (y 1)).trans ?_)
    refine congrArg₂ (Y2 V c) (Fin.ext ?_) (Fin.ext ?_)
    · show (tk2 (t.val / 37) (y 0).val).val = win2_5.index t (0 : Fin 2) * 1024 + 1 * (y 0).val
      have := (idx2 t).2.2.2.2.2.1.1
      rewrite [tl_val _ _ _ _ _ (by omega)]; omega
    · show (y 1).val = win2_5.index t (1 : Fin 2) * 3584 + 1 * (y 1).val
      have := (idx2 t).2.2.2.2.2.1.2; omega
  · have h0 : (i 0).val < 12288 := (i 0).isLt
    have h1 : (i 1).val < 3584 := (i 1).isLt
    let t : Fin cfg2.N := ⟨37 * ((i 0).val / 1024) + 36, lt_of_lt_of_eq (by omega) N_2.symm⟩
    have htv : t.val = 37 * ((i 0).val / 1024) + 36 := rfl
    refine ⟨t, (idx2 t).2.2.2.2.2.2.mpr (by omega), ?_⟩
    show i ∈ ((View.whole main_v26).slice (win2_5.rect t)).set
    rewrite [View.set_slice_whole, Rect.mem_set_unit]
    have e := (idx2 t).2.2.2.2.2.1
    intro a
    match a with
    | ⟨0, _⟩ => show win2_5.index t (0 : Fin 2) * 1024 ≤ (i 0).val ∧ (i 0).val < win2_5.index t (0 : Fin 2) * 1024 + 1024; omega
    | ⟨1, _⟩ => show win2_5.index t (1 : Fin 2) * 3584 ≤ (i 1).val ∧ (i 1).val < win2_5.index t (1 : Fin 2) * 3584 + 3584; omega

end Cert.KV
-- ==== Proof.KV.P3.lean ====
module

public import proofs.«01_k».proof.Proof.KI.Region3
public import proofs.«01_k».proof.Proof.KV.Spec
public import Idealize.ShloMosaic.Lib.ValueIdx
public import Idealize.ShloMosaic.Lib.Pipeline.Value

@[expose] public section

set_option maxRecDepth 16384

noncomputable section

namespace Cert.KV

open Cert.KernelIdeal Cert.KernelIdeal.Gen Cert.KernelIdeal.Run
open Idealize.ShloMosaic Idealize.ShloMosaic.TcCoe Idealize.ShloMosaic.ValueIdx
open Idealize.ShloMosaic.Tactic
open scoped BigOperators

/-! # One grid point of the input gradient -/

theorem hz3 : (![0, 0] : Fin 2 → Nat) = fun _ => 0 := funext fun a => by fin_cases a <;> rfl

/-- The mean of a row's weighted gradient times its normalised features. -/
def cV {n : ℕ} (X A : Fin n → Fin 3584 → EReal) (W : Fin 3584 → EReal) (r : Fin n) : EReal :=
  Ideal.div (∑ d, (A r d * W d) * (X r d * rsv (X r))) width
/-- The input gradient of a row: the upstream gradient plus the normalisation's pullback. -/
def dxV {n : ℕ} (X A : Fin n → Fin 3584 → EReal) (W : Fin 3584 → EReal) (Y : Fin n → Fin 3584 → EReal) (r : Fin n) (d : Fin 3584) : EReal :=
  Y r d + rsv (X r) * ((A r d * W d) - (X r d * rsv (X r)) * cV X A W r)

theorem k3_pay4_apply (x : Vec Ideal S16x3584 .bf16) (r : Fin 16) : k3_pay4 x (ix2 r 0) = rsv (cur x r) := by
  unfold k3_pay4 k3_pay3
  simp only [shapeCast_self]
  show Ideal.div one (Ideal.sqrt (Ideal.div (shapeCast S16x1 _ shapeCasts_S16_S16x1 (ix2 r 0)) width + eps)) = _
  rewrite [shapeCast_apply _ shapeCasts_S16_S16x1 (ix2 r 0) (ix1 r) (by rw [Shape.rowMajor_val_one, Shape.rowMajor_val_two]; show r.val = r.val * 1 + 0; omega)]
  unfold rsv
  refine congrArg (fun e => Ideal.div one (Ideal.sqrt (Ideal.div e width + eps))) ?_
  refine (Ideal.multiReduction_add_single _ _ reduces_S16x3584_S16 _ _ _).trans ?_
  refine Finset.sum_congr rfl fun q _ => ?_
  have e : reduces_S16x3584_S16.lift (ix1 r) q = ix2 r q := Shape.idx_ext₂ rfl rfl
  rewrite [e]
  exact rfl

theorem k3_pay5_apply (x : Vec Ideal S16x3584 .bf16) (r : Fin 16) (d : Fin 3584) : k3_pay5 x (ix2 r d) = cur x r d * rsv (cur x r) := by
  unfold k3_pay5 k3_pay3
  simp only [shapeCast_self]
  refine congrArg (fun e : EReal => cur x r d * e) ?_
  rewrite [broadcastTo_apply _ broadcasts_S16x1_S16x3584 (ix2 r d) (ix2 r 0) (fun a => by fin_cases a <;> rfl)]
  exact k3_pay4_apply x r

theorem k3_pay6_apply (a : Vec Ideal S16x3584 .f32) (w : Vec Ideal S1x3584 .f32) (r : Fin 16) (d : Fin 3584) : k3_pay6 a w (ix2 r d) = cur a r d * cur w 0 d := by
  unfold k3_pay6
  simp only [shapeCast_self]
  refine congrArg (fun e : EReal => cur a r d * e) ?_
  exact broadcastTo_apply _ broadcasts_S1x3584_S16x3584 (ix2 r d) (ix2 0 d) (fun a => by fin_cases a <;> rfl)

theorem k3_pay7_apply (x : Vec Ideal S16x3584 .bf16) (a : Vec Ideal S16x3584 .f32) (w : Vec Ideal S1x3584 .f32) (r : Fin 16) :
    k3_pay7 x a w (ix2 r 0) = cV (cur x) (cur a) (cur w 0) r := by
  unfold k3_pay7 cV
  show Ideal.div (shapeCast S16x1 _ shapeCasts_S16_S16x1 (ix2 r 0)) width = _
  rewrite [shapeCast_apply _ shapeCasts_S16_S16x1 (ix2 r 0) (ix1 r) (by rw [Shape.rowMajor_val_one, Shape.rowMajor_val_two]; show r.val = r.val * 1 + 0; omega)]
  refine congrArg (fun e => Ideal.div e width) ?_
  refine (Ideal.multiReduction_add_single _ _ reduces_S16x3584_S16 _ _ _).trans ?_
  refine Finset.sum_congr rfl fun q _ => ?_
  have e : reduces_S16x3584_S16.lift (ix1 r) q = ix2 r q := Shape.idx_ext₂ rfl rfl
  rewrite [e]
  exact congrArg₂ (fun a b : EReal => a * b) (k3_pay6_apply a w r q) (k3_pay5_apply x r q)

theorem k3_pay8_apply (x : Vec Ideal S16x3584 .bf16) (a : Vec Ideal S16x3584 .f32) (w : Vec Ideal S1x3584 .f32) (y : Vec Ideal S16x3584 .bf16) (r : Fin 16) (d : Fin 3584) :
    k3_pay8 x a w y (ix2 r d) = dxV (cur x) (cur a) (cur w 0) (cur y) r d := by
  unfold k3_pay8 dxV
  simp only [shapeCast_self]
  have e1 : broadcastTo S16x3584 (k3_pay7 x a w) broadcasts_S16x1_S16x3584 (ix2 r d) = cV (cur x) (cur a) (cur w 0) r :=
    (broadcastTo_apply _ broadcasts_S16x1_S16x3584 (ix2 r d) (ix2 r 0) (fun a => by fin_cases a <;> rfl)).trans (k3_pay7_apply x a w r)
  have e2 : broadcastTo S16x3584 (k3_pay4 x) broadcasts_S16x1_S16x3584 (ix2 r d) = rsv (cur x r) :=
    (broadcastTo_apply _ broadcasts_S16x1_S16x3584 (ix2 r d) (ix2 r 0) (fun a => by fin_cases a <;> rfl)).trans (k3_pay4_apply x r)
  exact congrArg (fun e : EReal => cur y r d + e) (congrArg₂ (fun a b : EReal => a * b) e2
    (congrArg₂ (fun a b : EReal => a - b) (k3_pay6_apply a w r d) (congrArg₂ (fun a b : EReal => a * b) (k3_pay5_apply x r d) e1)))

theorem k3_pay1_apply (z : Vec Ideal S512x128 .bf16) (w : Vec Ideal S128x3584 .bf16) (r : Fin 512) (d : Fin 3584) :
    k3_pay1 z w (ix2 r d) = ∑ j : Fin 128, cur z r j * cur w j d := by
  unfold k3_pay1
  simp only [shapeCast_self]
  show FloatOps.matmul (F := Ideal) (φ₁ := .bf16) (φ₂ := .bf16) (DotDims.plain 512 128 3584) none z w (constant S512x3584 .f32 0x00000000#32) (ix2 r d) = _
  rewrite [Ideal.matmul_plain_apply]
  show Ideal.ofBits .f32 0x00000000#32 + _ = _
  rewrite [Ideal.ofBits_zero_f32, zero_add]
  exact rfl

/-- The product over two tiles side by side is the sum of the two products. -/
theorem k3_pay2_apply (a b : Vec Ideal S512x512 .bf16) (wa wb : Vec Ideal S3584x512 .bf16) (acc : Vec Ideal S512x3584 .f32) (r : Fin 512) (d : Fin 3584) :
    k3_pay2 a b wa wb acc (ix2 r d) = cur acc r d + ((∑ q : Fin 512, cur a r q * cur wa d q) + ∑ q : Fin 512, cur b r q * cur wb d q) := by
  unfold k3_pay2
  simp only [shapeCast_self]
  refine congrArg (fun e : EReal => cur acc r d + e) ?_
  show FloatOps.matmul (F := Ideal) (φ₁ := .bf16) (φ₂ := .bf16) (DotDims.transposedRhs 512 1024 3584) none _ _ (constant S512x3584 .f32 0x00000000#32) (ix2 r d) = _
  rewrite [Ideal.matmul_transposedRhs_apply]
  show Ideal.ofBits .f32 0x00000000#32 + _ = _
  rewrite [Ideal.ofBits_zero_f32, zero_add]
  refine (Fin.sum_univ_add (a := 512) (b := 512) (fun q : Fin 1024 => (_ : EReal))).trans ?_
  refine congrArg₂ (fun a b : EReal => a + b) (Finset.sum_congr rfl fun q _ => congrArg₂ (fun a b : EReal => a * b) ?_ ?_) (Finset.sum_congr rfl fun q _ => congrArg₂ (fun a b : EReal => a * b) ?_ ?_)
  · exact (concatenate_pair_apply_left 1 _ _ concatenates_S512x512_S512x512_S512x1024_d1 (ix2 r (Fin.castAdd 512 q)) rfl (ix2 r q) (fun b => by fin_cases b <;> rfl)).trans
      (congrFun (shapeCast_self a _) _)
  · exact concatenate_pair_apply_left 1 wa wb concatenates_S3584x512_S3584x512_S3584x1024_d1 (ix2 d (Fin.castAdd 512 q)) rfl (ix2 d q) (fun b => by fin_cases b <;> rfl)
  · exact (concatenate_pair_apply_right 1 _ _ concatenates_S512x512_S512x512_S512x1024_d1 (ix2 r (Fin.natAdd 512 q)) rfl rfl (ix2 r q)
      (fun b hb => by fin_cases b <;> first | rfl | exact absurd rfl hb) (by show q.val + 512 = 512 + q.val; omega)).trans (congrFun (shapeCast_self b _) _)
  · exact concatenate_pair_apply_right 1 wa wb concatenates_S3584x512_S3584x512_S3584x1024_d1 (ix2 d (Fin.natAdd 512 q)) rfl rfl (ix2 d q)
      (fun b hb => by fin_cases b <;> first | rfl | exact absurd rfl hb) (by show q.val + 512 = 512 + q.val; omega)

/-- Reading back an array that was written whole. -/
theorem read_whole (v : View sig .tc .vmem S512x3584 .f32) (f) (h) (w : Vec Ideal S512x3584 .f32) :
    v.read (Elt Ideal) (v.writes (Elt Ideal) f [⟨Rect.unit ![0, 0] S512x3584.size h, w⟩]) = w := by
  rewrite [View.read_writes_eq_canon _ _ _ (fun y => ⟨_, List.mem_singleton_self _, by
    rewrite [Rect.mem_set_unit]
    intro a
    have ha := (y a).isLt
    fin_cases a
    · exact ⟨Nat.zero_le _, lt_of_lt_of_eq ha (Nat.zero_add _).symm⟩
    · exact ⟨Nat.zero_le _, lt_of_lt_of_eq ha (Nat.zero_add _).symm⟩⟩)]
  exact View.canon_cons_unit_zero (S := S512x3584) hz3 _ _ _

theorem cV_congr {m n : ℕ} {X A : Fin m → Fin 3584 → EReal} {X' A' : Fin n → Fin 3584 → EReal} (W : Fin 3584 → EReal) {r : Fin m} {s : Fin n}
    (hX : X r = X' s) (hA : A r = A' s) : cV X A W r = cV X' A' W s := by
  unfold cV; rw [hX, hA]
theorem dxV_congr {m n : ℕ} {X A Y : Fin m → Fin 3584 → EReal} {X' A' Y' : Fin n → Fin 3584 → EReal} (W : Fin 3584 → EReal) {r : Fin m} {s : Fin n}
    (hX : X r = X' s) (hA : A r = A' s) (hY : Y r = Y' s) (d : Fin 3584) : dxV X A W Y r d = dxV X' A' W Y' s d := by
  unfold dxV; rw [hX, hA, hY, cV_congr W hX hA]

/-- A row of sixteen loaded rows is a row of the array. -/
theorem ldrow_b (X : Vec Ideal S512x3584 .bf16) (o : Fin 2 → ℕ) (h) (ho : o 1 = 0) (r : Fin 16) (R : Fin 512) (hR : R.val = o 0 + 1 * r.val) :
    cur (View.ld X (Rect.unit (s := S512x3584) o S16x3584.size h)) r = cur X R := by
  funext d
  refine congrArg X (Shape.idx_ext₂ hR.symm ?_)
  show o 1 + 1 * d.val = d.val
  omega
theorem ldrow_f (X : Vec Ideal S512x3584 .f32) (o : Fin 2 → ℕ) (h) (ho : o 1 = 0) (r : Fin 16) (R : Fin 512) (hR : R.val = o 0 + 1 * r.val) :
    cur (View.ld X (Rect.unit (s := S512x3584) o S16x3584.size h)) r = cur X R := by
  funext d
  refine congrArg X (Shape.idx_ext₂ hR.symm ?_)
  show o 1 + 1 * d.val = d.val
  omega

section Loop
variable (𝒱 : Variants) (c : Dev nD) (bd : Option 𝒱.V) (i : grid3.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x3584 .bf16) (harg6 : arg6.IsWhole) (arg7 : Memref sig .tc .vmem S512x3584 .bf16) (harg7 : arg7.IsWhole) (arg8 : Memref sig .tc .vmem S1x3584 .f32) (harg8 : arg8.IsWhole) (arg9 : Memref sig .tc .vmem S512x128 .bf16) (harg9 : arg9.IsWhole) (arg10 : Memref sig .tc .vmem S128x3584 .bf16) (harg10 : arg10.IsWhole) (arg11 : Memref sig .tc .vmem S512x1 .f32) (harg11 : arg11.IsWhole) (arg12 : Memref sig .tc .vmem S512x3584 .bf16) (harg12 : arg12.IsWhole) (arg13 : Memref sig .tc .vmem S512x3584 .f32) (harg13 : arg13.IsWhole) (k3_h2 : k3_cond2 i = 1#1) (X_arg6 : BufTy.Contents (Elt Ideal) arg6.view.ty) (X_arg7 : BufTy.Contents (Elt Ideal) arg7.view.ty) (X_arg8 : BufTy.Contents (Elt Ideal) arg8.view.ty) (X_arg13 : BufTy.Contents (Elt Ideal) arg13.view.ty)

theorem trip_agree (k : Fin k3_t1_loop.trips) :
    (∀ p ∈ (tripL_k3_t1 (F := Ideal) 𝒱 c bd i arg2 harg2 arg3 harg3 arg4 harg4 arg5 harg5 arg6 harg6 arg7 harg7 arg8 harg8 arg9 harg9 arg10 harg10 arg11 harg11 arg12 harg12 arg13 harg13 k3_h2 X_arg6 X_arg7 X_arg8 X_arg13 k).1, ∀ x : p.1.shape.Idx,
      p.2 x = cV (cur (arg6.view.read (Elt Ideal) X_arg6)) (cur (arg13.view.read (Elt Ideal) X_arg13)) (cur (arg8.view.read (Elt Ideal) X_arg8) 0) (p.1.emb x 0)) ∧
    (∀ p ∈ (tripL_k3_t1 (F := Ideal) 𝒱 c bd i arg2 harg2 arg3 harg3 arg4 harg4 arg5 harg5 arg6 harg6 arg7 harg7 arg8 harg8 arg9 harg9 arg10 harg10 arg11 harg11 arg12 harg12 arg13 harg13 k3_h2 X_arg6 X_arg7 X_arg8 X_arg13 k).2, ∀ x : p.1.shape.Idx,
      p.2 x = dxV (cur (arg6.view.read (Elt Ideal) X_arg6)) (cur (arg13.view.read (Elt Ideal) X_arg13)) (cur (arg8.view.read (Elt Ideal) X_arg8) 0) (cur (arg7.view.read (Elt Ideal) X_arg7)) (p.1.emb x 0) (p.1.emb x 1)) := by
  unfold tripL_k3_t1 trip_k3_t1
  dsimp only
  sl_unfold_words
  simp only [View.readAt_eq_ld, View.ld_unit_zero (S := S1x3584) hz3, List.mem_singleton, forall_eq]
  refine ⟨fun x => ?_, fun x => ?_⟩
  · have ex : x = (ix2 (x 0 : Fin 16) (0 : Fin 1) : S16x1.Idx) := Shape.idx_ext₂ rfl (by have := (x 1).isLt; show (x 1).val = 0; exact Nat.lt_one_iff.mp this)
    refine (congrArg _ ex).trans ((k3_pay7_apply _ _ _ (x 0)).trans (cV_congr _ ?_ ?_))
    · exact ldrow_b _ _ _ rfl (x 0) _ rfl
    · exact ldrow_f _ _ _ rfl (x 0) _ rfl
  · have ex : x = (ix2 (x 0 : Fin 16) (x 1 : Fin 3584) : S16x3584.Idx) := Shape.idx_ext₂ rfl rfl
    refine (congrArg _ ex).trans ((k3_pay8_apply _ _ _ _ (x 0) (x 1)).trans ((dxV_congr _ ?_ ?_ ?_ (x 1)).trans (congrArg (dxV _ _ _ _ _) (Fin.ext ?_))))
    · exact ldrow_b _ _ _ rfl (x 0) _ rfl
    · exact ldrow_f _ _ _ rfl (x 0) _ rfl
    · exact ldrow_b _ _ _ rfl (x 0) _ rfl
    · show (x 1).val = 0 + 1 * (x 1).val
      omega

/-- Every row written by the first `n` trips holds the row's value. -/
theorem pb_agree : ∀ n : ℕ, n ≤ k3_t1_loop.trips →
    (∀ p ∈ (pb_k3_t1 (F := Ideal) 𝒱 c bd i arg2 harg2 arg3 harg3 arg4 harg4 arg5 harg5 arg6 harg6 arg7 harg7 arg8 harg8 arg9 harg9 arg10 harg10 arg11 harg11 arg12 harg12 arg13 harg13 k3_h2 X_arg6 X_arg7 X_arg8 X_arg13 n).1, ∀ x : p.1.shape.Idx,
      p.2 x = cV (cur (arg6.view.read (Elt Ideal) X_arg6)) (cur (arg13.view.read (Elt Ideal) X_arg13)) (cur (arg8.view.read (Elt Ideal) X_arg8) 0) (p.1.emb x 0)) ∧
    (∀ p ∈ (pb_k3_t1 (F := Ideal) 𝒱 c bd i arg2 harg2 arg3 harg3 arg4 harg4 arg5 harg5 arg6 harg6 arg7 harg7 arg8 harg8 arg9 harg9 arg10 harg10 arg11 harg11 arg12 harg12 arg13 harg13 k3_h2 X_arg6 X_arg7 X_arg8 X_arg13 n).2, ∀ x : p.1.shape.Idx,
      p.2 x = dxV (cur (arg6.view.read (Elt Ideal) X_arg6)) (cur (arg13.view.read (Elt Ideal) X_arg13)) (cur (arg8.view.read (Elt Ideal) X_arg8) 0) (cur (arg7.view.read (Elt Ideal) X_arg7)) (p.1.emb x 0) (p.1.emb x 1)) := by
  intro n
  induction n with
  | zero => exact fun _ => ⟨fun p hp => absurd hp (List.not_mem_nil), fun p hp => absurd hp (List.not_mem_nil)⟩
  | succ n ih =>
    intro hn
    have hi := ih (by omega)
    have ht := trip_agree 𝒱 c bd i arg2 harg2 arg3 harg3 arg4 harg4 arg5 harg5 arg6 harg6 arg7 harg7 arg8 harg8 arg9 harg9 arg10 harg10 arg11 harg11 arg12 harg12 arg13 harg13 k3_h2 X_arg6 X_arg7 X_arg8 X_arg13 ⟨n, hn⟩
    have e := pb_k3_t1_succ (F := Ideal) 𝒱 c bd i arg2 harg2 arg3 harg3 arg4 harg4 arg5 harg5 arg6 harg6 arg7 harg7 arg8 harg8 arg9 harg9 arg10 harg10 arg11 harg11 arg12 harg12 arg13 harg13 k3_h2 X_arg6 X_arg7 X_arg8 X_arg13 ⟨n, hn⟩
    rewrite [e]
    exact ⟨fun p hp => (List.mem_append.mp hp).elim (ht.1 p) (hi.1 p), fun p hp => (List.mem_append.mp hp).elim (ht.2 p) (hi.2 p)⟩
end Loop

section Cases
variable (c : Dev nD) (i : grid3.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x3584 .bf16) (harg6 : arg6.IsWhole) (arg7 : Memref sig .tc .vmem S512x3584 .bf16) (harg7 : arg7.IsWhole) (arg8 : Memref sig .tc .vmem S1x3584 .f32) (harg8 : arg8.IsWhole) (arg9 : Memref sig .tc .vmem S512x128 .bf16) (harg9 : arg9.IsWhole) (arg10 : Memref sig .tc .vmem S128x3584 .bf16) (harg10 : arg10.IsWhole) (arg11 : Memref sig .tc .vmem S512x1 .f32) (harg11 : arg11.IsWhole) (arg12 : Memref sig .tc .vmem S512x3584 .bf16) (harg12 : arg12.IsWhole) (arg13 : Memref sig .tc .vmem S512x3584 .f32) (harg13 : arg13.IsWhole)
  (x0 : Vec Ideal S512x512 .bf16) (x1 : Vec Ideal S512x512 .bf16) (x2 : Vec Ideal S3584x512 .bf16) (x3 : Vec Ideal S3584x512 .bf16) (x4 : Vec Ideal S512x3584 .bf16) (x5 : Vec Ideal S512x3584 .bf16) (x6 : Vec Ideal S1x3584 .f32) (x7 : Vec Ideal S512x128 .bf16) (x8 : Vec Ideal S128x3584 .bf16) (xs0 : Vec Ideal S512x3584 .f32)

/-- The first step of a run leaves the low-rank product plus the first tiles' products. -/
theorem sout3_A_eq (hc0 : cond3_0 i) (hc1 : ¬cond3_1 i) :
    sout3_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = k3_pay2 x0 x1 x2 x3 (k3_pay1 x7 x8) := by
  unfold sout3_A_0
  rewrite [View.read_writes_eq_canon _ _ _ (scover3_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun3_A
  dsimp only
  sl_unfold_words
  rewrite [View.canon_cons_unit_zero (S := S512x3584) hz3, View.readCov_unit_zero (S := S512x3584) _ hz3]
  simp only [View.readAt_eq_ld, harg2.read_unread, harg3.read_unread, harg4.read_unread, harg5.read_unread, harg9.read_unread, harg10.read_unread, harg13.read_unread,
    View.ld_unit_zero (S := S512x512) hz3, View.ld_unit_zero (S := S3584x512) hz3, View.ld_unit_zero (S := S512x3584) hz3, View.ld_unit_zero (S := S512x128) hz3, View.ld_unit_zero (S := S128x3584) hz3]

/-- A middle step adds its tiles' products. -/
theorem sout3_B_eq (hc0 : ¬cond3_0 i) (hc1 : ¬cond3_1 i) :
    sout3_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = k3_pay2 x0 x1 x2 x3 xs0 := by
  unfold sout3_B_0
  rewrite [View.read_writes_eq_canon _ _ _ (scover3_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0)]
  unfold kernelRun3_B
  dsimp only
  sl_unfold_words
  rewrite [View.canon_cons_unit_zero (S := S512x3584) hz3]
  simp only [View.readAt_eq_ld, harg2.read_unread, harg3.read_unread, harg4.read_unread, harg5.read_unread, harg9.read_unread, harg10.read_unread, harg13.read_unread,
    View.ld_unit_zero (S := S512x512) hz3, View.ld_unit_zero (S := S3584x512) hz3, View.ld_unit_zero (S := S512x3584) hz3, View.ld_unit_zero (S := S512x128) hz3, View.ld_unit_zero (S := S128x3584) hz3]

/-- The last step adds its tiles' products. -/
theorem sout3_C_eq (hc0 : ¬cond3_0 i) (hc1 : cond3_1 i) :
    sout3_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = k3_pay2 x0 x1 x2 x3 xs0 := by
  unfold sout3_C_0
  rewrite [View.read_writes_eq_canon _ _ _ (scover3_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0)]
  unfold kernelRun3_C
  dsimp only
  sl_unfold_words
  rewrite [View.canon_cons_unit_zero (S := S512x3584) hz3]
  simp only [View.readAt_eq_ld, harg2.read_unread, harg3.read_unread, harg4.read_unread, harg5.read_unread, harg9.read_unread, harg10.read_unread, harg13.read_unread,
    View.ld_unit_zero (S := S512x512) hz3, View.ld_unit_zero (S := S3584x512) hz3, View.ld_unit_zero (S := S512x3584) hz3, View.ld_unit_zero (S := S512x128) hz3, View.ld_unit_zero (S := S128x3584) hz3]

/-- The last step writes, for each row, the mean from the finished sum. -/
theorem out3_C_9_eq (hc0 : ¬cond3_0 i) (hc1 : cond3_1 i) (y : S512x1.Idx) :
    out3_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 y = cV (cur x4) (cur (k3_pay2 x0 x1 x2 x3 xs0)) (cur x6 0) (y 0) := by
  unfold out3_C_9
  have hcov := cover3_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0
  rewrite [View.read_writes_eq_canon _ _ _ hcov]
  refine View.canon_apply_of_pieces (fun y : S512x1.Idx => cV (cur x4) (cur (k3_pay2 x0 x1 x2 x3 xs0)) (cur x6 0) (y 0)) _ ?_ y (hcov y)
  unfold kernelRun3_C
  dsimp only
  sl_unfold_words
  intro p hp x
  refine ((pb_agree Variants.none c none i arg2 harg2 arg3 harg3 arg4 harg4 arg5 harg5 arg6 harg6 arg7 harg7 arg8 harg8 arg9 harg9 arg10 harg10 arg11 harg11 arg12 harg12 arg13 harg13 hc1 _ _ _ _ _ le_rfl).1 p hp x).trans ?_
  rewrite [harg6.read_unread, harg8.read_unread, read_whole]
  simp only [View.readAt_eq_ld, harg2.read_unread, harg3.read_unread, harg4.read_unread, harg5.read_unread, harg9.read_unread, harg10.read_unread, harg13.read_unread,
    View.ld_unit_zero (S := S512x512) hz3, View.ld_unit_zero (S := S3584x512) hz3, View.ld_unit_zero (S := S512x3584) hz3, View.ld_unit_zero (S := S512x128) hz3, View.ld_unit_zero (S := S128x3584) hz3]

/-- The last step writes, for each row, the input gradient from the finished sum. -/
theorem out3_C_10_eq (hc0 : ¬cond3_0 i) (hc1 : cond3_1 i) (y : S512x3584.Idx) :
    out3_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 y = dxV (cur x4) (cur (k3_pay2 x0 x1 x2 x3 xs0)) (cur x6 0) (cur x5) (y 0) (y 1) := by
  unfold out3_C_10
  have hcov := cover3_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0
  rewrite [View.read_writes_eq_canon _ _ _ hcov]
  refine View.canon_apply_of_pieces (fun y : S512x3584.Idx => dxV (cur x4) (cur (k3_pay2 x0 x1 x2 x3 xs0)) (cur x6 0) (cur x5) (y 0) (y 1)) _ ?_ y (hcov y)
  unfold kernelRun3_C
  dsimp only
  sl_unfold_words
  intro p hp x
  refine ((pb_agree Variants.none c none i arg2 harg2 arg3 harg3 arg4 harg4 arg5 harg5 arg6 harg6 arg7 harg7 arg8 harg8 arg9 harg9 arg10 harg10 arg11 harg11 arg12 harg12 arg13 harg13 hc1 _ _ _ _ _ le_rfl).2 p hp x).trans ?_
  rewrite [harg6.read_unread, harg7.read_unread, harg8.read_unread, read_whole]
  simp only [View.readAt_eq_ld, harg2.read_unread, harg3.read_unread, harg4.read_unread, harg5.read_unread, harg9.read_unread, harg10.read_unread, harg13.read_unread,
    View.ld_unit_zero (S := S512x512) hz3, View.ld_unit_zero (S := S3584x512) hz3, View.ld_unit_zero (S := S512x3584) hz3, View.ld_unit_zero (S := S512x128) hz3, View.ld_unit_zero (S := S128x3584) hz3]
end Cases

end Cert.KV
-- ==== Proof.KV.V3.lean ====
module

public import proofs.«01_k».proof.Proof.KV.P3

@[expose] public section

set_option maxRecDepth 16384

noncomputable section

namespace Cert.KV

open Cert.KernelIdeal Cert.KernelIdeal.Gen Cert.KernelIdeal.Run
open Idealize.ShloMosaic Idealize.ShloMosaic.TcCoe Idealize.ShloMosaic.ValueIdx
open Idealize.ShloMosaic.Tactic
open scoped BigOperators

/-! # The input gradient's output arrays -/

variable (V : (c : Dev nD) → (b : Ref sig .tc) → Buf (Elt Ideal) ((c : Thread nD τ).loc b))

/-- Which block of each array a grid point reads or writes. -/
theorem idx3 : ∀ t : Fin cfg3.N,
    (win3_0.index t (0 : Fin 2) = t.val / 37 ∧ win3_0.index t (1 : Fin 2) = t.val % 37)
    ∧ (win3_1.index t (0 : Fin 2) = t.val / 37 ∧ win3_1.index t (1 : Fin 2) = t.val % 37)
    ∧ (win3_2.index t (0 : Fin 2) = 0 ∧ win3_2.index t (1 : Fin 2) = t.val % 37)
    ∧ (win3_3.index t (0 : Fin 2) = 0 ∧ win3_3.index t (1 : Fin 2) = t.val % 37)
    ∧ (win3_4.index t (0 : Fin 2) = t.val / 37 ∧ win3_4.index t (1 : Fin 2) = 0)
    ∧ (win3_5.index t (0 : Fin 2) = t.val / 37 ∧ win3_5.index t (1 : Fin 2) = 0)
    ∧ (win3_6.index t (0 : Fin 2) = 0 ∧ win3_6.index t (1 : Fin 2) = 0)
    ∧ (win3_7.index t (0 : Fin 2) = t.val / 37 ∧ win3_7.index t (1 : Fin 2) = 0)
    ∧ (win3_8.index t (0 : Fin 2) = 0 ∧ win3_8.index t (1 : Fin 2) = 0)
    ∧ (win3_9.index t (0 : Fin 2) = t.val / 37 ∧ win3_9.index t (1 : Fin 2) = 0)
    ∧ (win3_10.index t (0 : Fin 2) = t.val / 37 ∧ win3_10.index t (1 : Fin 2) = 0)
    ∧ (win3_9.flush t = true ↔ t.val % 37 = 36) ∧ (win3_10.flush t = true ↔ t.val % 37 = 36) :=
  (by decide +kernel : ∀ t : Fin grid3.N, _)

theorem lt3 (t : Fin cfg3.N) : t.val < 888 := lt_of_lt_of_eq t.isLt (show cfg3.N = 888 from N_3)

theorem blk3_0 (c : Dev nD) (t : Fin cfg3.N) (r : Fin 512) (k : Fin 512) :
    iblk3 V c 0 t (ix2 r k) = cur (V c main_v18_1) (tk (t.val / 37) r.val) (fc (t.val % 37) k.val) := by
  have hr := r.isLt; have hk := k.isLt; have ht := lt3 t; have e := (idx3 t).1
  refine congrArg (V c main_v18_1) (Shape.idx_ext₂ ?_ ?_)
  · show win3_0.index t (0 : Fin 2) * 512 + 1 * r.val = (tk (t.val / 37) r.val).val
    rewrite [tl_val _ _ _ _ _ (by omega)]; omega
  · show win3_0.index t (1 : Fin 2) * 512 + 1 * k.val = (fc (t.val % 37) k.val).val
    rewrite [tl_val _ _ _ _ _ (by omega)]; omega

theorem blk3_1 (c : Dev nD) (t : Fin cfg3.N) (r : Fin 512) (k : Fin 512) :
    iblk3 V c 1 t (ix2 r k) = cur (V c main_v18_2) (tk (t.val / 37) r.val) (fc (t.val % 37) k.val) := by
  have hr := r.isLt; have hk := k.isLt; have ht := lt3 t; have e := (idx3 t).2.1
  refine congrArg (V c main_v18_2) (Shape.idx_ext₂ ?_ ?_)
  · show win3_1.index t (0 : Fin 2) * 512 + 1 * r.val = (tk (t.val / 37) r.val).val
    rewrite [tl_val _ _ _ _ _ (by omega)]; omega
  · show win3_1.index t (1 : Fin 2) * 512 + 1 * k.val = (fc (t.val % 37) k.val).val
    rewrite [tl_val _ _ _ _ _ (by omega)]; omega

theorem blk3_2 (c : Dev nD) (t : Fin cfg3.N) (r : Fin 3584) (k : Fin 512) :
    iblk3 V c 2 t (ix2 r k) = cur (V c main_arg3) (r) (fc (t.val % 37) k.val) := by
  have hr := r.isLt; have hk := k.isLt; have ht := lt3 t; have e := (idx3 t).2.2.1
  refine congrArg (V c main_arg3) (Shape.idx_ext₂ ?_ ?_)
  · show win3_2.index t (0 : Fin 2) * 3584 + 1 * r.val = (r).val
    omega
  · show win3_2.index t (1 : Fin 2) * 512 + 1 * k.val = (fc (t.val % 37) k.val).val
    rewrite [tl_val _ _ _ _ _ (by omega)]; omega

theorem blk3_3 (c : Dev nD) (t : Fin cfg3.N) (r : Fin 3584) (k : Fin 512) :
    iblk3 V c 3 t (ix2 r k) = cur (V c main_arg4) (r) (fc (t.val % 37) k.val) := by
  have hr := r.isLt; have hk := k.isLt; have ht := lt3 t; have e := (idx3 t).2.2.2.1
  refine congrArg (V c main_arg4) (Shape.idx_ext₂ ?_ ?_)
  · show win3_3.index t (0 : Fin 2) * 3584 + 1 * r.val = (r).val
    omega
  · show win3_3.index t (1 : Fin 2) * 512 + 1 * k.val = (fc (t.val % 37) k.val).val
    rewrite [tl_val _ _ _ _ _ (by omega)]; omega

theorem blk3_4 (c : Dev nD) (t : Fin cfg3.N) (r : Fin 512) (k : Fin 3584) :
    iblk3 V c 4 t (ix2 r k) = cur (V c main_v0) (tk (t.val / 37) r.val) (k) := by
  have hr := r.isLt; have hk := k.isLt; have ht := lt3 t; have e := (idx3 t).2.2.2.2.1
  refine congrArg (V c main_v0) (Shape.idx_ext₂ ?_ ?_)
  · show win3_4.index t (0 : Fin 2) * 512 + 1 * r.val = (tk (t.val / 37) r.val).val
    rewrite [tl_val _ _ _ _ _ (by omega)]; omega
  · show win3_4.index t (1 : Fin 2) * 3584 + 1 * k.val = (k).val
    omega

theorem blk3_5 (c : Dev nD) (t : Fin cfg3.N) (r : Fin 512) (k : Fin 3584) :
    iblk3 V c 5 t (ix2 r k) = cur (V c main_v1) (tk (t.val / 37) r.val) (k) := by
  have hr := r.isLt; have hk := k.isLt; have ht := lt3 t; have e := (idx3 t).2.2.2.2.2.1
  refine congrArg (V c main_v1) (Shape.idx_ext₂ ?_ ?_)
  · show win3_5.index t (0 : Fin 2) * 512 + 1 * r.val = (tk (t.val / 37) r.val).val
    rewrite [tl_val _ _ _ _ _ (by omega)]; omega
  · show win3_5.index t (1 : Fin 2) * 3584 + 1 * k.val = (k).val
    omega

theorem blk3_6 (c : Dev nD) (t : Fin cfg3.N) (r : Fin 1) (k : Fin 3584) :
    iblk3 V c 6 t (ix2 r k) = cur (V c main_v2) (r) (k) := by
  have hr := r.isLt; have hk := k.isLt; have ht := lt3 t; have e := (idx3 t).2.2.2.2.2.2.1
  refine congrArg (V c main_v2) (Shape.idx_ext₂ ?_ ?_)
  · show win3_6.index t (0 : Fin 2) * 1 + 1 * r.val = (r).val
    omega
  · show win3_6.index t (1 : Fin 2) * 3584 + 1 * k.val = (k).val
    omega

theorem blk3_7 (c : Dev nD) (t : Fin cfg3.N) (r : Fin 512) (k : Fin 128) :
    iblk3 V c 7 t (ix2 r k) = cur (V c main_v25) (tk (t.val / 37) r.val) (k) := by
  have hr := r.isLt; have hk := k.isLt; have ht := lt3 t; have e := (idx3 t).2.2.2.2.2.2.2.1
  refine congrArg (V c main_v25) (Shape.idx_ext₂ ?_ ?_)
  · show win3_7.index t (0 : Fin 2) * 512 + 1 * r.val = (tk (t.val / 37) r.val).val
    rewrite [tl_val _ _ _ _ _ (by omega)]; omega
  · show win3_7.index t (1 : Fin 2) * 128 + 1 * k.val = (k).val
    omega

theorem blk3_8 (c : Dev nD) (t : Fin cfg3.N) (r : Fin 128) (k : Fin 3584) :
    iblk3 V c 8 t (ix2 r k) = cur (V c main_v4) (r) (k) := by
  have hr := r.isLt; have hk := k.isLt; have ht := lt3 t; have e := (idx3 t).2.2.2.2.2.2.2.2.1
  refine congrArg (V c main_v4) (Shape.idx_ext₂ ?_ ?_)
  · show win3_8.index t (0 : Fin 2) * 128 + 1 * r.val = (r).val
    omega
  · show win3_8.index t (1 : Fin 2) * 3584 + 1 * k.val = (k).val
    omega

/-- The two products of one tile of inner features. -/
def xterm (G U : Fin 12288 → Fin 18944 → EReal) (WG WU : Fin 3584 → Fin 18944 → EReal) (i : Fin 12288) (d : Fin 3584) (p : ℕ) : EReal :=
  (∑ q : Fin 512, G i (fc p q.val) * WG d (fc p q.val)) + ∑ q : Fin 512, U i (fc p q.val) * WU d (fc p q.val)
/-- The low-rank product, where the running sum starts. -/
def xbase (Z : Fin 12288 → Fin 128 → EReal) (L : Fin 128 → Fin 3584 → EReal) (i : Fin 12288) (d : Fin 3584) : EReal := ∑ j, Z i j * L j d

abbrev XT (c : Dev nD) : Fin 12288 → Fin 3584 → ℕ → EReal := xterm (cur (V c main_v18_1)) (cur (V c main_v18_2)) (cur (V c main_arg3)) (cur (V c main_arg4))

theorem step3_A (c : Dev nD) (t : Fin cfg3.N) (h0 : t.val % 37 = 0) :
    (outsAt3 V c t.val t.isLt).2.2 = k3_pay2 (iblk3 V c 0 t) (iblk3 V c 1 t) (iblk3 V c 2 t) (iblk3 V c 3 t) (k3_pay1 (iblk3 V c 7 t) (iblk3 V c 8 t)) := by
  rewrite [outsAt3_A V c t h0 (by omega)]
  dsimp only
  rewrite [sout3_A_eq]
  exact rfl

theorem step3_BC (c : Dev nD) (t : Fin cfg3.N) (h0 : ¬t.val % 37 = 0) :
    (outsAt3 V c t.val t.isLt).2.2 = k3_pay2 (iblk3 V c 0 t) (iblk3 V c 1 t) (iblk3 V c 2 t) (iblk3 V c 3 t) (outsAt3 V c (t.val - 1) (Nat.lt_of_le_of_lt (Nat.sub_le _ _) t.isLt)).2.2 := by
  by_cases h1 : t.val % 37 = 36
  · rewrite [outsAt3_C V c t h0 h1]
    dsimp only
    rewrite [sout3_C_eq]
    exact rfl
  · rewrite [outsAt3_B V c t h0 h1]
    dsimp only
    rewrite [sout3_B_eq]
    exact rfl

theorem step3_c (c : Dev nD) (t : Fin cfg3.N) (h1 : t.val % 37 = 36) (y : S512x1.Idx) :
    (outsAt3 V c t.val t.isLt).1 y = cV (cur (iblk3 V c 4 t)) (cur (outsAt3 V c t.val t.isLt).2.2) (cur (iblk3 V c 6 t) 0) (y 0) := by
  rewrite [step3_BC V c t (by omega), outsAt3_C V c t (by omega) h1]
  dsimp only
  rewrite [out3_C_9_eq]
  exact rfl

theorem step3_dx (c : Dev nD) (t : Fin cfg3.N) (h1 : t.val % 37 = 36) (y : S512x3584.Idx) :
    (outsAt3 V c t.val t.isLt).2.1 y = dxV (cur (iblk3 V c 4 t)) (cur (outsAt3 V c t.val t.isLt).2.2) (cur (iblk3 V c 6 t) 0) (cur (iblk3 V c 5 t)) (y 0) (y 1) := by
  rewrite [step3_BC V c t (by omega), outsAt3_C V c t (by omega) h1]
  dsimp only
  rewrite [out3_C_10_eq]
  exact rfl

theorem term3 (c : Dev nD) (t : Fin cfg3.N) (r : Fin 512) (d : Fin 3584) :
    ((∑ q : Fin 512, cur (iblk3 V c 0 t) r q * cur (iblk3 V c 2 t) d q) + ∑ q : Fin 512, cur (iblk3 V c 1 t) r q * cur (iblk3 V c 3 t) d q)
      = XT V c (tk (t.val / 37) r.val) d (t.val % 37) :=
  congrArg₂ (fun a b : EReal => a + b)
    (Finset.sum_congr rfl fun q _ => congrArg₂ (fun a b : EReal => a * b) (blk3_0 V c t r q) (blk3_2 V c t d q))
    (Finset.sum_congr rfl fun q _ => congrArg₂ (fun a b : EReal => a * b) (blk3_1 V c t r q) (blk3_3 V c t d q))
theorem base3 (c : Dev nD) (t : Fin cfg3.N) (r : Fin 512) (d : Fin 3584) :
    cur (k3_pay1 (iblk3 V c 7 t) (iblk3 V c 8 t)) r d = xbase (cur (V c main_v25)) (cur (V c main_v4)) (tk (t.val / 37) r.val) d :=
  (k3_pay1_apply _ _ r d).trans (Finset.sum_congr rfl fun q _ => congrArg₂ (fun a b : EReal => a * b) (blk3_7 V c t r q) (blk3_8 V c t q d))

/-- The running sum after a grid point. -/
theorem acc3_apply (c : Dev nD) : ∀ (n : ℕ) (h : n < cfg3.N) (r : Fin 512) (d : Fin 3584),
    cur (outsAt3 V c n h).2.2 r d = xbase (cur (V c main_v25)) (cur (V c main_v4)) (tk (n / 37) r.val) d
      + ∑ p ∈ Finset.range (n % 37 + 1), XT V c (tk (n / 37) r.val) d p := by
  have first : ∀ (t : Fin cfg3.N) (h0 : t.val % 37 = 0) (r : Fin 512) (d : Fin 3584),
      cur (outsAt3 V c t.val t.isLt).2.2 r d = xbase (cur (V c main_v25)) (cur (V c main_v4)) (tk (t.val / 37) r.val) d
      + ∑ p ∈ Finset.range (t.val % 37 + 1), XT V c (tk (t.val / 37) r.val) d p := by
    intro t h0 r d
    rewrite [step3_A V c t h0]
    refine (k3_pay2_apply _ _ _ _ _ r d).trans (congrArg₂ (fun a b : EReal => a + b) (base3 V c t r d) ((term3 V c t r d).trans ?_))
    rewrite [h0]
    exact (Finset.sum_range_one (XT V c (tk (t.val / 37) r.val) d)).symm
  intro n
  induction n with
  | zero => exact fun h r d => first ⟨0, h⟩ rfl r d
  | succ n ih =>
    intro h r d
    by_cases h0 : (n + 1) % 37 = 0
    · exact first ⟨n + 1, h⟩ h0 r d
    · have e1 : n / 37 = (n + 1) / 37 := by omega
      have e2 : n % 37 + 1 = (n + 1) % 37 := by omega
      rewrite [step3_BC V c ⟨n + 1, h⟩ h0]
      refine (k3_pay2_apply _ _ _ _ _ r d).trans ?_
      rewrite [term3 V c ⟨n + 1, h⟩ r d, Finset.sum_range_succ, ← add_assoc]
      refine congrArg (fun a : EReal => a + _) ?_
      refine (ih (Nat.lt_of_succ_lt h) r d).trans ?_
      rewrite [e1, e2]
      exact rfl

/-- The gradient of the normalised features: the low-rank product plus the two full products. -/
def ghS (Z : Fin 12288 → Fin 128 → EReal) (L : Fin 128 → Fin 3584 → EReal) (G U : Fin 12288 → Fin 18944 → EReal) (WG WU : Fin 3584 → Fin 18944 → EReal)
    (i : Fin 12288) (d : Fin 3584) : EReal :=
  (∑ j, Z i j * L j d) + ((∑ f, G i f * WG d f) + ∑ f, U i f * WU d f)

abbrev GH (c : Dev nD) : Fin 12288 → Fin 3584 → EReal :=
  ghS (cur (V c main_v25)) (cur (V c main_v4)) (cur (V c main_v18_1)) (cur (V c main_v18_2)) (cur (V c main_arg3)) (cur (V c main_arg4))

theorem acc3_last (c : Dev nD) (t : Fin cfg3.N) (h1 : t.val % 37 = 36) (r : Fin 512) :
    cur (outsAt3 V c t.val t.isLt).2.2 r = GH V c (tk (t.val / 37) r.val) := by
  funext d
  refine (acc3_apply V c t.val t.isLt r d).trans (congrArg (fun e : EReal => _ + e) ?_)
  rewrite [h1]
  unfold XT xterm
  rewrite [Finset.sum_add_distrib]
  exact congrArg₂ (fun a b : EReal => a + b)
    (sum_range_tiles 37 512 18944 rfl _ (fun f => cur (V c main_v18_1) (tk (t.val / 37) r.val) f * cur (V c main_arg3) d f))
    (sum_range_tiles 37 512 18944 rfl _ (fun f => cur (V c main_v18_2) (tk (t.val / 37) r.val) f * cur (V c main_arg4) d f))

theorem x3_row (c : Dev nD) (t : Fin cfg3.N) (r : Fin 512) : cur (iblk3 V c 4 t) r = cur (V c main_v0) (tk (t.val / 37) r.val) := funext fun d => blk3_4 V c t r d
theorem y3_row (c : Dev nD) (t : Fin cfg3.N) (r : Fin 512) : cur (iblk3 V c 5 t) r = cur (V c main_v1) (tk (t.val / 37) r.val) := funext fun d => blk3_5 V c t r d
theorem n3_row (c : Dev nD) (t : Fin cfg3.N) : cur (iblk3 V c 6 t) 0 = cur (V c main_v2) 0 := funext fun d => blk3_6 V c t 0 d

theorem out3_9_apply (c : Dev nD) (t : Fin cfg3.N) (h1 : t.val % 37 = 36) (r : Fin 512) (d : Fin 1) :
    (outsAt3 V c t.val t.isLt).1 (ix2 r d) = cV (cur (V c main_v0)) (GH V c) (cur (V c main_v2) 0) (tk (t.val / 37) r.val) := by
  refine (step3_c V c t h1 (ix2 r d)).trans ?_
  rewrite [n3_row]
  exact cV_congr _ (x3_row V c t r) (acc3_last V c t h1 r)

theorem out3_10_apply (c : Dev nD) (t : Fin cfg3.N) (h1 : t.val % 37 = 36) (r : Fin 512) (d : Fin 3584) :
    (outsAt3 V c t.val t.isLt).2.1 (ix2 r d) = dxV (cur (V c main_v0)) (GH V c) (cur (V c main_v2) 0) (cur (V c main_v1)) (tk (t.val / 37) r.val) d := by
  refine (step3_dx V c t h1 (ix2 r d)).trans ?_
  rewrite [n3_row]
  exact dxV_congr _ (x3_row V c t r) (acc3_last V c t h1 r) (y3_row V c t r) d

/-- The means of all tokens. -/
theorem arr3_9 (c : Dev nD) : (dat3 V c).arrAt 9 cfg3.N = fun i : S12288x1.Idx => cV (cur (V c main_v0)) (GH V c) (cur (V c main_v2) 0) (i 0) := by
  refine (dat3 V c).arrAt_eq_of_cover 9 _ (fun t hf => ?_) (fun i => ?_)
  · have hm : t.val % 37 = 36 := (idx3 t).2.2.2.2.2.2.2.2.2.2.2.1.mp hf
    have ht := lt3 t
    show (cfg3.win 9).cut (grid3.coords t) ((dat3 V c).after 9 t) = _
    rewrite [after3_9]
    funext y
    have hy : (cfg3.win 9).xinj (grid3.coords t) y = (ix2 (y 0 : Fin 512) (y 1 : Fin 1) : S512x1.Idx) := Shape.idx_ext₂ rfl rfl
    have hy0 : (y 0).val < 512 := (y 0).isLt
    show (outsAt3 V c t.val t.isLt).1 ((cfg3.win 9).xinj (grid3.coords t) y) = cV (cur (V c main_v0)) (GH V c) (cur (V c main_v2) 0) (((cfg3.win 9).blk t).view.emb y 0)
    refine (congrArg (outsAt3 V c t.val t.isLt).1 hy).trans ((out3_9_apply V c t hm (y 0) (y 1)).trans ?_)
    have e0 : tk (t.val / 37) (y 0).val = ((cfg3.win 9).blk t).view.emb y 0 := Fin.ext (by
      show (tk (t.val / 37) (y 0).val).val = win3_9.index t (0 : Fin 2) * 512 + 1 * (y 0).val
      have := (idx3 t).2.2.2.2.2.2.2.2.2.1.1
      rewrite [tl_val _ _ _ _ _ (by omega)]; omega)
    have e1 : y 1 = ((cfg3.win 9).blk t).view.emb y 1 := Fin.ext (by
      show (y 1).val = win3_9.index t (1 : Fin 2) * 1 + 1 * (y 1).val
      have := (idx3 t).2.2.2.2.2.2.2.2.2.1.2; omega)
    exact congrArg (cV _ _ _) e0
  · have h0 : (i 0).val < 12288 := (i 0).isLt
    have h1 : (i 1).val < 1 := (i 1).isLt
    let t : Fin cfg3.N := ⟨37 * ((i 0).val / 512) + 36, lt_of_lt_of_eq (by omega) N_3.symm⟩
    have htv : t.val = 37 * ((i 0).val / 512) + 36 := rfl
    refine ⟨t, (idx3 t).2.2.2.2.2.2.2.2.2.2.2.1.mpr (by omega), ?_⟩
    show i ∈ ((View.whole main_v27_0).slice (win3_9.rect t)).set
    rewrite [View.set_slice_whole, Rect.mem_set_unit]
    have e := (idx3 t).2.2.2.2.2.2.2.2.2.1
    intro a
    match a with
    | ⟨0, _⟩ => show win3_9.index t (0 : Fin 2) * 512 ≤ (i 0).val ∧ (i 0).val < win3_9.index t (0 : Fin 2) * 512 + 512; omega
    | ⟨1, _⟩ => show win3_9.index t (1 : Fin 2) * 1 ≤ (i 1).val ∧ (i 1).val < win3_9.index t (1 : Fin 2) * 1 + 1; omega

/-- The input gradient of all tokens. -/
theorem arr3_10 (c : Dev nD) : (dat3 V c).arrAt 10 cfg3.N = fun i : S12288x3584.Idx => dxV (cur (V c main_v0)) (GH V c) (cur (V c main_v2) 0) (cur (V c main_v1)) (i 0) (i 1) := by
  refine (dat3 V c).arrAt_eq_of_cover 10 _ (fun t hf => ?_) (fun i => ?_)
  · have hm : t.val % 37 = 36 := (idx3 t).2.2.2.2.2.2.2.2.2.2.2.2.mp hf
    have ht := lt3 t
    show (cfg3.win 10).cut (grid3.coords t) ((dat3 V c).after 10 t) = _
    rewrite [after3_10]
    funext y
    have hy : (cfg3.win 10).xinj (grid3.coords t) y = (ix2 (y 0 : Fin 512) (y 1 : Fin 3584) : S512x3584.Idx) := Shape.idx_ext₂ rfl rfl
    have hy0 : (y 0).val < 512 := (y 0).isLt
    show (outsAt3 V c t.val t.isLt).2.1 ((cfg3.win 10).xinj (grid3.coords t) y) = dxV (cur (V c main_v0)) (GH V c) (cur (V c main_v2) 0) (cur (V c main_v1)) (((cfg3.win 10).blk t).view.emb y 0) (((cfg3.win 10).blk t).view.emb y 1)
    refine (congrArg (outsAt3 V c t.val t.isLt).2.1 hy).trans ((out3_10_apply V c t hm (y 0) (y 1)).trans ?_)
    have e0 : tk (t.val / 37) (y 0).val = ((cfg3.win 10).blk t).view.emb y 0 := Fin.ext (by
      show (tk (t.val / 37) (y 0).val).val = win3_10.index t (0 : Fin 2) * 512 + 1 * (y 0).val
      have := (idx3 t).2.2.2.2.2.2.2.2.2.2.1.1
      rewrite [tl_val _ _ _ _ _ (by omega)]; omega)
    have e1 : y 1 = ((cfg3.win 10).blk t).view.emb y 1 := Fin.ext (by
      show (y 1).val = win3_10.index t (1 : Fin 2) * 3584 + 1 * (y 1).val
      have := (idx3 t).2.2.2.2.2.2.2.2.2.2.1.2; omega)
    exact congrArg₂ (dxV _ _ _ _) e0 e1
  · have h0 : (i 0).val < 12288 := (i 0).isLt
    have h1 : (i 1).val < 3584 := (i 1).isLt
    let t : Fin cfg3.N := ⟨37 * ((i 0).val / 512) + 36, lt_of_lt_of_eq (by omega) N_3.symm⟩
    have htv : t.val = 37 * ((i 0).val / 512) + 36 := rfl
    refine ⟨t, (idx3 t).2.2.2.2.2.2.2.2.2.2.2.2.mpr (by omega), ?_⟩
    show i ∈ ((View.whole main_v27_1).slice (win3_10.rect t)).set
    rewrite [View.set_slice_whole, Rect.mem_set_unit]
    have e := (idx3 t).2.2.2.2.2.2.2.2.2.2.1
    intro a
    match a with
    | ⟨0, _⟩ => show win3_10.index t (0 : Fin 2) * 512 ≤ (i 0).val ∧ (i 0).val < win3_10.index t (0 : Fin 2) * 512 + 512; omega
    | ⟨1, _⟩ => show win3_10.index t (1 : Fin 2) * 3584 ≤ (i 1).val ∧ (i 1).val < win3_10.index t (1 : Fin 2) * 3584 + 3584; omega

end Cert.KV
-- ==== Proof.KV.V4.lean ====
module

public import proofs.«01_k».proof.Proof.KI.Region4
public import proofs.«01_k».proof.Proof.KV.Spec
public import Idealize.ShloMosaic.Lib.ValueIdx
public import Idealize.ShloMosaic.Lib.Pipeline.Value

@[expose] public section

set_option maxRecDepth 16384

noncomputable section

namespace Cert.KV

open Cert.KernelIdeal Cert.KernelIdeal.Gen Cert.KernelIdeal.Run
open Idealize.ShloMosaic Idealize.ShloMosaic.TcCoe Idealize.ShloMosaic.ValueIdx
open Idealize.ShloMosaic.Tactic
open scoped BigOperators

/-! # The adapter gradients' output arrays -/

theorem hz4 : (![0, 0] : Fin 2 → Nat) = fun _ => 0 := funext fun a => by fin_cases a <;> rfl

theorem sel4_first (i : grid4.Coords) (hi : (i 0).val = 0) {S : Shape} (x y : Vec Ideal S .f32) :
    Scalar.select (Scalar.cmpi .eq (BitVec.ofNat 32 (i 0).val) 0#32) x y = x := by
  rewrite [hi]; exact rfl
theorem sel4_later (i : grid4.Coords) (hi : (i 0).val ≠ 0) {S : Shape} (x y : Vec Ideal S .f32) :
    Scalar.select (Scalar.cmpi .eq (BitVec.ofNat 32 (i 0).val) 0#32) x y = y := by
  have hlt : (i 0).val < 24 := (i 0).isLt
  have : Scalar.cmpi .eq (BitVec.ofNat 32 (i 0).val) 0#32 = 0#1 := by
    generalize (i 0).val = n at hi hlt
    interval_cases n <;> first | exact absurd rfl hi | rfl
  rewrite [this]; exact rfl

theorem k4_dot1 (z : Vec Ideal S64x512 .bf16) (h : Vec Ideal S512x3584 .bf16) (r : Fin 64) (d : Fin 3584) :
    matmul (F := Ideal) (φ₁ := .bf16) (φ₂ := .bf16) dot_S64x512_S512x3584_S64x3584_1_0_0_1_n_n none z h (constant S64x3584 .f32 0x00000000#32) (ix2 r d)
      = ∑ q : Fin 512, z (ix2 r q) * h (ix2 q d) := by
  show FloatOps.matmul (F := Ideal) (φ₁ := .bf16) (φ₂ := .bf16) (DotDims.plain 64 512 3584) none z h (constant S64x3584 .f32 0x00000000#32) (ix2 r d) = _
  rewrite [Ideal.matmul_plain_apply]
  show Ideal.ofBits .f32 0x00000000#32 + _ = _
  rewrite [Ideal.ofBits_zero_f32, zero_add]
  exact rfl
theorem k4_dot2 (z : Vec Ideal S32x512 .bf16) (h : Vec Ideal S512x3584 .bf16) (r : Fin 32) (d : Fin 3584) :
    matmul (F := Ideal) (φ₁ := .bf16) (φ₂ := .bf16) dot_S32x512_S512x3584_S32x3584_1_0_0_1_n_n none z h (constant S32x3584 .f32 0x00000000#32) (ix2 r d)
      = ∑ q : Fin 512, z (ix2 r q) * h (ix2 q d) := by
  show FloatOps.matmul (F := Ideal) (φ₁ := .bf16) (φ₂ := .bf16) (DotDims.plain 32 512 3584) none z h (constant S32x3584 .f32 0x00000000#32) (ix2 r d) = _
  rewrite [Ideal.matmul_plain_apply]
  show Ideal.ofBits .f32 0x00000000#32 + _ = _
  rewrite [Ideal.ofBits_zero_f32, zero_add]
  exact rfl

theorem k4_pay1_first (i : grid4.Coords) (hi : (i 0).val = 0) (z : Vec Ideal S64x512 .bf16) (h : Vec Ideal S512x3584 .bf16) (p : Vec Ideal S64x3584 .f32) (r : Fin 64) (d : Fin 3584) :
    k4_pay1 i z h p (ix2 r d) = ∑ q : Fin 512, z (ix2 r q) * h (ix2 q d) := by
  unfold k4_pay1
  simp only [shapeCast_self, sel4_first i hi]
  exact k4_dot1 z h r d
theorem k4_pay1_later (i : grid4.Coords) (hi : (i 0).val ≠ 0) (z : Vec Ideal S64x512 .bf16) (h : Vec Ideal S512x3584 .bf16) (p : Vec Ideal S64x3584 .f32) (r : Fin 64) (d : Fin 3584) :
    k4_pay1 i z h p (ix2 r d) = p (ix2 r d) + ∑ q : Fin 512, z (ix2 r q) * h (ix2 q d) := by
  unfold k4_pay1
  simp only [shapeCast_self, sel4_later i hi]
  exact congrArg (fun e : EReal => p (ix2 r d) + e) (k4_dot1 z h r d)
theorem k4_pay2_first (i : grid4.Coords) (hi : (i 0).val = 0) (z : Vec Ideal S32x512 .bf16) (h : Vec Ideal S512x3584 .bf16) (p : Vec Ideal S32x3584 .f32) (r : Fin 32) (d : Fin 3584) :
    k4_pay2 i z h p (ix2 r d) = ∑ q : Fin 512, z (ix2 r q) * h (ix2 q d) := by
  unfold k4_pay2
  simp only [shapeCast_self, sel4_first i hi]
  exact k4_dot2 z h r d
theorem k4_pay2_later (i : grid4.Coords) (hi : (i 0).val ≠ 0) (z : Vec Ideal S32x512 .bf16) (h : Vec Ideal S512x3584 .bf16) (p : Vec Ideal S32x3584 .f32) (r : Fin 32) (d : Fin 3584) :
    k4_pay2 i z h p (ix2 r d) = p (ix2 r d) + ∑ q : Fin 512, z (ix2 r q) * h (ix2 q d) := by
  unfold k4_pay2
  simp only [shapeCast_self, sel4_later i hi]
  exact congrArg (fun e : EReal => p (ix2 r d) + e) (k4_dot2 z h r d)

/-- Row `r` of the first 64 of the stacked rows. -/
abbrev lo96 (r : Fin 64) : Fin 96 := ⟨r.val, by have := r.isLt; omega⟩
/-- Row `r` of the last 32 of the stacked rows. -/
abbrev hi96 (r : Fin 32) : Fin 96 := ⟨64 + r.val, by have := r.isLt; omega⟩

theorem ld4_lo (x : Vec Ideal S96x512 .bf16) (r : Fin 64) (q : Fin 512) : View.ld x r4_0 (ix2 r q) = x (ix2 (lo96 r) q) :=
  congrArg x (Shape.idx_ext₂ (by show 0 + 1 * r.val = r.val; omega) (by show 0 + 1 * q.val = q.val; omega))
theorem ld4_hi (x : Vec Ideal S96x512 .bf16) (r : Fin 32) (q : Fin 512) : View.ld x r4_3 (ix2 r q) = x (ix2 (hi96 r) q) :=
  congrArg x (Shape.idx_ext₂ (by show 64 + 1 * r.val = 64 + r.val; omega) (by show 0 + 1 * q.val = q.val; omega))

theorem out4_3_eq (i : grid4.Coords) (x0 : Vec Ideal S96x512 .bf16) (x1 x2 : Vec Ideal S512x3584 .bf16) (y : Vec Ideal S64x3584 .f32) :
    out4_3 i x0 x1 x2 y = k4_pay1 i (View.ld x0 r4_0) x1 y := by
  unfold out4_3
  rewrite [View.canon_unit_zero hz4, View.ld_unit_zero (S := S512x3584) hz4, View.ld_unit_zero (S := S64x3584) hz4]
  exact rfl
theorem out4_4_eq (i : grid4.Coords) (x0 : Vec Ideal S96x512 .bf16) (x1 x2 : Vec Ideal S512x3584 .bf16) (y : Vec Ideal S32x3584 .f32) :
    out4_4 i x0 x1 x2 y = k4_pay2 i (View.ld x0 r4_3) x2 y := by
  unfold out4_4
  rewrite [View.canon_unit_zero hz4, View.ld_unit_zero (S := S512x3584) hz4, View.ld_unit_zero (S := S32x3584) hz4]
  exact rfl

variable (V : (c : Dev nD) → (b : Ref sig .tc) → Buf (Elt Ideal) ((c : Thread nD τ).loc b))

/-- Which block of each array a grid point reads or writes. -/
theorem idx4 : ∀ t : Fin cfg4.N,
    (win4_0.index t (0 : Fin 2) = 0 ∧ win4_0.index t (1 : Fin 2) = t.val) ∧ (win4_1.index t (0 : Fin 2) = t.val ∧ win4_1.index t (1 : Fin 2) = 0)
    ∧ (win4_2.index t (0 : Fin 2) = t.val ∧ win4_2.index t (1 : Fin 2) = 0) ∧ (win4_3.index t (0 : Fin 2) = 0 ∧ win4_3.index t (1 : Fin 2) = 0)
    ∧ (win4_4.index t (0 : Fin 2) = 0 ∧ win4_4.index t (1 : Fin 2) = 0) ∧ (win4_3.flush t = true ↔ t.val = 23) ∧ (win4_4.flush t = true ↔ t.val = 23)
    ∧ (grid4.coords t 0).val = t.val :=
  (by decide +kernel : ∀ t : Fin grid4.N, _)

theorem lt4 (t : Fin cfg4.N) : t.val < 24 := lt_of_lt_of_eq t.isLt (show cfg4.N = 24 from N_4)

theorem blk4_0 (c : Dev nD) (t : Fin cfg4.N) (r : Fin 96) (k : Fin 512) :
    iblk4 V c 0 t (ix2 r k) = V c main_v23 (ix2 (r) (tk t.val k.val)) := by
  have hr := r.isLt; have hk := k.isLt; have ht := lt4 t; have e := (idx4 t).1
  refine congrArg (V c main_v23) (Shape.idx_ext₂ ?_ ?_)
  · show win4_0.index t (0 : Fin 2) * 96 + 1 * r.val = (r).val
    omega
  · show win4_0.index t (1 : Fin 2) * 512 + 1 * k.val = (tk t.val k.val).val
    rewrite [tl_val _ _ _ _ _ (by omega)]; omega

theorem blk4_1 (c : Dev nD) (t : Fin cfg4.N) (r : Fin 512) (k : Fin 3584) :
    iblk4 V c 1 t (ix2 r k) = V c main_v8_0 (ix2 (tk t.val r.val) (k)) := by
  have hr := r.isLt; have hk := k.isLt; have ht := lt4 t; have e := (idx4 t).2.1
  refine congrArg (V c main_v8_0) (Shape.idx_ext₂ ?_ ?_)
  · show win4_1.index t (0 : Fin 2) * 512 + 1 * r.val = (tk t.val r.val).val
    rewrite [tl_val _ _ _ _ _ (by omega)]; omega
  · show win4_1.index t (1 : Fin 2) * 3584 + 1 * k.val = (k).val
    omega

theorem blk4_2 (c : Dev nD) (t : Fin cfg4.N) (r : Fin 512) (k : Fin 3584) :
    iblk4 V c 2 t (ix2 r k) = V c main_v1 (ix2 (tk t.val r.val) (k)) := by
  have hr := r.isLt; have hk := k.isLt; have ht := lt4 t; have e := (idx4 t).2.2.1
  refine congrArg (V c main_v1) (Shape.idx_ext₂ ?_ ?_)
  · show win4_2.index t (0 : Fin 2) * 512 + 1 * r.val = (tk t.val r.val).val
    rewrite [tl_val _ _ _ _ _ (by omega)]; omega
  · show win4_2.index t (1 : Fin 2) * 3584 + 1 * k.val = (k).val
    omega

/-- One tile's part of a sum over tokens. -/
def aterm (Z : Fin 96 → Fin 12288 → EReal) (H : Fin 12288 → Fin 3584 → EReal) (r : Fin 96) (d : Fin 3584) (p : ℕ) : EReal :=
  ∑ q : Fin 512, Z r (tk p q.val) * H (tk p q.val) d

theorem a4_3 (c : Dev nD) (t : Fin cfg4.N) (r : Fin 64) (d : Fin 3584) :
    (∑ q : Fin 512, cur (View.ld (iblk4 V c 0 t : Vec Ideal S96x512 .bf16) r4_0) r q * cur (iblk4 V c 1 t : Vec Ideal S512x3584 .bf16) q d)
      = aterm (cur (V c main_v23)) (cur (V c main_v8_0)) (lo96 r) d t.val :=
  Finset.sum_congr rfl fun q _ => congrArg₂ (fun a b : EReal => a * b) ((ld4_lo _ r q).trans (blk4_0 V c t _ q)) (blk4_1 V c t q d)
/-- The first grid point stores its tile's sum. -/
theorem f4_3 (c : Dev nD) (t : Fin cfg4.N) (h0 : t.val = 0) (y : Vec Ideal S64x3584 .f32) (r : Fin 64) (d : Fin 3584) :
    out4_3 (grid4.coords t) (iblk4 V c 0 t) (iblk4 V c 1 t) (iblk4 V c 2 t) y (ix2 r d) = aterm (cur (V c main_v23)) (cur (V c main_v8_0)) (lo96 r) d t.val := by
  rewrite [out4_3_eq, k4_pay1_first _ ((idx4 t).2.2.2.2.2.2.2.trans h0)]
  exact a4_3 V c t r d
/-- A later grid point adds its tile's sum. -/
theorem l4_3 (c : Dev nD) (t : Fin cfg4.N) (h0 : t.val ≠ 0) (y : Vec Ideal S64x3584 .f32) (r : Fin 64) (d : Fin 3584) :
    out4_3 (grid4.coords t) (iblk4 V c 0 t) (iblk4 V c 1 t) (iblk4 V c 2 t) y (ix2 r d) = y (ix2 r d) + aterm (cur (V c main_v23)) (cur (V c main_v8_0)) (lo96 r) d t.val := by
  rewrite [out4_3_eq, k4_pay1_later _ (fun e => h0 ((idx4 t).2.2.2.2.2.2.2.symm.trans e))]
  exact congrArg (fun e : EReal => y (ix2 r d) + e) (a4_3 V c t r d)

theorem a4_4 (c : Dev nD) (t : Fin cfg4.N) (r : Fin 32) (d : Fin 3584) :
    (∑ q : Fin 512, cur (View.ld (iblk4 V c 0 t : Vec Ideal S96x512 .bf16) r4_3) r q * cur (iblk4 V c 2 t : Vec Ideal S512x3584 .bf16) q d)
      = aterm (cur (V c main_v23)) (cur (V c main_v1)) (hi96 r) d t.val :=
  Finset.sum_congr rfl fun q _ => congrArg₂ (fun a b : EReal => a * b) ((ld4_hi _ r q).trans (blk4_0 V c t _ q)) (blk4_2 V c t q d)
/-- The first grid point stores its tile's sum. -/
theorem f4_4 (c : Dev nD) (t : Fin cfg4.N) (h0 : t.val = 0) (y : Vec Ideal S32x3584 .f32) (r : Fin 32) (d : Fin 3584) :
    out4_4 (grid4.coords t) (iblk4 V c 0 t) (iblk4 V c 1 t) (iblk4 V c 2 t) y (ix2 r d) = aterm (cur (V c main_v23)) (cur (V c main_v1)) (hi96 r) d t.val := by
  rewrite [out4_4_eq, k4_pay2_first _ ((idx4 t).2.2.2.2.2.2.2.trans h0)]
  exact a4_4 V c t r d
/-- A later grid point adds its tile's sum. -/
theorem l4_4 (c : Dev nD) (t : Fin cfg4.N) (h0 : t.val ≠ 0) (y : Vec Ideal S32x3584 .f32) (r : Fin 32) (d : Fin 3584) :
    out4_4 (grid4.coords t) (iblk4 V c 0 t) (iblk4 V c 1 t) (iblk4 V c 2 t) y (ix2 r d) = y (ix2 r d) + aterm (cur (V c main_v23)) (cur (V c main_v1)) (hi96 r) d t.val := by
  rewrite [out4_4_eq, k4_pay2_later _ (fun e => h0 ((idx4 t).2.2.2.2.2.2.2.symm.trans e))]
  exact congrArg (fun e : EReal => y (ix2 r d) + e) (a4_4 V c t r d)
/-- The sums over tokens after a grid point. -/
theorem acc4_apply (c : Dev nD) : ∀ (n : ℕ) (h : n < cfg4.N),
    (∀ (r : Fin 64) (d : Fin 3584), (acc4 V c n h).1 (ix2 r d) = ∑ p ∈ Finset.range (n + 1), aterm (cur (V c main_v23)) (cur (V c main_v8_0)) (lo96 r) d p)
    ∧ (∀ (r : Fin 32) (d : Fin 3584), (acc4 V c n h).2 (ix2 r d) = ∑ p ∈ Finset.range (n + 1), aterm (cur (V c main_v23)) (cur (V c main_v1)) (hi96 r) d p) := by
  intro n
  induction n with
  | zero =>
    intro h
    rewrite [acc4_zero]
    dsimp only
    refine ⟨fun r d => ?_, fun r d => ?_⟩
    · exact (f4_3 V c ⟨0, h⟩ rfl _ r d).trans (Finset.sum_range_one (aterm (cur (V c main_v23)) (cur (V c main_v8_0)) (lo96 r) d)).symm
    · exact (f4_4 V c ⟨0, h⟩ rfl _ r d).trans (Finset.sum_range_one (aterm (cur (V c main_v23)) (cur (V c main_v1)) (hi96 r) d)).symm
  | succ n ih =>
    intro h
    rewrite [acc4_succ]
    dsimp only
    refine ⟨fun r d => ?_, fun r d => ?_⟩
    · rewrite [Finset.sum_range_succ, ← (ih (Nat.lt_of_succ_lt h)).1 r d]
      exact l4_3 V c ⟨n + 1, h⟩ (Nat.succ_ne_zero n) _ r d
    · rewrite [Finset.sum_range_succ, ← (ih (Nat.lt_of_succ_lt h)).2 r d]
      exact l4_4 V c ⟨n + 1, h⟩ (Nat.succ_ne_zero n) _ r d

/-- The sums over all tokens, rows 0 to 63 of the stack. -/
theorem arr4_3 (c : Dev nD) : (dat4 V c).arrAt 3 cfg4.N
    = fun i : S64x3584.Idx => ∑ t : Fin 12288, cur (V c main_v23) (lo96 (i 0)) t * cur (V c main_v8_0) t (i 1) := by
  refine (dat4 V c).arrAt_eq_of_cover 3 _ (fun t hf => ?_) (fun i => ?_)
  · have hm : t.val = 23 := (idx4 t).2.2.2.2.2.1.mp hf
    show (cfg4.win 3).cut (grid4.coords t) ((dat4 V c).after 3 t) = _
    rewrite [after4_3]
    funext y
    have hy : (cfg4.win 3).xinj (grid4.coords t) y = (ix2 (y 0 : Fin 64) (y 1 : Fin 3584) : S64x3584.Idx) := Shape.idx_ext₂ rfl rfl
    have e0 : (((cfg4.win 3).blk t).view.emb y 0 : Fin 64) = (y 0 : Fin 64) := Fin.ext (by
      show win4_3.index t (0 : Fin 2) * 64 + 1 * (y 0).val = (y 0).val
      have := (idx4 t).2.2.2.1.1; omega)
    have e1 : (((cfg4.win 3).blk t).view.emb y 1 : Fin 3584) = (y 1 : Fin 3584) := Fin.ext (by
      show win4_3.index t (1 : Fin 2) * 3584 + 1 * (y 1).val = (y 1).val
      have := (idx4 t).2.2.2.1.2; omega)
    show (acc4 V c t.val t.isLt).1 ((cfg4.win 3).xinj (grid4.coords t) y)
      = ∑ k : Fin 12288, cur (V c main_v23) (lo96 (((cfg4.win 3).blk t).view.emb y 0)) k * cur (V c main_v8_0) k (((cfg4.win 3).blk t).view.emb y 1)
    refine (congrArg (acc4 V c t.val t.isLt).1 hy).trans (((acc4_apply V c t.val t.isLt).1 (y 0) (y 1)).trans ?_)
    refine ((congrArg (fun n => ∑ p ∈ Finset.range (n + 1), aterm (cur (V c main_v23)) (cur (V c main_v8_0)) (lo96 (y 0)) (y 1) p) hm).trans
      (sum_range_tiles 24 512 12288 rfl _ (fun k => cur (V c main_v23) (lo96 (y 0)) k * cur (V c main_v8_0) k (y 1)))).trans ?_
    exact congrArg₂ (fun (a : Fin 64) (b : Fin 3584) => ∑ k : Fin 12288, cur (V c main_v23) (lo96 a) k * cur (V c main_v8_0) k b) e0.symm e1.symm
  · have h0 : (i 0).val < 64 := (i 0).isLt
    have h1 : (i 1).val < 3584 := (i 1).isLt
    let t : Fin cfg4.N := ⟨23, lt_of_lt_of_eq (by omega) N_4.symm⟩
    refine ⟨t, (idx4 t).2.2.2.2.2.1.mpr rfl, ?_⟩
    show i ∈ ((View.whole main_v28_0).slice (win4_3.rect t)).set
    rewrite [View.set_slice_whole, Rect.mem_set_unit]
    have e := (idx4 t).2.2.2.1
    intro a
    match a with
    | ⟨0, _⟩ => show win4_3.index t (0 : Fin 2) * 64 ≤ (i 0).val ∧ (i 0).val < win4_3.index t (0 : Fin 2) * 64 + 64; omega
    | ⟨1, _⟩ => show win4_3.index t (1 : Fin 2) * 3584 ≤ (i 1).val ∧ (i 1).val < win4_3.index t (1 : Fin 2) * 3584 + 3584; omega

/-- The sums over all tokens, rows 64 to 95 of the stack. -/
theorem arr4_4 (c : Dev nD) : (dat4 V c).arrAt 4 cfg4.N
    = fun i : S32x3584.Idx => ∑ t : Fin 12288, cur (V c main_v23) (hi96 (i 0)) t * cur (V c main_v1) t (i 1) := by
  refine (dat4 V c).arrAt_eq_of_cover 4 _ (fun t hf => ?_) (fun i => ?_)
  · have hm : t.val = 23 := (idx4 t).2.2.2.2.2.2.1.mp hf
    show (cfg4.win 4).cut (grid4.coords t) ((dat4 V c).after 4 t) = _
    rewrite [after4_4]
    funext y
    have hy : (cfg4.win 4).xinj (grid4.coords t) y = (ix2 (y 0 : Fin 32) (y 1 : Fin 3584) : S32x3584.Idx) := Shape.idx_ext₂ rfl rfl
    have e0 : (((cfg4.win 4).blk t).view.emb y 0 : Fin 32) = (y 0 : Fin 32) := Fin.ext (by
      show win4_4.index t (0 : Fin 2) * 32 + 1 * (y 0).val = (y 0).val
      have := (idx4 t).2.2.2.2.1.1; omega)
    have e1 : (((cfg4.win 4).blk t).view.emb y 1 : Fin 3584) = (y 1 : Fin 3584) := Fin.ext (by
      show win4_4.index t (1 : Fin 2) * 3584 + 1 * (y 1).val = (y 1).val
      have := (idx4 t).2.2.2.2.1.2; omega)
    show (acc4 V c t.val t.isLt).2 ((cfg4.win 4).xinj (grid4.coords t) y)
      = ∑ k : Fin 12288, cur (V c main_v23) (hi96 (((cfg4.win 4).blk t).view.emb y 0)) k * cur (V c main_v1) k (((cfg4.win 4).blk t).view.emb y 1)
    refine (congrArg (acc4 V c t.val t.isLt).2 hy).trans (((acc4_apply V c t.val t.isLt).2 (y 0) (y 1)).trans ?_)
    refine ((congrArg (fun n => ∑ p ∈ Finset.range (n + 1), aterm (cur (V c main_v23)) (cur (V c main_v1)) (hi96 (y 0)) (y 1) p) hm).trans
      (sum_range_tiles 24 512 12288 rfl _ (fun k => cur (V c main_v23) (hi96 (y 0)) k * cur (V c main_v1) k (y 1)))).trans ?_
    exact congrArg₂ (fun (a : Fin 32) (b : Fin 3584) => ∑ k : Fin 12288, cur (V c main_v23) (hi96 a) k * cur (V c main_v1) k b) e0.symm e1.symm
  · have h0 : (i 0).val < 32 := (i 0).isLt
    have h1 : (i 1).val < 3584 := (i 1).isLt
    let t : Fin cfg4.N := ⟨23, lt_of_lt_of_eq (by omega) N_4.symm⟩
    refine ⟨t, (idx4 t).2.2.2.2.2.2.1.mpr rfl, ?_⟩
    show i ∈ ((View.whole main_v28_1).slice (win4_4.rect t)).set
    rewrite [View.set_slice_whole, Rect.mem_set_unit]
    have e := (idx4 t).2.2.2.2.1
    intro a
    match a with
    | ⟨0, _⟩ => show win4_4.index t (0 : Fin 2) * 32 ≤ (i 0).val ∧ (i 0).val < win4_4.index t (0 : Fin 2) * 32 + 32; omega
    | ⟨1, _⟩ => show win4_4.index t (1 : Fin 2) * 3584 ≤ (i 1).val ∧ (i 1).val < win4_4.index t (1 : Fin 2) * 3584 + 3584; omega

end Cert.KV
-- ==== Proof.KV.Math.lean ====
module

public import proofs.«01_k».proof.Proof.KV.V0
public import proofs.«01_k».proof.Proof.KV.V1
public import proofs.«01_k».proof.Proof.KV.V2
public import proofs.«01_k».proof.Proof.KV.V3
public import proofs.«01_k».proof.Proof.KV.V4

@[expose] public section

noncomputable section

namespace Cert.KV

open Idealize.ShloMosaic Idealize.ShloMosaic.ValueIdx
open scoped BigOperators

/-! # The layer as the reference writes it, and the kernel's forms of the same values -/

/-- The layer's arguments, the tokens of the batch in one row. -/
structure Ins where
  X : Fin 12288 → Fin 3584 → EReal
  DY : Fin 12288 → Fin 3584 → EReal
  NW : Fin 3584 → EReal
  WG : Fin 3584 → Fin 18944 → EReal
  WU : Fin 3584 → Fin 18944 → EReal
  WD : Fin 18944 → Fin 3584 → EReal
  AG : Fin 32 → Fin 3584 → EReal
  AU : Fin 32 → Fin 3584 → EReal
  BG : Fin 18944 → Fin 32 → EReal
  BU : Fin 18944 → Fin 32 → EReal
  AD : Fin 32 → Fin 18944 → EReal
  BD : Fin 3584 → Fin 32 → EReal

namespace Ins
variable (I : Ins)

/-- The normalised features, and the forward pass. -/
def h (r : Fin 12288) (k : Fin 3584) : EReal := hS I.X I.NW r k
def zg (r : Fin 12288) (l : Fin 32) : EReal := ∑ k, I.h r k * I.AG l k
def zu (r : Fin 12288) (l : Fin 32) : EReal := ∑ k, I.h r k * I.AU l k
def g (r : Fin 12288) (f : Fin 18944) : EReal := ∑ k, I.h r k * I.WG k f + two * ∑ l, I.zg r l * I.BG f l
def u (r : Fin 12288) (f : Fin 18944) : EReal := ∑ k, I.h r k * I.WU k f + two * ∑ l, I.zu r l * I.BU f l
def sg (r : Fin 12288) (f : Fin 18944) : EReal := Ideal.logistic (I.g r f)
def a (r : Fin 12288) (f : Fin 18944) : EReal := I.g r f * I.sg r f * I.u r f
def zd (r : Fin 12288) (l : Fin 32) : EReal := ∑ f, I.a r f * I.AD l f
def y (r : Fin 12288) (d : Fin 3584) : EReal := I.X r d + (∑ f, I.a r f * I.WD f d + two * ∑ l, I.zd r l * I.BD d l)

/-- The backward pass. -/
def dbd (d : Fin 3584) (l : Fin 32) : EReal := two * ∑ t, I.DY t d * I.zd t l
def dzd (r : Fin 12288) (l : Fin 32) : EReal := two * ∑ d, I.DY r d * I.BD d l
def dad (l : Fin 32) (f : Fin 18944) : EReal := ∑ t, I.dzd t l * I.a t f
def dact (r : Fin 12288) (f : Fin 18944) : EReal := ∑ d, I.DY r d * I.WD f d + ∑ l, I.dzd r l * I.AD l f
def dg (r : Fin 12288) (f : Fin 18944) : EReal := I.dact r f * I.u r f * I.sg r f * (one + I.g r f * (one - I.sg r f))
def du (r : Fin 12288) (f : Fin 18944) : EReal := I.dact r f * I.g r f * I.sg r f
def dbg (f : Fin 18944) (l : Fin 32) : EReal := two * ∑ t, I.dg t f * I.zg t l
def dbu (f : Fin 18944) (l : Fin 32) : EReal := two * ∑ t, I.du t f * I.zu t l
def dzg (r : Fin 12288) (l : Fin 32) : EReal := two * ∑ f, I.dg r f * I.BG f l
def dzu (r : Fin 12288) (l : Fin 32) : EReal := two * ∑ f, I.du r f * I.BU f l
def dag (l : Fin 32) (k : Fin 3584) : EReal := ∑ t, I.dzg t l * I.h t k
def dau (l : Fin 32) (k : Fin 3584) : EReal := ∑ t, I.dzu t l * I.h t k
def dh (r : Fin 12288) (d : Fin 3584) : EReal :=
  ((∑ f, I.dg r f * I.WG d f) + ∑ f, I.du r f * I.WU d f) + ((∑ l, I.dzg r l * I.AG l d) + ∑ l, I.dzu r l * I.AU l d)
def c (r : Fin 12288) : EReal := cV I.X I.dh I.NW r
def dx (r : Fin 12288) (d : Fin 3584) : EReal := dxV I.X I.dh I.NW I.DY r d
end Ins

/-- The four groups of 32 lanes in a row of 128. -/
abbrev la (l : Fin 32) : Fin 128 := row1_11 l
abbrev lb (l : Fin 32) : Fin 128 := row1_12 l
abbrev lc (l : Fin 32) : Fin 128 := row1_13 l
abbrev ld (l : Fin 32) : Fin 128 := ⟨96 + l.val, by have := l.isLt; omega⟩

/-- A sum over 128 lanes is the sum over the four groups. -/
theorem sum128 (f : Fin 128 → EReal) : ∑ j, f j = ((∑ l, f (la l) + ∑ l, f (lb l)) + ∑ l, f (lc l)) + ∑ l, f (ld l) := by
  have e : ∑ j : Fin ((32 + 32 + 32) + 32), f j = _ := Fin.sum_univ_add (fun j : Fin ((32 + 32 + 32) + 32) => f j)
  refine e.trans ?_
  rw [Fin.sum_univ_add, Fin.sum_univ_add]
  refine congrArg₂ (fun a b : EReal => a + b) (congrArg₂ (fun a b : EReal => a + b) (congrArg₂ (fun a b : EReal => a + b) ?_ ?_) ?_) ?_ <;>
    exact Finset.sum_congr rfl fun l _ => congrArg f (Fin.ext (by simp <;> omega))

theorem eq4 {P : Fin 128 → Prop} (j : Fin 128) (ha : ∀ l, P (la l)) (hb : ∀ l, P (lb l)) (hc : ∀ l, P (lc l)) (hd : ∀ l, P (ld l)) : P j := by
  have hj := j.isLt
  by_cases h1 : j.val < 32
  · have := ha ⟨j.val, h1⟩; rwa [show la ⟨j.val, h1⟩ = j from Fin.ext (by show 0 + j.val = j.val; omega)] at this
  by_cases h2 : j.val < 64
  · have := hb ⟨j.val - 32, by omega⟩; rwa [show lb ⟨j.val - 32, by omega⟩ = j from Fin.ext (by show 32 + (j.val - 32) = j.val; omega)] at this
  by_cases h3 : j.val < 96
  · have := hc ⟨j.val - 64, by omega⟩; rwa [show lc ⟨j.val - 64, by omega⟩ = j from Fin.ext (by show 64 + (j.val - 64) = j.val; omega)] at this
  · have := hd ⟨j.val - 96, by omega⟩; rwa [show ld ⟨j.val - 96, by omega⟩ = j from Fin.ext (by show 96 + (j.val - 96) = j.val; omega)] at this

/-- The kernel's quotient form of the logistic function. -/
theorem sgF_eq (x : EReal) : sgF x = Ideal.logistic x := by
  have h0 : Ideal.ofBits .f32 0x00000000#32 = 0 := by simp [Ideal.ofBits, Ideal.ieee]
  unfold sgF Ideal.logistic
  rw [one_eq, h0, sub_eq_add_neg, zero_add]

theorem logistic_nonneg (x : EReal) : 0 ≤ Ideal.logistic x := by
  induction x using EReal.rec with
  | bot => rw [Ideal.logistic_bot]
  | top => rw [Ideal.logistic_top]; exact zero_le_one
  | coe r => rw [Ideal.logistic_coe]; exact_mod_cast (by positivity : (0:ℝ) ≤ (1 + Real.exp (-r))⁻¹)
theorem logistic_ne_top (x : EReal) : Ideal.logistic x ≠ ⊤ := by
  induction x using EReal.rec with
  | bot => rw [Ideal.logistic_bot]; exact EReal.zero_ne_top
  | top => rw [Ideal.logistic_top]; exact EReal.coe_ne_top 1
  | coe r => rw [Ideal.logistic_coe]; exact EReal.coe_ne_top _

/-- The two spellings of the derivative of `x` times its logistic. -/
theorem dgF_eq (g u d : EReal) : dgF g u d = d * u * Ideal.logistic g * (one + g * (one - Ideal.logistic g)) := by
  unfold dgF
  rw [sgF_eq, mul_assoc (d * u), EReal.left_distrib_of_nonneg_of_ne_top (logistic_nonneg g) (logistic_ne_top g), one_eq, mul_one, ← mul_assoc (Ideal.logistic g), mul_comm (Ideal.logistic g) g]
theorem duF_eq (g d : EReal) : duF g d = d * g * Ideal.logistic g := by
  unfold duF; rw [sgF_eq, mul_assoc]
theorem aF_eq (g u : EReal) : aF g u = g * Ideal.logistic g * u := by
  unfold aF; rw [sgF_eq]

/-- A doubled sum, the factor taken inside. -/
theorem two_out {ι : Type} [Fintype ι] (f k : ι → EReal) : ∑ i, (f i * two) * k i = two * ∑ i, f i * k i := by
  rw [mul_comm two, sum_mul_two]
  exact Finset.sum_congr rfl fun i _ => by rw [mul_assoc, mul_comm two, mul_assoc]
theorem two_out' {ι : Type} [Fintype ι] (f k : ι → EReal) : ∑ i, f i * (k i * two) = two * ∑ i, f i * k i := by
  rw [mul_comm two, sum_mul_two]
  exact Finset.sum_congr rfl fun i _ => by rw [mul_assoc]

/-- What the padded adapter rows hold: the gate, the up and the down adapter, each in its own lanes. -/
structure Lanes (I : Ins) (AP : Fin 128 → Fin 3584 → EReal) (BP : Fin 3584 → Fin 128 → EReal) (L : Fin 3 → Fin 128 → Fin 18944 → EReal) : Prop where
  apa : ∀ l k, AP (la l) k = I.AG l k
  apb : ∀ l k, AP (lb l) k = I.AU l k
  apc : ∀ l k, AP (lc l) k = 0
  apd : ∀ l k, AP (ld l) k = 0
  bpa : ∀ l k, BP k (la l) = 0
  bpb : ∀ l k, BP k (lb l) = 0
  bpc : ∀ l k, BP k (lc l) = I.BD k l
  bpd : ∀ l k, BP k (ld l) = 0
  l0a : ∀ l f, L 0 (la l) f = I.BG f l
  l0b : ∀ l f, L 0 (lb l) f = 0
  l0c : ∀ l f, L 0 (lc l) f = 0
  l0d : ∀ l f, L 0 (ld l) f = 0
  l1a : ∀ l f, L 1 (la l) f = 0
  l1b : ∀ l f, L 1 (lb l) f = I.BU f l
  l1c : ∀ l f, L 1 (lc l) f = 0
  l1d : ∀ l f, L 1 (ld l) f = 0
  l2a : ∀ l f, L 2 (la l) f = 0
  l2b : ∀ l f, L 2 (lb l) f = 0
  l2c : ∀ l f, L 2 (lc l) f = I.AD l f
  l2d : ∀ l f, L 2 (ld l) f = 0

section
variable {I : Ins} {AP : Fin 128 → Fin 3584 → EReal} {BP : Fin 3584 → Fin 128 → EReal} {L : Fin 3 → Fin 128 → Fin 18944 → EReal} (hL : Lanes I AP BP L)
include hL

theorem z_a (r : Fin 12288) (l : Fin 32) : zS I.h I.DY AP BP r (la l) = I.zg r l * two := by
  unfold zS Ins.zg
  simp only [hL.apa, hL.bpa, mul_zero, Finset.sum_const_zero, add_zero]
theorem z_b (r : Fin 12288) (l : Fin 32) : zS I.h I.DY AP BP r (lb l) = I.zu r l * two := by
  unfold zS Ins.zu
  simp only [hL.apb, hL.bpb, mul_zero, Finset.sum_const_zero, add_zero]
theorem z_c (r : Fin 12288) (l : Fin 32) : zS I.h I.DY AP BP r (lc l) = I.dzd r l := by
  unfold zS Ins.dzd
  simp only [hL.apc, hL.bpc, mul_zero, Finset.sum_const_zero, zero_add]
  exact mul_comm _ _

theorem g_eq (r : Fin 12288) (f : Fin 18944) : gS I.h (zS I.h I.DY AP BP) I.WG (L 0) r f = I.g r f := by
  unfold gS Ins.g
  rw [sum128]
  simp only [hL.l0a, hL.l0b, hL.l0c, hL.l0d, mul_zero, Finset.sum_const_zero, add_zero, z_a hL, two_out]
theorem u_eq (r : Fin 12288) (f : Fin 18944) : gS I.h (zS I.h I.DY AP BP) I.WU (L 1) r f = I.u r f := by
  unfold gS Ins.u
  rw [sum128]
  simp only [hL.l1a, hL.l1b, hL.l1c, hL.l1d, mul_zero, Finset.sum_const_zero, add_zero, zero_add, z_b hL, two_out]
theorem d_eq (r : Fin 12288) (f : Fin 18944) : dS I.DY (zS I.h I.DY AP BP) I.WD (L 2) r f = I.dact r f := by
  unfold dS Ins.dact
  rw [sum128]
  simp only [hL.l2a, hL.l2b, hL.l2c, hL.l2d, mul_zero, Finset.sum_const_zero, add_zero, zero_add, z_c hL]

/-- The low-rank rows of the second half, and what the output projection and the input gradient make of them. -/
structure Lanes2 (I : Ins) (Z2 : Fin 12288 → Fin 128 → EReal) : Prop where
  a : ∀ r l, Z2 r (la l) = I.dzg r l
  b : ∀ r l, Z2 r (lb l) = I.dzu r l
  c : ∀ r l, Z2 r (lc l) = I.zd r l * two
  d : ∀ r l, Z2 r (ld l) = 0

theorem y_eq {Z2 : Fin 12288 → Fin 128 → EReal} (hZ : Lanes2 I Z2) (r : Fin 12288) (d : Fin 3584) :
    yS I.X Z2 (fun j d => BP d j) I.a I.WD r d = I.y r d := by
  unfold yS Ins.y
  rw [sum128]
  simp only [hL.bpa, hL.bpb, hL.bpc, hL.bpd, mul_zero, Finset.sum_const_zero, add_zero, zero_add, hZ.c, two_out]
  rw [add_comm (two * _)]
theorem gh_eq {Z2 : Fin 12288 → Fin 128 → EReal} (hZ : Lanes2 I Z2) (r : Fin 12288) (d : Fin 3584) :
    ghS Z2 AP I.dg I.du I.WG I.WU r d = I.dh r d := by
  unfold ghS Ins.dh
  rw [sum128]
  simp only [hL.apa, hL.apb, hL.apc, hL.apd, mul_zero, Finset.sum_const_zero, add_zero, zero_add, hZ.a, hZ.b]
  rw [add_comm]
end

end Cert.KV
-- ==== Proof.KV.H2.lean ====
module

public import proofs.«01_k».proof.Proof.KV.H1
public import proofs.«01_k».proof.Proof.KV.Math

@[expose] public section

set_option maxRecDepth 16384

noncomputable section

namespace Cert.KV

open Cert.KernelIdeal Cert.KernelIdeal.Gen Cert.KernelIdeal.Run
open Idealize.ShloMosaic Idealize.ShloMosaic.TcCoe Idealize.ShloMosaic.ValueIdx
open Idealize.ShloMosaic.Tactic
open scoped BigOperators

/-! # The arguments as the layer's inputs, and entries of the host's layout operations -/

/-- Which sequence of the batch, and which place in it, a token is. -/
def bt (r : Fin 12288) : Fin 3 := ⟨r.val / 4096, by have := r.isLt; omega⟩
def st (r : Fin 12288) : Fin 4096 := ⟨r.val % 4096, Nat.mod_lt _ (by decide)⟩
/-- The token of a sequence at a place. -/
def tok (b : Fin 3) (s : Fin 4096) : Fin 12288 := ⟨4096 * b.val + s.val, by have := b.isLt; have := s.isLt; omega⟩
theorem bt_tok (b : Fin 3) (s : Fin 4096) : bt (tok b s) = b := Fin.ext (by have := s.isLt; show (4096 * b.val + s.val) / 4096 = b.val; omega)
theorem st_tok (b : Fin 3) (s : Fin 4096) : st (tok b s) = s := Fin.ext (by have := s.isLt; show (4096 * b.val + s.val) % 4096 = s.val; omega)

/-- The layer's inputs from the programs' arguments. -/
def insOf (x0 x1 : (⟨3, ![3, 4096, 3584]⟩ : Shape).Idx → EReal) (x2 : (⟨1, ![3584]⟩ : Shape).Idx → EReal) (x3 x4 : (⟨2, ![3584, 18944]⟩ : Shape).Idx → EReal)
    (x5 : (⟨2, ![18944, 3584]⟩ : Shape).Idx → EReal) (x6 x7 : (⟨2, ![32, 3584]⟩ : Shape).Idx → EReal) (x8 x9 : (⟨2, ![18944, 32]⟩ : Shape).Idx → EReal)
    (x10 : (⟨2, ![32, 18944]⟩ : Shape).Idx → EReal) (x11 : (⟨2, ![3584, 32]⟩ : Shape).Idx → EReal) : Ins where
  X r k := x0 (ix3 (bt r) (st r) k)
  DY r k := x1 (ix3 (bt r) (st r) k)
  NW k := x2 (ix1 k)
  WG := cur x3
  WU := cur x4
  WD := cur x5
  AG := cur x6
  AU := cur x7
  BG := cur x8
  BU := cur x9
  AD := cur x10
  BD := cur x11

/-- Two sums of products, factor by factor. -/
theorem sum2 {n : ℕ} {f f' g g' : Fin n → EReal} (hf : ∀ t, f t = f' t) (hg : ∀ t, g t = g' t) : ∑ t, f t * g t = ∑ t, f' t * g' t :=
  Finset.sum_congr rfl fun t _ => congrArg₂ (fun a b : EReal => a * b) (hf t) (hg t)

/-- The padding value is zero. -/
theorem padz (i : S_.Idx) : (sitofp (F := Ideal) .bf16 (constantI S_ 32 0#32) : Vec Ideal S_ .bf16) i = (0 : EReal) := by
  show ((((0#32 : BitVec 32).toInt : ℤ) : ℝ) : EReal) = 0
  simp

/-- Flattening the batch: token `r`'s row. -/
theorem flat_apply (x : Vec Ideal S3x4096x3584 .bf16) (r : Fin 12288) (k : Fin 3584) :
    shapeCast S12288x3584 x shapeCasts_S3x4096x3584_S12288x3584 (ix2 r k) = x (ix3 (bt r) (st r) k) :=
  shapeCast_apply _ _ (ix2 r k) (ix3 (bt r) (st r) k) (by
    rw [Shape.rowMajor_val_three, Shape.rowMajor_val_two]
    show (r.val / 4096 * 4096 + r.val % 4096) * 3584 + k.val = r.val * 3584 + k.val
    rw [Nat.div_add_mod' r.val 4096])

/-- The last kernel's rescaled low-rank rows: row `j`, token `r`. -/
def z2e (X : (⟨3, ![24, 96, 512]⟩ : Shape).Idx → EReal) (j : Fin 96) (r : Fin 12288) : EReal :=
  X (ix3 ⟨r.val / 512, by have := r.isLt; omega⟩ j ⟨r.val % 512, Nat.mod_lt _ (by decide)⟩) * two
theorem v23_apply (X : Vec Ideal S24x96x512 .f32) (j : Fin 96) (r : Fin 12288) :
    (shapeCast S96x12288 (transpose S96x24x512 [1, 0, 2] (truncf (F := Ideal) .bf16 (mulf (F := Ideal) X (broadcastInDim S24x96x512 ![] bcast_S_S24x96x512 (constant (F := Ideal) S_ .f32 0x40000000#32))) bitsLt_bf16_f32) transposes_S24x96x512_S96x24x512_1_0_2) shapeCasts_S96x24x512_S96x12288 : Vec Ideal S96x12288 .bf16) (ix2 j r) = z2e X j r :=
  (shapeCast_apply _ _ (ix2 j r) (ix3 j (⟨r.val / 512, by have := r.isLt; omega⟩ : Fin 24) (⟨r.val % 512, Nat.mod_lt _ (by decide)⟩ : Fin 512)) (by
    rw [Shape.rowMajor_val_three, Shape.rowMajor_val_two]
    show (j.val * 24 + r.val / 512) * 512 + r.val % 512 = j.val * 12288 + r.val
    omega)).trans (transpose_apply [1, 0, 2] _ _ _ (ix3 (⟨r.val / 512, by have := r.isLt; omega⟩ : Fin 24) j (⟨r.val % 512, Nat.mod_lt _ (by decide)⟩ : Fin 512)) (fun b => by fin_cases b <;> rfl))

/-- The three stacked adapters, one by one. -/
theorem v17_apply (x y z : Vec Ideal S128x18944 .bf16) (j : Fin 128) (f : Fin 18944) (s : Fin 3) :
    (concatenate S3x128x18944 0 [⟨S1x128x18944, broadcastInDim S1x128x18944 ![1, 2] bcast_S128x18944_S1x128x18944_1_2 x⟩, ⟨S1x128x18944, broadcastInDim S1x128x18944 ![1, 2] bcast_S128x18944_S1x128x18944_1_2 y⟩, ⟨S1x128x18944, broadcastInDim S1x128x18944 ![1, 2] bcast_S128x18944_S1x128x18944_1_2 z⟩] concatenates_S1x128x18944_S1x128x18944_S1x128x18944_S3x128x18944_d0 : Vec Ideal S3x128x18944 .bf16) (ix3 s j f) = (![x, y, z] s : Vec Ideal S128x18944 .bf16) (ix2 j f) := by
  refine (concatenate_ofFn_apply (N := 3) (t := S3x128x18944) (s₁ := S1x128x18944) 0 (fun n => broadcastInDim S1x128x18944 ![1, 2] bcast_S128x18944_S1x128x18944_1_2 (![x, y, z] n)) concatenates_S1x128x18944_S1x128x18944_S1x128x18944_S3x128x18944_d0 rfl 1 rfl (ix3 s j f) s (Nat.div_one _) (ix3 0 j f) (Nat.mod_one _).symm (fun b hb => ?_)).trans ?_
  · fin_cases b
    · exact absurd rfl hb
    · rfl
    · rfl
  · exact broadcastInDim_apply _ _ _ _ (ix2 j f) (fun a => by fin_cases a <;> rfl)

/-- The stacked and padded gate and up adapters, in groups of 32 rows. -/
theorem v3_lo (x y : Vec Ideal S32x3584 .bf16) (l : Fin 32) (k : Fin 3584) :
    (concatenate S64x3584 0 [⟨S32x3584, x⟩, ⟨S32x3584, y⟩] concatenates_S32x3584_S32x3584_S64x3584_d0 : Vec Ideal S64x3584 .bf16) (ix2 (⟨l.val, by have := l.isLt; omega⟩ : Fin 64) k) = x (ix2 l k) :=
  concatenate_pair_apply_left (t := S64x3584) 0 x y _ _ rfl (ix2 l k) (fun b => by fin_cases b <;> rfl)
theorem v3_hi (x y : Vec Ideal S32x3584 .bf16) (l : Fin 32) (k : Fin 3584) :
    (concatenate S64x3584 0 [⟨S32x3584, x⟩, ⟨S32x3584, y⟩] concatenates_S32x3584_S32x3584_S64x3584_d0 : Vec Ideal S64x3584 .bf16) (ix2 (⟨32 + l.val, by have := l.isLt; omega⟩ : Fin 64) k) = y (ix2 l k) :=
  concatenate_pair_apply_right (t := S64x3584) 0 x y _ _ rfl rfl (ix2 l k) (fun b hb => by fin_cases b <;> first | rfl | exact absurd rfl hb) (by show l.val + 32 = 32 + l.val; omega)

section Pads
variable {n D lo hi : ℕ} {x : (⟨2, ![n, D]⟩ : Shape).Idx → EReal} {z : S_.Idx → EReal}
/-- A row inside a padding of rows, and a row outside. -/
theorem padr_in (h : (⟨2, ![n, D]⟩ : Shape).Pads ![lo, 0] ![hi, 0] ![0, 0] ⟨2, ![128, D]⟩) (hu : 0 < S_.numel) (j : Fin 128) (l : Fin n) (d : Fin D) (hj : j.val = lo + l.val) :
    pad (⟨2, ![128, D]⟩ : Shape) ![lo, 0] ![hi, 0] ![0, 0] x z h hu (ix2 j d) = x (ix2 l d) :=
  pad_apply_of_inside _ _ _ x z h hu (ix2 j d) (ix2 l d) (fun a => by
    fin_cases a
    · show j.val = lo + l.val * (0 + 1); omega
    · show d.val = 0 + d.val * (0 + 1); omega)
theorem padr_out (h : (⟨2, ![n, D]⟩ : Shape).Pads ![lo, 0] ![hi, 0] ![0, 0] ⟨2, ![128, D]⟩) (hu : 0 < S_.numel) (hz : ∀ i, z i = 0) (j : Fin 128) (d : Fin D) (hj : j.val < lo ∨ lo + n ≤ j.val) :
    pad (⟨2, ![128, D]⟩ : Shape) ![lo, 0] ![hi, 0] ![0, 0] x z h hu (ix2 j d) = 0 :=
  (pad_apply_of_not_inside _ _ _ x z h hu (ix2 j d) (0 : Fin 2) (fun hh => by
    have h1 : lo ≤ j.val := hh.1
    have h2 : (j.val - lo) / (0 + 1) < n := hh.2.2
    omega)).trans (hz _)
/-- A column inside a padding of columns, and a column outside. -/
theorem padc_in {m : ℕ} {x : (⟨2, ![m, n]⟩ : Shape).Idx → EReal} (h : (⟨2, ![m, n]⟩ : Shape).Pads ![0, 0] ![0, hi] ![0, 0] ⟨2, ![m, 128]⟩) (hu : 0 < S_.numel) (r : Fin m) (j : Fin 128) (l : Fin n) (hj : j.val = l.val) :
    pad (⟨2, ![m, 128]⟩ : Shape) ![0, 0] ![0, hi] ![0, 0] x z h hu (ix2 r j) = x (ix2 r l) :=
  pad_apply_of_inside _ _ _ x z h hu (ix2 r j) (ix2 r l) (fun a => by
    fin_cases a
    · show r.val = 0 + r.val * (0 + 1); omega
    · show j.val = 0 + l.val * (0 + 1); omega)
theorem padc_out {m : ℕ} {x : (⟨2, ![m, n]⟩ : Shape).Idx → EReal} (h : (⟨2, ![m, n]⟩ : Shape).Pads ![0, 0] ![0, hi] ![0, 0] ⟨2, ![m, 128]⟩) (hu : 0 < S_.numel) (hz : ∀ i, z i = 0) (r : Fin m) (j : Fin 128) (hj : n ≤ j.val) :
    pad (⟨2, ![m, 128]⟩ : Shape) ![0, 0] ![0, hi] ![0, 0] x z h hu (ix2 r j) = 0 :=
  (pad_apply_of_not_inside _ _ _ x z h hu (ix2 r j) (1 : Fin 2) (fun hh => by
    have h2 : (j.val - 0) / (0 + 1) < n := hh.2.2
    omega)).trans (hz _)
end Pads

end Cert.KV
-- ==== Proof.KV.Ref.lean ====
module

public import proofs.«01_k».proof.Proof.KV.H2
public import proofs.«01_k».proof.Proof.Gen.ReferenceIdeal.Read
public import Idealize.ShloMosaic.Lib.TwoAxisContraction

@[expose] public section

set_option maxRecDepth 16384

noncomputable section

namespace Cert.KV

open Cert.ReferenceIdeal Cert.ReferenceIdeal.Gen Cert.ReferenceIdeal.Read
open Idealize.ShloMosaic Idealize.ShloMosaic.TcCoe Idealize.ShloMosaic.ValueIdx
open scoped BigOperators

/-! # The reference's operations, as the layer's values -/

theorem ext1 {n : ℕ} {i j : (⟨1, ![n]⟩ : Shape).Idx} (h0 : i 0 = j 0) : i = j := funext fun a => by fin_cases a; exact h0
theorem ext3 {m n o : ℕ} {i j : (⟨3, ![m, n, o]⟩ : Shape).Idx} (h0 : i 0 = j 0) (h1 : i 1 = j 1) (h2 : i 2 = j 2) : i = j :=
  funext fun a => by fin_cases a <;> assumption

/-- The tokens of the batch, pair by pair. -/
def tokEquiv : Fin 3 × Fin 4096 ≃ Fin 12288 where
  toFun p := tok p.1 p.2
  invFun r := (bt r, st r)
  left_inv p := Prod.ext (bt_tok p.1 p.2) (st_tok p.1 p.2)
  right_inv r := Fin.ext (by show 4096 * (r.val / 4096) + r.val % 4096 = r.val; omega)
theorem sum_tok (f : Fin 12288 → EReal) : ∑ b, ∑ s, f (tok b s) = ∑ t, f t :=
  (Fintype.sum_prod_type (fun p : Fin 3 × Fin 4096 => f (tok p.1 p.2))).symm.trans (Equiv.sum_comp tokEquiv f)
/-- A sum that starts from the zero constant. -/
theorem zero_start (x : EReal) : Ideal.ofBits .f32 0x00000000#32 + x = x := by
  have h0 : Ideal.ofBits .f32 0x00000000#32 = 0 := by simp [Ideal.ofBits, Ideal.ieee]
  rw [h0, zero_add]
theorem logistic_one (x : EReal) : Ideal.div one (one + Ideal.exp (-x)) = Ideal.logistic x := by rw [one_eq]; rfl

theorem lhs_outer_3584_32_0 (i : S3584x32.Idx) (k : dot_S3x4096x3584_S3x4096x32_S3584x32_01_01_2_2_n_n.contr.Idx) : (dot_S3x4096x3584_S3x4096x32_S3584x32_01_01_2_2_n_n.lhsIdx i k 0).val = (k ⟨0, by decide⟩).val := by
  unfold DotDims.lhsIdx
  rw [dif_neg (show ¬(0 : Fin S3x4096x3584.rank) ∈ dot_S3x4096x3584_S3x4096x32_S3584x32_01_01_2_2_n_n.lhsBatch by decide), dif_neg (show ¬(0 : Fin S3x4096x3584.rank) ∈ dot_S3x4096x3584_S3x4096x32_S3584x32_01_01_2_2_n_n.lhsNonContracting by decide)]
  rfl
theorem lhs_outer_3584_32_1 (i : S3584x32.Idx) (k : dot_S3x4096x3584_S3x4096x32_S3584x32_01_01_2_2_n_n.contr.Idx) : (dot_S3x4096x3584_S3x4096x32_S3584x32_01_01_2_2_n_n.lhsIdx i k 1).val = (k ⟨1, by decide⟩).val := by
  unfold DotDims.lhsIdx
  rw [dif_neg (show ¬(1 : Fin S3x4096x3584.rank) ∈ dot_S3x4096x3584_S3x4096x32_S3584x32_01_01_2_2_n_n.lhsBatch by decide), dif_neg (show ¬(1 : Fin S3x4096x3584.rank) ∈ dot_S3x4096x3584_S3x4096x32_S3584x32_01_01_2_2_n_n.lhsNonContracting by decide)]
  rfl
theorem lhs_outer_3584_32_2 (i : S3584x32.Idx) (k : dot_S3x4096x3584_S3x4096x32_S3584x32_01_01_2_2_n_n.contr.Idx) : (dot_S3x4096x3584_S3x4096x32_S3584x32_01_01_2_2_n_n.lhsIdx i k 2).val = (i 0).val := by
  unfold DotDims.lhsIdx
  rw [dif_neg (show ¬(2 : Fin S3x4096x3584.rank) ∈ dot_S3x4096x3584_S3x4096x32_S3584x32_01_01_2_2_n_n.lhsBatch by decide), dif_pos (show (2 : Fin S3x4096x3584.rank) ∈ dot_S3x4096x3584_S3x4096x32_S3584x32_01_01_2_2_n_n.lhsNonContracting by decide)]
  rfl
theorem rhs_outer_3584_32_0 (i : S3584x32.Idx) (k : dot_S3x4096x3584_S3x4096x32_S3584x32_01_01_2_2_n_n.contr.Idx) : (dot_S3x4096x3584_S3x4096x32_S3584x32_01_01_2_2_n_n.rhsIdx i k 0).val = (k ⟨0, by decide⟩).val := by
  unfold DotDims.rhsIdx
  rw [dif_neg (show ¬(0 : Fin S3x4096x32.rank) ∈ dot_S3x4096x3584_S3x4096x32_S3584x32_01_01_2_2_n_n.rhsBatch by decide), dif_neg (show ¬(0 : Fin S3x4096x32.rank) ∈ dot_S3x4096x3584_S3x4096x32_S3584x32_01_01_2_2_n_n.rhsNonContracting by decide)]
  rfl
theorem rhs_outer_3584_32_1 (i : S3584x32.Idx) (k : dot_S3x4096x3584_S3x4096x32_S3584x32_01_01_2_2_n_n.contr.Idx) : (dot_S3x4096x3584_S3x4096x32_S3584x32_01_01_2_2_n_n.rhsIdx i k 1).val = (k ⟨1, by decide⟩).val := by
  unfold DotDims.rhsIdx
  rw [dif_neg (show ¬(1 : Fin S3x4096x32.rank) ∈ dot_S3x4096x3584_S3x4096x32_S3584x32_01_01_2_2_n_n.rhsBatch by decide), dif_neg (show ¬(1 : Fin S3x4096x32.rank) ∈ dot_S3x4096x3584_S3x4096x32_S3584x32_01_01_2_2_n_n.rhsNonContracting by decide)]
  rfl
theorem rhs_outer_3584_32_2 (i : S3584x32.Idx) (k : dot_S3x4096x3584_S3x4096x32_S3584x32_01_01_2_2_n_n.contr.Idx) : (dot_S3x4096x3584_S3x4096x32_S3584x32_01_01_2_2_n_n.rhsIdx i k 2).val = (i 1).val := by
  unfold DotDims.rhsIdx
  rw [dif_neg (show ¬(2 : Fin S3x4096x32.rank) ∈ dot_S3x4096x3584_S3x4096x32_S3584x32_01_01_2_2_n_n.rhsBatch by decide), dif_pos (show (2 : Fin S3x4096x32.rank) ∈ dot_S3x4096x3584_S3x4096x32_S3584x32_01_01_2_2_n_n.rhsNonContracting by decide)]
  rfl
/-- The sum over the tokens of an outer product, 3584 by 32. -/
theorem outer_3584_32 (A : (⟨S3x4096x3584, .bf16⟩ : BufTy).Contents (Elt Ideal)) (B : (⟨S3x4096x32, .bf16⟩ : BufTy).Contents (Elt Ideal)) (f : Fin 12288 → Fin 3584 → EReal) (g : Fin 12288 → Fin 32 → EReal)
    (hA : ∀ b s j, A (ix3 b s j) = f (tok b s) j) (hB : ∀ b s j, B (ix3 b s j) = g (tok b s) j) (i : Fin 3584) (j : Fin 32) :
    (Host.dotGeneral (F := Ideal) (φ₁ := .bf16) (φ₂ := .bf16) dot_S3x4096x3584_S3x4096x32_S3584x32_01_01_2_2_n_n none A B : (⟨S3584x32, .f32⟩ : BufTy).Contents (Elt Ideal)) (ix2 i j) = ∑ t, f t i * g t j := by
  simp only [Host.dotGeneral]
  rw [Ideal.dotGeneral_apply, sum_contr2 dot_S3x4096x3584_S3x4096x32_S3584x32_01_01_2_2_n_n 3 4096 rfl rfl rfl, ← sum_tok]
  refine Finset.sum_congr rfl fun b _ => Finset.sum_congr rfl fun s _ => ?_
  have k0 := contrEquiv2_symm_val0 dot_S3x4096x3584_S3x4096x32_S3584x32_01_01_2_2_n_n 3 4096 rfl rfl rfl (b, s)
  have k1 := contrEquiv2_symm_val1 dot_S3x4096x3584_S3x4096x32_S3584x32_01_01_2_2_n_n 3 4096 rfl rfl rfl (b, s)
  have el : dot_S3x4096x3584_S3x4096x32_S3584x32_01_01_2_2_n_n.lhsIdx (ix2 i j) ((contrEquiv2 dot_S3x4096x3584_S3x4096x32_S3584x32_01_01_2_2_n_n 3 4096 rfl rfl rfl).symm (b, s)) = ix3 b s i :=
    ext3 (Fin.ext ((lhs_outer_3584_32_0 _ _).trans k0)) (Fin.ext ((lhs_outer_3584_32_1 _ _).trans k1)) (Fin.ext (lhs_outer_3584_32_2 _ _))
  have er : dot_S3x4096x3584_S3x4096x32_S3584x32_01_01_2_2_n_n.rhsIdx (ix2 i j) ((contrEquiv2 dot_S3x4096x3584_S3x4096x32_S3584x32_01_01_2_2_n_n 3 4096 rfl rfl rfl).symm (b, s)) = ix3 b s j :=
    ext3 (Fin.ext ((rhs_outer_3584_32_0 _ _).trans k0)) (Fin.ext ((rhs_outer_3584_32_1 _ _).trans k1)) (Fin.ext (rhs_outer_3584_32_2 _ _))
  rw [el, er, hA, hB]
theorem lhs_outer_32_18944_0 (i : S32x18944.Idx) (k : dot_S3x4096x32_S3x4096x18944_S32x18944_01_01_2_2_n_n.contr.Idx) : (dot_S3x4096x32_S3x4096x18944_S32x18944_01_01_2_2_n_n.lhsIdx i k 0).val = (k ⟨0, by decide⟩).val := by
  unfold DotDims.lhsIdx
  rw [dif_neg (show ¬(0 : Fin S3x4096x32.rank) ∈ dot_S3x4096x32_S3x4096x18944_S32x18944_01_01_2_2_n_n.lhsBatch by decide), dif_neg (show ¬(0 : Fin S3x4096x32.rank) ∈ dot_S3x4096x32_S3x4096x18944_S32x18944_01_01_2_2_n_n.lhsNonContracting by decide)]
  rfl
theorem lhs_outer_32_18944_1 (i : S32x18944.Idx) (k : dot_S3x4096x32_S3x4096x18944_S32x18944_01_01_2_2_n_n.contr.Idx) : (dot_S3x4096x32_S3x4096x18944_S32x18944_01_01_2_2_n_n.lhsIdx i k 1).val = (k ⟨1, by decide⟩).val := by
  unfold DotDims.lhsIdx
  rw [dif_neg (show ¬(1 : Fin S3x4096x32.rank) ∈ dot_S3x4096x32_S3x4096x18944_S32x18944_01_01_2_2_n_n.lhsBatch by decide), dif_neg (show ¬(1 : Fin S3x4096x32.rank) ∈ dot_S3x4096x32_S3x4096x18944_S32x18944_01_01_2_2_n_n.lhsNonContracting by decide)]
  rfl
theorem lhs_outer_32_18944_2 (i : S32x18944.Idx) (k : dot_S3x4096x32_S3x4096x18944_S32x18944_01_01_2_2_n_n.contr.Idx) : (dot_S3x4096x32_S3x4096x18944_S32x18944_01_01_2_2_n_n.lhsIdx i k 2).val = (i 0).val := by
  unfold DotDims.lhsIdx
  rw [dif_neg (show ¬(2 : Fin S3x4096x32.rank) ∈ dot_S3x4096x32_S3x4096x18944_S32x18944_01_01_2_2_n_n.lhsBatch by decide), dif_pos (show (2 : Fin S3x4096x32.rank) ∈ dot_S3x4096x32_S3x4096x18944_S32x18944_01_01_2_2_n_n.lhsNonContracting by decide)]
  rfl
theorem rhs_outer_32_18944_0 (i : S32x18944.Idx) (k : dot_S3x4096x32_S3x4096x18944_S32x18944_01_01_2_2_n_n.contr.Idx) : (dot_S3x4096x32_S3x4096x18944_S32x18944_01_01_2_2_n_n.rhsIdx i k 0).val = (k ⟨0, by decide⟩).val := by
  unfold DotDims.rhsIdx
  rw [dif_neg (show ¬(0 : Fin S3x4096x18944.rank) ∈ dot_S3x4096x32_S3x4096x18944_S32x18944_01_01_2_2_n_n.rhsBatch by decide), dif_neg (show ¬(0 : Fin S3x4096x18944.rank) ∈ dot_S3x4096x32_S3x4096x18944_S32x18944_01_01_2_2_n_n.rhsNonContracting by decide)]
  rfl
theorem rhs_outer_32_18944_1 (i : S32x18944.Idx) (k : dot_S3x4096x32_S3x4096x18944_S32x18944_01_01_2_2_n_n.contr.Idx) : (dot_S3x4096x32_S3x4096x18944_S32x18944_01_01_2_2_n_n.rhsIdx i k 1).val = (k ⟨1, by decide⟩).val := by
  unfold DotDims.rhsIdx
  rw [dif_neg (show ¬(1 : Fin S3x4096x18944.rank) ∈ dot_S3x4096x32_S3x4096x18944_S32x18944_01_01_2_2_n_n.rhsBatch by decide), dif_neg (show ¬(1 : Fin S3x4096x18944.rank) ∈ dot_S3x4096x32_S3x4096x18944_S32x18944_01_01_2_2_n_n.rhsNonContracting by decide)]
  rfl
theorem rhs_outer_32_18944_2 (i : S32x18944.Idx) (k : dot_S3x4096x32_S3x4096x18944_S32x18944_01_01_2_2_n_n.contr.Idx) : (dot_S3x4096x32_S3x4096x18944_S32x18944_01_01_2_2_n_n.rhsIdx i k 2).val = (i 1).val := by
  unfold DotDims.rhsIdx
  rw [dif_neg (show ¬(2 : Fin S3x4096x18944.rank) ∈ dot_S3x4096x32_S3x4096x18944_S32x18944_01_01_2_2_n_n.rhsBatch by decide), dif_pos (show (2 : Fin S3x4096x18944.rank) ∈ dot_S3x4096x32_S3x4096x18944_S32x18944_01_01_2_2_n_n.rhsNonContracting by decide)]
  rfl
/-- The sum over the tokens of an outer product, 32 by 18944. -/
theorem outer_32_18944 (A : (⟨S3x4096x32, .bf16⟩ : BufTy).Contents (Elt Ideal)) (B : (⟨S3x4096x18944, .bf16⟩ : BufTy).Contents (Elt Ideal)) (f : Fin 12288 → Fin 32 → EReal) (g : Fin 12288 → Fin 18944 → EReal)
    (hA : ∀ b s j, A (ix3 b s j) = f (tok b s) j) (hB : ∀ b s j, B (ix3 b s j) = g (tok b s) j) (i : Fin 32) (j : Fin 18944) :
    (Host.dotGeneral (F := Ideal) (φ₁ := .bf16) (φ₂ := .bf16) dot_S3x4096x32_S3x4096x18944_S32x18944_01_01_2_2_n_n none A B : (⟨S32x18944, .f32⟩ : BufTy).Contents (Elt Ideal)) (ix2 i j) = ∑ t, f t i * g t j := by
  simp only [Host.dotGeneral]
  rw [Ideal.dotGeneral_apply, sum_contr2 dot_S3x4096x32_S3x4096x18944_S32x18944_01_01_2_2_n_n 3 4096 rfl rfl rfl, ← sum_tok]
  refine Finset.sum_congr rfl fun b _ => Finset.sum_congr rfl fun s _ => ?_
  have k0 := contrEquiv2_symm_val0 dot_S3x4096x32_S3x4096x18944_S32x18944_01_01_2_2_n_n 3 4096 rfl rfl rfl (b, s)
  have k1 := contrEquiv2_symm_val1 dot_S3x4096x32_S3x4096x18944_S32x18944_01_01_2_2_n_n 3 4096 rfl rfl rfl (b, s)
  have el : dot_S3x4096x32_S3x4096x18944_S32x18944_01_01_2_2_n_n.lhsIdx (ix2 i j) ((contrEquiv2 dot_S3x4096x32_S3x4096x18944_S32x18944_01_01_2_2_n_n 3 4096 rfl rfl rfl).symm (b, s)) = ix3 b s i :=
    ext3 (Fin.ext ((lhs_outer_32_18944_0 _ _).trans k0)) (Fin.ext ((lhs_outer_32_18944_1 _ _).trans k1)) (Fin.ext (lhs_outer_32_18944_2 _ _))
  have er : dot_S3x4096x32_S3x4096x18944_S32x18944_01_01_2_2_n_n.rhsIdx (ix2 i j) ((contrEquiv2 dot_S3x4096x32_S3x4096x18944_S32x18944_01_01_2_2_n_n 3 4096 rfl rfl rfl).symm (b, s)) = ix3 b s j :=
    ext3 (Fin.ext ((rhs_outer_32_18944_0 _ _).trans k0)) (Fin.ext ((rhs_outer_32_18944_1 _ _).trans k1)) (Fin.ext (rhs_outer_32_18944_2 _ _))
  rw [el, er, hA, hB]
theorem lhs_outer_18944_32_0 (i : S18944x32.Idx) (k : dot_S3x4096x18944_S3x4096x32_S18944x32_01_01_2_2_n_n.contr.Idx) : (dot_S3x4096x18944_S3x4096x32_S18944x32_01_01_2_2_n_n.lhsIdx i k 0).val = (k ⟨0, by decide⟩).val := by
  unfold DotDims.lhsIdx
  rw [dif_neg (show ¬(0 : Fin S3x4096x18944.rank) ∈ dot_S3x4096x18944_S3x4096x32_S18944x32_01_01_2_2_n_n.lhsBatch by decide), dif_neg (show ¬(0 : Fin S3x4096x18944.rank) ∈ dot_S3x4096x18944_S3x4096x32_S18944x32_01_01_2_2_n_n.lhsNonContracting by decide)]
  rfl
theorem lhs_outer_18944_32_1 (i : S18944x32.Idx) (k : dot_S3x4096x18944_S3x4096x32_S18944x32_01_01_2_2_n_n.contr.Idx) : (dot_S3x4096x18944_S3x4096x32_S18944x32_01_01_2_2_n_n.lhsIdx i k 1).val = (k ⟨1, by decide⟩).val := by
  unfold DotDims.lhsIdx
  rw [dif_neg (show ¬(1 : Fin S3x4096x18944.rank) ∈ dot_S3x4096x18944_S3x4096x32_S18944x32_01_01_2_2_n_n.lhsBatch by decide), dif_neg (show ¬(1 : Fin S3x4096x18944.rank) ∈ dot_S3x4096x18944_S3x4096x32_S18944x32_01_01_2_2_n_n.lhsNonContracting by decide)]
  rfl
theorem lhs_outer_18944_32_2 (i : S18944x32.Idx) (k : dot_S3x4096x18944_S3x4096x32_S18944x32_01_01_2_2_n_n.contr.Idx) : (dot_S3x4096x18944_S3x4096x32_S18944x32_01_01_2_2_n_n.lhsIdx i k 2).val = (i 0).val := by
  unfold DotDims.lhsIdx
  rw [dif_neg (show ¬(2 : Fin S3x4096x18944.rank) ∈ dot_S3x4096x18944_S3x4096x32_S18944x32_01_01_2_2_n_n.lhsBatch by decide), dif_pos (show (2 : Fin S3x4096x18944.rank) ∈ dot_S3x4096x18944_S3x4096x32_S18944x32_01_01_2_2_n_n.lhsNonContracting by decide)]
  rfl
theorem rhs_outer_18944_32_0 (i : S18944x32.Idx) (k : dot_S3x4096x18944_S3x4096x32_S18944x32_01_01_2_2_n_n.contr.Idx) : (dot_S3x4096x18944_S3x4096x32_S18944x32_01_01_2_2_n_n.rhsIdx i k 0).val = (k ⟨0, by decide⟩).val := by
  unfold DotDims.rhsIdx
  rw [dif_neg (show ¬(0 : Fin S3x4096x32.rank) ∈ dot_S3x4096x18944_S3x4096x32_S18944x32_01_01_2_2_n_n.rhsBatch by decide), dif_neg (show ¬(0 : Fin S3x4096x32.rank) ∈ dot_S3x4096x18944_S3x4096x32_S18944x32_01_01_2_2_n_n.rhsNonContracting by decide)]
  rfl
theorem rhs_outer_18944_32_1 (i : S18944x32.Idx) (k : dot_S3x4096x18944_S3x4096x32_S18944x32_01_01_2_2_n_n.contr.Idx) : (dot_S3x4096x18944_S3x4096x32_S18944x32_01_01_2_2_n_n.rhsIdx i k 1).val = (k ⟨1, by decide⟩).val := by
  unfold DotDims.rhsIdx
  rw [dif_neg (show ¬(1 : Fin S3x4096x32.rank) ∈ dot_S3x4096x18944_S3x4096x32_S18944x32_01_01_2_2_n_n.rhsBatch by decide), dif_neg (show ¬(1 : Fin S3x4096x32.rank) ∈ dot_S3x4096x18944_S3x4096x32_S18944x32_01_01_2_2_n_n.rhsNonContracting by decide)]
  rfl
theorem rhs_outer_18944_32_2 (i : S18944x32.Idx) (k : dot_S3x4096x18944_S3x4096x32_S18944x32_01_01_2_2_n_n.contr.Idx) : (dot_S3x4096x18944_S3x4096x32_S18944x32_01_01_2_2_n_n.rhsIdx i k 2).val = (i 1).val := by
  unfold DotDims.rhsIdx
  rw [dif_neg (show ¬(2 : Fin S3x4096x32.rank) ∈ dot_S3x4096x18944_S3x4096x32_S18944x32_01_01_2_2_n_n.rhsBatch by decide), dif_pos (show (2 : Fin S3x4096x32.rank) ∈ dot_S3x4096x18944_S3x4096x32_S18944x32_01_01_2_2_n_n.rhsNonContracting by decide)]
  rfl
/-- The sum over the tokens of an outer product, 18944 by 32. -/
theorem outer_18944_32 (A : (⟨S3x4096x18944, .bf16⟩ : BufTy).Contents (Elt Ideal)) (B : (⟨S3x4096x32, .bf16⟩ : BufTy).Contents (Elt Ideal)) (f : Fin 12288 → Fin 18944 → EReal) (g : Fin 12288 → Fin 32 → EReal)
    (hA : ∀ b s j, A (ix3 b s j) = f (tok b s) j) (hB : ∀ b s j, B (ix3 b s j) = g (tok b s) j) (i : Fin 18944) (j : Fin 32) :
    (Host.dotGeneral (F := Ideal) (φ₁ := .bf16) (φ₂ := .bf16) dot_S3x4096x18944_S3x4096x32_S18944x32_01_01_2_2_n_n none A B : (⟨S18944x32, .f32⟩ : BufTy).Contents (Elt Ideal)) (ix2 i j) = ∑ t, f t i * g t j := by
  simp only [Host.dotGeneral]
  rw [Ideal.dotGeneral_apply, sum_contr2 dot_S3x4096x18944_S3x4096x32_S18944x32_01_01_2_2_n_n 3 4096 rfl rfl rfl, ← sum_tok]
  refine Finset.sum_congr rfl fun b _ => Finset.sum_congr rfl fun s _ => ?_
  have k0 := contrEquiv2_symm_val0 dot_S3x4096x18944_S3x4096x32_S18944x32_01_01_2_2_n_n 3 4096 rfl rfl rfl (b, s)
  have k1 := contrEquiv2_symm_val1 dot_S3x4096x18944_S3x4096x32_S18944x32_01_01_2_2_n_n 3 4096 rfl rfl rfl (b, s)
  have el : dot_S3x4096x18944_S3x4096x32_S18944x32_01_01_2_2_n_n.lhsIdx (ix2 i j) ((contrEquiv2 dot_S3x4096x18944_S3x4096x32_S18944x32_01_01_2_2_n_n 3 4096 rfl rfl rfl).symm (b, s)) = ix3 b s i :=
    ext3 (Fin.ext ((lhs_outer_18944_32_0 _ _).trans k0)) (Fin.ext ((lhs_outer_18944_32_1 _ _).trans k1)) (Fin.ext (lhs_outer_18944_32_2 _ _))
  have er : dot_S3x4096x18944_S3x4096x32_S18944x32_01_01_2_2_n_n.rhsIdx (ix2 i j) ((contrEquiv2 dot_S3x4096x18944_S3x4096x32_S18944x32_01_01_2_2_n_n 3 4096 rfl rfl rfl).symm (b, s)) = ix3 b s j :=
    ext3 (Fin.ext ((rhs_outer_18944_32_0 _ _).trans k0)) (Fin.ext ((rhs_outer_18944_32_1 _ _).trans k1)) (Fin.ext (rhs_outer_18944_32_2 _ _))
  rw [el, er, hA, hB]
theorem lhs_outer_32_3584_0 (i : S32x3584.Idx) (k : dot_S3x4096x32_S3x4096x3584_S32x3584_01_01_2_2_n_n.contr.Idx) : (dot_S3x4096x32_S3x4096x3584_S32x3584_01_01_2_2_n_n.lhsIdx i k 0).val = (k ⟨0, by decide⟩).val := by
  unfold DotDims.lhsIdx
  rw [dif_neg (show ¬(0 : Fin S3x4096x32.rank) ∈ dot_S3x4096x32_S3x4096x3584_S32x3584_01_01_2_2_n_n.lhsBatch by decide), dif_neg (show ¬(0 : Fin S3x4096x32.rank) ∈ dot_S3x4096x32_S3x4096x3584_S32x3584_01_01_2_2_n_n.lhsNonContracting by decide)]
  rfl
theorem lhs_outer_32_3584_1 (i : S32x3584.Idx) (k : dot_S3x4096x32_S3x4096x3584_S32x3584_01_01_2_2_n_n.contr.Idx) : (dot_S3x4096x32_S3x4096x3584_S32x3584_01_01_2_2_n_n.lhsIdx i k 1).val = (k ⟨1, by decide⟩).val := by
  unfold DotDims.lhsIdx
  rw [dif_neg (show ¬(1 : Fin S3x4096x32.rank) ∈ dot_S3x4096x32_S3x4096x3584_S32x3584_01_01_2_2_n_n.lhsBatch by decide), dif_neg (show ¬(1 : Fin S3x4096x32.rank) ∈ dot_S3x4096x32_S3x4096x3584_S32x3584_01_01_2_2_n_n.lhsNonContracting by decide)]
  rfl
theorem lhs_outer_32_3584_2 (i : S32x3584.Idx) (k : dot_S3x4096x32_S3x4096x3584_S32x3584_01_01_2_2_n_n.contr.Idx) : (dot_S3x4096x32_S3x4096x3584_S32x3584_01_01_2_2_n_n.lhsIdx i k 2).val = (i 0).val := by
  unfold DotDims.lhsIdx
  rw [dif_neg (show ¬(2 : Fin S3x4096x32.rank) ∈ dot_S3x4096x32_S3x4096x3584_S32x3584_01_01_2_2_n_n.lhsBatch by decide), dif_pos (show (2 : Fin S3x4096x32.rank) ∈ dot_S3x4096x32_S3x4096x3584_S32x3584_01_01_2_2_n_n.lhsNonContracting by decide)]
  rfl
theorem rhs_outer_32_3584_0 (i : S32x3584.Idx) (k : dot_S3x4096x32_S3x4096x3584_S32x3584_01_01_2_2_n_n.contr.Idx) : (dot_S3x4096x32_S3x4096x3584_S32x3584_01_01_2_2_n_n.rhsIdx i k 0).val = (k ⟨0, by decide⟩).val := by
  unfold DotDims.rhsIdx
  rw [dif_neg (show ¬(0 : Fin S3x4096x3584.rank) ∈ dot_S3x4096x32_S3x4096x3584_S32x3584_01_01_2_2_n_n.rhsBatch by decide), dif_neg (show ¬(0 : Fin S3x4096x3584.rank) ∈ dot_S3x4096x32_S3x4096x3584_S32x3584_01_01_2_2_n_n.rhsNonContracting by decide)]
  rfl
theorem rhs_outer_32_3584_1 (i : S32x3584.Idx) (k : dot_S3x4096x32_S3x4096x3584_S32x3584_01_01_2_2_n_n.contr.Idx) : (dot_S3x4096x32_S3x4096x3584_S32x3584_01_01_2_2_n_n.rhsIdx i k 1).val = (k ⟨1, by decide⟩).val := by
  unfold DotDims.rhsIdx
  rw [dif_neg (show ¬(1 : Fin S3x4096x3584.rank) ∈ dot_S3x4096x32_S3x4096x3584_S32x3584_01_01_2_2_n_n.rhsBatch by decide), dif_neg (show ¬(1 : Fin S3x4096x3584.rank) ∈ dot_S3x4096x32_S3x4096x3584_S32x3584_01_01_2_2_n_n.rhsNonContracting by decide)]
  rfl
theorem rhs_outer_32_3584_2 (i : S32x3584.Idx) (k : dot_S3x4096x32_S3x4096x3584_S32x3584_01_01_2_2_n_n.contr.Idx) : (dot_S3x4096x32_S3x4096x3584_S32x3584_01_01_2_2_n_n.rhsIdx i k 2).val = (i 1).val := by
  unfold DotDims.rhsIdx
  rw [dif_neg (show ¬(2 : Fin S3x4096x3584.rank) ∈ dot_S3x4096x32_S3x4096x3584_S32x3584_01_01_2_2_n_n.rhsBatch by decide), dif_pos (show (2 : Fin S3x4096x3584.rank) ∈ dot_S3x4096x32_S3x4096x3584_S32x3584_01_01_2_2_n_n.rhsNonContracting by decide)]
  rfl
/-- The sum over the tokens of an outer product, 32 by 3584. -/
theorem outer_32_3584 (A : (⟨S3x4096x32, .bf16⟩ : BufTy).Contents (Elt Ideal)) (B : (⟨S3x4096x3584, .bf16⟩ : BufTy).Contents (Elt Ideal)) (f : Fin 12288 → Fin 32 → EReal) (g : Fin 12288 → Fin 3584 → EReal)
    (hA : ∀ b s j, A (ix3 b s j) = f (tok b s) j) (hB : ∀ b s j, B (ix3 b s j) = g (tok b s) j) (i : Fin 32) (j : Fin 3584) :
    (Host.dotGeneral (F := Ideal) (φ₁ := .bf16) (φ₂ := .bf16) dot_S3x4096x32_S3x4096x3584_S32x3584_01_01_2_2_n_n none A B : (⟨S32x3584, .f32⟩ : BufTy).Contents (Elt Ideal)) (ix2 i j) = ∑ t, f t i * g t j := by
  simp only [Host.dotGeneral]
  rw [Ideal.dotGeneral_apply, sum_contr2 dot_S3x4096x32_S3x4096x3584_S32x3584_01_01_2_2_n_n 3 4096 rfl rfl rfl, ← sum_tok]
  refine Finset.sum_congr rfl fun b _ => Finset.sum_congr rfl fun s _ => ?_
  have k0 := contrEquiv2_symm_val0 dot_S3x4096x32_S3x4096x3584_S32x3584_01_01_2_2_n_n 3 4096 rfl rfl rfl (b, s)
  have k1 := contrEquiv2_symm_val1 dot_S3x4096x32_S3x4096x3584_S32x3584_01_01_2_2_n_n 3 4096 rfl rfl rfl (b, s)
  have el : dot_S3x4096x32_S3x4096x3584_S32x3584_01_01_2_2_n_n.lhsIdx (ix2 i j) ((contrEquiv2 dot_S3x4096x32_S3x4096x3584_S32x3584_01_01_2_2_n_n 3 4096 rfl rfl rfl).symm (b, s)) = ix3 b s i :=
    ext3 (Fin.ext ((lhs_outer_32_3584_0 _ _).trans k0)) (Fin.ext ((lhs_outer_32_3584_1 _ _).trans k1)) (Fin.ext (lhs_outer_32_3584_2 _ _))
  have er : dot_S3x4096x32_S3x4096x3584_S32x3584_01_01_2_2_n_n.rhsIdx (ix2 i j) ((contrEquiv2 dot_S3x4096x32_S3x4096x3584_S32x3584_01_01_2_2_n_n 3 4096 rfl rfl rfl).symm (b, s)) = ix3 b s j :=
    ext3 (Fin.ext ((rhs_outer_32_3584_0 _ _).trans k0)) (Fin.ext ((rhs_outer_32_3584_1 _ _).trans k1)) (Fin.ext (rhs_outer_32_3584_2 _ _))
  rw [el, er, hA, hB]

variable (x0 x1 : (⟨S3x4096x3584, .bf16⟩ : BufTy).Contents (Elt Ideal)) (x2 : (⟨S3584, .f32⟩ : BufTy).Contents (Elt Ideal)) (x3 x4 : (⟨S3584x18944, .bf16⟩ : BufTy).Contents (Elt Ideal)) (x5 : (⟨S18944x3584, .bf16⟩ : BufTy).Contents (Elt Ideal)) (x6 x7 : (⟨S32x3584, .bf16⟩ : BufTy).Contents (Elt Ideal)) (x8 x9 : (⟨S18944x32, .bf16⟩ : BufTy).Contents (Elt Ideal)) (x10 : (⟨S32x18944, .bf16⟩ : BufTy).Contents (Elt Ideal)) (x11 : (⟨S3584x32, .bf16⟩ : BufTy).Contents (Elt Ideal))

/-- The layer's inputs as the reference's arguments give them. -/
abbrev rI : Ins := insOf x0 x1 x2 x3 x4 x5 x6 x7 x8 x9 x10 x11
theorem inX (b : Fin 3) (s : Fin 4096) (j : Fin 3584) : x0 (ix3 b s j) = (rI x0 x1 x2 x3 x4 x5 x6 x7 x8 x9 x10 x11).X (tok b s) j := by
  show _ = x0 (ix3 (bt (tok b s)) (st (tok b s)) j); rw [bt_tok, st_tok]
theorem inDY (b : Fin 3) (s : Fin 4096) (j : Fin 3584) : x1 (ix3 b s j) = (rI x0 x1 x2 x3 x4 x5 x6 x7 x8 x9 x10 x11).DY (tok b s) j := by
  show _ = x1 (ix3 (bt (tok b s)) (st (tok b s)) j); rw [bt_tok, st_tok]

/-! The operations in the program's order, each at one position. -/
theorem w0 (i : Fin 18944) (j : Fin 3584) : val_main_v0 (F := Ideal) x3 (ix2 i j) = (rI x0 x1 x2 x3 x4 x5 x6 x7 x8 x9 x10 x11).WG j i :=
  (val_main_v0_apply (F := Ideal) x3 (ix2 i j)).trans (congrArg x3 (Shape.idx_ext₂ rfl rfl : idx_main_v0 (ix2 i j) = ix2 j i))
theorem w1 (i : Fin 18944) (j : Fin 3584) : val_main_v1 (F := Ideal) x4 (ix2 i j) = (rI x0 x1 x2 x3 x4 x5 x6 x7 x8 x9 x10 x11).WU j i :=
  (val_main_v1_apply (F := Ideal) x4 (ix2 i j)).trans (congrArg x4 (Shape.idx_ext₂ rfl rfl : idx_main_v1 (ix2 i j) = ix2 j i))
theorem w2 (i : Fin 3584) (j : Fin 18944) : val_main_v2 (F := Ideal) x5 (ix2 i j) = (rI x0 x1 x2 x3 x4 x5 x6 x7 x8 x9 x10 x11).WD j i :=
  (val_main_v2_apply (F := Ideal) x5 (ix2 i j)).trans (congrArg x5 (Shape.idx_ext₂ rfl rfl : idx_main_v2 (ix2 i j) = ix2 j i))
theorem w3 (b : Fin 3) (s : Fin 4096) (j : Fin 3584) : val_main_v3 (F := Ideal) x0 (ix3 b s j) = (rI x0 x1 x2 x3 x4 x5 x6 x7 x8 x9 x10 x11).X (tok b s) j :=
  (val_main_v3_apply (F := Ideal) x0 (ix3 b s j)).trans (inX x0 x1 x2 x3 x4 x5 x6 x7 x8 x9 x10 x11 b s j)
theorem w4 (b : Fin 3) (s : Fin 4096) (j : Fin 3584) : val_main_v4 (F := Ideal) x0 (ix3 b s j) = (rI x0 x1 x2 x3 x4 x5 x6 x7 x8 x9 x10 x11).X (tok b s) j * (rI x0 x1 x2 x3 x4 x5 x6 x7 x8 x9 x10 x11).X (tok b s) j :=
  (val_main_v4_apply (F := Ideal) x0 (ix3 b s j)).trans (congrArg₂ (fun a b : EReal => a * b) (w3 x0 x1 x2 x3 x4 x5 x6 x7 x8 x9 x10 x11 b s j) (w3 x0 x1 x2 x3 x4 x5 x6 x7 x8 x9 x10 x11 b s j))
theorem w5 (b : Fin 3) (s : Fin 4096) : val_main_v5 (F := Ideal) x0 (ix2 b s) = ∑ k, (rI x0 x1 x2 x3 x4 x5 x6 x7 x8 x9 x10 x11).X (tok b s) k * (rI x0 x1 x2 x3 x4 x5 x6 x7 x8 x9 x10 x11).X (tok b s) k :=
  (val_main_v5_apply x0 (ix2 b s)).trans ((zero_start _).trans (Finset.sum_congr (M := EReal) rfl fun k _ => (congrArg (val_main_v4 (F := Ideal) x0) (ext3 rfl rfl rfl : idx_main_v5 (ix2 b s) k = ix3 b s k)).trans (w4 x0 x1 x2 x3 x4 x5 x6 x7 x8 x9 x10 x11 b s k)))
theorem w6 (b : Fin 3) (s : Fin 4096) : val_main_v6 (F := Ideal) x0 (ix3 b s 0) = ∑ k, (rI x0 x1 x2 x3 x4 x5 x6 x7 x8 x9 x10 x11).X (tok b s) k * (rI x0 x1 x2 x3 x4 x5 x6 x7 x8 x9 x10 x11).X (tok b s) k :=
  (val_main_v6_apply (F := Ideal) x0 (ix3 b s 0)).trans ((congrArg (val_main_v5 (F := Ideal) x0) ((Shape.idx_ext₂ rfl rfl) : idx_main_v6 (ix3 b s 0) = (ix2 b s))).trans (w5 x0 x1 x2 x3 x4 x5 x6 x7 x8 x9 x10 x11 b s))
theorem w7 (b : Fin 3) (s : Fin 4096) : val_main_v7 (F := Ideal) (ix3 b s 0) = width :=
  (val_main_v7_apply (F := Ideal) (ix3 b s 0)).trans rfl
theorem w8 (b : Fin 3) (s : Fin 4096) : val_main_v8 (F := Ideal) x0 (ix3 b s 0) = Ideal.div (∑ k, (rI x0 x1 x2 x3 x4 x5 x6 x7 x8 x9 x10 x11).X (tok b s) k * (rI x0 x1 x2 x3 x4 x5 x6 x7 x8 x9 x10 x11).X (tok b s) k) width :=
  (val_main_v8_apply (F := Ideal) x0 (ix3 b s 0)).trans (congrArg₂ (fun a b : EReal => Ideal.div a b) (w6 x0 x1 x2 x3 x4 x5 x6 x7 x8 x9 x10 x11 b s) (w7 b s))
theorem w9 (b : Fin 3) (s : Fin 4096) : val_main_v9 (F := Ideal) (ix3 b s 0) = eps :=
  (val_main_v9_apply (F := Ideal) (ix3 b s 0)).trans rfl
theorem w10 (b : Fin 3) (s : Fin 4096) : val_main_v10 (F := Ideal) x0 (ix3 b s 0) = Ideal.div (∑ k, (rI x0 x1 x2 x3 x4 x5 x6 x7 x8 x9 x10 x11).X (tok b s) k * (rI x0 x1 x2 x3 x4 x5 x6 x7 x8 x9 x10 x11).X (tok b s) k) width + eps :=
  (val_main_v10_apply (F := Ideal) x0 (ix3 b s 0)).trans (congrArg₂ (fun a b : EReal => a + b) (w8 x0 x1 x2 x3 x4 x5 x6 x7 x8 x9 x10 x11 b s) (w9 b s))
theorem w11 (b : Fin 3) (s : Fin 4096) : val_main_v11 (F := Ideal) x0 (ix3 b s 0) = Ideal.sqrt (Ideal.div (∑ k, (rI x0 x1 x2 x3 x4 x5 x6 x7 x8 x9 x10 x11).X (tok b s) k * (rI x0 x1 x2 x3 x4 x5 x6 x7 x8 x9 x10 x11).X (tok b s) k) width + eps) :=
  (val_main_v11_apply (F := Ideal) x0 (ix3 b s 0)).trans (congrArg (fun a : EReal => Ideal.sqrt a) (w10 x0 x1 x2 x3 x4 x5 x6 x7 x8 x9 x10 x11 b s))
theorem w12 (b : Fin 3) (s : Fin 4096) : val_main_v12 (F := Ideal) (ix3 b s 0) = one :=
  (val_main_v12_apply (F := Ideal) (ix3 b s 0)).trans rfl
theorem w13 (b : Fin 3) (s : Fin 4096) : val_main_v13 (F := Ideal) x0 (ix3 b s 0) = rsv ((rI x0 x1 x2 x3 x4 x5 x6 x7 x8 x9 x10 x11).X (tok b s)) :=
  (val_main_v13_apply (F := Ideal) x0 (ix3 b s 0)).trans (congrArg₂ (fun a b : EReal => Ideal.div a b) (w12 b s) (w11 x0 x1 x2 x3 x4 x5 x6 x7 x8 x9 x10 x11 b s))
theorem w14 (b : Fin 3) (s : Fin 4096) (j : Fin 3584) : val_main_v14 (F := Ideal) x0 (ix3 b s j) = rsv ((rI x0 x1 x2 x3 x4 x5 x6 x7 x8 x9 x10 x11).X (tok b s)) :=
  (val_main_v14_apply (F := Ideal) x0 (ix3 b s j)).trans ((congrArg (val_main_v13 (F := Ideal) x0) ((ext3 rfl rfl rfl) : idx_main_v14 (ix3 b s j) = (ix3 b s 0))).trans (w13 x0 x1 x2 x3 x4 x5 x6 x7 x8 x9 x10 x11 b s))
theorem w15 (b : Fin 3) (s : Fin 4096) (j : Fin 3584) : val_main_v15 (F := Ideal) x0 (ix3 b s j) = (rI x0 x1 x2 x3 x4 x5 x6 x7 x8 x9 x10 x11).X (tok b s) j * rsv ((rI x0 x1 x2 x3 x4 x5 x6 x7 x8 x9 x10 x11).X (tok b s)) :=
  (val_main_v15_apply (F := Ideal) x0 (ix3 b s j)).trans (congrArg₂ (fun a b : EReal => a * b) (w3 x0 x1 x2 x3 x4 x5 x6 x7 x8 x9 x10 x11 b s j) (w14 x0 x1 x2 x3 x4 x5 x6 x7 x8 x9 x10 x11 b s j))
theorem w16 (j : Fin 3584) : val_main_v16 (F := Ideal) x2 (ix3 0 0 j) = (rI x0 x1 x2 x3 x4 x5 x6 x7 x8 x9 x10 x11).NW j :=
  (val_main_v16_apply (F := Ideal) x2 (ix3 0 0 j)).trans (congrArg x2 (ext1 rfl : idx_main_v16 (ix3 0 0 j) = ix1 j))
theorem w17 (b : Fin 3) (s : Fin 4096) (j : Fin 3584) : val_main_v17 (F := Ideal) x2 (ix3 b s j) = (rI x0 x1 x2 x3 x4 x5 x6 x7 x8 x9 x10 x11).NW j :=
  (val_main_v17_apply (F := Ideal) x2 (ix3 b s j)).trans ((congrArg (val_main_v16 (F := Ideal) x2) ((ext3 rfl rfl rfl) : idx_main_v17 (ix3 b s j) = (ix3 0 0 j))).trans (w16 x0 x1 x2 x3 x4 x5 x6 x7 x8 x9 x10 x11 j))
theorem w18 (b : Fin 3) (s : Fin 4096) (j : Fin 3584) : val_main_v18 (F := Ideal) x0 x2 (ix3 b s j) = (rI x0 x1 x2 x3 x4 x5 x6 x7 x8 x9 x10 x11).h (tok b s) j :=
  (val_main_v18_apply (F := Ideal) x0 x2 (ix3 b s j)).trans (congrArg₂ (fun a b : EReal => a * b) (w15 x0 x1 x2 x3 x4 x5 x6 x7 x8 x9 x10 x11 b s j) (w17 x0 x1 x2 x3 x4 x5 x6 x7 x8 x9 x10 x11 b s j))
theorem w19 (b : Fin 3) (s : Fin 4096) (j : Fin 3584) : val_main_v19 (F := Ideal) x0 x2 (ix3 b s j) = (rI x0 x1 x2 x3 x4 x5 x6 x7 x8 x9 x10 x11).h (tok b s) j :=
  (val_main_v19_apply (F := Ideal) x0 x2 (ix3 b s j)).trans (w18 x0 x1 x2 x3 x4 x5 x6 x7 x8 x9 x10 x11 b s j)
theorem w20 (b : Fin 3) (s : Fin 4096) (j : Fin 32) : val_main_v20 (F := Ideal) x0 x2 x6 (ix3 b s j) = (rI x0 x1 x2 x3 x4 x5 x6 x7 x8 x9 x10 x11).zg (tok b s) j :=
  (val_main_v20_apply x0 x2 x6 (ix3 b s j)).trans (sum2 (fun k => (congrArg (val_main_v19 (F := Ideal) x0 x2) (ext3 rfl rfl rfl : lidx_main_v20 (ix3 b s j) k = ix3 b s k)).trans (w19 x0 x1 x2 x3 x4 x5 x6 x7 x8 x9 x10 x11 b s k)) (fun k => congrArg x6 (Shape.idx_ext₂ rfl rfl : ridx_main_v20 (ix3 b s j) k = ix2 j k)))
theorem w21 (b : Fin 3) (s : Fin 4096) (j : Fin 32) : val_main_v21 (F := Ideal) x0 x2 x6 (ix3 b s j) = (rI x0 x1 x2 x3 x4 x5 x6 x7 x8 x9 x10 x11).zg (tok b s) j :=
  (val_main_v21_apply (F := Ideal) x0 x2 x6 (ix3 b s j)).trans (w20 x0 x1 x2 x3 x4 x5 x6 x7 x8 x9 x10 x11 b s j)
theorem w22 (b : Fin 3) (s : Fin 4096) (j : Fin 32) : val_main_v22 (F := Ideal) x0 x2 x7 (ix3 b s j) = (rI x0 x1 x2 x3 x4 x5 x6 x7 x8 x9 x10 x11).zu (tok b s) j :=
  (val_main_v22_apply x0 x2 x7 (ix3 b s j)).trans (sum2 (fun k => (congrArg (val_main_v19 (F := Ideal) x0 x2) (ext3 rfl rfl rfl : lidx_main_v22 (ix3 b s j) k = ix3 b s k)).trans (w19 x0 x1 x2 x3 x4 x5 x6 x7 x8 x9 x10 x11 b s k)) (fun k => congrArg x7 (Shape.idx_ext₂ rfl rfl : ridx_main_v22 (ix3 b s j) k = ix2 j k)))
theorem w23 (b : Fin 3) (s : Fin 4096) (j : Fin 32) : val_main_v23 (F := Ideal) x0 x2 x7 (ix3 b s j) = (rI x0 x1 x2 x3 x4 x5 x6 x7 x8 x9 x10 x11).zu (tok b s) j :=
  (val_main_v23_apply (F := Ideal) x0 x2 x7 (ix3 b s j)).trans (w22 x0 x1 x2 x3 x4 x5 x6 x7 x8 x9 x10 x11 b s j)
theorem w24 (b : Fin 3) (s : Fin 4096) (j : Fin 18944) : val_main_v24 (F := Ideal) x0 x2 x3 (ix3 b s j) = ∑ k, (rI x0 x1 x2 x3 x4 x5 x6 x7 x8 x9 x10 x11).h (tok b s) k * (rI x0 x1 x2 x3 x4 x5 x6 x7 x8 x9 x10 x11).WG k j :=
  (val_main_v24_apply x0 x2 x3 (ix3 b s j)).trans (sum2 (fun k => (congrArg (val_main_v19 (F := Ideal) x0 x2) (ext3 rfl rfl rfl : lidx_main_v24 (ix3 b s j) k = ix3 b s k)).trans (w19 x0 x1 x2 x3 x4 x5 x6 x7 x8 x9 x10 x11 b s k)) (fun k => (congrArg (val_main_v0 (F := Ideal) x3) (Shape.idx_ext₂ rfl rfl : ridx_main_v24 (ix3 b s j) k = ix2 j k)).trans (w0 x0 x1 x2 x3 x4 x5 x6 x7 x8 x9 x10 x11 j k)))
theorem w25 (b : Fin 3) (s : Fin 4096) (j : Fin 18944) : val_main_v25 (F := Ideal) x0 x2 x6 x8 (ix3 b s j) = ∑ k, (rI x0 x1 x2 x3 x4 x5 x6 x7 x8 x9 x10 x11).zg (tok b s) k * (rI x0 x1 x2 x3 x4 x5 x6 x7 x8 x9 x10 x11).BG j k :=
  (val_main_v25_apply x0 x2 x6 x8 (ix3 b s j)).trans (sum2 (fun k => (congrArg (val_main_v21 (F := Ideal) x0 x2 x6) (ext3 rfl rfl rfl : lidx_main_v25 (ix3 b s j) k = ix3 b s k)).trans (w21 x0 x1 x2 x3 x4 x5 x6 x7 x8 x9 x10 x11 b s k)) (fun k => congrArg x8 (Shape.idx_ext₂ rfl rfl : ridx_main_v25 (ix3 b s j) k = ix2 j k)))
theorem w26 (b : Fin 3) (s : Fin 4096) (j : Fin 18944) : val_main_v26 (F := Ideal) (ix3 b s j) = two :=
  (val_main_v26_apply (F := Ideal) (ix3 b s j)).trans rfl
theorem w27 (b : Fin 3) (s : Fin 4096) (j : Fin 18944) : val_main_v27 (F := Ideal) x0 x2 x6 x8 (ix3 b s j) = two * ∑ k, (rI x0 x1 x2 x3 x4 x5 x6 x7 x8 x9 x10 x11).zg (tok b s) k * (rI x0 x1 x2 x3 x4 x5 x6 x7 x8 x9 x10 x11).BG j k :=
  (val_main_v27_apply (F := Ideal) x0 x2 x6 x8 (ix3 b s j)).trans (congrArg₂ (fun a b : EReal => a * b) (w26 b s j) (w25 x0 x1 x2 x3 x4 x5 x6 x7 x8 x9 x10 x11 b s j))
theorem w28 (b : Fin 3) (s : Fin 4096) (j : Fin 18944) : val_main_v28 (F := Ideal) x0 x2 x3 x6 x8 (ix3 b s j) = (rI x0 x1 x2 x3 x4 x5 x6 x7 x8 x9 x10 x11).g (tok b s) j :=
  (val_main_v28_apply (F := Ideal) x0 x2 x3 x6 x8 (ix3 b s j)).trans (congrArg₂ (fun a b : EReal => a + b) (w24 x0 x1 x2 x3 x4 x5 x6 x7 x8 x9 x10 x11 b s j) (w27 x0 x1 x2 x3 x4 x5 x6 x7 x8 x9 x10 x11 b s j))
theorem w29 (b : Fin 3) (s : Fin 4096) (j : Fin 18944) : val_main_v29 (F := Ideal) x0 x2 x4 (ix3 b s j) = ∑ k, (rI x0 x1 x2 x3 x4 x5 x6 x7 x8 x9 x10 x11).h (tok b s) k * (rI x0 x1 x2 x3 x4 x5 x6 x7 x8 x9 x10 x11).WU k j :=
  (val_main_v29_apply x0 x2 x4 (ix3 b s j)).trans (sum2 (fun k => (congrArg (val_main_v19 (F := Ideal) x0 x2) (ext3 rfl rfl rfl : lidx_main_v29 (ix3 b s j) k = ix3 b s k)).trans (w19 x0 x1 x2 x3 x4 x5 x6 x7 x8 x9 x10 x11 b s k)) (fun k => (congrArg (val_main_v1 (F := Ideal) x4) (Shape.idx_ext₂ rfl rfl : ridx_main_v29 (ix3 b s j) k = ix2 j k)).trans (w1 x0 x1 x2 x3 x4 x5 x6 x7 x8 x9 x10 x11 j k)))
theorem w30 (b : Fin 3) (s : Fin 4096) (j : Fin 18944) : val_main_v30 (F := Ideal) x0 x2 x7 x9 (ix3 b s j) = ∑ k, (rI x0 x1 x2 x3 x4 x5 x6 x7 x8 x9 x10 x11).zu (tok b s) k * (rI x0 x1 x2 x3 x4 x5 x6 x7 x8 x9 x10 x11).BU j k :=
  (val_main_v30_apply x0 x2 x7 x9 (ix3 b s j)).trans (sum2 (fun k => (congrArg (val_main_v23 (F := Ideal) x0 x2 x7) (ext3 rfl rfl rfl : lidx_main_v30 (ix3 b s j) k = ix3 b s k)).trans (w23 x0 x1 x2 x3 x4 x5 x6 x7 x8 x9 x10 x11 b s k)) (fun k => congrArg x9 (Shape.idx_ext₂ rfl rfl : ridx_main_v30 (ix3 b s j) k = ix2 j k)))
theorem w31 (b : Fin 3) (s : Fin 4096) (j : Fin 18944) : val_main_v31 (F := Ideal) (ix3 b s j) = two :=
  (val_main_v31_apply (F := Ideal) (ix3 b s j)).trans rfl
theorem w32 (b : Fin 3) (s : Fin 4096) (j : Fin 18944) : val_main_v32 (F := Ideal) x0 x2 x7 x9 (ix3 b s j) = two * ∑ k, (rI x0 x1 x2 x3 x4 x5 x6 x7 x8 x9 x10 x11).zu (tok b s) k * (rI x0 x1 x2 x3 x4 x5 x6 x7 x8 x9 x10 x11).BU j k :=
  (val_main_v32_apply (F := Ideal) x0 x2 x7 x9 (ix3 b s j)).trans (congrArg₂ (fun a b : EReal => a * b) (w31 b s j) (w30 x0 x1 x2 x3 x4 x5 x6 x7 x8 x9 x10 x11 b s j))
theorem w33 (b : Fin 3) (s : Fin 4096) (j : Fin 18944) : val_main_v33 (F := Ideal) x0 x2 x4 x7 x9 (ix3 b s j) = (rI x0 x1 x2 x3 x4 x5 x6 x7 x8 x9 x10 x11).u (tok b s) j :=
  (val_main_v33_apply (F := Ideal) x0 x2 x4 x7 x9 (ix3 b s j)).trans (congrArg₂ (fun a b : EReal => a + b) (w29 x0 x1 x2 x3 x4 x5 x6 x7 x8 x9 x10 x11 b s j) (w32 x0 x1 x2 x3 x4 x5 x6 x7 x8 x9 x10 x11 b s j))
theorem w34 (b : Fin 3) (s : Fin 4096) (j : Fin 18944) : val_main_v34 (F := Ideal) x0 x2 x3 x6 x8 (ix3 b s j) = - (rI x0 x1 x2 x3 x4 x5 x6 x7 x8 x9 x10 x11).g (tok b s) j :=
  (val_main_v34_apply (F := Ideal) x0 x2 x3 x6 x8 (ix3 b s j)).trans (congrArg (fun a : EReal => -a) (w28 x0 x1 x2 x3 x4 x5 x6 x7 x8 x9 x10 x11 b s j))
theorem w35 (b : Fin 3) (s : Fin 4096) (j : Fin 18944) : val_main_v35 (F := Ideal) x0 x2 x3 x6 x8 (ix3 b s j) = Ideal.exp (- (rI x0 x1 x2 x3 x4 x5 x6 x7 x8 x9 x10 x11).g (tok b s) j) :=
  (val_main_v35_apply (F := Ideal) x0 x2 x3 x6 x8 (ix3 b s j)).trans (congrArg (fun a : EReal => Ideal.exp a) (w34 x0 x1 x2 x3 x4 x5 x6 x7 x8 x9 x10 x11 b s j))
theorem w36 (b : Fin 3) (s : Fin 4096) (j : Fin 18944) : val_main_v36 (F := Ideal) (ix3 b s j) = one :=
  (val_main_v36_apply (F := Ideal) (ix3 b s j)).trans rfl
theorem w37 (b : Fin 3) (s : Fin 4096) (j : Fin 18944) : val_main_v37 (F := Ideal) x0 x2 x3 x6 x8 (ix3 b s j) = one + Ideal.exp (- (rI x0 x1 x2 x3 x4 x5 x6 x7 x8 x9 x10 x11).g (tok b s) j) :=
  (val_main_v37_apply (F := Ideal) x0 x2 x3 x6 x8 (ix3 b s j)).trans (congrArg₂ (fun a b : EReal => a + b) (w36 b s j) (w35 x0 x1 x2 x3 x4 x5 x6 x7 x8 x9 x10 x11 b s j))
theorem w38 (b : Fin 3) (s : Fin 4096) (j : Fin 18944) : val_main_v38 (F := Ideal) (ix3 b s j) = one :=
  (val_main_v38_apply (F := Ideal) (ix3 b s j)).trans rfl
theorem w39 (b : Fin 3) (s : Fin 4096) (j : Fin 18944) : val_main_v39 (F := Ideal) x0 x2 x3 x6 x8 (ix3 b s j) = (rI x0 x1 x2 x3 x4 x5 x6 x7 x8 x9 x10 x11).sg (tok b s) j :=
  ((val_main_v39_apply (F := Ideal) x0 x2 x3 x6 x8 (ix3 b s j)).trans (congrArg₂ (fun a b : EReal => Ideal.div a b) (w38 b s j) (w37 x0 x1 x2 x3 x4 x5 x6 x7 x8 x9 x10 x11 b s j))).trans (logistic_one _)
theorem w40 (b : Fin 3) (s : Fin 4096) (j : Fin 18944) : val_main_v40 (F := Ideal) x0 x2 x3 x6 x8 (ix3 b s j) = (rI x0 x1 x2 x3 x4 x5 x6 x7 x8 x9 x10 x11).g (tok b s) j * (rI x0 x1 x2 x3 x4 x5 x6 x7 x8 x9 x10 x11).sg (tok b s) j :=
  (val_main_v40_apply (F := Ideal) x0 x2 x3 x6 x8 (ix3 b s j)).trans (congrArg₂ (fun a b : EReal => a * b) (w28 x0 x1 x2 x3 x4 x5 x6 x7 x8 x9 x10 x11 b s j) (w39 x0 x1 x2 x3 x4 x5 x6 x7 x8 x9 x10 x11 b s j))
theorem w41 (b : Fin 3) (s : Fin 4096) (j : Fin 18944) : val_main_v41 (F := Ideal) x0 x2 x3 x4 x6 x7 x8 x9 (ix3 b s j) = (rI x0 x1 x2 x3 x4 x5 x6 x7 x8 x9 x10 x11).a (tok b s) j :=
  (val_main_v41_apply (F := Ideal) x0 x2 x3 x4 x6 x7 x8 x9 (ix3 b s j)).trans (congrArg₂ (fun a b : EReal => a * b) (w40 x0 x1 x2 x3 x4 x5 x6 x7 x8 x9 x10 x11 b s j) (w33 x0 x1 x2 x3 x4 x5 x6 x7 x8 x9 x10 x11 b s j))
theorem w42 (b : Fin 3) (s : Fin 4096) (j : Fin 18944) : val_main_v42 (F := Ideal) x0 x2 x3 x4 x6 x7 x8 x9 (ix3 b s j) = (rI x0 x1 x2 x3 x4 x5 x6 x7 x8 x9 x10 x11).a (tok b s) j :=
  (val_main_v42_apply (F := Ideal) x0 x2 x3 x4 x6 x7 x8 x9 (ix3 b s j)).trans (w41 x0 x1 x2 x3 x4 x5 x6 x7 x8 x9 x10 x11 b s j)
theorem w43 (b : Fin 3) (s : Fin 4096) (j : Fin 32) : val_main_v43 (F := Ideal) x0 x2 x3 x4 x6 x7 x8 x9 x10 (ix3 b s j) = (rI x0 x1 x2 x3 x4 x5 x6 x7 x8 x9 x10 x11).zd (tok b s) j :=
  (val_main_v43_apply x0 x2 x3 x4 x6 x7 x8 x9 x10 (ix3 b s j)).trans (sum2 (fun k => (congrArg (val_main_v42 (F := Ideal) x0 x2 x3 x4 x6 x7 x8 x9) (ext3 rfl rfl rfl : lidx_main_v43 (ix3 b s j) k = ix3 b s k)).trans (w42 x0 x1 x2 x3 x4 x5 x6 x7 x8 x9 x10 x11 b s k)) (fun k => congrArg x10 (Shape.idx_ext₂ rfl rfl : ridx_main_v43 (ix3 b s j) k = ix2 j k)))
theorem w44 (b : Fin 3) (s : Fin 4096) (j : Fin 32) : val_main_v44 (F := Ideal) x0 x2 x3 x4 x6 x7 x8 x9 x10 (ix3 b s j) = (rI x0 x1 x2 x3 x4 x5 x6 x7 x8 x9 x10 x11).zd (tok b s) j :=
  (val_main_v44_apply (F := Ideal) x0 x2 x3 x4 x6 x7 x8 x9 x10 (ix3 b s j)).trans (w43 x0 x1 x2 x3 x4 x5 x6 x7 x8 x9 x10 x11 b s j)
theorem w45 (b : Fin 3) (s : Fin 4096) (j : Fin 3584) : val_main_v45 (F := Ideal) x0 x2 x3 x4 x5 x6 x7 x8 x9 (ix3 b s j) = ∑ k, (rI x0 x1 x2 x3 x4 x5 x6 x7 x8 x9 x10 x11).a (tok b s) k * (rI x0 x1 x2 x3 x4 x5 x6 x7 x8 x9 x10 x11).WD k j :=
  (val_main_v45_apply x0 x2 x3 x4 x5 x6 x7 x8 x9 (ix3 b s j)).trans (sum2 (fun k => (congrArg (val_main_v42 (F := Ideal) x0 x2 x3 x4 x6 x7 x8 x9) (ext3 rfl rfl rfl : lidx_main_v45 (ix3 b s j) k = ix3 b s k)).trans (w42 x0 x1 x2 x3 x4 x5 x6 x7 x8 x9 x10 x11 b s k)) (fun k => (congrArg (val_main_v2 (F := Ideal) x5) (Shape.idx_ext₂ rfl rfl : ridx_main_v45 (ix3 b s j) k = ix2 j k)).trans (w2 x0 x1 x2 x3 x4 x5 x6 x7 x8 x9 x10 x11 j k)))
theorem w46 (b : Fin 3) (s : Fin 4096) (j : Fin 3584) : val_main_v46 (F := Ideal) x0 x2 x3 x4 x6 x7 x8 x9 x10 x11 (ix3 b s j) = ∑ k, (rI x0 x1 x2 x3 x4 x5 x6 x7 x8 x9 x10 x11).zd (tok b s) k * (rI x0 x1 x2 x3 x4 x5 x6 x7 x8 x9 x10 x11).BD j k :=
  (val_main_v46_apply x0 x2 x3 x4 x6 x7 x8 x9 x10 x11 (ix3 b s j)).trans (sum2 (fun k => (congrArg (val_main_v44 (F := Ideal) x0 x2 x3 x4 x6 x7 x8 x9 x10) (ext3 rfl rfl rfl : lidx_main_v46 (ix3 b s j) k = ix3 b s k)).trans (w44 x0 x1 x2 x3 x4 x5 x6 x7 x8 x9 x10 x11 b s k)) (fun k => congrArg x11 (Shape.idx_ext₂ rfl rfl : ridx_main_v46 (ix3 b s j) k = ix2 j k)))
theorem w47 (b : Fin 3) (s : Fin 4096) (j : Fin 3584) : val_main_v47 (F := Ideal) (ix3 b s j) = two :=
  (val_main_v47_apply (F := Ideal) (ix3 b s j)).trans rfl
theorem w48 (b : Fin 3) (s : Fin 4096) (j : Fin 3584) : val_main_v48 (F := Ideal) x0 x2 x3 x4 x6 x7 x8 x9 x10 x11 (ix3 b s j) = two * ∑ k, (rI x0 x1 x2 x3 x4 x5 x6 x7 x8 x9 x10 x11).zd (tok b s) k * (rI x0 x1 x2 x3 x4 x5 x6 x7 x8 x9 x10 x11).BD j k :=
  (val_main_v48_apply (F := Ideal) x0 x2 x3 x4 x6 x7 x8 x9 x10 x11 (ix3 b s j)).trans (congrArg₂ (fun a b : EReal => a * b) (w47 b s j) (w46 x0 x1 x2 x3 x4 x5 x6 x7 x8 x9 x10 x11 b s j))
theorem w49 (b : Fin 3) (s : Fin 4096) (j : Fin 3584) : val_main_v49 (F := Ideal) x0 x2 x3 x4 x5 x6 x7 x8 x9 x10 x11 (ix3 b s j) = (∑ k, (rI x0 x1 x2 x3 x4 x5 x6 x7 x8 x9 x10 x11).a (tok b s) k * (rI x0 x1 x2 x3 x4 x5 x6 x7 x8 x9 x10 x11).WD k j) + two * ∑ k, (rI x0 x1 x2 x3 x4 x5 x6 x7 x8 x9 x10 x11).zd (tok b s) k * (rI x0 x1 x2 x3 x4 x5 x6 x7 x8 x9 x10 x11).BD j k :=
  (val_main_v49_apply (F := Ideal) x0 x2 x3 x4 x5 x6 x7 x8 x9 x10 x11 (ix3 b s j)).trans (congrArg₂ (fun a b : EReal => a + b) (w45 x0 x1 x2 x3 x4 x5 x6 x7 x8 x9 x10 x11 b s j) (w48 x0 x1 x2 x3 x4 x5 x6 x7 x8 x9 x10 x11 b s j))
theorem w50 (b : Fin 3) (s : Fin 4096) (j : Fin 3584) : val_main_v50 (F := Ideal) x0 x2 x3 x4 x5 x6 x7 x8 x9 x10 x11 (ix3 b s j) = (rI x0 x1 x2 x3 x4 x5 x6 x7 x8 x9 x10 x11).y (tok b s) j :=
  (val_main_v50_apply (F := Ideal) x0 x2 x3 x4 x5 x6 x7 x8 x9 x10 x11 (ix3 b s j)).trans (congrArg₂ (fun a b : EReal => a + b) (w3 x0 x1 x2 x3 x4 x5 x6 x7 x8 x9 x10 x11 b s j) (w49 x0 x1 x2 x3 x4 x5 x6 x7 x8 x9 x10 x11 b s j))
theorem w51 (b : Fin 3) (s : Fin 4096) (j : Fin 3584) : val_main_v51 (F := Ideal) x0 x2 x3 x4 x5 x6 x7 x8 x9 x10 x11 (ix3 b s j) = (rI x0 x1 x2 x3 x4 x5 x6 x7 x8 x9 x10 x11).y (tok b s) j :=
  (val_main_v51_apply (F := Ideal) x0 x2 x3 x4 x5 x6 x7 x8 x9 x10 x11 (ix3 b s j)).trans (w50 x0 x1 x2 x3 x4 x5 x6 x7 x8 x9 x10 x11 b s j)
theorem w52 (i : Fin 3584) (j : Fin 32) : val_main_v52 (F := Ideal) x0 x1 x2 x3 x4 x6 x7 x8 x9 x10 (ix2 i j) = ∑ t, (rI x0 x1 x2 x3 x4 x5 x6 x7 x8 x9 x10 x11).DY t i * (rI x0 x1 x2 x3 x4 x5 x6 x7 x8 x9 x10 x11).zd t j :=
  outer_3584_32 _ _ _ _ (inDY x0 x1 x2 x3 x4 x5 x6 x7 x8 x9 x10 x11) (w44 x0 x1 x2 x3 x4 x5 x6 x7 x8 x9 x10 x11) i j
theorem w53 (i : Fin 3584) (j : Fin 32) : val_main_v53 (F := Ideal) (ix2 i j) = two :=
  (val_main_v53_apply (F := Ideal) (ix2 i j)).trans rfl
theorem w54 (i : Fin 3584) (j : Fin 32) : val_main_v54 (F := Ideal) x0 x1 x2 x3 x4 x6 x7 x8 x9 x10 (ix2 i j) = (rI x0 x1 x2 x3 x4 x5 x6 x7 x8 x9 x10 x11).dbd i j :=
  (val_main_v54_apply (F := Ideal) x0 x1 x2 x3 x4 x6 x7 x8 x9 x10 (ix2 i j)).trans (congrArg₂ (fun a b : EReal => a * b) (w53 i j) (w52 x0 x1 x2 x3 x4 x5 x6 x7 x8 x9 x10 x11 i j))
theorem w55 (b : Fin 3) (s : Fin 4096) (j : Fin 32) : val_main_v55 (F := Ideal) x1 x11 (ix3 b s j) = ∑ k, (rI x0 x1 x2 x3 x4 x5 x6 x7 x8 x9 x10 x11).DY (tok b s) k * (rI x0 x1 x2 x3 x4 x5 x6 x7 x8 x9 x10 x11).BD k j :=
  (val_main_v55_apply x1 x11 (ix3 b s j)).trans (sum2 (fun k => (congrArg x1 (ext3 rfl rfl rfl : lidx_main_v55 (ix3 b s j) k = ix3 b s k)).trans (inDY x0 x1 x2 x3 x4 x5 x6 x7 x8 x9 x10 x11 b s k)) (fun k => congrArg x11 (Shape.idx_ext₂ rfl rfl : ridx_main_v55 (ix3 b s j) k = ix2 k j)))
theorem w56 (b : Fin 3) (s : Fin 4096) (j : Fin 32) : val_main_v56 (F := Ideal) (ix3 b s j) = two :=
  (val_main_v56_apply (F := Ideal) (ix3 b s j)).trans rfl
theorem w57 (b : Fin 3) (s : Fin 4096) (j : Fin 32) : val_main_v57 (F := Ideal) x1 x11 (ix3 b s j) = (rI x0 x1 x2 x3 x4 x5 x6 x7 x8 x9 x10 x11).dzd (tok b s) j :=
  (val_main_v57_apply (F := Ideal) x1 x11 (ix3 b s j)).trans (congrArg₂ (fun a b : EReal => a * b) (w56 b s j) (w55 x0 x1 x2 x3 x4 x5 x6 x7 x8 x9 x10 x11 b s j))
theorem w58 (b : Fin 3) (s : Fin 4096) (j : Fin 32) : val_main_v58 (F := Ideal) x1 x11 (ix3 b s j) = (rI x0 x1 x2 x3 x4 x5 x6 x7 x8 x9 x10 x11).dzd (tok b s) j :=
  (val_main_v58_apply (F := Ideal) x1 x11 (ix3 b s j)).trans (w57 x0 x1 x2 x3 x4 x5 x6 x7 x8 x9 x10 x11 b s j)
theorem w59 (i : Fin 32) (j : Fin 18944) : val_main_v59 (F := Ideal) x0 x1 x2 x3 x4 x6 x7 x8 x9 x11 (ix2 i j) = (rI x0 x1 x2 x3 x4 x5 x6 x7 x8 x9 x10 x11).dad i j :=
  outer_32_18944 _ _ _ _ (w58 x0 x1 x2 x3 x4 x5 x6 x7 x8 x9 x10 x11) (w42 x0 x1 x2 x3 x4 x5 x6 x7 x8 x9 x10 x11) i j
theorem w60 (b : Fin 3) (s : Fin 4096) (j : Fin 18944) : val_main_v60 (F := Ideal) x1 x5 (ix3 b s j) = ∑ k, (rI x0 x1 x2 x3 x4 x5 x6 x7 x8 x9 x10 x11).DY (tok b s) k * (rI x0 x1 x2 x3 x4 x5 x6 x7 x8 x9 x10 x11).WD j k :=
  (val_main_v60_apply x1 x5 (ix3 b s j)).trans (sum2 (fun k => (congrArg x1 (ext3 rfl rfl rfl : lidx_main_v60 (ix3 b s j) k = ix3 b s k)).trans (inDY x0 x1 x2 x3 x4 x5 x6 x7 x8 x9 x10 x11 b s k)) (fun k => (congrArg (val_main_v2 (F := Ideal) x5) (Shape.idx_ext₂ rfl rfl : ridx_main_v60 (ix3 b s j) k = ix2 k j)).trans (w2 x0 x1 x2 x3 x4 x5 x6 x7 x8 x9 x10 x11 k j)))
theorem w61 (b : Fin 3) (s : Fin 4096) (j : Fin 18944) : val_main_v61 (F := Ideal) x1 x10 x11 (ix3 b s j) = ∑ k, (rI x0 x1 x2 x3 x4 x5 x6 x7 x8 x9 x10 x11).dzd (tok b s) k * (rI x0 x1 x2 x3 x4 x5 x6 x7 x8 x9 x10 x11).AD k j :=
  (val_main_v61_apply x1 x10 x11 (ix3 b s j)).trans (sum2 (fun k => (congrArg (val_main_v58 (F := Ideal) x1 x11) (ext3 rfl rfl rfl : lidx_main_v61 (ix3 b s j) k = ix3 b s k)).trans (w58 x0 x1 x2 x3 x4 x5 x6 x7 x8 x9 x10 x11 b s k)) (fun k => congrArg x10 (Shape.idx_ext₂ rfl rfl : ridx_main_v61 (ix3 b s j) k = ix2 k j)))
theorem w62 (b : Fin 3) (s : Fin 4096) (j : Fin 18944) : val_main_v62 (F := Ideal) x1 x5 x10 x11 (ix3 b s j) = (rI x0 x1 x2 x3 x4 x5 x6 x7 x8 x9 x10 x11).dact (tok b s) j :=
  (val_main_v62_apply (F := Ideal) x1 x5 x10 x11 (ix3 b s j)).trans (congrArg₂ (fun a b : EReal => a + b) (w60 x0 x1 x2 x3 x4 x5 x6 x7 x8 x9 x10 x11 b s j) (w61 x0 x1 x2 x3 x4 x5 x6 x7 x8 x9 x10 x11 b s j))
theorem w63 (b : Fin 3) (s : Fin 4096) (j : Fin 18944) : val_main_v63 (F := Ideal) x0 x1 x2 x4 x5 x7 x9 x10 x11 (ix3 b s j) = (rI x0 x1 x2 x3 x4 x5 x6 x7 x8 x9 x10 x11).dact (tok b s) j * (rI x0 x1 x2 x3 x4 x5 x6 x7 x8 x9 x10 x11).u (tok b s) j :=
  (val_main_v63_apply (F := Ideal) x0 x1 x2 x4 x5 x7 x9 x10 x11 (ix3 b s j)).trans (congrArg₂ (fun a b : EReal => a * b) (w62 x0 x1 x2 x3 x4 x5 x6 x7 x8 x9 x10 x11 b s j) (w33 x0 x1 x2 x3 x4 x5 x6 x7 x8 x9 x10 x11 b s j))
theorem w64 (b : Fin 3) (s : Fin 4096) (j : Fin 18944) : val_main_v64 (F := Ideal) x0 x1 x2 x3 x4 x5 x6 x7 x8 x9 x10 x11 (ix3 b s j) = (rI x0 x1 x2 x3 x4 x5 x6 x7 x8 x9 x10 x11).dact (tok b s) j * (rI x0 x1 x2 x3 x4 x5 x6 x7 x8 x9 x10 x11).u (tok b s) j * (rI x0 x1 x2 x3 x4 x5 x6 x7 x8 x9 x10 x11).sg (tok b s) j :=
  (val_main_v64_apply (F := Ideal) x0 x1 x2 x3 x4 x5 x6 x7 x8 x9 x10 x11 (ix3 b s j)).trans (congrArg₂ (fun a b : EReal => a * b) (w63 x0 x1 x2 x3 x4 x5 x6 x7 x8 x9 x10 x11 b s j) (w39 x0 x1 x2 x3 x4 x5 x6 x7 x8 x9 x10 x11 b s j))
theorem w65 (b : Fin 3) (s : Fin 4096) (j : Fin 18944) : val_main_v65 (F := Ideal) (ix3 b s j) = one :=
  (val_main_v65_apply (F := Ideal) (ix3 b s j)).trans rfl
theorem w66 (b : Fin 3) (s : Fin 4096) (j : Fin 18944) : val_main_v66 (F := Ideal) x0 x2 x3 x6 x8 (ix3 b s j) = one - (rI x0 x1 x2 x3 x4 x5 x6 x7 x8 x9 x10 x11).sg (tok b s) j :=
  (val_main_v66_apply (F := Ideal) x0 x2 x3 x6 x8 (ix3 b s j)).trans (congrArg₂ (fun a b : EReal => a - b) (w65 b s j) (w39 x0 x1 x2 x3 x4 x5 x6 x7 x8 x9 x10 x11 b s j))
theorem w67 (b : Fin 3) (s : Fin 4096) (j : Fin 18944) : val_main_v67 (F := Ideal) x0 x2 x3 x6 x8 (ix3 b s j) = (rI x0 x1 x2 x3 x4 x5 x6 x7 x8 x9 x10 x11).g (tok b s) j * (one - (rI x0 x1 x2 x3 x4 x5 x6 x7 x8 x9 x10 x11).sg (tok b s) j) :=
  (val_main_v67_apply (F := Ideal) x0 x2 x3 x6 x8 (ix3 b s j)).trans (congrArg₂ (fun a b : EReal => a * b) (w28 x0 x1 x2 x3 x4 x5 x6 x7 x8 x9 x10 x11 b s j) (w66 x0 x1 x2 x3 x4 x5 x6 x7 x8 x9 x10 x11 b s j))
theorem w68 (b : Fin 3) (s : Fin 4096) (j : Fin 18944) : val_main_v68 (F := Ideal) (ix3 b s j) = one :=
  (val_main_v68_apply (F := Ideal) (ix3 b s j)).trans rfl
theorem w69 (b : Fin 3) (s : Fin 4096) (j : Fin 18944) : val_main_v69 (F := Ideal) x0 x2 x3 x6 x8 (ix3 b s j) = one + (rI x0 x1 x2 x3 x4 x5 x6 x7 x8 x9 x10 x11).g (tok b s) j * (one - (rI x0 x1 x2 x3 x4 x5 x6 x7 x8 x9 x10 x11).sg (tok b s) j) :=
  (val_main_v69_apply (F := Ideal) x0 x2 x3 x6 x8 (ix3 b s j)).trans (congrArg₂ (fun a b : EReal => a + b) (w68 b s j) (w67 x0 x1 x2 x3 x4 x5 x6 x7 x8 x9 x10 x11 b s j))
theorem w70 (b : Fin 3) (s : Fin 4096) (j : Fin 18944) : val_main_v70 (F := Ideal) x0 x1 x2 x3 x4 x5 x6 x7 x8 x9 x10 x11 (ix3 b s j) = (rI x0 x1 x2 x3 x4 x5 x6 x7 x8 x9 x10 x11).dg (tok b s) j :=
  (val_main_v70_apply (F := Ideal) x0 x1 x2 x3 x4 x5 x6 x7 x8 x9 x10 x11 (ix3 b s j)).trans (congrArg₂ (fun a b : EReal => a * b) (w64 x0 x1 x2 x3 x4 x5 x6 x7 x8 x9 x10 x11 b s j) (w69 x0 x1 x2 x3 x4 x5 x6 x7 x8 x9 x10 x11 b s j))
theorem w71 (b : Fin 3) (s : Fin 4096) (j : Fin 18944) : val_main_v71 (F := Ideal) x0 x1 x2 x3 x4 x5 x6 x7 x8 x9 x10 x11 (ix3 b s j) = (rI x0 x1 x2 x3 x4 x5 x6 x7 x8 x9 x10 x11).dg (tok b s) j :=
  (val_main_v71_apply (F := Ideal) x0 x1 x2 x3 x4 x5 x6 x7 x8 x9 x10 x11 (ix3 b s j)).trans (w70 x0 x1 x2 x3 x4 x5 x6 x7 x8 x9 x10 x11 b s j)
theorem w72 (b : Fin 3) (s : Fin 4096) (j : Fin 18944) : val_main_v72 (F := Ideal) x0 x1 x2 x3 x5 x6 x8 x10 x11 (ix3 b s j) = (rI x0 x1 x2 x3 x4 x5 x6 x7 x8 x9 x10 x11).dact (tok b s) j * (rI x0 x1 x2 x3 x4 x5 x6 x7 x8 x9 x10 x11).g (tok b s) j :=
  (val_main_v72_apply (F := Ideal) x0 x1 x2 x3 x5 x6 x8 x10 x11 (ix3 b s j)).trans (congrArg₂ (fun a b : EReal => a * b) (w62 x0 x1 x2 x3 x4 x5 x6 x7 x8 x9 x10 x11 b s j) (w28 x0 x1 x2 x3 x4 x5 x6 x7 x8 x9 x10 x11 b s j))
theorem w73 (b : Fin 3) (s : Fin 4096) (j : Fin 18944) : val_main_v73 (F := Ideal) x0 x1 x2 x3 x5 x6 x8 x10 x11 (ix3 b s j) = (rI x0 x1 x2 x3 x4 x5 x6 x7 x8 x9 x10 x11).du (tok b s) j :=
  (val_main_v73_apply (F := Ideal) x0 x1 x2 x3 x5 x6 x8 x10 x11 (ix3 b s j)).trans (congrArg₂ (fun a b : EReal => a * b) (w72 x0 x1 x2 x3 x4 x5 x6 x7 x8 x9 x10 x11 b s j) (w39 x0 x1 x2 x3 x4 x5 x6 x7 x8 x9 x10 x11 b s j))
theorem w74 (b : Fin 3) (s : Fin 4096) (j : Fin 18944) : val_main_v74 (F := Ideal) x0 x1 x2 x3 x5 x6 x8 x10 x11 (ix3 b s j) = (rI x0 x1 x2 x3 x4 x5 x6 x7 x8 x9 x10 x11).du (tok b s) j :=
  (val_main_v74_apply (F := Ideal) x0 x1 x2 x3 x5 x6 x8 x10 x11 (ix3 b s j)).trans (w73 x0 x1 x2 x3 x4 x5 x6 x7 x8 x9 x10 x11 b s j)
theorem w75 (i : Fin 18944) (j : Fin 32) : val_main_v75 (F := Ideal) x0 x1 x2 x3 x4 x5 x6 x7 x8 x9 x10 x11 (ix2 i j) = ∑ t, (rI x0 x1 x2 x3 x4 x5 x6 x7 x8 x9 x10 x11).dg t i * (rI x0 x1 x2 x3 x4 x5 x6 x7 x8 x9 x10 x11).zg t j :=
  outer_18944_32 _ _ _ _ (w71 x0 x1 x2 x3 x4 x5 x6 x7 x8 x9 x10 x11) (w21 x0 x1 x2 x3 x4 x5 x6 x7 x8 x9 x10 x11) i j
theorem w76 (i : Fin 18944) (j : Fin 32) : val_main_v76 (F := Ideal) (ix2 i j) = two :=
  (val_main_v76_apply (F := Ideal) (ix2 i j)).trans rfl
theorem w77 (i : Fin 18944) (j : Fin 32) : val_main_v77 (F := Ideal) x0 x1 x2 x3 x4 x5 x6 x7 x8 x9 x10 x11 (ix2 i j) = (rI x0 x1 x2 x3 x4 x5 x6 x7 x8 x9 x10 x11).dbg i j :=
  (val_main_v77_apply (F := Ideal) x0 x1 x2 x3 x4 x5 x6 x7 x8 x9 x10 x11 (ix2 i j)).trans (congrArg₂ (fun a b : EReal => a * b) (w76 i j) (w75 x0 x1 x2 x3 x4 x5 x6 x7 x8 x9 x10 x11 i j))
theorem w78 (b : Fin 3) (s : Fin 4096) (j : Fin 32) : val_main_v78 (F := Ideal) x0 x1 x2 x3 x4 x5 x6 x7 x8 x9 x10 x11 (ix3 b s j) = ∑ k, (rI x0 x1 x2 x3 x4 x5 x6 x7 x8 x9 x10 x11).dg (tok b s) k * (rI x0 x1 x2 x3 x4 x5 x6 x7 x8 x9 x10 x11).BG k j :=
  (val_main_v78_apply x0 x1 x2 x3 x4 x5 x6 x7 x8 x9 x10 x11 (ix3 b s j)).trans (sum2 (fun k => (congrArg (val_main_v71 (F := Ideal) x0 x1 x2 x3 x4 x5 x6 x7 x8 x9 x10 x11) (ext3 rfl rfl rfl : lidx_main_v78 (ix3 b s j) k = ix3 b s k)).trans (w71 x0 x1 x2 x3 x4 x5 x6 x7 x8 x9 x10 x11 b s k)) (fun k => congrArg x8 (Shape.idx_ext₂ rfl rfl : ridx_main_v78 (ix3 b s j) k = ix2 k j)))
theorem w79 (b : Fin 3) (s : Fin 4096) (j : Fin 32) : val_main_v79 (F := Ideal) (ix3 b s j) = two :=
  (val_main_v79_apply (F := Ideal) (ix3 b s j)).trans rfl
theorem w80 (b : Fin 3) (s : Fin 4096) (j : Fin 32) : val_main_v80 (F := Ideal) x0 x1 x2 x3 x4 x5 x6 x7 x8 x9 x10 x11 (ix3 b s j) = (rI x0 x1 x2 x3 x4 x5 x6 x7 x8 x9 x10 x11).dzg (tok b s) j :=
  (val_main_v80_apply (F := Ideal) x0 x1 x2 x3 x4 x5 x6 x7 x8 x9 x10 x11 (ix3 b s j)).trans (congrArg₂ (fun a b : EReal => a * b) (w79 b s j) (w78 x0 x1 x2 x3 x4 x5 x6 x7 x8 x9 x10 x11 b s j))
theorem w81 (b : Fin 3) (s : Fin 4096) (j : Fin 32) : val_main_v81 (F := Ideal) x0 x1 x2 x3 x4 x5 x6 x7 x8 x9 x10 x11 (ix3 b s j) = (rI x0 x1 x2 x3 x4 x5 x6 x7 x8 x9 x10 x11).dzg (tok b s) j :=
  (val_main_v81_apply (F := Ideal) x0 x1 x2 x3 x4 x5 x6 x7 x8 x9 x10 x11 (ix3 b s j)).trans (w80 x0 x1 x2 x3 x4 x5 x6 x7 x8 x9 x10 x11 b s j)
theorem w82 (i : Fin 32) (j : Fin 3584) : val_main_v82 (F := Ideal) x0 x1 x2 x3 x4 x5 x6 x7 x8 x9 x10 x11 (ix2 i j) = (rI x0 x1 x2 x3 x4 x5 x6 x7 x8 x9 x10 x11).dag i j :=
  outer_32_3584 _ _ _ _ (w81 x0 x1 x2 x3 x4 x5 x6 x7 x8 x9 x10 x11) (w19 x0 x1 x2 x3 x4 x5 x6 x7 x8 x9 x10 x11) i j
theorem w83 (i : Fin 18944) (j : Fin 32) : val_main_v83 (F := Ideal) x0 x1 x2 x3 x5 x6 x7 x8 x10 x11 (ix2 i j) = ∑ t, (rI x0 x1 x2 x3 x4 x5 x6 x7 x8 x9 x10 x11).du t i * (rI x0 x1 x2 x3 x4 x5 x6 x7 x8 x9 x10 x11).zu t j :=
  outer_18944_32 _ _ _ _ (w74 x0 x1 x2 x3 x4 x5 x6 x7 x8 x9 x10 x11) (w23 x0 x1 x2 x3 x4 x5 x6 x7 x8 x9 x10 x11) i j
theorem w84 (i : Fin 18944) (j : Fin 32) : val_main_v84 (F := Ideal) (ix2 i j) = two :=
  (val_main_v84_apply (F := Ideal) (ix2 i j)).trans rfl
theorem w85 (i : Fin 18944) (j : Fin 32) : val_main_v85 (F := Ideal) x0 x1 x2 x3 x5 x6 x7 x8 x10 x11 (ix2 i j) = (rI x0 x1 x2 x3 x4 x5 x6 x7 x8 x9 x10 x11).dbu i j :=
  (val_main_v85_apply (F := Ideal) x0 x1 x2 x3 x5 x6 x7 x8 x10 x11 (ix2 i j)).trans (congrArg₂ (fun a b : EReal => a * b) (w84 i j) (w83 x0 x1 x2 x3 x4 x5 x6 x7 x8 x9 x10 x11 i j))
theorem w86 (b : Fin 3) (s : Fin 4096) (j : Fin 32) : val_main_v86 (F := Ideal) x0 x1 x2 x3 x5 x6 x8 x9 x10 x11 (ix3 b s j) = ∑ k, (rI x0 x1 x2 x3 x4 x5 x6 x7 x8 x9 x10 x11).du (tok b s) k * (rI x0 x1 x2 x3 x4 x5 x6 x7 x8 x9 x10 x11).BU k j :=
  (val_main_v86_apply x0 x1 x2 x3 x5 x6 x8 x9 x10 x11 (ix3 b s j)).trans (sum2 (fun k => (congrArg (val_main_v74 (F := Ideal) x0 x1 x2 x3 x5 x6 x8 x10 x11) (ext3 rfl rfl rfl : lidx_main_v86 (ix3 b s j) k = ix3 b s k)).trans (w74 x0 x1 x2 x3 x4 x5 x6 x7 x8 x9 x10 x11 b s k)) (fun k => congrArg x9 (Shape.idx_ext₂ rfl rfl : ridx_main_v86 (ix3 b s j) k = ix2 k j)))
theorem w87 (b : Fin 3) (s : Fin 4096) (j : Fin 32) : val_main_v87 (F := Ideal) (ix3 b s j) = two :=
  (val_main_v87_apply (F := Ideal) (ix3 b s j)).trans rfl
theorem w88 (b : Fin 3) (s : Fin 4096) (j : Fin 32) : val_main_v88 (F := Ideal) x0 x1 x2 x3 x5 x6 x8 x9 x10 x11 (ix3 b s j) = (rI x0 x1 x2 x3 x4 x5 x6 x7 x8 x9 x10 x11).dzu (tok b s) j :=
  (val_main_v88_apply (F := Ideal) x0 x1 x2 x3 x5 x6 x8 x9 x10 x11 (ix3 b s j)).trans (congrArg₂ (fun a b : EReal => a * b) (w87 b s j) (w86 x0 x1 x2 x3 x4 x5 x6 x7 x8 x9 x10 x11 b s j))
theorem w89 (b : Fin 3) (s : Fin 4096) (j : Fin 32) : val_main_v89 (F := Ideal) x0 x1 x2 x3 x5 x6 x8 x9 x10 x11 (ix3 b s j) = (rI x0 x1 x2 x3 x4 x5 x6 x7 x8 x9 x10 x11).dzu (tok b s) j :=
  (val_main_v89_apply (F := Ideal) x0 x1 x2 x3 x5 x6 x8 x9 x10 x11 (ix3 b s j)).trans (w88 x0 x1 x2 x3 x4 x5 x6 x7 x8 x9 x10 x11 b s j)
theorem w90 (i : Fin 32) (j : Fin 3584) : val_main_v90 (F := Ideal) x0 x1 x2 x3 x5 x6 x8 x9 x10 x11 (ix2 i j) = (rI x0 x1 x2 x3 x4 x5 x6 x7 x8 x9 x10 x11).dau i j :=
  outer_32_3584 _ _ _ _ (w89 x0 x1 x2 x3 x4 x5 x6 x7 x8 x9 x10 x11) (w19 x0 x1 x2 x3 x4 x5 x6 x7 x8 x9 x10 x11) i j
theorem w91 (b : Fin 3) (s : Fin 4096) (j : Fin 3584) : val_main_v91 (F := Ideal) x0 x1 x2 x3 x4 x5 x6 x7 x8 x9 x10 x11 (ix3 b s j) = ∑ k, (rI x0 x1 x2 x3 x4 x5 x6 x7 x8 x9 x10 x11).dg (tok b s) k * (rI x0 x1 x2 x3 x4 x5 x6 x7 x8 x9 x10 x11).WG j k :=
  (val_main_v91_apply x0 x1 x2 x3 x4 x5 x6 x7 x8 x9 x10 x11 (ix3 b s j)).trans (sum2 (fun k => (congrArg (val_main_v71 (F := Ideal) x0 x1 x2 x3 x4 x5 x6 x7 x8 x9 x10 x11) (ext3 rfl rfl rfl : lidx_main_v91 (ix3 b s j) k = ix3 b s k)).trans (w71 x0 x1 x2 x3 x4 x5 x6 x7 x8 x9 x10 x11 b s k)) (fun k => (congrArg (val_main_v0 (F := Ideal) x3) (Shape.idx_ext₂ rfl rfl : ridx_main_v91 (ix3 b s j) k = ix2 k j)).trans (w0 x0 x1 x2 x3 x4 x5 x6 x7 x8 x9 x10 x11 k j)))
theorem w92 (b : Fin 3) (s : Fin 4096) (j : Fin 3584) : val_main_v92 (F := Ideal) x0 x1 x2 x3 x4 x5 x6 x8 x10 x11 (ix3 b s j) = ∑ k, (rI x0 x1 x2 x3 x4 x5 x6 x7 x8 x9 x10 x11).du (tok b s) k * (rI x0 x1 x2 x3 x4 x5 x6 x7 x8 x9 x10 x11).WU j k :=
  (val_main_v92_apply x0 x1 x2 x3 x4 x5 x6 x8 x10 x11 (ix3 b s j)).trans (sum2 (fun k => (congrArg (val_main_v74 (F := Ideal) x0 x1 x2 x3 x5 x6 x8 x10 x11) (ext3 rfl rfl rfl : lidx_main_v92 (ix3 b s j) k = ix3 b s k)).trans (w74 x0 x1 x2 x3 x4 x5 x6 x7 x8 x9 x10 x11 b s k)) (fun k => (congrArg (val_main_v1 (F := Ideal) x4) (Shape.idx_ext₂ rfl rfl : ridx_main_v92 (ix3 b s j) k = ix2 k j)).trans (w1 x0 x1 x2 x3 x4 x5 x6 x7 x8 x9 x10 x11 k j)))
theorem w93 (b : Fin 3) (s : Fin 4096) (j : Fin 3584) : val_main_v93 (F := Ideal) x0 x1 x2 x3 x4 x5 x6 x7 x8 x9 x10 x11 (ix3 b s j) = (∑ k, (rI x0 x1 x2 x3 x4 x5 x6 x7 x8 x9 x10 x11).dg (tok b s) k * (rI x0 x1 x2 x3 x4 x5 x6 x7 x8 x9 x10 x11).WG j k) + ∑ k, (rI x0 x1 x2 x3 x4 x5 x6 x7 x8 x9 x10 x11).du (tok b s) k * (rI x0 x1 x2 x3 x4 x5 x6 x7 x8 x9 x10 x11).WU j k :=
  (val_main_v93_apply (F := Ideal) x0 x1 x2 x3 x4 x5 x6 x7 x8 x9 x10 x11 (ix3 b s j)).trans (congrArg₂ (fun a b : EReal => a + b) (w91 x0 x1 x2 x3 x4 x5 x6 x7 x8 x9 x10 x11 b s j) (w92 x0 x1 x2 x3 x4 x5 x6 x7 x8 x9 x10 x11 b s j))
theorem w94 (b : Fin 3) (s : Fin 4096) (j : Fin 3584) : val_main_v94 (F := Ideal) x0 x1 x2 x3 x4 x5 x6 x7 x8 x9 x10 x11 (ix3 b s j) = ∑ k, (rI x0 x1 x2 x3 x4 x5 x6 x7 x8 x9 x10 x11).dzg (tok b s) k * (rI x0 x1 x2 x3 x4 x5 x6 x7 x8 x9 x10 x11).AG k j :=
  (val_main_v94_apply x0 x1 x2 x3 x4 x5 x6 x7 x8 x9 x10 x11 (ix3 b s j)).trans (sum2 (fun k => (congrArg (val_main_v81 (F := Ideal) x0 x1 x2 x3 x4 x5 x6 x7 x8 x9 x10 x11) (ext3 rfl rfl rfl : lidx_main_v94 (ix3 b s j) k = ix3 b s k)).trans (w81 x0 x1 x2 x3 x4 x5 x6 x7 x8 x9 x10 x11 b s k)) (fun k => congrArg x6 (Shape.idx_ext₂ rfl rfl : ridx_main_v94 (ix3 b s j) k = ix2 k j)))
theorem w95 (b : Fin 3) (s : Fin 4096) (j : Fin 3584) : val_main_v95 (F := Ideal) x0 x1 x2 x3 x5 x6 x7 x8 x9 x10 x11 (ix3 b s j) = ∑ k, (rI x0 x1 x2 x3 x4 x5 x6 x7 x8 x9 x10 x11).dzu (tok b s) k * (rI x0 x1 x2 x3 x4 x5 x6 x7 x8 x9 x10 x11).AU k j :=
  (val_main_v95_apply x0 x1 x2 x3 x5 x6 x7 x8 x9 x10 x11 (ix3 b s j)).trans (sum2 (fun k => (congrArg (val_main_v89 (F := Ideal) x0 x1 x2 x3 x5 x6 x8 x9 x10 x11) (ext3 rfl rfl rfl : lidx_main_v95 (ix3 b s j) k = ix3 b s k)).trans (w89 x0 x1 x2 x3 x4 x5 x6 x7 x8 x9 x10 x11 b s k)) (fun k => congrArg x7 (Shape.idx_ext₂ rfl rfl : ridx_main_v95 (ix3 b s j) k = ix2 k j)))
theorem w96 (b : Fin 3) (s : Fin 4096) (j : Fin 3584) : val_main_v96 (F := Ideal) x0 x1 x2 x3 x4 x5 x6 x7 x8 x9 x10 x11 (ix3 b s j) = (∑ k, (rI x0 x1 x2 x3 x4 x5 x6 x7 x8 x9 x10 x11).dzg (tok b s) k * (rI x0 x1 x2 x3 x4 x5 x6 x7 x8 x9 x10 x11).AG k j) + ∑ k, (rI x0 x1 x2 x3 x4 x5 x6 x7 x8 x9 x10 x11).dzu (tok b s) k * (rI x0 x1 x2 x3 x4 x5 x6 x7 x8 x9 x10 x11).AU k j :=
  (val_main_v96_apply (F := Ideal) x0 x1 x2 x3 x4 x5 x6 x7 x8 x9 x10 x11 (ix3 b s j)).trans (congrArg₂ (fun a b : EReal => a + b) (w94 x0 x1 x2 x3 x4 x5 x6 x7 x8 x9 x10 x11 b s j) (w95 x0 x1 x2 x3 x4 x5 x6 x7 x8 x9 x10 x11 b s j))
theorem w97 (b : Fin 3) (s : Fin 4096) (j : Fin 3584) : val_main_v97 (F := Ideal) x0 x1 x2 x3 x4 x5 x6 x7 x8 x9 x10 x11 (ix3 b s j) = (rI x0 x1 x2 x3 x4 x5 x6 x7 x8 x9 x10 x11).dh (tok b s) j :=
  (val_main_v97_apply (F := Ideal) x0 x1 x2 x3 x4 x5 x6 x7 x8 x9 x10 x11 (ix3 b s j)).trans (congrArg₂ (fun a b : EReal => a + b) (w93 x0 x1 x2 x3 x4 x5 x6 x7 x8 x9 x10 x11 b s j) (w96 x0 x1 x2 x3 x4 x5 x6 x7 x8 x9 x10 x11 b s j))
theorem w98 (b : Fin 3) (s : Fin 4096) (j : Fin 3584) : val_main_v98 (F := Ideal) x0 (ix3 b s j) = rsv ((rI x0 x1 x2 x3 x4 x5 x6 x7 x8 x9 x10 x11).X (tok b s)) :=
  (val_main_v98_apply (F := Ideal) x0 (ix3 b s j)).trans ((congrArg (val_main_v13 (F := Ideal) x0) ((ext3 rfl rfl rfl) : idx_main_v98 (ix3 b s j) = (ix3 b s 0))).trans (w13 x0 x1 x2 x3 x4 x5 x6 x7 x8 x9 x10 x11 b s))
theorem w99 (b : Fin 3) (s : Fin 4096) (j : Fin 3584) : val_main_v99 (F := Ideal) x0 (ix3 b s j) = (rI x0 x1 x2 x3 x4 x5 x6 x7 x8 x9 x10 x11).X (tok b s) j * rsv ((rI x0 x1 x2 x3 x4 x5 x6 x7 x8 x9 x10 x11).X (tok b s)) :=
  (val_main_v99_apply (F := Ideal) x0 (ix3 b s j)).trans (congrArg₂ (fun a b : EReal => a * b) (w3 x0 x1 x2 x3 x4 x5 x6 x7 x8 x9 x10 x11 b s j) (w98 x0 x1 x2 x3 x4 x5 x6 x7 x8 x9 x10 x11 b s j))
theorem w100 (j : Fin 3584) : val_main_v100 (F := Ideal) x2 (ix3 0 0 j) = (rI x0 x1 x2 x3 x4 x5 x6 x7 x8 x9 x10 x11).NW j :=
  (val_main_v100_apply (F := Ideal) x2 (ix3 0 0 j)).trans (congrArg x2 (ext1 rfl : idx_main_v100 (ix3 0 0 j) = ix1 j))
theorem w101 (b : Fin 3) (s : Fin 4096) (j : Fin 3584) : val_main_v101 (F := Ideal) x2 (ix3 b s j) = (rI x0 x1 x2 x3 x4 x5 x6 x7 x8 x9 x10 x11).NW j :=
  (val_main_v101_apply (F := Ideal) x2 (ix3 b s j)).trans ((congrArg (val_main_v100 (F := Ideal) x2) ((ext3 rfl rfl rfl) : idx_main_v101 (ix3 b s j) = (ix3 0 0 j))).trans (w100 x0 x1 x2 x3 x4 x5 x6 x7 x8 x9 x10 x11 j))
theorem w102 (b : Fin 3) (s : Fin 4096) (j : Fin 3584) : val_main_v102 (F := Ideal) x0 x1 x2 x3 x4 x5 x6 x7 x8 x9 x10 x11 (ix3 b s j) = (rI x0 x1 x2 x3 x4 x5 x6 x7 x8 x9 x10 x11).dh (tok b s) j * (rI x0 x1 x2 x3 x4 x5 x6 x7 x8 x9 x10 x11).NW j :=
  (val_main_v102_apply (F := Ideal) x0 x1 x2 x3 x4 x5 x6 x7 x8 x9 x10 x11 (ix3 b s j)).trans (congrArg₂ (fun a b : EReal => a * b) (w97 x0 x1 x2 x3 x4 x5 x6 x7 x8 x9 x10 x11 b s j) (w101 x0 x1 x2 x3 x4 x5 x6 x7 x8 x9 x10 x11 b s j))
theorem w103 (b : Fin 3) (s : Fin 4096) (j : Fin 3584) : val_main_v103 (F := Ideal) x0 x1 x2 x3 x4 x5 x6 x7 x8 x9 x10 x11 (ix3 b s j) = ((rI x0 x1 x2 x3 x4 x5 x6 x7 x8 x9 x10 x11).dh (tok b s) j * (rI x0 x1 x2 x3 x4 x5 x6 x7 x8 x9 x10 x11).NW j) * ((rI x0 x1 x2 x3 x4 x5 x6 x7 x8 x9 x10 x11).X (tok b s) j * rsv ((rI x0 x1 x2 x3 x4 x5 x6 x7 x8 x9 x10 x11).X (tok b s))) :=
  (val_main_v103_apply (F := Ideal) x0 x1 x2 x3 x4 x5 x6 x7 x8 x9 x10 x11 (ix3 b s j)).trans (congrArg₂ (fun a b : EReal => a * b) (w102 x0 x1 x2 x3 x4 x5 x6 x7 x8 x9 x10 x11 b s j) (w99 x0 x1 x2 x3 x4 x5 x6 x7 x8 x9 x10 x11 b s j))
theorem w104 (b : Fin 3) (s : Fin 4096) : val_main_v104 (F := Ideal) x0 x1 x2 x3 x4 x5 x6 x7 x8 x9 x10 x11 (ix2 b s) = ∑ j, ((rI x0 x1 x2 x3 x4 x5 x6 x7 x8 x9 x10 x11).dh (tok b s) j * (rI x0 x1 x2 x3 x4 x5 x6 x7 x8 x9 x10 x11).NW j) * ((rI x0 x1 x2 x3 x4 x5 x6 x7 x8 x9 x10 x11).X (tok b s) j * rsv ((rI x0 x1 x2 x3 x4 x5 x6 x7 x8 x9 x10 x11).X (tok b s))) :=
  (val_main_v104_apply x0 x1 x2 x3 x4 x5 x6 x7 x8 x9 x10 x11 (ix2 b s)).trans ((zero_start _).trans (Finset.sum_congr (M := EReal) rfl fun k _ => (congrArg (val_main_v103 (F := Ideal) x0 x1 x2 x3 x4 x5 x6 x7 x8 x9 x10 x11) (ext3 rfl rfl rfl : idx_main_v104 (ix2 b s) k = ix3 b s k)).trans (w103 x0 x1 x2 x3 x4 x5 x6 x7 x8 x9 x10 x11 b s k)))
theorem w105 (b : Fin 3) (s : Fin 4096) : val_main_v105 (F := Ideal) (ix2 b s) = width :=
  (val_main_v105_apply (F := Ideal) (ix2 b s)).trans rfl
theorem w106 (b : Fin 3) (s : Fin 4096) : val_main_v106 (F := Ideal) x0 x1 x2 x3 x4 x5 x6 x7 x8 x9 x10 x11 (ix2 b s) = (rI x0 x1 x2 x3 x4 x5 x6 x7 x8 x9 x10 x11).c (tok b s) :=
  (val_main_v106_apply (F := Ideal) x0 x1 x2 x3 x4 x5 x6 x7 x8 x9 x10 x11 (ix2 b s)).trans (congrArg₂ (fun a b : EReal => Ideal.div a b) (w104 x0 x1 x2 x3 x4 x5 x6 x7 x8 x9 x10 x11 b s) (w105 b s))
theorem w107 (b : Fin 3) (s : Fin 4096) (j : Fin 3584) : val_main_v107 (F := Ideal) x1 (ix3 b s j) = (rI x0 x1 x2 x3 x4 x5 x6 x7 x8 x9 x10 x11).DY (tok b s) j :=
  (val_main_v107_apply (F := Ideal) x1 (ix3 b s j)).trans (inDY x0 x1 x2 x3 x4 x5 x6 x7 x8 x9 x10 x11 b s j)
theorem w108 (b : Fin 3) (s : Fin 4096) : val_main_v108 (F := Ideal) x0 x1 x2 x3 x4 x5 x6 x7 x8 x9 x10 x11 (ix3 b s 0) = (rI x0 x1 x2 x3 x4 x5 x6 x7 x8 x9 x10 x11).c (tok b s) :=
  (val_main_v108_apply (F := Ideal) x0 x1 x2 x3 x4 x5 x6 x7 x8 x9 x10 x11 (ix3 b s 0)).trans ((congrArg (val_main_v106 (F := Ideal) x0 x1 x2 x3 x4 x5 x6 x7 x8 x9 x10 x11) ((Shape.idx_ext₂ rfl rfl) : idx_main_v108 (ix3 b s 0) = (ix2 b s))).trans (w106 x0 x1 x2 x3 x4 x5 x6 x7 x8 x9 x10 x11 b s))
theorem w109 (b : Fin 3) (s : Fin 4096) (j : Fin 3584) : val_main_v109 (F := Ideal) x0 x1 x2 x3 x4 x5 x6 x7 x8 x9 x10 x11 (ix3 b s j) = (rI x0 x1 x2 x3 x4 x5 x6 x7 x8 x9 x10 x11).c (tok b s) :=
  (val_main_v109_apply (F := Ideal) x0 x1 x2 x3 x4 x5 x6 x7 x8 x9 x10 x11 (ix3 b s j)).trans ((congrArg (val_main_v108 (F := Ideal) x0 x1 x2 x3 x4 x5 x6 x7 x8 x9 x10 x11) ((ext3 rfl rfl rfl) : idx_main_v109 (ix3 b s j) = (ix3 b s 0))).trans (w108 x0 x1 x2 x3 x4 x5 x6 x7 x8 x9 x10 x11 b s))
theorem w110 (b : Fin 3) (s : Fin 4096) (j : Fin 3584) : val_main_v110 (F := Ideal) x0 x1 x2 x3 x4 x5 x6 x7 x8 x9 x10 x11 (ix3 b s j) = ((rI x0 x1 x2 x3 x4 x5 x6 x7 x8 x9 x10 x11).X (tok b s) j * rsv ((rI x0 x1 x2 x3 x4 x5 x6 x7 x8 x9 x10 x11).X (tok b s))) * (rI x0 x1 x2 x3 x4 x5 x6 x7 x8 x9 x10 x11).c (tok b s) :=
  (val_main_v110_apply (F := Ideal) x0 x1 x2 x3 x4 x5 x6 x7 x8 x9 x10 x11 (ix3 b s j)).trans (congrArg₂ (fun a b : EReal => a * b) (w99 x0 x1 x2 x3 x4 x5 x6 x7 x8 x9 x10 x11 b s j) (w109 x0 x1 x2 x3 x4 x5 x6 x7 x8 x9 x10 x11 b s j))
theorem w111 (b : Fin 3) (s : Fin 4096) (j : Fin 3584) : val_main_v111 (F := Ideal) x0 x1 x2 x3 x4 x5 x6 x7 x8 x9 x10 x11 (ix3 b s j) = ((rI x0 x1 x2 x3 x4 x5 x6 x7 x8 x9 x10 x11).dh (tok b s) j * (rI x0 x1 x2 x3 x4 x5 x6 x7 x8 x9 x10 x11).NW j) - ((rI x0 x1 x2 x3 x4 x5 x6 x7 x8 x9 x10 x11).X (tok b s) j * rsv ((rI x0 x1 x2 x3 x4 x5 x6 x7 x8 x9 x10 x11).X (tok b s))) * (rI x0 x1 x2 x3 x4 x5 x6 x7 x8 x9 x10 x11).c (tok b s) :=
  (val_main_v111_apply (F := Ideal) x0 x1 x2 x3 x4 x5 x6 x7 x8 x9 x10 x11 (ix3 b s j)).trans (congrArg₂ (fun a b : EReal => a - b) (w102 x0 x1 x2 x3 x4 x5 x6 x7 x8 x9 x10 x11 b s j) (w110 x0 x1 x2 x3 x4 x5 x6 x7 x8 x9 x10 x11 b s j))
theorem w112 (b : Fin 3) (s : Fin 4096) (j : Fin 3584) : val_main_v112 (F := Ideal) x0 (ix3 b s j) = rsv ((rI x0 x1 x2 x3 x4 x5 x6 x7 x8 x9 x10 x11).X (tok b s)) :=
  (val_main_v112_apply (F := Ideal) x0 (ix3 b s j)).trans ((congrArg (val_main_v13 (F := Ideal) x0) ((ext3 rfl rfl rfl) : idx_main_v112 (ix3 b s j) = (ix3 b s 0))).trans (w13 x0 x1 x2 x3 x4 x5 x6 x7 x8 x9 x10 x11 b s))
theorem w113 (b : Fin 3) (s : Fin 4096) (j : Fin 3584) : val_main_v113 (F := Ideal) x0 x1 x2 x3 x4 x5 x6 x7 x8 x9 x10 x11 (ix3 b s j) = rsv ((rI x0 x1 x2 x3 x4 x5 x6 x7 x8 x9 x10 x11).X (tok b s)) * (((rI x0 x1 x2 x3 x4 x5 x6 x7 x8 x9 x10 x11).dh (tok b s) j * (rI x0 x1 x2 x3 x4 x5 x6 x7 x8 x9 x10 x11).NW j) - ((rI x0 x1 x2 x3 x4 x5 x6 x7 x8 x9 x10 x11).X (tok b s) j * rsv ((rI x0 x1 x2 x3 x4 x5 x6 x7 x8 x9 x10 x11).X (tok b s))) * (rI x0 x1 x2 x3 x4 x5 x6 x7 x8 x9 x10 x11).c (tok b s)) :=
  (val_main_v113_apply (F := Ideal) x0 x1 x2 x3 x4 x5 x6 x7 x8 x9 x10 x11 (ix3 b s j)).trans (congrArg₂ (fun a b : EReal => a * b) (w112 x0 x1 x2 x3 x4 x5 x6 x7 x8 x9 x10 x11 b s j) (w111 x0 x1 x2 x3 x4 x5 x6 x7 x8 x9 x10 x11 b s j))
theorem w114 (b : Fin 3) (s : Fin 4096) (j : Fin 3584) : val_main_v114 (F := Ideal) x0 x1 x2 x3 x4 x5 x6 x7 x8 x9 x10 x11 (ix3 b s j) = (rI x0 x1 x2 x3 x4 x5 x6 x7 x8 x9 x10 x11).dx (tok b s) j :=
  (val_main_v114_apply (F := Ideal) x0 x1 x2 x3 x4 x5 x6 x7 x8 x9 x10 x11 (ix3 b s j)).trans (congrArg₂ (fun a b : EReal => a + b) (w107 x0 x1 x2 x3 x4 x5 x6 x7 x8 x9 x10 x11 b s j) (w113 x0 x1 x2 x3 x4 x5 x6 x7 x8 x9 x10 x11 b s j))
theorem w115 (b : Fin 3) (s : Fin 4096) (j : Fin 3584) : val_main_v115 (F := Ideal) x0 x1 x2 x3 x4 x5 x6 x7 x8 x9 x10 x11 (ix3 b s j) = (rI x0 x1 x2 x3 x4 x5 x6 x7 x8 x9 x10 x11).dx (tok b s) j :=
  (val_main_v115_apply (F := Ideal) x0 x1 x2 x3 x4 x5 x6 x7 x8 x9 x10 x11 (ix3 b s j)).trans (w114 x0 x1 x2 x3 x4 x5 x6 x7 x8 x9 x10 x11 b s j)

end Cert.KV
-- ==== Proof.KV.H3.lean ====
module

public import proofs.«01_k».proof.Proof.KV.H2

@[expose] public section

set_option maxRecDepth 16384

noncomputable section

namespace Cert.KV

open Cert.KernelIdeal Cert.KernelIdeal.Gen Cert.KernelIdeal.Run
open Idealize.ShloMosaic Idealize.ShloMosaic.TcCoe Idealize.ShloMosaic.ValueIdx
open Idealize.ShloMosaic.Tactic
open scoped BigOperators

/-! # The arrays the regions find and leave, as the layer's values -/

variable (m : (ℓ : Loc nD τ sig) → Buf (Elt Ideal) ℓ) (ρ : Dev nD → PrngReg) (c : Dev nD)

/-- The layer's inputs as the kernel's arguments give them. -/
def kI : Ins := insOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

theorem e5_v0 : cur (V5 m ρ c main_v0) = (kI m c).X :=
  funext fun r => funext fun k => (congrFun (((((W5_of m ρ c main_v0 (by decide)).trans (W4_of m ρ c main_v0 (by decide))).trans (W3_of m ρ c main_v0 (by decide))).trans (W2_of m ρ c main_v0 (by decide))).trans (ops0_v0 (W0 m ρ c))) (ix2 r k)).trans (flat_apply _ r k)
theorem e5_v1 : cur (V5 m ρ c main_v1) = (kI m c).DY :=
  funext fun r => funext fun k => (congrFun (((((W5_of m ρ c main_v1 (by decide)).trans (W4_of m ρ c main_v1 (by decide))).trans (W3_of m ρ c main_v1 (by decide))).trans (W2_of m ρ c main_v1 (by decide))).trans (ops0_v1 (W0 m ρ c))) (ix2 r k)).trans (flat_apply _ r k)
theorem e5_v2 : cur (V5 m ρ c main_v2) 0 = (kI m c).NW :=
  funext fun k => (congrFun (((((W5_of m ρ c main_v2 (by decide)).trans (W4_of m ρ c main_v2 (by decide))).trans (W3_of m ρ c main_v2 (by decide))).trans (W2_of m ρ c main_v2 (by decide))).trans (ops0_v2 (W0 m ρ c))) (ix2 0 k)).trans (shapeCast_apply _ _ (ix2 0 k) (ix1 k) (by rw [Shape.rowMajor_val_one, Shape.rowMajor_val_two]; show k.val = 0 * 3584 + k.val; omega))
theorem z4 (i : S_.Idx) : (sitofp (F := Ideal) .bf16 (W1 m ρ c (Proc.devRef .tc main_c) : (⟨S_, .i32⟩ : BufTy).Contents (Elt Ideal)) : Vec Ideal S_ .bf16) i = (0 : EReal) :=
  (congrArg (fun q : (⟨S_, .i32⟩ : BufTy).Contents (Elt Ideal) => (sitofp (F := Ideal) .bf16 q : Vec Ideal S_ .bf16) i) (ops0_c (W0 m ρ c))).trans (padz i)
theorem z6 (i : S_.Idx) : (sitofp (F := Ideal) .bf16 (W3 m ρ c (Proc.devRef .tc main_c_0) : (⟨S_, .i32⟩ : BufTy).Contents (Elt Ideal)) : Vec Ideal S_ .bf16) i = (0 : EReal) :=
  (congrArg (fun q : (⟨S_, .i32⟩ : BufTy).Contents (Elt Ideal) => (sitofp (F := Ideal) .bf16 q : Vec Ideal S_ .bf16) i) (ops0_2_c_0 (W2 m ρ c))).trans (padz i)
theorem z10 (i : S_.Idx) : (sitofp (F := Ideal) .bf16 (W7 m ρ c (Proc.devRef .tc main_c_1) : (⟨S_, .i32⟩ : BufTy).Contents (Elt Ideal)) : Vec Ideal S_ .bf16) i = (0 : EReal) :=
  (congrArg (fun q : (⟨S_, .i32⟩ : BufTy).Contents (Elt Ideal) => (sitofp (F := Ideal) .bf16 q : Vec Ideal S_ .bf16) i) (ops1_c_1 (W6 m ρ c))).trans (padz i)
theorem z12 (i : S_.Idx) : (sitofp (F := Ideal) .bf16 (W9 m ρ c (Proc.devRef .tc main_c_2) : (⟨S_, .i32⟩ : BufTy).Contents (Elt Ideal)) : Vec Ideal S_ .bf16) i = (0 : EReal) :=
  (congrArg (fun q : (⟨S_, .i32⟩ : BufTy).Contents (Elt Ideal) => (sitofp (F := Ideal) .bf16 q : Vec Ideal S_ .bf16) i) (ops1_2_c_2 (W8 m ρ c))).trans (padz i)
theorem z13 (i : S_.Idx) : (sitofp (F := Ideal) .bf16 (W11 m ρ c (Proc.devRef .tc main_c_3) : (⟨S_, .i32⟩ : BufTy).Contents (Elt Ideal)) : Vec Ideal S_ .bf16) i = (0 : EReal) :=
  (congrArg (fun q : (⟨S_, .i32⟩ : BufTy).Contents (Elt Ideal) => (sitofp (F := Ideal) .bf16 q : Vec Ideal S_ .bf16) i) (ops1_4_c_3 (W10 m ρ c))).trans (padz i)
theorem z25 (i : S_.Idx) : (sitofp (F := Ideal) .bf16 (W15 m ρ c (Proc.devRef .tc main_c_4) : (⟨S_, .i32⟩ : BufTy).Contents (Elt Ideal)) : Vec Ideal S_ .bf16) i = (0 : EReal) :=
  (congrArg (fun q : (⟨S_, .i32⟩ : BufTy).Contents (Elt Ideal) => (sitofp (F := Ideal) .bf16 q : Vec Ideal S_ .bf16) i) (ops2_c_4 (W14 m ρ c))).trans (padz i)

/-- The stacked gate and up adapters, in their lanes. -/
theorem apa (l : Fin 32) (k : Fin 3584) : cur (V5 m ρ c main_v4) (la l) k = (kI m c).AG l k :=
  (congrFun ((((W5_of m ρ c main_v4 (by decide)).trans (W4_of m ρ c main_v4 (by decide))).trans (W3_of m ρ c main_v4 (by decide))).trans (ops0_1_v4 (W1 m ρ c))) (ix2 (la l) k)).trans ((padr_in _ _ (la l) (⟨l.val, by have := l.isLt; omega⟩ : Fin 64) k (by show 0 + l.val = 0 + _; first | rfl | (show 32 + l.val = 0 + (32 + l.val); omega))).trans ((congrFun (ops0_v3 (W0 m ρ c)) (ix2 (⟨l.val, by have := l.isLt; omega⟩ : Fin 64) k)).trans (v3_lo _ _ l k)))
theorem apb (l : Fin 32) (k : Fin 3584) : cur (V5 m ρ c main_v4) (lb l) k = (kI m c).AU l k :=
  (congrFun ((((W5_of m ρ c main_v4 (by decide)).trans (W4_of m ρ c main_v4 (by decide))).trans (W3_of m ρ c main_v4 (by decide))).trans (ops0_1_v4 (W1 m ρ c))) (ix2 (lb l) k)).trans ((padr_in _ _ (lb l) (⟨32 + l.val, by have := l.isLt; omega⟩ : Fin 64) k (by show 32 + l.val = 0 + _; first | rfl | (show 32 + l.val = 0 + (32 + l.val); omega))).trans ((congrFun (ops0_v3 (W0 m ρ c)) (ix2 (⟨32 + l.val, by have := l.isLt; omega⟩ : Fin 64) k)).trans (v3_hi _ _ l k)))
theorem apc (l : Fin 32) (k : Fin 3584) : cur (V5 m ρ c main_v4) (lc l) k = 0 :=
  (congrFun ((((W5_of m ρ c main_v4 (by decide)).trans (W4_of m ρ c main_v4 (by decide))).trans (W3_of m ρ c main_v4 (by decide))).trans (ops0_1_v4 (W1 m ρ c))) (ix2 (lc l) k)).trans (padr_out _ _ (z4 m ρ c) (lc l) k (by show 64 + l.val < 0 ∨ 0 + 64 ≤ 64 + l.val; omega))
theorem apd (l : Fin 32) (k : Fin 3584) : cur (V5 m ρ c main_v4) (ld l) k = 0 :=
  (congrFun ((((W5_of m ρ c main_v4 (by decide)).trans (W4_of m ρ c main_v4 (by decide))).trans (W3_of m ρ c main_v4 (by decide))).trans (ops0_1_v4 (W1 m ρ c))) (ix2 (ld l) k)).trans (padr_out _ _ (z4 m ρ c) (ld l) k (by show 96 + l.val < 0 ∨ 0 + 64 ≤ 96 + l.val; omega))

/-- The down adapter's other half, transposed, in its lanes. -/
theorem b6a (l : Fin 32) (k : Fin 3584) : (W4 m ρ c (Proc.devRef .tc main_v6) : Vec Ideal S128x3584 .bf16) (ix2 (la l) k) = (0 : EReal) :=
  (congrFun (ops0_3_v6 (W3 m ρ c)) (ix2 (la l) k)).trans (padr_out _ _ (z6 m ρ c) (la l) k (by show 0 + l.val < 64 ∨ 64 + 32 ≤ 0 + l.val; have := l.isLt; omega))
theorem b6b (l : Fin 32) (k : Fin 3584) : (W4 m ρ c (Proc.devRef .tc main_v6) : Vec Ideal S128x3584 .bf16) (ix2 (lb l) k) = (0 : EReal) :=
  (congrFun (ops0_3_v6 (W3 m ρ c)) (ix2 (lb l) k)).trans (padr_out _ _ (z6 m ρ c) (lb l) k (by show 32 + l.val < 64 ∨ 64 + 32 ≤ 32 + l.val; have := l.isLt; omega))
theorem b6c (l : Fin 32) (k : Fin 3584) : (W4 m ρ c (Proc.devRef .tc main_v6) : Vec Ideal S128x3584 .bf16) (ix2 (lc l) k) = (kI m c).BD k l :=
  (congrFun (ops0_3_v6 (W3 m ρ c)) (ix2 (lc l) k)).trans ((padr_in _ _ (lc l) l k rfl).trans ((congrFun (ops0_2_v5 (W2 m ρ c)) (ix2 l k)).trans ((transpose_apply [1, 0] _ _ (ix2 l k) (ix2 k l) (fun b => by fin_cases b <;> rfl)).trans (congrFun (W2_args m ρ c main_arg11 (by decide)) (ix2 k l)))))
theorem b6d (l : Fin 32) (k : Fin 3584) : (W4 m ρ c (Proc.devRef .tc main_v6) : Vec Ideal S128x3584 .bf16) (ix2 (ld l) k) = (0 : EReal) :=
  (congrFun (ops0_3_v6 (W3 m ρ c)) (ix2 (ld l) k)).trans (padr_out _ _ (z6 m ρ c) (ld l) k (by show 96 + l.val < 64 ∨ 64 + 32 ≤ 96 + l.val; have := l.isLt; omega))
theorem v7_v6 (k : Fin 3584) (j : Fin 128) : cur (V5 m ρ c main_v7) k j = (W4 m ρ c (Proc.devRef .tc main_v6) : Vec Ideal S128x3584 .bf16) (ix2 j k) :=
  (congrFun (ops0_4_v7 (W4 m ρ c)) (ix2 k j)).trans (transpose_apply [1, 0] _ _ (ix2 k j) (ix2 j k) (fun b => by fin_cases b <;> rfl))

/-- The three adapters over the inner features, in their lanes. -/
theorem sl0 (j : Fin 128) (f : Fin 18944) : cur3 (V13 m ρ c main_v17) 0 j f = (W12 m ρ c (Proc.devRef .tc main_v10) : Vec Ideal S128x18944 .bf16) (ix2 j f) :=
  (congrFun (ops1_6_v17 (W12 m ρ c)) (ix3 0 j f)).trans (v17_apply _ _ _ j f 0)
theorem pl0a (l : Fin 32) (k : Fin 18944) : (W12 m ρ c (Proc.devRef .tc main_v10) : Vec Ideal S128x18944 .bf16) (ix2 (la l) k) = (kI m c).BG k l :=
  (congrFun (((((W12_of m ρ c main_v10 (by decide)).trans (W11_of m ρ c main_v10 (by decide))).trans (W10_of m ρ c main_v10 (by decide))).trans (W9_of m ρ c main_v10 (by decide))).trans (ops1_1_v10 (W7 m ρ c))) (ix2 (la l) k)).trans ((padr_in _ _ (la l) l k rfl).trans ((congrFun (ops1_v9 (W6 m ρ c)) (ix2 l k)).trans ((transpose_apply [1, 0] _ _ (ix2 l k) (ix2 k l) (fun b => by fin_cases b <;> rfl)).trans (congrFun (W6_args m ρ c main_arg8 (by decide)) (ix2 k l)))))
theorem pl0b (l : Fin 32) (k : Fin 18944) : (W12 m ρ c (Proc.devRef .tc main_v10) : Vec Ideal S128x18944 .bf16) (ix2 (lb l) k) = (0 : EReal) :=
  (congrFun (((((W12_of m ρ c main_v10 (by decide)).trans (W11_of m ρ c main_v10 (by decide))).trans (W10_of m ρ c main_v10 (by decide))).trans (W9_of m ρ c main_v10 (by decide))).trans (ops1_1_v10 (W7 m ρ c))) (ix2 (lb l) k)).trans (padr_out _ _ (z10 m ρ c) (lb l) k (by show 32 + l.val < 0 ∨ 0 + 32 ≤ 32 + l.val; have := l.isLt; omega))
theorem pl0c (l : Fin 32) (k : Fin 18944) : (W12 m ρ c (Proc.devRef .tc main_v10) : Vec Ideal S128x18944 .bf16) (ix2 (lc l) k) = (0 : EReal) :=
  (congrFun (((((W12_of m ρ c main_v10 (by decide)).trans (W11_of m ρ c main_v10 (by decide))).trans (W10_of m ρ c main_v10 (by decide))).trans (W9_of m ρ c main_v10 (by decide))).trans (ops1_1_v10 (W7 m ρ c))) (ix2 (lc l) k)).trans (padr_out _ _ (z10 m ρ c) (lc l) k (by show 64 + l.val < 0 ∨ 0 + 32 ≤ 64 + l.val; have := l.isLt; omega))
theorem pl0d (l : Fin 32) (k : Fin 18944) : (W12 m ρ c (Proc.devRef .tc main_v10) : Vec Ideal S128x18944 .bf16) (ix2 (ld l) k) = (0 : EReal) :=
  (congrFun (((((W12_of m ρ c main_v10 (by decide)).trans (W11_of m ρ c main_v10 (by decide))).trans (W10_of m ρ c main_v10 (by decide))).trans (W9_of m ρ c main_v10 (by decide))).trans (ops1_1_v10 (W7 m ρ c))) (ix2 (ld l) k)).trans (padr_out _ _ (z10 m ρ c) (ld l) k (by show 96 + l.val < 0 ∨ 0 + 32 ≤ 96 + l.val; have := l.isLt; omega))
theorem sl1 (j : Fin 128) (f : Fin 18944) : cur3 (V13 m ρ c main_v17) 1 j f = (W12 m ρ c (Proc.devRef .tc main_v12) : Vec Ideal S128x18944 .bf16) (ix2 j f) :=
  (congrFun (ops1_6_v17 (W12 m ρ c)) (ix3 1 j f)).trans (v17_apply _ _ _ j f 1)
theorem pl1a (l : Fin 32) (k : Fin 18944) : (W12 m ρ c (Proc.devRef .tc main_v12) : Vec Ideal S128x18944 .bf16) (ix2 (la l) k) = (0 : EReal) :=
  (congrFun (((W12_of m ρ c main_v12 (by decide)).trans (W11_of m ρ c main_v12 (by decide))).trans (ops1_3_v12 (W9 m ρ c))) (ix2 (la l) k)).trans (padr_out _ _ (z12 m ρ c) (la l) k (by show 0 + l.val < 32 ∨ 32 + 32 ≤ 0 + l.val; have := l.isLt; omega))
theorem pl1b (l : Fin 32) (k : Fin 18944) : (W12 m ρ c (Proc.devRef .tc main_v12) : Vec Ideal S128x18944 .bf16) (ix2 (lb l) k) = (kI m c).BU k l :=
  (congrFun (((W12_of m ρ c main_v12 (by decide)).trans (W11_of m ρ c main_v12 (by decide))).trans (ops1_3_v12 (W9 m ρ c))) (ix2 (lb l) k)).trans ((padr_in _ _ (lb l) l k rfl).trans ((congrFun (ops1_2_v11 (W8 m ρ c)) (ix2 l k)).trans ((transpose_apply [1, 0] _ _ (ix2 l k) (ix2 k l) (fun b => by fin_cases b <;> rfl)).trans (congrFun (W8_args m ρ c main_arg9 (by decide)) (ix2 k l)))))
theorem pl1c (l : Fin 32) (k : Fin 18944) : (W12 m ρ c (Proc.devRef .tc main_v12) : Vec Ideal S128x18944 .bf16) (ix2 (lc l) k) = (0 : EReal) :=
  (congrFun (((W12_of m ρ c main_v12 (by decide)).trans (W11_of m ρ c main_v12 (by decide))).trans (ops1_3_v12 (W9 m ρ c))) (ix2 (lc l) k)).trans (padr_out _ _ (z12 m ρ c) (lc l) k (by show 64 + l.val < 32 ∨ 32 + 32 ≤ 64 + l.val; have := l.isLt; omega))
theorem pl1d (l : Fin 32) (k : Fin 18944) : (W12 m ρ c (Proc.devRef .tc main_v12) : Vec Ideal S128x18944 .bf16) (ix2 (ld l) k) = (0 : EReal) :=
  (congrFun (((W12_of m ρ c main_v12 (by decide)).trans (W11_of m ρ c main_v12 (by decide))).trans (ops1_3_v12 (W9 m ρ c))) (ix2 (ld l) k)).trans (padr_out _ _ (z12 m ρ c) (ld l) k (by show 96 + l.val < 32 ∨ 32 + 32 ≤ 96 + l.val; have := l.isLt; omega))
theorem sl2 (j : Fin 128) (f : Fin 18944) : cur3 (V13 m ρ c main_v17) 2 j f = (W12 m ρ c (Proc.devRef .tc main_v13) : Vec Ideal S128x18944 .bf16) (ix2 j f) :=
  (congrFun (ops1_6_v17 (W12 m ρ c)) (ix3 2 j f)).trans (v17_apply _ _ _ j f 2)
theorem pl2a (l : Fin 32) (k : Fin 18944) : (W12 m ρ c (Proc.devRef .tc main_v13) : Vec Ideal S128x18944 .bf16) (ix2 (la l) k) = (0 : EReal) :=
  (congrFun (ops1_5_v13 (W11 m ρ c)) (ix2 (la l) k)).trans (padr_out _ _ (z13 m ρ c) (la l) k (by show 0 + l.val < 64 ∨ 64 + 32 ≤ 0 + l.val; have := l.isLt; omega))
theorem pl2b (l : Fin 32) (k : Fin 18944) : (W12 m ρ c (Proc.devRef .tc main_v13) : Vec Ideal S128x18944 .bf16) (ix2 (lb l) k) = (0 : EReal) :=
  (congrFun (ops1_5_v13 (W11 m ρ c)) (ix2 (lb l) k)).trans (padr_out _ _ (z13 m ρ c) (lb l) k (by show 32 + l.val < 64 ∨ 64 + 32 ≤ 32 + l.val; have := l.isLt; omega))
theorem pl2c (l : Fin 32) (k : Fin 18944) : (W12 m ρ c (Proc.devRef .tc main_v13) : Vec Ideal S128x18944 .bf16) (ix2 (lc l) k) = (kI m c).AD l k :=
  (congrFun (ops1_5_v13 (W11 m ρ c)) (ix2 (lc l) k)).trans ((padr_in _ _ (lc l) l k rfl).trans (congrFun (W11_args m ρ c main_arg10 (by decide)) (ix2 l k)))
theorem pl2d (l : Fin 32) (k : Fin 18944) : (W12 m ρ c (Proc.devRef .tc main_v13) : Vec Ideal S128x18944 .bf16) (ix2 (ld l) k) = (0 : EReal) :=
  (congrFun (ops1_5_v13 (W11 m ρ c)) (ix2 (ld l) k)).trans (padr_out _ _ (z13 m ρ c) (ld l) k (by show 96 + l.val < 64 ∨ 64 + 32 ≤ 96 + l.val; have := l.isLt; omega))

/-- The padded adapters hold what the layer's algebra asks of them. -/
theorem lanes : Lanes (kI m c) (cur (V5 m ρ c main_v4)) (cur (V5 m ρ c main_v7)) (fun s => cur3 (V13 m ρ c main_v17) s) where
  apa := apa m ρ c
  apb := apb m ρ c
  apc := apc m ρ c
  apd := apd m ρ c
  bpa l k := (v7_v6 m ρ c k _).trans (b6a m ρ c l k)
  bpb l k := (v7_v6 m ρ c k _).trans (b6b m ρ c l k)
  bpc l k := (v7_v6 m ρ c k _).trans (b6c m ρ c l k)
  bpd l k := (v7_v6 m ρ c k _).trans (b6d m ρ c l k)
  l0a l f := (sl0 m ρ c _ f).trans (pl0a m ρ c l f)
  l0b l f := (sl0 m ρ c _ f).trans (pl0b m ρ c l f)
  l0c l f := (sl0 m ρ c _ f).trans (pl0c m ρ c l f)
  l0d l f := (sl0 m ρ c _ f).trans (pl0d m ρ c l f)
  l1a l f := (sl1 m ρ c _ f).trans (pl1a m ρ c l f)
  l1b l f := (sl1 m ρ c _ f).trans (pl1b m ρ c l f)
  l1c l f := (sl1 m ρ c _ f).trans (pl1c m ρ c l f)
  l1d l f := (sl1 m ρ c _ f).trans (pl1d m ρ c l f)
  l2a l f := (sl2 m ρ c _ f).trans (pl2a m ρ c l f)
  l2b l f := (sl2 m ρ c _ f).trans (pl2b m ρ c l f)
  l2c l f := (sl2 m ρ c _ f).trans (pl2c m ρ c l f)
  l2d l f := (sl2 m ρ c _ f).trans (pl2d m ρ c l f)

/-- What the prologue leaves: the features, and the low-rank rows both ways round. -/
theorem h0 : H0 (V5 m ρ) c = (kI m c).h := by
  show hS (cur (V5 m ρ c main_v0)) (cur (V5 m ρ c main_v2) 0) = _
  rw [e5_v0, e5_v2]; rfl
/-- The low-rank rows. -/
abbrev kZ : Fin 12288 → Fin 128 → EReal := zS (kI m c).h (kI m c).DY (cur (V5 m ρ c main_v4)) (cur (V5 m ρ c main_v7))
theorem z0 : Z0 (V5 m ρ) c = kZ m ρ c := by
  show zS (H0 (V5 m ρ) c) (cur (V5 m ρ c main_v1)) _ _ = _
  rw [h0, e5_v1]
theorem e13_h : cur (V13 m ρ c main_v8_0) = (kI m c).h :=
  (congrArg (cur (a := 12288) (b := 3584)) ((((((((W13_of m ρ c main_v8_0 (by decide)).trans (W12_of m ρ c main_v8_0 (by decide))).trans (W11_of m ρ c main_v8_0 (by decide))).trans (W10_of m ρ c main_v8_0 (by decide))).trans (W9_of m ρ c main_v8_0 (by decide))).trans (W8_of m ρ c main_v8_0 (by decide))).trans (W7_of m ρ c main_v8_0 (by decide))).trans ((W6_arr m ρ c 5).trans (arr0_5 (V5 m ρ) c)))).trans (h0 m ρ c)
theorem e13_z : cur (V13 m ρ c main_v8_1) = kZ m ρ c :=
  (congrArg (cur (a := 12288) (b := 128)) ((((((((W13_of m ρ c main_v8_1 (by decide)).trans (W12_of m ρ c main_v8_1 (by decide))).trans (W11_of m ρ c main_v8_1 (by decide))).trans (W10_of m ρ c main_v8_1 (by decide))).trans (W9_of m ρ c main_v8_1 (by decide))).trans (W8_of m ρ c main_v8_1 (by decide))).trans (W7_of m ρ c main_v8_1 (by decide))).trans ((W6_arr m ρ c 6).trans (arr0_6 (V5 m ρ) c)))).trans (z0 m ρ c)
theorem e13_zt : cur (V13 m ρ c main_v8_2) = (fun j r => kZ m ρ c r j) :=
  (congrArg (cur (a := 128) (b := 12288)) ((((((((W13_of m ρ c main_v8_2 (by decide)).trans (W12_of m ρ c main_v8_2 (by decide))).trans (W11_of m ρ c main_v8_2 (by decide))).trans (W10_of m ρ c main_v8_2 (by decide))).trans (W9_of m ρ c main_v8_2 (by decide))).trans (W8_of m ρ c main_v8_2 (by decide))).trans (W7_of m ρ c main_v8_2 (by decide))).trans ((W6_arr m ρ c 7).trans (arr0_7 (V5 m ρ) c)))).trans (funext fun j => funext fun r => congrFun (congrFun (z0 m ρ c) r) j)
theorem e13_v1 : cur (V13 m ρ c main_v1) = (kI m c).DY :=
  (congrArg (cur (a := 12288) (b := 3584)) ((((((((W13_of m ρ c main_v1 (by decide)).trans (W12_of m ρ c main_v1 (by decide))).trans (W11_of m ρ c main_v1 (by decide))).trans (W10_of m ρ c main_v1 (by decide))).trans (W9_of m ρ c main_v1 (by decide))).trans (W8_of m ρ c main_v1 (by decide))).trans (W7_of m ρ c main_v1 (by decide))).trans (W6_of m ρ c main_v1 (by decide)))).trans (e5_v1 m ρ c)
theorem e13_a3 : cur (V13 m ρ c main_arg3) = (kI m c).WG :=
  congrArg (cur (a := 3584) (b := 18944)) (W13_args m ρ c main_arg3 (by decide))
theorem e13_a4 : cur (V13 m ρ c main_arg4) = (kI m c).WU :=
  congrArg (cur (a := 3584) (b := 18944)) (W13_args m ρ c main_arg4 (by decide))
theorem e13_a5 : cur (V13 m ρ c main_arg5) = (kI m c).WD :=
  congrArg (cur (a := 18944) (b := 3584)) (W13_args m ρ c main_arg5 (by decide))

/-- The gate, the up and the downstream products, and what is made of them. -/
theorem eGg : Gg (V13 m ρ) c = (kI m c).g := by
  show gS (cur (V13 m ρ c main_v8_0)) (cur (V13 m ρ c main_v8_1)) (cur (V13 m ρ c main_arg3)) _ = _
  rw [e13_h, e13_z, e13_a3]; exact funext fun r => funext fun f => g_eq (lanes m ρ c) r f
theorem eGu : Gu (V13 m ρ) c = (kI m c).u := by
  show gS (cur (V13 m ρ c main_v8_0)) (cur (V13 m ρ c main_v8_1)) (cur (V13 m ρ c main_arg4)) _ = _
  rw [e13_h, e13_z, e13_a4]; exact funext fun r => funext fun f => u_eq (lanes m ρ c) r f
theorem eGd : Gd (V13 m ρ) c = (kI m c).dact := by
  show dS (cur (V13 m ρ c main_v1)) (cur (V13 m ρ c main_v8_1)) (cur (V13 m ρ c main_arg5)) _ = _
  rw [e13_v1, e13_z, e13_a5]; exact funext fun r => funext fun f => d_eq (lanes m ρ c) r f
theorem eA : A1 (V13 m ρ) c = (kI m c).a := funext fun r => funext fun f => by
  unfold A1; rw [aF_eq, eGg, eGu]; rfl
theorem eU : U1 (V13 m ρ) c = (kI m c).du := funext fun r => funext fun f => by
  unfold U1; rw [duF_eq, eGg, eGd]; rfl
theorem eG : G1 (V13 m ρ) c = (kI m c).dg := funext fun r => funext fun f => by
  unfold G1; rw [dgF_eq, eGg, eGu, eGd]; rfl
theorem e16_a : cur (V16 m ρ c main_v18_0) = (kI m c).a :=
  (congrArg (cur (a := 12288) (b := 18944)) (((W16_of m ρ c main_v18_0 (by decide)).trans (W15_of m ρ c main_v18_0 (by decide))).trans ((W14_arr m ρ c 8).trans (arr1_8 (V13 m ρ) c)))).trans (eA m ρ c)
theorem e17_g : cur (V17 m ρ c main_v18_1) = (kI m c).dg :=
  (congrArg (cur (a := 12288) (b := 18944)) ((((W17_of m ρ c main_v18_1 (by decide)).trans (W16_of m ρ c main_v18_1 (by decide))).trans (W15_of m ρ c main_v18_1 (by decide))).trans ((W14_arr m ρ c 9).trans (arr1_9 (V13 m ρ) c)))).trans (eG m ρ c)
theorem e17_u : cur (V17 m ρ c main_v18_2) = (kI m c).du :=
  (congrArg (cur (a := 12288) (b := 18944)) ((((W17_of m ρ c main_v18_2 (by decide)).trans (W16_of m ρ c main_v18_2 (by decide))).trans (W15_of m ρ c main_v18_2 (by decide))).trans ((W14_arr m ρ c 10).trans (arr1_10 (V13 m ρ) c)))).trans (eU m ρ c)

theorem e14_6 : (W14 m ρ c (Proc.devRef .tc main_v18_6) : S24x96x512.Idx → EReal) = z3at (V13 m ρ) c 888 := (W14_arr m ρ c 14).trans (arr1_14 (V13 m ρ) c)
theorem tk_self (r : Fin 12288) : tk (r.val / 512) (r.val % 512) = r := Fin.ext (by
  have := r.isLt
  rw [tl_val 12288 512 _ _ _ (by omega)]; omega)
/-- The low-rank rows of the second half, as the third region leaves them. -/
theorem z2_0 (l : Fin 32) (r : Fin 12288) : z2e (W14 m ρ c (Proc.devRef .tc main_v18_6)) (srow0 l) r = (kI m c).dzg r l := by
  have e : z2e (W14 m ρ c (Proc.devRef .tc main_v18_6)) (srow0 l) r = _ := congrArg (fun q : EReal => q * two) (((congrFun (e14_6 m ρ c) _).trans (z3f_0 (V13 m ρ) c ⟨r.val / 512, by have := r.isLt; omega⟩ l ⟨r.val % 512, Nat.mod_lt _ (by decide)⟩)).trans
    (sum2 (fun f => (lanes m ρ c).l0a l f) (fun f => congrFun (congrFun (eG m ρ c) (tk (r.val / 512) (r.val % 512))) f)))
  rw [tk_self] at e
  refine e.trans ?_
  unfold Ins.dzg; rw [mul_comm two]
  exact congrArg (fun q : EReal => q * two) (Finset.sum_congr rfl fun f _ => mul_comm _ _)
theorem z2_1 (l : Fin 32) (r : Fin 12288) : z2e (W14 m ρ c (Proc.devRef .tc main_v18_6)) (srow1 l) r = (kI m c).dzu r l := by
  have e : z2e (W14 m ρ c (Proc.devRef .tc main_v18_6)) (srow1 l) r = _ := congrArg (fun q : EReal => q * two) (((congrFun (e14_6 m ρ c) _).trans (z3f_1 (V13 m ρ) c ⟨r.val / 512, by have := r.isLt; omega⟩ l ⟨r.val % 512, Nat.mod_lt _ (by decide)⟩)).trans
    (sum2 (fun f => (lanes m ρ c).l1b l f) (fun f => congrFun (congrFun (eU m ρ c) (tk (r.val / 512) (r.val % 512))) f)))
  rw [tk_self] at e
  refine e.trans ?_
  unfold Ins.dzu; rw [mul_comm two]
  exact congrArg (fun q : EReal => q * two) (Finset.sum_congr rfl fun f _ => mul_comm _ _)
theorem z2_2 (l : Fin 32) (r : Fin 12288) : z2e (W14 m ρ c (Proc.devRef .tc main_v18_6)) (srow2 l) r = (kI m c).zd r l * two := by
  have e : z2e (W14 m ρ c (Proc.devRef .tc main_v18_6)) (srow2 l) r = _ := congrArg (fun q : EReal => q * two) (((congrFun (e14_6 m ρ c) _).trans (z3f_2 (V13 m ρ) c ⟨r.val / 512, by have := r.isLt; omega⟩ l ⟨r.val % 512, Nat.mod_lt _ (by decide)⟩)).trans
    (sum2 (fun f => (lanes m ρ c).l2c l f) (fun f => congrFun (congrFun (eA m ρ c) (tk (r.val / 512) (r.val % 512))) f)))
  rw [tk_self] at e
  refine e.trans ?_
  unfold Ins.zd
  exact congrArg (fun q : EReal => q * two) (Finset.sum_congr rfl fun f _ => mul_comm _ _)
theorem v23e (j : Fin 96) (r : Fin 12288) : cur (V18 m ρ c main_v23) j r = z2e (W14 m ρ c (Proc.devRef .tc main_v18_6)) j r :=
  (congrFun ((((W18_of m ρ c main_v23 (by decide)).trans (W17_of m ρ c main_v23 (by decide))).trans (W16_of m ρ c main_v23 (by decide))).trans (ops2_v23 (W14 m ρ c))) (ix2 j r)).trans (v23_apply _ j r)
theorem v25e (r : Fin 12288) (j : Fin 128) (l : Fin 96) (hj : j.val = l.val) : cur (V16 m ρ c main_v25) r j = z2e (W14 m ρ c (Proc.devRef .tc main_v18_6)) l r :=
  (congrFun (ops2_1_v25 (W15 m ρ c)) (ix2 r j)).trans ((padc_in _ _ r j l hj).trans ((congrFun (ops2_v24 (W14 m ρ c)) (ix2 r l)).trans ((transpose_apply [1, 0] _ _ (ix2 r l) (ix2 l r) (fun b => by fin_cases b <;> rfl)).trans (v23_apply _ l r))))
theorem lanes2 : Lanes2 (kI m c) (cur (V16 m ρ c main_v25)) where
  a r l := (v25e m ρ c r (la l) (srow0 l) rfl).trans (z2_0 m ρ c l r)
  b r l := (v25e m ρ c r (lb l) (srow1 l) rfl).trans (z2_1 m ρ c l r)
  c r l := (v25e m ρ c r (lc l) (srow2 l) rfl).trans (z2_2 m ρ c l r)
  d r l := (congrFun (ops2_1_v25 (W15 m ρ c)) (ix2 r (ld l))).trans (padc_out _ _ (z25 m ρ c) r (ld l) (by show 96 ≤ 96 + l.val; omega))

/-- The later regions' other inputs. -/
theorem e16_v0 : cur (V16 m ρ c main_v0) = (kI m c).X :=
  (congrArg (cur (a := 12288) (b := 3584)) (((((((((((W16_of m ρ c main_v0 (by decide)).trans (W15_of m ρ c main_v0 (by decide))).trans (W14_of m ρ c main_v0 (by decide))).trans (W13_of m ρ c main_v0 (by decide))).trans (W12_of m ρ c main_v0 (by decide))).trans (W11_of m ρ c main_v0 (by decide))).trans (W10_of m ρ c main_v0 (by decide))).trans (W9_of m ρ c main_v0 (by decide))).trans (W8_of m ρ c main_v0 (by decide))).trans (W7_of m ρ c main_v0 (by decide))).trans (W6_of m ρ c main_v0 (by decide)))).trans (e5_v0 m ρ c)
theorem e16_a5 : cur (V16 m ρ c main_arg5) = (kI m c).WD :=
  congrArg (cur (a := 18944) (b := 3584)) (W16_args m ρ c main_arg5 (by decide))
theorem e16_v6 : cur (V16 m ρ c main_v6) = fun j d => cur (V5 m ρ c main_v7) d j :=
  (congrArg (cur (a := 128) (b := 3584)) ((((((((((((W16_of m ρ c main_v6 (by decide)).trans (W15_of m ρ c main_v6 (by decide))).trans (W14_of m ρ c main_v6 (by decide))).trans (W13_of m ρ c main_v6 (by decide))).trans (W12_of m ρ c main_v6 (by decide))).trans (W11_of m ρ c main_v6 (by decide))).trans (W10_of m ρ c main_v6 (by decide))).trans (W9_of m ρ c main_v6 (by decide))).trans (W8_of m ρ c main_v6 (by decide))).trans (W7_of m ρ c main_v6 (by decide))).trans (W6_of m ρ c main_v6 (by decide))).trans (W5_of m ρ c main_v6 (by decide)))).trans (funext fun j => funext fun d => (v7_v6 m ρ c d j).symm)
theorem eY : Y2 (V16 m ρ) c = (kI m c).y := by
  show yS (cur (V16 m ρ c main_v0)) (cur (V16 m ρ c main_v25)) (cur (V16 m ρ c main_v6)) (cur (V16 m ρ c main_v18_0)) (cur (V16 m ρ c main_arg5)) = _
  rw [e16_v0, e16_v6, e16_a, e16_a5]; exact funext fun r => funext fun d => y_eq (lanes m ρ c) (lanes2 m ρ c) r d
theorem e17_v0 : cur (V17 m ρ c main_v0) = (kI m c).X :=
  (congrArg (cur (a := 12288) (b := 3584)) ((((((((((((W17_of m ρ c main_v0 (by decide)).trans (W16_of m ρ c main_v0 (by decide))).trans (W15_of m ρ c main_v0 (by decide))).trans (W14_of m ρ c main_v0 (by decide))).trans (W13_of m ρ c main_v0 (by decide))).trans (W12_of m ρ c main_v0 (by decide))).trans (W11_of m ρ c main_v0 (by decide))).trans (W10_of m ρ c main_v0 (by decide))).trans (W9_of m ρ c main_v0 (by decide))).trans (W8_of m ρ c main_v0 (by decide))).trans (W7_of m ρ c main_v0 (by decide))).trans (W6_of m ρ c main_v0 (by decide)))).trans (e5_v0 m ρ c)
theorem e17_v1 : cur (V17 m ρ c main_v1) = (kI m c).DY :=
  (congrArg (cur (a := 12288) (b := 3584)) ((((((((((((W17_of m ρ c main_v1 (by decide)).trans (W16_of m ρ c main_v1 (by decide))).trans (W15_of m ρ c main_v1 (by decide))).trans (W14_of m ρ c main_v1 (by decide))).trans (W13_of m ρ c main_v1 (by decide))).trans (W12_of m ρ c main_v1 (by decide))).trans (W11_of m ρ c main_v1 (by decide))).trans (W10_of m ρ c main_v1 (by decide))).trans (W9_of m ρ c main_v1 (by decide))).trans (W8_of m ρ c main_v1 (by decide))).trans (W7_of m ρ c main_v1 (by decide))).trans (W6_of m ρ c main_v1 (by decide)))).trans (e5_v1 m ρ c)
theorem e17_v2 : cur (V17 m ρ c main_v2) 0 = (kI m c).NW :=
  (congrArg (fun q : (⟨2, ![1, 3584]⟩ : Shape).Idx → EReal => cur q 0) ((((((((((((W17_of m ρ c main_v2 (by decide)).trans (W16_of m ρ c main_v2 (by decide))).trans (W15_of m ρ c main_v2 (by decide))).trans (W14_of m ρ c main_v2 (by decide))).trans (W13_of m ρ c main_v2 (by decide))).trans (W12_of m ρ c main_v2 (by decide))).trans (W11_of m ρ c main_v2 (by decide))).trans (W10_of m ρ c main_v2 (by decide))).trans (W9_of m ρ c main_v2 (by decide))).trans (W8_of m ρ c main_v2 (by decide))).trans (W7_of m ρ c main_v2 (by decide))).trans (W6_of m ρ c main_v2 (by decide)))).trans (e5_v2 m ρ c)
theorem e17_v25 : cur (V17 m ρ c main_v25) = cur (V16 m ρ c main_v25) :=
  (congrArg (cur (a := 12288) (b := 128)) (W17_of m ρ c main_v25 (by decide))).trans (rfl)
theorem e17_v4 : cur (V17 m ρ c main_v4) = cur (V5 m ρ c main_v4) :=
  (congrArg (cur (a := 128) (b := 3584)) ((((((((((((W17_of m ρ c main_v4 (by decide)).trans (W16_of m ρ c main_v4 (by decide))).trans (W15_of m ρ c main_v4 (by decide))).trans (W14_of m ρ c main_v4 (by decide))).trans (W13_of m ρ c main_v4 (by decide))).trans (W12_of m ρ c main_v4 (by decide))).trans (W11_of m ρ c main_v4 (by decide))).trans (W10_of m ρ c main_v4 (by decide))).trans (W9_of m ρ c main_v4 (by decide))).trans (W8_of m ρ c main_v4 (by decide))).trans (W7_of m ρ c main_v4 (by decide))).trans (W6_of m ρ c main_v4 (by decide)))).trans (rfl)
theorem e17_a3 : cur (V17 m ρ c main_arg3) = (kI m c).WG :=
  congrArg (cur (a := 3584) (b := 18944)) (W17_args m ρ c main_arg3 (by decide))
theorem e17_a4 : cur (V17 m ρ c main_arg4) = (kI m c).WU :=
  congrArg (cur (a := 3584) (b := 18944)) (W17_args m ρ c main_arg4 (by decide))
theorem eGH : GH (V17 m ρ) c = (kI m c).dh := by
  show ghS (cur (V17 m ρ c main_v25)) (cur (V17 m ρ c main_v4)) (cur (V17 m ρ c main_v18_1)) (cur (V17 m ρ c main_v18_2)) (cur (V17 m ρ c main_arg3)) (cur (V17 m ρ c main_arg4)) = _
  rw [e17_v25, e17_v4, e17_g, e17_u, e17_a3, e17_a4]; exact funext fun r => funext fun d => gh_eq (lanes m ρ c) (lanes2 m ρ c) r d
theorem e18_h : cur (V18 m ρ c main_v8_0) = (kI m c).h :=
  (congrArg (cur (a := 12288) (b := 3584)) (((((W18_of m ρ c main_v8_0 (by decide)).trans (W17_of m ρ c main_v8_0 (by decide))).trans (W16_of m ρ c main_v8_0 (by decide))).trans (W15_of m ρ c main_v8_0 (by decide))).trans (W14_of m ρ c main_v8_0 (by decide)))).trans (e13_h m ρ c)
theorem e18_v1 : cur (V18 m ρ c main_v1) = (kI m c).DY :=
  (congrArg (cur (a := 12288) (b := 3584)) (((((((((((((W18_of m ρ c main_v1 (by decide)).trans (W17_of m ρ c main_v1 (by decide))).trans (W16_of m ρ c main_v1 (by decide))).trans (W15_of m ρ c main_v1 (by decide))).trans (W14_of m ρ c main_v1 (by decide))).trans (W13_of m ρ c main_v1 (by decide))).trans (W12_of m ρ c main_v1 (by decide))).trans (W11_of m ρ c main_v1 (by decide))).trans (W10_of m ρ c main_v1 (by decide))).trans (W9_of m ρ c main_v1 (by decide))).trans (W8_of m ρ c main_v1 (by decide))).trans (W7_of m ρ c main_v1 (by decide))).trans (W6_of m ρ c main_v1 (by decide)))).trans (e5_v1 m ρ c)

/-! # The results -/

/-- The layer's output. -/
theorem r0 : W20 m ρ c (Proc.devRef .tc main_v29) = (fun i : S3x4096x3584.Idx => (kI m c).y (tok (i 0) (i 1)) (i 2)) :=
  funext fun (i : S3x4096x3584.Idx) => (congrFun (ops5_v29 (W19 m ρ c)) i).trans ((shapeCast_apply _ _ i (ix2 (tok (i 0) (i 1)) (i 2)) (by
    rw [Shape.rowMajor_val_three, Shape.rowMajor_val_two]
    show (4096 * (i 0).val + (i 1).val) * 3584 + (i 2).val = ((i 0).val * 4096 + (i 1).val) * 3584 + (i 2).val
    rw [Nat.mul_comm 4096])).trans ((congrFun (((W19_of m ρ c main_v26 (by decide)).trans (W18_of m ρ c main_v26 (by decide))).trans ((W17_arr m ρ c 5).trans (arr2_5 (V16 m ρ) c))) _).trans (congrFun (congrFun (eY m ρ c) _) _)))
/-- The input's gradient. -/
theorem edx (r : Fin 12288) (d : Fin 3584) : dxV (cur (V17 m ρ c main_v0)) (GH (V17 m ρ) c) (cur (V17 m ρ c main_v2) 0) (cur (V17 m ρ c main_v1)) r d = (kI m c).dx r d := by
  rw [e17_v0, e17_v2, e17_v1, eGH]; rfl
theorem ec (r : Fin 12288) : cV (cur (V17 m ρ c main_v0)) (GH (V17 m ρ) c) (cur (V17 m ρ c main_v2) 0) r = (kI m c).c r := by
  rw [e17_v0, e17_v2, eGH]; rfl
theorem r1 : W20 m ρ c (Proc.devRef .tc main_v30) = (fun i : S3x4096x3584.Idx => (kI m c).dx (tok (i 0) (i 1)) (i 2)) :=
  funext fun (i : S3x4096x3584.Idx) => (congrFun (ops5_v30 (W19 m ρ c)) i).trans ((shapeCast_apply _ _ i (ix2 (tok (i 0) (i 1)) (i 2)) (by
    rw [Shape.rowMajor_val_three, Shape.rowMajor_val_two]
    show (4096 * (i 0).val + (i 1).val) * 3584 + (i 2).val = ((i 0).val * 4096 + (i 1).val) * 3584 + (i 2).val
    rw [Nat.mul_comm 4096])).trans ((congrFun ((W19_of m ρ c main_v27_1 (by decide)).trans ((W18_arr m ρ c 10).trans (arr3_10 (V17 m ρ) c))) _).trans (edx m ρ c _ _)))
/-- The row means of the normalisation's backward pass. -/
theorem r2 : W20 m ρ c (Proc.devRef .tc main_v31) = (fun i : S3x4096.Idx => (kI m c).c (tok (i 0) (i 1))) :=
  funext fun (i : S3x4096.Idx) => (congrFun (ops5_v31 (W19 m ρ c)) i).trans ((shapeCast_apply _ _ i (ix2 (tok (i 0) (i 1)) 0) (by
    rw [Shape.rowMajor_val_two, Shape.rowMajor_val_two]
    show (4096 * (i 0).val + (i 1).val) * 1 + 0 = (i 0).val * 4096 + (i 1).val
    omega)).trans ((congrFun ((W19_of m ρ c main_v27_0 (by decide)).trans ((W18_arr m ρ c 9).trans (arr3_9 (V17 m ρ) c))) _).trans (ec m ρ c _)))
/-- The activation. -/
theorem r3 : W20 m ρ c (Proc.devRef .tc main_v32) = (fun i : S3x4096x18944.Idx => (kI m c).a (tok (i 0) (i 1)) (i 2)) :=
  funext fun (i : S3x4096x18944.Idx) => (congrFun (ops5_v32 (W19 m ρ c)) i).trans ((shapeCast_apply _ _ i (ix2 (tok (i 0) (i 1)) (i 2)) (by
    rw [Shape.rowMajor_val_three, Shape.rowMajor_val_two]
    show (4096 * (i 0).val + (i 1).val) * 18944 + (i 2).val = ((i 0).val * 4096 + (i 1).val) * 18944 + (i 2).val
    rw [Nat.mul_comm 4096])).trans ((congrFun ((((((W19_of m ρ c main_v18_0 (by decide)).trans (W18_of m ρ c main_v18_0 (by decide))).trans (W17_of m ρ c main_v18_0 (by decide))).trans (W16_of m ρ c main_v18_0 (by decide))).trans (W15_of m ρ c main_v18_0 (by decide))).trans ((W14_arr m ρ c 8).trans (arr1_8 (V13 m ρ) c))) _).trans (congrFun (congrFun (eA m ρ c) _) _)))
/-- The gate adapter's gradients. -/
theorem r4 : W20 m ρ c (Proc.devRef .tc main_v33) = (fun i : S32x3584.Idx => (kI m c).dag (i 0) (i 1)) :=
  funext fun (i : S32x3584.Idx) => (congrFun (ops5_v33 (W19 m ρ c)) i).trans ((extractStridedSlice_apply _ _ _ i (ix2 (⟨0 + (i 0).val, by have : (i 0).val < 32 := (i 0).isLt; omega⟩ : Fin 64) (i 1)) (fun a => by
    fin_cases a
    · rfl
    · show (i 1).val = 0 + (i 1).val; omega)).trans ((congrFun ((W19_arr m ρ c 3).trans (arr4_3 (V18 m ρ) c)) _).trans
    (sum2 (fun t => (v23e m ρ c _ t).trans (z2_0 m ρ c (i 0) t)) (fun t => congrFun (congrFun (e18_h m ρ c) t) (i 1)))))
theorem r5 : W20 m ρ c (Proc.devRef .tc main_v34) = (fun i : S18944x32.Idx => (kI m c).dbg (i 0) (i 1)) :=
  funext fun (i : S18944x32.Idx) => (congrFun (ops5_v34 (W19 m ρ c)) i).trans ((transpose_apply [1, 0] _ _ i (ix2 (i 1) (i 0)) (fun b => by fin_cases b <;> rfl)).trans ((congrFun ((((((W19_of m ρ c main_v18_3 (by decide)).trans (W18_of m ρ c main_v18_3 (by decide))).trans (W17_of m ρ c main_v18_3 (by decide))).trans (W16_of m ρ c main_v18_3 (by decide))).trans (W15_of m ρ c main_v18_3 (by decide))).trans ((W14_arr m ρ c 11).trans (arr1_11 (V13 m ρ) c))) _).trans
    ((sum2 (fun t => (congrFun (congrFun (e13_zt m ρ c) (la (i 1))) t).trans (z_a (lanes m ρ c) t (i 1))) (fun t => congrFun (congrFun (eG m ρ c) t) (i 0))).trans ((two_out _ _).trans (congrArg (fun q : EReal => two * q) (Finset.sum_congr rfl fun t _ => mul_comm _ _))))))
/-- The up adapter's gradients. -/
theorem r6 : W20 m ρ c (Proc.devRef .tc main_v35) = (fun i : S32x3584.Idx => (kI m c).dau (i 0) (i 1)) :=
  funext fun (i : S32x3584.Idx) => (congrFun (ops5_v35 (W19 m ρ c)) i).trans ((extractStridedSlice_apply _ _ _ i (ix2 (⟨32 + (i 0).val, by have : (i 0).val < 32 := (i 0).isLt; omega⟩ : Fin 64) (i 1)) (fun a => by
    fin_cases a
    · rfl
    · show (i 1).val = 0 + (i 1).val; omega)).trans ((congrFun ((W19_arr m ρ c 3).trans (arr4_3 (V18 m ρ) c)) _).trans
    (sum2 (fun t => (v23e m ρ c _ t).trans (z2_1 m ρ c (i 0) t)) (fun t => congrFun (congrFun (e18_h m ρ c) t) (i 1)))))
theorem r7 : W20 m ρ c (Proc.devRef .tc main_v36) = (fun i : S18944x32.Idx => (kI m c).dbu (i 0) (i 1)) :=
  funext fun (i : S18944x32.Idx) => (congrFun (ops5_v36 (W19 m ρ c)) i).trans ((transpose_apply [1, 0] _ _ i (ix2 (i 1) (i 0)) (fun b => by fin_cases b <;> rfl)).trans ((congrFun ((((((W19_of m ρ c main_v18_4 (by decide)).trans (W18_of m ρ c main_v18_4 (by decide))).trans (W17_of m ρ c main_v18_4 (by decide))).trans (W16_of m ρ c main_v18_4 (by decide))).trans (W15_of m ρ c main_v18_4 (by decide))).trans ((W14_arr m ρ c 12).trans (arr1_12 (V13 m ρ) c))) _).trans
    ((sum2 (fun t => (congrFun (congrFun (e13_zt m ρ c) (lb (i 1))) t).trans (z_b (lanes m ρ c) t (i 1))) (fun t => congrFun (congrFun (eU m ρ c) t) (i 0))).trans ((two_out _ _).trans (congrArg (fun q : EReal => two * q) (Finset.sum_congr rfl fun t _ => mul_comm _ _))))))
/-- The down adapter's gradients. -/
theorem r8 : W20 m ρ c (Proc.devRef .tc main_v18_5) = (fun i : S32x18944.Idx => (kI m c).dad (i 0) (i 1)) :=
  funext fun (i : S32x18944.Idx) => (congrFun (((((((W20_of m ρ c main_v18_5 (by decide)).trans (W19_of m ρ c main_v18_5 (by decide))).trans (W18_of m ρ c main_v18_5 (by decide))).trans (W17_of m ρ c main_v18_5 (by decide))).trans (W16_of m ρ c main_v18_5 (by decide))).trans (W15_of m ρ c main_v18_5 (by decide))).trans ((W14_arr m ρ c 13).trans (arr1_13 (V13 m ρ) c))) i).trans
    (sum2 (fun t => (congrFun (congrFun (e13_zt m ρ c) (lc (i 0))) t).trans (z_c (lanes m ρ c) t (i 0))) (fun t => congrFun (congrFun (eA m ρ c) t) (i 1)))
theorem r9 : W20 m ρ c (Proc.devRef .tc main_v37) = (fun i : S3584x32.Idx => (kI m c).dbd (i 0) (i 1)) :=
  funext fun (i : S3584x32.Idx) => (congrFun (ops5_v37 (W19 m ρ c)) i).trans ((transpose_apply [1, 0] _ _ i (ix2 (i 1) (i 0)) (fun b => by fin_cases b <;> rfl)).trans ((congrFun ((W19_arr m ρ c 4).trans (arr4_4 (V18 m ρ) c)) _).trans
    ((sum2 (fun t => (v23e m ρ c _ t).trans (z2_2 m ρ c (i 1) t)) (fun t => congrFun (congrFun (e18_v1 m ρ c) t) (i 0))).trans ((two_out _ _).trans (congrArg (fun q : EReal => two * q) (Finset.sum_congr rfl fun t _ => mul_comm _ _))))))

end Cert.KV
-- ==== Proof.KV.Out.lean ====
module

public import proofs.«01_k».proof.Proof.KV.Ref
public import proofs.«01_k».proof.Proof.KV.H3

@[expose] public section

set_option maxRecDepth 16384

noncomputable section

namespace Cert.KV

open Cert.ReferenceIdeal Cert.ReferenceIdeal.Gen Cert.ReferenceIdeal.Read
open Idealize.ShloMosaic Idealize.ShloMosaic.TcCoe Idealize.ShloMosaic.ValueIdx
open scoped BigOperators

/-! # The reference's results, and the two programs' agreement -/

section Results
variable (m : (ℓ : Loc nD τ sig) → Buf (Elt Ideal) ℓ) (c : Dev nD)

/-- The layer's inputs in the reference's memory. -/
abbrev mI : Ins := rI (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
theorem q0 : Cert.ReferenceIdeal.Value.res_main_v51 m c = (fun i : S3x4096x3584.Idx => (mI m c).y (tok (i 0) (i 1)) (i 2)) :=
  (val_main_v51_eq m c).trans (funext fun (i : S3x4096x3584.Idx) =>
    (congrArg (val_main_v51 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (ext3 rfl rfl rfl : i = ix3 (i 0) (i 1) (i 2))).trans
      (w51 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (i 0) (i 1) (i 2)))
theorem q1 : Cert.ReferenceIdeal.Value.res_main_v115 m c = (fun i : S3x4096x3584.Idx => (mI m c).dx (tok (i 0) (i 1)) (i 2)) :=
  (val_main_v115_eq m c).trans (funext fun (i : S3x4096x3584.Idx) =>
    (congrArg (val_main_v115 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (ext3 rfl rfl rfl : i = ix3 (i 0) (i 1) (i 2))).trans
      (w115 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (i 0) (i 1) (i 2)))
theorem q2 : Cert.ReferenceIdeal.Value.res_main_v106 m c = (fun i : S3x4096.Idx => (mI m c).c (tok (i 0) (i 1))) :=
  (val_main_v106_eq m c).trans (funext fun (i : S3x4096.Idx) =>
    (congrArg (val_main_v106 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (Shape.idx_ext₂ rfl rfl : i = ix2 (i 0) (i 1))).trans
      (w106 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (i 0) (i 1)))
theorem q3 : Cert.ReferenceIdeal.Value.res_main_v42 m c = (fun i : S3x4096x18944.Idx => (mI m c).a (tok (i 0) (i 1)) (i 2)) :=
  (val_main_v42_eq m c).trans (funext fun (i : S3x4096x18944.Idx) =>
    (congrArg (val_main_v42 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9))) (ext3 rfl rfl rfl : i = ix3 (i 0) (i 1) (i 2))).trans
      (w42 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (i 0) (i 1) (i 2)))
theorem q4 : Cert.ReferenceIdeal.Value.res_main_v82 m c = (fun i : S32x3584.Idx => (mI m c).dag (i 0) (i 1)) :=
  (val_main_v82_eq m c).trans (funext fun (i : S32x3584.Idx) =>
    (congrArg (val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (Shape.idx_ext₂ rfl rfl : i = ix2 (i 0) (i 1))).trans
      (w82 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (i 0) (i 1)))
theorem q5 : Cert.ReferenceIdeal.Value.res_main_v77 m c = (fun i : S18944x32.Idx => (mI m c).dbg (i 0) (i 1)) :=
  (val_main_v77_eq m c).trans (funext fun (i : S18944x32.Idx) =>
    (congrArg (val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (Shape.idx_ext₂ rfl rfl : i = ix2 (i 0) (i 1))).trans
      (w77 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (i 0) (i 1)))
theorem q6 : Cert.ReferenceIdeal.Value.res_main_v90 m c = (fun i : S32x3584.Idx => (mI m c).dau (i 0) (i 1)) :=
  (val_main_v90_eq m c).trans (funext fun (i : S32x3584.Idx) =>
    (congrArg (val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10)) (m ((c.tc : Thread nD τ).loc main_arg11))) (Shape.idx_ext₂ rfl rfl : i = ix2 (i 0) (i 1))).trans
      (w90 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (i 0) (i 1)))
theorem q7 : Cert.ReferenceIdeal.Value.res_main_v85 m c = (fun i : S18944x32.Idx => (mI m c).dbu (i 0) (i 1)) :=
  (val_main_v85_eq m c).trans (funext fun (i : S18944x32.Idx) =>
    (congrArg (val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg10)) (m ((c.tc : Thread nD τ).loc main_arg11))) (Shape.idx_ext₂ rfl rfl : i = ix2 (i 0) (i 1))).trans
      (w85 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (i 0) (i 1)))
theorem q8 : Cert.ReferenceIdeal.Value.res_main_v59 m c = (fun i : S32x18944.Idx => (mI m c).dad (i 0) (i 1)) :=
  (val_main_v59_eq m c).trans (funext fun (i : S32x18944.Idx) =>
    (congrArg (val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11))) (Shape.idx_ext₂ rfl rfl : i = ix2 (i 0) (i 1))).trans
      (w59 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (i 0) (i 1)))
theorem q9 : Cert.ReferenceIdeal.Value.res_main_v54 m c = (fun i : S3584x32.Idx => (mI m c).dbd (i 0) (i 1)) :=
  (val_main_v54_eq m c).trans (funext fun (i : S3584x32.Idx) =>
    (congrArg (val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (Shape.idx_ext₂ rfl rfl : i = ix2 (i 0) (i 1))).trans
      (w54 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (i 0) (i 1)))
end Results

theorem insOf_congr {x0 x1 y0 y1 : (⟨3, ![3, 4096, 3584]⟩ : Shape).Idx → EReal} {x2 y2 : (⟨1, ![3584]⟩ : Shape).Idx → EReal} {x3 x4 y3 y4 : (⟨2, ![3584, 18944]⟩ : Shape).Idx → EReal}
    {x5 y5 : (⟨2, ![18944, 3584]⟩ : Shape).Idx → EReal} {x6 x7 y6 y7 : (⟨2, ![32, 3584]⟩ : Shape).Idx → EReal} {x8 x9 y8 y9 : (⟨2, ![18944, 32]⟩ : Shape).Idx → EReal}
    {x10 y10 : (⟨2, ![32, 18944]⟩ : Shape).Idx → EReal} {x11 y11 : (⟨2, ![3584, 32]⟩ : Shape).Idx → EReal}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) :
    insOf x0 x1 x2 x3 x4 x5 x6 x7 x8 x9 x10 x11 = insOf y0 y1 y2 y3 y4 y5 y6 y7 y8 y9 y10 y11 := by
  subst h0 h1 h2 h3 h4 h5 h6 h7 h8 h9 h10 h11; rfl

end Cert.KV
-- ==== Proof.DV.Spec.lean ====
module

public import Idealize.ShloMosaic.Lib.ValueIdx
public import Idealize.ShloMosaic.Lib.Pipeline.Value

@[expose] public section

noncomputable section

namespace Cert.DV

open Idealize.ShloMosaic

/-- Two indices with the same three coordinates are equal. -/
theorem ext3 {m n o : ℕ} {i j : (⟨3, ![m, n, o]⟩ : Shape).Idx} (h0 : i 0 = j 0) (h1 : i 1 = j 1) (h2 : i 2 = j 2) : i = j :=
  funext fun a => match a with
    | ⟨0, _⟩ => h0
    | ⟨1, _⟩ => h1
    | ⟨2, _⟩ => h2

/-! # The NF4 value of a four-bit index, and the nibbles of a byte -/

/-- Entry of the NF4 table whose index has the bits `b0` (lowest) … `b3`. -/
def nf (b0 b1 b2 b3 : BitVec 1) : EReal :=
  let pair (hi lo : BitVec 32) : EReal := Scalar.select b0 (Ideal.ofBits .f32 hi) (Ideal.ofBits .f32 lo)
  Scalar.select b3
    (Scalar.select b2 (Scalar.select b1 (pair 0x3F800000#32 0x3F3913B3#32) (pair 0x3F1007AB#32 0x3EE1A4B8#32))
      (Scalar.select b1 (pair 0x3EAD033A#32 0x3E7C04DD#32) (pair 0x3E24CAE3#32 0x3DA2FAFF#32)))
    (Scalar.select b2 (Scalar.select b1 (pair 0x00000000#32 0xBDBA7871#32) (pair 0xBE3D353F#32 0xBE91A24D#32))
      (Scalar.select b1 (pair 0xBECA32A0#32 0xBF066B30#32) (pair 0xBF3239B1#32 0xBF800000#32)))

/-- Whether `w` has a bit of the mask `k`, as the kernel asks. -/
def bitK (w k : BitVec 32) : BitVec 1 := IntOp.cmpi .ne (IntOp.andi w k) 0#32

/-- Bit `k` of `w`, as the reference asks. -/
def bitR (w k : BitVec 32) : BitVec 1 := IntOp.cmpi .eq (IntOp.andi (IntOp.shrsi .host w k) 1#32) 1#32

/-- The table's entry, the bits read the kernel's way. -/
def nfK (w : BitVec 32) : EReal := nf (bitK w 1#32) (bitK w 2#32) (bitK w 4#32) (bitK w 8#32)

/-- The table's entry, the bits read the reference's way. -/
def nfR (w : BitVec 32) : EReal := nf (bitR w 0#32) (bitR w 1#32) (bitR w 2#32) (bitR w 3#32)

/-- The table's entry for the upper nibble of a byte. -/
def up (x : BitVec 8) : EReal := nfR (IntOp.shrsi .host (x.setWidth 32) 4#32)

/-- The table's entry for the lower nibble of a byte. -/
def low (x : BitVec 8) : EReal := nfR (IntOp.andi (x.setWidth 32) 15#32)

/-- The entry for row `r` of the pairs of rows that the bytes hold: the upper nibble for even `r`. -/
def nib (x : BitVec 8) (r : Nat) : EReal := if r % 2 = 0 then up x else low x

theorem up_bits : ∀ x : BitVec 8,
    (bitK (IntOp.shrsi .vector (x.setWidth 32) 4#32) 1#32 = bitR (IntOp.shrsi .host (x.setWidth 32) 4#32) 0#32
      ∧ bitK (IntOp.shrsi .vector (x.setWidth 32) 4#32) 2#32 = bitR (IntOp.shrsi .host (x.setWidth 32) 4#32) 1#32)
    ∧ (bitK (IntOp.shrsi .vector (x.setWidth 32) 4#32) 4#32 = bitR (IntOp.shrsi .host (x.setWidth 32) 4#32) 2#32
      ∧ bitK (IntOp.shrsi .vector (x.setWidth 32) 4#32) 8#32 = bitR (IntOp.shrsi .host (x.setWidth 32) 4#32) 3#32) := by
  decide +kernel

theorem low_bits : ∀ x : BitVec 8,
    (bitK (IntOp.andi (x.setWidth 32) 15#32) 1#32 = bitR (IntOp.andi (x.setWidth 32) 15#32) 0#32
      ∧ bitK (IntOp.andi (x.setWidth 32) 15#32) 2#32 = bitR (IntOp.andi (x.setWidth 32) 15#32) 1#32)
    ∧ (bitK (IntOp.andi (x.setWidth 32) 15#32) 4#32 = bitR (IntOp.andi (x.setWidth 32) 15#32) 2#32
      ∧ bitK (IntOp.andi (x.setWidth 32) 15#32) 8#32 = bitR (IntOp.andi (x.setWidth 32) 15#32) 3#32) := by
  decide +kernel

theorem nfK_up (x : BitVec 8) : nfK (IntOp.shrsi .vector (x.setWidth 32) 4#32) = up x := by
  unfold nfK up nfR
  rw [(up_bits x).1.1, (up_bits x).1.2, (up_bits x).2.1, (up_bits x).2.2]

theorem nfK_low (x : BitVec 8) : nfK (IntOp.andi (x.setWidth 32) 15#32) = low x := by
  unfold nfK low nfR
  rw [(low_bits x).1.1, (low_bits x).1.2, (low_bits x).2.1, (low_bits x).2.2]

end Cert.DV
-- ==== Proof.DV.Body.lean ====
module

public import proofs.«01_k».proof.Proof.DV.Spec
public import proofs.«01_k».proof.Proof.Gen.DequantIdeal.Value

@[expose] public section

set_option maxRecDepth 16384

noncomputable section

namespace Cert.DV

open Cert.DequantIdeal Cert.DequantIdeal.Gen
open Idealize.ShloMosaic Idealize.ShloMosaic.TcCoe Idealize.ShloMosaic.ValueIdx

/-! # What the body writes to a block, element by element -/

theorem hz2 : (![0, 0] : Fin 2 → Nat) = fun _ => 0 := funext fun a => by fin_cases a <;> rfl

/-- The byte of a block, widened and transposed. -/
theorem k0_pay2_apply (x : Vec Ideal S512x256 .i8) (j : Fin 256) (n : Fin 512) :
    k0_pay2 (F := Ideal) x (ix2 j n) = (x (ix2 n j)).setWidth 32 := by
  unfold k0_pay2
  exact transpose_apply [1, 0] (extui 32 x natLt_8_32) transposes_S512x256_p1_0_S256x512 (ix2 j n) (ix2 n j) (fun b => by fin_cases b <;> rfl)

/-- The scale of a block, repeated over the thirty-two rows it belongs to. -/
theorem k0_pay3_apply (x : Vec Ideal S8x512 .f32) (j : Fin 256) (n : Fin 512) :
    k0_pay3 (F := Ideal) x (ix2 j n) = x (ix2 ⟨j.val / 32, by omega⟩ n) := by
  unfold k0_pay3
  simp only [shapeCast_self]
  refine (shapeCast_apply _ shapeCasts_S8x32x512_S256x512 (ix2 j n) (ix3 (⟨j.val / 32, by omega⟩ : Fin 8) (⟨j.val % 32, by omega⟩ : Fin 32) n) (by
    rw [Shape.rowMajor_val_three, Shape.rowMajor_val_two]
    show (j.val / 32 * 32 + j.val % 32) * 512 + n.val = j.val * 512 + n.val
    omega)).trans ?_
  refine (broadcastTo_apply _ broadcasts_S8x1x512_S8x32x512 _ (ix3 (⟨j.val / 32, by omega⟩ : Fin 8) (0 : Fin 1) n) (fun a => by fin_cases a <;> rfl)).trans ?_
  exact shapeCast_apply x shapeCasts_S8x512_S8x1x512 _ (ix2 (⟨j.val / 32, by omega⟩ : Fin 8) n) (by
    rw [Shape.rowMajor_val_three, Shape.rowMajor_val_two]
    show j.val / 32 * 512 + n.val = (j.val / 32 * 1 + 0) * 512 + n.val
    omega)

/-- The rows from the upper nibbles. -/
theorem even_apply (x : Vec Ideal S512x256 .i8) (s : FVec Ideal S256x512 .f32) (j : Fin 256) (n : Fin 512) :
    k0_pay13 (F := Ideal) s (k0_pay4 x) (k0_pay5 x) (k0_pay6 x) (k0_pay7 x) (k0_pay8 x) (k0_pay9 x) (k0_pay10 x) (k0_pay11 x) (k0_pay12 x)
      (Scalar.ofBits .f32 0x3F800000#32) (ix2 j n) = up (x (ix2 n j)) * s (ix2 j n) := by
  rw [← nfK_up, ← k0_pay2_apply]
  exact rfl

/-- The body's block: even rows from the first vector, odd rows from the lower nibbles. -/
theorem pay1_apply (v : IVec S256x512 32) (s e : FVec Ideal S256x512 .f32) (r n : Fin 512) :
    k0_pay1 (F := Ideal) s e (k0_pay14 v) (k0_pay15 v) (k0_pay16 v) (k0_pay17 v) (k0_pay18 v) (k0_pay19 v)
      (Scalar.ofBits .f32 0x3E24CAE3#32) (ix2 r n)
    = if r.val % 2 = 0 then e (ix2 ⟨r.val / 2, by omega⟩ n)
      else nfK (IntOp.andi (v (ix2 ⟨r.val / 2, by omega⟩ n)) 15#32) * s (ix2 ⟨r.val / 2, by omega⟩ n) := by
  have hj : ∀ q : S256x512.Idx, (q 0).val = r.val / 2 → (q 1).val = n.val → q = ix2 (⟨r.val / 2, by omega⟩ : Fin 256) n :=
    fun q h0 h1 => Shape.idx_ext₂ h0 h1
  unfold k0_pay1 interleaveRows
  dsimp only
  refine if_congr Iff.rfl (congrArg e (hj _ rfl rfl)) ?_
  exact congrArg (fun q => nfK (IntOp.andi (v q) 15#32) * s q) (hj _ rfl rfl)

/-- The body's block as one formula. -/
theorem out_apply (x : Vec Ideal S512x256 .i8) (a : Vec Ideal S8x512 .f32) (r n : Fin 512) :
    out0_2 (F := Ideal) x a (ix2 r n) = nib (x (ix2 n ⟨r.val / 2, by omega⟩)) r.val * a (ix2 ⟨r.val / 64, by omega⟩ n) := by
  unfold out0_2 k0_pay20 k0_pay21
  rewrite [View.canon_unit_zero hz2]
  simp only [View.ld_unit_zero (S := S512x256) hz2, View.ld_unit_zero (S := S8x512) hz2]
  have hs : k0_pay3 (F := Ideal) a (ix2 (⟨r.val / 2, by omega⟩ : Fin 256) n) = a (ix2 ⟨r.val / 64, by omega⟩ n) :=
    (k0_pay3_apply a _ n).trans (congrArg a (Shape.idx_ext₂ (by show r.val / 2 / 32 = r.val / 64; omega) rfl))
  rw [pay1_apply, even_apply, k0_pay2_apply, nfK_low, hs]
  unfold nib
  split <;> rfl

end Cert.DV
-- ==== Proof.DV.Up.lean ====
module

public import proofs.«01_k».proof.Proof.DV.Body
public import proofs.«01_k».proof.Proof.Gen.DequantIdeal.Value

@[expose] public section

set_option maxRecDepth 16384

noncomputable section

namespace Cert.DV.Up

open Cert.DequantIdeal Cert.DequantIdeal.Gen
open Idealize.ShloMosaic Idealize.ShloMosaic.TcCoe Idealize.ShloMosaic.ValueIdx

/-! # The array the dequantising call leaves: codes of shape 18944 × 1792, scales of shape 18944 × 56 -/

/-- The dequantised, transposed weights of codes and scales. -/
def weight (x : Vec Ideal S18944x1792 .i8) (a : Vec Ideal S18944x56 .f32) (r : Fin 3584) (n : Fin 18944) : EReal :=
  nib (x (ix2 n ⟨r.val / 2, by omega⟩)) r.val * a (ix2 n ⟨r.val / 64, by omega⟩)

variable (m : (ℓ : Loc nD τ sig) → Buf (Elt Ideal) ℓ)

/-- The codes as launched. -/
abbrev codes (c : Dev nD) : Vec Ideal S18944x1792 .i8 := m ((c : Thread nD τ).loc main_arg0)

/-- The scales as launched. -/
abbrev scales (c : Dev nD) : Vec Ideal S18944x56 .f32 := m ((c : Thread nD τ).loc main_arg1)

/-- The call reads the scales transposed. -/
theorem V_main_v0 (c : Dev nD) : V m c main_v0 = transpose S56x18944 [1, 0] (scales m c) transposes_S18944x56_S56x18944_1_0 := by
  show StableHlo.after hostOps0 (fun b => m (c, b)) (Proc.devRef .tc main_v0) = _
  after_results

/-- Which block of each array a grid point reads or writes; every point writes its block back. -/
theorem idx : ∀ t : Fin cfg0.N,
    (win0_0.index t (0 : Fin 2) = t.val / 7 ∧ win0_0.index t (1 : Fin 2) = t.val % 7)
    ∧ (win0_1.index t (0 : Fin 2) = t.val % 7 ∧ win0_1.index t (1 : Fin 2) = t.val / 7)
    ∧ (win0_2.index t (0 : Fin 2) = t.val % 7 ∧ win0_2.index t (1 : Fin 2) = t.val / 7)
    ∧ win0_2.flush t = true :=
  (by decide +kernel : ∀ t : Fin grid0.N, _)

theorem lt (t : Fin cfg0.N) : t.val < 259 := lt_of_lt_of_eq t.isLt (show cfg0.N = 259 from N_0)

/-- Column `n` of the output block of point `t`. -/
def col (t : Fin cfg0.N) (n : Fin 512) : Fin 18944 := ⟨512 * (t.val / 7) + n.val, by have := lt t; have := n.isLt; omega⟩

/-- Row `r` of the output block of point `t`. -/
def row (t : Fin cfg0.N) (r : Fin 512) : Fin 3584 := ⟨512 * (t.val % 7) + r.val, by have := r.isLt; omega⟩

theorem blk0 (c : Dev nD) (t : Fin cfg0.N) (n : Fin 512) (j : Fin 256) :
    iblk m c 0 t (ix2 n j) = codes m c (ix2 (col t n) ⟨256 * (t.val % 7) + j.val, by omega⟩) := by
  refine (congrArg (V m c main_arg0) (Shape.idx_ext₂ ?_ ?_)).trans (congrFun (V_main_arg0 m c) _)
  · show win0_0.index t (0 : Fin 2) * 512 + 1 * n.val = 512 * (t.val / 7) + n.val
    have := (idx t).1.1; omega
  · show win0_0.index t (1 : Fin 2) * 256 + 1 * j.val = 256 * (t.val % 7) + j.val
    have := (idx t).1.2; omega

theorem blk1 (c : Dev nD) (t : Fin cfg0.N) (s : Fin 8) (n : Fin 512) :
    iblk m c 1 t (ix2 s n) = scales m c (ix2 (col t n) ⟨8 * (t.val % 7) + s.val, by omega⟩) := by
  have e : iblk m c 1 t (ix2 s n) = V m c main_v0 (ix2 (⟨8 * (t.val % 7) + s.val, by omega⟩ : Fin 56) (col t n)) := by
    refine congrArg (V m c main_v0) (Shape.idx_ext₂ ?_ ?_)
    · show win0_1.index t (0 : Fin 2) * 8 + 1 * s.val = 8 * (t.val % 7) + s.val
      have := (idx t).2.1.1; omega
    · show win0_1.index t (1 : Fin 2) * 512 + 1 * n.val = 512 * (t.val / 7) + n.val
      have := (idx t).2.1.2; omega
  rw [e, V_main_v0]
  exact transpose_apply [1, 0] (scales m c) transposes_S18944x56_S56x18944_1_0 _ _ (fun b => by fin_cases b <;> rfl)

theorem out_blk (c : Dev nD) (t : Fin cfg0.N) (r n : Fin 512) :
    out0_2 (iblk m c 0 t) (iblk m c 1 t) (ix2 r n) = weight (codes m c) (scales m c) (row t r) (col t n) := by
  refine (out_apply (iblk m c 0 t) (iblk m c 1 t) r n).trans ?_
  rw [blk0, blk1]
  unfold weight
  refine congrArg₂ (fun e f : EReal => e * f) ?_ (congrArg (scales m c) (Shape.idx_ext₂ rfl ?_))
  · have h : codes m c (ix2 (col t n) ⟨256 * (t.val % 7) + r.val / 2, by omega⟩) = codes m c (ix2 (col t n) ⟨(row t r).val / 2, by omega⟩) :=
      congrArg (codes m c) (Shape.idx_ext₂ rfl (by show 256 * (t.val % 7) + r.val / 2 = (512 * (t.val % 7) + r.val) / 2; omega))
    rw [h]
    unfold nib
    have p : (row t r).val % 2 = r.val % 2 := by show (512 * (t.val % 7) + r.val) % 2 = r.val % 2; omega
    rw [p]
  · show 8 * (t.val % 7) + r.val / 64 = (512 * (t.val % 7) + r.val) / 64
    omega

/-- The whole array. -/
theorem arr (c : Dev nD) : (dats m 0 c).arrAt 2 cfg0.N = fun i : S3584x18944.Idx => weight (codes m c) (scales m c) (i 0) (i 1) := by
  refine (dats m 0 c).arrAt_eq_of_cover 2 _ (fun t hf => ?_) (fun i => ?_)
  · refine (Value.flushed2 m c t).trans ?_
    funext y
    have hy : (cfg0.win 2).xinj (grid0.coords t) y = (ix2 (y 0 : Fin 512) (y 1 : Fin 512) : S512x512.Idx) := Shape.idx_ext₂ rfl rfl
    show out0_2 (iblk m c 0 t) (iblk m c 1 t) ((cfg0.win 2).xinj (grid0.coords t) y)
      = weight (codes m c) (scales m c) (((cfg0.win 2).blk t).view.emb y 0) (((cfg0.win 2).blk t).view.emb y 1)
    refine (congrArg (out0_2 (iblk m c 0 t) (iblk m c 1 t)) hy).trans ((out_blk m c t (y 0) (y 1)).trans ?_)
    refine congrArg₂ (weight (codes m c) (scales m c)) (Fin.ext ?_) (Fin.ext ?_)
    · show 512 * (t.val % 7) + (y 0).val = win0_2.index t (0 : Fin 2) * 512 + 1 * (y 0).val
      have := (idx t).2.2.1.1; omega
    · show 512 * (t.val / 7) + (y 1).val = win0_2.index t (1 : Fin 2) * 512 + 1 * (y 1).val
      have := (idx t).2.2.1.2; omega
  · have h0 : (i 0).val < 3584 := (i 0).isLt
    have h1 : (i 1).val < 18944 := (i 1).isLt
    let t : Fin cfg0.N := ⟨7 * ((i 1).val / 512) + (i 0).val / 512, lt_of_lt_of_eq (by omega) N_0.symm⟩
    have ht : t.val = 7 * ((i 1).val / 512) + (i 0).val / 512 := rfl
    refine ⟨t, (idx t).2.2.2, ?_⟩
    show i ∈ ((View.whole main_v1).slice (win0_2.rect t)).set
    rewrite [View.set_slice_whole, Rect.mem_set_unit]
    have e := (idx t).2.2.1
    intro a
    match a with
    | ⟨0, _⟩ => show win0_2.index t (0 : Fin 2) * 512 ≤ (i 0).val ∧ (i 0).val < win0_2.index t (0 : Fin 2) * 512 + 512; omega
    | ⟨1, _⟩ => show win0_2.index t (1 : Fin 2) * 512 ≤ (i 1).val ∧ (i 1).val < win0_2.index t (1 : Fin 2) * 512 + 512; omega

end Cert.DV.Up
-- ==== Proof.DV.UpRef.lean ====
module

public import proofs.«01_k».proof.Proof.DV.Up
public import proofs.«01_k».proof.Proof.Gen.DequantiseIdeal.Read

@[expose] public section

set_option maxRecDepth 16384

noncomputable section

namespace Cert.DV.Up

open Cert.DequantiseIdeal Cert.DequantiseIdeal.Gen Cert.DequantiseIdeal.Read
open Idealize.ShloMosaic Idealize.ShloMosaic.TcCoe Idealize.ShloMosaic.ValueIdx

/-! # The reference's weights, element by element -/

variable (x : Vec Ideal S18944x1792 .i8) (a : Vec Ideal S18944x56 .f32)

/-- Its table entry for the upper nibbles and for the lower ones. -/
theorem entry (n : Fin 18944) (j : Fin 1792) :
    val_main_v42 (F := Ideal) x (ix2 n j) = up (x (ix2 n j)) ∧ val_main_v88 (F := Ideal) x (ix2 n j) = low (x (ix2 n j)) := ⟨rfl, rfl⟩

/-- Splitting a row of codes into blocks of thirty-two and joining it again changes nothing; the block's scale is read. -/
theorem blocks (n : Fin 18944) (j : Fin 1792) :
    idx_main_v43 (idx_main_v47 (ix2 n j)) = ix2 n j ∧ idx_main_v0 (idx_main_v44 (idx_main_v47 (ix2 n j))) = ix2 n ⟨j.val / 32, by omega⟩ := by
  refine ⟨Shape.idx_ext₂ ?_ ?_, Shape.idx_ext₂ ?_ ?_⟩
  · show (((n.val * 1792 + j.val) / 1792 * 56 + (n.val * 1792 + j.val) / 32 % 56) * 32 + (n.val * 1792 + j.val) % 32) / 1792 = n.val
    omega
  · show (((n.val * 1792 + j.val) / 1792 * 56 + (n.val * 1792 + j.val) / 32 % 56) * 32 + (n.val * 1792 + j.val) % 32) % 1792 = j.val
    omega
  · show (((n.val * 1792 + j.val) / 1792 * 56 + (n.val * 1792 + j.val) / 32 % 56) * 1 + 0) / 56 = n.val
    omega
  · show (((n.val * 1792 + j.val) / 1792 * 56 + (n.val * 1792 + j.val) / 32 % 56) * 1 + 0) % 56 = j.val / 32
    omega

theorem even_field (n : Fin 18944) (j : Fin 1792) :
    val_main_v47 (F := Ideal) x a (ix2 n j) = up (x (ix2 n j)) * a (ix2 n ⟨j.val / 32, by omega⟩) := by
  rw [val_main_v47_apply, val_main_v46_apply, val_main_v45_apply, val_main_v43_apply, val_main_v44_apply, val_main_v0_apply,
    (blocks n j).1, (blocks n j).2, (entry x n j).1]
  exact rfl

theorem odd_field (n : Fin 18944) (j : Fin 1792) :
    val_main_v93 (F := Ideal) x a (ix2 n j) = low (x (ix2 n j)) * a (ix2 n ⟨j.val / 32, by omega⟩) := by
  have h := blocks n j
  rw [val_main_v93_apply, val_main_v92_apply, val_main_v91_apply, val_main_v89_apply, val_main_v90_apply, val_main_v0_apply]
  have h1 : idx_main_v89 (idx_main_v93 (ix2 n j)) = ix2 n j := h.1
  have h2 : idx_main_v0 (idx_main_v90 (idx_main_v93 (ix2 n j))) = ix2 n ⟨j.val / 32, by omega⟩ := h.2
  rw [h1, h2, (entry x n j).2]
  exact rfl

/-- The two fields side by side. -/
theorem stacked (n : Fin 18944) (j : Fin 1792) (p : Fin 2) :
    val_main_v96 (F := Ideal) x a (ix3 n j p) = nib (x (ix2 n j)) p.val * a (ix2 n ⟨j.val / 32, by omega⟩) := by
  unfold val_main_v96
  match p with
  | ⟨0, _⟩ =>
    refine (concatenate_pair_apply_left (t := S18944x1792x2) 2 _ _ concatenates_S18944x1792x1_S18944x1792x1_S18944x1792x2_d2 _ rfl (ix3 n j (0 : Fin 1)) (fun b => by fin_cases b <;> rfl)).trans ?_
    exact (val_main_v94_apply x a _).trans (even_field x a n j)
  | ⟨1, _⟩ =>
    refine (concatenate_pair_apply_right (t := S18944x1792x2) 2 _ _ concatenates_S18944x1792x1_S18944x1792x1_S18944x1792x2_d2 _ rfl rfl (ix3 n j (0 : Fin 1))
      (fun b hb => by fin_cases b <;> first | rfl | exact absurd rfl hb) rfl).trans ?_
    exact (val_main_v95_apply x a _).trans (odd_field x a n j)

/-- The reference's weights are the kernel's. -/
theorem ref_eq (i : S3584x18944.Idx) : val_main_v98 (F := Ideal) x a i = weight x a (i 0) (i 1) := by
  have h0 : (i 0).val < 3584 := (i 0).isLt
  have h1 : (i 1).val < 18944 := (i 1).isLt
  have e : idx_main_v97 (idx_main_v98 i) = ix3 (i 1 : Fin 18944) (⟨(i 0).val / 2, by omega⟩ : Fin 1792) (⟨(i 0).val % 2, by omega⟩ : Fin 2) := by
    refine ext3 (Fin.ext ?_) (Fin.ext ?_) (Fin.ext ?_)
    · show ((i 1).val * 3584 + (i 0).val) / 3584 = (i 1).val
      omega
    · show ((i 1).val * 3584 + (i 0).val) / 2 % 1792 = (i 0).val / 2
      omega
    · show ((i 1).val * 3584 + (i 0).val) % 2 = (i 0).val % 2
      omega
  refine (val_main_v98_apply x a i).trans ((val_main_v97_apply x a _).trans ((congrArg (val_main_v96 (F := Ideal) x a) e).trans ((stacked x a (i 1) _ _).trans ?_)))
  unfold weight
  refine congrArg₂ (fun e f : EReal => e * f) ?_ (congrArg a (Shape.idx_ext₂ rfl ?_))
  · unfold nib
    exact if_congr (by rw [Nat.mod_mod]) rfl rfl
  · show (i 0).val / 2 / 32 = (i 0).val / 64
    omega

end Cert.DV.Up
-- ==== Proof.DV.Down.lean ====
module

public import proofs.«01_k».proof.Proof.DV.Body
public import proofs.«01_k».proof.Proof.Gen.DequantDownIdeal.Value

@[expose] public section

set_option maxRecDepth 16384

noncomputable section

namespace Cert.DV.Down

open Cert.DequantDownIdeal Cert.DequantDownIdeal.Gen
open Idealize.ShloMosaic Idealize.ShloMosaic.TcCoe Idealize.ShloMosaic.ValueIdx

/-! # The array the dequantising call leaves: codes of shape 3584 × 9472, scales of shape 3584 × 296 -/

/-- The dequantised, transposed weights of codes and scales. -/
def weight (x : Vec Ideal S3584x9472 .i8) (a : Vec Ideal S3584x296 .f32) (r : Fin 18944) (n : Fin 3584) : EReal :=
  nib (x (ix2 n ⟨r.val / 2, by omega⟩)) r.val * a (ix2 n ⟨r.val / 64, by omega⟩)

variable (m : (ℓ : Loc nD τ sig) → Buf (Elt Ideal) ℓ)

/-- The codes as launched. -/
abbrev codes (c : Dev nD) : Vec Ideal S3584x9472 .i8 := m ((c : Thread nD τ).loc main_arg0)

/-- The scales as launched. -/
abbrev scales (c : Dev nD) : Vec Ideal S3584x296 .f32 := m ((c : Thread nD τ).loc main_arg1)

/-- The call reads the scales transposed. -/
theorem V_main_v0 (c : Dev nD) : V m c main_v0 = transpose S296x3584 [1, 0] (scales m c) transposes_S3584x296_S296x3584_1_0 := by
  show StableHlo.after hostOps0 (fun b => m (c, b)) (Proc.devRef .tc main_v0) = _
  after_results

/-- Which block of each array a grid point reads or writes; every point writes its block back. -/
theorem idx : ∀ t : Fin cfg0.N,
    (win0_0.index t (0 : Fin 2) = t.val / 37 ∧ win0_0.index t (1 : Fin 2) = t.val % 37)
    ∧ (win0_1.index t (0 : Fin 2) = t.val % 37 ∧ win0_1.index t (1 : Fin 2) = t.val / 37)
    ∧ (win0_2.index t (0 : Fin 2) = t.val % 37 ∧ win0_2.index t (1 : Fin 2) = t.val / 37)
    ∧ win0_2.flush t = true :=
  (by decide +kernel : ∀ t : Fin grid0.N, _)

theorem lt (t : Fin cfg0.N) : t.val < 259 := lt_of_lt_of_eq t.isLt (show cfg0.N = 259 from N_0)

/-- Column `n` of the output block of point `t`. -/
def col (t : Fin cfg0.N) (n : Fin 512) : Fin 3584 := ⟨512 * (t.val / 37) + n.val, by have := lt t; have := n.isLt; omega⟩

/-- Row `r` of the output block of point `t`. -/
def row (t : Fin cfg0.N) (r : Fin 512) : Fin 18944 := ⟨512 * (t.val % 37) + r.val, by have := r.isLt; omega⟩

theorem blk0 (c : Dev nD) (t : Fin cfg0.N) (n : Fin 512) (j : Fin 256) :
    iblk m c 0 t (ix2 n j) = codes m c (ix2 (col t n) ⟨256 * (t.val % 37) + j.val, by omega⟩) := by
  refine (congrArg (V m c main_arg0) (Shape.idx_ext₂ ?_ ?_)).trans (congrFun (V_main_arg0 m c) _)
  · show win0_0.index t (0 : Fin 2) * 512 + 1 * n.val = 512 * (t.val / 37) + n.val
    have := (idx t).1.1; omega
  · show win0_0.index t (1 : Fin 2) * 256 + 1 * j.val = 256 * (t.val % 37) + j.val
    have := (idx t).1.2; omega

theorem blk1 (c : Dev nD) (t : Fin cfg0.N) (s : Fin 8) (n : Fin 512) :
    iblk m c 1 t (ix2 s n) = scales m c (ix2 (col t n) ⟨8 * (t.val % 37) + s.val, by omega⟩) := by
  have e : iblk m c 1 t (ix2 s n) = V m c main_v0 (ix2 (⟨8 * (t.val % 37) + s.val, by omega⟩ : Fin 296) (col t n)) := by
    refine congrArg (V m c main_v0) (Shape.idx_ext₂ ?_ ?_)
    · show win0_1.index t (0 : Fin 2) * 8 + 1 * s.val = 8 * (t.val % 37) + s.val
      have := (idx t).2.1.1; omega
    · show win0_1.index t (1 : Fin 2) * 512 + 1 * n.val = 512 * (t.val / 37) + n.val
      have := (idx t).2.1.2; omega
  rw [e, V_main_v0]
  exact transpose_apply [1, 0] (scales m c) transposes_S3584x296_S296x3584_1_0 _ _ (fun b => by fin_cases b <;> rfl)

theorem out_blk (c : Dev nD) (t : Fin cfg0.N) (r n : Fin 512) :
    out0_2 (iblk m c 0 t) (iblk m c 1 t) (ix2 r n) = weight (codes m c) (scales m c) (row t r) (col t n) := by
  refine (out_apply (iblk m c 0 t) (iblk m c 1 t) r n).trans ?_
  rw [blk0, blk1]
  unfold weight
  refine congrArg₂ (fun e f : EReal => e * f) ?_ (congrArg (scales m c) (Shape.idx_ext₂ rfl ?_))
  · have h : codes m c (ix2 (col t n) ⟨256 * (t.val % 37) + r.val / 2, by omega⟩) = codes m c (ix2 (col t n) ⟨(row t r).val / 2, by omega⟩) :=
      congrArg (codes m c) (Shape.idx_ext₂ rfl (by show 256 * (t.val % 37) + r.val / 2 = (512 * (t.val % 37) + r.val) / 2; omega))
    rw [h]
    unfold nib
    have p : (row t r).val % 2 = r.val % 2 := by show (512 * (t.val % 37) + r.val) % 2 = r.val % 2; omega
    rw [p]
  · show 8 * (t.val % 37) + r.val / 64 = (512 * (t.val % 37) + r.val) / 64
    omega

/-- The whole array. -/
theorem arr (c : Dev nD) : (dats m 0 c).arrAt 2 cfg0.N = fun i : S18944x3584.Idx => weight (codes m c) (scales m c) (i 0) (i 1) := by
  refine (dats m 0 c).arrAt_eq_of_cover 2 _ (fun t hf => ?_) (fun i => ?_)
  · refine (Value.flushed2 m c t).trans ?_
    funext y
    have hy : (cfg0.win 2).xinj (grid0.coords t) y = (ix2 (y 0 : Fin 512) (y 1 : Fin 512) : S512x512.Idx) := Shape.idx_ext₂ rfl rfl
    show out0_2 (iblk m c 0 t) (iblk m c 1 t) ((cfg0.win 2).xinj (grid0.coords t) y)
      = weight (codes m c) (scales m c) (((cfg0.win 2).blk t).view.emb y 0) (((cfg0.win 2).blk t).view.emb y 1)
    refine (congrArg (out0_2 (iblk m c 0 t) (iblk m c 1 t)) hy).trans ((out_blk m c t (y 0) (y 1)).trans ?_)
    refine congrArg₂ (weight (codes m c) (scales m c)) (Fin.ext ?_) (Fin.ext ?_)
    · show 512 * (t.val % 37) + (y 0).val = win0_2.index t (0 : Fin 2) * 512 + 1 * (y 0).val
      have := (idx t).2.2.1.1; omega
    · show 512 * (t.val / 37) + (y 1).val = win0_2.index t (1 : Fin 2) * 512 + 1 * (y 1).val
      have := (idx t).2.2.1.2; omega
  · have h0 : (i 0).val < 18944 := (i 0).isLt
    have h1 : (i 1).val < 3584 := (i 1).isLt
    let t : Fin cfg0.N := ⟨37 * ((i 1).val / 512) + (i 0).val / 512, lt_of_lt_of_eq (by omega) N_0.symm⟩
    have ht : t.val = 37 * ((i 1).val / 512) + (i 0).val / 512 := rfl
    refine ⟨t, (idx t).2.2.2, ?_⟩
    show i ∈ ((View.whole main_v1).slice (win0_2.rect t)).set
    rewrite [View.set_slice_whole, Rect.mem_set_unit]
    have e := (idx t).2.2.1
    intro a
    match a with
    | ⟨0, _⟩ => show win0_2.index t (0 : Fin 2) * 512 ≤ (i 0).val ∧ (i 0).val < win0_2.index t (0 : Fin 2) * 512 + 512; omega
    | ⟨1, _⟩ => show win0_2.index t (1 : Fin 2) * 512 ≤ (i 1).val ∧ (i 1).val < win0_2.index t (1 : Fin 2) * 512 + 512; omega

end Cert.DV.Down
-- ==== Proof.DV.DownRef.lean ====
module

public import proofs.«01_k».proof.Proof.DV.Down
public import proofs.«01_k».proof.Proof.Gen.DequantiseDownIdeal.Read

@[expose] public section

set_option maxRecDepth 16384

noncomputable section

namespace Cert.DV.Down

open Cert.DequantiseDownIdeal Cert.DequantiseDownIdeal.Gen Cert.DequantiseDownIdeal.Read
open Idealize.ShloMosaic Idealize.ShloMosaic.TcCoe Idealize.ShloMosaic.ValueIdx

/-! # The reference's weights, element by element -/

variable (x : Vec Ideal S3584x9472 .i8) (a : Vec Ideal S3584x296 .f32)

/-- Its table entry for the upper nibbles and for the lower ones. -/
theorem entry (n : Fin 3584) (j : Fin 9472) :
    val_main_v42 (F := Ideal) x (ix2 n j) = up (x (ix2 n j)) ∧ val_main_v88 (F := Ideal) x (ix2 n j) = low (x (ix2 n j)) := ⟨rfl, rfl⟩

/-- Splitting a row of codes into blocks of thirty-two and joining it again changes nothing; the block's scale is read. -/
theorem blocks (n : Fin 3584) (j : Fin 9472) :
    idx_main_v43 (idx_main_v47 (ix2 n j)) = ix2 n j ∧ idx_main_v0 (idx_main_v44 (idx_main_v47 (ix2 n j))) = ix2 n ⟨j.val / 32, by omega⟩ := by
  refine ⟨Shape.idx_ext₂ ?_ ?_, Shape.idx_ext₂ ?_ ?_⟩
  · show (((n.val * 9472 + j.val) / 9472 * 296 + (n.val * 9472 + j.val) / 32 % 296) * 32 + (n.val * 9472 + j.val) % 32) / 9472 = n.val
    omega
  · show (((n.val * 9472 + j.val) / 9472 * 296 + (n.val * 9472 + j.val) / 32 % 296) * 32 + (n.val * 9472 + j.val) % 32) % 9472 = j.val
    omega
  · show (((n.val * 9472 + j.val) / 9472 * 296 + (n.val * 9472 + j.val) / 32 % 296) * 1 + 0) / 296 = n.val
    omega
  · show (((n.val * 9472 + j.val) / 9472 * 296 + (n.val * 9472 + j.val) / 32 % 296) * 1 + 0) % 296 = j.val / 32
    omega

theorem even_field (n : Fin 3584) (j : Fin 9472) :
    val_main_v47 (F := Ideal) x a (ix2 n j) = up (x (ix2 n j)) * a (ix2 n ⟨j.val / 32, by omega⟩) := by
  rw [val_main_v47_apply, val_main_v46_apply, val_main_v45_apply, val_main_v43_apply, val_main_v44_apply, val_main_v0_apply,
    (blocks n j).1, (blocks n j).2, (entry x n j).1]
  exact rfl

theorem odd_field (n : Fin 3584) (j : Fin 9472) :
    val_main_v93 (F := Ideal) x a (ix2 n j) = low (x (ix2 n j)) * a (ix2 n ⟨j.val / 32, by omega⟩) := by
  have h := blocks n j
  rw [val_main_v93_apply, val_main_v92_apply, val_main_v91_apply, val_main_v89_apply, val_main_v90_apply, val_main_v0_apply]
  have h1 : idx_main_v89 (idx_main_v93 (ix2 n j)) = ix2 n j := h.1
  have h2 : idx_main_v0 (idx_main_v90 (idx_main_v93 (ix2 n j))) = ix2 n ⟨j.val / 32, by omega⟩ := h.2
  rw [h1, h2, (entry x n j).2]
  exact rfl

/-- The two fields side by side. -/
theorem stacked (n : Fin 3584) (j : Fin 9472) (p : Fin 2) :
    val_main_v96 (F := Ideal) x a (ix3 n j p) = nib (x (ix2 n j)) p.val * a (ix2 n ⟨j.val / 32, by omega⟩) := by
  unfold val_main_v96
  match p with
  | ⟨0, _⟩ =>
    refine (concatenate_pair_apply_left (t := S3584x9472x2) 2 _ _ concatenates_S3584x9472x1_S3584x9472x1_S3584x9472x2_d2 _ rfl (ix3 n j (0 : Fin 1)) (fun b => by fin_cases b <;> rfl)).trans ?_
    exact (val_main_v94_apply x a _).trans (even_field x a n j)
  | ⟨1, _⟩ =>
    refine (concatenate_pair_apply_right (t := S3584x9472x2) 2 _ _ concatenates_S3584x9472x1_S3584x9472x1_S3584x9472x2_d2 _ rfl rfl (ix3 n j (0 : Fin 1))
      (fun b hb => by fin_cases b <;> first | rfl | exact absurd rfl hb) rfl).trans ?_
    exact (val_main_v95_apply x a _).trans (odd_field x a n j)

/-- The reference's weights are the kernel's. -/
theorem ref_eq (i : S18944x3584.Idx) : val_main_v98 (F := Ideal) x a i = weight x a (i 0) (i 1) := by
  have h0 : (i 0).val < 18944 := (i 0).isLt
  have h1 : (i 1).val < 3584 := (i 1).isLt
  have e : idx_main_v97 (idx_main_v98 i) = ix3 (i 1 : Fin 3584) (⟨(i 0).val / 2, by omega⟩ : Fin 9472) (⟨(i 0).val % 2, by omega⟩ : Fin 2) := by
    refine ext3 (Fin.ext ?_) (Fin.ext ?_) (Fin.ext ?_)
    · show ((i 1).val * 18944 + (i 0).val) / 18944 = (i 1).val
      omega
    · show ((i 1).val * 18944 + (i 0).val) / 2 % 9472 = (i 0).val / 2
      omega
    · show ((i 1).val * 18944 + (i 0).val) % 2 = (i 0).val % 2
      omega
  refine (val_main_v98_apply x a i).trans ((val_main_v97_apply x a _).trans ((congrArg (val_main_v96 (F := Ideal) x a) e).trans ((stacked x a (i 1) _ _).trans ?_)))
  unfold weight
  refine congrArg₂ (fun e f : EReal => e * f) ?_ (congrArg a (Shape.idx_ext₂ rfl ?_))
  · unfold nib
    exact if_congr (by rw [Nat.mod_mod]) rfl rfl
  · show (i 0).val / 2 / 32 = (i 0).val / 64
    omega

end Cert.DV.Down
-- ==== Proof.DV.Absmax.lean ====
module

public import proofs.«01_k».proof.Proof.DV.Body
public import proofs.«01_k».proof.Proof.Gen.AbsmaxIdeal.Frame
public import proofs.«01_k».proof.Proof.Gen.BlockScalesIdeal.Frame

@[expose] public section

set_option maxRecDepth 16384

noncomputable section

namespace Cert.DV.AbsUp

open Idealize.ShloMosaic Idealize.ShloMosaic.TcCoe Idealize.ShloMosaic.ValueIdx

section Call

open Cert.AbsmaxIdeal Cert.AbsmaxIdeal.Gen

/-! # The call that widens the block scales: 18944 × 56 codes, one factor for every 256 of them, and one mean -/

variable (m : (ℓ : Loc nD τ sig) → Buf (Elt Ideal) ℓ)

/-- The scales in rows of 256: a code times the factor of its row, plus the mean. -/
def wide (x : Vec Ideal S18944x56 .fp8e4m3) (s : Vec Ideal S4144 .f32) (a : Vec Ideal S1 .f32) (i : S4144x256.Idx) : EReal :=
  shapeCast S4144x256 x shapeCasts_S18944x56_S4144x256 i * s (ix1 (i 0 : Fin 4144)) + a (ix1 (0 : Fin 1))

/-- The same, back in the codes' shape and transposed. -/
def scales (x : Vec Ideal S18944x56 .fp8e4m3) (s : Vec Ideal S4144 .f32) (a : Vec Ideal S1 .f32) : Vec Ideal S56x18944 .f32 :=
  transpose S56x18944 [1, 0] (shapeCast S18944x56 (wide x s a) shapeCasts_S4144x256_S18944x56) transposes_S18944x56_S56x18944_1_0

theorem body (x : Vec Ideal S4144x256 .fp8e4m3) (s : Vec Ideal S4144x1 .f32) (a : EReal) (i : S4144x256.Idx) :
    k0_pay1 (F := Ideal) x s a i = x i * s (ix2 (i 0 : Fin 4144) (0 : Fin 1)) + a := by
  unfold k0_pay1
  rw [shapeCast_self, shapeCast_self]
  show x i * broadcastTo S4144x256 s broadcasts_S4144x1_S4144x256 i + a = _
  rw [broadcastTo_apply s _ i (ix2 (i 0 : Fin 4144) (0 : Fin 1)) (fun b => by fin_cases b <;> rfl)]

theorem out (c : Dev nD) (t : Fin cfg0.N) (x : Vec Ideal S4144x256 .fp8e4m3) (s : Vec Ideal S4144x1 .f32) (a : Vec Ideal S1x1 .f32) :
    out0_A_3 c (ms0_0 t) (hs0_0 t) (ms0_1 t) (hs0_1 t) (ms0_2 t) (hs0_2 t) (ms0_3 t) (hs0_3 t) x s a = k0_pay1 (F := Ideal) x s (a (ix2 (0 : Fin 1) (0 : Fin 1))) := by
  unfold out0_A_3 kernelRun0_A
  dsimp only
  rw [View.read_writes_junk_eq_canon]
  refine (View.canon_unit_zero (by funext b; fin_cases b <;> rfl) inb_S4144x256_S4144x256_0_0 _).trans ?_
  have hx : ∀ h : (ms0_0 t).IsWhole, View.readAt (Elt Ideal) (ms0_0 t).view (Rect.unit (s := S4144x256) ![0, 0] S4144x256.size inb_S4144x256_S4144x256_0_0).toLoadRect (h.unread x) = x :=
    fun h => (congrArg (fun z => View.ld z _) (h.read_unread x)).trans (View.ld_unit_zero (by funext b; fin_cases b <;> rfl) inb_S4144x256_S4144x256_0_0 x)
  have hs : ∀ h : (ms0_1 t).IsWhole, View.readAt (Elt Ideal) (ms0_1 t).view (Rect.unit (s := S4144x1) ![0, 0] S4144x1.size inb_S4144x1_S4144x1_0_0).toLoadRect (h.unread s) = s :=
    fun h => (congrArg (fun z => View.ld z _) (h.read_unread s)).trans (View.ld_unit_zero (by funext b; fin_cases b <;> rfl) inb_S4144x1_S4144x1_0_0 s)
  refine congr (congrArg₂ (fun y z => k0_pay1 (F := Ideal) y z) (hx _) (hs _)) ?_
  unfold kernelRun0_A.sl.r
  have ha : ∀ h : (ms0_2 t).IsWhole, View.readAt (Elt Ideal) (ms0_2 t).view (Rect.unit (s := S1x1) ![0, 0] S1x1.size inb_S1x1_S1x1_0_0).toLoadRect (h.unread a) = a :=
    fun h => (congrArg (fun z => View.ld z _) (h.read_unread a)).trans (View.ld_unit_zero (by funext b; fin_cases b <;> rfl) inb_S1x1_S1x1_0_0 a)
  exact (congrFun (ha _) _).trans (congrArg a (Shape.idx_ext₂ rfl rfl))

theorem V_main_v0 (c : Dev nD) : V m c main_v0 = shapeCast S4144x256 (m ((c : Thread nD τ).loc main_arg0)) shapeCasts_S18944x56_S4144x256 := by
  show StableHlo.after hostOps0 (fun b => m (c, b)) (Proc.devRef .tc main_v0) = _
  after_results
  exact rfl

theorem V_main_v1 (c : Dev nD) : V m c main_v1 = shapeCast S4144x1 (m ((c : Thread nD τ).loc main_arg1)) shapeCasts_S4144_S4144x1 := by
  show StableHlo.after hostOps0 (fun b => m (c, b)) (Proc.devRef .tc main_v1) = _
  after_results
  exact rfl

theorem V_main_v2 (c : Dev nD) : V m c main_v2 = shapeCast S1x1 (m ((c : Thread nD τ).loc main_arg2)) shapeCasts_S1_S1x1 := by
  show StableHlo.after hostOps0 (fun b => m (c, b)) (Proc.devRef .tc main_v2) = _
  after_results
  exact rfl

theorem tail (c : Dev nD) : Pipeline.afterTail₀ cfgs (dats m) 0 (V0 m) [hostOps1] c main_v5
    = transpose S56x18944 [1, 0] (shapeCast S18944x56 ((dats m 0 c).arrAt 3 cfg0.N) shapeCasts_S4144x256_S18944x56) transposes_S18944x56_S56x18944_1_0 := by
  have e := Pipeline.withArrays_arr spec0 (by decide) c (V0 m c) (fun w => (dats m 0 c).arrAt w cfg0.N) 3
  unfold Pipeline.afterTail₀
  show StableHlo.after hostOps1 _ (Proc.devRef .tc main_v5) = _
  after_results
  exact congrArg (fun z => transpose S56x18944 [1, 0] (shapeCast S18944x56 z shapeCasts_S4144x256_S18944x56) transposes_S18944x56_S56x18944_1_0) e

/-- The one point reads and writes whole arrays. -/
theorem blk0 (c : Dev nD) (t : Fin cfg0.N) (i : S4144x256.Idx) : iblk m c 0 t i = V m c main_v0 i :=
  congrArg (V m c main_v0) (Shape.idx_ext₂ (by show 0 * 4144 + 1 * (i 0).val = (i 0).val; omega) (by show 0 * 256 + 1 * (i 1).val = (i 1).val; omega))
theorem blk1 (c : Dev nD) (t : Fin cfg0.N) (i : S4144x1.Idx) : iblk m c 1 t i = V m c main_v1 i :=
  congrArg (V m c main_v1) (Shape.idx_ext₂ (by show 0 * 4144 + 1 * (i 0).val = (i 0).val; omega) (by show 0 * 1 + 1 * (i 1).val = (i 1).val; omega))
theorem blk2 (c : Dev nD) (t : Fin cfg0.N) (i : S1x1.Idx) : iblk m c 2 t i = V m c main_v2 i :=
  congrArg (V m c main_v2) (Shape.idx_ext₂ (by show 0 * 1 + 1 * (i 0).val = (i 0).val; omega) (by show 0 * 1 + 1 * (i 1).val = (i 1).val; omega))

/-- The factors as a column. -/
theorem column (s : Vec Ideal S4144 .f32) (r : Fin 4144) : shapeCast S4144x1 s shapeCasts_S4144_S4144x1 (ix2 r (0 : Fin 1)) = s (ix1 r) :=
  shapeCast_apply s shapeCasts_S4144_S4144x1 _ _ (by rw [Shape.rowMajor_val_one, Shape.rowMajor_val_two]; show r.val = r.val * 1 + 0; omega)

theorem point (c : Dev nD) (t : Fin cfg0.N) (i : S4144x256.Idx) : outsAt0 m c t i
    = wide (m ((c : Thread nD τ).loc main_arg0)) (m ((c : Thread nD τ).loc main_arg1)) (m ((c : Thread nD τ).loc main_arg2)) i := by
  unfold outsAt0 wide
  rw [out, body, blk0, blk1, blk2, V_main_v0, V_main_v1, V_main_v2]
  refine congrArg₂ (fun e f : EReal => e + f) (congrArg _ ?_) ?_
  · exact column _ _
  · exact shapeCast_apply (t := S1x1) (s := S1) (m ((c : Thread nD τ).loc main_arg2)) shapeCasts_S1_S1x1 _ (ix1 (0 : Fin 1)) (by decide)

theorem arr (c : Dev nD) : (dats m 0 c).arrAt 3 cfg0.N
    = wide (m ((c : Thread nD τ).loc main_arg0)) (m ((c : Thread nD τ).loc main_arg1)) (m ((c : Thread nD τ).loc main_arg2)) := by
  refine (dats m 0 c).arrAt_eq_of_cover 3 _ (fun t hf => ?_) (fun i => ⟨t0_0, by decide, ?_⟩)
  · show (cfg0.win 3).cut (grid0.coords t) ((dats m 0 c).after 3 t) = _
    rw [after0_3]
    funext y
    refine (point m c t ((cfg0.win 3).xinj (grid0.coords t) y)).trans (congrArg (wide _ _ _) (Shape.idx_ext₂ ?_ ?_))
    · show (y 0).val = 0 * 4144 + 1 * (y 0).val
      omega
    · show (y 1).val = 0 * 256 + 1 * (y 1).val
      omega
  · show i ∈ ((View.whole main_v3).slice (win0_3.rect t0_0)).set
    rewrite [View.set_slice_whole, Rect.mem_set_unit]
    have h0 : (i 0).val < 4144 := (i 0).isLt
    have h1 : (i 1).val < 256 := (i 1).isLt
    intro a
    match a with
    | ⟨0, _⟩ => show 0 * 4144 ≤ (i 0).val ∧ (i 0).val < 0 * 4144 + 4144; omega
    | ⟨1, _⟩ => show 0 * 256 ≤ (i 1).val ∧ (i 1).val < 0 * 256 + 256; omega

/-- The call's result and its arguments, after any run. -/
theorem run (ρ : Dev nD → PrngReg) : θ_run defs (onTc (τ := τ) (main (F := Ideal))) ⟨m, fun _ => 0, ρ⟩ fun r => ∀ c : Dev nD,
    r.2.mem ((c : Thread nD τ).loc main_v5) = scales (m ((c : Thread nD τ).loc main_arg0)) (m ((c : Thread nD τ).loc main_arg1)) (m ((c : Thread nD τ).loc main_arg2))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun r h c => ⟨
      ((h c).2 main_v5 (Pipeline.mem_restRefs_of main_v5 (by decide) (by decide))).trans ((tail m c).trans
        (congrArg (fun z => transpose S56x18944 [1, 0] (shapeCast S18944x56 z shapeCasts_S4144x256_S18944x56) transposes_S18944x56_S56x18944_1_0) (arr m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Call

section Reference

open Cert.BlockScalesIdeal Cert.BlockScalesIdeal.Gen

/-! # The reference of that call -/

variable (m : (ℓ : Loc nD τ sig) → Buf (Elt Ideal) ℓ)

theorem ref_arr (c : Dev nD) : ((dats m 0 c).arrAt 1 cfg0.N : S18944x56.Idx → EReal) = (m ((c : Thread nD τ).loc main_arg0) : S18944x56.Idx → EReal) := by
  refine (dats m 0 c).arrAt_eq_of_cover 1 _ (fun t hf => ?_) (fun i => ⟨t0_0, by decide, ?_⟩)
  · show (cfg0.win 1).cut (grid0.coords t) ((dats m 0 c).after 1 t) = _
    rw [after0_1]
    unfold out0_1
    rw [View.canon_unit_zero (by funext b; fin_cases b <;> rfl) inb_S18944x56_S18944x56_0_0, View.ld_unit_zero (by funext b; fin_cases b <;> rfl) inb_S18944x56_S18944x56_0_0]
    funext y
    refine (congrFun (V_main_arg0 m c) (((cfg0.win 0).blk t).view.emb y)).trans (congrArg (m ((c : Thread nD τ).loc main_arg0)) (Shape.idx_ext₂ ?_ ?_))
    · rfl
    · rfl
  · show i ∈ ((View.whole main_v0).slice (win0_1.rect t0_0)).set
    rewrite [View.set_slice_whole, Rect.mem_set_unit]
    have h0 : (i 0).val < 18944 := (i 0).isLt
    have h1 : (i 1).val < 56 := (i 1).isLt
    intro a
    match a with
    | ⟨0, _⟩ => show 0 * 18944 ≤ (i 0).val ∧ (i 0).val < 0 * 18944 + 18944; omega
    | ⟨1, _⟩ => show 0 * 56 ≤ (i 1).val ∧ (i 1).val < 0 * 56 + 56; omega

/-- The reference's host lines. -/
def lines (x : Vec Ideal S18944x56 .f32) (s : Vec Ideal S4144 .f32) (a : Vec Ideal S1 .f32) : Vec Ideal S56x18944 .f32 :=
  transpose S56x18944 [1, 0] (shapeCast S18944x56 (addf (F := Ideal) (φ := .f32) (mulf (F := Ideal) (φ := .f32) (shapeCast S4144x256 x shapeCasts_S18944x56_S4144x256)
    (broadcastInDim S4144x256 ![0, 1] bcast_S4144x1_S4144x256_0_1 (broadcastInDim S4144x1 ![0] bcast_S4144_S4144x1_0 s)))
    (broadcastInDim S4144x256 ![0, 1] bcast_S1x1_S4144x256_0_1 (broadcastInDim S1x1 ![1] bcast_S1_S1x1_1 a))) shapeCasts_S4144x256_S18944x56)
    transposes_S18944x56_S56x18944_1_0

/-- They spread each factor over its row and the mean over all rows. -/
theorem lines_eq (x : Vec Ideal S18944x56 .fp8e4m3) (s : Vec Ideal S4144 .f32) (a : Vec Ideal S1 .f32) : lines x s a = scales x s a := by
  unfold lines scales
  refine congrArg (fun z => transpose S56x18944 [1, 0] (shapeCast S18944x56 z shapeCasts_S4144x256_S18944x56) transposes_S18944x56_S56x18944_1_0) (funext fun i => ?_)
  refine congrArg₂ (fun e f : EReal => e + f) (congrArg (fun e : EReal => shapeCast S4144x256 x shapeCasts_S18944x56_S4144x256 i * e) ?_) ?_
  · exact (broadcastInDim_apply ![0, 1] bcast_S4144x1_S4144x256_0_1 _ i (ix2 (i 0 : Fin 4144) (0 : Fin 1)) (fun b => by fin_cases b <;> rfl)).trans
      (broadcastInDim_apply ![0] bcast_S4144_S4144x1_0 s _ (ix1 (i 0 : Fin 4144)) (fun b => by fin_cases b <;> rfl))
  · exact (broadcastInDim_apply ![0, 1] bcast_S1x1_S4144x256_0_1 _ i (ix2 (0 : Fin 1) (0 : Fin 1)) (fun b => by fin_cases b <;> rfl)).trans
      (broadcastInDim_apply ![1] bcast_S1_S1x1_1 a _ (ix1 (0 : Fin 1)) (fun b => by fin_cases b <;> rfl))

theorem ref_tail (c : Dev nD) : Pipeline.afterTail₀ cfgs (dats m) 0 (V0 m) [hostOps1] c main_v9
    = scales (m ((c : Thread nD τ).loc main_arg0)) (m ((c : Thread nD τ).loc main_arg1)) (m ((c : Thread nD τ).loc main_arg2)) := by
  have e := (Pipeline.withArrays_arr spec0 (by decide) c (V0 m c) (fun w => (dats m 0 c).arrAt w cfg0.N) 1).trans (ref_arr m c)
  have e1 := (Pipeline.withArrays_of_ne spec0 c (V0 m c) (fun w => (dats m 0 c).arrAt w cfg0.N) main_arg1 (by decide)).trans (V_main_arg1 m c)
  have e2 := (Pipeline.withArrays_of_ne spec0 c (V0 m c) (fun w => (dats m 0 c).arrAt w cfg0.N) main_arg2 (by decide)).trans (V_main_arg2 m c)
  unfold Pipeline.afterTail₀
  show StableHlo.after hostOps1 _ (Proc.devRef .tc main_v9) = _
  after_results
  refine Eq.trans ?_ (lines_eq _ _ _)
  have h := congr (congrArg₂ lines e e1) e2
  exact h

/-- The reference's result and its arguments, after any run. -/
theorem ref_run (ρ : Dev nD → PrngReg) : θ_run defs (onTc (τ := τ) (main (F := Ideal))) ⟨m, fun _ => 0, ρ⟩ fun r => ∀ c : Dev nD,
    r.2.mem ((c : Thread nD τ).loc main_v9) = scales (m ((c : Thread nD τ).loc main_arg0)) (m ((c : Thread nD τ).loc main_arg1)) (m ((c : Thread nD τ).loc main_arg2))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun r h c => ⟨
      ((h c).2 main_v9 (Pipeline.mem_restRefs_of main_v9 (by decide) (by decide))).trans (ref_tail m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Reference

end Cert.DV.AbsUp
-- ==== Proof.DV.AbsmaxDown.lean ====
module

public import proofs.«01_k».proof.Proof.DV.Body
public import proofs.«01_k».proof.Proof.Gen.AbsmaxDownIdeal.Frame
public import proofs.«01_k».proof.Proof.Gen.BlockScalesDownIdeal.Frame

@[expose] public section

set_option maxRecDepth 16384

noncomputable section

namespace Cert.DV.AbsDown

open Idealize.ShloMosaic Idealize.ShloMosaic.TcCoe Idealize.ShloMosaic.ValueIdx

section Call

open Cert.AbsmaxDownIdeal Cert.AbsmaxDownIdeal.Gen

/-! # The call that widens the block scales: 3584 × 296 codes, one factor for every 256 of them, and one mean -/

variable (m : (ℓ : Loc nD τ sig) → Buf (Elt Ideal) ℓ)

/-- The scales in rows of 256: a code times the factor of its row, plus the mean. -/
def wide (x : Vec Ideal S3584x296 .fp8e4m3) (s : Vec Ideal S4144 .f32) (a : Vec Ideal S1 .f32) (i : S4144x256.Idx) : EReal :=
  shapeCast S4144x256 x shapeCasts_S3584x296_S4144x256 i * s (ix1 (i 0 : Fin 4144)) + a (ix1 (0 : Fin 1))

/-- The same, back in the codes' shape and transposed. -/
def scales (x : Vec Ideal S3584x296 .fp8e4m3) (s : Vec Ideal S4144 .f32) (a : Vec Ideal S1 .f32) : Vec Ideal S296x3584 .f32 :=
  transpose S296x3584 [1, 0] (shapeCast S3584x296 (wide x s a) shapeCasts_S4144x256_S3584x296) transposes_S3584x296_S296x3584_1_0

theorem body (x : Vec Ideal S4144x256 .fp8e4m3) (s : Vec Ideal S4144x1 .f32) (a : EReal) (i : S4144x256.Idx) :
    k0_pay1 (F := Ideal) x s a i = x i * s (ix2 (i 0 : Fin 4144) (0 : Fin 1)) + a := by
  unfold k0_pay1
  rw [shapeCast_self, shapeCast_self]
  show x i * broadcastTo S4144x256 s broadcasts_S4144x1_S4144x256 i + a = _
  rw [broadcastTo_apply s _ i (ix2 (i 0 : Fin 4144) (0 : Fin 1)) (fun b => by fin_cases b <;> rfl)]

theorem out (c : Dev nD) (t : Fin cfg0.N) (x : Vec Ideal S4144x256 .fp8e4m3) (s : Vec Ideal S4144x1 .f32) (a : Vec Ideal S1x1 .f32) :
    out0_A_3 c (ms0_0 t) (hs0_0 t) (ms0_1 t) (hs0_1 t) (ms0_2 t) (hs0_2 t) (ms0_3 t) (hs0_3 t) x s a = k0_pay1 (F := Ideal) x s (a (ix2 (0 : Fin 1) (0 : Fin 1))) := by
  unfold out0_A_3 kernelRun0_A
  dsimp only
  rw [View.read_writes_junk_eq_canon]
  refine (View.canon_unit_zero (by funext b; fin_cases b <;> rfl) inb_S4144x256_S4144x256_0_0 _).trans ?_
  have hx : ∀ h : (ms0_0 t).IsWhole, View.readAt (Elt Ideal) (ms0_0 t).view (Rect.unit (s := S4144x256) ![0, 0] S4144x256.size inb_S4144x256_S4144x256_0_0).toLoadRect (h.unread x) = x :=
    fun h => (congrArg (fun z => View.ld z _) (h.read_unread x)).trans (View.ld_unit_zero (by funext b; fin_cases b <;> rfl) inb_S4144x256_S4144x256_0_0 x)
  have hs : ∀ h : (ms0_1 t).IsWhole, View.readAt (Elt Ideal) (ms0_1 t).view (Rect.unit (s := S4144x1) ![0, 0] S4144x1.size inb_S4144x1_S4144x1_0_0).toLoadRect (h.unread s) = s :=
    fun h => (congrArg (fun z => View.ld z _) (h.read_unread s)).trans (View.ld_unit_zero (by funext b; fin_cases b <;> rfl) inb_S4144x1_S4144x1_0_0 s)
  refine congr (congrArg₂ (fun y z => k0_pay1 (F := Ideal) y z) (hx _) (hs _)) ?_
  unfold kernelRun0_A.sl.r
  have ha : ∀ h : (ms0_2 t).IsWhole, View.readAt (Elt Ideal) (ms0_2 t).view (Rect.unit (s := S1x1) ![0, 0] S1x1.size inb_S1x1_S1x1_0_0).toLoadRect (h.unread a) = a :=
    fun h => (congrArg (fun z => View.ld z _) (h.read_unread a)).trans (View.ld_unit_zero (by funext b; fin_cases b <;> rfl) inb_S1x1_S1x1_0_0 a)
  exact (congrFun (ha _) _).trans (congrArg a (Shape.idx_ext₂ rfl rfl))

theorem V_main_v0 (c : Dev nD) : V m c main_v0 = shapeCast S4144x256 (m ((c : Thread nD τ).loc main_arg0)) shapeCasts_S3584x296_S4144x256 := by
  show StableHlo.after hostOps0 (fun b => m (c, b)) (Proc.devRef .tc main_v0) = _
  after_results
  exact rfl

theorem V_main_v1 (c : Dev nD) : V m c main_v1 = shapeCast S4144x1 (m ((c : Thread nD τ).loc main_arg1)) shapeCasts_S4144_S4144x1 := by
  show StableHlo.after hostOps0 (fun b => m (c, b)) (Proc.devRef .tc main_v1) = _
  after_results
  exact rfl

theorem V_main_v2 (c : Dev nD) : V m c main_v2 = shapeCast S1x1 (m ((c : Thread nD τ).loc main_arg2)) shapeCasts_S1_S1x1 := by
  show StableHlo.after hostOps0 (fun b => m (c, b)) (Proc.devRef .tc main_v2) = _
  after_results
  exact rfl

theorem tail (c : Dev nD) : Pipeline.afterTail₀ cfgs (dats m) 0 (V0 m) [hostOps1] c main_v5
    = transpose S296x3584 [1, 0] (shapeCast S3584x296 ((dats m 0 c).arrAt 3 cfg0.N) shapeCasts_S4144x256_S3584x296) transposes_S3584x296_S296x3584_1_0 := by
  have e := Pipeline.withArrays_arr spec0 (by decide) c (V0 m c) (fun w => (dats m 0 c).arrAt w cfg0.N) 3
  unfold Pipeline.afterTail₀
  show StableHlo.after hostOps1 _ (Proc.devRef .tc main_v5) = _
  after_results
  exact congrArg (fun z => transpose S296x3584 [1, 0] (shapeCast S3584x296 z shapeCasts_S4144x256_S3584x296) transposes_S3584x296_S296x3584_1_0) e

/-- The one point reads and writes whole arrays. -/
theorem blk0 (c : Dev nD) (t : Fin cfg0.N) (i : S4144x256.Idx) : iblk m c 0 t i = V m c main_v0 i :=
  congrArg (V m c main_v0) (Shape.idx_ext₂ (by show 0 * 4144 + 1 * (i 0).val = (i 0).val; omega) (by show 0 * 256 + 1 * (i 1).val = (i 1).val; omega))
theorem blk1 (c : Dev nD) (t : Fin cfg0.N) (i : S4144x1.Idx) : iblk m c 1 t i = V m c main_v1 i :=
  congrArg (V m c main_v1) (Shape.idx_ext₂ (by show 0 * 4144 + 1 * (i 0).val = (i 0).val; omega) (by show 0 * 1 + 1 * (i 1).val = (i 1).val; omega))
theorem blk2 (c : Dev nD) (t : Fin cfg0.N) (i : S1x1.Idx) : iblk m c 2 t i = V m c main_v2 i :=
  congrArg (V m c main_v2) (Shape.idx_ext₂ (by show 0 * 1 + 1 * (i 0).val = (i 0).val; omega) (by show 0 * 1 + 1 * (i 1).val = (i 1).val; omega))

/-- The factors as a column. -/
theorem column (s : Vec Ideal S4144 .f32) (r : Fin 4144) : shapeCast S4144x1 s shapeCasts_S4144_S4144x1 (ix2 r (0 : Fin 1)) = s (ix1 r) :=
  shapeCast_apply s shapeCasts_S4144_S4144x1 _ _ (by rw [Shape.rowMajor_val_one, Shape.rowMajor_val_two]; show r.val = r.val * 1 + 0; omega)

theorem point (c : Dev nD) (t : Fin cfg0.N) (i : S4144x256.Idx) : outsAt0 m c t i
    = wide (m ((c : Thread nD τ).loc main_arg0)) (m ((c : Thread nD τ).loc main_arg1)) (m ((c : Thread nD τ).loc main_arg2)) i := by
  unfold outsAt0 wide
  rw [out, body, blk0, blk1, blk2, V_main_v0, V_main_v1, V_main_v2]
  refine congrArg₂ (fun e f : EReal => e + f) (congrArg _ ?_) ?_
  · exact column _ _
  · exact shapeCast_apply (t := S1x1) (s := S1) (m ((c : Thread nD τ).loc main_arg2)) shapeCasts_S1_S1x1 _ (ix1 (0 : Fin 1)) (by decide)

theorem arr (c : Dev nD) : (dats m 0 c).arrAt 3 cfg0.N
    = wide (m ((c : Thread nD τ).loc main_arg0)) (m ((c : Thread nD τ).loc main_arg1)) (m ((c : Thread nD τ).loc main_arg2)) := by
  refine (dats m 0 c).arrAt_eq_of_cover 3 _ (fun t hf => ?_) (fun i => ⟨t0_0, by decide, ?_⟩)
  · show (cfg0.win 3).cut (grid0.coords t) ((dats m 0 c).after 3 t) = _
    rw [after0_3]
    funext y
    refine (point m c t ((cfg0.win 3).xinj (grid0.coords t) y)).trans (congrArg (wide _ _ _) (Shape.idx_ext₂ ?_ ?_))
    · show (y 0).val = 0 * 4144 + 1 * (y 0).val
      omega
    · show (y 1).val = 0 * 256 + 1 * (y 1).val
      omega
  · show i ∈ ((View.whole main_v3).slice (win0_3.rect t0_0)).set
    rewrite [View.set_slice_whole, Rect.mem_set_unit]
    have h0 : (i 0).val < 4144 := (i 0).isLt
    have h1 : (i 1).val < 256 := (i 1).isLt
    intro a
    match a with
    | ⟨0, _⟩ => show 0 * 4144 ≤ (i 0).val ∧ (i 0).val < 0 * 4144 + 4144; omega
    | ⟨1, _⟩ => show 0 * 256 ≤ (i 1).val ∧ (i 1).val < 0 * 256 + 256; omega

/-- The call's result and its arguments, after any run. -/
theorem run (ρ : Dev nD → PrngReg) : θ_run defs (onTc (τ := τ) (main (F := Ideal))) ⟨m, fun _ => 0, ρ⟩ fun r => ∀ c : Dev nD,
    r.2.mem ((c : Thread nD τ).loc main_v5) = scales (m ((c : Thread nD τ).loc main_arg0)) (m ((c : Thread nD τ).loc main_arg1)) (m ((c : Thread nD τ).loc main_arg2))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun r h c => ⟨
      ((h c).2 main_v5 (Pipeline.mem_restRefs_of main_v5 (by decide) (by decide))).trans ((tail m c).trans
        (congrArg (fun z => transpose S296x3584 [1, 0] (shapeCast S3584x296 z shapeCasts_S4144x256_S3584x296) transposes_S3584x296_S296x3584_1_0) (arr m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Call

section Reference

open Cert.BlockScalesDownIdeal Cert.BlockScalesDownIdeal.Gen

/-! # The reference of that call -/

variable (m : (ℓ : Loc nD τ sig) → Buf (Elt Ideal) ℓ)

theorem ref_arr (c : Dev nD) : ((dats m 0 c).arrAt 1 cfg0.N : S3584x296.Idx → EReal) = (m ((c : Thread nD τ).loc main_arg0) : S3584x296.Idx → EReal) := by
  refine (dats m 0 c).arrAt_eq_of_cover 1 _ (fun t hf => ?_) (fun i => ⟨t0_0, by decide, ?_⟩)
  · show (cfg0.win 1).cut (grid0.coords t) ((dats m 0 c).after 1 t) = _
    rw [after0_1]
    unfold out0_1
    rw [View.canon_unit_zero (by funext b; fin_cases b <;> rfl) inb_S3584x296_S3584x296_0_0, View.ld_unit_zero (by funext b; fin_cases b <;> rfl) inb_S3584x296_S3584x296_0_0]
    funext y
    refine (congrFun (V_main_arg0 m c) (((cfg0.win 0).blk t).view.emb y)).trans (congrArg (m ((c : Thread nD τ).loc main_arg0)) (Shape.idx_ext₂ ?_ ?_))
    · rfl
    · rfl
  · show i ∈ ((View.whole main_v0).slice (win0_1.rect t0_0)).set
    rewrite [View.set_slice_whole, Rect.mem_set_unit]
    have h0 : (i 0).val < 3584 := (i 0).isLt
    have h1 : (i 1).val < 296 := (i 1).isLt
    intro a
    match a with
    | ⟨0, _⟩ => show 0 * 3584 ≤ (i 0).val ∧ (i 0).val < 0 * 3584 + 3584; omega
    | ⟨1, _⟩ => show 0 * 296 ≤ (i 1).val ∧ (i 1).val < 0 * 296 + 296; omega

/-- The reference's host lines. -/
def lines (x : Vec Ideal S3584x296 .f32) (s : Vec Ideal S4144 .f32) (a : Vec Ideal S1 .f32) : Vec Ideal S296x3584 .f32 :=
  transpose S296x3584 [1, 0] (shapeCast S3584x296 (addf (F := Ideal) (φ := .f32) (mulf (F := Ideal) (φ := .f32) (shapeCast S4144x256 x shapeCasts_S3584x296_S4144x256)
    (broadcastInDim S4144x256 ![0, 1] bcast_S4144x1_S4144x256_0_1 (broadcastInDim S4144x1 ![0] bcast_S4144_S4144x1_0 s)))
    (broadcastInDim S4144x256 ![0, 1] bcast_S1x1_S4144x256_0_1 (broadcastInDim S1x1 ![1] bcast_S1_S1x1_1 a))) shapeCasts_S4144x256_S3584x296)
    transposes_S3584x296_S296x3584_1_0

/-- They spread each factor over its row and the mean over all rows. -/
theorem lines_eq (x : Vec Ideal S3584x296 .fp8e4m3) (s : Vec Ideal S4144 .f32) (a : Vec Ideal S1 .f32) : lines x s a = scales x s a := by
  unfold lines scales
  refine congrArg (fun z => transpose S296x3584 [1, 0] (shapeCast S3584x296 z shapeCasts_S4144x256_S3584x296) transposes_S3584x296_S296x3584_1_0) (funext fun i => ?_)
  refine congrArg₂ (fun e f : EReal => e + f) (congrArg (fun e : EReal => shapeCast S4144x256 x shapeCasts_S3584x296_S4144x256 i * e) ?_) ?_
  · exact (broadcastInDim_apply ![0, 1] bcast_S4144x1_S4144x256_0_1 _ i (ix2 (i 0 : Fin 4144) (0 : Fin 1)) (fun b => by fin_cases b <;> rfl)).trans
      (broadcastInDim_apply ![0] bcast_S4144_S4144x1_0 s _ (ix1 (i 0 : Fin 4144)) (fun b => by fin_cases b <;> rfl))
  · exact (broadcastInDim_apply ![0, 1] bcast_S1x1_S4144x256_0_1 _ i (ix2 (0 : Fin 1) (0 : Fin 1)) (fun b => by fin_cases b <;> rfl)).trans
      (broadcastInDim_apply ![1] bcast_S1_S1x1_1 a _ (ix1 (0 : Fin 1)) (fun b => by fin_cases b <;> rfl))

theorem ref_tail (c : Dev nD) : Pipeline.afterTail₀ cfgs (dats m) 0 (V0 m) [hostOps1] c main_v9
    = scales (m ((c : Thread nD τ).loc main_arg0)) (m ((c : Thread nD τ).loc main_arg1)) (m ((c : Thread nD τ).loc main_arg2)) := by
  have e := (Pipeline.withArrays_arr spec0 (by decide) c (V0 m c) (fun w => (dats m 0 c).arrAt w cfg0.N) 1).trans (ref_arr m c)
  have e1 := (Pipeline.withArrays_of_ne spec0 c (V0 m c) (fun w => (dats m 0 c).arrAt w cfg0.N) main_arg1 (by decide)).trans (V_main_arg1 m c)
  have e2 := (Pipeline.withArrays_of_ne spec0 c (V0 m c) (fun w => (dats m 0 c).arrAt w cfg0.N) main_arg2 (by decide)).trans (V_main_arg2 m c)
  unfold Pipeline.afterTail₀
  show StableHlo.after hostOps1 _ (Proc.devRef .tc main_v9) = _
  after_results
  refine Eq.trans ?_ (lines_eq _ _ _)
  have h := congr (congrArg₂ lines e e1) e2
  exact h

/-- The reference's result and its arguments, after any run. -/
theorem ref_run (ρ : Dev nD → PrngReg) : θ_run defs (onTc (τ := τ) (main (F := Ideal))) ⟨m, fun _ => 0, ρ⟩ fun r => ∀ c : Dev nD,
    r.2.mem ((c : Thread nD τ).loc main_v9) = scales (m ((c : Thread nD τ).loc main_arg0)) (m ((c : Thread nD τ).loc main_arg1)) (m ((c : Thread nD τ).loc main_arg2))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun r h c => ⟨
      ((h c).2 main_v9 (Pipeline.mem_restRefs_of main_v9 (by decide) (by decide))).trans (ref_tail m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Reference

end Cert.DV.AbsDown
-- ==== Proof.lean ====
module

public import proofs.«01_k».proof.Defs
public import proofs.«01_k».proof.Proof.KI.Frame
public import proofs.«01_k».proof.Proof.KT.Frame
public import proofs.«01_k».proof.Proof.KV.Out
public import proofs.«01_k».proof.Proof.DV.UpRef
public import proofs.«01_k».proof.Proof.DV.DownRef
public import proofs.«01_k».proof.Proof.DV.Absmax
public import proofs.«01_k».proof.Proof.DV.AbsmaxDown
public import proofs.«01_k».proof.Proof.Gen.ReferenceIdeal.Run
public import proofs.«01_k».proof.Proof.Gen.ReferenceIdeal.Read
public import proofs.«01_k».proof.Proof.Gen.Dequant.Frame
public import proofs.«01_k».proof.Proof.Gen.DequantDown.Frame
public import proofs.«01_k».proof.Proof.Gen.DequantiseIdeal.Run
public import proofs.«01_k».proof.Proof.Gen.DequantiseDownIdeal.Run
public import proofs.«01_k».proof.Proof.Gen.Absmax.Frame
public import proofs.«01_k».proof.Proof.Gen.AbsmaxDown.Frame
public import Idealize.ShloMosaic.Lib.Bf16Pair
public import Idealize.ShloMosaic.Adequacy
public import Idealize.ShloMosaic.Init

@[expose] public section

noncomputable section

namespace Cert.Proof

open Idealize.ShloMosaic Idealize.SL.Sem

/-- The reference runs, leaves its arguments as launched, and has no semaphore. -/
theorem frame_reference : Cert.quiescent_ReferenceIdeal (hReferenceIdeal := Cert.ReferenceIdeal.Gen.facts) := fun m ρ _ =>
  (θ_run _ _ _).mono (fun r h => ⟨fun c => (h c).2.2.2.2.2.2.2.2.2.2, sem_eq_zero_of_no_sems (by decide) r.2⟩)
    (Cert.ReferenceIdeal.Value.run (F := Ideal) m ρ)

/-- From the same arguments, the kernel's ten results and the reference's are the same arrays of extended reals. -/
theorem algebraic : Cert.algebraic_KernelIdeal_ReferenceIdeal (hKernelIdeal := Cert.KernelIdeal.Gen.facts) (hReferenceIdeal := Cert.ReferenceIdeal.Gen.facts) := by
  intro m ρ m' ρ' _ hm
  have hI : ∀ c, Cert.KV.mI m' c = Cert.KV.kI m c := fun c => by
    obtain ⟨h0, h1, h2, h3, h4, h5, h6, h7, h8, h9, h10, h11⟩ := hm c
    exact Cert.KV.insOf_congr h0 h1 h2 h3 h4 h5 h6 h7 h8 h9 h10 h11
  refine ⟨fun c => Cert.KernelIdeal.Run.W20 m ρ c (Proc.devRef .tc Cert.KernelIdeal.main_v29),
    fun c => Cert.KernelIdeal.Run.W20 m ρ c (Proc.devRef .tc Cert.KernelIdeal.main_v30),
    fun c => Cert.KernelIdeal.Run.W20 m ρ c (Proc.devRef .tc Cert.KernelIdeal.main_v31),
    fun c => Cert.KernelIdeal.Run.W20 m ρ c (Proc.devRef .tc Cert.KernelIdeal.main_v32),
    fun c => Cert.KernelIdeal.Run.W20 m ρ c (Proc.devRef .tc Cert.KernelIdeal.main_v33),
    fun c => Cert.KernelIdeal.Run.W20 m ρ c (Proc.devRef .tc Cert.KernelIdeal.main_v34),
    fun c => Cert.KernelIdeal.Run.W20 m ρ c (Proc.devRef .tc Cert.KernelIdeal.main_v35),
    fun c => Cert.KernelIdeal.Run.W20 m ρ c (Proc.devRef .tc Cert.KernelIdeal.main_v36),
    fun c => Cert.KernelIdeal.Run.W20 m ρ c (Proc.devRef .tc Cert.KernelIdeal.main_v18_5),
    fun c => Cert.KernelIdeal.Run.W20 m ρ c (Proc.devRef .tc Cert.KernelIdeal.main_v37), ?_, ?_⟩
  · refine (θ_run _ _ _).mono (fun r h c => ?_) (Cert.KernelIdeal.Run.run_all m ρ)
    exact ⟨h.1 c _ (Cert.KernelIdeal.Run.mem_uc Cert.KernelIdeal.main_v29 (by decide)),
      h.1 c _ (Cert.KernelIdeal.Run.mem_uc Cert.KernelIdeal.main_v30 (by decide)),
      h.1 c _ (Cert.KernelIdeal.Run.mem_uc Cert.KernelIdeal.main_v31 (by decide)),
      h.1 c _ (Cert.KernelIdeal.Run.mem_uc Cert.KernelIdeal.main_v32 (by decide)),
      h.1 c _ (Cert.KernelIdeal.Run.mem_uc Cert.KernelIdeal.main_v33 (by decide)),
      h.1 c _ (Cert.KernelIdeal.Run.mem_uc Cert.KernelIdeal.main_v34 (by decide)),
      h.1 c _ (Cert.KernelIdeal.Run.mem_uc Cert.KernelIdeal.main_v35 (by decide)),
      h.1 c _ (Cert.KernelIdeal.Run.mem_uc Cert.KernelIdeal.main_v36 (by decide)),
      h.1 c _ (Cert.KernelIdeal.Run.mem_uc Cert.KernelIdeal.main_v18_5 (by decide)),
      h.1 c _ (Cert.KernelIdeal.Run.mem_uc Cert.KernelIdeal.main_v37 (by decide)),
      (h.1 c _ (Cert.KernelIdeal.Run.mem_uc Cert.KernelIdeal.main_arg0 (by decide))).trans (Cert.KernelIdeal.Run.W20_main_arg0 m ρ c),
      (h.1 c _ (Cert.KernelIdeal.Run.mem_uc Cert.KernelIdeal.main_arg1 (by decide))).trans (Cert.KernelIdeal.Run.W20_main_arg1 m ρ c),
      (h.1 c _ (Cert.KernelIdeal.Run.mem_uc Cert.KernelIdeal.main_arg2 (by decide))).trans (Cert.KernelIdeal.Run.W20_main_arg2 m ρ c),
      (h.1 c _ (Cert.KernelIdeal.Run.mem_uc Cert.KernelIdeal.main_arg3 (by decide))).trans (Cert.KernelIdeal.Run.W20_main_arg3 m ρ c),
      (h.1 c _ (Cert.KernelIdeal.Run.mem_uc Cert.KernelIdeal.main_arg4 (by decide))).trans (Cert.KernelIdeal.Run.W20_main_arg4 m ρ c),
      (h.1 c _ (Cert.KernelIdeal.Run.mem_uc Cert.KernelIdeal.main_arg5 (by decide))).trans (Cert.KernelIdeal.Run.W20_main_arg5 m ρ c),
      (h.1 c _ (Cert.KernelIdeal.Run.mem_uc Cert.KernelIdeal.main_arg6 (by decide))).trans (Cert.KernelIdeal.Run.W20_main_arg6 m ρ c),
      (h.1 c _ (Cert.KernelIdeal.Run.mem_uc Cert.KernelIdeal.main_arg7 (by decide))).trans (Cert.KernelIdeal.Run.W20_main_arg7 m ρ c),
      (h.1 c _ (Cert.KernelIdeal.Run.mem_uc Cert.KernelIdeal.main_arg8 (by decide))).trans (Cert.KernelIdeal.Run.W20_main_arg8 m ρ c),
      (h.1 c _ (Cert.KernelIdeal.Run.mem_uc Cert.KernelIdeal.main_arg9 (by decide))).trans (Cert.KernelIdeal.Run.W20_main_arg9 m ρ c),
      (h.1 c _ (Cert.KernelIdeal.Run.mem_uc Cert.KernelIdeal.main_arg10 (by decide))).trans (Cert.KernelIdeal.Run.W20_main_arg10 m ρ c),
      (h.1 c _ (Cert.KernelIdeal.Run.mem_uc Cert.KernelIdeal.main_arg11 (by decide))).trans (Cert.KernelIdeal.Run.W20_main_arg11 m ρ c)⟩
  · refine (θ_run _ _ _).mono (fun r h c => ?_) (Cert.ReferenceIdeal.Value.run (F := Ideal) m' ρ')
    obtain ⟨g0, g1, g2, g3, g4, g5, g6, g7, g8, g9, hargs⟩ := h c
    refine ⟨?r0, ?r1, ?r2, ?r3, ?r4, ?r5, ?r6, ?r7, ?r8, ?r9, hargs⟩
    case r0 => exact g0.trans ((Cert.KV.q0 m' c).trans ((congrArg (fun (q : Cert.KV.Ins) (i : Cert.KernelIdeal.S3x4096x3584.Idx) => q.y (Cert.KV.tok (i 0) (i 1)) (i 2)) (hI c)).trans (Cert.KV.r0 m ρ c).symm))
    case r1 => exact g1.trans ((Cert.KV.q1 m' c).trans ((congrArg (fun (q : Cert.KV.Ins) (i : Cert.KernelIdeal.S3x4096x3584.Idx) => q.dx (Cert.KV.tok (i 0) (i 1)) (i 2)) (hI c)).trans (Cert.KV.r1 m ρ c).symm))
    case r2 => exact g2.trans ((Cert.KV.q2 m' c).trans ((congrArg (fun (q : Cert.KV.Ins) (i : Cert.KernelIdeal.S3x4096.Idx) => q.c (Cert.KV.tok (i 0) (i 1))) (hI c)).trans (Cert.KV.r2 m ρ c).symm))
    case r3 => exact g3.trans ((Cert.KV.q3 m' c).trans ((congrArg (fun (q : Cert.KV.Ins) (i : Cert.KernelIdeal.S3x4096x18944.Idx) => q.a (Cert.KV.tok (i 0) (i 1)) (i 2)) (hI c)).trans (Cert.KV.r3 m ρ c).symm))
    case r4 => exact g4.trans ((Cert.KV.q4 m' c).trans ((congrArg (fun (q : Cert.KV.Ins) (i : Cert.KernelIdeal.S32x3584.Idx) => q.dag (i 0) (i 1)) (hI c)).trans (Cert.KV.r4 m ρ c).symm))
    case r5 => exact g5.trans ((Cert.KV.q5 m' c).trans ((congrArg (fun (q : Cert.KV.Ins) (i : Cert.KernelIdeal.S18944x32.Idx) => q.dbg (i 0) (i 1)) (hI c)).trans (Cert.KV.r5 m ρ c).symm))
    case r6 => exact g6.trans ((Cert.KV.q6 m' c).trans ((congrArg (fun (q : Cert.KV.Ins) (i : Cert.KernelIdeal.S32x3584.Idx) => q.dau (i 0) (i 1)) (hI c)).trans (Cert.KV.r6 m ρ c).symm))
    case r7 => exact g7.trans ((Cert.KV.q7 m' c).trans ((congrArg (fun (q : Cert.KV.Ins) (i : Cert.KernelIdeal.S18944x32.Idx) => q.dbu (i 0) (i 1)) (hI c)).trans (Cert.KV.r7 m ρ c).symm))
    case r8 => exact g8.trans ((Cert.KV.q8 m' c).trans ((congrArg (fun (q : Cert.KV.Ins) (i : Cert.KernelIdeal.S32x18944.Idx) => q.dad (i 0) (i 1)) (hI c)).trans (Cert.KV.r8 m ρ c).symm))
    case r9 => exact g9.trans ((Cert.KV.q9 m' c).trans ((congrArg (fun (q : Cert.KV.Ins) (i : Cert.KernelIdeal.S3584x32.Idx) => q.dbd (i 0) (i 1)) (hI c)).trans (Cert.KV.r9 m ρ c).symm))

/-- The references of the dequantising calls run, and leave their arguments as launched. -/
theorem frame_dequantise : Cert.quiescent_DequantiseIdeal (hDequantiseIdeal := Cert.DequantiseIdeal.Gen.facts) := fun m ρ _ =>
  (θ_run _ _ _).mono (fun r h => ⟨fun c => (h c).2, sem_eq_zero_of_no_sems (by decide) r.2⟩) (Cert.DequantiseIdeal.Value.run (F := Ideal) m ρ)
theorem frame_dequantise_down : Cert.quiescent_DequantiseDownIdeal (hDequantiseDownIdeal := Cert.DequantiseDownIdeal.Gen.facts) := fun m ρ _ =>
  (θ_run _ _ _).mono (fun r h => ⟨fun c => (h c).2, sem_eq_zero_of_no_sems (by decide) r.2⟩) (Cert.DequantiseDownIdeal.Value.run (F := Ideal) m ρ)

/-- From the same codes and scales, the dequantising call's weights and the reference's are the same. -/
theorem algebraic_dequant : Cert.algebraic_DequantIdeal_DequantiseIdeal (hDequantIdeal := Cert.DequantIdeal.Gen.facts)
    (hDequantiseIdeal := Cert.DequantiseIdeal.Gen.facts) := by
  intro m ρ m' ρ' _ hm
  refine ⟨fun c => (Cert.DequantIdeal.Gen.dats m 0 c).arrAt 2 Cert.DequantIdeal.cfg0.N, Cert.DequantIdeal.Value.run_blocks m ρ, ?_⟩
  refine (θ_run _ _ _).mono (fun r h c => ⟨?_, (h c).2⟩) (Cert.DequantiseIdeal.Value.run (F := Ideal) m' ρ')
  refine (h c).1.trans ((Cert.DequantiseIdeal.Read.val_main_v98_eq _).trans ((funext fun i => ?_).trans (Cert.DV.Up.arr m c).symm))
  refine (Cert.DV.Up.ref_eq _ _ i).trans ?_
  exact congrArg₂ (fun x a => Cert.DV.Up.weight x a (i 0) (i 1)) (hm c).1 (hm c).2

/-- The same for the down projection's shapes. -/
theorem algebraic_dequant_down : Cert.algebraic_DequantDownIdeal_DequantiseDownIdeal (hDequantDownIdeal := Cert.DequantDownIdeal.Gen.facts)
    (hDequantiseDownIdeal := Cert.DequantiseDownIdeal.Gen.facts) := by
  intro m ρ m' ρ' _ hm
  refine ⟨fun c => (Cert.DequantDownIdeal.Gen.dats m 0 c).arrAt 2 Cert.DequantDownIdeal.cfg0.N, Cert.DequantDownIdeal.Value.run_blocks m ρ, ?_⟩
  refine (θ_run _ _ _).mono (fun r h c => ⟨?_, (h c).2⟩) (Cert.DequantiseDownIdeal.Value.run (F := Ideal) m' ρ')
  refine (h c).1.trans ((Cert.DequantiseDownIdeal.Read.val_main_v98_eq _).trans ((funext fun i => ?_).trans (Cert.DV.Down.arr m c).symm))
  refine (Cert.DV.Down.ref_eq _ _ i).trans ?_
  exact congrArg₂ (fun x a => Cert.DV.Down.weight x a (i 0) (i 1)) (hm c).1 (hm c).2

/-- From the same codes, factors and mean, the widened block scales of the call and of the reference are the same. -/
theorem algebraic_absmax : Cert.algebraic_AbsmaxIdeal_BlockScalesIdeal (hAbsmaxIdeal := Cert.AbsmaxIdeal.Gen.facts)
    (hBlockScalesIdeal := Cert.BlockScalesIdeal.Gen.facts) := by
  intro m ρ m' ρ' _ hm
  refine ⟨_, Cert.DV.AbsUp.run m ρ, ?_⟩
  refine (θ_run _ _ _).mono (fun r h c => ⟨(h c).1.trans ?_, (h c).2⟩) (Cert.DV.AbsUp.ref_run m' ρ')
  exact congr (congrArg₂ Cert.DV.AbsUp.scales (hm c).1 (hm c).2.1) (hm c).2.2

/-- The same for the down projection's shapes. -/
theorem algebraic_absmax_down : Cert.algebraic_AbsmaxDownIdeal_BlockScalesDownIdeal (hAbsmaxDownIdeal := Cert.AbsmaxDownIdeal.Gen.facts)
    (hBlockScalesDownIdeal := Cert.BlockScalesDownIdeal.Gen.facts) := by
  intro m ρ m' ρ' _ hm
  refine ⟨_, Cert.DV.AbsDown.run m ρ, ?_⟩
  refine (θ_run _ _ _).mono (fun r h c => ⟨(h c).1.trans ?_, (h c).2⟩) (Cert.DV.AbsDown.ref_run m' ρ')
  exact congr (congrArg₂ Cert.DV.AbsDown.scales (hm c).1 (hm c).2.1) (hm c).2.2

theorem claim : Cert.Claim := ⟨Cert.Kernel.Gen.facts, Cert.KernelIdeal.Gen.facts, Cert.ReferenceIdeal.Gen.facts,
  Cert.Dequant.Gen.facts, Cert.DequantIdeal.Gen.facts, Cert.DequantiseIdeal.Gen.facts,
  Cert.DequantDown.Gen.facts, Cert.DequantDownIdeal.Gen.facts, Cert.DequantiseDownIdeal.Gen.facts,
  Cert.Absmax.Gen.facts, Cert.AbsmaxIdeal.Gen.facts, Cert.BlockScalesIdeal.Gen.facts,
  Cert.AbsmaxDown.Gen.facts, Cert.AbsmaxDownIdeal.Gen.facts, Cert.BlockScalesDownIdeal.Gen.facts,
  Cert.KT.frame_kernel, fun m ρ _ => Cert.KernelIdeal.Run.frame m ρ, frame_reference,
  fun m ρ _ => Cert.Dequant.Gen.frame m ρ, fun m ρ _ => Cert.DequantIdeal.Gen.frame m ρ, frame_dequantise,
  fun m ρ _ => Cert.DequantDown.Gen.frame m ρ, fun m ρ _ => Cert.DequantDownIdeal.Gen.frame m ρ, frame_dequantise_down,
  fun m ρ _ => Cert.Absmax.Gen.frame m ρ, fun m ρ _ => Cert.AbsmaxIdeal.Gen.frame m ρ, fun m ρ _ => Cert.BlockScalesIdeal.Gen.frame m ρ,
  fun m ρ _ => Cert.AbsmaxDown.Gen.frame m ρ, fun m ρ _ => Cert.AbsmaxDownIdeal.Gen.frame m ρ, fun m ρ _ => Cert.BlockScalesDownIdeal.Gen.frame m ρ,
  trivial, algebraic,
  ⟨IdealRules.bf16_pair.packStatement _, IdealRules.bf16_pair.statement _ _⟩, algebraic_dequant,
  ⟨IdealRules.bf16_pair.packStatement _, IdealRules.bf16_pair.statement _ _⟩, algebraic_dequant_down,
  trivial, algebraic_absmax, trivial, algebraic_absmax_down⟩

end Cert.Proof

end
